-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Kernel11Ideal_finite_gate [hPre_finite_gate : Cert.Pre_finite_gate.Facts] (m : (ℓ : Loc Cert.Kernel11Ideal.nD Cert.Kernel11Ideal.τ Cert.Kernel11Ideal.sig) → Buf (Elt Ideal) ℓ) : Prop :=
  ∀ c : Dev Cert.Kernel11Ideal.nD,
    (Cert.Pre_finite_gate.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1))) = (fun _ => 1#1)

def Pre_Reference11Ideal (m : (ℓ : Loc Cert.Reference11Ideal.nD Cert.Reference11Ideal.τ Cert.Reference11Ideal.sig) → Buf (Elt Ideal) ℓ) : Prop :=
  True

def Pre_Reference11Ideal_finite_gate [hPre_finite_gate : Cert.Pre_finite_gate.Facts] (m : (ℓ : Loc Cert.Reference11Ideal.nD Cert.Reference11Ideal.τ Cert.Reference11Ideal.sig) → Buf (Elt Ideal) ℓ) : Prop :=
  ∀ c : Dev Cert.Reference11Ideal.nD,
    (Cert.Pre_finite_gate.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1))) = (fun _ => 1#1)

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def Pre_Kernel30 (m : (ℓ : Loc Cert.Kernel30.nD Cert.Kernel30.τ Cert.Kernel30.sig) → Buf (Elt Bits) ℓ) : Prop :=
  True

def Pre_Kernel30Ideal (m : (ℓ : Loc Cert.Kernel30Ideal.nD Cert.Kernel30Ideal.τ Cert.Kernel30Ideal.sig) → Buf (Elt Ideal) ℓ) : Prop :=
  True

def Pre_Reference30Ideal (m : (ℓ : Loc Cert.Reference30Ideal.nD Cert.Reference30Ideal.τ Cert.Reference30Ideal.sig) → Buf (Elt Ideal) ℓ) : Prop :=
  True

def Pre_Kernel31 (m : (ℓ : Loc Cert.Kernel31.nD Cert.Kernel31.τ Cert.Kernel31.sig) → Buf (Elt Bits) ℓ) : Prop :=
  True

def Pre_Kernel31Ideal (m : (ℓ : Loc Cert.Kernel31Ideal.nD Cert.Kernel31Ideal.τ Cert.Kernel31Ideal.sig) → Buf (Elt Ideal) ℓ) : Prop :=
  True

def Pre_Reference31Ideal (m : (ℓ : Loc Cert.Reference31Ideal.nD Cert.Reference31Ideal.τ Cert.Reference31Ideal.sig) → Buf (Elt Ideal) ℓ) : Prop :=
  True

def Pre_Kernel32 (m : (ℓ : Loc Cert.Kernel32.nD Cert.Kernel32.τ Cert.Kernel32.sig) → Buf (Elt Bits) ℓ) : Prop :=
  True

def Pre_Kernel32Ideal (m : (ℓ : Loc Cert.Kernel32Ideal.nD Cert.Kernel32Ideal.τ Cert.Kernel32Ideal.sig) → Buf (Elt Ideal) ℓ) : Prop :=
  True

def Pre_Reference32Ideal (m : (ℓ : Loc Cert.Reference32Ideal.nD Cert.Reference32Ideal.τ Cert.Reference32Ideal.sig) → Buf (Elt Ideal) ℓ) : Prop :=
  True

def Pre_Kernel33 (m : (ℓ : Loc Cert.Kernel33.nD Cert.Kernel33.τ Cert.Kernel33.sig) → Buf (Elt Bits) ℓ) : Prop :=
  True

def Pre_Kernel33Ideal (m : (ℓ : Loc Cert.Kernel33Ideal.nD Cert.Kernel33Ideal.τ Cert.Kernel33Ideal.sig) → Buf (Elt Ideal) ℓ) : Prop :=
  True

def Pre_Reference33Ideal (m : (ℓ : Loc Cert.Reference33Ideal.nD Cert.Reference33Ideal.τ Cert.Reference33Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Kernel11Ideal_pre_finite_gate [hKernel11Ideal : Cert.Kernel11Ideal.Facts] [hPre_finite_gate : Cert.Pre_finite_gate.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal_finite_gate m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Reference11Ideal_pre_finite_gate [hReference11Ideal : Cert.Reference11Ideal.Facts] [hPre_finite_gate : Cert.Pre_finite_gate.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal_finite_gate m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3)
      ∧ r.2.mem ((c.tc : Thread Cert.Kernel17.nD Cert.Kernel17.τ).loc Cert.Kernel17.main_arg4) = m ((c.tc : Thread Cert.Kernel17.nD Cert.Kernel17.τ).loc Cert.Kernel17.main_arg4)
      ∧ r.2.mem ((c.tc : Thread Cert.Kernel17.nD Cert.Kernel17.τ).loc Cert.Kernel17.main_arg5) = m ((c.tc : Thread Cert.Kernel17.nD Cert.Kernel17.τ).loc Cert.Kernel17.main_arg5))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
      ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4)
      ∧ r.2.mem ((c.tc : Thread Cert.Kernel17Ideal.nD Cert.Kernel17Ideal.τ).loc Cert.Kernel17Ideal.main_arg5) = m ((c.tc : Thread Cert.Kernel17Ideal.nD Cert.Kernel17Ideal.τ).loc Cert.Kernel17Ideal.main_arg5))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3)
      ∧ r.2.mem ((c.tc : Thread Cert.Reference17Ideal.nD Cert.Reference17Ideal.τ).loc Cert.Reference17Ideal.main_arg4) = m ((c.tc : Thread Cert.Reference17Ideal.nD Cert.Reference17Ideal.τ).loc Cert.Reference17Ideal.main_arg4)
      ∧ r.2.mem ((c.tc : Thread Cert.Reference17Ideal.nD Cert.Reference17Ideal.τ).loc Cert.Reference17Ideal.main_arg5) = m ((c.tc : Thread Cert.Reference17Ideal.nD Cert.Reference17Ideal.τ).loc Cert.Reference17Ideal.main_arg5))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2)
      ∧ r.2.mem ((c.tc : Thread Cert.Kernel24.nD Cert.Kernel24.τ).loc Cert.Kernel24.main_arg3) = m ((c.tc : Thread Cert.Kernel24.nD Cert.Kernel24.τ).loc Cert.Kernel24.main_arg3))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1))
      ∧ r.2.sem = fun _ => 0)

def quiescent_Kernel30 [hKernel30 : Cert.Kernel30.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0)
      ∧ r.2.mem ((c.tc : Thread Cert.Kernel30.nD Cert.Kernel30.τ).loc Cert.Kernel30.main_arg1) = m ((c.tc : Thread Cert.Kernel30.nD Cert.Kernel30.τ).loc Cert.Kernel30.main_arg1))
      ∧ r.2.sem = fun _ => 0)

def quiescent_Kernel30Ideal [hKernel30Ideal : Cert.Kernel30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
      ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1))
      ∧ r.2.sem = fun _ => 0)

def quiescent_Kernel31 [hKernel31 : Cert.Kernel31.Facts] : Prop :=
  ∀ (m : (ℓ : Loc Cert.Kernel31.nD Cert.Kernel31.τ Cert.Kernel31.sig) → Buf (Elt Bits) ℓ) (g : Dev Cert.Kernel31.nD → PrngReg), Pre_Kernel31 m →
    θ_run (Cert.Kernel31.defs (F := Bits)) (onTc (τ := Cert.Kernel31.τ) (Cert.Kernel31.main (F := Bits))) ⟨m, fun _ => 0, g⟩ (fun r => (∀ c : Dev Cert.Kernel31.nD,
      r.2.mem ((c.tc : Thread Cert.Kernel31.nD Cert.Kernel31.τ).loc Cert.Kernel31.main_arg0) = m ((c.tc : Thread Cert.Kernel31.nD Cert.Kernel31.τ).loc Cert.Kernel31.main_arg0)
      ∧ r.2.mem ((c.tc : Thread Cert.Kernel31.nD Cert.Kernel31.τ).loc Cert.Kernel31.main_arg1) = m ((c.tc : Thread Cert.Kernel31.nD Cert.Kernel31.τ).loc Cert.Kernel31.main_arg1))
      ∧ r.2.sem = fun _ => 0)

def quiescent_Kernel31Ideal [hKernel31Ideal : Cert.Kernel31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg), Pre_Kernel31Ideal m →
    θ_run (Cert.Kernel31Ideal.defs (F := Ideal)) (onTc (τ := Cert.Kernel31Ideal.τ) (Cert.Kernel31Ideal.main (F := Ideal))) ⟨m, fun _ => 0, g⟩ (fun r => (∀ c : Dev Cert.Kernel31Ideal.nD,
      r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
      ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1))
      ∧ r.2.sem = fun _ => 0)

def quiescent_Reference31Ideal [hReference31Ideal : Cert.Reference31Ideal.Facts] : Prop :=
  ∀ (m : (ℓ : Loc Cert.Reference31Ideal.nD Cert.Reference31Ideal.τ Cert.Reference31Ideal.sig) → Buf (Elt Ideal) ℓ) (g : Dev Cert.Reference31Ideal.nD → PrngReg), Pre_Reference31Ideal m →
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0)
      ∧ r.2.mem ((c.tc : Thread Cert.Reference31Ideal.nD Cert.Reference31Ideal.τ).loc Cert.Reference31Ideal.main_arg1) = m ((c.tc : Thread Cert.Reference31Ideal.nD Cert.Reference31Ideal.τ).loc Cert.Reference31Ideal.main_arg1))
      ∧ r.2.sem = fun _ => 0)

def quiescent_Kernel32 [hKernel32 : Cert.Kernel32.Facts] : Prop :=
  ∀ (m : (ℓ : Loc Cert.Kernel32.nD Cert.Kernel32.τ Cert.Kernel32.sig) → Buf (Elt Bits) ℓ) (g : Dev Cert.Kernel32.nD → PrngReg), Pre_Kernel32 m →
    θ_run (Cert.Kernel32.defs (F := Bits)) (onTc (τ := Cert.Kernel32.τ) (Cert.Kernel32.main (F := Bits))) ⟨m, fun _ => 0, g⟩ (fun r => (∀ c : Dev Cert.Kernel32.nD,
      r.2.mem ((c.tc : Thread Cert.Kernel32.nD Cert.Kernel32.τ).loc Cert.Kernel32.main_arg0) = m ((c.tc : Thread Cert.Kernel32.nD Cert.Kernel32.τ).loc Cert.Kernel32.main_arg0)
      ∧ r.2.mem ((c.tc : Thread Cert.Kernel32.nD Cert.Kernel32.τ).loc Cert.Kernel32.main_arg1) = m ((c.tc : Thread Cert.Kernel32.nD Cert.Kernel32.τ).loc Cert.Kernel32.main_arg1))
      ∧ r.2.sem = fun _ => 0)

def quiescent_Kernel32Ideal [hKernel32Ideal : Cert.Kernel32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg), Pre_Kernel32Ideal m →
    θ_run (Cert.Kernel32Ideal.defs (F := Ideal)) (onTc (τ := Cert.Kernel32Ideal.τ) (Cert.Kernel32Ideal.main (F := Ideal))) ⟨m, fun _ => 0, g⟩ (fun r => (∀ c : Dev Cert.Kernel32Ideal.nD,
      r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
      ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1))
      ∧ r.2.sem = fun _ => 0)

def quiescent_Reference32Ideal [hReference32Ideal : Cert.Reference32Ideal.Facts] : Prop :=
  ∀ (m : (ℓ : Loc Cert.Reference32Ideal.nD Cert.Reference32Ideal.τ Cert.Reference32Ideal.sig) → Buf (Elt Ideal) ℓ) (g : Dev Cert.Reference32Ideal.nD → PrngReg), Pre_Reference32Ideal m →
    θ_run (Cert.Reference32Ideal.defs (F := Ideal)) (onTc (τ := Cert.Reference32Ideal.τ) (Cert.Reference32Ideal.main (F := Ideal))) ⟨m, fun _ => 0, g⟩ (fun r => (∀ c : Dev Cert.Reference32Ideal.nD,
      r.2.mem ((c.tc : Thread Cert.Reference32Ideal.nD Cert.Reference32Ideal.τ).loc Cert.Reference32Ideal.main_arg0) = m ((c.tc : Thread Cert.Reference32Ideal.nD Cert.Reference32Ideal.τ).loc Cert.Reference32Ideal.main_arg0)
      ∧ r.2.mem ((c.tc : Thread Cert.Reference32Ideal.nD Cert.Reference32Ideal.τ).loc Cert.Reference32Ideal.main_arg1) = m ((c.tc : Thread Cert.Reference32Ideal.nD Cert.Reference32Ideal.τ).loc Cert.Reference32Ideal.main_arg1))
      ∧ r.2.sem = fun _ => 0)

def quiescent_Kernel33 [hKernel33 : Cert.Kernel33.Facts] : Prop :=
  ∀ (m : (ℓ : Loc Cert.Kernel33.nD Cert.Kernel33.τ Cert.Kernel33.sig) → Buf (Elt Bits) ℓ) (g : Dev Cert.Kernel33.nD → PrngReg), Pre_Kernel33 m →
    θ_run (Cert.Kernel33.defs (F := Bits)) (onTc (τ := Cert.Kernel33.τ) (Cert.Kernel33.main (F := Bits))) ⟨m, fun _ => 0, g⟩ (fun r => (∀ c : Dev Cert.Kernel33.nD,
      r.2.mem ((c.tc : Thread Cert.Kernel33.nD Cert.Kernel33.τ).loc Cert.Kernel33.main_arg0) = m ((c.tc : Thread Cert.Kernel33.nD Cert.Kernel33.τ).loc Cert.Kernel33.main_arg0)
      ∧ r.2.mem ((c.tc : Thread Cert.Kernel33.nD Cert.Kernel33.τ).loc Cert.Kernel33.main_arg1) = m ((c.tc : Thread Cert.Kernel33.nD Cert.Kernel33.τ).loc Cert.Kernel33.main_arg1))
      ∧ r.2.sem = fun _ => 0)

def quiescent_Kernel33Ideal [hKernel33Ideal : Cert.Kernel33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg), Pre_Kernel33Ideal m →
    θ_run (Cert.Kernel33Ideal.defs (F := Ideal)) (onTc (τ := Cert.Kernel33Ideal.τ) (Cert.Kernel33Ideal.main (F := Ideal))) ⟨m, fun _ => 0, g⟩ (fun r => (∀ c : Dev Cert.Kernel33Ideal.nD,
      r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
      ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1))
      ∧ r.2.sem = fun _ => 0)

def quiescent_Reference33Ideal [hReference33Ideal : Cert.Reference33Ideal.Facts] : Prop :=
  ∀ (m : (ℓ : Loc Cert.Reference33Ideal.nD Cert.Reference33Ideal.τ Cert.Reference33Ideal.sig) → Buf (Elt Ideal) ℓ) (g : Dev Cert.Reference33Ideal.nD → PrngReg), Pre_Reference33Ideal m →
    θ_run (Cert.Reference33Ideal.defs (F := Ideal)) (onTc (τ := Cert.Reference33Ideal.τ) (Cert.Reference33Ideal.main (F := Ideal))) ⟨m, fun _ => 0, g⟩ (fun r => (∀ c : Dev Cert.Reference33Ideal.nD,
      r.2.mem ((c.tc : Thread Cert.Reference33Ideal.nD Cert.Reference33Ideal.τ).loc Cert.Reference33Ideal.main_arg0) = m ((c.tc : Thread Cert.Reference33Ideal.nD Cert.Reference33Ideal.τ).loc Cert.Reference33Ideal.main_arg0)
      ∧ r.2.mem ((c.tc : Thread Cert.Reference33Ideal.nD Cert.Reference33Ideal.τ).loc Cert.Reference33Ideal.main_arg1) = m ((c.tc : Thread Cert.Reference33Ideal.nD Cert.Reference33Ideal.τ).loc Cert.Reference33Ideal.main_arg1))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v54_0)) (v1 : (c : Dev Cert.KernelIdeal.nD) → Buf (Elt Ideal) ((c.tc : Thread Cert.KernelIdeal.nD Cert.KernelIdeal.τ).loc Cert.KernelIdeal.main_v54_1)) (v2 : (c : Dev Cert.KernelIdeal.nD) → Buf (Elt Ideal) ((c.tc : Thread Cert.KernelIdeal.nD Cert.KernelIdeal.τ).loc Cert.KernelIdeal.main_v54_2)) (v3 : (c : Dev Cert.KernelIdeal.nD) → Buf (Elt Ideal) ((c.tc : Thread Cert.KernelIdeal.nD Cert.KernelIdeal.τ).loc Cert.KernelIdeal.main_v54_3)) (v4 : (c : Dev Cert.KernelIdeal.nD) → Buf (Elt Ideal) ((c.tc : Thread Cert.KernelIdeal.nD Cert.KernelIdeal.τ).loc Cert.KernelIdeal.main_v54_4)) (v5 : (c : Dev Cert.KernelIdeal.nD) → Buf (Elt Ideal) ((c.tc : Thread Cert.KernelIdeal.nD Cert.KernelIdeal.τ).loc Cert.KernelIdeal.main_v54_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54_0) = v0 c
          ∧ r.2.mem ((c.tc : Thread Cert.KernelIdeal.nD Cert.KernelIdeal.τ).loc Cert.KernelIdeal.main_v54_1) = v1 c
          ∧ r.2.mem ((c.tc : Thread Cert.KernelIdeal.nD Cert.KernelIdeal.τ).loc Cert.KernelIdeal.main_v54_2) = v2 c
          ∧ r.2.mem ((c.tc : Thread Cert.KernelIdeal.nD Cert.KernelIdeal.τ).loc Cert.KernelIdeal.main_v54_3) = v3 c
          ∧ r.2.mem ((c.tc : Thread Cert.KernelIdeal.nD Cert.KernelIdeal.τ).loc Cert.KernelIdeal.main_v54_4) = v4 c
          ∧ r.2.mem ((c.tc : Thread Cert.KernelIdeal.nD Cert.KernelIdeal.τ).loc Cert.KernelIdeal.main_v54_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v197) = v0 c
          ∧ r.2.mem ((c.tc : Thread Cert.ReferenceIdeal.nD Cert.ReferenceIdeal.τ).loc Cert.ReferenceIdeal.main_v198) = v1 c
          ∧ r.2.mem ((c.tc : Thread Cert.ReferenceIdeal.nD Cert.ReferenceIdeal.τ).loc Cert.ReferenceIdeal.main_v199) = v2 c
          ∧ r.2.mem ((c.tc : Thread Cert.ReferenceIdeal.nD Cert.ReferenceIdeal.τ).loc Cert.ReferenceIdeal.main_v200) = v3 c
          ∧ r.2.mem ((c.tc : Thread Cert.ReferenceIdeal.nD Cert.ReferenceIdeal.τ).loc Cert.ReferenceIdeal.main_v195) = v4 c
          ∧ r.2.mem ((c.tc : Thread Cert.ReferenceIdeal.nD Cert.ReferenceIdeal.τ).loc Cert.ReferenceIdeal.main_v201) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v7) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v8) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v7) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v8) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v7) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v8) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v3) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v3) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v3) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal_pre_finite_gate [hKernel11Ideal : Cert.Kernel11Ideal.Facts] [hReference11Ideal : Cert.Reference11Ideal.Facts] [hPre_finite_gate : Cert.Pre_finite_gate.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal_finite_gate m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v7) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v8) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v8) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v3) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v5) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v4) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)
      ∧ m' ((c.tc : Thread Cert.Reference17Ideal.nD Cert.Reference17Ideal.τ).loc Cert.Reference17Ideal.main_arg4) = m ((c.tc : Thread Cert.Kernel17Ideal.nD Cert.Kernel17Ideal.τ).loc Cert.Kernel17Ideal.main_arg4)
      ∧ m' ((c.tc : Thread Cert.Reference17Ideal.nD Cert.Reference17Ideal.τ).loc Cert.Reference17Ideal.main_arg5) = m ((c.tc : Thread Cert.Kernel17Ideal.nD Cert.Kernel17Ideal.τ).loc Cert.Kernel17Ideal.main_arg5)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)) (v2 : (c : Dev Cert.Kernel17Ideal.nD) → Buf (Elt Ideal) ((c.tc : Thread Cert.Kernel17Ideal.nD Cert.Kernel17Ideal.τ).loc Cert.Kernel17Ideal.main_v0_2)) (v3 : (c : Dev Cert.Kernel17Ideal.nD) → Buf (Elt Ideal) ((c.tc : Thread Cert.Kernel17Ideal.nD Cert.Kernel17Ideal.τ).loc Cert.Kernel17Ideal.main_v0_3)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_v0_2) = v2 c
          ∧ r.2.mem ((c.tc : Thread Cert.Kernel17Ideal.nD Cert.Kernel17Ideal.τ).loc Cert.Kernel17Ideal.main_v0_3) = v3 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
          ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4)
          ∧ r.2.mem ((c.tc : Thread Cert.Kernel17Ideal.nD Cert.Kernel17Ideal.τ).loc Cert.Kernel17Ideal.main_arg5) = m ((c.tc : Thread Cert.Kernel17Ideal.nD Cert.Kernel17Ideal.τ).loc Cert.Kernel17Ideal.main_arg5))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v48) = v0 c
          ∧ r.2.mem ((c.tc : Thread Cert.Reference17Ideal.nD Cert.Reference17Ideal.τ).loc Cert.Reference17Ideal.main_v31) = v1 c
          ∧ r.2.mem ((c.tc : Thread Cert.Reference17Ideal.nD Cert.Reference17Ideal.τ).loc Cert.Reference17Ideal.main_v23) = v2 c
          ∧ r.2.mem ((c.tc : Thread Cert.Reference17Ideal.nD Cert.Reference17Ideal.τ).loc Cert.Reference17Ideal.main_v26) = v3 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3)
          ∧ r.2.mem ((c.tc : Thread Cert.Reference17Ideal.nD Cert.Reference17Ideal.τ).loc Cert.Reference17Ideal.main_arg4) = m' ((c.tc : Thread Cert.Reference17Ideal.nD Cert.Reference17Ideal.τ).loc Cert.Reference17Ideal.main_arg4)
          ∧ r.2.mem ((c.tc : Thread Cert.Reference17Ideal.nD Cert.Reference17Ideal.τ).loc Cert.Reference17Ideal.main_arg5) = m' ((c.tc : Thread Cert.Reference17Ideal.nD Cert.Reference17Ideal.τ).loc Cert.Reference17Ideal.main_arg5))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)) (v2 : (c : Dev Cert.Kernel18Ideal.nD) → Buf (Elt Ideal) ((c.tc : Thread Cert.Kernel18Ideal.nD Cert.Kernel18Ideal.τ).loc Cert.Kernel18Ideal.main_v0_2)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_v0_2) = v2 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v23) = v0 c
          ∧ r.2.mem ((c.tc : Thread Cert.Reference18Ideal.nD Cert.Reference18Ideal.τ).loc Cert.Reference18Ideal.main_v4) = v1 c
          ∧ r.2.mem ((c.tc : Thread Cert.Reference18Ideal.nD Cert.Reference18Ideal.τ).loc Cert.Reference18Ideal.main_v10) = v2 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)) →
    ∃ (v0 : (c : Dev Cert.Kernel19Ideal.nD) → Buf (Elt Ideal) ((c.tc : Thread Cert.Kernel19Ideal.nD Cert.Kernel19Ideal.τ).loc Cert.Kernel19Ideal.main_v0_0)) (v1 : (c : Dev Cert.Kernel19Ideal.nD) → Buf (Elt Ideal) ((c.tc : Thread Cert.Kernel19Ideal.nD Cert.Kernel19Ideal.τ).loc Cert.Kernel19Ideal.main_v0_1)) (v2 : (c : Dev Cert.Kernel19Ideal.nD) → Buf (Elt Ideal) ((c.tc : Thread Cert.Kernel19Ideal.nD Cert.Kernel19Ideal.τ).loc Cert.Kernel19Ideal.main_v0_2)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0_0) = v0 c
          ∧ r.2.mem ((c.tc : Thread Cert.Kernel19Ideal.nD Cert.Kernel19Ideal.τ).loc Cert.Kernel19Ideal.main_v0_1) = v1 c
          ∧ r.2.mem ((c.tc : Thread Cert.Kernel19Ideal.nD Cert.Kernel19Ideal.τ).loc Cert.Kernel19Ideal.main_v0_2) = v2 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v23) = v0 c
          ∧ r.2.mem ((c.tc : Thread Cert.Reference19Ideal.nD Cert.Reference19Ideal.τ).loc Cert.Reference19Ideal.main_v4) = v1 c
          ∧ r.2.mem ((c.tc : Thread Cert.Reference19Ideal.nD Cert.Reference19Ideal.τ).loc Cert.Reference19Ideal.main_v10) = v2 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)) →
    ∃ (v0 : (c : Dev Cert.Kernel20Ideal.nD) → Buf (Elt Ideal) ((c.tc : Thread Cert.Kernel20Ideal.nD Cert.Kernel20Ideal.τ).loc Cert.Kernel20Ideal.main_v0_0)) (v1 : (c : Dev Cert.Kernel20Ideal.nD) → Buf (Elt Ideal) ((c.tc : Thread Cert.Kernel20Ideal.nD Cert.Kernel20Ideal.τ).loc Cert.Kernel20Ideal.main_v0_1)) (v2 : (c : Dev Cert.Kernel20Ideal.nD) → Buf (Elt Ideal) ((c.tc : Thread Cert.Kernel20Ideal.nD Cert.Kernel20Ideal.τ).loc Cert.Kernel20Ideal.main_v0_2)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0_0) = v0 c
          ∧ r.2.mem ((c.tc : Thread Cert.Kernel20Ideal.nD Cert.Kernel20Ideal.τ).loc Cert.Kernel20Ideal.main_v0_1) = v1 c
          ∧ r.2.mem ((c.tc : Thread Cert.Kernel20Ideal.nD Cert.Kernel20Ideal.τ).loc Cert.Kernel20Ideal.main_v0_2) = v2 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v23) = v0 c
          ∧ r.2.mem ((c.tc : Thread Cert.Reference20Ideal.nD Cert.Reference20Ideal.τ).loc Cert.Reference20Ideal.main_v4) = v1 c
          ∧ r.2.mem ((c.tc : Thread Cert.Reference20Ideal.nD Cert.Reference20Ideal.τ).loc Cert.Reference20Ideal.main_v10) = v2 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)) →
    ∃ (v0 : (c : Dev Cert.Kernel21Ideal.nD) → Buf (Elt Ideal) ((c.tc : Thread Cert.Kernel21Ideal.nD Cert.Kernel21Ideal.τ).loc Cert.Kernel21Ideal.main_v0_0)) (v1 : (c : Dev Cert.Kernel21Ideal.nD) → Buf (Elt Ideal) ((c.tc : Thread Cert.Kernel21Ideal.nD Cert.Kernel21Ideal.τ).loc Cert.Kernel21Ideal.main_v0_1)) (v2 : (c : Dev Cert.Kernel21Ideal.nD) → Buf (Elt Ideal) ((c.tc : Thread Cert.Kernel21Ideal.nD Cert.Kernel21Ideal.τ).loc Cert.Kernel21Ideal.main_v0_2)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0_0) = v0 c
          ∧ r.2.mem ((c.tc : Thread Cert.Kernel21Ideal.nD Cert.Kernel21Ideal.τ).loc Cert.Kernel21Ideal.main_v0_1) = v1 c
          ∧ r.2.mem ((c.tc : Thread Cert.Kernel21Ideal.nD Cert.Kernel21Ideal.τ).loc Cert.Kernel21Ideal.main_v0_2) = v2 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v23) = v0 c
          ∧ r.2.mem ((c.tc : Thread Cert.Reference21Ideal.nD Cert.Reference21Ideal.τ).loc Cert.Reference21Ideal.main_v4) = v1 c
          ∧ r.2.mem ((c.tc : Thread Cert.Reference21Ideal.nD Cert.Reference21Ideal.τ).loc Cert.Reference21Ideal.main_v10) = v2 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)) →
    ∃ (v0 : (c : Dev Cert.Kernel22Ideal.nD) → Buf (Elt Ideal) ((c.tc : Thread Cert.Kernel22Ideal.nD Cert.Kernel22Ideal.τ).loc Cert.Kernel22Ideal.main_v0_0)) (v1 : (c : Dev Cert.Kernel22Ideal.nD) → Buf (Elt Ideal) ((c.tc : Thread Cert.Kernel22Ideal.nD Cert.Kernel22Ideal.τ).loc Cert.Kernel22Ideal.main_v0_1)) (v2 : (c : Dev Cert.Kernel22Ideal.nD) → Buf (Elt Ideal) ((c.tc : Thread Cert.Kernel22Ideal.nD Cert.Kernel22Ideal.τ).loc Cert.Kernel22Ideal.main_v0_2)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0_0) = v0 c
          ∧ r.2.mem ((c.tc : Thread Cert.Kernel22Ideal.nD Cert.Kernel22Ideal.τ).loc Cert.Kernel22Ideal.main_v0_1) = v1 c
          ∧ r.2.mem ((c.tc : Thread Cert.Kernel22Ideal.nD Cert.Kernel22Ideal.τ).loc Cert.Kernel22Ideal.main_v0_2) = v2 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v23) = v0 c
          ∧ r.2.mem ((c.tc : Thread Cert.Reference22Ideal.nD Cert.Reference22Ideal.τ).loc Cert.Reference22Ideal.main_v4) = v1 c
          ∧ r.2.mem ((c.tc : Thread Cert.Reference22Ideal.nD Cert.Reference22Ideal.τ).loc Cert.Reference22Ideal.main_v10) = v2 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)) →
    ∃ (v0 : (c : Dev Cert.Kernel23Ideal.nD) → Buf (Elt Ideal) ((c.tc : Thread Cert.Kernel23Ideal.nD Cert.Kernel23Ideal.τ).loc Cert.Kernel23Ideal.main_v0_0)) (v1 : (c : Dev Cert.Kernel23Ideal.nD) → Buf (Elt Ideal) ((c.tc : Thread Cert.Kernel23Ideal.nD Cert.Kernel23Ideal.τ).loc Cert.Kernel23Ideal.main_v0_1)) (v2 : (c : Dev Cert.Kernel23Ideal.nD) → Buf (Elt Ideal) ((c.tc : Thread Cert.Kernel23Ideal.nD Cert.Kernel23Ideal.τ).loc Cert.Kernel23Ideal.main_v0_2)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0_0) = v0 c
          ∧ r.2.mem ((c.tc : Thread Cert.Kernel23Ideal.nD Cert.Kernel23Ideal.τ).loc Cert.Kernel23Ideal.main_v0_1) = v1 c
          ∧ r.2.mem ((c.tc : Thread Cert.Kernel23Ideal.nD Cert.Kernel23Ideal.τ).loc Cert.Kernel23Ideal.main_v0_2) = v2 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v23) = v0 c
          ∧ r.2.mem ((c.tc : Thread Cert.Reference23Ideal.nD Cert.Reference23Ideal.τ).loc Cert.Reference23Ideal.main_v4) = v1 c
          ∧ r.2.mem ((c.tc : Thread Cert.Reference23Ideal.nD Cert.Reference23Ideal.τ).loc Cert.Reference23Ideal.main_v10) = v2 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)
      ∧ m' ((c.tc : Thread Cert.Reference24Ideal.nD Cert.Reference24Ideal.τ).loc Cert.Reference24Ideal.main_arg3) = m ((c.tc : Thread Cert.Kernel24Ideal.nD Cert.Kernel24Ideal.τ).loc Cert.Kernel24Ideal.main_arg3)) →
    ∃ (v0 : (c : Dev Cert.Kernel24Ideal.nD) → Buf (Elt Ideal) ((c.tc : Thread Cert.Kernel24Ideal.nD Cert.Kernel24Ideal.τ).loc Cert.Kernel24Ideal.main_v0_0)) (v1 : (c : Dev Cert.Kernel24Ideal.nD) → Buf (Elt Ideal) ((c.tc : Thread Cert.Kernel24Ideal.nD Cert.Kernel24Ideal.τ).loc Cert.Kernel24Ideal.main_v0_1)) (v2 : (c : Dev Cert.Kernel24Ideal.nD) → Buf (Elt Ideal) ((c.tc : Thread Cert.Kernel24Ideal.nD Cert.Kernel24Ideal.τ).loc Cert.Kernel24Ideal.main_v0_2)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0_0) = v0 c
          ∧ r.2.mem ((c.tc : Thread Cert.Kernel24Ideal.nD Cert.Kernel24Ideal.τ).loc Cert.Kernel24Ideal.main_v0_1) = v1 c
          ∧ r.2.mem ((c.tc : Thread Cert.Kernel24Ideal.nD Cert.Kernel24Ideal.τ).loc Cert.Kernel24Ideal.main_v0_2) = v2 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
          ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v23) = v0 c
          ∧ r.2.mem ((c.tc : Thread Cert.Reference24Ideal.nD Cert.Reference24Ideal.τ).loc Cert.Reference24Ideal.main_v4) = v1 c
          ∧ r.2.mem ((c.tc : Thread Cert.Reference24Ideal.nD Cert.Reference24Ideal.τ).loc Cert.Reference24Ideal.main_v10) = v2 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2)
          ∧ r.2.mem ((c.tc : Thread Cert.Reference24Ideal.nD Cert.Reference24Ideal.τ).loc Cert.Reference24Ideal.main_arg3) = m' ((c.tc : Thread Cert.Reference24Ideal.nD Cert.Reference24Ideal.τ).loc Cert.Reference24Ideal.main_arg3))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)) →
    ∃ (v0 : (c : Dev Cert.Kernel25Ideal.nD) → Buf (Elt Ideal) ((c.tc : Thread Cert.Kernel25Ideal.nD Cert.Kernel25Ideal.τ).loc Cert.Kernel25Ideal.main_v0)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0) = v0 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v3) = v0 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)) →
    ∃ (v0 : (c : Dev Cert.Kernel26Ideal.nD) → Buf (Elt Ideal) ((c.tc : Thread Cert.Kernel26Ideal.nD Cert.Kernel26Ideal.τ).loc Cert.Kernel26Ideal.main_v0)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0) = v0 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v0) = v0 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)) →
    ∃ (v0 : (c : Dev Cert.Kernel27Ideal.nD) → Buf (Elt Ideal) ((c.tc : Thread Cert.Kernel27Ideal.nD Cert.Kernel27Ideal.τ).loc Cert.Kernel27Ideal.main_v0)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0) = v0 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v0) = v0 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)) →
    ∃ (v0 : (c : Dev Cert.Kernel28Ideal.nD) → Buf (Elt Ideal) ((c.tc : Thread Cert.Kernel28Ideal.nD Cert.Kernel28Ideal.τ).loc Cert.Kernel28Ideal.main_v0)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v0) = v0 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v3) = v0 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1))

def preserves_Kernel29_Kernel29Ideal : Prop :=
  True

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)) →
    ∃ (v0 : (c : Dev Cert.Kernel29Ideal.nD) → Buf (Elt Ideal) ((c.tc : Thread Cert.Kernel29Ideal.nD Cert.Kernel29Ideal.τ).loc Cert.Kernel29Ideal.main_v0)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v0) = v0 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v3) = v0 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1))

def preserves_Kernel30_Kernel30Ideal : Prop :=
  True

def algebraic_Kernel30Ideal_Reference30Ideal [hKernel30Ideal : Cert.Kernel30Ideal.Facts] [hReference30Ideal : Cert.Reference30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal m →
    (∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)
      ∧ m' ((c.tc : Thread Cert.Reference30Ideal.nD Cert.Reference30Ideal.τ).loc Cert.Reference30Ideal.main_arg1) = m ((c.tc : Thread Cert.Kernel30Ideal.nD Cert.Kernel30Ideal.τ).loc Cert.Kernel30Ideal.main_arg1)) →
    ∃ (v0 : (c : Dev Cert.Kernel30Ideal.nD) → Buf (Elt Ideal) ((c.tc : Thread Cert.Kernel30Ideal.nD Cert.Kernel30Ideal.τ).loc Cert.Kernel30Ideal.main_v0)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v0) = v0 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
          ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_v3) = v0 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0)
          ∧ r.2.mem ((c.tc : Thread Cert.Reference30Ideal.nD Cert.Reference30Ideal.τ).loc Cert.Reference30Ideal.main_arg1) = m' ((c.tc : Thread Cert.Reference30Ideal.nD Cert.Reference30Ideal.τ).loc Cert.Reference30Ideal.main_arg1))

def preserves_Kernel31_Kernel31Ideal : Prop :=
  True

def algebraic_Kernel31Ideal_Reference31Ideal [hKernel31Ideal : Cert.Kernel31Ideal.Facts] [hReference31Ideal : Cert.Reference31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg)
    (m' : (ℓ : Loc Cert.Reference31Ideal.nD Cert.Reference31Ideal.τ Cert.Reference31Ideal.sig) → Buf (Elt Ideal) ℓ) (g' : Dev Cert.Reference31Ideal.nD → PrngReg), Pre_Kernel31Ideal m →
    (∀ c : Dev Cert.Kernel31Ideal.nD,
      m' ((c.tc : Thread Cert.Reference31Ideal.nD Cert.Reference31Ideal.τ).loc Cert.Reference31Ideal.main_arg0) = m ((c.tc : Thread Cert.Kernel31Ideal.nD Cert.Kernel31Ideal.τ).loc Cert.Kernel31Ideal.main_arg0)
      ∧ m' ((c.tc : Thread Cert.Reference31Ideal.nD Cert.Reference31Ideal.τ).loc Cert.Reference31Ideal.main_arg1) = m ((c.tc : Thread Cert.Kernel31Ideal.nD Cert.Kernel31Ideal.τ).loc Cert.Kernel31Ideal.main_arg1)) →
    ∃ (v0 : (c : Dev Cert.Kernel31Ideal.nD) → Buf (Elt Ideal) ((c.tc : Thread Cert.Kernel31Ideal.nD Cert.Kernel31Ideal.τ).loc Cert.Kernel31Ideal.main_v0)),
      θ_run (Cert.Kernel31Ideal.defs (F := Ideal)) (onTc (τ := Cert.Kernel31Ideal.τ) (Cert.Kernel31Ideal.main (F := Ideal))) ⟨m, fun _ => 0, g⟩ (fun r => ∀ c : Dev Cert.Kernel31Ideal.nD,
          r.2.mem ((c.tc : Thread Cert.Kernel31Ideal.nD Cert.Kernel31Ideal.τ).loc Cert.Kernel31Ideal.main_v0) = v0 c
          ∧ r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
          ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1))
      ∧ θ_run (Cert.Reference31Ideal.defs (F := Ideal)) (onTc (τ := Cert.Reference31Ideal.τ) (Cert.Reference31Ideal.main (F := Ideal))) ⟨m', fun _ => 0, g'⟩ (fun r => ∀ c : Dev Cert.Reference31Ideal.nD,
          r.2.mem ((c.tc : Thread Cert.Reference31Ideal.nD Cert.Reference31Ideal.τ).loc Cert.Reference31Ideal.main_v3) = v0 c
          ∧ r.2.mem ((c.tc : Thread Cert.Reference31Ideal.nD Cert.Reference31Ideal.τ).loc Cert.Reference31Ideal.main_arg0) = m' ((c.tc : Thread Cert.Reference31Ideal.nD Cert.Reference31Ideal.τ).loc Cert.Reference31Ideal.main_arg0)
          ∧ r.2.mem ((c.tc : Thread Cert.Reference31Ideal.nD Cert.Reference31Ideal.τ).loc Cert.Reference31Ideal.main_arg1) = m' ((c.tc : Thread Cert.Reference31Ideal.nD Cert.Reference31Ideal.τ).loc Cert.Reference31Ideal.main_arg1))

def preserves_Kernel32_Kernel32Ideal : Prop :=
  True

def algebraic_Kernel32Ideal_Reference32Ideal [hKernel32Ideal : Cert.Kernel32Ideal.Facts] [hReference32Ideal : Cert.Reference32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg)
    (m' : (ℓ : Loc Cert.Reference32Ideal.nD Cert.Reference32Ideal.τ Cert.Reference32Ideal.sig) → Buf (Elt Ideal) ℓ) (g' : Dev Cert.Reference32Ideal.nD → PrngReg), Pre_Kernel32Ideal m →
    (∀ c : Dev Cert.Kernel32Ideal.nD,
      m' ((c.tc : Thread Cert.Reference32Ideal.nD Cert.Reference32Ideal.τ).loc Cert.Reference32Ideal.main_arg0) = m ((c.tc : Thread Cert.Kernel32Ideal.nD Cert.Kernel32Ideal.τ).loc Cert.Kernel32Ideal.main_arg0)
      ∧ m' ((c.tc : Thread Cert.Reference32Ideal.nD Cert.Reference32Ideal.τ).loc Cert.Reference32Ideal.main_arg1) = m ((c.tc : Thread Cert.Kernel32Ideal.nD Cert.Kernel32Ideal.τ).loc Cert.Kernel32Ideal.main_arg1)) →
    ∃ (v0 : (c : Dev Cert.Kernel32Ideal.nD) → Buf (Elt Ideal) ((c.tc : Thread Cert.Kernel32Ideal.nD Cert.Kernel32Ideal.τ).loc Cert.Kernel32Ideal.main_v0)),
      θ_run (Cert.Kernel32Ideal.defs (F := Ideal)) (onTc (τ := Cert.Kernel32Ideal.τ) (Cert.Kernel32Ideal.main (F := Ideal))) ⟨m, fun _ => 0, g⟩ (fun r => ∀ c : Dev Cert.Kernel32Ideal.nD,
          r.2.mem ((c.tc : Thread Cert.Kernel32Ideal.nD Cert.Kernel32Ideal.τ).loc Cert.Kernel32Ideal.main_v0) = v0 c
          ∧ r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
          ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1))
      ∧ θ_run (Cert.Reference32Ideal.defs (F := Ideal)) (onTc (τ := Cert.Reference32Ideal.τ) (Cert.Reference32Ideal.main (F := Ideal))) ⟨m', fun _ => 0, g'⟩ (fun r => ∀ c : Dev Cert.Reference32Ideal.nD,
          r.2.mem ((c.tc : Thread Cert.Reference32Ideal.nD Cert.Reference32Ideal.τ).loc Cert.Reference32Ideal.main_v3) = v0 c
          ∧ r.2.mem ((c.tc : Thread Cert.Reference32Ideal.nD Cert.Reference32Ideal.τ).loc Cert.Reference32Ideal.main_arg0) = m' ((c.tc : Thread Cert.Reference32Ideal.nD Cert.Reference32Ideal.τ).loc Cert.Reference32Ideal.main_arg0)
          ∧ r.2.mem ((c.tc : Thread Cert.Reference32Ideal.nD Cert.Reference32Ideal.τ).loc Cert.Reference32Ideal.main_arg1) = m' ((c.tc : Thread Cert.Reference32Ideal.nD Cert.Reference32Ideal.τ).loc Cert.Reference32Ideal.main_arg1))

def preserves_Kernel33_Kernel33Ideal : Prop :=
  True

def algebraic_Kernel33Ideal_Reference33Ideal [hKernel33Ideal : Cert.Kernel33Ideal.Facts] [hReference33Ideal : Cert.Reference33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg)
    (m' : (ℓ : Loc Cert.Reference33Ideal.nD Cert.Reference33Ideal.τ Cert.Reference33Ideal.sig) → Buf (Elt Ideal) ℓ) (g' : Dev Cert.Reference33Ideal.nD → PrngReg), Pre_Kernel33Ideal m →
    (∀ c : Dev Cert.Kernel33Ideal.nD,
      m' ((c.tc : Thread Cert.Reference33Ideal.nD Cert.Reference33Ideal.τ).loc Cert.Reference33Ideal.main_arg0) = m ((c.tc : Thread Cert.Kernel33Ideal.nD Cert.Kernel33Ideal.τ).loc Cert.Kernel33Ideal.main_arg0)
      ∧ m' ((c.tc : Thread Cert.Reference33Ideal.nD Cert.Reference33Ideal.τ).loc Cert.Reference33Ideal.main_arg1) = m ((c.tc : Thread Cert.Kernel33Ideal.nD Cert.Kernel33Ideal.τ).loc Cert.Kernel33Ideal.main_arg1)) →
    ∃ (v0 : (c : Dev Cert.Kernel33Ideal.nD) → Buf (Elt Ideal) ((c.tc : Thread Cert.Kernel33Ideal.nD Cert.Kernel33Ideal.τ).loc Cert.Kernel33Ideal.main_v0)),
      θ_run (Cert.Kernel33Ideal.defs (F := Ideal)) (onTc (τ := Cert.Kernel33Ideal.τ) (Cert.Kernel33Ideal.main (F := Ideal))) ⟨m, fun _ => 0, g⟩ (fun r => ∀ c : Dev Cert.Kernel33Ideal.nD,
          r.2.mem ((c.tc : Thread Cert.Kernel33Ideal.nD Cert.Kernel33Ideal.τ).loc Cert.Kernel33Ideal.main_v0) = v0 c
          ∧ r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
          ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1))
      ∧ θ_run (Cert.Reference33Ideal.defs (F := Ideal)) (onTc (τ := Cert.Reference33Ideal.τ) (Cert.Reference33Ideal.main (F := Ideal))) ⟨m', fun _ => 0, g'⟩ (fun r => ∀ c : Dev Cert.Reference33Ideal.nD,
          r.2.mem ((c.tc : Thread Cert.Reference33Ideal.nD Cert.Reference33Ideal.τ).loc Cert.Reference33Ideal.main_v1) = v0 c
          ∧ r.2.mem ((c.tc : Thread Cert.Reference33Ideal.nD Cert.Reference33Ideal.τ).loc Cert.Reference33Ideal.main_arg0) = m' ((c.tc : Thread Cert.Reference33Ideal.nD Cert.Reference33Ideal.τ).loc Cert.Reference33Ideal.main_arg0)
          ∧ r.2.mem ((c.tc : Thread Cert.Reference33Ideal.nD Cert.Reference33Ideal.τ).loc Cert.Reference33Ideal.main_arg1) = m' ((c.tc : Thread Cert.Reference33Ideal.nD Cert.Reference33Ideal.τ).loc Cert.Reference33Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hKernel30 : Cert.Kernel30.Facts) (hKernel30Ideal : Cert.Kernel30Ideal.Facts) (hReference30Ideal : Cert.Reference30Ideal.Facts) (hKernel31 : Cert.Kernel31.Facts) (hKernel31Ideal : Cert.Kernel31Ideal.Facts) (hReference31Ideal : Cert.Reference31Ideal.Facts) (hKernel32 : Cert.Kernel32.Facts) (hKernel32Ideal : Cert.Kernel32Ideal.Facts) (hReference32Ideal : Cert.Reference32Ideal.Facts) (hKernel33 : Cert.Kernel33.Facts) (hKernel33Ideal : Cert.Kernel33Ideal.Facts) (hReference33Ideal : Cert.Reference33Ideal.Facts) (hPre_finite : Cert.Pre_finite.Facts) (hPre_finite_gate : Cert.Pre_finite_gate.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Kernel11Ideal_pre_finite_gate (hKernel11Ideal := hKernel11Ideal) (hPre_finite_gate := hPre_finite_gate)
    ∧ quiescent_Reference11Ideal (hReference11Ideal := hReference11Ideal)
    ∧ quiescent_Reference11Ideal_pre_finite_gate (hReference11Ideal := hReference11Ideal) (hPre_finite_gate := hPre_finite_gate)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Reference29Ideal (hReference29Ideal := hReference29Ideal)
    ∧ quiescent_Kernel30 (hKernel30 := hKernel30)
    ∧ quiescent_Kernel30Ideal (hKernel30Ideal := hKernel30Ideal)
    ∧ quiescent_Reference30Ideal (hReference30Ideal := hReference30Ideal)
    ∧ quiescent_Kernel31 (hKernel31 := hKernel31)
    ∧ quiescent_Kernel31Ideal (hKernel31Ideal := hKernel31Ideal)
    ∧ quiescent_Reference31Ideal (hReference31Ideal := hReference31Ideal)
    ∧ quiescent_Kernel32 (hKernel32 := hKernel32)
    ∧ quiescent_Kernel32Ideal (hKernel32Ideal := hKernel32Ideal)
    ∧ quiescent_Reference32Ideal (hReference32Ideal := hReference32Ideal)
    ∧ quiescent_Kernel33 (hKernel33 := hKernel33)
    ∧ quiescent_Kernel33Ideal (hKernel33Ideal := hKernel33Ideal)
    ∧ quiescent_Reference33Ideal (hReference33Ideal := hReference33Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal_pre_finite_gate (hKernel11Ideal := hKernel11Ideal) (hReference11Ideal := hReference11Ideal) (hPre_finite_gate := hPre_finite_gate)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal (hKernel29Ideal := hKernel29Ideal) (hReference29Ideal := hReference29Ideal)
    ∧ preserves_Kernel30_Kernel30Ideal
    ∧ algebraic_Kernel30Ideal_Reference30Ideal (hKernel30Ideal := hKernel30Ideal) (hReference30Ideal := hReference30Ideal)
    ∧ preserves_Kernel31_Kernel31Ideal
    ∧ algebraic_Kernel31Ideal_Reference31Ideal (hKernel31Ideal := hKernel31Ideal) (hReference31Ideal := hReference31Ideal)
    ∧ preserves_Kernel32_Kernel32Ideal
    ∧ algebraic_Kernel32Ideal_Reference32Ideal (hKernel32Ideal := hKernel32Ideal) (hReference32Ideal := hReference32Ideal)
    ∧ preserves_Kernel33_Kernel33Ideal
    ∧ algebraic_Kernel33Ideal_Reference33Ideal (hKernel33Ideal := hKernel33Ideal) (hReference33Ideal := hReference33Ideal)
-- ==== Pre_finite.lean ====
abbrev S256x3072 : Shape := ⟨2, ![256, 3072]⟩
abbrev S256x512 : Shape := ⟨2, ![256, 512]⟩
abbrev S4x8x128 : Shape := ⟨3, ![4, 8, 128]⟩
abbrev S4x512x128 : Shape := ⟨3, ![4, 512, 128]⟩
abbrev S256x2048 : Shape := ⟨2, ![256, 2048]⟩
abbrev S_ : Shape := ⟨0, ![]⟩

class Facts : Prop where
  bitsLt_bf16_f32 : FTy.bits .bf16 < FTy.bits .f32
  bcast_S_S256x3072 : S_.BroadcastsInDim S256x3072 (![] : Fin 0 → Fin S256x3072.rank)
  reducesTo_S256x3072_S_d0_1 : S256x3072.ReducesTo [0, 1] S_
  h_S_ : 0 < S_.numel
  bcast_S_S256x512 : S_.BroadcastsInDim S256x512 (![] : Fin 0 → Fin S256x512.rank)
  reducesTo_S256x512_S_d0_1 : S256x512.ReducesTo [0, 1] S_
  bcast_S_S4x8x128 : S_.BroadcastsInDim S4x8x128 (![] : Fin 0 → Fin S4x8x128.rank)
  reducesTo_S4x8x128_S_d0_1_2 : S4x8x128.ReducesTo [0, 1, 2] S_
  bcast_S_S4x512x128 : S_.BroadcastsInDim S4x512x128 (![] : Fin 0 → Fin S4x512x128.rank)
  reducesTo_S4x512x128_S_d0_1_2 : S4x512x128.ReducesTo [0, 1, 2] S_
  bcast_S_S256x2048 : S_.BroadcastsInDim S256x2048 (![] : Fin 0 → Fin S256x2048.rank)
  reducesTo_S256x2048_S_d0_1 : S256x2048.ReducesTo [0, 1] S_

variable [Facts]

def fn_part1 {F : FTy → Type} [FloatOps F] (main_arg4 : FVec F S256x2048 .f32) (main_arg5 : FVec F S4x512x128 .f32) (main_v14 : IVec S_ 1) (main_v15 : FVec F S4x512x128 .f32) (main_v16 : FVec F S4x512x128 .f32) : IVec S_ 1 :=
  let main_v17 : IVec S4x512x128 1 := cmpf .olt main_v15 main_v16
  let main_c_5 : IVec S_ 1 := constantI S_ 1 1#1
  let main_v18 : IVec S_ 1 := (fun x v => Host.reduce IntOp.andi x v reducesTo_S4x512x128_S_d0_1_2 h_S_) main_v17 main_c_5
  let main_v19 : IVec S_ 1 := andi main_v14 main_v18
  let main_v20 : FVec F S256x2048 .f32 := Host.absf main_arg4
  let main_cst_6 : FVec F S_ .f32 := constant S_ .f32 0x7F800000#32
  let main_v21 : FVec F S256x2048 .f32 := broadcastInDim S256x2048 ![] bcast_S_S256x2048 main_cst_6
  let main_v22 : IVec S256x2048 1 := cmpf .olt main_v20 main_v21
  let main_c_7 : IVec S_ 1 := constantI S_ 1 1#1
  let main_v23 : IVec S_ 1 := (fun x v => Host.reduce IntOp.andi x v reducesTo_S256x2048_S_d0_1 h_S_) main_v22 main_c_7
  let main_v24 : IVec S_ 1 := andi main_v19 main_v23
  let main_v25 : FVec F S4x512x128 .f32 := Host.absf main_arg5
  let main_cst_8 : FVec F S_ .f32 := constant S_ .f32 0x7F800000#32
  let main_v26 : FVec F S4x512x128 .f32 := broadcastInDim S4x512x128 ![] bcast_S_S4x512x128 main_cst_8
  let main_v27 : IVec S4x512x128 1 := cmpf .olt main_v25 main_v26
  let main_c_9 : IVec S_ 1 := constantI S_ 1 1#1
  let main_v28 : IVec S_ 1 := (fun x v => Host.reduce IntOp.andi x v reducesTo_S4x512x128_S_d0_1_2 h_S_) main_v27 main_c_9
  let main_v29 : IVec S_ 1 := andi main_v24 main_v28
  main_v29

def fn {F : FTy → Type} [FloatOps F] (main_arg0 : FVec F S256x3072 .bf16) (main_arg1 : FVec F S256x512 .f32) (main_arg2 : FVec F S4x8x128 .f32) (main_arg3 : FVec F S4x512x128 .f32) (main_arg4 : FVec F S256x2048 .f32) (main_arg5 : FVec F S4x512x128 .f32) : IVec S_ 1 :=
  let main_v0 : FVec F S256x3072 .f32 := (extf .f32 · bitsLt_bf16_f32) main_arg0
  let main_v1 : FVec F S256x3072 .f32 := Host.absf main_v0
  let main_cst : FVec F S_ .f32 := constant S_ .f32 0x7F800000#32
  let main_v2 : FVec F S256x3072 .f32 := broadcastInDim S256x3072 ![] bcast_S_S256x3072 main_cst
  let main_v3 : IVec S256x3072 1 := cmpf .olt main_v1 main_v2
  let main_c : IVec S_ 1 := constantI S_ 1 1#1
  let main_v4 : IVec S_ 1 := (fun x v => Host.reduce IntOp.andi x v reducesTo_S256x3072_S_d0_1 h_S_) main_v3 main_c
  let main_v5 : FVec F S256x512 .f32 := Host.absf main_arg1
  let main_cst_0 : FVec F S_ .f32 := constant S_ .f32 0x7F800000#32
  let main_v6 : FVec F S256x512 .f32 := broadcastInDim S256x512 ![] bcast_S_S256x512 main_cst_0
  let main_v7 : IVec S256x512 1 := cmpf .olt main_v5 main_v6
  let main_c_1 : IVec S_ 1 := constantI S_ 1 1#1
  let main_v8 : IVec S_ 1 := (fun x v => Host.reduce IntOp.andi x v reducesTo_S256x512_S_d0_1 h_S_) main_v7 main_c_1
  let main_v9 : IVec S_ 1 := andi main_v4 main_v8
  let main_v10 : FVec F S4x8x128 .f32 := Host.absf main_arg2
  let main_cst_2 : FVec F S_ .f32 := constant S_ .f32 0x7F800000#32
  let main_v11 : FVec F S4x8x128 .f32 := broadcastInDim S4x8x128 ![] bcast_S_S4x8x128 main_cst_2
  let main_v12 : IVec S4x8x128 1 := cmpf .olt main_v10 main_v11
  let main_c_3 : IVec S_ 1 := constantI S_ 1 1#1
  let main_v13 : IVec S_ 1 := (fun x v => Host.reduce IntOp.andi x v reducesTo_S4x8x128_S_d0_1_2 h_S_) main_v12 main_c_3
  let main_v14 : IVec S_ 1 := andi main_v9 main_v13
  let main_v15 : FVec F S4x512x128 .f32 := Host.absf main_arg3
  let main_cst_4 : FVec F S_ .f32 := constant S_ .f32 0x7F800000#32
  let main_v16 : FVec F S4x512x128 .f32 := broadcastInDim S4x512x128 ![] bcast_S_S4x512x128 main_cst_4
  fn_part1 (F := F) main_arg4 main_arg5 main_v14 main_v15 main_v16
-- ==== Pre_finite_gate.lean ====
abbrev S8192x11264 : Shape := ⟨2, ![8192, 11264]⟩
abbrev S8192x5632 : Shape := ⟨2, ![8192, 5632]⟩
abbrev S_ : Shape := ⟨0, ![]⟩

class Facts : Prop where
  bitsLt_bf16_f32 : FTy.bits .bf16 < FTy.bits .f32
  bcast_S_S8192x11264 : S_.BroadcastsInDim S8192x11264 (![] : Fin 0 → Fin S8192x11264.rank)
  reducesTo_S8192x11264_S_d0_1 : S8192x11264.ReducesTo [0, 1] S_
  h_S_ : 0 < S_.numel
  bcast_S_S8192x5632 : S_.BroadcastsInDim S8192x5632 (![] : Fin 0 → Fin S8192x5632.rank)
  reducesTo_S8192x5632_S_d0_1 : S8192x5632.ReducesTo [0, 1] S_

variable [Facts]

def fn {F : FTy → Type} [FloatOps F] (main_arg0 : FVec F S8192x11264 .bf16) (main_arg1 : FVec F S8192x5632 .bf16) : IVec S_ 1 :=
  let main_v0 : FVec F S8192x11264 .f32 := (extf .f32 · bitsLt_bf16_f32) main_arg0
  let main_v1 : FVec F S8192x11264 .f32 := Host.absf main_v0
  let main_cst : FVec F S_ .f32 := constant S_ .f32 0x7F800000#32
  let main_v2 : FVec F S8192x11264 .f32 := broadcastInDim S8192x11264 ![] bcast_S_S8192x11264 main_cst
  let main_v3 : IVec S8192x11264 1 := cmpf .olt main_v1 main_v2
  let main_c : IVec S_ 1 := constantI S_ 1 1#1
  let main_v4 : IVec S_ 1 := (fun x v => Host.reduce IntOp.andi x v reducesTo_S8192x11264_S_d0_1 h_S_) main_v3 main_c
  let main_v5 : FVec F S8192x5632 .f32 := (extf .f32 · bitsLt_bf16_f32) main_arg1
  let main_v6 : FVec F S8192x5632 .f32 := Host.absf main_v5
  let main_cst_0 : FVec F S_ .f32 := constant S_ .f32 0x7F800000#32
  let main_v7 : FVec F S8192x5632 .f32 := broadcastInDim S8192x5632 ![] bcast_S_S8192x5632 main_cst_0
  let main_v8 : IVec S8192x5632 1 := cmpf .olt main_v6 main_v7
  let main_c_1 : IVec S_ 1 := constantI S_ 1 1#1
  let main_v9 : IVec S_ 1 := (fun x v => Host.reduce IntOp.andi x v reducesTo_S8192x5632_S_d0_1 h_S_) main_v8 main_c_1
  let main_v10 : IVec S_ 1 := andi main_v4 main_v9
  main_v10
-- ==== Kernel.lean ====
abbrev S256x3072 : Shape := ⟨2, ![256, 3072]⟩
abbrev S256x512 : Shape := ⟨2, ![256, 512]⟩
abbrev S4x8x128 : Shape := ⟨3, ![4, 8, 128]⟩
abbrev S4x512x128 : Shape := ⟨3, ![4, 512, 128]⟩
abbrev S256x2048 : Shape := ⟨2, ![256, 2048]⟩
abbrev S256x4x8x64 : Shape := ⟨4, ![256, 4, 8, 64]⟩
abbrev S256x4x128 : Shape := ⟨3, ![256, 4, 128]⟩
abbrev S256x4x8 : Shape := ⟨3, ![256, 4, 8]⟩
abbrev S4x1x8 : Shape := ⟨3, ![4, 1, 8]⟩
abbrev S4x8 : Shape := ⟨2, ![4, 8]⟩
abbrev S2x128x4x8x64 : Shape := ⟨5, ![2, 128, 4, 8, 64]⟩
abbrev S2x128x4x8 : Shape := ⟨4, ![2, 128, 4, 8]⟩
abbrev S2x128x4x128 : Shape := ⟨4, ![2, 128, 4, 128]⟩
abbrev S2x128x4x8x1 : Shape := ⟨5, ![2, 128, 4, 8, 1]⟩
abbrev S1x1x4x8 : Shape := ⟨4, ![1, 1, 4, 8]⟩
abbrev S_ : Shape := ⟨0, ![]⟩
abbrev S2x1x4x8 : Shape := ⟨4, ![2, 1, 4, 8]⟩
abbrev S2x4x8x64x128 : Shape := ⟨5, ![2, 4, 8, 64, 128]⟩
abbrev S2x4x8 : Shape := ⟨3, ![2, 4, 8]⟩
abbrev S4x8x64x128 : Shape := ⟨4, ![4, 8, 64, 128]⟩
abbrev S1x4x8 : Shape := ⟨3, ![1, 4, 8]⟩
abbrev S4x8x1x1 : Shape := ⟨4, ![4, 8, 1, 1]⟩
abbrev S1x4x8x64x128 : Shape := ⟨5, ![1, 4, 8, 64, 128]⟩
abbrev S4x2x8x64x128 : Shape := ⟨5, ![4, 2, 8, 64, 128]⟩
abbrev S4x2x512x128 : Shape := ⟨4, ![4, 2, 512, 128]⟩
abbrev S128x512 : Shape := ⟨2, ![128, 512]⟩
abbrev S128x128 : Shape := ⟨2, ![128, 128]⟩
abbrev S1x8x128 : Shape := ⟨3, ![1, 8, 128]⟩
abbrev S1x1x512x128 : Shape := ⟨4, ![1, 1, 512, 128]⟩
abbrev S1x512x128 : Shape := ⟨3, ![1, 512, 128]⟩
abbrev S512x128 : Shape := ⟨2, ![512, 128]⟩
abbrev S128x64 : Shape := ⟨2, ![128, 64]⟩
abbrev S1x1x64x128 : Shape := ⟨4, ![1, 1, 64, 128]⟩
abbrev S64x128 : Shape := ⟨2, ![64, 128]⟩
abbrev S1x1x128 : Shape := ⟨3, ![1, 1, 128]⟩
abbrev S1x128 : Shape := ⟨2, ![1, 128]⟩
abbrev S128 : Shape := ⟨1, ![128]⟩
abbrev S128x1 : Shape := ⟨2, ![128, 1]⟩
abbrev S1 : Shape := ⟨1, ![1]⟩
abbrev S1x1 : Shape := ⟨2, ![1, 1]⟩
abbrev S1x64x128 : Shape := ⟨3, ![1, 64, 128]⟩
abbrev S1x1x1 : Shape := ⟨3, ![1, 1, 1]⟩

abbrev nBuf : Space → Nat
  | .hbm => 68
  | .vmem => 29
  | .smem => 0
  | _ => 0

abbrev bufTy : (tb : Table) → Fin (tcTables nBuf tb) → BufTy
  | .hbm, ⟨0, _⟩ => ⟨S256x3072, .bf16⟩
  | .hbm, ⟨1, _⟩ => ⟨S256x512, .f32⟩
  | .hbm, ⟨2, _⟩ => ⟨S4x8x128, .f32⟩
  | .hbm, ⟨3, _⟩ => ⟨S4x512x128, .f32⟩
  | .hbm, ⟨4, _⟩ => ⟨S256x2048, .f32⟩
  | .hbm, ⟨5, _⟩ => ⟨S4x512x128, .f32⟩
  | .hbm, ⟨6, _⟩ => ⟨S256x3072, .f32⟩
  | .hbm, ⟨7, _⟩ => ⟨S256x2048, .f32⟩
  | .hbm, ⟨8, _⟩ => ⟨S256x4x8x64, .f32⟩
  | .hbm, ⟨9, _⟩ => ⟨S256x512, .f32⟩
  | .hbm, ⟨10, _⟩ => ⟨S256x4x128, .f32⟩
  | .hbm, ⟨11, _⟩ => ⟨S256x512, .f32⟩
  | .hbm, ⟨12, _⟩ => ⟨S256x4x128, .f32⟩
  | .hbm, ⟨13, _⟩ => ⟨S256x4x128, .f32⟩
  | .hbm, ⟨14, _⟩ => ⟨S256x4x8, .f32⟩
  | .hbm, ⟨15, _⟩ => ⟨S4x1x8, .f32⟩
  | .hbm, ⟨16, _⟩ => ⟨S4x8, .f32⟩
  | .hbm, ⟨17, _⟩ => ⟨S2x128x4x8x64, .f32⟩
  | .hbm, ⟨18, _⟩ => ⟨S2x128x4x8, .f32⟩
  | .hbm, ⟨19, _⟩ => ⟨S2x128x4x128, .f32⟩
  | .hbm, ⟨20, _⟩ => ⟨S2x128x4x8x1, .f32⟩
  | .hbm, ⟨21, _⟩ => ⟨S2x128x4x8x64, .f32⟩
  | .hbm, ⟨22, _⟩ => ⟨S2x128x4x8x64, .f32⟩
  | .hbm, ⟨23, _⟩ => ⟨S1x1x4x8, .f32⟩
  | .hbm, ⟨24, _⟩ => ⟨S2x128x4x8, .f32⟩
  | .hbm, ⟨25, _⟩ => ⟨S2x128x4x8, .f32⟩
  | .hbm, ⟨26, _⟩ => ⟨S_, .f32⟩
  | .hbm, ⟨27, _⟩ => ⟨S_, .f32⟩
  | .hbm, ⟨28, _⟩ => ⟨S2x128x4x8, .f32⟩
  | .hbm, ⟨29, _⟩ => ⟨S2x1x4x8, .f32⟩
  | .hbm, ⟨30, _⟩ => ⟨S2x128x4x8, .f32⟩
  | .hbm, ⟨31, _⟩ => ⟨S2x128x4x8, .f32⟩
  | .hbm, ⟨32, _⟩ => ⟨S2x128x4x8, .f32⟩
  | .hbm, ⟨33, _⟩ => ⟨S2x128x4x8x1, .f32⟩
  | .hbm, ⟨34, _⟩ => ⟨S2x128x4x8x64, .f32⟩
  | .hbm, ⟨35, _⟩ => ⟨S2x128x4x8x64, .f32⟩
  | .hbm, ⟨36, _⟩ => ⟨S2x4x8x64x128, .f32⟩
  | .hbm, ⟨37, _⟩ => ⟨S2x1x4x8, .f32⟩
  | .hbm, ⟨38, _⟩ => ⟨S2x4x8, .f32⟩
  | .hbm, ⟨39, _⟩ => ⟨S2x4x8, .f32⟩
  | .hbm, ⟨40, _⟩ => ⟨S4x8x64x128, .f32⟩
  | .hbm, ⟨41, _⟩ => ⟨S1x4x8, .f32⟩
  | .hbm, ⟨42, _⟩ => ⟨S4x8, .f32⟩
  | .hbm, ⟨43, _⟩ => ⟨S4x8x1x1, .f32⟩
  | .hbm, ⟨44, _⟩ => ⟨S4x8x64x128, .f32⟩
  | .hbm, ⟨45, _⟩ => ⟨S4x8x64x128, .f32⟩
  | .hbm, ⟨46, _⟩ => ⟨S1x4x8x64x128, .f32⟩
  | .hbm, ⟨47, _⟩ => ⟨S4x8x64x128, .f32⟩
  | .hbm, ⟨48, _⟩ => ⟨S4x8x64x128, .f32⟩
  | .hbm, ⟨49, _⟩ => ⟨S1x4x8, .f32⟩
  | .hbm, ⟨50, _⟩ => ⟨S4x8, .f32⟩
  | .hbm, ⟨51, _⟩ => ⟨S4x8x1x1, .f32⟩
  | .hbm, ⟨52, _⟩ => ⟨S4x8x64x128, .f32⟩
  | .hbm, ⟨53, _⟩ => ⟨S4x8x64x128, .f32⟩
  | .hbm, ⟨54, _⟩ => ⟨S1x4x8x64x128, .f32⟩
  | .hbm, ⟨55, _⟩ => ⟨S4x8x64x128, .f32⟩
  | .hbm, ⟨56, _⟩ => ⟨S4x8x64x128, .f32⟩
  | .hbm, ⟨57, _⟩ => ⟨S1x4x8x64x128, .f32⟩
  | .hbm, ⟨58, _⟩ => ⟨S1x4x8x64x128, .f32⟩
  | .hbm, ⟨59, _⟩ => ⟨S2x4x8x64x128, .f32⟩
  | .hbm, ⟨60, _⟩ => ⟨S4x2x8x64x128, .f32⟩
  | .hbm, ⟨61, _⟩ => ⟨S4x2x512x128, .f32⟩
  | .hbm, ⟨62, _⟩ => ⟨S256x2048, .bf16⟩
  | .hbm, ⟨63, _⟩ => ⟨S256x512, .f32⟩
  | .hbm, ⟨64, _⟩ => ⟨S256x512, .f32⟩
  | .hbm, ⟨65, _⟩ => ⟨S256x512, .f32⟩
  | .hbm, ⟨66, _⟩ => ⟨S4x8x128, .f32⟩
  | .hbm, ⟨67, _⟩ => ⟨S4x512x128, .f32⟩
  | .local _ .vmem, ⟨0, _⟩ => ⟨S128x512, .bf16⟩
  | .local _ .vmem, ⟨1, _⟩ => ⟨S128x512, .bf16⟩
  | .local _ .vmem, ⟨2, _⟩ => ⟨S128x128, .f32⟩
  | .local _ .vmem, ⟨3, _⟩ => ⟨S128x128, .f32⟩
  | .local _ .vmem, ⟨4, _⟩ => ⟨S128x128, .bf16⟩
  | .local _ .vmem, ⟨5, _⟩ => ⟨S128x128, .bf16⟩
  | .local _ .vmem, ⟨6, _⟩ => ⟨S128x128, .bf16⟩
  | .local _ .vmem, ⟨7, _⟩ => ⟨S128x128, .bf16⟩
  | .local _ .vmem, ⟨8, _⟩ => ⟨S1x8x128, .f32⟩
  | .local _ .vmem, ⟨9, _⟩ => ⟨S1x8x128, .f32⟩
  | .local _ .vmem, ⟨10, _⟩ => ⟨S1x1x512x128, .f32⟩
  | .local _ .vmem, ⟨11, _⟩ => ⟨S1x1x512x128, .f32⟩
  | .local _ .vmem, ⟨12, _⟩ => ⟨S128x512, .f32⟩
  | .local _ .vmem, ⟨13, _⟩ => ⟨S128x512, .f32⟩
  | .local _ .vmem, ⟨14, _⟩ => ⟨S1x512x128, .f32⟩
  | .local _ .vmem, ⟨15, _⟩ => ⟨S1x512x128, .f32⟩
  | .local _ .vmem, ⟨16, _⟩ => ⟨S128x512, .bf16⟩
  | .local _ .vmem, ⟨17, _⟩ => ⟨S128x512, .bf16⟩
  | .local _ .vmem, ⟨18, _⟩ => ⟨S128x128, .f32⟩
  | .local _ .vmem, ⟨19, _⟩ => ⟨S128x128, .f32⟩
  | .local _ .vmem, ⟨20, _⟩ => ⟨S128x128, .f32⟩
  | .local _ .vmem, ⟨21, _⟩ => ⟨S128x128, .f32⟩
  | .local _ .vmem, ⟨22, _⟩ => ⟨S128x128, .f32⟩
  | .local _ .vmem, ⟨23, _⟩ => ⟨S128x128, .f32⟩
  | .local _ .vmem, ⟨24, _⟩ => ⟨S1x8x128, .f32⟩
  | .local _ .vmem, ⟨25, _⟩ => ⟨S1x8x128, .f32⟩
  | .local _ .vmem, ⟨26, _⟩ => ⟨S1x512x128, .f32⟩
  | .local _ .vmem, ⟨27, _⟩ => ⟨S1x512x128, .f32⟩
  | .local _ .vmem, ⟨28, _⟩ => ⟨S512x128, .f32⟩
  | _, _ => ⟨S256x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_call0_call0_cst : Ref sig .tc := ⟨.hbm, 26, rfl⟩
abbrev main_call0_call0_v0 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54_0 : Ref sig .tc := ⟨.hbm, 62, rfl⟩
abbrev main_v54_1 : Ref sig .tc := ⟨.hbm, 63, rfl⟩
abbrev main_v54_2 : Ref sig .tc := ⟨.hbm, 64, rfl⟩
abbrev main_v54_3 : Ref sig .tc := ⟨.hbm, 65, rfl⟩
abbrev main_v54_4 : Ref sig .tc := ⟨.hbm, 66, rfl⟩
abbrev main_v54_5 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_scratch0 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi c1_i32 arg1
  let c0_i32 : BitVec 32 := 0#32
  ![v0.toNat, arg0.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi c1_i32 arg1
  let c0_i32 : BitVec 32 := 0#32
  ![v0.toNat, arg0.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi c1_i32 arg1
  let c16_i32 : BitVec 32 := 16#32
  let v1 : BitVec 32 := Scalar.addi c16_i32 arg0
  let c0_i32 : BitVec 32 := 0#32
  ![v0.toNat, v1.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi c1_i32 arg1
  let c20_i32 : BitVec 32 := 20#32
  let v1 : BitVec 32 := Scalar.addi c20_i32 arg0
  let c0_i32 : BitVec 32 := 0#32
  ![v0.toNat, v1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.subi c1_i32 arg1
  let c0_i32 : BitVec 32 := 0#32
  let c0_i32_0 : BitVec 32 := 0#32
  let c0_i32_1 : BitVec 32 := 0#32
  ![arg0.toNat, v0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi c1_i32 arg1
  let c0_i32 : BitVec 32 := 0#32
  ![v0.toNat, arg0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi c1_i32 arg1
  let c0_i32 : BitVec 32 := 0#32
  ![v0.toNat, arg0.toNat]

def cc0_transform_9 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi c1_i32 arg1
  let c0_i32 : BitVec 32 := 0#32
  ![v0.toNat, arg0.toNat]

def cc0_transform_10 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi c1_i32 arg1
  let c0_i32 : BitVec 32 := 0#32
  ![v0.toNat, arg0.toNat]

def cc0_transform_11 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi c1_i32 arg1
  let c0_i32 : BitVec 32 := 0#32
  ![v0.toNat, arg0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S128x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S128x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S128x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S128x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x8x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S1x512x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]
-- ==== KernelIdeal.lean ====
variable {F : FTy → Type} [FloatOps F] [Named F]
def κ : String → Option EReal := fun
  | "mask" => some ⊥
  | _ => none
-- ==== ReferenceIdeal.lean ====
abbrev S256x3072 : Shape := ⟨2, ![256, 3072]⟩
abbrev S256x512 : Shape := ⟨2, ![256, 512]⟩
abbrev S4x8x128 : Shape := ⟨3, ![4, 8, 128]⟩
abbrev S4x512x128 : Shape := ⟨3, ![4, 512, 128]⟩
abbrev S256x2048 : Shape := ⟨2, ![256, 2048]⟩
abbrev S256x4x8x64 : Shape := ⟨4, ![256, 4, 8, 64]⟩
abbrev S256x4x128 : Shape := ⟨3, ![256, 4, 128]⟩
abbrev S256x4x8 : Shape := ⟨3, ![256, 4, 8]⟩
abbrev S4x1x8 : Shape := ⟨3, ![4, 1, 8]⟩
abbrev S4x8 : Shape := ⟨2, ![4, 8]⟩
abbrev S4x8x64x128 : Shape := ⟨4, ![4, 8, 64, 128]⟩
abbrev S2x128x4x8x64 : Shape := ⟨5, ![2, 128, 4, 8, 64]⟩
abbrev S2x128x4x8 : Shape := ⟨4, ![2, 128, 4, 8]⟩
abbrev S2x128x4x128 : Shape := ⟨4, ![2, 128, 4, 128]⟩
abbrev S2x128x4x8x1 : Shape := ⟨5, ![2, 128, 4, 8, 1]⟩
abbrev S1x1x4x8 : Shape := ⟨4, ![1, 1, 4, 8]⟩
abbrev S_ : Shape := ⟨0, ![]⟩
abbrev S2x1x4x8 : Shape := ⟨4, ![2, 1, 4, 8]⟩
abbrev S2x4x8x64x128 : Shape := ⟨5, ![2, 4, 8, 64, 128]⟩
abbrev S2x4x8 : Shape := ⟨3, ![2, 4, 8]⟩
abbrev S1x4x8 : Shape := ⟨3, ![1, 4, 8]⟩
abbrev S4x8x1x1 : Shape := ⟨4, ![4, 8, 1, 1]⟩
abbrev S1x4x8x64x128 : Shape := ⟨5, ![1, 4, 8, 64, 128]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S1x128x128x1x1 : Shape := ⟨5, ![1, 128, 128, 1, 1]⟩
abbrev S2x128x1x4x8 : Shape := ⟨5, ![2, 128, 1, 4, 8]⟩
abbrev S2x1x128x4x8 : Shape := ⟨5, ![2, 1, 128, 4, 8]⟩
abbrev S2x128x128x4x8 : Shape := ⟨5, ![2, 128, 128, 4, 8]⟩
abbrev S2x4x128x128 : Shape := ⟨4, ![2, 4, 128, 128]⟩
abbrev S2x128x128x4 : Shape := ⟨4, ![2, 128, 128, 4]⟩
abbrev S2x128x128x4x1 : Shape := ⟨5, ![2, 128, 128, 4, 1]⟩
abbrev S2x4x8x128x128 : Shape := ⟨5, ![2, 4, 8, 128, 128]⟩

abbrev nBuf : Space → Nat
  | .hbm => 249
  | .vmem => 0
  | .smem => 0
  | _ => 0

abbrev hbmTy0_0 (i : Nat) : BufTy := match i % 128 with
  | 0 => ⟨S256x3072, .bf16⟩
  | 1 => ⟨S256x512, .f32⟩
  | 2 => ⟨S4x8x128, .f32⟩
  | 3 => ⟨S4x512x128, .f32⟩
  | 4 => ⟨S256x2048, .f32⟩
  | 5 => ⟨S4x512x128, .f32⟩
  | 6 => ⟨S256x3072, .f32⟩
  | 7 => ⟨S256x2048, .f32⟩
  | 8 => ⟨S256x4x8x64, .f32⟩
  | 9 => ⟨S256x512, .f32⟩
  | 10 => ⟨S256x4x128, .f32⟩
  | 11 => ⟨S256x512, .f32⟩
  | 12 => ⟨S256x4x128, .f32⟩
  | 13 => ⟨S256x4x128, .f32⟩
  | 14 => ⟨S256x4x8, .f32⟩
  | 15 => ⟨S4x1x8, .f32⟩
  | 16 => ⟨S4x8, .f32⟩
  | 17 => ⟨S4x8x64x128, .f32⟩
  | 18 => ⟨S256x4x8x64, .f32⟩
  | 19 => ⟨S4x8x64x128, .f32⟩
  | 20 => ⟨S2x128x4x8x64, .f32⟩
  | 21 => ⟨S2x128x4x8, .f32⟩
  | 22 => ⟨S2x128x4x128, .f32⟩
  | 23 => ⟨S2x128x4x8x1, .f32⟩
  | 24 => ⟨S2x128x4x8x64, .f32⟩
  | 25 => ⟨S2x128x4x8x64, .f32⟩
  | 26 => ⟨S1x1x4x8, .f32⟩
  | 27 => ⟨S2x128x4x8, .f32⟩
  | 28 => ⟨S2x128x4x8, .f32⟩
  | 29 => ⟨S_, .f32⟩
  | 30 => ⟨S_, .f32⟩
  | 31 => ⟨S2x128x4x8, .f32⟩
  | 32 => ⟨S2x1x4x8, .f32⟩
  | 33 => ⟨S2x128x4x8, .f32⟩
  | 34 => ⟨S2x128x4x8, .f32⟩
  | 35 => ⟨S2x128x4x8, .f32⟩
  | 36 => ⟨S2x128x4x8x1, .f32⟩
  | 37 => ⟨S2x128x4x8x64, .f32⟩
  | 38 => ⟨S2x128x4x8x64, .f32⟩
  | 39 => ⟨S2x4x8x64x128, .f32⟩
  | 40 => ⟨S2x1x4x8, .f32⟩
  | 41 => ⟨S2x4x8, .f32⟩
  | 42 => ⟨S2x4x8, .f32⟩
  | 43 => ⟨S1x4x8, .f32⟩
  | 44 => ⟨S4x8, .f32⟩
  | 45 => ⟨S4x8x1x1, .f32⟩
  | 46 => ⟨S4x8x64x128, .f32⟩
  | 47 => ⟨S4x8x64x128, .f32⟩
  | 48 => ⟨S1x4x8x64x128, .f32⟩
  | 49 => ⟨S4x8x64x128, .f32⟩
  | 50 => ⟨S4x8x64x128, .f32⟩
  | 51 => ⟨S1x4x8, .f32⟩
  | 52 => ⟨S4x8, .f32⟩
  | 53 => ⟨S4x8x1x1, .f32⟩
  | 54 => ⟨S4x8x64x128, .f32⟩
  | 55 => ⟨S4x8x64x128, .f32⟩
  | 56 => ⟨S1x4x8x64x128, .f32⟩
  | 57 => ⟨S4x8x64x128, .f32⟩
  | 58 => ⟨S4x8x64x128, .f32⟩
  | 59 => ⟨S1x4x8x64x128, .f32⟩
  | 60 => ⟨S1x4x8x64x128, .f32⟩
  | 61 => ⟨S2x4x8x64x128, .f32⟩
  | 62 => ⟨S2x128x4x128, .f32⟩
  | 63 => ⟨S128, .i32⟩
  | 64 => ⟨S128x1, .i32⟩
  | 65 => ⟨S1x128, .i32⟩
  | 66 => ⟨S128x128, .i32⟩
  | 67 => ⟨S128x128, .i32⟩
  | 68 => ⟨S128x128, .i1⟩
  | 69 => ⟨S1x128x128x1x1, .i1⟩
  | 70 => ⟨S2x128x1x4x8, .f32⟩
  | 71 => ⟨S2x1x128x4x8, .f32⟩
  | 72 => ⟨S2x128x128x4x8, .f32⟩
  | 73 => ⟨S2x128x128x4x8, .f32⟩
  | 74 => ⟨S2x128x128x4x8, .f32⟩
  | 75 => ⟨S_, .f32⟩
  | 76 => ⟨S_, .f32⟩
  | 77 => ⟨S2x128x128x4x8, .i1⟩
  | 78 => ⟨S2x128x128x4x8, .f32⟩
  | 79 => ⟨S2x128x128x4x8, .f32⟩
  | 80 => ⟨S_, .f32⟩
  | 81 => ⟨S2x128x128x4x8, .f32⟩
  | 82 => ⟨S2x128x128x4x8, .f32⟩
  | 83 => ⟨S2x4x128x128, .f32⟩
  | 84 => ⟨S2x128x128x4, .f32⟩
  | 85 => ⟨S2x128x128x4x1, .f32⟩
  | 86 => ⟨S2x128x128x4x8, .f32⟩
  | 87 => ⟨S2x128x128x4x8, .f32⟩
  | 88 => ⟨S2x4x8x64x128, .f32⟩
  | 89 => ⟨S2x128x4x8x64, .f32⟩
  | 90 => ⟨S2x128x4x8, .f32⟩
  | 91 => ⟨S2x128x4x8x1, .f32⟩
  | 92 => ⟨S2x4x8x64x128, .f32⟩
  | 93 => ⟨S2x128x4x8x64, .f32⟩
  | 94 => ⟨S2x128x4x8x64, .f32⟩
  | 95 => ⟨S2x128x4x8x64, .f32⟩
  | 96 => ⟨S2x128x4x8x64, .f32⟩
  | 97 => ⟨S256x4x8x64, .f32⟩
  | 98 => ⟨S2x128x4x8x64, .f32⟩
  | 99 => ⟨S2x128x4x8x64, .f32⟩
  | 100 => ⟨S2x128x4x8x64, .f32⟩
  | 101 => ⟨S2x128x4x8x64, .f32⟩
  | 102 => ⟨S_, .f32⟩
  | 103 => ⟨S2x128x4x8, .f32⟩
  | 104 => ⟨S2x128x4x8x1, .f32⟩
  | 105 => ⟨S2x4x8x64x128, .f32⟩
  | 106 => ⟨S2x4x128x128, .f32⟩
  | 107 => ⟨S2x128x4x128, .f32⟩
  | 108 => ⟨S2x4x8x64x128, .f32⟩
  | 109 => ⟨S_, .f32⟩
  | 110 => ⟨S2x128x4x8, .f32⟩
  | 111 => ⟨S2x128x4x8, .f32⟩
  | 112 => ⟨S2x4x8x64x128, .f32⟩
  | 113 => ⟨S2x4x8x128x128, .f32⟩
  | 114 => ⟨S2x128x128x4x8, .f32⟩
  | 115 => ⟨S2x4x8x64x128, .f32⟩
  | 116 => ⟨S2x128x4x8x64, .f32⟩
  | 117 => ⟨S2x128x128x4x8, .f32⟩
  | 118 => ⟨S2x128x128x4x8, .f32⟩
  | 119 => ⟨S2x128x128x4x8, .f32⟩
  | 120 => ⟨S_, .f32⟩
  | 121 => ⟨S2x128x128x4, .f32⟩
  | 122 => ⟨S2x128x128x4x1, .f32⟩
  | 123 => ⟨S_, .f32⟩
  | 124 => ⟨S2x128x128x4, .f32⟩
  | 125 => ⟨S2x4x128x128, .f32⟩
  | 126 => ⟨S2x4x128x128, .f32⟩
  | 127 => ⟨S2x128x4x128, .f32⟩
  | _ => ⟨S256x3072, .bf16⟩

abbrev hbmTy0_1 (i : Nat) : BufTy := match i % 128 with
  | 0 => ⟨S2x128x4x128, .f32⟩
  | 1 => ⟨S2x4x128x128, .f32⟩
  | 2 => ⟨S2x128x4x128, .f32⟩
  | 3 => ⟨S2x128x128x4x8, .f32⟩
  | 4 => ⟨S_, .f32⟩
  | 5 => ⟨S2x128x128x4x8, .f32⟩
  | 6 => ⟨S2x128x128x4x8, .f32⟩
  | 7 => ⟨S_, .f32⟩
  | 8 => ⟨S2x128x4x8, .f32⟩
  | 9 => ⟨S2x128x1x4x8, .f32⟩
  | 10 => ⟨S2x128x128x4x8, .f32⟩
  | 11 => ⟨S_, .f32⟩
  | 12 => ⟨S2x128x4x8, .f32⟩
  | 13 => ⟨S2x1x128x4x8, .f32⟩
  | 14 => ⟨S_, .f32⟩
  | 15 => ⟨S2x128x4x8, .f32⟩
  | 16 => ⟨S2x128x4x8, .f32⟩
  | 17 => ⟨S_, .f32⟩
  | 18 => ⟨S2x128x4x8, .f32⟩
  | 19 => ⟨S2x128x4x8, .f32⟩
  | 20 => ⟨S256x4x128, .f32⟩
  | 21 => ⟨S1x4x8x64x128, .f32⟩
  | 22 => ⟨S4x8x64x128, .f32⟩
  | 23 => ⟨S1x4x8x64x128, .f32⟩
  | 24 => ⟨S4x8x64x128, .f32⟩
  | 25 => ⟨S1x4x8x64x128, .f32⟩
  | 26 => ⟨S_, .f32⟩
  | 27 => ⟨S2x4x8x64x128, .f32⟩
  | 28 => ⟨S4x8x64x128, .f32⟩
  | 29 => ⟨S4x8x64x128, .f32⟩
  | 30 => ⟨S4x8x64x128, .f32⟩
  | 31 => ⟨S4x8x64x128, .f32⟩
  | 32 => ⟨S_, .f32⟩
  | 33 => ⟨S4x8, .f32⟩
  | 34 => ⟨S4x8x1x1, .f32⟩
  | 35 => ⟨S_, .f32⟩
  | 36 => ⟨S4x8, .f32⟩
  | 37 => ⟨S1x4x8, .f32⟩
  | 38 => ⟨S_, .f32⟩
  | 39 => ⟨S2x4x8, .f32⟩
  | 40 => ⟨S1x4x8x64x128, .f32⟩
  | 41 => ⟨S_, .f32⟩
  | 42 => ⟨S2x4x8x64x128, .f32⟩
  | 43 => ⟨S2x4x8x64x128, .f32⟩
  | 44 => ⟨S4x8x64x128, .f32⟩
  | 45 => ⟨S4x8x64x128, .f32⟩
  | 46 => ⟨S4x8x64x128, .f32⟩
  | 47 => ⟨S4x8x64x128, .f32⟩
  | 48 => ⟨S_, .f32⟩
  | 49 => ⟨S4x8, .f32⟩
  | 50 => ⟨S4x8x1x1, .f32⟩
  | 51 => ⟨S_, .f32⟩
  | 52 => ⟨S4x8, .f32⟩
  | 53 => ⟨S1x4x8, .f32⟩
  | 54 => ⟨S_, .f32⟩
  | 55 => ⟨S2x4x8, .f32⟩
  | 56 => ⟨S2x4x8, .f32⟩
  | 57 => ⟨S2x4x8, .f32⟩
  | 58 => ⟨S2x1x4x8, .f32⟩
  | 59 => ⟨S_, .f32⟩
  | 60 => ⟨S2x128x4x8, .f32⟩
  | 61 => ⟨S2x128x4x8, .f32⟩
  | 62 => ⟨S2x4x128x128, .f32⟩
  | 63 => ⟨S2x128x4x128, .f32⟩
  | 64 => ⟨S2x128x4x128, .f32⟩
  | 65 => ⟨S2x4x8x64x128, .f32⟩
  | 66 => ⟨S2x128x4x8x64, .f32⟩
  | 67 => ⟨S2x128x4x8x64, .f32⟩
  | 68 => ⟨S2x128x4x8x64, .f32⟩
  | 69 => ⟨S2x128x4x8x64, .f32⟩
  | 70 => ⟨S2x128x4x8x64, .f32⟩
  | 71 => ⟨S_, .f32⟩
  | 72 => ⟨S2x128x4x8, .f32⟩
  | 73 => ⟨S2x128x4x8x1, .f32⟩
  | 74 => ⟨S_, .f32⟩
  | 75 => ⟨S2x128x4x8, .f32⟩
  | 76 => ⟨S2x128x4x8, .f32⟩
  | 77 => ⟨S_, .f32⟩
  | 78 => ⟨S2x4x8, .f32⟩
  | 79 => ⟨S2x1x4x8, .f32⟩
  | 80 => ⟨S2x128x4x8, .f32⟩
  | 81 => ⟨S2x128x4x8, .f32⟩
  | 82 => ⟨S_, .f32⟩
  | 83 => ⟨S2x128x4x8, .f32⟩
  | 84 => ⟨S2x128x4x8, .f32⟩
  | 85 => ⟨S_, .f32⟩
  | 86 => ⟨S_, .f32⟩
  | 87 => ⟨S2x128x4x8, .f32⟩
  | 88 => ⟨S2x128x4x8, .f32⟩
  | 89 => ⟨S_, .f32⟩
  | 90 => ⟨S4x8, .f32⟩
  | 91 => ⟨S1x1x4x8, .f32⟩
  | 92 => ⟨S2x128x4x8, .f32⟩
  | 93 => ⟨S2x128x4x8, .f32⟩
  | 94 => ⟨S_, .f32⟩
  | 95 => ⟨S4x8, .f32⟩
  | 96 => ⟨S2x128x4x8x64, .f32⟩
  | 97 => ⟨S_, .f32⟩
  | 98 => ⟨S2x128x4x8, .f32⟩
  | 99 => ⟨S2x128x4x8x1, .f32⟩
  | 100 => ⟨S2x128x4x8x64, .f32⟩
  | 101 => ⟨S2x128x4x8x64, .f32⟩
  | 102 => ⟨S_, .f32⟩
  | 103 => ⟨S2x128x4x8, .f32⟩
  | 104 => ⟨S2x128x4x8, .f32⟩
  | 105 => ⟨S256x4x128, .f32⟩
  | 106 => ⟨S256x4x8, .f32⟩
  | 107 => ⟨S256x4x8x64, .f32⟩
  | 108 => ⟨S_, .i32⟩
  | 109 => ⟨S_, .f32⟩
  | 110 => ⟨S256x4x128, .f32⟩
  | 111 => ⟨S4x1x8, .f32⟩
  | 112 => ⟨S_, .i32⟩
  | 113 => ⟨S_, .f32⟩
  | 114 => ⟨S4x8x128, .f32⟩
  | 115 => ⟨S256x2048, .f32⟩
  | 116 => ⟨S256x2048, .bf16⟩
  | 117 => ⟨S256x512, .f32⟩
  | 118 => ⟨S256x512, .f32⟩
  | 119 => ⟨S256x512, .f32⟩
  | 120 => ⟨S4x512x128, .f32⟩
  | _ => ⟨S256x3072, .bf16⟩

abbrev hbmTy (i : Nat) : BufTy := match i / 128 with
  | 0 => hbmTy0_0 i
  | 1 => hbmTy0_1 i
  | _ => ⟨S256x3072, .bf16⟩

abbrev bufTy : (tb : Table) → Fin (tcTables nBuf tb) → BufTy
  | .hbm, ⟨i, _⟩ => hbmTy i
  | _, _ => ⟨S256x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_call0_call0_cst : Ref sig .tc := ⟨.hbm, 29, rfl⟩
abbrev main_call0_call0_v0 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_cst : Ref sig .tc := ⟨.hbm, 75, rfl⟩
abbrev main_call1_v0 : Ref sig .tc := ⟨.hbm, 76, rfl⟩
abbrev main_v67_1 : Ref sig .tc := ⟨.hbm, 77, rfl⟩
abbrev main_call1_v2 : Ref sig .tc := ⟨.hbm, 78, rfl⟩
abbrev main_v67_0 : Ref sig .tc := ⟨.hbm, 79, rfl⟩
abbrev main_call1_cst : Ref sig .tc := ⟨.hbm, 80, rfl⟩
abbrev main_v67_2 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev main_cst_0 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_cst_1 : Ref sig .tc := ⟨.hbm, 109, rfl⟩
abbrev main_v94 : Ref sig .tc := ⟨.hbm, 110, rfl⟩
abbrev main_v95 : Ref sig .tc := ⟨.hbm, 111, rfl⟩
abbrev main_v96 : Ref sig .tc := ⟨.hbm, 112, rfl⟩
abbrev main_v97 : Ref sig .tc := ⟨.hbm, 113, rfl⟩
abbrev main_v98 : Ref sig .tc := ⟨.hbm, 114, rfl⟩
abbrev main_v99 : Ref sig .tc := ⟨.hbm, 115, rfl⟩
abbrev main_v100 : Ref sig .tc := ⟨.hbm, 116, rfl⟩
abbrev main_v101 : Ref sig .tc := ⟨.hbm, 117, rfl⟩
abbrev main_v102 : Ref sig .tc := ⟨.hbm, 118, rfl⟩
abbrev main_v103 : Ref sig .tc := ⟨.hbm, 119, rfl⟩
abbrev main_cst_2 : Ref sig .tc := ⟨.hbm, 120, rfl⟩
abbrev main_v104 : Ref sig .tc := ⟨.hbm, 121, rfl⟩
abbrev main_v105 : Ref sig .tc := ⟨.hbm, 122, rfl⟩
abbrev main_cst_3 : Ref sig .tc := ⟨.hbm, 123, rfl⟩
abbrev main_v106 : Ref sig .tc := ⟨.hbm, 124, rfl⟩
abbrev main_v107 : Ref sig .tc := ⟨.hbm, 125, rfl⟩
abbrev main_v108 : Ref sig .tc := ⟨.hbm, 126, rfl⟩
abbrev main_v109 : Ref sig .tc := ⟨.hbm, 127, rfl⟩
abbrev main_v110 : Ref sig .tc := ⟨.hbm, 128, rfl⟩
abbrev main_v111 : Ref sig .tc := ⟨.hbm, 129, rfl⟩
abbrev main_v112 : Ref sig .tc := ⟨.hbm, 130, rfl⟩
abbrev main_v113 : Ref sig .tc := ⟨.hbm, 131, rfl⟩
abbrev main_call2_cst : Ref sig .tc := ⟨.hbm, 132, rfl⟩
abbrev main_call2_v0 : Ref sig .tc := ⟨.hbm, 133, rfl⟩
abbrev main_v114 : Ref sig .tc := ⟨.hbm, 134, rfl⟩
abbrev main_cst_4 : Ref sig .tc := ⟨.hbm, 135, rfl⟩
abbrev main_v115 : Ref sig .tc := ⟨.hbm, 136, rfl⟩
abbrev main_v116 : Ref sig .tc := ⟨.hbm, 137, rfl⟩
abbrev main_v117 : Ref sig .tc := ⟨.hbm, 138, rfl⟩
abbrev main_cst_5 : Ref sig .tc := ⟨.hbm, 139, rfl⟩
abbrev main_v118 : Ref sig .tc := ⟨.hbm, 140, rfl⟩
abbrev main_v119 : Ref sig .tc := ⟨.hbm, 141, rfl⟩
abbrev main_cst_6 : Ref sig .tc := ⟨.hbm, 142, rfl⟩
abbrev main_v120 : Ref sig .tc := ⟨.hbm, 143, rfl⟩
abbrev main_v121 : Ref sig .tc := ⟨.hbm, 144, rfl⟩
abbrev main_cst_7 : Ref sig .tc := ⟨.hbm, 145, rfl⟩
abbrev main_v122 : Ref sig .tc := ⟨.hbm, 146, rfl⟩
abbrev main_v123 : Ref sig .tc := ⟨.hbm, 147, rfl⟩
abbrev main_v124 : Ref sig .tc := ⟨.hbm, 148, rfl⟩
abbrev main_v125 : Ref sig .tc := ⟨.hbm, 149, rfl⟩
abbrev main_v126 : Ref sig .tc := ⟨.hbm, 150, rfl⟩
abbrev main_v127 : Ref sig .tc := ⟨.hbm, 151, rfl⟩
abbrev main_v128 : Ref sig .tc := ⟨.hbm, 152, rfl⟩
abbrev main_v129 : Ref sig .tc := ⟨.hbm, 153, rfl⟩
abbrev main_cst_8 : Ref sig .tc := ⟨.hbm, 154, rfl⟩
abbrev main_v130 : Ref sig .tc := ⟨.hbm, 155, rfl⟩
abbrev main_v131 : Ref sig .tc := ⟨.hbm, 156, rfl⟩
abbrev main_v132 : Ref sig .tc := ⟨.hbm, 157, rfl⟩
abbrev main_v133 : Ref sig .tc := ⟨.hbm, 158, rfl⟩
abbrev main_v134 : Ref sig .tc := ⟨.hbm, 159, rfl⟩
abbrev main_cst_9 : Ref sig .tc := ⟨.hbm, 160, rfl⟩
abbrev main_v135 : Ref sig .tc := ⟨.hbm, 161, rfl⟩
abbrev main_v136 : Ref sig .tc := ⟨.hbm, 162, rfl⟩
abbrev main_cst_10 : Ref sig .tc := ⟨.hbm, 163, rfl⟩
abbrev main_v137 : Ref sig .tc := ⟨.hbm, 164, rfl⟩
abbrev main_v138 : Ref sig .tc := ⟨.hbm, 165, rfl⟩
abbrev main_cst_11 : Ref sig .tc := ⟨.hbm, 166, rfl⟩
abbrev main_v139 : Ref sig .tc := ⟨.hbm, 167, rfl⟩
abbrev main_v140 : Ref sig .tc := ⟨.hbm, 168, rfl⟩
abbrev main_cst_12 : Ref sig .tc := ⟨.hbm, 169, rfl⟩
abbrev main_v141 : Ref sig .tc := ⟨.hbm, 170, rfl⟩
abbrev main_v142 : Ref sig .tc := ⟨.hbm, 171, rfl⟩
abbrev main_v143 : Ref sig .tc := ⟨.hbm, 172, rfl⟩
abbrev main_v144 : Ref sig .tc := ⟨.hbm, 173, rfl⟩
abbrev main_v145 : Ref sig .tc := ⟨.hbm, 174, rfl⟩
abbrev main_v146 : Ref sig .tc := ⟨.hbm, 175, rfl⟩
abbrev main_cst_13 : Ref sig .tc := ⟨.hbm, 176, rfl⟩
abbrev main_v147 : Ref sig .tc := ⟨.hbm, 177, rfl⟩
abbrev main_v148 : Ref sig .tc := ⟨.hbm, 178, rfl⟩
abbrev main_cst_14 : Ref sig .tc := ⟨.hbm, 179, rfl⟩
abbrev main_v149 : Ref sig .tc := ⟨.hbm, 180, rfl⟩
abbrev main_v150 : Ref sig .tc := ⟨.hbm, 181, rfl⟩
abbrev main_cst_15 : Ref sig .tc := ⟨.hbm, 182, rfl⟩
abbrev main_v151 : Ref sig .tc := ⟨.hbm, 183, rfl⟩
abbrev main_v152 : Ref sig .tc := ⟨.hbm, 184, rfl⟩
abbrev main_v153 : Ref sig .tc := ⟨.hbm, 185, rfl⟩
abbrev main_v154 : Ref sig .tc := ⟨.hbm, 186, rfl⟩
abbrev main_cst_16 : Ref sig .tc := ⟨.hbm, 187, rfl⟩
abbrev main_v155 : Ref sig .tc := ⟨.hbm, 188, rfl⟩
abbrev main_v156 : Ref sig .tc := ⟨.hbm, 189, rfl⟩
abbrev main_v157 : Ref sig .tc := ⟨.hbm, 190, rfl⟩
abbrev main_v158 : Ref sig .tc := ⟨.hbm, 191, rfl⟩
abbrev main_v159 : Ref sig .tc := ⟨.hbm, 192, rfl⟩
abbrev main_v160 : Ref sig .tc := ⟨.hbm, 193, rfl⟩
abbrev main_v161 : Ref sig .tc := ⟨.hbm, 194, rfl⟩
abbrev main_v162 : Ref sig .tc := ⟨.hbm, 195, rfl⟩
abbrev main_v163 : Ref sig .tc := ⟨.hbm, 196, rfl⟩
abbrev main_v164 : Ref sig .tc := ⟨.hbm, 197, rfl⟩
abbrev main_v165 : Ref sig .tc := ⟨.hbm, 198, rfl⟩
abbrev main_cst_17 : Ref sig .tc := ⟨.hbm, 199, rfl⟩
abbrev main_v166 : Ref sig .tc := ⟨.hbm, 200, rfl⟩
abbrev main_v167 : Ref sig .tc := ⟨.hbm, 201, rfl⟩
abbrev main_cst_18 : Ref sig .tc := ⟨.hbm, 202, rfl⟩
abbrev main_v168 : Ref sig .tc := ⟨.hbm, 203, rfl⟩
abbrev main_v169 : Ref sig .tc := ⟨.hbm, 204, rfl⟩
abbrev main_cst_19 : Ref sig .tc := ⟨.hbm, 205, rfl⟩
abbrev main_v170 : Ref sig .tc := ⟨.hbm, 206, rfl⟩
abbrev main_v171 : Ref sig .tc := ⟨.hbm, 207, rfl⟩
abbrev main_v172 : Ref sig .tc := ⟨.hbm, 208, rfl⟩
abbrev main_v173 : Ref sig .tc := ⟨.hbm, 209, rfl⟩
abbrev main_cst_20 : Ref sig .tc := ⟨.hbm, 210, rfl⟩
abbrev main_v174 : Ref sig .tc := ⟨.hbm, 211, rfl⟩
abbrev main_v175 : Ref sig .tc := ⟨.hbm, 212, rfl⟩
abbrev main_call3_call0_cst : Ref sig .tc := ⟨.hbm, 213, rfl⟩
abbrev main_call3_call0_v0 : Ref sig .tc := ⟨.hbm, 214, rfl⟩
abbrev main_v176 : Ref sig .tc := ⟨.hbm, 215, rfl⟩
abbrev main_v177 : Ref sig .tc := ⟨.hbm, 216, rfl⟩
abbrev main_cst_21 : Ref sig .tc := ⟨.hbm, 217, rfl⟩
abbrev main_v178 : Ref sig .tc := ⟨.hbm, 218, rfl⟩
abbrev main_v179 : Ref sig .tc := ⟨.hbm, 219, rfl⟩
abbrev main_v180 : Ref sig .tc := ⟨.hbm, 220, rfl⟩
abbrev main_v181 : Ref sig .tc := ⟨.hbm, 221, rfl⟩
abbrev main_cst_22 : Ref sig .tc := ⟨.hbm, 222, rfl⟩
abbrev main_v182 : Ref sig .tc := ⟨.hbm, 223, rfl⟩
abbrev main_v183 : Ref sig .tc := ⟨.hbm, 224, rfl⟩
abbrev main_cst_23 : Ref sig .tc := ⟨.hbm, 225, rfl⟩
abbrev main_v184 : Ref sig .tc := ⟨.hbm, 226, rfl⟩
abbrev main_v185 : Ref sig .tc := ⟨.hbm, 227, rfl⟩
abbrev main_v186 : Ref sig .tc := ⟨.hbm, 228, rfl⟩
abbrev main_v187 : Ref sig .tc := ⟨.hbm, 229, rfl⟩
abbrev main_cst_24 : Ref sig .tc := ⟨.hbm, 230, rfl⟩
abbrev main_v188 : Ref sig .tc := ⟨.hbm, 231, rfl⟩
abbrev main_v189 : Ref sig .tc := ⟨.hbm, 232, rfl⟩
abbrev main_v190 : Ref sig .tc := ⟨.hbm, 233, rfl⟩
abbrev main_v191 : Ref sig .tc := ⟨.hbm, 234, rfl⟩
abbrev main_v192 : Ref sig .tc := ⟨.hbm, 235, rfl⟩
abbrev main_c : Ref sig .tc := ⟨.hbm, 236, rfl⟩
abbrev main_call4_v0 : Ref sig .tc := ⟨.hbm, 237, rfl⟩
abbrev main_v193 : Ref sig .tc := ⟨.hbm, 238, rfl⟩
abbrev main_v194 : Ref sig .tc := ⟨.hbm, 239, rfl⟩
abbrev main_c_25 : Ref sig .tc := ⟨.hbm, 240, rfl⟩
abbrev main_call5_v0 : Ref sig .tc := ⟨.hbm, 241, rfl⟩
abbrev main_v195 : Ref sig .tc := ⟨.hbm, 242, rfl⟩
abbrev main_v196 : Ref sig .tc := ⟨.hbm, 243, rfl⟩
abbrev main_v197 : Ref sig .tc := ⟨.hbm, 244, rfl⟩
abbrev main_v198 : Ref sig .tc := ⟨.hbm, 245, rfl⟩
abbrev main_v199 : Ref sig .tc := ⟨.hbm, 246, rfl⟩
abbrev main_v200 : Ref sig .tc := ⟨.hbm, 247, rfl⟩
abbrev main_v201 : Ref sig .tc := ⟨.hbm, 248, rfl⟩

abbrev nD : Nat := 1
abbrev τ : Topo := Topo.v7x

variable {F : FTy → Type} [FloatOps F]
-- ==== Kernel2.lean ====
abbrev S8192x2048 : Shape := ⟨2, ![8192, 2048]⟩
abbrev S5632x2048 : Shape := ⟨2, ![5632, 2048]⟩
abbrev S8192x5632 : Shape := ⟨2, ![8192, 5632]⟩
abbrev S1024x2048 : Shape := ⟨2, ![1024, 2048]⟩
abbrev S1408x2048 : Shape := ⟨2, ![1408, 2048]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S5632x2048, .bf16⟩
  | .hbm, ⟨2, _⟩ => ⟨S8192x5632, .bf16⟩
  | .local _ .vmem, ⟨0, _⟩ => ⟨S1024x2048, .bf16⟩
  | .local _ .vmem, ⟨1, _⟩ => ⟨S1024x2048, .bf16⟩
  | .local _ .vmem, ⟨2, _⟩ => ⟨S1408x2048, .bf16⟩
  | .local _ .vmem, ⟨3, _⟩ => ⟨S1408x2048, .bf16⟩
  | .local _ .vmem, ⟨4, _⟩ => ⟨S1024x1408, .bf16⟩
  | .local _ .vmem, ⟨5, _⟩ => ⟨S1024x1408, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![v0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S8192x2048 : Shape := ⟨2, ![8192, 2048]⟩
abbrev S5632x2048 : Shape := ⟨2, ![5632, 2048]⟩
abbrev S_ : Shape := ⟨0, ![]⟩
abbrev S8192x5632 : Shape := ⟨2, ![8192, 5632]⟩

abbrev nBuf : Space → Nat
  | .hbm => 11
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S5632x2048, .bf16⟩
  | .hbm, ⟨2, _⟩ => ⟨S_, .bf16⟩
  | .hbm, ⟨3, _⟩ => ⟨S8192x5632, .bf16⟩
  | .hbm, ⟨4, _⟩ => ⟨S8192x5632, .f32⟩
  | .hbm, ⟨5, _⟩ => ⟨S5632x2048, .f32⟩
  | .hbm, ⟨6, _⟩ => ⟨S8192x2048, .f32⟩
  | .hbm, ⟨7, _⟩ => ⟨S8192x2048, .bf16⟩
  | .hbm, ⟨8, _⟩ => ⟨S8192x2048, .f32⟩
  | .hbm, ⟨9, _⟩ => ⟨S8192x5632, .f32⟩
  | .hbm, ⟨10, _⟩ => ⟨S8192x5632, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel3.lean ====
abbrev S8192x5632 : Shape := ⟨2, ![8192, 5632]⟩
abbrev S8192x2048 : Shape := ⟨2, ![8192, 2048]⟩
abbrev S5632x2048 : Shape := ⟨2, ![5632, 2048]⟩
abbrev S4096x512 : Shape := ⟨2, ![4096, 512]⟩
abbrev S4096x1024 : Shape := ⟨2, ![4096, 1024]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x5632, .bf16⟩
  | .hbm, ⟨1, _⟩ => ⟨S8192x2048, .bf16⟩
  | .hbm, ⟨2, _⟩ => ⟨S5632x2048, .bf16⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S4096x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 2, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S8192x5632 : Shape := ⟨2, ![8192, 5632]⟩
abbrev S8192x2048 : Shape := ⟨2, ![8192, 2048]⟩
abbrev S_ : Shape := ⟨0, ![]⟩
abbrev S5632x2048 : Shape := ⟨2, ![5632, 2048]⟩
abbrev S2048x5632 : Shape := ⟨2, ![2048, 5632]⟩

abbrev nBuf : Space → Nat
  | .hbm => 12
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S8192x2048, .bf16⟩
  | .hbm, ⟨2, _⟩ => ⟨S_, .bf16⟩
  | .hbm, ⟨3, _⟩ => ⟨S5632x2048, .bf16⟩
  | .hbm, ⟨4, _⟩ => ⟨S8192x5632, .f32⟩
  | .hbm, ⟨5, _⟩ => ⟨S5632x2048, .f32⟩
  | .hbm, ⟨6, _⟩ => ⟨S8192x2048, .f32⟩
  | .hbm, ⟨7, _⟩ => ⟨S8192x2048, .bf16⟩
  | .hbm, ⟨8, _⟩ => ⟨S8192x2048, .f32⟩
  | .hbm, ⟨9, _⟩ => ⟨S2048x5632, .f32⟩
  | .hbm, ⟨10, _⟩ => ⟨S5632x2048, .f32⟩
  | .hbm, ⟨11, _⟩ => ⟨S5632x2048, .bf16⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel4.lean ====
abbrev S8192x11264 : Shape := ⟨2, ![8192, 11264]⟩
abbrev S2048x11264 : Shape := ⟨2, ![2048, 11264]⟩
abbrev S8192x2048 : Shape := ⟨2, ![8192, 2048]⟩
abbrev S1024x2816 : Shape := ⟨2, ![1024, 2816]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x11264, .bf16⟩
  | .hbm, ⟨1, _⟩ => ⟨S2048x11264, .bf16⟩
  | .hbm, ⟨2, _⟩ => ⟨S8192x2048, .bf16⟩
  | .local _ .vmem, ⟨0, _⟩ => ⟨S1024x2816, .bf16⟩
  | .local _ .vmem, ⟨1, _⟩ => ⟨S1024x2816, .bf16⟩
  | .local _ .vmem, ⟨2, _⟩ => ⟨S1024x2816, .bf16⟩
  | .local _ .vmem, ⟨3, _⟩ => ⟨S1024x2816, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![v0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S8192x11264 : Shape := ⟨2, ![8192, 11264]⟩
abbrev S2048x11264 : Shape := ⟨2, ![2048, 11264]⟩
abbrev S_ : Shape := ⟨0, ![]⟩
abbrev S8192x2048 : Shape := ⟨2, ![8192, 2048]⟩

abbrev nBuf : Space → Nat
  | .hbm => 11
  | .vmem => 0
  | .smem => 0
  | _ => 0

abbrev bufTy : (tb : Table) → Fin (tcTables nBuf tb) → BufTy
  | .hbm, ⟨0, _⟩ => ⟨S8192x11264, .bf16⟩
  | .hbm, ⟨1, _⟩ => ⟨S2048x11264, .bf16⟩
  | .hbm, ⟨2, _⟩ => ⟨S_, .bf16⟩
  | .hbm, ⟨3, _⟩ => ⟨S8192x2048, .bf16⟩
  | .hbm, ⟨4, _⟩ => ⟨S8192x2048, .f32⟩
  | .hbm, ⟨5, _⟩ => ⟨S2048x11264, .f32⟩
  | .hbm, ⟨6, _⟩ => ⟨S8192x11264, .f32⟩
  | .hbm, ⟨7, _⟩ => ⟨S8192x11264, .bf16⟩
  | .hbm, ⟨8, _⟩ => ⟨S8192x11264, .f32⟩
  | .hbm, ⟨9, _⟩ => ⟨S8192x2048, .f32⟩
  | .hbm, ⟨10, _⟩ => ⟨S8192x2048, .bf16⟩
  | _, _ => ⟨S8192x11264, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel5.lean ====
abbrev S8192x2048 : Shape := ⟨2, ![8192, 2048]⟩
abbrev S8192x11264 : Shape := ⟨2, ![8192, 11264]⟩
abbrev S2048x11264 : Shape := ⟨2, ![2048, 11264]⟩
abbrev S2048x1024 : Shape := ⟨2, ![2048, 1024]⟩
abbrev S2048x1408 : Shape := ⟨2, ![2048, 1408]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x11264, .bf16⟩
  | .hbm, ⟨2, _⟩ => ⟨S2048x11264, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S8192x2048 : Shape := ⟨2, ![8192, 2048]⟩
abbrev S8192x11264 : Shape := ⟨2, ![8192, 11264]⟩
abbrev S_ : Shape := ⟨0, ![]⟩
abbrev S2048x11264 : Shape := ⟨2, ![2048, 11264]⟩
abbrev S11264x2048 : Shape := ⟨2, ![11264, 2048]⟩

abbrev nBuf : Space → Nat
  | .hbm => 12
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x11264, .bf16⟩
  | .hbm, ⟨2, _⟩ => ⟨S_, .bf16⟩
  | .hbm, ⟨3, _⟩ => ⟨S2048x11264, .bf16⟩
  | .hbm, ⟨4, _⟩ => ⟨S8192x2048, .f32⟩
  | .hbm, ⟨5, _⟩ => ⟨S2048x11264, .f32⟩
  | .hbm, ⟨6, _⟩ => ⟨S8192x11264, .f32⟩
  | .hbm, ⟨7, _⟩ => ⟨S8192x11264, .bf16⟩
  | .hbm, ⟨8, _⟩ => ⟨S8192x11264, .f32⟩
  | .hbm, ⟨9, _⟩ => ⟨S11264x2048, .f32⟩
  | .hbm, ⟨10, _⟩ => ⟨S2048x11264, .f32⟩
  | .hbm, ⟨11, _⟩ => ⟨S2048x11264, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel6.lean ====
abbrev S8192x2048 : Shape := ⟨2, ![8192, 2048]⟩
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![v0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S8192x2048 : Shape := ⟨2, ![8192, 2048]⟩
abbrev S2048x2048 : Shape := ⟨2, ![2048, 2048]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S_, .bf16⟩
  | .hbm, ⟨3, _⟩ => ⟨S8192x2048, .bf16⟩
  | .hbm, ⟨4, _⟩ => ⟨S8192x2048, .f32⟩
  | .hbm, ⟨5, _⟩ => ⟨S2048x2048, .f32⟩
  | .hbm, ⟨6, _⟩ => ⟨S8192x2048, .f32⟩
  | .hbm, ⟨7, _⟩ => ⟨S8192x2048, .bf16⟩
  | .hbm, ⟨8, _⟩ => ⟨S8192x2048, .f32⟩
  | .hbm, ⟨9, _⟩ => ⟨S8192x2048, .f32⟩
  | .hbm, ⟨10, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel7.lean ====
abbrev S8192x2048 : Shape := ⟨2, ![8192, 2048]⟩
abbrev S2048x2048 : Shape := ⟨2, ![2048, 2048]⟩
abbrev S4096x1024 : Shape := ⟨2, ![4096, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S2048x2048, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S8192x2048 : Shape := ⟨2, ![8192, 2048]⟩
abbrev S_ : Shape := ⟨0, ![]⟩
abbrev S2048x2048 : Shape := ⟨2, ![2048, 2048]⟩

abbrev nBuf : Space → Nat
  | .hbm => 12
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S_, .bf16⟩
  | .hbm, ⟨3, _⟩ => ⟨S2048x2048, .bf16⟩
  | .hbm, ⟨4, _⟩ => ⟨S8192x2048, .f32⟩
  | .hbm, ⟨5, _⟩ => ⟨S2048x2048, .f32⟩
  | .hbm, ⟨6, _⟩ => ⟨S8192x2048, .f32⟩
  | .hbm, ⟨7, _⟩ => ⟨S8192x2048, .bf16⟩
  | .hbm, ⟨8, _⟩ => ⟨S8192x2048, .f32⟩
  | .hbm, ⟨9, _⟩ => ⟨S2048x2048, .f32⟩
  | .hbm, ⟨10, _⟩ => ⟨S2048x2048, .f32⟩
  | .hbm, ⟨11, _⟩ => ⟨S2048x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel8.lean ====
abbrev S8192x2048 : Shape := ⟨2, ![8192, 2048]⟩
abbrev S2048x11264 : Shape := ⟨2, ![2048, 11264]⟩
abbrev S8192x11264 : Shape := ⟨2, ![8192, 11264]⟩
abbrev S1024x2048 : Shape := ⟨2, ![1024, 2048]⟩
abbrev S2048x1408 : Shape := ⟨2, ![2048, 1408]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x11264, .bf16⟩
  | .hbm, ⟨2, _⟩ => ⟨S8192x11264, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1408, .bf16⟩
  | .local _ .vmem, ⟨3, _⟩ => ⟨S2048x1408, .bf16⟩
  | .local _ .vmem, ⟨4, _⟩ => ⟨S1024x1408, .bf16⟩
  | .local _ .vmem, ⟨5, _⟩ => ⟨S1024x1408, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![v0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S8192x2048 : Shape := ⟨2, ![8192, 2048]⟩
abbrev S2048x11264 : Shape := ⟨2, ![2048, 11264]⟩
abbrev S8192x11264 : Shape := ⟨2, ![8192, 11264]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x11264, .bf16⟩
  | .hbm, ⟨2, _⟩ => ⟨S8192x2048, .f32⟩
  | .hbm, ⟨3, _⟩ => ⟨S2048x11264, .f32⟩
  | .hbm, ⟨4, _⟩ => ⟨S8192x11264, .f32⟩
  | .hbm, ⟨5, _⟩ => ⟨S8192x11264, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel9.lean ====
abbrev S8192x5632 : Shape := ⟨2, ![8192, 5632]⟩
abbrev S5632x2048 : Shape := ⟨2, ![5632, 2048]⟩
abbrev S8192x2048 : Shape := ⟨2, ![8192, 2048]⟩
abbrev S1024x2816 : Shape := ⟨2, ![1024, 2816]⟩
abbrev S2816x1024 : Shape := ⟨2, ![2816, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x5632, .bf16⟩
  | .hbm, ⟨1, _⟩ => ⟨S5632x2048, .bf16⟩
  | .hbm, ⟨2, _⟩ => ⟨S8192x2048, .bf16⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S2816x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![v0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S8192x5632 : Shape := ⟨2, ![8192, 5632]⟩
abbrev S5632x2048 : Shape := ⟨2, ![5632, 2048]⟩
abbrev S8192x2048 : Shape := ⟨2, ![8192, 2048]⟩

abbrev nBuf : Space → Nat
  | .hbm => 6
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S5632x2048, .bf16⟩
  | .hbm, ⟨2, _⟩ => ⟨S8192x5632, .f32⟩
  | .hbm, ⟨3, _⟩ => ⟨S5632x2048, .f32⟩
  | .hbm, ⟨4, _⟩ => ⟨S8192x2048, .f32⟩
  | .hbm, ⟨5, _⟩ => ⟨S8192x2048, .bf16⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel10.lean ====
abbrev S8192x2048 : Shape := ⟨2, ![8192, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![v0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S8192x2048 : Shape := ⟨2, ![8192, 2048]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S2048x2048, .f32⟩
  | .hbm, ⟨4, _⟩ => ⟨S8192x2048, .f32⟩
  | .hbm, ⟨5, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel11.lean ====
abbrev S8192x11264 : Shape := ⟨2, ![8192, 11264]⟩
abbrev S8192x5632 : Shape := ⟨2, ![8192, 5632]⟩
abbrev S128x11264 : Shape := ⟨2, ![128, 11264]⟩
abbrev S128x5632 : Shape := ⟨2, ![128, 5632]⟩
abbrev S16x5632 : Shape := ⟨2, ![16, 5632]⟩

abbrev nBuf : Space → Nat
  | .hbm => 3
  | .vmem => 6
  | .smem => 0
  | _ => 0

abbrev bufTy : (tb : Table) → Fin (tcTables nBuf tb) → BufTy
  | .hbm, ⟨0, _⟩ => ⟨S8192x11264, .bf16⟩
  | .hbm, ⟨1, _⟩ => ⟨S8192x5632, .bf16⟩
  | .hbm, ⟨2, _⟩ => ⟨S8192x11264, .bf16⟩
  | .local _ .vmem, ⟨0, _⟩ => ⟨S128x11264, .bf16⟩
  | .local _ .vmem, ⟨1, _⟩ => ⟨S128x11264, .bf16⟩
  | .local _ .vmem, ⟨2, _⟩ => ⟨S128x5632, .bf16⟩
  | .local _ .vmem, ⟨3, _⟩ => ⟨S128x5632, .bf16⟩
  | .local _ .vmem, ⟨4, _⟩ => ⟨S128x11264, .bf16⟩
  | .local _ .vmem, ⟨5, _⟩ => ⟨S128x11264, .bf16⟩
  | _, _ => ⟨S8192x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![64], ![false]⟩

@[reducible] def k0_t1_loop : Scf.Loop 32 :=
  let c0_i32 : BitVec 32 := 0#32
  let c8_i32 : BitVec 32 := 8#32
  let v0 : BitVec 32 := Scalar.addi c0_i32 c8_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg4 : BitVec 32 := Scf.iv c0_i32 c1_i32 k0_t1
  let c16_i32 : BitVec 32 := 16#32
  let v1 : BitVec 32 := Scalar.muli arg4 c16_i32
  v1
def k0_off1 (k0_t1 : Fin k0_t1_loop.trips) : Fin 2 → Nat :=
  let c0_i32 : BitVec 32 := 0#32
  let c1_i32 : BitVec 32 := 1#32
  let arg4 : BitVec 32 := Scf.iv c0_i32 c1_i32 k0_t1
  let c16_i32 : BitVec 32 := 16#32
  let v1 : BitVec 32 := Scalar.muli arg4 c16_i32
  let v2 : BitVec 32 := v1
  let v3 : Index := Scalar.indexCast v2
  let c0 : Index := 0#32
  ![v3.toNat, 0]
def k0_off2 (k0_t1 : Fin k0_t1_loop.trips) : Fin 2 → Nat :=
  let c0_i32 : BitVec 32 := 0#32
  let c1_i32 : BitVec 32 := 1#32
  let arg4 : BitVec 32 := Scf.iv c0_i32 c1_i32 k0_t1
  let c16_i32 : BitVec 32 := 16#32
  let v1 : BitVec 32 := Scalar.muli arg4 c16_i32
  let v2 : BitVec 32 := v1
  let v6 : Index := Scalar.indexCast v2
  let c5632 : Index := 5632#32
  ![v6.toNat, 5632]
def k0_off3 (k0_t1 : Fin k0_t1_loop.trips) : Fin 2 → Nat :=
  let c0_i32 : BitVec 32 := 0#32
  let c1_i32 : BitVec 32 := 1#32
  let arg4 : BitVec 32 := Scf.iv c0_i32 c1_i32 k0_t1
  let c16_i32 : BitVec 32 := 16#32
  let v1 : BitVec 32 := Scalar.muli arg4 c16_i32
  let v2 : BitVec 32 := v1
  let v9 : Index := Scalar.indexCast v2
  let c0_1 : Index := 0#32
  ![v9.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x11264 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x5632 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x11264 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference11Ideal.lean ====
abbrev S8192x11264 : Shape := ⟨2, ![8192, 11264]⟩
abbrev S8192x5632 : Shape := ⟨2, ![8192, 5632]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S8192x11264, .bf16⟩
  | .hbm, ⟨1, _⟩ => ⟨S8192x5632, .bf16⟩
  | .hbm, ⟨2, _⟩ => ⟨S8192x5632, .bf16⟩
  | .hbm, ⟨3, _⟩ => ⟨S8192x5632, .bf16⟩
  | .hbm, ⟨4, _⟩ => ⟨S8192x5632, .bf16⟩
  | .hbm, ⟨5, _⟩ => ⟨S8192x5632, .bf16⟩
  | .hbm, ⟨6, _⟩ => ⟨S_, .bf16⟩
  | .hbm, ⟨7, _⟩ => ⟨S8192x5632, .bf16⟩
  | .hbm, ⟨8, _⟩ => ⟨S8192x5632, .bf16⟩
  | .hbm, ⟨9, _⟩ => ⟨S_, .bf16⟩
  | .hbm, ⟨10, _⟩ => ⟨S8192x5632, .bf16⟩
  | .hbm, ⟨11, _⟩ => ⟨S8192x5632, .bf16⟩
  | .hbm, ⟨12, _⟩ => ⟨S_, .bf16⟩
  | .hbm, ⟨13, _⟩ => ⟨S8192x5632, .bf16⟩
  | .hbm, ⟨14, _⟩ => ⟨S8192x5632, .bf16⟩
  | .hbm, ⟨15, _⟩ => ⟨S8192x5632, .bf16⟩
  | .hbm, ⟨16, _⟩ => ⟨S8192x5632, .bf16⟩
  | .hbm, ⟨17, _⟩ => ⟨S8192x5632, .bf16⟩
  | .hbm, ⟨18, _⟩ => ⟨S8192x5632, .bf16⟩
  | .hbm, ⟨19, _⟩ => ⟨S8192x5632, .bf16⟩
  | .hbm, ⟨20, _⟩ => ⟨S8192x5632, .bf16⟩
  | .hbm, ⟨21, _⟩ => ⟨S8192x5632, .bf16⟩
  | .hbm, ⟨22, _⟩ => ⟨S8192x5632, .bf16⟩
  | .hbm, ⟨23, _⟩ => ⟨S8192x5632, .bf16⟩
  | .hbm, ⟨24, _⟩ => ⟨S8192x11264, .bf16⟩
  | _, _ => ⟨S8192x11264, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v2_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v2_1 : Ref sig .tc := ⟨.hbm, 15, rfl⟩
abbrev main_v2_0 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_call1_v0 : Ref sig .tc := ⟨.hbm, 20, rfl⟩
abbrev main_call1_v1 : Ref sig .tc := ⟨.hbm, 21, rfl⟩
abbrev main_call1_v2 : Ref sig .tc := ⟨.hbm, 22, rfl⟩
abbrev main_v6 : Ref sig .tc := ⟨.hbm, 23, rfl⟩
abbrev main_v7 : Ref sig .tc := ⟨.hbm, 24, rfl⟩

abbrev nD : Nat := 1
abbrev τ : Topo := Topo.v7x

variable {F : FTy → Type} [FloatOps F]
-- ==== Kernel12.lean ====
abbrev S8448x13824 : Shape := ⟨2, ![8448, 13824]⟩
abbrev S2048x13824 : Shape := ⟨2, ![2048, 13824]⟩
abbrev S8192x2048 : Shape := ⟨2, ![8192, 2048]⟩
abbrev S1024x4608 : Shape := ⟨2, ![1024, 4608]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8448x13824, .bf16⟩
  | .hbm, ⟨1, _⟩ => ⟨S2048x13824, .bf16⟩
  | .hbm, ⟨2, _⟩ => ⟨S8192x2048, .bf16⟩
  | .local _ .vmem, ⟨0, _⟩ => ⟨S1024x4608, .bf16⟩
  | .local _ .vmem, ⟨1, _⟩ => ⟨S1024x4608, .bf16⟩
  | .local _ .vmem, ⟨2, _⟩ => ⟨S1024x4608, .bf16⟩
  | .local _ .vmem, ⟨3, _⟩ => ⟨S1024x4608, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8448x13824, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 3], ![false, false, false]⟩

def k0_cond3 (i : grid0.Coords) : BitVec 1 :=
  let arg2 : BitVec 32 := BitVec.ofNat 32 (i 2).val
  let c2_i32 : BitVec 32 := 2#32
  let v9 : BitVec 1 := Scalar.cmpi .eq arg2 c2_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![v0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4608 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x4608 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S8448x13824 : Shape := ⟨2, ![8448, 13824]⟩
abbrev S2048x13824 : Shape := ⟨2, ![2048, 13824]⟩
abbrev S_ : Shape := ⟨0, ![]⟩
abbrev S8192x2048 : Shape := ⟨2, ![8192, 2048]⟩
abbrev S8192x13824 : Shape := ⟨2, ![8192, 13824]⟩

abbrev nBuf : Space → Nat
  | .hbm => 12
  | .vmem => 0
  | .smem => 0
  | _ => 0

abbrev bufTy : (tb : Table) → Fin (tcTables nBuf tb) → BufTy
  | .hbm, ⟨0, _⟩ => ⟨S8448x13824, .bf16⟩
  | .hbm, ⟨1, _⟩ => ⟨S2048x13824, .bf16⟩
  | .hbm, ⟨2, _⟩ => ⟨S_, .bf16⟩
  | .hbm, ⟨3, _⟩ => ⟨S8192x2048, .bf16⟩
  | .hbm, ⟨4, _⟩ => ⟨S8192x2048, .f32⟩
  | .hbm, ⟨5, _⟩ => ⟨S2048x13824, .f32⟩
  | .hbm, ⟨6, _⟩ => ⟨S8192x13824, .f32⟩
  | .hbm, ⟨7, _⟩ => ⟨S8192x13824, .bf16⟩
  | .hbm, ⟨8, _⟩ => ⟨S8192x13824, .bf16⟩
  | .hbm, ⟨9, _⟩ => ⟨S8192x13824, .f32⟩
  | .hbm, ⟨10, _⟩ => ⟨S8192x2048, .f32⟩
  | .hbm, ⟨11, _⟩ => ⟨S8192x2048, .bf16⟩
  | _, _ => ⟨S8448x13824, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel13.lean ====
abbrev S8448x2048 : Shape := ⟨2, ![8448, 2048]⟩
abbrev S8448x13824 : Shape := ⟨2, ![8448, 13824]⟩
abbrev S2048x13824 : Shape := ⟨2, ![2048, 13824]⟩
abbrev S2816x1024 : Shape := ⟨2, ![2816, 1024]⟩
abbrev S2816x1536 : Shape := ⟨2, ![2816, 1536]⟩
abbrev S1024x1536 : Shape := ⟨2, ![1024, 1536]⟩

abbrev nBuf : Space → Nat
  | .hbm => 3
  | .vmem => 7
  | .smem => 0
  | _ => 0

abbrev bufTy : (tb : Table) → Fin (tcTables nBuf tb) → BufTy
  | .hbm, ⟨0, _⟩ => ⟨S8448x2048, .bf16⟩
  | .hbm, ⟨1, _⟩ => ⟨S8448x13824, .bf16⟩
  | .hbm, ⟨2, _⟩ => ⟨S2048x13824, .bf16⟩
  | .local _ .vmem, ⟨0, _⟩ => ⟨S2816x1024, .bf16⟩
  | .local _ .vmem, ⟨1, _⟩ => ⟨S2816x1024, .bf16⟩
  | .local _ .vmem, ⟨2, _⟩ => ⟨S2816x1536, .bf16⟩
  | .local _ .vmem, ⟨3, _⟩ => ⟨S2816x1536, .bf16⟩
  | .local _ .vmem, ⟨4, _⟩ => ⟨S1024x1536, .bf16⟩
  | .local _ .vmem, ⟨5, _⟩ => ⟨S1024x1536, .bf16⟩
  | .local _ .vmem, ⟨6, _⟩ => ⟨S1024x1536, .f32⟩
  | _, _ => ⟨S8448x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 9, 3], ![false, false, false]⟩

def k0_cond3 (i : grid0.Coords) : BitVec 1 :=
  let arg2 : BitVec 32 := BitVec.ofNat 32 (i 2).val
  let c2_i32 : BitVec 32 := 2#32
  let v9 : BitVec 1 := Scalar.cmpi .eq arg2 c2_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2816x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S8448x2048 : Shape := ⟨2, ![8448, 2048]⟩
abbrev S8448x13824 : Shape := ⟨2, ![8448, 13824]⟩
abbrev S_ : Shape := ⟨0, ![]⟩
abbrev S2048x13824 : Shape := ⟨2, ![2048, 13824]⟩
abbrev S13824x2048 : Shape := ⟨2, ![13824, 2048]⟩

abbrev nBuf : Space → Nat
  | .hbm => 12
  | .vmem => 0
  | .smem => 0
  | _ => 0

abbrev bufTy : (tb : Table) → Fin (tcTables nBuf tb) → BufTy
  | .hbm, ⟨0, _⟩ => ⟨S8448x2048, .bf16⟩
  | .hbm, ⟨1, _⟩ => ⟨S8448x13824, .bf16⟩
  | .hbm, ⟨2, _⟩ => ⟨S_, .bf16⟩
  | .hbm, ⟨3, _⟩ => ⟨S2048x13824, .bf16⟩
  | .hbm, ⟨4, _⟩ => ⟨S8448x2048, .f32⟩
  | .hbm, ⟨5, _⟩ => ⟨S2048x13824, .f32⟩
  | .hbm, ⟨6, _⟩ => ⟨S8448x13824, .f32⟩
  | .hbm, ⟨7, _⟩ => ⟨S8448x13824, .bf16⟩
  | .hbm, ⟨8, _⟩ => ⟨S8448x13824, .f32⟩
  | .hbm, ⟨9, _⟩ => ⟨S13824x2048, .f32⟩
  | .hbm, ⟨10, _⟩ => ⟨S2048x13824, .f32⟩
  | .hbm, ⟨11, _⟩ => ⟨S2048x13824, .bf16⟩
  | _, _ => ⟨S8448x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel14.lean ====
abbrev S8192x2048 : Shape := ⟨2, ![8192, 2048]⟩
abbrev S2048x13824 : Shape := ⟨2, ![2048, 13824]⟩
abbrev S8192x13824 : Shape := ⟨2, ![8192, 13824]⟩
abbrev S1024x2048 : Shape := ⟨2, ![1024, 2048]⟩
abbrev S2048x1536 : Shape := ⟨2, ![2048, 1536]⟩
abbrev S1024x1536 : Shape := ⟨2, ![1024, 1536]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x13824, .bf16⟩
  | .hbm, ⟨2, _⟩ => ⟨S8192x13824, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1536, .bf16⟩
  | .local _ .vmem, ⟨3, _⟩ => ⟨S2048x1536, .bf16⟩
  | .local _ .vmem, ⟨4, _⟩ => ⟨S1024x1536, .bf16⟩
  | .local _ .vmem, ⟨5, _⟩ => ⟨S1024x1536, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 9, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![v0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S8192x2048 : Shape := ⟨2, ![8192, 2048]⟩
abbrev S2048x13824 : Shape := ⟨2, ![2048, 13824]⟩
abbrev S8192x13824 : Shape := ⟨2, ![8192, 13824]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x13824, .bf16⟩
  | .hbm, ⟨2, _⟩ => ⟨S8192x2048, .f32⟩
  | .hbm, ⟨3, _⟩ => ⟨S2048x13824, .f32⟩
  | .hbm, ⟨4, _⟩ => ⟨S8192x13824, .f32⟩
  | .hbm, ⟨5, _⟩ => ⟨S8192x13824, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel15.lean ====
abbrev S16x2048 : Shape := ⟨2, ![16, 2048]⟩
abbrev S16x3072 : Shape := ⟨2, ![16, 3072]⟩
abbrev S2048x3072 : Shape := ⟨2, ![2048, 3072]⟩
abbrev S16x1024 : Shape := ⟨2, ![16, 1024]⟩
abbrev S16x1536 : Shape := ⟨2, ![16, 1536]⟩
abbrev S1024x1536 : Shape := ⟨2, ![1024, 1536]⟩

abbrev nBuf : Space → Nat
  | .hbm => 3
  | .vmem => 6
  | .smem => 0
  | _ => 0

abbrev bufTy : (tb : Table) → Fin (tcTables nBuf tb) → BufTy
  | .hbm, ⟨0, _⟩ => ⟨S16x2048, .bf16⟩
  | .hbm, ⟨1, _⟩ => ⟨S16x3072, .bf16⟩
  | .hbm, ⟨2, _⟩ => ⟨S2048x3072, .f32⟩
  | .local _ .vmem, ⟨0, _⟩ => ⟨S16x1024, .bf16⟩
  | .local _ .vmem, ⟨1, _⟩ => ⟨S16x1024, .bf16⟩
  | .local _ .vmem, ⟨2, _⟩ => ⟨S16x1536, .bf16⟩
  | .local _ .vmem, ⟨3, _⟩ => ⟨S16x1536, .bf16⟩
  | .local _ .vmem, ⟨4, _⟩ => ⟨S1024x1536, .f32⟩
  | .local _ .vmem, ⟨5, _⟩ => ⟨S1024x1536, .f32⟩
  | _, _ => ⟨S16x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S16x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S16x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference15Ideal.lean ====
abbrev S16x2048 : Shape := ⟨2, ![16, 2048]⟩
abbrev S16x3072 : Shape := ⟨2, ![16, 3072]⟩
abbrev S_ : Shape := ⟨0, ![]⟩
abbrev S2048x3072 : Shape := ⟨2, ![2048, 3072]⟩
abbrev S3072x2048 : Shape := ⟨2, ![3072, 2048]⟩

abbrev nBuf : Space → Nat
  | .hbm => 9
  | .vmem => 0
  | .smem => 0
  | _ => 0

abbrev bufTy : (tb : Table) → Fin (tcTables nBuf tb) → BufTy
  | .hbm, ⟨0, _⟩ => ⟨S16x2048, .bf16⟩
  | .hbm, ⟨1, _⟩ => ⟨S16x3072, .bf16⟩
  | .hbm, ⟨2, _⟩ => ⟨S_, .f32⟩
  | .hbm, ⟨3, _⟩ => ⟨S2048x3072, .f32⟩
  | .hbm, ⟨4, _⟩ => ⟨S16x2048, .f32⟩
  | .hbm, ⟨5, _⟩ => ⟨S16x3072, .f32⟩
  | .hbm, ⟨6, _⟩ => ⟨S16x3072, .f32⟩
  | .hbm, ⟨7, _⟩ => ⟨S3072x2048, .f32⟩
  | .hbm, ⟨8, _⟩ => ⟨S2048x3072, .f32⟩
  | _, _ => ⟨S16x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel16.lean ====
abbrev S16x3072 : Shape := ⟨2, ![16, 3072]⟩
abbrev S2048x3072 : Shape := ⟨2, ![2048, 3072]⟩
abbrev S16x2048 : Shape := ⟨2, ![16, 2048]⟩
abbrev S1024x3072 : Shape := ⟨2, ![1024, 3072]⟩
abbrev S16x1024 : Shape := ⟨2, ![16, 1024]⟩

abbrev nBuf : Space → Nat
  | .hbm => 3
  | .vmem => 5
  | .smem => 0
  | _ => 0

abbrev bufTy : (tb : Table) → Fin (tcTables nBuf tb) → BufTy
  | .hbm, ⟨0, _⟩ => ⟨S16x3072, .bf16⟩
  | .hbm, ⟨1, _⟩ => ⟨S2048x3072, .bf16⟩
  | .hbm, ⟨2, _⟩ => ⟨S16x2048, .f32⟩
  | .local _ .vmem, ⟨0, _⟩ => ⟨S16x3072, .bf16⟩
  | .local _ .vmem, ⟨1, _⟩ => ⟨S1024x3072, .bf16⟩
  | .local _ .vmem, ⟨2, _⟩ => ⟨S1024x3072, .bf16⟩
  | .local _ .vmem, ⟨3, _⟩ => ⟨S16x1024, .f32⟩
  | .local _ .vmem, ⟨4, _⟩ => ⟨S16x1024, .f32⟩
  | _, _ => ⟨S16x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![v0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S16x3072 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1024x3072 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S16x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference16Ideal.lean ====
abbrev S16x3072 : Shape := ⟨2, ![16, 3072]⟩
abbrev S2048x3072 : Shape := ⟨2, ![2048, 3072]⟩
abbrev S_ : Shape := ⟨0, ![]⟩
abbrev S16x2048 : Shape := ⟨2, ![16, 2048]⟩

abbrev nBuf : Space → Nat
  | .hbm => 8
  | .vmem => 0
  | .smem => 0
  | _ => 0

abbrev bufTy : (tb : Table) → Fin (tcTables nBuf tb) → BufTy
  | .hbm, ⟨0, _⟩ => ⟨S16x3072, .bf16⟩
  | .hbm, ⟨1, _⟩ => ⟨S2048x3072, .bf16⟩
  | .hbm, ⟨2, _⟩ => ⟨S_, .f32⟩
  | .hbm, ⟨3, _⟩ => ⟨S16x2048, .f32⟩
  | .hbm, ⟨4, _⟩ => ⟨S2048x3072, .f32⟩
  | .hbm, ⟨5, _⟩ => ⟨S16x3072, .f32⟩
  | .hbm, ⟨6, _⟩ => ⟨S16x3072, .f32⟩
  | .hbm, ⟨7, _⟩ => ⟨S16x2048, .f32⟩
  | _, _ => ⟨S16x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel17.lean ====
abbrev S8192x2048 : Shape := ⟨2, ![8192, 2048]⟩
abbrev S1x2048 : Shape := ⟨2, ![1, 2048]⟩
abbrev S256x2048 : Shape := ⟨2, ![256, 2048]⟩
abbrev S16x2048 : Shape := ⟨2, ![16, 2048]⟩
abbrev S16 : Shape := ⟨1, ![16]⟩
abbrev S16x1 : Shape := ⟨2, ![16, 1]⟩
abbrev S2048 : Shape := ⟨1, ![2048]⟩

abbrev nBuf : Space → Nat
  | .hbm => 10
  | .vmem => 14
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S8192x2048, .bf16⟩
  | .hbm, ⟨5, _⟩ => ⟨S8192x2048, .f32⟩
  | .hbm, ⟨6, _⟩ => ⟨S8192x2048, .f32⟩
  | .hbm, ⟨7, _⟩ => ⟨S1x2048, .f32⟩
  | .hbm, ⟨8, _⟩ => ⟨S1x2048, .f32⟩
  | .hbm, ⟨9, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S1x2048, .f32⟩
  | .local _ .vmem, ⟨4, _⟩ => ⟨S1x2048, .f32⟩
  | .local _ .vmem, ⟨5, _⟩ => ⟨S256x2048, .bf16⟩
  | .local _ .vmem, ⟨6, _⟩ => ⟨S256x2048, .bf16⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S1x2048, .f32⟩
  | .local _ .vmem, ⟨12, _⟩ => ⟨S1x2048, .f32⟩
  | .local _ .vmem, ⟨13, _⟩ => ⟨S1x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem9_0 : DmaSem sig := 13

abbrev nD : Nat := 1
abbrev τ : Topo := Topo.v7x

variable {F : FTy → Type} [FloatOps F]

abbrev grid0 : Pipeline.Grid := ⟨2, ![1, 32], ![false, false]⟩

@[reducible] def k0_t1_loop : Scf.Loop 32 :=
  let c0_i32 : BitVec 32 := 0#32
  let c16_i32 : BitVec 32 := 16#32
  let v5 : BitVec 32 := Scalar.addi c0_i32 c16_i32
  let c1_i32 : BitVec 32 := 1#32
  ⟨c0_i32, v5, c1_i32⟩
def k0_mult1 (k0_t1 : Fin k0_t1_loop.trips) : BitVec 32 :=
  let c0_i32 : BitVec 32 := 0#32
  let c1_i32 : BitVec 32 := 1#32
  let arg12 : BitVec 32 := Scf.iv c0_i32 c1_i32 k0_t1
  let c16_i32_20 : BitVec 32 := 16#32
  let v22 : BitVec 32 := Scalar.muli arg12 c16_i32_20
  v22
def k0_off1 (k0_t1 : Fin k0_t1_loop.trips) : Fin 2 → Nat :=
  let c0_i32 : BitVec 32 := 0#32
  let c1_i32 : BitVec 32 := 1#32
  let arg12 : BitVec 32 := Scf.iv c0_i32 c1_i32 k0_t1
  let c16_i32_20 : BitVec 32 := 16#32
  let v22 : BitVec 32 := Scalar.muli arg12 c16_i32_20
  let v23 : BitVec 32 := v22
  let v24 : Index := Scalar.indexCast v23
  let c0_21 : Index := 0#32
  ![v24.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]
-- ==== Reference17Ideal.lean ====
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩
abbrev S2048 : Shape := ⟨1, ![2048]⟩

abbrev nBuf : Space → Nat
  | .hbm => 66
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S8192x2048, .bf16⟩
  | .hbm, ⟨5, _⟩ => ⟨S8192x2048, .f32⟩
  | .hbm, ⟨6, _⟩ => ⟨S8192x2048, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S_, .f32⟩
  | .hbm, ⟨26, _⟩ => ⟨S1x2048, .f32⟩
  | .hbm, ⟨27, _⟩ => ⟨S1x2048, .f32⟩
  | .hbm, ⟨28, _⟩ => ⟨S8192x2048, .f32⟩
  | .hbm, ⟨29, _⟩ => ⟨S8192x2048, .f32⟩
  | .hbm, ⟨30, _⟩ => ⟨S8192x2048, .f32⟩
  | .hbm, ⟨31, _⟩ => ⟨S8192x2048, .f32⟩
  | .hbm, ⟨32, _⟩ => ⟨S8192x2048, .f32⟩
  | .hbm, ⟨33, _⟩ => ⟨S_, .f32⟩
  | .hbm, ⟨34, _⟩ => ⟨S2048, .f32⟩
  | .hbm, ⟨35, _⟩ => ⟨S1x2048, .f32⟩
  | .hbm, ⟨36, _⟩ => ⟨S8192x2048, .f32⟩
  | .hbm, ⟨37, _⟩ => ⟨S_, .f32⟩
  | .hbm, ⟨38, _⟩ => ⟨S2048, .f32⟩
  | .hbm, ⟨39, _⟩ => ⟨S1x2048, .f32⟩
  | .hbm, ⟨40, _⟩ => ⟨S8192x2048, .f32⟩
  | .hbm, ⟨41, _⟩ => ⟨S8192x2048, .f32⟩
  | .hbm, ⟨42, _⟩ => ⟨S8192x2048, .f32⟩
  | .hbm, ⟨43, _⟩ => ⟨S_, .f32⟩
  | .hbm, ⟨44, _⟩ => ⟨S2048, .f32⟩
  | .hbm, ⟨45, _⟩ => ⟨S1x2048, .f32⟩
  | .hbm, ⟨46, _⟩ => ⟨S8192x2048, .f32⟩
  | .hbm, ⟨47, _⟩ => ⟨S8192x2048, .f32⟩
  | .hbm, ⟨48, _⟩ => ⟨S8192x2048, .f32⟩
  | .hbm, ⟨49, _⟩ => ⟨S_, .f32⟩
  | .hbm, ⟨50, _⟩ => ⟨S8192, .f32⟩
  | .hbm, ⟨51, _⟩ => ⟨S8192x1, .f32⟩
  | .hbm, ⟨52, _⟩ => ⟨S8192x2048, .f32⟩
  | .hbm, ⟨53, _⟩ => ⟨S8192x2048, .f32⟩
  | .hbm, ⟨54, _⟩ => ⟨S8192x1, .f32⟩
  | .hbm, ⟨55, _⟩ => ⟨S_, .f32⟩
  | .hbm, ⟨56, _⟩ => ⟨S8192x1, .f32⟩
  | .hbm, ⟨57, _⟩ => ⟨S8192x1, .f32⟩
  | .hbm, ⟨58, _⟩ => ⟨S_, .f32⟩
  | .hbm, ⟨59, _⟩ => ⟨S8192, .f32⟩
  | .hbm, ⟨60, _⟩ => ⟨S8192x2048, .f32⟩
  | .hbm, ⟨61, _⟩ => ⟨S8192x2048, .f32⟩
  | .hbm, ⟨62, _⟩ => ⟨S8192x2048, .f32⟩
  | .hbm, ⟨63, _⟩ => ⟨S8192x2048, .f32⟩
  | .hbm, ⟨64, _⟩ => ⟨S8192x2048, .f32⟩
  | .hbm, ⟨65, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_5 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_6 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_7 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_8 : Ref sig .tc := ⟨.hbm, 55, rfl⟩
abbrev main_v40 : Ref sig .tc := ⟨.hbm, 56, rfl⟩
abbrev main_v41 : Ref sig .tc := ⟨.hbm, 57, rfl⟩
abbrev main_cst_9 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩

abbrev nD : Nat := 1
abbrev τ : Topo := Topo.v7x

variable {F : FTy → Type} [FloatOps F]
-- ==== Kernel18.lean ====
abbrev S512x2048 : Shape := ⟨2, ![512, 2048]⟩
abbrev S64x2048 : Shape := ⟨2, ![64, 2048]⟩
abbrev S8x2048 : Shape := ⟨2, ![8, 2048]⟩

abbrev nBuf : Space → Nat
  | .hbm => 7
  | .vmem => 14
  | .smem => 0
  | _ => 0

abbrev bufTy : (tb : Table) → Fin (tcTables nBuf tb) → BufTy
  | .hbm, ⟨0, _⟩ => ⟨S512x2048, .f32⟩
  | .hbm, ⟨1, _⟩ => ⟨S512x2048, .f32⟩
  | .hbm, ⟨2, _⟩ => ⟨S512x2048, .f32⟩
  | .hbm, ⟨3, _⟩ => ⟨S512x2048, .f32⟩
  | .hbm, ⟨4, _⟩ => ⟨S512x2048, .f32⟩
  | .hbm, ⟨5, _⟩ => ⟨S512x2048, .f32⟩
  | .hbm, ⟨6, _⟩ => ⟨S512x2048, .f32⟩
  | .local _ .vmem, ⟨0, _⟩ => ⟨S64x2048, .f32⟩
  | .local _ .vmem, ⟨1, _⟩ => ⟨S64x2048, .f32⟩
  | .local _ .vmem, ⟨2, _⟩ => ⟨S64x2048, .f32⟩
  | .local _ .vmem, ⟨3, _⟩ => ⟨S64x2048, .f32⟩
  | .local _ .vmem, ⟨4, _⟩ => ⟨S64x2048, .f32⟩
  | .local _ .vmem, ⟨5, _⟩ => ⟨S64x2048, .f32⟩
  | .local _ .vmem, ⟨6, _⟩ => ⟨S64x2048, .f32⟩
  | .local _ .vmem, ⟨7, _⟩ => ⟨S64x2048, .f32⟩
  | .local _ .vmem, ⟨8, _⟩ => ⟨S64x2048, .f32⟩
  | .local _ .vmem, ⟨9, _⟩ => ⟨S64x2048, .f32⟩
  | .local _ .vmem, ⟨10, _⟩ => ⟨S64x2048, .f32⟩
  | .local _ .vmem, ⟨11, _⟩ => ⟨S64x2048, .f32⟩
  | .local _ .vmem, ⟨12, _⟩ => ⟨S64x2048, .f32⟩
  | .local _ .vmem, ⟨13, _⟩ => ⟨S64x2048, .f32⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![1, 8], ![false, false]⟩

@[reducible] def k0_t1_loop : Scf.Loop 32 :=
  let c0_i32 : BitVec 32 := 0#32
  let c8_i32 : BitVec 32 := 8#32
  let v0 : BitVec 32 := Scalar.addi c0_i32 c8_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg9 : BitVec 32 := Scf.iv c0_i32 c1_i32 k0_t1
  let c8_i32_1 : BitVec 32 := 8#32
  let v1 : BitVec 32 := Scalar.muli arg9 c8_i32_1
  v1
def k0_off1 (k0_t1 : Fin k0_t1_loop.trips) : Fin 2 → Nat :=
  let c0_i32 : BitVec 32 := 0#32
  let c1_i32 : BitVec 32 := 1#32
  let arg9 : BitVec 32 := Scf.iv c0_i32 c1_i32 k0_t1
  let c8_i32_1 : BitVec 32 := 8#32
  let v1 : BitVec 32 := Scalar.muli arg9 c8_i32_1
  let v2 : BitVec 32 := v1
  let v3 : Index := Scalar.indexCast v2
  let c0 : Index := 0#32
  ![v3.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S64x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S64x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S64x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S64x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S64x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S64x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S64x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference18Ideal.lean ====
abbrev S512x2048 : Shape := ⟨2, ![512, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S512x2048, .f32⟩
  | .hbm, ⟨1, _⟩ => ⟨S512x2048, .f32⟩
  | .hbm, ⟨2, _⟩ => ⟨S512x2048, .f32⟩
  | .hbm, ⟨3, _⟩ => ⟨S512x2048, .f32⟩
  | .hbm, ⟨4, _⟩ => ⟨S_, .f32⟩
  | .hbm, ⟨5, _⟩ => ⟨S512x2048, .f32⟩
  | .hbm, ⟨6, _⟩ => ⟨S512x2048, .f32⟩
  | .hbm, ⟨7, _⟩ => ⟨S_, .f32⟩
  | .hbm, ⟨8, _⟩ => ⟨S512x2048, .f32⟩
  | .hbm, ⟨9, _⟩ => ⟨S512x2048, .f32⟩
  | .hbm, ⟨10, _⟩ => ⟨S512x2048, .f32⟩
  | .hbm, ⟨11, _⟩ => ⟨S_, .f32⟩
  | .hbm, ⟨12, _⟩ => ⟨S512x2048, .f32⟩
  | .hbm, ⟨13, _⟩ => ⟨S512x2048, .f32⟩
  | .hbm, ⟨14, _⟩ => ⟨S512x2048, .f32⟩
  | .hbm, ⟨15, _⟩ => ⟨S_, .f32⟩
  | .hbm, ⟨16, _⟩ => ⟨S512x2048, .f32⟩
  | .hbm, ⟨17, _⟩ => ⟨S512x2048, .f32⟩
  | .hbm, ⟨18, _⟩ => ⟨S512x2048, .f32⟩
  | .hbm, ⟨19, _⟩ => ⟨S_, .f32⟩
  | .hbm, ⟨20, _⟩ => ⟨S512x2048, .f32⟩
  | .hbm, ⟨21, _⟩ => ⟨S512x2048, .f32⟩
  | .hbm, ⟨22, _⟩ => ⟨S_, .f32⟩
  | .hbm, ⟨23, _⟩ => ⟨S512x2048, .f32⟩
  | .hbm, ⟨24, _⟩ => ⟨S512x2048, .f32⟩
  | .hbm, ⟨25, _⟩ => ⟨S512x2048, .f32⟩
  | .hbm, ⟨26, _⟩ => ⟨S_, .f32⟩
  | .hbm, ⟨27, _⟩ => ⟨S512x2048, .f32⟩
  | .hbm, ⟨28, _⟩ => ⟨S512x2048, .f32⟩
  | .hbm, ⟨29, _⟩ => ⟨S512x2048, .f32⟩
  | .hbm, ⟨30, _⟩ => ⟨S_, .f32⟩
  | .hbm, ⟨31, _⟩ => ⟨S512x2048, .f32⟩
  | .hbm, ⟨32, _⟩ => ⟨S512x2048, .f32⟩
  | .hbm, ⟨33, _⟩ => ⟨S512x2048, .f32⟩
  | .hbm, ⟨34, _⟩ => ⟨S_, .f32⟩
  | .hbm, ⟨35, _⟩ => ⟨S512x2048, .f32⟩
  | .hbm, ⟨36, _⟩ => ⟨S512x2048, .f32⟩
  | _, _ => ⟨S512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel19.lean ====
abbrev S1088x1024 : Shape := ⟨2, ![1088, 1024]⟩
abbrev S64x1024 : Shape := ⟨2, ![64, 1024]⟩
abbrev S8x1024 : Shape := ⟨2, ![8, 1024]⟩

abbrev nBuf : Space → Nat
  | .hbm => 7
  | .vmem => 14
  | .smem => 0
  | _ => 0

abbrev bufTy : (tb : Table) → Fin (tcTables nBuf tb) → BufTy
  | .hbm, ⟨0, _⟩ => ⟨S1088x1024, .f32⟩
  | .hbm, ⟨1, _⟩ => ⟨S1088x1024, .f32⟩
  | .hbm, ⟨2, _⟩ => ⟨S1088x1024, .f32⟩
  | .hbm, ⟨3, _⟩ => ⟨S1088x1024, .f32⟩
  | .hbm, ⟨4, _⟩ => ⟨S1088x1024, .f32⟩
  | .hbm, ⟨5, _⟩ => ⟨S1088x1024, .f32⟩
  | .hbm, ⟨6, _⟩ => ⟨S1088x1024, .f32⟩
  | .local _ .vmem, ⟨0, _⟩ => ⟨S64x1024, .f32⟩
  | .local _ .vmem, ⟨1, _⟩ => ⟨S64x1024, .f32⟩
  | .local _ .vmem, ⟨2, _⟩ => ⟨S64x1024, .f32⟩
  | .local _ .vmem, ⟨3, _⟩ => ⟨S64x1024, .f32⟩
  | .local _ .vmem, ⟨4, _⟩ => ⟨S64x1024, .f32⟩
  | .local _ .vmem, ⟨5, _⟩ => ⟨S64x1024, .f32⟩
  | .local _ .vmem, ⟨6, _⟩ => ⟨S64x1024, .f32⟩
  | .local _ .vmem, ⟨7, _⟩ => ⟨S64x1024, .f32⟩
  | .local _ .vmem, ⟨8, _⟩ => ⟨S64x1024, .f32⟩
  | .local _ .vmem, ⟨9, _⟩ => ⟨S64x1024, .f32⟩
  | .local _ .vmem, ⟨10, _⟩ => ⟨S64x1024, .f32⟩
  | .local _ .vmem, ⟨11, _⟩ => ⟨S64x1024, .f32⟩
  | .local _ .vmem, ⟨12, _⟩ => ⟨S64x1024, .f32⟩
  | .local _ .vmem, ⟨13, _⟩ => ⟨S64x1024, .f32⟩
  | _, _ => ⟨S1088x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![1, 17], ![false, false]⟩

@[reducible] def k0_t1_loop : Scf.Loop 32 :=
  let c0_i32 : BitVec 32 := 0#32
  let c8_i32 : BitVec 32 := 8#32
  let v0 : BitVec 32 := Scalar.addi c0_i32 c8_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg9 : BitVec 32 := Scf.iv c0_i32 c1_i32 k0_t1
  let c8_i32_1 : BitVec 32 := 8#32
  let v1 : BitVec 32 := Scalar.muli arg9 c8_i32_1
  v1
def k0_off1 (k0_t1 : Fin k0_t1_loop.trips) : Fin 2 → Nat :=
  let c0_i32 : BitVec 32 := 0#32
  let c1_i32 : BitVec 32 := 1#32
  let arg9 : BitVec 32 := Scf.iv c0_i32 c1_i32 k0_t1
  let c8_i32_1 : BitVec 32 := 8#32
  let v1 : BitVec 32 := Scalar.muli arg9 c8_i32_1
  let v2 : BitVec 32 := v1
  let v3 : Index := Scalar.indexCast v2
  let c0 : Index := 0#32
  ![v3.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S64x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S64x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference19Ideal.lean ====
abbrev S1088x1024 : Shape := ⟨2, ![1088, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1088x1024, .f32⟩
  | .hbm, ⟨1, _⟩ => ⟨S1088x1024, .f32⟩
  | .hbm, ⟨2, _⟩ => ⟨S1088x1024, .f32⟩
  | .hbm, ⟨3, _⟩ => ⟨S1088x1024, .f32⟩
  | .hbm, ⟨4, _⟩ => ⟨S_, .f32⟩
  | .hbm, ⟨5, _⟩ => ⟨S1088x1024, .f32⟩
  | .hbm, ⟨6, _⟩ => ⟨S1088x1024, .f32⟩
  | .hbm, ⟨7, _⟩ => ⟨S_, .f32⟩
  | .hbm, ⟨8, _⟩ => ⟨S1088x1024, .f32⟩
  | .hbm, ⟨9, _⟩ => ⟨S1088x1024, .f32⟩
  | .hbm, ⟨10, _⟩ => ⟨S1088x1024, .f32⟩
  | .hbm, ⟨11, _⟩ => ⟨S_, .f32⟩
  | .hbm, ⟨12, _⟩ => ⟨S1088x1024, .f32⟩
  | .hbm, ⟨13, _⟩ => ⟨S1088x1024, .f32⟩
  | .hbm, ⟨14, _⟩ => ⟨S1088x1024, .f32⟩
  | .hbm, ⟨15, _⟩ => ⟨S_, .f32⟩
  | .hbm, ⟨16, _⟩ => ⟨S1088x1024, .f32⟩
  | .hbm, ⟨17, _⟩ => ⟨S1088x1024, .f32⟩
  | .hbm, ⟨18, _⟩ => ⟨S1088x1024, .f32⟩
  | .hbm, ⟨19, _⟩ => ⟨S_, .f32⟩
  | .hbm, ⟨20, _⟩ => ⟨S1088x1024, .f32⟩
  | .hbm, ⟨21, _⟩ => ⟨S1088x1024, .f32⟩
  | .hbm, ⟨22, _⟩ => ⟨S_, .f32⟩
  | .hbm, ⟨23, _⟩ => ⟨S1088x1024, .f32⟩
  | .hbm, ⟨24, _⟩ => ⟨S1088x1024, .f32⟩
  | .hbm, ⟨25, _⟩ => ⟨S1088x1024, .f32⟩
  | .hbm, ⟨26, _⟩ => ⟨S_, .f32⟩
  | .hbm, ⟨27, _⟩ => ⟨S1088x1024, .f32⟩
  | .hbm, ⟨28, _⟩ => ⟨S1088x1024, .f32⟩
  | .hbm, ⟨29, _⟩ => ⟨S1088x1024, .f32⟩
  | .hbm, ⟨30, _⟩ => ⟨S_, .f32⟩
  | .hbm, ⟨31, _⟩ => ⟨S1088x1024, .f32⟩
  | .hbm, ⟨32, _⟩ => ⟨S1088x1024, .f32⟩
  | .hbm, ⟨33, _⟩ => ⟨S1088x1024, .f32⟩
  | .hbm, ⟨34, _⟩ => ⟨S_, .f32⟩
  | .hbm, ⟨35, _⟩ => ⟨S1088x1024, .f32⟩
  | .hbm, ⟨36, _⟩ => ⟨S1088x1024, .f32⟩
  | _, _ => ⟨S1088x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel20.lean ====
abbrev S2048x3072 : Shape := ⟨2, ![2048, 3072]⟩
abbrev S64x3072 : Shape := ⟨2, ![64, 3072]⟩
abbrev S8x3072 : Shape := ⟨2, ![8, 3072]⟩

abbrev nBuf : Space → Nat
  | .hbm => 7
  | .vmem => 14
  | .smem => 0
  | _ => 0

abbrev bufTy : (tb : Table) → Fin (tcTables nBuf tb) → BufTy
  | .hbm, ⟨0, _⟩ => ⟨S2048x3072, .f32⟩
  | .hbm, ⟨1, _⟩ => ⟨S2048x3072, .f32⟩
  | .hbm, ⟨2, _⟩ => ⟨S2048x3072, .f32⟩
  | .hbm, ⟨3, _⟩ => ⟨S2048x3072, .f32⟩
  | .hbm, ⟨4, _⟩ => ⟨S2048x3072, .f32⟩
  | .hbm, ⟨5, _⟩ => ⟨S2048x3072, .f32⟩
  | .hbm, ⟨6, _⟩ => ⟨S2048x3072, .f32⟩
  | .local _ .vmem, ⟨0, _⟩ => ⟨S64x3072, .f32⟩
  | .local _ .vmem, ⟨1, _⟩ => ⟨S64x3072, .f32⟩
  | .local _ .vmem, ⟨2, _⟩ => ⟨S64x3072, .f32⟩
  | .local _ .vmem, ⟨3, _⟩ => ⟨S64x3072, .f32⟩
  | .local _ .vmem, ⟨4, _⟩ => ⟨S64x3072, .f32⟩
  | .local _ .vmem, ⟨5, _⟩ => ⟨S64x3072, .f32⟩
  | .local _ .vmem, ⟨6, _⟩ => ⟨S64x3072, .f32⟩
  | .local _ .vmem, ⟨7, _⟩ => ⟨S64x3072, .f32⟩
  | .local _ .vmem, ⟨8, _⟩ => ⟨S64x3072, .f32⟩
  | .local _ .vmem, ⟨9, _⟩ => ⟨S64x3072, .f32⟩
  | .local _ .vmem, ⟨10, _⟩ => ⟨S64x3072, .f32⟩
  | .local _ .vmem, ⟨11, _⟩ => ⟨S64x3072, .f32⟩
  | .local _ .vmem, ⟨12, _⟩ => ⟨S64x3072, .f32⟩
  | .local _ .vmem, ⟨13, _⟩ => ⟨S64x3072, .f32⟩
  | _, _ => ⟨S2048x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![1, 32], ![false, false]⟩

@[reducible] def k0_t1_loop : Scf.Loop 32 :=
  let c0_i32 : BitVec 32 := 0#32
  let c8_i32 : BitVec 32 := 8#32
  let v0 : BitVec 32 := Scalar.addi c0_i32 c8_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg9 : BitVec 32 := Scf.iv c0_i32 c1_i32 k0_t1
  let c8_i32_1 : BitVec 32 := 8#32
  let v1 : BitVec 32 := Scalar.muli arg9 c8_i32_1
  v1
def k0_off1 (k0_t1 : Fin k0_t1_loop.trips) : Fin 2 → Nat :=
  let c0_i32 : BitVec 32 := 0#32
  let c1_i32 : BitVec 32 := 1#32
  let arg9 : BitVec 32 := Scf.iv c0_i32 c1_i32 k0_t1
  let c8_i32_1 : BitVec 32 := 8#32
  let v1 : BitVec 32 := Scalar.muli arg9 c8_i32_1
  let v2 : BitVec 32 := v1
  let v3 : Index := Scalar.indexCast v2
  let c0 : Index := 0#32
  ![v3.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S64x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S64x3072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S64x3072 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S64x3072 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S64x3072 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S64x3072 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S64x3072 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference20Ideal.lean ====
abbrev S2048x3072 : Shape := ⟨2, ![2048, 3072]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x3072, .f32⟩
  | .hbm, ⟨1, _⟩ => ⟨S2048x3072, .f32⟩
  | .hbm, ⟨2, _⟩ => ⟨S2048x3072, .f32⟩
  | .hbm, ⟨3, _⟩ => ⟨S2048x3072, .f32⟩
  | .hbm, ⟨4, _⟩ => ⟨S_, .f32⟩
  | .hbm, ⟨5, _⟩ => ⟨S2048x3072, .f32⟩
  | .hbm, ⟨6, _⟩ => ⟨S2048x3072, .f32⟩
  | .hbm, ⟨7, _⟩ => ⟨S_, .f32⟩
  | .hbm, ⟨8, _⟩ => ⟨S2048x3072, .f32⟩
  | .hbm, ⟨9, _⟩ => ⟨S2048x3072, .f32⟩
  | .hbm, ⟨10, _⟩ => ⟨S2048x3072, .f32⟩
  | .hbm, ⟨11, _⟩ => ⟨S_, .f32⟩
  | .hbm, ⟨12, _⟩ => ⟨S2048x3072, .f32⟩
  | .hbm, ⟨13, _⟩ => ⟨S2048x3072, .f32⟩
  | .hbm, ⟨14, _⟩ => ⟨S2048x3072, .f32⟩
  | .hbm, ⟨15, _⟩ => ⟨S_, .f32⟩
  | .hbm, ⟨16, _⟩ => ⟨S2048x3072, .f32⟩
  | .hbm, ⟨17, _⟩ => ⟨S2048x3072, .f32⟩
  | .hbm, ⟨18, _⟩ => ⟨S2048x3072, .f32⟩
  | .hbm, ⟨19, _⟩ => ⟨S_, .f32⟩
  | .hbm, ⟨20, _⟩ => ⟨S2048x3072, .f32⟩
  | .hbm, ⟨21, _⟩ => ⟨S2048x3072, .f32⟩
  | .hbm, ⟨22, _⟩ => ⟨S_, .f32⟩
  | .hbm, ⟨23, _⟩ => ⟨S2048x3072, .f32⟩
  | .hbm, ⟨24, _⟩ => ⟨S2048x3072, .f32⟩
  | .hbm, ⟨25, _⟩ => ⟨S2048x3072, .f32⟩
  | .hbm, ⟨26, _⟩ => ⟨S_, .f32⟩
  | .hbm, ⟨27, _⟩ => ⟨S2048x3072, .f32⟩
  | .hbm, ⟨28, _⟩ => ⟨S2048x3072, .f32⟩
  | .hbm, ⟨29, _⟩ => ⟨S2048x3072, .f32⟩
  | .hbm, ⟨30, _⟩ => ⟨S_, .f32⟩
  | .hbm, ⟨31, _⟩ => ⟨S2048x3072, .f32⟩
  | .hbm, ⟨32, _⟩ => ⟨S2048x3072, .f32⟩
  | .hbm, ⟨33, _⟩ => ⟨S2048x3072, .f32⟩
  | .hbm, ⟨34, _⟩ => ⟨S_, .f32⟩
  | .hbm, ⟨35, _⟩ => ⟨S2048x3072, .f32⟩
  | .hbm, ⟨36, _⟩ => ⟨S2048x3072, .f32⟩
  | _, _ => ⟨S2048x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel21.lean ====
abbrev S2048x1024 : Shape := ⟨2, ![2048, 1024]⟩
abbrev S64x1024 : Shape := ⟨2, ![64, 1024]⟩
abbrev S8x1024 : Shape := ⟨2, ![8, 1024]⟩

abbrev nBuf : Space → Nat
  | .hbm => 7
  | .vmem => 14
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .local _ .vmem, ⟨0, _⟩ => ⟨S64x1024, .f32⟩
  | .local _ .vmem, ⟨1, _⟩ => ⟨S64x1024, .f32⟩
  | .local _ .vmem, ⟨2, _⟩ => ⟨S64x1024, .f32⟩
  | .local _ .vmem, ⟨3, _⟩ => ⟨S64x1024, .f32⟩
  | .local _ .vmem, ⟨4, _⟩ => ⟨S64x1024, .f32⟩
  | .local _ .vmem, ⟨5, _⟩ => ⟨S64x1024, .f32⟩
  | .local _ .vmem, ⟨6, _⟩ => ⟨S64x1024, .f32⟩
  | .local _ .vmem, ⟨7, _⟩ => ⟨S64x1024, .f32⟩
  | .local _ .vmem, ⟨8, _⟩ => ⟨S64x1024, .f32⟩
  | .local _ .vmem, ⟨9, _⟩ => ⟨S64x1024, .f32⟩
  | .local _ .vmem, ⟨10, _⟩ => ⟨S64x1024, .f32⟩
  | .local _ .vmem, ⟨11, _⟩ => ⟨S64x1024, .f32⟩
  | .local _ .vmem, ⟨12, _⟩ => ⟨S64x1024, .f32⟩
  | .local _ .vmem, ⟨13, _⟩ => ⟨S64x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![1, 32], ![false, false]⟩

@[reducible] def k0_t1_loop : Scf.Loop 32 :=
  let c0_i32 : BitVec 32 := 0#32
  let c8_i32 : BitVec 32 := 8#32
  let v0 : BitVec 32 := Scalar.addi c0_i32 c8_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg9 : BitVec 32 := Scf.iv c0_i32 c1_i32 k0_t1
  let c8_i32_1 : BitVec 32 := 8#32
  let v1 : BitVec 32 := Scalar.muli arg9 c8_i32_1
  v1
def k0_off1 (k0_t1 : Fin k0_t1_loop.trips) : Fin 2 → Nat :=
  let c0_i32 : BitVec 32 := 0#32
  let c1_i32 : BitVec 32 := 1#32
  let arg9 : BitVec 32 := Scf.iv c0_i32 c1_i32 k0_t1
  let c8_i32_1 : BitVec 32 := 8#32
  let v1 : BitVec 32 := Scalar.muli arg9 c8_i32_1
  let v2 : BitVec 32 := v1
  let v3 : Index := Scalar.indexCast v2
  let c0 : Index := 0#32
  ![v3.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S64x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S64x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference21Ideal.lean ====
abbrev S2048x1024 : Shape := ⟨2, ![2048, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S_, .f32⟩
  | .hbm, ⟨5, _⟩ => ⟨S2048x1024, .f32⟩
  | .hbm, ⟨6, _⟩ => ⟨S2048x1024, .f32⟩
  | .hbm, ⟨7, _⟩ => ⟨S_, .f32⟩
  | .hbm, ⟨8, _⟩ => ⟨S2048x1024, .f32⟩
  | .hbm, ⟨9, _⟩ => ⟨S2048x1024, .f32⟩
  | .hbm, ⟨10, _⟩ => ⟨S2048x1024, .f32⟩
  | .hbm, ⟨11, _⟩ => ⟨S_, .f32⟩
  | .hbm, ⟨12, _⟩ => ⟨S2048x1024, .f32⟩
  | .hbm, ⟨13, _⟩ => ⟨S2048x1024, .f32⟩
  | .hbm, ⟨14, _⟩ => ⟨S2048x1024, .f32⟩
  | .hbm, ⟨15, _⟩ => ⟨S_, .f32⟩
  | .hbm, ⟨16, _⟩ => ⟨S2048x1024, .f32⟩
  | .hbm, ⟨17, _⟩ => ⟨S2048x1024, .f32⟩
  | .hbm, ⟨18, _⟩ => ⟨S2048x1024, .f32⟩
  | .hbm, ⟨19, _⟩ => ⟨S_, .f32⟩
  | .hbm, ⟨20, _⟩ => ⟨S2048x1024, .f32⟩
  | .hbm, ⟨21, _⟩ => ⟨S2048x1024, .f32⟩
  | .hbm, ⟨22, _⟩ => ⟨S_, .f32⟩
  | .hbm, ⟨23, _⟩ => ⟨S2048x1024, .f32⟩
  | .hbm, ⟨24, _⟩ => ⟨S2048x1024, .f32⟩
  | .hbm, ⟨25, _⟩ => ⟨S2048x1024, .f32⟩
  | .hbm, ⟨26, _⟩ => ⟨S_, .f32⟩
  | .hbm, ⟨27, _⟩ => ⟨S2048x1024, .f32⟩
  | .hbm, ⟨28, _⟩ => ⟨S2048x1024, .f32⟩
  | .hbm, ⟨29, _⟩ => ⟨S2048x1024, .f32⟩
  | .hbm, ⟨30, _⟩ => ⟨S_, .f32⟩
  | .hbm, ⟨31, _⟩ => ⟨S2048x1024, .f32⟩
  | .hbm, ⟨32, _⟩ => ⟨S2048x1024, .f32⟩
  | .hbm, ⟨33, _⟩ => ⟨S2048x1024, .f32⟩
  | .hbm, ⟨34, _⟩ => ⟨S_, .f32⟩
  | .hbm, ⟨35, _⟩ => ⟨S2048x1024, .f32⟩
  | .hbm, ⟨36, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel22.lean ====
abbrev S2048x2320 : Shape := ⟨2, ![2048, 2320]⟩
abbrev S64x2320 : Shape := ⟨2, ![64, 2320]⟩
abbrev S8x2320 : Shape := ⟨2, ![8, 2320]⟩

abbrev nBuf : Space → Nat
  | .hbm => 7
  | .vmem => 14
  | .smem => 0
  | _ => 0

abbrev bufTy : (tb : Table) → Fin (tcTables nBuf tb) → BufTy
  | .hbm, ⟨0, _⟩ => ⟨S2048x2320, .f32⟩
  | .hbm, ⟨1, _⟩ => ⟨S2048x2320, .f32⟩
  | .hbm, ⟨2, _⟩ => ⟨S2048x2320, .f32⟩
  | .hbm, ⟨3, _⟩ => ⟨S2048x2320, .f32⟩
  | .hbm, ⟨4, _⟩ => ⟨S2048x2320, .f32⟩
  | .hbm, ⟨5, _⟩ => ⟨S2048x2320, .f32⟩
  | .hbm, ⟨6, _⟩ => ⟨S2048x2320, .f32⟩
  | .local _ .vmem, ⟨0, _⟩ => ⟨S64x2320, .f32⟩
  | .local _ .vmem, ⟨1, _⟩ => ⟨S64x2320, .f32⟩
  | .local _ .vmem, ⟨2, _⟩ => ⟨S64x2320, .f32⟩
  | .local _ .vmem, ⟨3, _⟩ => ⟨S64x2320, .f32⟩
  | .local _ .vmem, ⟨4, _⟩ => ⟨S64x2320, .f32⟩
  | .local _ .vmem, ⟨5, _⟩ => ⟨S64x2320, .f32⟩
  | .local _ .vmem, ⟨6, _⟩ => ⟨S64x2320, .f32⟩
  | .local _ .vmem, ⟨7, _⟩ => ⟨S64x2320, .f32⟩
  | .local _ .vmem, ⟨8, _⟩ => ⟨S64x2320, .f32⟩
  | .local _ .vmem, ⟨9, _⟩ => ⟨S64x2320, .f32⟩
  | .local _ .vmem, ⟨10, _⟩ => ⟨S64x2320, .f32⟩
  | .local _ .vmem, ⟨11, _⟩ => ⟨S64x2320, .f32⟩
  | .local _ .vmem, ⟨12, _⟩ => ⟨S64x2320, .f32⟩
  | .local _ .vmem, ⟨13, _⟩ => ⟨S64x2320, .f32⟩
  | _, _ => ⟨S2048x2320, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![1, 32], ![false, false]⟩

@[reducible] def k0_t1_loop : Scf.Loop 32 :=
  let c0_i32 : BitVec 32 := 0#32
  let c8_i32 : BitVec 32 := 8#32
  let v0 : BitVec 32 := Scalar.addi c0_i32 c8_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg9 : BitVec 32 := Scf.iv c0_i32 c1_i32 k0_t1
  let c8_i32_1 : BitVec 32 := 8#32
  let v1 : BitVec 32 := Scalar.muli arg9 c8_i32_1
  v1
def k0_off1 (k0_t1 : Fin k0_t1_loop.trips) : Fin 2 → Nat :=
  let c0_i32 : BitVec 32 := 0#32
  let c1_i32 : BitVec 32 := 1#32
  let arg9 : BitVec 32 := Scf.iv c0_i32 c1_i32 k0_t1
  let c8_i32_1 : BitVec 32 := 8#32
  let v1 : BitVec 32 := Scalar.muli arg9 c8_i32_1
  let v2 : BitVec 32 := v1
  let v3 : Index := Scalar.indexCast v2
  let c0 : Index := 0#32
  ![v3.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S64x2320 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S64x2320 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S64x2320 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S64x2320 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S64x2320 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S64x2320 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S64x2320 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference22Ideal.lean ====
abbrev S2048x2320 : Shape := ⟨2, ![2048, 2320]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x2320, .f32⟩
  | .hbm, ⟨1, _⟩ => ⟨S2048x2320, .f32⟩
  | .hbm, ⟨2, _⟩ => ⟨S2048x2320, .f32⟩
  | .hbm, ⟨3, _⟩ => ⟨S2048x2320, .f32⟩
  | .hbm, ⟨4, _⟩ => ⟨S_, .f32⟩
  | .hbm, ⟨5, _⟩ => ⟨S2048x2320, .f32⟩
  | .hbm, ⟨6, _⟩ => ⟨S2048x2320, .f32⟩
  | .hbm, ⟨7, _⟩ => ⟨S_, .f32⟩
  | .hbm, ⟨8, _⟩ => ⟨S2048x2320, .f32⟩
  | .hbm, ⟨9, _⟩ => ⟨S2048x2320, .f32⟩
  | .hbm, ⟨10, _⟩ => ⟨S2048x2320, .f32⟩
  | .hbm, ⟨11, _⟩ => ⟨S_, .f32⟩
  | .hbm, ⟨12, _⟩ => ⟨S2048x2320, .f32⟩
  | .hbm, ⟨13, _⟩ => ⟨S2048x2320, .f32⟩
  | .hbm, ⟨14, _⟩ => ⟨S2048x2320, .f32⟩
  | .hbm, ⟨15, _⟩ => ⟨S_, .f32⟩
  | .hbm, ⟨16, _⟩ => ⟨S2048x2320, .f32⟩
  | .hbm, ⟨17, _⟩ => ⟨S2048x2320, .f32⟩
  | .hbm, ⟨18, _⟩ => ⟨S2048x2320, .f32⟩
  | .hbm, ⟨19, _⟩ => ⟨S_, .f32⟩
  | .hbm, ⟨20, _⟩ => ⟨S2048x2320, .f32⟩
  | .hbm, ⟨21, _⟩ => ⟨S2048x2320, .f32⟩
  | .hbm, ⟨22, _⟩ => ⟨S_, .f32⟩
  | .hbm, ⟨23, _⟩ => ⟨S2048x2320, .f32⟩
  | .hbm, ⟨24, _⟩ => ⟨S2048x2320, .f32⟩
  | .hbm, ⟨25, _⟩ => ⟨S2048x2320, .f32⟩
  | .hbm, ⟨26, _⟩ => ⟨S_, .f32⟩
  | .hbm, ⟨27, _⟩ => ⟨S2048x2320, .f32⟩
  | .hbm, ⟨28, _⟩ => ⟨S2048x2320, .f32⟩
  | .hbm, ⟨29, _⟩ => ⟨S2048x2320, .f32⟩
  | .hbm, ⟨30, _⟩ => ⟨S_, .f32⟩
  | .hbm, ⟨31, _⟩ => ⟨S2048x2320, .f32⟩
  | .hbm, ⟨32, _⟩ => ⟨S2048x2320, .f32⟩
  | .hbm, ⟨33, _⟩ => ⟨S2048x2320, .f32⟩
  | .hbm, ⟨34, _⟩ => ⟨S_, .f32⟩
  | .hbm, ⟨35, _⟩ => ⟨S2048x2320, .f32⟩
  | .hbm, ⟨36, _⟩ => ⟨S2048x2320, .f32⟩
  | _, _ => ⟨S2048x2320, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel23.lean ====
abbrev S2048x2816 : Shape := ⟨2, ![2048, 2816]⟩
abbrev S64x2816 : Shape := ⟨2, ![64, 2816]⟩
abbrev S8x2816 : Shape := ⟨2, ![8, 2816]⟩

abbrev nBuf : Space → Nat
  | .hbm => 7
  | .vmem => 14
  | .smem => 0
  | _ => 0

abbrev bufTy : (tb : Table) → Fin (tcTables nBuf tb) → BufTy
  | .hbm, ⟨0, _⟩ => ⟨S2048x2816, .f32⟩
  | .hbm, ⟨1, _⟩ => ⟨S2048x2816, .f32⟩
  | .hbm, ⟨2, _⟩ => ⟨S2048x2816, .f32⟩
  | .hbm, ⟨3, _⟩ => ⟨S2048x2816, .f32⟩
  | .hbm, ⟨4, _⟩ => ⟨S2048x2816, .f32⟩
  | .hbm, ⟨5, _⟩ => ⟨S2048x2816, .f32⟩
  | .hbm, ⟨6, _⟩ => ⟨S2048x2816, .f32⟩
  | .local _ .vmem, ⟨0, _⟩ => ⟨S64x2816, .f32⟩
  | .local _ .vmem, ⟨1, _⟩ => ⟨S64x2816, .f32⟩
  | .local _ .vmem, ⟨2, _⟩ => ⟨S64x2816, .f32⟩
  | .local _ .vmem, ⟨3, _⟩ => ⟨S64x2816, .f32⟩
  | .local _ .vmem, ⟨4, _⟩ => ⟨S64x2816, .f32⟩
  | .local _ .vmem, ⟨5, _⟩ => ⟨S64x2816, .f32⟩
  | .local _ .vmem, ⟨6, _⟩ => ⟨S64x2816, .f32⟩
  | .local _ .vmem, ⟨7, _⟩ => ⟨S64x2816, .f32⟩
  | .local _ .vmem, ⟨8, _⟩ => ⟨S64x2816, .f32⟩
  | .local _ .vmem, ⟨9, _⟩ => ⟨S64x2816, .f32⟩
  | .local _ .vmem, ⟨10, _⟩ => ⟨S64x2816, .f32⟩
  | .local _ .vmem, ⟨11, _⟩ => ⟨S64x2816, .f32⟩
  | .local _ .vmem, ⟨12, _⟩ => ⟨S64x2816, .f32⟩
  | .local _ .vmem, ⟨13, _⟩ => ⟨S64x2816, .f32⟩
  | _, _ => ⟨S2048x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![1, 32], ![false, false]⟩

@[reducible] def k0_t1_loop : Scf.Loop 32 :=
  let c0_i32 : BitVec 32 := 0#32
  let c8_i32 : BitVec 32 := 8#32
  let v0 : BitVec 32 := Scalar.addi c0_i32 c8_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg9 : BitVec 32 := Scf.iv c0_i32 c1_i32 k0_t1
  let c8_i32_1 : BitVec 32 := 8#32
  let v1 : BitVec 32 := Scalar.muli arg9 c8_i32_1
  v1
def k0_off1 (k0_t1 : Fin k0_t1_loop.trips) : Fin 2 → Nat :=
  let c0_i32 : BitVec 32 := 0#32
  let c1_i32 : BitVec 32 := 1#32
  let arg9 : BitVec 32 := Scf.iv c0_i32 c1_i32 k0_t1
  let c8_i32_1 : BitVec 32 := 8#32
  let v1 : BitVec 32 := Scalar.muli arg9 c8_i32_1
  let v2 : BitVec 32 := v1
  let v3 : Index := Scalar.indexCast v2
  let c0 : Index := 0#32
  ![v3.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S64x2816 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S64x2816 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S64x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S64x2816 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S64x2816 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S64x2816 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S64x2816 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference23Ideal.lean ====
abbrev S2048x2816 : Shape := ⟨2, ![2048, 2816]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x2816, .f32⟩
  | .hbm, ⟨1, _⟩ => ⟨S2048x2816, .f32⟩
  | .hbm, ⟨2, _⟩ => ⟨S2048x2816, .f32⟩
  | .hbm, ⟨3, _⟩ => ⟨S2048x2816, .f32⟩
  | .hbm, ⟨4, _⟩ => ⟨S_, .f32⟩
  | .hbm, ⟨5, _⟩ => ⟨S2048x2816, .f32⟩
  | .hbm, ⟨6, _⟩ => ⟨S2048x2816, .f32⟩
  | .hbm, ⟨7, _⟩ => ⟨S_, .f32⟩
  | .hbm, ⟨8, _⟩ => ⟨S2048x2816, .f32⟩
  | .hbm, ⟨9, _⟩ => ⟨S2048x2816, .f32⟩
  | .hbm, ⟨10, _⟩ => ⟨S2048x2816, .f32⟩
  | .hbm, ⟨11, _⟩ => ⟨S_, .f32⟩
  | .hbm, ⟨12, _⟩ => ⟨S2048x2816, .f32⟩
  | .hbm, ⟨13, _⟩ => ⟨S2048x2816, .f32⟩
  | .hbm, ⟨14, _⟩ => ⟨S2048x2816, .f32⟩
  | .hbm, ⟨15, _⟩ => ⟨S_, .f32⟩
  | .hbm, ⟨16, _⟩ => ⟨S2048x2816, .f32⟩
  | .hbm, ⟨17, _⟩ => ⟨S2048x2816, .f32⟩
  | .hbm, ⟨18, _⟩ => ⟨S2048x2816, .f32⟩
  | .hbm, ⟨19, _⟩ => ⟨S_, .f32⟩
  | .hbm, ⟨20, _⟩ => ⟨S2048x2816, .f32⟩
  | .hbm, ⟨21, _⟩ => ⟨S2048x2816, .f32⟩
  | .hbm, ⟨22, _⟩ => ⟨S_, .f32⟩
  | .hbm, ⟨23, _⟩ => ⟨S2048x2816, .f32⟩
  | .hbm, ⟨24, _⟩ => ⟨S2048x2816, .f32⟩
  | .hbm, ⟨25, _⟩ => ⟨S2048x2816, .f32⟩
  | .hbm, ⟨26, _⟩ => ⟨S_, .f32⟩
  | .hbm, ⟨27, _⟩ => ⟨S2048x2816, .f32⟩
  | .hbm, ⟨28, _⟩ => ⟨S2048x2816, .f32⟩
  | .hbm, ⟨29, _⟩ => ⟨S2048x2816, .f32⟩
  | .hbm, ⟨30, _⟩ => ⟨S_, .f32⟩
  | .hbm, ⟨31, _⟩ => ⟨S2048x2816, .f32⟩
  | .hbm, ⟨32, _⟩ => ⟨S2048x2816, .f32⟩
  | .hbm, ⟨33, _⟩ => ⟨S2048x2816, .f32⟩
  | .hbm, ⟨34, _⟩ => ⟨S_, .f32⟩
  | .hbm, ⟨35, _⟩ => ⟨S2048x2816, .f32⟩
  | .hbm, ⟨36, _⟩ => ⟨S2048x2816, .f32⟩
  | _, _ => ⟨S2048x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel24.lean ====
abbrev S1408x2048 : Shape := ⟨2, ![1408, 2048]⟩
abbrev S64x2048 : Shape := ⟨2, ![64, 2048]⟩
abbrev S8x2048 : Shape := ⟨2, ![8, 2048]⟩

abbrev nBuf : Space → Nat
  | .hbm => 7
  | .vmem => 14
  | .smem => 0
  | _ => 0

abbrev bufTy : (tb : Table) → Fin (tcTables nBuf tb) → BufTy
  | .hbm, ⟨0, _⟩ => ⟨S1408x2048, .f32⟩
  | .hbm, ⟨1, _⟩ => ⟨S1408x2048, .f32⟩
  | .hbm, ⟨2, _⟩ => ⟨S1408x2048, .f32⟩
  | .hbm, ⟨3, _⟩ => ⟨S1408x2048, .f32⟩
  | .hbm, ⟨4, _⟩ => ⟨S1408x2048, .f32⟩
  | .hbm, ⟨5, _⟩ => ⟨S1408x2048, .f32⟩
  | .hbm, ⟨6, _⟩ => ⟨S1408x2048, .f32⟩
  | .local _ .vmem, ⟨0, _⟩ => ⟨S64x2048, .f32⟩
  | .local _ .vmem, ⟨1, _⟩ => ⟨S64x2048, .f32⟩
  | .local _ .vmem, ⟨2, _⟩ => ⟨S64x2048, .f32⟩
  | .local _ .vmem, ⟨3, _⟩ => ⟨S64x2048, .f32⟩
  | .local _ .vmem, ⟨4, _⟩ => ⟨S64x2048, .f32⟩
  | .local _ .vmem, ⟨5, _⟩ => ⟨S64x2048, .f32⟩
  | .local _ .vmem, ⟨6, _⟩ => ⟨S64x2048, .f32⟩
  | .local _ .vmem, ⟨7, _⟩ => ⟨S64x2048, .f32⟩
  | .local _ .vmem, ⟨8, _⟩ => ⟨S64x2048, .f32⟩
  | .local _ .vmem, ⟨9, _⟩ => ⟨S64x2048, .f32⟩
  | .local _ .vmem, ⟨10, _⟩ => ⟨S64x2048, .f32⟩
  | .local _ .vmem, ⟨11, _⟩ => ⟨S64x2048, .f32⟩
  | .local _ .vmem, ⟨12, _⟩ => ⟨S64x2048, .f32⟩
  | .local _ .vmem, ⟨13, _⟩ => ⟨S64x2048, .f32⟩
  | _, _ => ⟨S1408x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![1, 22], ![false, false]⟩

@[reducible] def k0_t1_loop : Scf.Loop 32 :=
  let c0_i32 : BitVec 32 := 0#32
  let c8_i32 : BitVec 32 := 8#32
  let v0 : BitVec 32 := Scalar.addi c0_i32 c8_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg9 : BitVec 32 := Scf.iv c0_i32 c1_i32 k0_t1
  let c8_i32_1 : BitVec 32 := 8#32
  let v1 : BitVec 32 := Scalar.muli arg9 c8_i32_1
  v1
def k0_off1 (k0_t1 : Fin k0_t1_loop.trips) : Fin 2 → Nat :=
  let c0_i32 : BitVec 32 := 0#32
  let c1_i32 : BitVec 32 := 1#32
  let arg9 : BitVec 32 := Scf.iv c0_i32 c1_i32 k0_t1
  let c8_i32_1 : BitVec 32 := 8#32
  let v1 : BitVec 32 := Scalar.muli arg9 c8_i32_1
  let v2 : BitVec 32 := v1
  let v3 : Index := Scalar.indexCast v2
  let c0 : Index := 0#32
  ![v3.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S64x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S64x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S64x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S64x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S64x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S64x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S64x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference24Ideal.lean ====
abbrev S1408x2048 : Shape := ⟨2, ![1408, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1408x2048, .f32⟩
  | .hbm, ⟨1, _⟩ => ⟨S1408x2048, .f32⟩
  | .hbm, ⟨2, _⟩ => ⟨S1408x2048, .f32⟩
  | .hbm, ⟨3, _⟩ => ⟨S1408x2048, .f32⟩
  | .hbm, ⟨4, _⟩ => ⟨S_, .f32⟩
  | .hbm, ⟨5, _⟩ => ⟨S1408x2048, .f32⟩
  | .hbm, ⟨6, _⟩ => ⟨S1408x2048, .f32⟩
  | .hbm, ⟨7, _⟩ => ⟨S_, .f32⟩
  | .hbm, ⟨8, _⟩ => ⟨S1408x2048, .f32⟩
  | .hbm, ⟨9, _⟩ => ⟨S1408x2048, .f32⟩
  | .hbm, ⟨10, _⟩ => ⟨S1408x2048, .f32⟩
  | .hbm, ⟨11, _⟩ => ⟨S_, .f32⟩
  | .hbm, ⟨12, _⟩ => ⟨S1408x2048, .f32⟩
  | .hbm, ⟨13, _⟩ => ⟨S1408x2048, .f32⟩
  | .hbm, ⟨14, _⟩ => ⟨S1408x2048, .f32⟩
  | .hbm, ⟨15, _⟩ => ⟨S_, .f32⟩
  | .hbm, ⟨16, _⟩ => ⟨S1408x2048, .f32⟩
  | .hbm, ⟨17, _⟩ => ⟨S1408x2048, .f32⟩
  | .hbm, ⟨18, _⟩ => ⟨S1408x2048, .f32⟩
  | .hbm, ⟨19, _⟩ => ⟨S_, .f32⟩
  | .hbm, ⟨20, _⟩ => ⟨S1408x2048, .f32⟩
  | .hbm, ⟨21, _⟩ => ⟨S1408x2048, .f32⟩
  | .hbm, ⟨22, _⟩ => ⟨S_, .f32⟩
  | .hbm, ⟨23, _⟩ => ⟨S1408x2048, .f32⟩
  | .hbm, ⟨24, _⟩ => ⟨S1408x2048, .f32⟩
  | .hbm, ⟨25, _⟩ => ⟨S1408x2048, .f32⟩
  | .hbm, ⟨26, _⟩ => ⟨S_, .f32⟩
  | .hbm, ⟨27, _⟩ => ⟨S1408x2048, .f32⟩
  | .hbm, ⟨28, _⟩ => ⟨S1408x2048, .f32⟩
  | .hbm, ⟨29, _⟩ => ⟨S1408x2048, .f32⟩
  | .hbm, ⟨30, _⟩ => ⟨S_, .f32⟩
  | .hbm, ⟨31, _⟩ => ⟨S1408x2048, .f32⟩
  | .hbm, ⟨32, _⟩ => ⟨S1408x2048, .f32⟩
  | .hbm, ⟨33, _⟩ => ⟨S1408x2048, .f32⟩
  | .hbm, ⟨34, _⟩ => ⟨S_, .f32⟩
  | .hbm, ⟨35, _⟩ => ⟨S1408x2048, .f32⟩
  | .hbm, ⟨36, _⟩ => ⟨S1408x2048, .f32⟩
  | _, _ => ⟨S1408x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel25.lean ====
abbrev S7x256x2048 : Shape := ⟨3, ![7, 256, 2048]⟩
abbrev S256x2048 : Shape := ⟨2, ![256, 2048]⟩
abbrev S7x128x2048 : Shape := ⟨3, ![7, 128, 2048]⟩
abbrev S128x2048 : Shape := ⟨2, ![128, 2048]⟩
abbrev S1x128x2048 : Shape := ⟨3, ![1, 128, 2048]⟩

abbrev nBuf : Space → Nat
  | .hbm => 3
  | .vmem => 6
  | .smem => 0
  | _ => 0

abbrev bufTy : (tb : Table) → Fin (tcTables nBuf tb) → BufTy
  | .hbm, ⟨0, _⟩ => ⟨S7x256x2048, .bf16⟩
  | .hbm, ⟨1, _⟩ => ⟨S256x2048, .bf16⟩
  | .hbm, ⟨2, _⟩ => ⟨S256x2048, .f32⟩
  | .local _ .vmem, ⟨0, _⟩ => ⟨S7x128x2048, .bf16⟩
  | .local _ .vmem, ⟨1, _⟩ => ⟨S7x128x2048, .bf16⟩
  | .local _ .vmem, ⟨2, _⟩ => ⟨S128x2048, .bf16⟩
  | .local _ .vmem, ⟨3, _⟩ => ⟨S128x2048, .bf16⟩
  | .local _ .vmem, ⟨4, _⟩ => ⟨S128x2048, .f32⟩
  | .local _ .vmem, ⟨5, _⟩ => ⟨S128x2048, .f32⟩
  | _, _ => ⟨S7x256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S7x128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference25Ideal.lean ====
abbrev S7x256x2048 : Shape := ⟨3, ![7, 256, 2048]⟩
abbrev S256x2048 : Shape := ⟨2, ![256, 2048]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S7x256x2048, .bf16⟩
  | .hbm, ⟨1, _⟩ => ⟨S256x2048, .bf16⟩
  | .hbm, ⟨2, _⟩ => ⟨S256x2048, .f32⟩
  | .hbm, ⟨3, _⟩ => ⟨S7x256x2048, .f32⟩
  | .hbm, ⟨4, _⟩ => ⟨S_, .f32⟩
  | .hbm, ⟨5, _⟩ => ⟨S256x2048, .f32⟩
  | .hbm, ⟨6, _⟩ => ⟨S256x2048, .f32⟩
  | _, _ => ⟨S7x256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel26.lean ====
abbrev S8x64x1024 : Shape := ⟨3, ![8, 64, 1024]⟩
abbrev S64x1024 : Shape := ⟨2, ![64, 1024]⟩
abbrev S1x64x1024 : Shape := ⟨3, ![1, 64, 1024]⟩

abbrev nBuf : Space → Nat
  | .hbm => 2
  | .vmem => 2
  | .smem => 0
  | _ => 0

abbrev bufTy : (tb : Table) → Fin (tcTables nBuf tb) → BufTy
  | .hbm, ⟨0, _⟩ => ⟨S8x64x1024, .f32⟩
  | .hbm, ⟨1, _⟩ => ⟨S64x1024, .f32⟩
  | .local _ .vmem, ⟨0, _⟩ => ⟨S8x64x1024, .f32⟩
  | .local _ .vmem, ⟨1, _⟩ => ⟨S64x1024, .f32⟩
  | _, _ => ⟨S8x64x1024, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x64x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S64x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== Reference26Ideal.lean ====
abbrev S8x64x1024 : Shape := ⟨3, ![8, 64, 1024]⟩
abbrev S_ : Shape := ⟨0, ![]⟩
abbrev S64x1024 : Shape := ⟨2, ![64, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8x64x1024, .f32⟩
  | .hbm, ⟨1, _⟩ => ⟨S_, .f32⟩
  | .hbm, ⟨2, _⟩ => ⟨S64x1024, .f32⟩
  | _, _ => ⟨S8x64x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel27.lean ====
abbrev S8x1024x1024 : Shape := ⟨3, ![8, 1024, 1024]⟩
abbrev S1024x1024 : Shape := ⟨2, ![1024, 1024]⟩
abbrev S8x256x1024 : Shape := ⟨3, ![8, 256, 1024]⟩
abbrev S256x1024 : Shape := ⟨2, ![256, 1024]⟩
abbrev S1x256x1024 : Shape := ⟨3, ![1, 256, 1024]⟩

abbrev nBuf : Space → Nat
  | .hbm => 2
  | .vmem => 4
  | .smem => 0
  | _ => 0

abbrev bufTy : (tb : Table) → Fin (tcTables nBuf tb) → BufTy
  | .hbm, ⟨0, _⟩ => ⟨S8x1024x1024, .f32⟩
  | .hbm, ⟨1, _⟩ => ⟨S1024x1024, .f32⟩
  | .local _ .vmem, ⟨0, _⟩ => ⟨S8x256x1024, .f32⟩
  | .local _ .vmem, ⟨1, _⟩ => ⟨S8x256x1024, .f32⟩
  | .local _ .vmem, ⟨2, _⟩ => ⟨S256x1024, .f32⟩
  | .local _ .vmem, ⟨3, _⟩ => ⟨S256x1024, .f32⟩
  | _, _ => ⟨S8x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference27Ideal.lean ====
abbrev S8x1024x1024 : Shape := ⟨3, ![8, 1024, 1024]⟩
abbrev S_ : Shape := ⟨0, ![]⟩
abbrev S1024x1024 : Shape := ⟨2, ![1024, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8x1024x1024, .f32⟩
  | .hbm, ⟨1, _⟩ => ⟨S_, .f32⟩
  | .hbm, ⟨2, _⟩ => ⟨S1024x1024, .f32⟩
  | _, _ => ⟨S8x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel28.lean ====
abbrev S7x1024x2320 : Shape := ⟨3, ![7, 1024, 2320]⟩
abbrev S1024x2320 : Shape := ⟨2, ![1024, 2320]⟩
abbrev S7x64x2320 : Shape := ⟨3, ![7, 64, 2320]⟩
abbrev S64x2320 : Shape := ⟨2, ![64, 2320]⟩
abbrev S1x64x2320 : Shape := ⟨3, ![1, 64, 2320]⟩

abbrev nBuf : Space → Nat
  | .hbm => 3
  | .vmem => 6
  | .smem => 0
  | _ => 0

abbrev bufTy : (tb : Table) → Fin (tcTables nBuf tb) → BufTy
  | .hbm, ⟨0, _⟩ => ⟨S7x1024x2320, .bf16⟩
  | .hbm, ⟨1, _⟩ => ⟨S1024x2320, .bf16⟩
  | .hbm, ⟨2, _⟩ => ⟨S1024x2320, .f32⟩
  | .local _ .vmem, ⟨0, _⟩ => ⟨S7x64x2320, .bf16⟩
  | .local _ .vmem, ⟨1, _⟩ => ⟨S7x64x2320, .bf16⟩
  | .local _ .vmem, ⟨2, _⟩ => ⟨S64x2320, .bf16⟩
  | .local _ .vmem, ⟨3, _⟩ => ⟨S64x2320, .bf16⟩
  | .local _ .vmem, ⟨4, _⟩ => ⟨S64x2320, .f32⟩
  | .local _ .vmem, ⟨5, _⟩ => ⟨S64x2320, .f32⟩
  | _, _ => ⟨S7x1024x2320, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S7x64x2320 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x2320 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x2320 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference28Ideal.lean ====
abbrev S7x1024x2320 : Shape := ⟨3, ![7, 1024, 2320]⟩
abbrev S1024x2320 : Shape := ⟨2, ![1024, 2320]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S7x1024x2320, .bf16⟩
  | .hbm, ⟨1, _⟩ => ⟨S1024x2320, .bf16⟩
  | .hbm, ⟨2, _⟩ => ⟨S1024x2320, .f32⟩
  | .hbm, ⟨3, _⟩ => ⟨S7x1024x2320, .f32⟩
  | .hbm, ⟨4, _⟩ => ⟨S_, .f32⟩
  | .hbm, ⟨5, _⟩ => ⟨S1024x2320, .f32⟩
  | .hbm, ⟨6, _⟩ => ⟨S1024x2320, .f32⟩
  | _, _ => ⟨S7x1024x2320, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel29.lean ====
abbrev S7x1024x1024 : Shape := ⟨3, ![7, 1024, 1024]⟩
abbrev S1024x1024 : Shape := ⟨2, ![1024, 1024]⟩
abbrev S7x256x1024 : Shape := ⟨3, ![7, 256, 1024]⟩
abbrev S256x1024 : Shape := ⟨2, ![256, 1024]⟩
abbrev S1x256x1024 : Shape := ⟨3, ![1, 256, 1024]⟩

abbrev nBuf : Space → Nat
  | .hbm => 3
  | .vmem => 6
  | .smem => 0
  | _ => 0

abbrev bufTy : (tb : Table) → Fin (tcTables nBuf tb) → BufTy
  | .hbm, ⟨0, _⟩ => ⟨S7x1024x1024, .bf16⟩
  | .hbm, ⟨1, _⟩ => ⟨S1024x1024, .bf16⟩
  | .hbm, ⟨2, _⟩ => ⟨S1024x1024, .f32⟩
  | .local _ .vmem, ⟨0, _⟩ => ⟨S7x256x1024, .bf16⟩
  | .local _ .vmem, ⟨1, _⟩ => ⟨S7x256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .f32⟩
  | .local _ .vmem, ⟨5, _⟩ => ⟨S256x1024, .f32⟩
  | _, _ => ⟨S7x1024x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S7x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference29Ideal.lean ====
abbrev S7x1024x1024 : Shape := ⟨3, ![7, 1024, 1024]⟩
abbrev S1024x1024 : Shape := ⟨2, ![1024, 1024]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S7x1024x1024, .bf16⟩
  | .hbm, ⟨1, _⟩ => ⟨S1024x1024, .bf16⟩
  | .hbm, ⟨2, _⟩ => ⟨S1024x1024, .f32⟩
  | .hbm, ⟨3, _⟩ => ⟨S7x1024x1024, .f32⟩
  | .hbm, ⟨4, _⟩ => ⟨S_, .f32⟩
  | .hbm, ⟨5, _⟩ => ⟨S1024x1024, .f32⟩
  | .hbm, ⟨6, _⟩ => ⟨S1024x1024, .f32⟩
  | _, _ => ⟨S7x1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel30.lean ====
abbrev S7x1024x2816 : Shape := ⟨3, ![7, 1024, 2816]⟩
abbrev S1024x2816 : Shape := ⟨2, ![1024, 2816]⟩
abbrev S7x64x2816 : Shape := ⟨3, ![7, 64, 2816]⟩
abbrev S64x2816 : Shape := ⟨2, ![64, 2816]⟩
abbrev S1x64x2816 : Shape := ⟨3, ![1, 64, 2816]⟩

abbrev nBuf : Space → Nat
  | .hbm => 3
  | .vmem => 6
  | .smem => 0
  | _ => 0

abbrev bufTy : (tb : Table) → Fin (tcTables nBuf tb) → BufTy
  | .hbm, ⟨0, _⟩ => ⟨S7x1024x2816, .bf16⟩
  | .hbm, ⟨1, _⟩ => ⟨S1024x2816, .bf16⟩
  | .hbm, ⟨2, _⟩ => ⟨S1024x2816, .f32⟩
  | .local _ .vmem, ⟨0, _⟩ => ⟨S7x64x2816, .bf16⟩
  | .local _ .vmem, ⟨1, _⟩ => ⟨S7x64x2816, .bf16⟩
  | .local _ .vmem, ⟨2, _⟩ => ⟨S64x2816, .bf16⟩
  | .local _ .vmem, ⟨3, _⟩ => ⟨S64x2816, .bf16⟩
  | .local _ .vmem, ⟨4, _⟩ => ⟨S64x2816, .f32⟩
  | .local _ .vmem, ⟨5, _⟩ => ⟨S64x2816, .f32⟩
  | _, _ => ⟨S7x1024x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S7x64x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference30Ideal.lean ====
abbrev S7x1024x2816 : Shape := ⟨3, ![7, 1024, 2816]⟩
abbrev S1024x2816 : Shape := ⟨2, ![1024, 2816]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S7x1024x2816, .bf16⟩
  | .hbm, ⟨1, _⟩ => ⟨S1024x2816, .bf16⟩
  | .hbm, ⟨2, _⟩ => ⟨S1024x2816, .f32⟩
  | .hbm, ⟨3, _⟩ => ⟨S7x1024x2816, .f32⟩
  | .hbm, ⟨4, _⟩ => ⟨S_, .f32⟩
  | .hbm, ⟨5, _⟩ => ⟨S1024x2816, .f32⟩
  | .hbm, ⟨6, _⟩ => ⟨S1024x2816, .f32⟩
  | _, _ => ⟨S7x1024x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel31.lean ====
abbrev S7x704x2048 : Shape := ⟨3, ![7, 704, 2048]⟩
abbrev S704x2048 : Shape := ⟨2, ![704, 2048]⟩
abbrev S7x64x2048 : Shape := ⟨3, ![7, 64, 2048]⟩
abbrev S64x2048 : Shape := ⟨2, ![64, 2048]⟩
abbrev S1x64x2048 : Shape := ⟨3, ![1, 64, 2048]⟩

abbrev nBuf : Space → Nat
  | .hbm => 3
  | .vmem => 6
  | .smem => 0
  | _ => 0

abbrev bufTy : (tb : Table) → Fin (tcTables nBuf tb) → BufTy
  | .hbm, ⟨0, _⟩ => ⟨S7x704x2048, .bf16⟩
  | .hbm, ⟨1, _⟩ => ⟨S704x2048, .bf16⟩
  | .hbm, ⟨2, _⟩ => ⟨S704x2048, .f32⟩
  | .local _ .vmem, ⟨0, _⟩ => ⟨S7x64x2048, .bf16⟩
  | .local _ .vmem, ⟨1, _⟩ => ⟨S7x64x2048, .bf16⟩
  | .local _ .vmem, ⟨2, _⟩ => ⟨S64x2048, .bf16⟩
  | .local _ .vmem, ⟨3, _⟩ => ⟨S64x2048, .bf16⟩
  | .local _ .vmem, ⟨4, _⟩ => ⟨S64x2048, .f32⟩
  | .local _ .vmem, ⟨5, _⟩ => ⟨S64x2048, .f32⟩
  | _, _ => ⟨S7x704x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![11], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S7x64x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference31Ideal.lean ====
abbrev S7x704x2048 : Shape := ⟨3, ![7, 704, 2048]⟩
abbrev S704x2048 : Shape := ⟨2, ![704, 2048]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S7x704x2048, .bf16⟩
  | .hbm, ⟨1, _⟩ => ⟨S704x2048, .bf16⟩
  | .hbm, ⟨2, _⟩ => ⟨S704x2048, .f32⟩
  | .hbm, ⟨3, _⟩ => ⟨S7x704x2048, .f32⟩
  | .hbm, ⟨4, _⟩ => ⟨S_, .f32⟩
  | .hbm, ⟨5, _⟩ => ⟨S704x2048, .f32⟩
  | .hbm, ⟨6, _⟩ => ⟨S704x2048, .f32⟩
  | _, _ => ⟨S7x704x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel32.lean ====
abbrev S16x12288 : Shape := ⟨2, ![16, 12288]⟩
abbrev S1x12288 : Shape := ⟨2, ![1, 12288]⟩
abbrev S12288 : Shape := ⟨1, ![12288]⟩

abbrev nBuf : Space → Nat
  | .hbm => 3
  | .vmem => 4
  | .smem => 0
  | _ => 0

abbrev bufTy : (tb : Table) → Fin (tcTables nBuf tb) → BufTy
  | .hbm, ⟨0, _⟩ => ⟨S16x12288, .f32⟩
  | .hbm, ⟨1, _⟩ => ⟨S1x12288, .f32⟩
  | .hbm, ⟨2, _⟩ => ⟨S1x12288, .f32⟩
  | .local _ .vmem, ⟨0, _⟩ => ⟨S16x12288, .f32⟩
  | .local _ .vmem, ⟨1, _⟩ => ⟨S1x12288, .f32⟩
  | .local _ .vmem, ⟨2, _⟩ => ⟨S16x12288, .f32⟩
  | .local _ .vmem, ⟨3, _⟩ => ⟨S1x12288, .f32⟩
  | _, _ => ⟨S16x12288, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨2, ![1, 1], ![false, false]⟩

def k0_mult1 : BitVec 32 :=
  let c0_i32 : BitVec 32 := 0#32
  let c16_i32 : BitVec 32 := 16#32
  let v1 : BitVec 32 := Scalar.muli c0_i32 c16_i32
  v1
def k0_off1 : Fin 2 → Nat :=
  let c0_i32 : BitVec 32 := 0#32
  let c16_i32 : BitVec 32 := 16#32
  let v1 : BitVec 32 := Scalar.muli c0_i32 c16_i32
  let v2 : BitVec 32 := v1
  let v3 : Index := Scalar.indexCast v2
  let c0 : Index := 0#32
  ![v3.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S16x12288 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x12288 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S16x12288 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x12288 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]
-- ==== Reference32Ideal.lean ====
abbrev S16x12288 : Shape := ⟨2, ![16, 12288]⟩
abbrev S1x12288 : Shape := ⟨2, ![1, 12288]⟩
abbrev S_ : Shape := ⟨0, ![]⟩
abbrev S12288 : Shape := ⟨1, ![12288]⟩

abbrev nBuf : Space → Nat
  | .hbm => 7
  | .vmem => 0
  | .smem => 0
  | _ => 0

abbrev bufTy : (tb : Table) → Fin (tcTables nBuf tb) → BufTy
  | .hbm, ⟨0, _⟩ => ⟨S16x12288, .f32⟩
  | .hbm, ⟨1, _⟩ => ⟨S1x12288, .f32⟩
  | .hbm, ⟨2, _⟩ => ⟨S16x12288, .f32⟩
  | .hbm, ⟨3, _⟩ => ⟨S16x12288, .f32⟩
  | .hbm, ⟨4, _⟩ => ⟨S_, .f32⟩
  | .hbm, ⟨5, _⟩ => ⟨S12288, .f32⟩
  | .hbm, ⟨6, _⟩ => ⟨S1x12288, .f32⟩
  | _, _ => ⟨S16x12288, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel33.lean ====
abbrev S8x2048 : Shape := ⟨2, ![8, 2048]⟩

abbrev nBuf : Space → Nat
  | .hbm => 3
  | .vmem => 3
  | .smem => 0
  | _ => 0

abbrev bufTy : (tb : Table) → Fin (tcTables nBuf tb) → BufTy
  | .hbm, ⟨0, _⟩ => ⟨S8x2048, .f32⟩
  | .hbm, ⟨1, _⟩ => ⟨S8x2048, .f32⟩
  | .hbm, ⟨2, _⟩ => ⟨S8x2048, .f32⟩
  | .local _ .vmem, ⟨0, _⟩ => ⟨S8x2048, .f32⟩
  | .local _ .vmem, ⟨1, _⟩ => ⟨S8x2048, .f32⟩
  | .local _ .vmem, ⟨2, _⟩ => ⟨S8x2048, .f32⟩
  | _, _ => ⟨S8x2048, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨2, ![1, 1], ![false, false]⟩

def k0_mult1 : BitVec 32 :=
  let c0_i32 : BitVec 32 := 0#32
  let c8_i32 : BitVec 32 := 8#32
  let v0 : BitVec 32 := Scalar.muli c0_i32 c8_i32
  v0
def k0_off1 : Fin 2 → Nat :=
  let c0_i32 : BitVec 32 := 0#32
  let c8_i32 : BitVec 32 := 8#32
  let v0 : BitVec 32 := Scalar.muli c0_i32 c8_i32
  let v1 : BitVec 32 := v0
  let v2 : Index := Scalar.indexCast v1
  let c0 : Index := 0#32
  ![v2.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S8x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S8x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]
-- ==== Reference33Ideal.lean ====
abbrev S8x2048 : Shape := ⟨2, ![8, 2048]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S8x2048, .f32⟩
  | .hbm, ⟨1, _⟩ => ⟨S8x2048, .f32⟩
  | .hbm, ⟨2, _⟩ => ⟨S8x2048, .f32⟩
  | .hbm, ⟨3, _⟩ => ⟨S8x2048, .f32⟩
  | .hbm, ⟨4, _⟩ => ⟨S_, .f32⟩
  | .hbm, ⟨5, _⟩ => ⟨S8x2048, .f32⟩
  | .hbm, ⟨6, _⟩ => ⟨S8x2048, .f32⟩
  | .hbm, ⟨7, _⟩ => ⟨S_, .f32⟩
  | .hbm, ⟨8, _⟩ => ⟨S8x2048, .f32⟩
  | .hbm, ⟨9, _⟩ => ⟨S8x2048, .f32⟩
  | .hbm, ⟨10, _⟩ => ⟨S_, .f32⟩
  | .hbm, ⟨11, _⟩ => ⟨S8x2048, .f32⟩
  | .hbm, ⟨12, _⟩ => ⟨S8x2048, .f32⟩
  | .hbm, ⟨13, _⟩ => ⟨S8x2048, .f32⟩
  | .hbm, ⟨14, _⟩ => ⟨S8x2048, .f32⟩
  | .hbm, ⟨15, _⟩ => ⟨S8x2048, .f32⟩
  | .hbm, ⟨16, _⟩ => ⟨S8x2048, .f32⟩
  | .hbm, ⟨17, _⟩ => ⟨S8x2048, .f32⟩
  | .hbm, ⟨18, _⟩ => ⟨S8x2048, .f32⟩
  | _, _ => ⟨S8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_cst : Ref sig .tc := ⟨.hbm, 4, rfl⟩
abbrev main_call0_v2 : Ref sig .tc := ⟨.hbm, 5, rfl⟩
abbrev main_call0_v3 : Ref sig .tc := ⟨.hbm, 6, rfl⟩
abbrev main_call0_cst_0 : Ref sig .tc := ⟨.hbm, 7, rfl⟩
abbrev main_call0_v4 : Ref sig .tc := ⟨.hbm, 8, rfl⟩
abbrev main_v0_2 : Ref sig .tc := ⟨.hbm, 9, rfl⟩
abbrev main_call0_cst_1 : Ref sig .tc := ⟨.hbm, 10, rfl⟩
abbrev main_call0_v6 : Ref sig .tc := ⟨.hbm, 11, rfl⟩
abbrev main_call0_v7 : Ref sig .tc := ⟨.hbm, 12, rfl⟩
abbrev main_v0_1 : Ref sig .tc := ⟨.hbm, 13, rfl⟩
abbrev main_v0_0 : Ref sig .tc := ⟨.hbm, 14, rfl⟩
abbrev main_call1_v0 : Ref sig .tc := ⟨.hbm, 15, rfl⟩
abbrev main_call1_v1 : Ref sig .tc := ⟨.hbm, 16, rfl⟩
abbrev main_call1_v2 : Ref sig .tc := ⟨.hbm, 17, rfl⟩
abbrev main_v1 : Ref sig .tc := ⟨.hbm, 18, rfl⟩

abbrev nD : Nat := 1
abbrev τ : Topo := Topo.v7x

variable {F : FTy → Type} [FloatOps F]
-- ==== Proof.Head.lean ====
/- The gradient of one head of the SSD scan over one chunk, as the kernel's vector operations compute it: the functions of the head's number, of the chunk's arrays and of the head's blocks that the kernel composes eight times. -/
module

public import proofs.«01_k».proof.Proof.Gen.KernelIdeal.Skeleton

@[expose] public section

noncomputable section

namespace Cert.KernelIdeal.Scan

open Cert.KernelIdeal Cert.KernelIdeal.Gen
open Idealize.ShloMosaic Idealize.ShloMosaic.TcCoe Idealize.SL.Sem

/-- The vectors of the chunk: square ones, the ones of a head, the states, columns and rows. -/
abbrev Sq := FVec Ideal S128x128 .f32
abbrev Hd := FVec Ideal S128x64 .f32
abbrev St := FVec Ideal S64x128 .f32
abbrev Col := FVec Ideal S128x1 .f32
abbrev Row := FVec Ideal S1x128 .f32
abbrev One := FVec Ideal S1x1 .f32

abbrev zero : Ideal .f32 := Scalar.ofBits .f32 0x00000000#32
def lane (e : BitVec 32) : IVec S128x128 1 := cmpi .eq (iota .tc S128x128 32 [1] iota_S128x128_d1_w32) (broadcast S128x128 e)
def sub (e : BitVec 32) : IVec S128x128 1 := cmpi .eq (iota .tc S128x128 32 [0] iota_S128x128_d0_w32) (broadcast S128x128 e)
def keep : IVec S128x128 1 := cmpi .sle (iota .tc S128x128 32 [1] iota_S128x128_d1_w32) (iota .tc S128x128 32 [0] iota_S128x128_d0_w32)
def keepT : IVec S128x128 1 := cmpi .sge (iota .tc S128x128 32 [1] iota_S128x128_d1_w32) (iota .tc S128x128 32 [0] iota_S128x128_d0_w32)
def lastRow : IVec S128x1 1 := cmpi .eq (iota .tc S128x1 32 [0] iota_S128x1_d0_w32) (broadcast S128x1 127#32)
def tri : Sq := sitofp .f32 (extui 32 keep natLt_1_32)
def triT : Sq := sitofp .f32 (extui 32 keepT natLt_1_32)
/-- Sums along a row, along a column. -/
def rows (v : Sq) : Col := shapeCast S128x1 (multiReduction .add [1] S128 v 0x00000000#32 reduces_S128x128_S128 (.inl rfl) rfl) shapeCasts_S128_S128x1
def cols (v : Sq) : Row := shapeCast S1x128 (multiReduction .add [0] S128 v 0x00000000#32 reduces_S128x128_S128_2 (.inl rfl) rfl) shapeCasts_S128_S1x128
/-- A sum over one column: the array itself, and as a scalar the column's sum. -/
def rows1 (v : Col) : Col := shapeCast S128x1 (multiReduction .add [1] S128 v 0x00000000#32 reduces_S128x1_S128 (.inl rfl) rfl) shapeCasts_S128_S128x1
def cols1 (v : Row) : Row := shapeCast S1x128 (multiReduction .add [0] S128 v 0x00000000#32 reduces_S1x128_S128 (.inl rfl) rfl) shapeCasts_S128_S1x128
def total (v : Col) : One := shapeCast S1x1 (multiReduction .add [0] S1 v 0x00000000#32 reduces_S128x1_S1 (.inl rfl) rfl) shapeCasts_S1_S1x1
def colOf (e : BitVec 32) (v : Sq) : Col := rows (select (lane e) v (broadcast S128x128 zero))
def rowOf (e : BitVec 32) (v : Sq) : Row := cols (select (sub e) v (broadcast S128x128 zero))
def spread (v : Col) : Sq := broadcastTo S128x128 v broadcasts_S128x1_S128x128
def spreadH (v : Col) : Hd := broadcastTo S128x64 v broadcasts_S128x1_S128x64

/-- The decays' running sums, read down and across. -/
def run (dt : Sq) (a : Row) : Sq := matmul dot_S128x128_S128x128_S128x128_1_0_0_1_n_n (some .fp32) tri (mulf dt (broadcastTo S128x128 a broadcasts_S1x128_S128x128)) (constant S128x128 .f32 0x00000000#32)
def runT (dt : Sq) (a : Row) : Sq := matmul dot_S128x128_S128x128_S128x128_0_0_1_1_n_n (some .fp32) (mulf dt (broadcastTo S128x128 a broadcasts_S1x128_S128x128)) triT (constant S128x128 .f32 0x00000000#32)
def scores (B C : Sq) : Sq := matmul dot_S128x128_S128x128_S128x128_1_1_0_0_n_n none (truncf .bf16 C bitsLt_bf16_f32) (truncf .bf16 B bitsLt_bf16_f32) (constant S128x128 .f32 0x00000000#32)
/-- The masked decay between two steps. -/
def between (e : BitVec 32) (dt : Sq) (a : Row) : Sq :=
  exp (select keep (subf (spread (colOf e (run dt a))) (broadcastTo S128x128 (rowOf e (runT dt a)) broadcasts_S1x128_S128x128)) (broadcast S128x128 (Named.named κ "mask" 0xF149F2CA#32)))
def lastOf (ac : Col) : One := total (select lastRow ac (broadcast S128x1 zero))
def decay (ac : Col) : Col := exp (subf (broadcastTo S128x1 (lastOf ac) broadcasts_S1x1_S128x1) ac)
def xdt (e : BitVec 32) (dt : Sq) (x : Hd) : Hd := mulf x (spreadH (colOf e dt))
/-- The gradient of a head's weighted inputs, its inputs, and the state before the chunk. -/
def dxdt (e : BitVec 32) (dt : Sq) (a : Row) (B C : Sq) (dy : Hd) (dhn : St) : Hd :=
  addf (matmul dot_S128x128_S64x128_S128x64_1_1_0_0_n_n none (truncf .bf16 (mulf B (spread (decay (colOf e (run dt a))))) bitsLt_bf16_f32) (truncf .bf16 (shapeCast S64x128 dhn shapeCasts_S64x128_S64x128) bitsLt_bf16_f32) (constant S128x64 .f32 0x00000000#32))
    (matmul dot_S128x128_S128x64_S128x64_0_0_1_1_n_n none (truncf .bf16 (mulf (scores B C) (between e dt a)) bitsLt_bf16_f32) (truncf .bf16 (shapeCast S128x64 dy shapeCasts_S128x64_S128x64) bitsLt_bf16_f32) (constant S128x64 .f32 0x00000000#32))
def dx (e : BitVec 32) (dt : Sq) (a : Row) (B C : Sq) (dy : Hd) (dhn : St) : Hd := mulf (dxdt e dt a B C dy dhn) (spreadH (colOf e dt))
def dh (e : BitVec 32) (dt : Sq) (a : Row) (C : Sq) (dy : Hd) (dhn : St) : St :=
  addf (mulf (broadcastTo S64x128 (exp (lastOf (colOf e (run dt a)))) broadcasts_S1x1_S64x128) (shapeCast S64x128 dhn shapeCasts_S64x128_S64x128))
    (matmul dot_S128x64_S128x128_S64x128_0_0_1_1_n_n none (truncf .bf16 (shapeCast S128x64 dy shapeCasts_S128x64_S128x64) bitsLt_bf16_f32) (truncf .bf16 (mulf C (spread (exp (colOf e (run dt a))))) bitsLt_bf16_f32) (constant S64x128 .f32 0x00000000#32))
/-- What the state's gradient, and the output's, send back at each step. -/
def fromState (e : BitVec 32) (dt : Sq) (x : Hd) (dhn : St) : Sq :=
  matmul dot_S128x64_S64x128_S128x128_1_0_0_1_n_n none (truncf .bf16 (xdt e dt x) bitsLt_bf16_f32) (truncf .bf16 (shapeCast S64x128 dhn shapeCasts_S64x128_S64x128) bitsLt_bf16_f32) (constant S128x128 .f32 0x00000000#32)
def fromOut (ent : St) (dy : Hd) : Sq :=
  matmul dot_S128x64_S64x128_S128x128_1_0_0_1_n_n none (truncf .bf16 (shapeCast S128x64 dy shapeCasts_S128x64_S128x64) bitsLt_bf16_f32) (truncf .bf16 ent bitsLt_bf16_f32) (constant S128x128 .f32 0x00000000#32)
def dB (e : BitVec 32) (dt : Sq) (a : Row) (x : Hd) (dhn : St) : Sq := mulf (fromState e dt x dhn) (spread (decay (colOf e (run dt a))))
def dC (e : BitVec 32) (dt : Sq) (a : Row) (ent : St) (dy : Hd) : Sq := mulf (fromOut ent dy) (spread (exp (colOf e (run dt a))))
/-- The gradient of the masked scores of a head. -/
def dM (e : BitVec 32) (dt : Sq) (x dy : Hd) : Sq :=
  matmul dot_S128x64_S128x64_S128x128_1_1_0_0_n_n none (truncf .bf16 (shapeCast S128x64 dy shapeCasts_S128x64_S128x64) bitsLt_bf16_f32) (truncf .bf16 (xdt e dt x) bitsLt_bf16_f32) (constant S128x128 .f32 0x00000000#32)
def dS (e : BitVec 32) (dt : Sq) (a : Row) (x dy : Hd) : Sq := mulf (dM e dt x dy) (between e dt a)
def dSeg (e : BitVec 32) (dt : Sq) (a : Row) (B C : Sq) (x dy : Hd) : Sq :=
  select keep (mulf (mulf (scores B C) (dM e dt x dy)) (between e dt a)) (broadcast S128x128 zero)
def dDt (e : BitVec 32) (dt : Sq) (a : Row) (B C : Sq) (x dy : Hd) (dhn : St) : Sq :=
  select (lane e) (spread (rows1 (shapeCast S128x1 (multiReduction .add [1] S128 (mulf x (dxdt e dt a B C dy dhn)) 0x00000000#32 reduces_S128x64_S128 (.inl rfl) rfl) shapeCasts_S128_S128x1))) (broadcast S128x128 zero)
def dRow (e : BitVec 32) (dt : Sq) (a : Row) (B C : Sq) (x dy : Hd) : Sq :=
  select (sub e) (broadcastTo S128x128 (cols1 (cols (subf (broadcast S128x128 zero) (dSeg e dt a B C x dy)))) broadcasts_S1x128_S128x128) (broadcast S128x128 zero)
/-- What the chunk's whole decay gets from the state's gradient. -/
def dTot (e : BitVec 32) (dt : Sq) (a : Row) (ent dhn : St) : One :=
  mulf (broadcast S1x1 (extractAt ![0, 0, 0] (shapeCast S1x1x1 (multiReduction .add [1, 2] S1 (shapeCast S1x64x128 (mulf (shapeCast S64x128 dhn shapeCasts_S64x128_S64x128) ent) shapeCasts_S64x128_S1x64x128) 0x00000000#32 reduces_S1x64x128_S1 (.inl rfl) rfl) shapeCasts_S1_S1x1x1) inpos_S1x1x1_p0_0_0))
    (exp (lastOf (colOf e (run dt a))))
def weight (e : BitVec 32) (dt : Sq) (a : Row) (B : Sq) (x : Hd) (dhn : St) : Col := mulf (rows (mulf B (fromState e dt x dhn))) (decay (colOf e (run dt a)))
def atLast (v : One) : Col :=
  select lastRow (broadcastTo S128x1 (shapeCast S1x1 (broadcast S1 (extractAt ![0, 0, 0] (shapeCast S1x1x1 (multiReduction .add [1, 2] S1 (shapeCast S1x1x1 v shapeCasts_S1x1_S1x1x1) 0x00000000#32 reduces_S1x1x1_S1 (.inl rfl) rfl) shapeCasts_S1_S1x1x1) inpos_S1x1x1_p0_0_0)) shapeCasts_S1_S1x1) broadcasts_S1x1_S128x1) (broadcast S128x1 zero)
def dAc (e : BitVec 32) (dt : Sq) (a : Row) (B C : Sq) (x dy : Hd) (ent dhn : St) : Col :=
  addf (addf (subf (broadcast S128x1 zero) (weight e dt a B x dhn)) (atLast (addf (dTot e dt a ent dhn) (total (weight e dt a B x dhn)))))
    (mulf (rows (mulf C (fromOut ent dy))) (exp (colOf e (run dt a))))
def dCol (e : BitVec 32) (dt : Sq) (a : Row) (B C : Sq) (x dy : Hd) (ent dhn : St) : Sq :=
  select (lane e) (spread (rows1 (addf (dAc e dt a B C x dy ent dhn) (rows (dSeg e dt a B C x dy))))) (broadcast S128x128 zero)

/-- Four heads' parts, added from the last head to the first. -/
def sum4 (f : Fin 4 → Sq) : Sq := addf (addf (addf (f 3) (f 2)) (f 1)) (f 0)
def halfB (B C S P : Sq) : Sq := addf P (matmul dot_S128x128_S128x128_S128x128_0_0_1_1_n_n none (truncf .bf16 S bitsLt_bf16_f32) (truncf .bf16 C bitsLt_bf16_f32) (constant S128x128 .f32 0x00000000#32))
def halfC (B C S P : Sq) : Sq := addf P (matmul dot_S128x128_S128x128_S128x128_1_0_0_1_n_n none (truncf .bf16 S bitsLt_bf16_f32) (truncf .bf16 B bitsLt_bf16_f32) (constant S128x128 .f32 0x00000000#32))
def back (R C : Sq) : Sq := addf (matmul dot_S128x128_S128x128_S128x128_1_1_0_0_n_n (some .fp32) triT R (constant S128x128 .f32 0x00000000#32)) (matmul dot_S128x128_S128x128_S128x128_0_0_1_1_n_n (some .fp32) tri C (constant S128x128 .f32 0x00000000#32))
def halfA (dt R C : Sq) : Row := cols (mulf dt (back R C))
def halfDt (a : Row) (D R C : Sq) : Sq := addf D (mulf (back R C) (broadcastTo S128x128 a broadcasts_S1x128_S128x128))

end Cert.KernelIdeal.Scan

end
-- ==== Proof.HeadReal.lean ====
/- The gradient of one head over one chunk at finite values: every function of Head read at an index, as a real number. -/
module

public import proofs.«01_k».proof.Proof.Head
public import Idealize.ShloMosaic.Lib.Pointwise

@[expose] public section

set_option maxRecDepth 16384

noncomputable section

namespace Cert.Scan

open scoped BigOperators

/-- A head's arrays over one chunk: the steps, the decays' rates, the two projections, the inputs, the output's gradient, the state before the chunk and the gradient of the state after it. -/
structure Blk where
  dt : Fin 128 → Fin 128 → ℝ
  a : Fin 128 → ℝ
  B : Fin 128 → Fin 128 → ℝ
  C : Fin 128 → Fin 128 → ℝ
  x : Fin 128 → Fin 64 → ℝ
  dy : Fin 128 → Fin 64 → ℝ
  ent : Fin 64 → Fin 128 → ℝ
  dhn : Fin 64 → Fin 128 → ℝ

namespace Blk
variable (z : Blk) (e : Fin 128)

def A (i : Fin 128) : ℝ := ∑ k, if k ≤ i then z.dt k e * z.a e else 0
def S (i j : Fin 128) : ℝ := ∑ n, z.C i n * z.B j n
def L (i j : Fin 128) : ℝ := if j ≤ i then Real.exp (z.A e i - z.A e j) else 0
def decay (j : Fin 128) : ℝ := Real.exp (z.A e 127 - z.A e j)
def grown (i : Fin 128) : ℝ := Real.exp (z.A e i)
def xdt (j : Fin 128) (p : Fin 64) : ℝ := z.x j p * z.dt j e
def dxdt (j : Fin 128) (p : Fin 64) : ℝ := (∑ n, z.B j n * z.decay e j * z.dhn p n) + ∑ i, z.S i j * z.L e i j * z.dy i p
def dx (j : Fin 128) (p : Fin 64) : ℝ := z.dxdt e j p * z.dt j e
def dh (p : Fin 64) (n : Fin 128) : ℝ := z.grown e 127 * z.dhn p n + ∑ i, z.dy i p * (z.C i n * z.grown e i)
def fromState (j n : Fin 128) : ℝ := ∑ p, z.xdt e j p * z.dhn p n
def fromOut (i n : Fin 128) : ℝ := ∑ p, z.dy i p * z.ent p n
def dB (j n : Fin 128) : ℝ := z.fromState e j n * z.decay e j
def dC (i n : Fin 128) : ℝ := z.fromOut i n * z.grown e i
def dM (i j : Fin 128) : ℝ := ∑ p, z.dy i p * z.xdt e j p
def dS (i j : Fin 128) : ℝ := z.dM e i j * z.L e i j
def dSeg (i j : Fin 128) : ℝ := if j ≤ i then z.S i j * z.dM e i j * z.L e i j else 0
def dDt (i l : Fin 128) : ℝ := if l = e then ∑ p, z.x i p * z.dxdt e i p else 0
def dRow (r k : Fin 128) : ℝ := if r = e then ∑ i, (0 - z.dSeg e i k) else 0
def dTot : ℝ := (∑ p, ∑ n, z.dhn p n * z.ent p n) * z.grown e 127
def weight (j : Fin 128) : ℝ := (∑ n, z.B j n * z.fromState e j n) * z.decay e j
def dAc (i : Fin 128) : ℝ := (0 - z.weight e i + if i = 127 then z.dTot e + ∑ j, z.weight e j else 0) + (∑ n, z.C i n * z.fromOut i n) * z.grown e i
def dCol (i l : Fin 128) : ℝ := if l = e then z.dAc e i + ∑ j, z.dSeg e i j else 0
end Blk

def back (R C : Fin 128 → Fin 128 → ℝ) (j l : Fin 128) : ℝ := (∑ k, if j ≤ k then R l k else 0) + ∑ k, if j ≤ k then C k l else 0

end Cert.Scan

namespace Cert.KernelIdeal.Scan

open Cert.KernelIdeal Cert.KernelIdeal.Gen Cert.Scan
open Idealize.ShloMosaic Idealize.ShloMosaic.TcCoe Idealize.SL.Sem
open scoped BigOperators

/-- A vector read as an array of real numbers. -/
def Reads {m n : Nat} (v : (⟨2, ![m, n]⟩ : Shape).Idx → EReal) (f : Fin m → Fin n → ℝ) : Prop := ∀ i j, v (ix2 i j) = ((f i j : ℝ) : EReal)
def ReadsCol (v : Col) (f : Fin 128 → ℝ) : Prop := ∀ i, v (ix2 i 0) = ((f i : ℝ) : EReal)
def ReadsRow (v : Row) (f : Fin 128 → ℝ) : Prop := ∀ i, v (ix2 0 i) = ((f i : ℝ) : EReal)

theorem coe_sum {n : Nat} (f : Fin n → ℝ) : (∑ k, ((f k : ℝ) : EReal)) = ((∑ k, f k : ℝ) : EReal) := (map_sum (⟨⟨Real.toEReal, rfl⟩, fun a b => EReal.coe_add a b⟩ : ℝ →+ EReal) f Finset.univ).symm
theorem coe_ite (p : Prop) [Decidable p] (a b : ℝ) : (if p then ((a : ℝ) : EReal) else ((b : ℝ) : EReal)) = ((if p then a else b : ℝ) : EReal) := by split <;> rfl
theorem exp_coe (a : ℝ) : Ideal.exp ((a : ℝ) : EReal) = ((Real.exp a : ℝ) : EReal) := rfl

theorem sel_eq {α : Type} (i e : Fin 128) (x y : α) : Scalar.select (IntOp.cmpi .eq (BitVec.ofNat 32 i) (BitVec.ofNat 32 e)) x y = if i = e then x else y := by
  have h : (BitVec.ofNat 32 i == BitVec.ofNat 32 e) = decide (i = e) := by
    rw [Bool.eq_iff_iff, beq_iff_eq, decide_eq_true_iff, ← BitVec.toNat_inj, BitVec.toNat_ofNat, BitVec.toNat_ofNat, Fin.ext_iff]; omega
  unfold Scalar.select IntOp.cmpi; rw [h]; by_cases hd : i = e <;> simp [hd]
theorem sel_127 {α : Type} (i : Fin 128) (x y : α) : Scalar.select (IntOp.cmpi .eq (BitVec.ofNat 32 i) 127#32) x y = if i = 127 then x else y := sel_eq i 127 x y
theorem sle_iff (j i : Fin 128) : (BitVec.ofNat 32 j).sle (BitVec.ofNat 32 i) = decide (j ≤ i) := by
  have h : ∀ k : Fin 128, (BitVec.ofNat 32 k).toInt = (k : Int) := fun k => by
    rw [BitVec.toInt_eq_toNat_of_lt (by rw [BitVec.toNat_ofNat]; omega), BitVec.toNat_ofNat]; omega
  unfold BitVec.sle; rw [h, h]; exact decide_eq_decide.2 (by rw [Int.ofNat_le, Fin.le_def])
theorem sel_sle {α : Type} (j i : Fin 128) (x y : α) : Scalar.select (IntOp.cmpi .sle (BitVec.ofNat 32 j) (BitVec.ofNat 32 i)) x y = if j ≤ i then x else y := by
  unfold Scalar.select IntOp.cmpi; simp only [sle_iff]; by_cases hd : j ≤ i <;> simp [hd]
theorem one_of (b : Bool) : FloatOps.sitofp (F := Ideal) FTy.f32 (BitVec.setWidth 32 (BitVec.ofBool b)) = ((if b then 1 else 0 : ℝ) : EReal) := by
  have h : ∀ b : Bool, (BitVec.setWidth 32 (BitVec.ofBool b)).toInt = if b then 1 else 0 := by decide
  exact (congrArg (fun k : Int => ((k : ℝ) : EReal)) (h b)).trans (by cases b <;> simp)
theorem one_sle (j i : Fin 128) : FloatOps.sitofp (F := Ideal) FTy.f32 (BitVec.setWidth 32 (IntOp.cmpi .sle (BitVec.ofNat 32 j) (BitVec.ofNat 32 i))) = ((if j ≤ i then 1 else 0 : ℝ) : EReal) := by
  unfold IntOp.cmpi; simp only [sle_iff, one_of, decide_eq_true_eq]
theorem one_sge (j i : Fin 128) : FloatOps.sitofp (F := Ideal) FTy.f32 (BitVec.setWidth 32 (IntOp.cmpi .sge (BitVec.ofNat 32 j) (BitVec.ofNat 32 i))) = ((if i ≤ j then 1 else 0 : ℝ) : EReal) := by
  unfold IntOp.cmpi; simp only [sle_iff, one_of, decide_eq_true_eq]
theorem mask_bot : Named.named (F := Ideal) (φ := .f32) κ "mask" 4048155338#32 = (⊥ : EReal) := by
  rfl

theorem tri_reads : Reads tri fun i k => if k ≤ i then 1 else 0 := fun i k => by pointwise [tri, keep]; exact one_sle _ _
theorem triT_reads : Reads triT fun k i => if k ≤ i then 1 else 0 := fun k i => by pointwise [triT, keepT]; exact one_sge _ _

section Lemmas
variable {v w : Sq} {f g : Fin 128 → Fin 128 → ℝ} {c d : Col} {s : Fin 128 → ℝ} {u : Row}

theorem rows_reads (h : Reads v f) : ReadsCol (rows v) fun i => ∑ j, f i j := fun i => by
  pointwise [rows]; simp only [h _ _, coe_sum]
theorem cols_reads (h : Reads v f) : ReadsRow (cols v) fun j => ∑ i, f i j := fun j => by
  pointwise [cols]; simp only [h _ _, coe_sum]
theorem rows1_reads (h : ReadsCol c s) : ReadsCol (rows1 c) s := fun i => by
  pointwise [rows1]; simp [h _]
theorem cols1_reads (h : ReadsRow u s) : ReadsRow (cols1 u) s := fun i => by
  pointwise [cols1]; simp [h _]
theorem total_reads (h : ReadsCol c s) : total c (ix2 0 0) = ((∑ i, s i : ℝ) : EReal) := by
  pointwise [total]; simp only [h _, coe_sum]
theorem spread_reads (h : ReadsCol c s) : Reads (spread c) fun i _ => s i := fun i j => by
  pointwise [spread]; exact h i
theorem spreadH_reads (h : ReadsCol c s) : Reads (spreadH c) fun i _ => s i := fun i j => by
  pointwise [spreadH]; exact h i
theorem spreadRow_reads (h : ReadsRow u s) : Reads (broadcastTo S128x128 u broadcasts_S1x128_S128x128) fun _ j => s j := fun i j => by
  pointwise; exact h j
theorem lane_reads (e : Fin 128) (h : Reads v f) : Reads (select (lane (BitVec.ofNat 32 e)) v (broadcast S128x128 zero)) fun i l => if l = e then f i l else 0 := fun i l => by
  pointwise [lane]; rw [sel_eq, h, ← coe_ite]; rfl
theorem sub_reads (e : Fin 128) (h : Reads v f) : Reads (select (sub (BitVec.ofNat 32 e)) v (broadcast S128x128 zero)) fun r k => if r = e then f r k else 0 := fun i l => by
  pointwise [sub]; rw [sel_eq, h, ← coe_ite]; rfl
theorem keep_reads (h : Reads v f) : Reads (select keep v (broadcast S128x128 zero)) fun i j => if j ≤ i then f i j else 0 := fun i j => by
  pointwise [keep]; rw [sel_sle, h, ← coe_ite]; rfl
theorem colOf_reads (e : Fin 128) (h : Reads v f) : ReadsCol (colOf (BitVec.ofNat 32 e) v) fun i => f i e := fun i => by
  rw [colOf, rows_reads (lane_reads e h) i]; simp
theorem rowOf_reads (e : Fin 128) (h : Reads v f) : ReadsRow (rowOf (BitVec.ofNat 32 e) v) fun i => f e i := fun i => by
  rw [rowOf, cols_reads (sub_reads e h) i]; simp
theorem lastOf_reads (h : ReadsCol c s) : lastOf c (ix2 0 0) = ((s 127 : ℝ) : EReal) := by
  have : ReadsCol (select lastRow c (broadcast S128x1 zero)) fun i => if i = 127 then s i else 0 := fun i => by
    pointwise [lastRow]; rw [sel_127, h, ← coe_ite]; rfl
  rw [lastOf, total_reads this]; simp
theorem decay_reads (h : ReadsCol c s) : ReadsCol (decay c) fun i => Real.exp (s 127 - s i) := fun i => by
  pointwise [decay]; rw [lastOf_reads h, h i, ← EReal.coe_sub, exp_coe]
theorem exp_reads (h : ReadsCol c s) : ReadsCol (exp c) fun i => Real.exp (s i) := fun i => by
  pointwise; rw [h i, exp_coe]
theorem mulf_reads {m n : Nat} {v w : FVec Ideal ⟨2, ![m, n]⟩ .f32} {f g : Fin m → Fin n → ℝ} (h : Reads v f) (k : Reads w g) : Reads (mulf v w) fun i j => f i j * g i j := fun i j => by
  pointwise; rw [h, k, ← EReal.coe_mul]
theorem addf_reads {m n : Nat} {v w : FVec Ideal ⟨2, ![m, n]⟩ .f32} {f g : Fin m → Fin n → ℝ} (h : Reads v f) (k : Reads w g) : Reads (addf v w) fun i j => f i j + g i j := fun i j => by
  pointwise; rw [h, k, ← EReal.coe_add]

end Lemmas

/-- The head's vectors are the real arrays of `z`, read at finite values. -/
structure Fits (dt : Sq) (a : Row) (B C : Sq) (x dy : Hd) (ent dhn : St) (z : Blk) : Prop where
  dt : Reads dt z.dt
  a : ReadsRow a z.a
  B : Reads B z.B
  C : Reads C z.C
  x : Reads x z.x
  dy : Reads dy z.dy
  ent : Reads ent z.ent
  dhn : Reads dhn z.dhn

namespace Fits
variable {dt : Sq} {a : Row} {B C : Sq} {x dy : Hd} {ent dhn : St} {z : Blk} (h : Fits dt a B C x dy ent dhn z) (e : Fin 128)
include h

theorem run : Reads (run dt a) fun i e => z.A e i := fun i e => by
  pointwise [Scan.run]; simp only [h.dt _ _, h.a _, tri_reads _ _, ← EReal.coe_mul, coe_sum]; simp [Blk.A]
theorem runT : Reads (runT dt a) fun e i => z.A e i := fun e i => by
  pointwise [Scan.runT]; simp only [h.dt _ _, h.a _, triT_reads _ _, ← EReal.coe_mul, coe_sum]; simp [Blk.A]
theorem ac : ReadsCol (colOf (BitVec.ofNat 32 e) (Scan.run dt a)) (z.A e) := colOf_reads e h.run
theorem scores : Reads (scores B C) z.S := fun i j => by
  pointwise [Scan.scores]; simp only [h.B _ _, h.C _ _, ← EReal.coe_mul, coe_sum]; rfl
theorem between : Reads (between (BitVec.ofNat 32 e) dt a) (z.L e) := fun i j => by
  pointwise [Scan.between, keep]
  rw [sel_sle, spread_reads (h.ac e), rowOf_reads e h.runT, mask_bot, ← EReal.coe_sub]
  unfold Blk.L; split <;> rfl
theorem decay : ReadsCol (decay (colOf (BitVec.ofNat 32 e) (Scan.run dt a))) (z.decay e) := decay_reads (h.ac e)
theorem grown : ReadsCol (exp (colOf (BitVec.ofNat 32 e) (Scan.run dt a))) (z.grown e) := exp_reads (h.ac e)
theorem xdt : Reads (xdt (BitVec.ofNat 32 e) dt x) (z.xdt e) := mulf_reads h.x (spreadH_reads (colOf_reads e h.dt))
theorem dxdt : Reads (dxdt (BitVec.ofNat 32 e) dt a B C dy dhn) (z.dxdt e) := fun j p => by
  pointwise [Scan.dxdt]
  simp only [h.B _ _, h.dhn _ _, h.dy _ _, h.scores _ _, h.between e _ _, spread_reads (h.decay e) _ _, ← EReal.coe_mul, coe_sum, ← EReal.coe_add]; rfl
theorem dx : Reads (dx (BitVec.ofNat 32 e) dt a B C dy dhn) (z.dx e) := mulf_reads (h.dxdt e) (spreadH_reads (colOf_reads e h.dt))
theorem dh : Reads (dh (BitVec.ofNat 32 e) dt a C dy dhn) (z.dh e) := fun p n => by
  pointwise [Scan.dh]
  simp only [h.dhn _ _, h.dy _ _, h.C _ _, spread_reads (h.grown e) _ _, lastOf_reads (h.ac e), exp_coe, ← EReal.coe_mul, coe_sum, ← EReal.coe_add]; rfl
theorem fromState : Reads (fromState (BitVec.ofNat 32 e) dt x dhn) (z.fromState e) := fun j n => by
  pointwise [Scan.fromState]; simp only [h.dhn _ _, h.xdt e _ _, ← EReal.coe_mul, coe_sum]; rfl
theorem fromOut : Reads (fromOut ent dy) z.fromOut := fun j n => by
  pointwise [Scan.fromOut]; simp only [h.dy _ _, h.ent _ _, ← EReal.coe_mul, coe_sum]; rfl
theorem dB : Reads (dB (BitVec.ofNat 32 e) dt a x dhn) (z.dB e) := mulf_reads (h.fromState e) (spread_reads (h.decay e))
theorem dC : Reads (dC (BitVec.ofNat 32 e) dt a ent dy) (z.dC e) := mulf_reads h.fromOut (spread_reads (h.grown e))
theorem dM : Reads (dM (BitVec.ofNat 32 e) dt x dy) (z.dM e) := fun j n => by
  pointwise [Scan.dM]; simp only [h.dy _ _, h.xdt e _ _, ← EReal.coe_mul, coe_sum]; rfl
theorem dS : Reads (dS (BitVec.ofNat 32 e) dt a x dy) (z.dS e) := mulf_reads (h.dM e) (h.between e)
theorem dSeg : Reads (dSeg (BitVec.ofNat 32 e) dt a B C x dy) (z.dSeg e) := keep_reads (mulf_reads (mulf_reads h.scores (h.dM e)) (h.between e))
theorem dDt : Reads (dDt (BitVec.ofNat 32 e) dt a B C x dy dhn) (z.dDt e) := by
  refine lane_reads e (spread_reads (rows1_reads (s := fun i => ∑ p, z.x i p * z.dxdt e i p) fun i => ?_))
  pointwise; simp only [h.x _ _, h.dxdt e _ _, ← EReal.coe_mul, coe_sum]
theorem dRow : Reads (dRow (BitVec.ofNat 32 e) dt a B C x dy) (z.dRow e) := by
  have hk : ReadsRow (cols (subf (broadcast S128x128 zero) (Scan.dSeg (BitVec.ofNat 32 e) dt a B C x dy))) fun k => ∑ i, (0 - z.dSeg e i k) :=
    cols_reads fun i k => by pointwise; rw [h.dSeg e, EReal.coe_sub]; rfl
  exact sub_reads e (spreadRow_reads (cols1_reads hk))
theorem dTot : dTot (BitVec.ofNat 32 e) dt a ent dhn (ix2 0 0) = ((z.dTot e : ℝ) : EReal) := by
  pointwise [Scan.dTot]; simp only [h.dhn _ _, h.ent _ _, lastOf_reads (h.ac e), exp_coe, ← EReal.coe_mul, coe_sum]; rfl
theorem weight : ReadsCol (weight (BitVec.ofNat 32 e) dt a B x dhn) (z.weight e) := fun j => by
  pointwise [Scan.weight]; rw [rows_reads (mulf_reads h.B (h.fromState e)), h.decay e, ← EReal.coe_mul]; rfl
theorem dAc : ReadsCol (dAc (BitVec.ofNat 32 e) dt a B C x dy ent dhn) (z.dAc e) := fun i => by
  pointwise [Scan.dAc, atLast, lastRow]
  rw [sel_127, h.weight e, h.dTot e, total_reads (h.weight e), rows_reads (mulf_reads h.C h.fromOut), h.ac e, exp_coe]
  simp only [Finset.univ_unique, Finset.sum_singleton, ← EReal.coe_add, ← EReal.coe_mul, ← EReal.coe_zero, ← EReal.coe_sub, coe_ite]; rfl
theorem dCol : Reads (dCol (BitVec.ofNat 32 e) dt a B C x dy ent dhn) (z.dCol e) := by
  refine lane_reads e (spread_reads (rows1_reads (s := fun i => z.dAc e i + ∑ j, z.dSeg e i j) fun i => ?_))
  pointwise; rw [h.dAc e, rows_reads (h.dSeg e), ← EReal.coe_add]

end Fits

theorem back_reads {R C : Sq} {r c : Fin 128 → Fin 128 → ℝ} (hr : Reads R r) (hc : Reads C c) : Reads (back R C) (Cert.Scan.back r c) := fun j l => by
  pointwise [back]; simp only [hr _ _, hc _ _, tri_reads _ _, triT_reads _ _, ← EReal.coe_mul, coe_sum, ← EReal.coe_add]; simp [Cert.Scan.back]

end Cert.KernelIdeal.Scan

end
-- ==== Proof.Point.lean ====
/- One point of the kernel's grid: what the body leaves in each block, in the terms of Head. -/
module

public import proofs.«01_k».proof.Proof.Gen.KernelIdeal.Frame
public import proofs.«01_k».proof.Proof.Head
public import Idealize.ShloMosaic.Lib.Pipeline.Value

@[expose] public section

set_option maxRecDepth 16384

noncomputable section

namespace Cert.KernelIdeal.Scan

open Cert.KernelIdeal Cert.KernelIdeal.Gen
open Idealize.ShloMosaic Idealize.ShloMosaic.TcCoe Idealize.SL.Sem

/-- The parts of a block that belong to a head. -/
def xRect (e : Fin 8) : Rect S128x512 := Rect.unit ![0, 64 * e.val] S128x64.size fun a => by fin_cases a <;> fin_cases e <;> decide
def sRect (e : Fin 8) : Rect S512x128 := Rect.unit ![64 * e.val, 0] S64x128.size fun a => by fin_cases a <;> fin_cases e <;> decide
def eRect (e : Fin 8) : Rect S1x1x512x128 := Rect.unit ![0, 0, 64 * e.val, 0] S1x1x64x128.size fun a => by fin_cases a <;> fin_cases e <;> decide

/-- What a point reads: the chunk's arrays and the heads' blocks. -/
structure Pt where
  D : Sq
  a : Row
  B : Sq
  C : Sq
  X : Fin 8 → Hd
  Y : Fin 8 → Hd
  H : Fin 8 → St
  N : Fin 8 → St

namespace Pt
variable (p : Pt)

/-- Head `j` of the half `k`. -/
def head (k : Fin 2) (j : Fin 4) : Fin 8 := ⟨4 * k.val + j.val, by omega⟩
def dxs (e : Fin 8) : FVec Ideal S128x64 .bf16 := truncf .bf16 (dx (BitVec.ofNat 32 e) p.D p.a p.B p.C (p.Y e) (p.N e)) bitsLt_bf16_f32
def dhs (e : Fin 8) : St := shapeCast S64x128 (dh (BitVec.ofNat 32 e) p.D p.a p.C (p.Y e) (p.N e)) shapeCasts_S64x128_S64x128
def score (k : Fin 2) : Sq := sum4 fun j => dS (BitVec.ofNat 32 (head k j)) p.D p.a (p.X (head k j)) (p.Y (head k j))
def acrossSum (k : Fin 2) : Sq := sum4 fun j => dRow (BitVec.ofNat 32 (head k j)) p.D p.a p.B p.C (p.X (head k j)) (p.Y (head k j))
def downSum (k : Fin 2) : Sq := sum4 fun j => dCol (BitVec.ofNat 32 (head k j)) p.D p.a p.B p.C (p.X (head k j)) (p.Y (head k j)) (p.H (head k j)) (p.N (head k j))
def dbs (k : Fin 2) : Sq := halfB p.B p.C (p.score k) (sum4 fun j => dB (BitVec.ofNat 32 (head k j)) p.D p.a (p.X (head k j)) (p.N (head k j)))
def dcs (k : Fin 2) : Sq := halfC p.B p.C (p.score k) (sum4 fun j => dC (BitVec.ofNat 32 (head k j)) p.D p.a (p.H (head k j)) (p.Y (head k j)))
def das (k : Fin 2) : Row := halfA p.D (p.acrossSum k) (p.downSum k)
def ddts (k : Fin 2) : Sq := halfDt p.a (sum4 fun j => dDt (BitVec.ofNat 32 (head k j)) p.D p.a p.B p.C (p.X (head k j)) (p.Y (head k j)) (p.N (head k j))) (p.acrossSum k) (p.downSum k)
end Pt

/-- The heads' parts of a block, last stored first. -/
def heads : List (Fin 8) := [7, 6, 5, 4, 3, 2, 1, 0]

variable (c : Dev nD) (i : grid0.Coords) (arg2 : Memref sig .tc .vmem S128x512 .bf16) (harg2 : arg2.IsWhole) (arg3 : Memref sig .tc .vmem S128x128 .f32) (harg3 : arg3.IsWhole) (arg4 : Memref sig .tc .vmem S128x128 .bf16) (harg4 : arg4.IsWhole) (arg5 : Memref sig .tc .vmem S128x128 .bf16) (harg5 : arg5.IsWhole) (arg6 : Memref sig .tc .vmem S1x8x128 .f32) (harg6 : arg6.IsWhole) (arg7 : Memref sig .tc .vmem S1x1x512x128 .f32) (harg7 : arg7.IsWhole) (arg8 : Memref sig .tc .vmem S128x512 .f32) (harg8 : arg8.IsWhole) (arg9 : Memref sig .tc .vmem S1x512x128 .f32) (harg9 : arg9.IsWhole) (arg10 : Memref sig .tc .vmem S128x512 .bf16) (harg10 : arg10.IsWhole) (arg11 : Memref sig .tc .vmem S128x128 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S1x8x128 .f32) (harg14 : arg14.IsWhole) (arg15 : Memref sig .tc .vmem S1x512x128 .f32) (harg15 : arg15.IsWhole) (arg16 : Memref sig .tc .vmem S512x128 .f32) (harg16 : arg16.IsWhole)
  (x0 : Vec Ideal S128x512 .bf16) (x1 : Vec Ideal S128x128 .f32) (x2 : Vec Ideal S128x128 .bf16) (x3 : Vec Ideal S128x128 .bf16) (x4 : Vec Ideal S1x8x128 .f32) (x5 : Vec Ideal S1x1x512x128 .f32) (x6 : Vec Ideal S128x512 .f32) (x7 : Vec Ideal S1x512x128 .f32) (xs0 : Vec Ideal S512x128 .f32)

/-- What a point reads, given the state's gradient. -/
def ptOf (N : Fin 8 → St) : Pt where
  D := View.readAt (Elt Ideal) arg3.view (Rect.unit ![0, 0] S128x128.size inb_S128x128_S128x128_0_0).toLoadRect (harg3.unread x1)
  a := shapeCast S1x128 (View.readAt (Elt Ideal) arg6.view (Rect.unit (s := S1x8x128) ![0, 0, 0] S1x1x128.size inb_S1x8x128_S1x1x128_0_0_0).toLoadRect (harg6.unread x4)) shapeCasts_S1x1x128_S1x128
  B := extf .f32 (View.readAt (Elt Ideal) arg4.view (Rect.unit ![0, 0] S128x128.size inb_S128x128_S128x128_0_0).toLoadRect (harg4.unread x2)) bitsLt_bf16_f32
  C := extf .f32 (View.readAt (Elt Ideal) arg5.view (Rect.unit ![0, 0] S128x128.size inb_S128x128_S128x128_0_0).toLoadRect (harg5.unread x3)) bitsLt_bf16_f32
  X := fun e => extf .f32 (View.readAt (Elt Ideal) arg2.view (xRect e).toLoadRect (harg2.unread x0)) bitsLt_bf16_f32
  Y := fun e => View.readAt (Elt Ideal) arg8.view (xRect e).toLoadRect (harg8.unread x6)
  H := fun e => shapeCast S64x128 (View.readAt (Elt Ideal) arg7.view (eRect e).toLoadRect (harg7.unread x5)) shapeCasts_S1x1x64x128_S64x128
  N := N

/-- The state's gradient as the two kinds of points read it. -/
def nA : Fin 8 → St := fun e => arg16.view.readCov (if e.val < 4 then kernelRun0_A.sl.HS0_1 c arg9 harg9 x7 else kernelRun0_A.sl.HS0_5 c arg3 harg3 arg5 harg5 arg6 harg6 arg8 harg8 arg9 harg9 arg16 x1 x3 x4 x6 x7) (sRect e).toLoadRect
def nB : Fin 8 → St := fun e => View.readAt (Elt Ideal) arg16.view (sRect e).toLoadRect (harg16.unread xs0)

abbrev ptA : Pt := ptOf arg2 harg2 arg3 harg3 arg4 harg4 arg5 harg5 arg6 harg6 arg7 harg7 arg8 harg8 x0 x1 x2 x3 x4 x5 x6 (nA c arg3 harg3 arg5 harg5 arg6 harg6 arg8 harg8 arg9 harg9 arg16 x1 x3 x4 x6 x7)
abbrev ptB : Pt := ptOf arg2 harg2 arg3 harg3 arg4 harg4 arg5 harg5 arg6 harg6 arg7 harg7 arg8 harg8 x0 x1 x2 x3 x4 x5 x6 (nB arg16 harg16 xs0)

theorem hz2 : (![0, 0] : Fin 2 → Nat) = fun _ => 0 := by funext a; fin_cases a <;> rfl
theorem hz3 : (![0, 0, 0] : Fin 3 → Nat) = fun _ => 0 := by funext a; fin_cases a <;> rfl
variable (xo12 : Vec Ideal S1x8x128 .f32)

theorem inputs_A (hc0 : cond0_0 i) : out0_A_8 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 = View.canon (Val := Elt Ideal) (heads.map fun e => ⟨xRect e, (ptA c arg2 harg2 arg3 harg3 arg4 harg4 arg5 harg5 arg6 harg6 arg7 harg7 arg8 harg8 arg9 harg9 arg16 x0 x1 x2 x3 x4 x5 x6 x7).dxs e⟩) := by
  unfold out0_A_8
  rw [View.read_writes_eq_canon _ _ _ (cover0_A_8 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7)]
  unfold kernelRun0_A
  dsimp only
  sl_kernel_rfl

theorem state_A (hc0 : cond0_0 i) : sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 = View.canon (Val := Elt Ideal) ((heads.map fun e => ⟨sRect e, (ptA c arg2 harg2 arg3 harg3 arg4 harg4 arg5 harg5 arg6 harg6 arg7 harg7 arg8 harg8 arg9 harg9 arg16 x0 x1 x2 x3 x4 x5 x6 x7).dhs e⟩) ++ [⟨Rect.unit (s := S512x128) ![0, 0] S512x128.size inb_S512x128_S512x128_0_0, k0_pay3 (View.readAt (Elt Ideal) arg9.view (Rect.unit (s := S1x512x128) ![0, 0, 0] S1x512x128.size inb_S1x512x128_S1x512x128_0_0_0).toLoadRect (harg9.unread x7))⟩]) := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7)]
  unfold kernelRun0_A
  dsimp only
  sl_kernel_rfl

theorem ddts_A (hc0 : cond0_0 i) : out0_A_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 = addf ((ptA c arg2 harg2 arg3 harg3 arg4 harg4 arg5 harg5 arg6 harg6 arg7 harg7 arg8 harg8 arg9 harg9 arg16 x0 x1 x2 x3 x4 x5 x6 x7).ddts 0) ((ptA c arg2 harg2 arg3 harg3 arg4 harg4 arg5 harg5 arg6 harg6 arg7 harg7 arg8 harg8 arg9 harg9 arg16 x0 x1 x2 x3 x4 x5 x6 x7).ddts 1) := by
  have h : out0_A_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 = View.canon (Val := Elt Ideal) [⟨Rect.unit (s := S128x128) ![0, 0] S128x128.size inb_S128x128_S128x128_0_0, addf (shapeCast S128x128 (arg11.view.readCov (Val := Elt Ideal) [⟨Rect.unit (s := S128x128) ![0, 0] S128x128.size inb_S128x128_S128x128_0_0, (ptA c arg2 harg2 arg3 harg3 arg4 harg4 arg5 harg5 arg6 harg6 arg7 harg7 arg8 harg8 arg9 harg9 arg16 x0 x1 x2 x3 x4 x5 x6 x7).ddts 0⟩] (Rect.unit (s := S128x128) ![0, 0] S128x128.size inb_S128x128_S128x128_0_0).toLoadRect) shapeCasts_S128x128_S128x128) ((ptA c arg2 harg2 arg3 harg3 arg4 harg4 arg5 harg5 arg6 harg6 arg7 harg7 arg8 harg8 arg9 harg9 arg16 x0 x1 x2 x3 x4 x5 x6 x7).ddts 1)⟩, ⟨Rect.unit (s := S128x128) ![0, 0] S128x128.size inb_S128x128_S128x128_0_0, (ptA c arg2 harg2 arg3 harg3 arg4 harg4 arg5 harg5 arg6 harg6 arg7 harg7 arg8 harg8 arg9 harg9 arg16 x0 x1 x2 x3 x4 x5 x6 x7).ddts 0⟩] := by
    unfold out0_A_9
    rw [View.read_writes_eq_canon _ _ _ (cover0_A_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7)]
    unfold kernelRun0_A
    dsimp only
    sl_kernel_rfl
  rw [h, View.canon_cons_unit_zero hz2, View.readCov_unit_zero _ hz2, shapeCast_self]

theorem dbs_A (hc0 : cond0_0 i) : out0_A_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 = addf ((ptA c arg2 harg2 arg3 harg3 arg4 harg4 arg5 harg5 arg6 harg6 arg7 harg7 arg8 harg8 arg9 harg9 arg16 x0 x1 x2 x3 x4 x5 x6 x7).dbs 0) ((ptA c arg2 harg2 arg3 harg3 arg4 harg4 arg5 harg5 arg6 harg6 arg7 harg7 arg8 harg8 arg9 harg9 arg16 x0 x1 x2 x3 x4 x5 x6 x7).dbs 1) := by
  have h : out0_A_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 = View.canon (Val := Elt Ideal) [⟨Rect.unit (s := S128x128) ![0, 0] S128x128.size inb_S128x128_S128x128_0_0, addf (shapeCast S128x128 (arg12.view.readCov (Val := Elt Ideal) [⟨Rect.unit (s := S128x128) ![0, 0] S128x128.size inb_S128x128_S128x128_0_0, (ptA c arg2 harg2 arg3 harg3 arg4 harg4 arg5 harg5 arg6 harg6 arg7 harg7 arg8 harg8 arg9 harg9 arg16 x0 x1 x2 x3 x4 x5 x6 x7).dbs 0⟩] (Rect.unit (s := S128x128) ![0, 0] S128x128.size inb_S128x128_S128x128_0_0).toLoadRect) shapeCasts_S128x128_S128x128) ((ptA c arg2 harg2 arg3 harg3 arg4 harg4 arg5 harg5 arg6 harg6 arg7 harg7 arg8 harg8 arg9 harg9 arg16 x0 x1 x2 x3 x4 x5 x6 x7).dbs 1)⟩, ⟨Rect.unit (s := S128x128) ![0, 0] S128x128.size inb_S128x128_S128x128_0_0, (ptA c arg2 harg2 arg3 harg3 arg4 harg4 arg5 harg5 arg6 harg6 arg7 harg7 arg8 harg8 arg9 harg9 arg16 x0 x1 x2 x3 x4 x5 x6 x7).dbs 0⟩] := by
    unfold out0_A_10
    rw [View.read_writes_eq_canon _ _ _ (cover0_A_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7)]
    unfold kernelRun0_A
    dsimp only
    sl_kernel_rfl
  rw [h, View.canon_cons_unit_zero hz2, View.readCov_unit_zero _ hz2, shapeCast_self]

theorem dcs_A (hc0 : cond0_0 i) : out0_A_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 = addf ((ptA c arg2 harg2 arg3 harg3 arg4 harg4 arg5 harg5 arg6 harg6 arg7 harg7 arg8 harg8 arg9 harg9 arg16 x0 x1 x2 x3 x4 x5 x6 x7).dcs 0) ((ptA c arg2 harg2 arg3 harg3 arg4 harg4 arg5 harg5 arg6 harg6 arg7 harg7 arg8 harg8 arg9 harg9 arg16 x0 x1 x2 x3 x4 x5 x6 x7).dcs 1) := by
  have h : out0_A_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 = View.canon (Val := Elt Ideal) [⟨Rect.unit (s := S128x128) ![0, 0] S128x128.size inb_S128x128_S128x128_0_0, addf (shapeCast S128x128 (arg13.view.readCov (Val := Elt Ideal) [⟨Rect.unit (s := S128x128) ![0, 0] S128x128.size inb_S128x128_S128x128_0_0, (ptA c arg2 harg2 arg3 harg3 arg4 harg4 arg5 harg5 arg6 harg6 arg7 harg7 arg8 harg8 arg9 harg9 arg16 x0 x1 x2 x3 x4 x5 x6 x7).dcs 0⟩] (Rect.unit (s := S128x128) ![0, 0] S128x128.size inb_S128x128_S128x128_0_0).toLoadRect) shapeCasts_S128x128_S128x128) ((ptA c arg2 harg2 arg3 harg3 arg4 harg4 arg5 harg5 arg6 harg6 arg7 harg7 arg8 harg8 arg9 harg9 arg16 x0 x1 x2 x3 x4 x5 x6 x7).dcs 1)⟩, ⟨Rect.unit (s := S128x128) ![0, 0] S128x128.size inb_S128x128_S128x128_0_0, (ptA c arg2 harg2 arg3 harg3 arg4 harg4 arg5 harg5 arg6 harg6 arg7 harg7 arg8 harg8 arg9 harg9 arg16 x0 x1 x2 x3 x4 x5 x6 x7).dcs 0⟩] := by
    unfold out0_A_11
    rw [View.read_writes_eq_canon _ _ _ (cover0_A_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7)]
    unfold kernelRun0_A
    dsimp only
    sl_kernel_rfl
  rw [h, View.canon_cons_unit_zero hz2, View.readCov_unit_zero _ hz2, shapeCast_self]

theorem inputs_B (hc0 : ¬cond0_0 i) : out0_B_8 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 xo12 xs0 = View.canon (Val := Elt Ideal) (heads.map fun e => ⟨xRect e, (ptB arg2 harg2 arg3 harg3 arg4 harg4 arg5 harg5 arg6 harg6 arg7 harg7 arg8 harg8 arg16 harg16 x0 x1 x2 x3 x4 x5 x6 xs0).dxs e⟩) := by
  unfold out0_B_8
  rw [View.read_writes_eq_canon _ _ _ (cover0_B_8 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 xo12 xs0)]
  unfold kernelRun0_B
  dsimp only
  sl_kernel_rfl

theorem state_B (hc0 : ¬cond0_0 i) : sout0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 xo12 xs0 = View.canon (Val := Elt Ideal) ((heads.map fun e => ⟨sRect e, (ptB arg2 harg2 arg3 harg3 arg4 harg4 arg5 harg5 arg6 harg6 arg7 harg7 arg8 harg8 arg16 harg16 x0 x1 x2 x3 x4 x5 x6 xs0).dhs e⟩)) := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 xo12 xs0)]
  unfold kernelRun0_B
  dsimp only
  sl_kernel_rfl

theorem ddts_B (hc0 : ¬cond0_0 i) : out0_B_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 xo12 xs0 = addf ((ptB arg2 harg2 arg3 harg3 arg4 harg4 arg5 harg5 arg6 harg6 arg7 harg7 arg8 harg8 arg16 harg16 x0 x1 x2 x3 x4 x5 x6 xs0).ddts 0) ((ptB arg2 harg2 arg3 harg3 arg4 harg4 arg5 harg5 arg6 harg6 arg7 harg7 arg8 harg8 arg16 harg16 x0 x1 x2 x3 x4 x5 x6 xs0).ddts 1) := by
  have h : out0_B_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 xo12 xs0 = View.canon (Val := Elt Ideal) [⟨Rect.unit (s := S128x128) ![0, 0] S128x128.size inb_S128x128_S128x128_0_0, addf (shapeCast S128x128 (arg11.view.readCov (Val := Elt Ideal) [⟨Rect.unit (s := S128x128) ![0, 0] S128x128.size inb_S128x128_S128x128_0_0, (ptB arg2 harg2 arg3 harg3 arg4 harg4 arg5 harg5 arg6 harg6 arg7 harg7 arg8 harg8 arg16 harg16 x0 x1 x2 x3 x4 x5 x6 xs0).ddts 0⟩] (Rect.unit (s := S128x128) ![0, 0] S128x128.size inb_S128x128_S128x128_0_0).toLoadRect) shapeCasts_S128x128_S128x128) ((ptB arg2 harg2 arg3 harg3 arg4 harg4 arg5 harg5 arg6 harg6 arg7 harg7 arg8 harg8 arg16 harg16 x0 x1 x2 x3 x4 x5 x6 xs0).ddts 1)⟩, ⟨Rect.unit (s := S128x128) ![0, 0] S128x128.size inb_S128x128_S128x128_0_0, (ptB arg2 harg2 arg3 harg3 arg4 harg4 arg5 harg5 arg6 harg6 arg7 harg7 arg8 harg8 arg16 harg16 x0 x1 x2 x3 x4 x5 x6 xs0).ddts 0⟩] := by
    unfold out0_B_9
    rw [View.read_writes_eq_canon _ _ _ (cover0_B_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 xo12 xs0)]
    unfold kernelRun0_B
    dsimp only
    sl_kernel_rfl
  rw [h, View.canon_cons_unit_zero hz2, View.readCov_unit_zero _ hz2, shapeCast_self]

theorem dbs_B (hc0 : ¬cond0_0 i) : out0_B_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 xo12 xs0 = addf ((ptB arg2 harg2 arg3 harg3 arg4 harg4 arg5 harg5 arg6 harg6 arg7 harg7 arg8 harg8 arg16 harg16 x0 x1 x2 x3 x4 x5 x6 xs0).dbs 0) ((ptB arg2 harg2 arg3 harg3 arg4 harg4 arg5 harg5 arg6 harg6 arg7 harg7 arg8 harg8 arg16 harg16 x0 x1 x2 x3 x4 x5 x6 xs0).dbs 1) := by
  have h : out0_B_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 xo12 xs0 = View.canon (Val := Elt Ideal) [⟨Rect.unit (s := S128x128) ![0, 0] S128x128.size inb_S128x128_S128x128_0_0, addf (shapeCast S128x128 (arg12.view.readCov (Val := Elt Ideal) [⟨Rect.unit (s := S128x128) ![0, 0] S128x128.size inb_S128x128_S128x128_0_0, (ptB arg2 harg2 arg3 harg3 arg4 harg4 arg5 harg5 arg6 harg6 arg7 harg7 arg8 harg8 arg16 harg16 x0 x1 x2 x3 x4 x5 x6 xs0).dbs 0⟩] (Rect.unit (s := S128x128) ![0, 0] S128x128.size inb_S128x128_S128x128_0_0).toLoadRect) shapeCasts_S128x128_S128x128) ((ptB arg2 harg2 arg3 harg3 arg4 harg4 arg5 harg5 arg6 harg6 arg7 harg7 arg8 harg8 arg16 harg16 x0 x1 x2 x3 x4 x5 x6 xs0).dbs 1)⟩, ⟨Rect.unit (s := S128x128) ![0, 0] S128x128.size inb_S128x128_S128x128_0_0, (ptB arg2 harg2 arg3 harg3 arg4 harg4 arg5 harg5 arg6 harg6 arg7 harg7 arg8 harg8 arg16 harg16 x0 x1 x2 x3 x4 x5 x6 xs0).dbs 0⟩] := by
    unfold out0_B_10
    rw [View.read_writes_eq_canon _ _ _ (cover0_B_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 xo12 xs0)]
    unfold kernelRun0_B
    dsimp only
    sl_kernel_rfl
  rw [h, View.canon_cons_unit_zero hz2, View.readCov_unit_zero _ hz2, shapeCast_self]

theorem dcs_B (hc0 : ¬cond0_0 i) : out0_B_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 xo12 xs0 = addf ((ptB arg2 harg2 arg3 harg3 arg4 harg4 arg5 harg5 arg6 harg6 arg7 harg7 arg8 harg8 arg16 harg16 x0 x1 x2 x3 x4 x5 x6 xs0).dcs 0) ((ptB arg2 harg2 arg3 harg3 arg4 harg4 arg5 harg5 arg6 harg6 arg7 harg7 arg8 harg8 arg16 harg16 x0 x1 x2 x3 x4 x5 x6 xs0).dcs 1) := by
  have h : out0_B_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 xo12 xs0 = View.canon (Val := Elt Ideal) [⟨Rect.unit (s := S128x128) ![0, 0] S128x128.size inb_S128x128_S128x128_0_0, addf (shapeCast S128x128 (arg13.view.readCov (Val := Elt Ideal) [⟨Rect.unit (s := S128x128) ![0, 0] S128x128.size inb_S128x128_S128x128_0_0, (ptB arg2 harg2 arg3 harg3 arg4 harg4 arg5 harg5 arg6 harg6 arg7 harg7 arg8 harg8 arg16 harg16 x0 x1 x2 x3 x4 x5 x6 xs0).dcs 0⟩] (Rect.unit (s := S128x128) ![0, 0] S128x128.size inb_S128x128_S128x128_0_0).toLoadRect) shapeCasts_S128x128_S128x128) ((ptB arg2 harg2 arg3 harg3 arg4 harg4 arg5 harg5 arg6 harg6 arg7 harg7 arg8 harg8 arg16 harg16 x0 x1 x2 x3 x4 x5 x6 xs0).dcs 1)⟩, ⟨Rect.unit (s := S128x128) ![0, 0] S128x128.size inb_S128x128_S128x128_0_0, (ptB arg2 harg2 arg3 harg3 arg4 harg4 arg5 harg5 arg6 harg6 arg7 harg7 arg8 harg8 arg16 harg16 x0 x1 x2 x3 x4 x5 x6 xs0).dcs 0⟩] := by
    unfold out0_B_11
    rw [View.read_writes_eq_canon _ _ _ (cover0_B_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 xo12 xs0)]
    unfold kernelRun0_B
    dsimp only
    sl_kernel_rfl
  rw [h, View.canon_cons_unit_zero hz2, View.readCov_unit_zero _ hz2, shapeCast_self]

theorem rates_A (hc0 : cond0_0 i) : out0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 = View.canon (Val := Elt Ideal) (⟨Rect.unit (s := S1x8x128) ![0, 0, 0] S1x1x128.size inb_S1x8x128_S1x1x128_0_0_0, k0_pay1 ((ptA c arg2 harg2 arg3 harg3 arg4 harg4 arg5 harg5 arg6 harg6 arg7 harg7 arg8 harg8 arg9 harg9 arg16 x0 x1 x2 x3 x4 x5 x6 x7).das 1) (arg14.view.readCov (Val := Elt Ideal) [⟨Rect.unit (s := S1x8x128) ![0, 0, 0] S1x1x128.size inb_S1x8x128_S1x1x128_0_0_0, k0_pay194 ((ptA c arg2 harg2 arg3 harg3 arg4 harg4 arg5 harg5 arg6 harg6 arg7 harg7 arg8 harg8 arg9 harg9 arg16 x0 x1 x2 x3 x4 x5 x6 x7).das 0) (arg14.view.readCov (Val := Elt Ideal) [⟨Rect.unit (s := S1x8x128) ![0, 0, 0] S1x8x128.size inb_S1x8x128_S1x8x128_0_0_0, k0_pay4 (F := Ideal)⟩] (Rect.unit (s := S1x8x128) ![0, 0, 0] S1x1x128.size inb_S1x8x128_S1x1x128_0_0_0).toLoadRect)⟩, ⟨Rect.unit (s := S1x8x128) ![0, 0, 0] S1x8x128.size inb_S1x8x128_S1x8x128_0_0_0, k0_pay4 (F := Ideal)⟩] (Rect.unit (s := S1x8x128) ![0, 0, 0] S1x1x128.size inb_S1x8x128_S1x1x128_0_0_0).toLoadRect)⟩ :: [⟨Rect.unit (s := S1x8x128) ![0, 0, 0] S1x1x128.size inb_S1x8x128_S1x1x128_0_0_0, k0_pay194 ((ptA c arg2 harg2 arg3 harg3 arg4 harg4 arg5 harg5 arg6 harg6 arg7 harg7 arg8 harg8 arg9 harg9 arg16 x0 x1 x2 x3 x4 x5 x6 x7).das 0) (arg14.view.readCov (Val := Elt Ideal) [⟨Rect.unit (s := S1x8x128) ![0, 0, 0] S1x8x128.size inb_S1x8x128_S1x8x128_0_0_0, k0_pay4 (F := Ideal)⟩] (Rect.unit (s := S1x8x128) ![0, 0, 0] S1x1x128.size inb_S1x8x128_S1x1x128_0_0_0).toLoadRect)⟩, ⟨Rect.unit (s := S1x8x128) ![0, 0, 0] S1x8x128.size inb_S1x8x128_S1x8x128_0_0_0, k0_pay4 (F := Ideal)⟩]) := by
  unfold out0_A_12
  rw [View.read_writes_eq_canon _ _ _ (cover0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7)]
  unfold kernelRun0_A
  dsimp only
  sl_kernel_rfl

theorem rates_B (hc0 : ¬cond0_0 i) : out0_B_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 xo12 xs0 = arg14.view.read (Elt Ideal) (arg14.view.writes (Elt Ideal) (harg14.unread xo12) (⟨Rect.unit (s := S1x8x128) ![0, 0, 0] S1x1x128.size inb_S1x8x128_S1x1x128_0_0_0, k0_pay1 ((ptB arg2 harg2 arg3 harg3 arg4 harg4 arg5 harg5 arg6 harg6 arg7 harg7 arg8 harg8 arg16 harg16 x0 x1 x2 x3 x4 x5 x6 xs0).das 1) (arg14.view.readCov (Val := Elt Ideal) [⟨Rect.unit (s := S1x8x128) ![0, 0, 0] S1x1x128.size inb_S1x8x128_S1x1x128_0_0_0, k0_pay194 ((ptB arg2 harg2 arg3 harg3 arg4 harg4 arg5 harg5 arg6 harg6 arg7 harg7 arg8 harg8 arg16 harg16 x0 x1 x2 x3 x4 x5 x6 xs0).das 0) (View.readAt (Elt Ideal) arg14.view (Rect.unit (s := S1x8x128) ![0, 0, 0] S1x1x128.size inb_S1x8x128_S1x1x128_0_0_0).toLoadRect (harg14.unread xo12))⟩] (Rect.unit (s := S1x8x128) ![0, 0, 0] S1x1x128.size inb_S1x8x128_S1x1x128_0_0_0).toLoadRect)⟩ :: [⟨Rect.unit (s := S1x8x128) ![0, 0, 0] S1x1x128.size inb_S1x8x128_S1x1x128_0_0_0, k0_pay194 ((ptB arg2 harg2 arg3 harg3 arg4 harg4 arg5 harg5 arg6 harg6 arg7 harg7 arg8 harg8 arg16 harg16 x0 x1 x2 x3 x4 x5 x6 xs0).das 0) (View.readAt (Elt Ideal) arg14.view (Rect.unit (s := S1x8x128) ![0, 0, 0] S1x1x128.size inb_S1x8x128_S1x1x128_0_0_0).toLoadRect (harg14.unread xo12))⟩])) := by
  unfold out0_B_12
  unfold kernelRun0_B
  dsimp only
  sl_kernel_rfl

theorem final_B (hc0 : ¬cond0_0 i) : out0_B_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 xo12 xs0 = k0_pay2 (View.canon (Val := Elt Ideal) (heads.map fun e => ⟨sRect e, (ptB arg2 harg2 arg3 harg3 arg4 harg4 arg5 harg5 arg6 harg6 arg7 harg7 arg8 harg8 arg16 harg16 x0 x1 x2 x3 x4 x5 x6 xs0).dhs e⟩)) := by
  have h : out0_B_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 xo12 xs0 = View.canon (Val := Elt Ideal) [⟨Rect.unit (s := S1x512x128) ![0, 0, 0] S1x512x128.size inb_S1x512x128_S1x512x128_0_0_0, k0_pay2 (arg16.view.readCov (Val := Elt Ideal) (heads.map fun e => ⟨sRect e, (ptB arg2 harg2 arg3 harg3 arg4 harg4 arg5 harg5 arg6 harg6 arg7 harg7 arg8 harg8 arg16 harg16 x0 x1 x2 x3 x4 x5 x6 xs0).dhs e⟩) (Rect.unit (s := S512x128) ![0, 0] S512x128.size inb_S512x128_S512x128_0_0).toLoadRect)⟩] := by
    unfold out0_B_13
    rw [View.read_writes_eq_canon _ _ _ (cover0_B_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 xo12 xs0)]
    unfold kernelRun0_B
    dsimp only
    sl_kernel_rfl
  rw [h, View.canon_unit_zero hz3, View.readCov_eq_canon']
  exact congrArg k0_pay2 (View.ld_unit_zero (S := S512x128) hz2 _ _)

end Cert.KernelIdeal.Scan

end
-- ==== Proof.ChunkReal.lean ====
/- One chunk of the scan's gradient at finite values, all eight heads of a group: what a point of the grid computes, read as real numbers. -/
module

public import proofs.«01_k».proof.Proof.HeadReal
public import proofs.«01_k».proof.Proof.Point

@[expose] public section

set_option maxRecDepth 16384

noncomputable section

namespace Cert.Scan

open scoped BigOperators

/-- Entry `p` of head `e` among a group's entries, and the head's lane. -/
def entry (e : Fin 8) (p : Fin 64) : Fin 512 := ⟨64 * e.val + p.val, by omega⟩
def hd (e : Fin 8) : Fin 128 := ⟨e.val, by omega⟩

/-- A group's arrays over one chunk. -/
structure Chunk where
  dt : Fin 128 → Fin 128 → ℝ
  a : Fin 128 → ℝ
  B : Fin 128 → Fin 128 → ℝ
  C : Fin 128 → Fin 128 → ℝ
  x : Fin 128 → Fin 512 → ℝ
  dy : Fin 128 → Fin 512 → ℝ
  ent : Fin 512 → Fin 128 → ℝ
  dhn : Fin 512 → Fin 128 → ℝ

/-- Four numbers added from the last to the first. -/
def quad (f : Fin 4 → ℝ) : ℝ := ((f 3 + f 2) + f 1) + f 0
theorem quad_quad (f : Fin 8 → ℝ) : quad (fun j => f (Cert.KernelIdeal.Scan.Pt.head 0 j)) + quad (fun j => f (Cert.KernelIdeal.Scan.Pt.head 1 j)) = ∑ e, f e := by
  have h (k : Fin 2) (j : Fin 4) (e : Fin 8) (he : 4 * k.val + j.val = e.val) : Cert.KernelIdeal.Scan.Pt.head k j = e := Fin.ext he
  rw [Fin.sum_univ_eight]; simp only [quad]
  rw [h 0 0 0 rfl, h 0 1 1 rfl, h 0 2 2 rfl, h 0 3 3 rfl, h 1 0 4 rfl, h 1 1 5 rfl, h 1 2 6 rfl, h 1 3 7 rfl]; ring
theorem back_add (r r' c c' : Fin 128 → Fin 128 → ℝ) (j l : Fin 128) : back (fun i k => r i k + r' i k) (fun i k => c i k + c' i k) j l = back r c j l + back r' c' j l := by
  have h (p : Prop) [Decidable p] (x y : ℝ) : (if p then x + y else 0) = (if p then x else 0) + if p then y else 0 := by split <;> simp
  simp only [back, h, Finset.sum_add_distrib]; ring

namespace Chunk
variable (k : Chunk)

def blk (e : Fin 8) : Blk := ⟨k.dt, k.a, k.B, k.C, fun i p => k.x i (entry e p), fun i p => k.dy i (entry e p), fun p n => k.ent (entry e p) n, fun p n => k.dhn (entry e p) n⟩
def dx (e : Fin 8) (i : Fin 128) (p : Fin 64) : ℝ := (k.blk e).dx (hd e) i p
def dh (e : Fin 8) (p : Fin 64) (n : Fin 128) : ℝ := (k.blk e).dh (hd e) p n
def dS (i j : Fin 128) : ℝ := ∑ e, (k.blk e).dS (hd e) i j
def dB (j n : Fin 128) : ℝ := (∑ e, (k.blk e).dB (hd e) j n) + ∑ i, k.dS i j * k.C i n
def dC (i n : Fin 128) : ℝ := (∑ e, (k.blk e).dC (hd e) i n) + ∑ j, k.dS i j * k.B j n
def dSum (j l : Fin 128) : ℝ := back (fun r c => ∑ e, (k.blk e).dRow (hd e) r c) (fun r c => ∑ e, (k.blk e).dCol (hd e) r c) j l
def da (l : Fin 128) : ℝ := ∑ j, k.dt j l * k.dSum j l
def ddt (j l : Fin 128) : ℝ := (∑ e, (k.blk e).dDt (hd e) j l) + k.dSum j l * k.a l

end Chunk

end Cert.Scan

namespace Cert.KernelIdeal.Scan

open Cert.KernelIdeal Cert.KernelIdeal.Gen Cert.Scan
open Idealize.ShloMosaic Idealize.ShloMosaic.TcCoe Idealize.SL.Sem
open scoped BigOperators

theorem sum4_reads {f : Fin 4 → Sq} {g : Fin 4 → Fin 128 → Fin 128 → ℝ} (h : ∀ j, Reads (f j) (g j)) : Reads (sum4 f) fun r s => quad fun j => g j r s :=
  addf_reads (addf_reads (addf_reads (h 3) (h 2)) (h 1)) (h 0)
theorem halfB_reads {B C S P : Sq} {c s p : Fin 128 → Fin 128 → ℝ} (hc : Reads C c) (hs : Reads S s) (hp : Reads P p) : Reads (halfB B C S P) fun j n => p j n + ∑ i, s i j * c i n := fun j n => by
  pointwise [halfB]; simp only [hc _ _, hs _ _, hp _ _, ← EReal.coe_mul, coe_sum, ← EReal.coe_add]
theorem halfC_reads {B C S P : Sq} {b s p : Fin 128 → Fin 128 → ℝ} (hb : Reads B b) (hs : Reads S s) (hp : Reads P p) : Reads (halfC B C S P) fun i n => p i n + ∑ j, s i j * b j n := fun j n => by
  pointwise [halfC]; simp only [hb _ _, hs _ _, hp _ _, ← EReal.coe_mul, coe_sum, ← EReal.coe_add]
theorem halfA_reads {D R C : Sq} {d r c : Fin 128 → Fin 128 → ℝ} (hd : Reads D d) (hr : Reads R r) (hc : Reads C c) : ReadsRow (halfA D R C) fun l => ∑ j, d j l * Cert.Scan.back r c j l :=
  cols_reads (mulf_reads hd (back_reads hr hc))
theorem halfDt_reads {a : Row} {D R C : Sq} {α : Fin 128 → ℝ} {d r c : Fin 128 → Fin 128 → ℝ} (ha : ReadsRow a α) (hd : Reads D d) (hr : Reads R r) (hc : Reads C c) :
    Reads (halfDt a D R C) fun j l => d j l + Cert.Scan.back r c j l * α l :=
  addf_reads hd (mulf_reads (back_reads hr hc) (spreadRow_reads ha))

/-- What a point reads is a chunk's real arrays. -/
def PFits (p : Pt) (k : Chunk) : Prop := ∀ e : Fin 8, Fits p.D p.a p.B p.C (p.X e) (p.Y e) (p.H e) (p.N e) (k.blk e)

namespace PFits
variable {p : Pt} {k : Chunk} (h : PFits p k)
include h

theorem dxs (e : Fin 8) : Reads (p.dxs e) (k.dx e) := (h e).dx (hd e)
theorem dhs (e : Fin 8) : Reads (p.dhs e) (k.dh e) := by unfold Pt.dhs; rw [shapeCast_self]; exact (h e).dh (hd e)
theorem score (t : Fin 2) : Reads (p.score t) fun r s => quad fun j => (k.blk (Pt.head t j)).dS (hd (Pt.head t j)) r s := by
  unfold Pt.score; exact sum4_reads fun j => (h (Pt.head t j)).dS (hd (Pt.head t j))
theorem acrossSum (t : Fin 2) : Reads (p.acrossSum t) fun r s => quad fun j => (k.blk (Pt.head t j)).dRow (hd (Pt.head t j)) r s := by
  unfold Pt.acrossSum; exact sum4_reads fun j => (h (Pt.head t j)).dRow (hd (Pt.head t j))
theorem downSum (t : Fin 2) : Reads (p.downSum t) fun r s => quad fun j => (k.blk (Pt.head t j)).dCol (hd (Pt.head t j)) r s := by
  unfold Pt.downSum; exact sum4_reads fun j => (h (Pt.head t j)).dCol (hd (Pt.head t j))
theorem dbs_half (t : Fin 2) : Reads (p.dbs t) fun j n => (quad fun i => (k.blk (Pt.head t i)).dB (hd (Pt.head t i)) j n) + ∑ i, (quad fun e => (k.blk (Pt.head t e)).dS (hd (Pt.head t e)) i j) * k.C i n := by
  unfold Pt.dbs; exact halfB_reads (h 0).C (h.score t) (sum4_reads fun j => (h (Pt.head t j)).dB (hd (Pt.head t j)))
theorem dcs_half (t : Fin 2) : Reads (p.dcs t) fun i n => (quad fun e => (k.blk (Pt.head t e)).dC (hd (Pt.head t e)) i n) + ∑ j, (quad fun e => (k.blk (Pt.head t e)).dS (hd (Pt.head t e)) i j) * k.B j n := by
  unfold Pt.dcs; exact halfC_reads (h 0).B (h.score t) (sum4_reads fun j => (h (Pt.head t j)).dC (hd (Pt.head t j)))
theorem das_half (t : Fin 2) : ReadsRow (p.das t) fun l => ∑ j, k.dt j l * Cert.Scan.back (fun r s => quad fun j => (k.blk (Pt.head t j)).dRow (hd (Pt.head t j)) r s) (fun r s => quad fun j => (k.blk (Pt.head t j)).dCol (hd (Pt.head t j)) r s) j l := by
  unfold Pt.das; exact halfA_reads (h 0).dt (h.acrossSum t) (h.downSum t)
theorem ddts_half (t : Fin 2) : Reads (p.ddts t) fun j l => (quad fun e => (k.blk (Pt.head t e)).dDt (hd (Pt.head t e)) j l)
    + Cert.Scan.back (fun r s => quad fun j => (k.blk (Pt.head t j)).dRow (hd (Pt.head t j)) r s) (fun r s => quad fun j => (k.blk (Pt.head t j)).dCol (hd (Pt.head t j)) r s) j l * k.a l := by
  unfold Pt.ddts; exact halfDt_reads (h 0).a (sum4_reads fun j => (h (Pt.head t j)).dDt (hd (Pt.head t j))) (h.acrossSum t) (h.downSum t)
theorem dbs : Reads (addf (p.dbs 0) (p.dbs 1)) k.dB := fun j n => by
  refine (addf_reads (h.dbs_half 0) (h.dbs_half 1) j n).trans (congrArg _ ?_)
  simp only [Chunk.dB, Chunk.dS, ← quad_quad, add_mul, Finset.sum_add_distrib]; ring
theorem dcs : Reads (addf (p.dcs 0) (p.dcs 1)) k.dC := fun j n => by
  refine (addf_reads (h.dcs_half 0) (h.dcs_half 1) j n).trans (congrArg _ ?_)
  simp only [Chunk.dC, Chunk.dS, ← quad_quad, add_mul, Finset.sum_add_distrib]; ring
theorem das (v : EReal) (α : ℝ) (hv : v = (α : EReal)) (l : Fin 128) : (v + p.das 0 (ix2 0 l)) + p.das 1 (ix2 0 l) = ((α + k.da l : ℝ) : EReal) := by
  rw [hv, h.das_half 0 l, h.das_half 1 l, ← EReal.coe_add, ← EReal.coe_add]
  refine congrArg _ ?_
  simp only [Chunk.da, Chunk.dSum, ← quad_quad, back_add, mul_add, Finset.sum_add_distrib]; ring
theorem ddts : Reads (addf (p.ddts 0) (p.ddts 1)) k.ddt := fun j l => by
  refine (addf_reads (h.ddts_half 0) (h.ddts_half 1) j l).trans (congrArg _ ?_)
  simp only [Chunk.ddt, Chunk.dSum, ← quad_quad, back_add]; ring

end PFits

end Cert.KernelIdeal.Scan

end
-- ==== Proof.Whole.lean ====
/- The whole scan's gradient as real arrays: two chunks, the state's gradient carried from the second to the first. -/
module

public import proofs.«01_k».proof.Proof.ChunkReal

@[expose] public section

noncomputable section

namespace Cert.Scan

open Idealize.ShloMosaic
open scoped BigOperators

/-- Positions: a step of a chunk, an entry of a group among the inputs and among the lanes, and their parts. -/
def step (c : Fin 2) (i : Fin 128) : Fin 256 := ⟨128 * c.val + i.val, by omega⟩
def chunkOf (r : Fin 256) : Fin 2 := ⟨r.val / 128, by omega⟩
def stepOf (r : Fin 256) : Fin 128 := ⟨r.val % 128, by omega⟩
def input (g : Fin 4) (q : Fin 512) : Fin 2048 := ⟨512 * g.val + q.val, by omega⟩
def groupOf (s : Fin 2048) : Fin 4 := ⟨s.val / 512, by omega⟩
def entryOf (s : Fin 2048) : Fin 512 := ⟨s.val % 512, by omega⟩
def lanes (g : Fin 4) (l : Fin 128) : Fin 512 := ⟨128 * g.val + l.val, by omega⟩
def laneGroup (s : Fin 512) : Fin 4 := ⟨s.val / 128, by omega⟩
def laneOf (s : Fin 512) : Fin 128 := ⟨s.val % 128, by omega⟩
def headOf (q : Fin 512) : Fin 8 := ⟨q.val / 64, by omega⟩
def posOf (q : Fin 512) : Fin 64 := ⟨q.val % 64, by omega⟩

theorem step_parts (r : Fin 256) : step (chunkOf r) (stepOf r) = r := Fin.ext (by show 128 * (r.val / 128) + r.val % 128 = r.val; omega)
theorem chunkOf_step (c : Fin 2) (i : Fin 128) : chunkOf (step c i) = c := Fin.ext (by show (128 * c.val + i.val) / 128 = c.val; omega)
theorem stepOf_step (c : Fin 2) (i : Fin 128) : stepOf (step c i) = i := Fin.ext (by show (128 * c.val + i.val) % 128 = i.val; omega)
theorem input_parts (s : Fin 2048) : input (groupOf s) (entryOf s) = s := Fin.ext (by show 512 * (s.val / 512) + s.val % 512 = s.val; omega)
theorem groupOf_input (g : Fin 4) (q : Fin 512) : groupOf (input g q) = g := Fin.ext (by show (512 * g.val + q.val) / 512 = g.val; omega)
theorem entryOf_input (g : Fin 4) (q : Fin 512) : entryOf (input g q) = q := Fin.ext (by show (512 * g.val + q.val) % 512 = q.val; omega)
theorem lanes_parts (s : Fin 512) : lanes (laneGroup s) (laneOf s) = s := Fin.ext (by show 128 * (s.val / 128) + s.val % 128 = s.val; omega)
theorem laneGroup_lanes (g : Fin 4) (l : Fin 128) : laneGroup (lanes g l) = g := Fin.ext (by show (128 * g.val + l.val) / 128 = g.val; omega)
theorem laneOf_lanes (g : Fin 4) (l : Fin 128) : laneOf (lanes g l) = l := Fin.ext (by show (128 * g.val + l.val) % 128 = l.val; omega)
theorem entry_parts (q : Fin 512) : entry (headOf q) (posOf q) = q := Fin.ext (by show 64 * (q.val / 64) + q.val % 64 = q.val; omega)
theorem headOf_entry (e : Fin 8) (p : Fin 64) : headOf (entry e p) = e := Fin.ext (by show (64 * e.val + p.val) / 64 = e.val; omega)
theorem posOf_entry (e : Fin 8) (p : Fin 64) : posOf (entry e p) = p := Fin.ext (by show (64 * e.val + p.val) % 64 = p.val; omega)

/-- The arguments as real arrays: the inputs with the two projections beside them, the steps, the rates, the state before the first chunk, and the two gradients coming in. -/
structure Args where
  xbc : Fin 256 → Fin 3072 → ℝ
  dtg : Fin 256 → Fin 512 → ℝ
  a : Fin 4 → Fin 8 → Fin 128 → ℝ
  h0 : Fin 4 → Fin 512 → Fin 128 → ℝ
  dy : Fin 256 → Fin 2048 → ℝ
  dfin : Fin 4 → Fin 512 → Fin 128 → ℝ

namespace Args
variable (G : Args)

def x (c : Fin 2) (i : Fin 128) (g : Fin 4) (q : Fin 512) : ℝ := G.xbc (step c i) ⟨512 * g.val + q.val, by omega⟩
def B (c : Fin 2) (i : Fin 128) (g : Fin 4) (n : Fin 128) : ℝ := G.xbc (step c i) ⟨2048 + 128 * g.val + n.val, by omega⟩
def C (c : Fin 2) (i : Fin 128) (g : Fin 4) (n : Fin 128) : ℝ := G.xbc (step c i) ⟨2560 + 128 * g.val + n.val, by omega⟩
/-- A group's chunk, given the state before it and the gradient of the state after it. -/
def part (c : Fin 2) (g : Fin 4) (ent dhn : Fin 512 → Fin 128 → ℝ) : Chunk :=
  ⟨fun i l => G.dtg (step c i) (lanes g l), G.a g 0, fun i n => G.B c i g n, fun i n => G.C c i g n, fun i q => G.x c i g q, fun i q => G.dy (step c i) (input g q), ent, dhn⟩
/-- The state between the two chunks. -/
def mid (g : Fin 4) (q : Fin 512) (n : Fin 128) : ℝ :=
  let z := (G.part 0 g (G.h0 g) (G.h0 g)).blk (headOf q)
  let e := hd (headOf q)
  z.grown e 127 * G.h0 g q n + ∑ j, z.B j n * (z.decay e j * z.xdt e j (posOf q))
def ent (c : Fin 2) (g : Fin 4) : Fin 512 → Fin 128 → ℝ := if c = 0 then G.h0 g else G.mid g
def last (g : Fin 4) : Chunk := G.part 1 g (G.mid g) (G.dfin g)
def first (g : Fin 4) : Chunk := G.part 0 g (G.h0 g) fun q n => (G.last g).dh (headOf q) (posOf q) n
def chunk (c : Fin 2) (g : Fin 4) : Chunk := if c = 0 then G.first g else G.last g

theorem chunk_eq (c : Fin 2) (g : Fin 4) : ∃ d, G.chunk c g = G.part c g (G.ent c g) d := by
  rcases (show c = 0 ∨ c = 1 by omega) with rfl | rfl
  · exact ⟨_, rfl⟩
  · exact ⟨_, rfl⟩

/-- A head of a chunk. -/
def bl (c : Fin 2) (g : Fin 4) (e : Fin 8) : Blk := (G.chunk c g).blk e
variable (c : Fin 2) (g : Fin 4) (e : Fin 8)
theorem bl_eq : ∃ d, G.bl c g e = (G.part c g (G.ent c g) d).blk e := by
  obtain ⟨d, h⟩ := G.chunk_eq c g; exact ⟨d, by unfold bl; rw [h]⟩
theorem bl_x (i : Fin 128) (p : Fin 64) : (G.bl c g e).x i p = G.x c i g (entry e p) := by obtain ⟨d, h⟩ := G.bl_eq c g e; rw [h]; rfl
theorem bl_dt (i : Fin 128) : (G.bl c g e).dt i (hd e) = G.dtg (step c i) (lanes g (hd e)) := by obtain ⟨d, h⟩ := G.bl_eq c g e; rw [h]; rfl
theorem bl_a : (G.bl c g e).a (hd e) = G.a g 0 (hd e) := by obtain ⟨d, h⟩ := G.bl_eq c g e; rw [h]; rfl
theorem bl_B (i n : Fin 128) : (G.bl c g e).B i n = G.B c i g n := by obtain ⟨d, h⟩ := G.bl_eq c g e; rw [h]; rfl
theorem bl_C (i n : Fin 128) : (G.bl c g e).C i n = G.C c i g n := by obtain ⟨d, h⟩ := G.bl_eq c g e; rw [h]; rfl
theorem bl_dy (i : Fin 128) (p : Fin 64) : (G.bl c g e).dy i p = G.dy (step c i) (input g (entry e p)) := by obtain ⟨d, h⟩ := G.bl_eq c g e; rw [h]; rfl
theorem bl_ent (p : Fin 64) (n : Fin 128) : (G.bl c g e).ent p n = G.ent c g (entry e p) n := by obtain ⟨d, h⟩ := G.bl_eq c g e; rw [h]; rfl
theorem bl_dhn_last (p : Fin 64) (n : Fin 128) : (G.bl 1 g e).dhn p n = G.dfin g (entry e p) n := rfl
theorem bl_dhn_first (p : Fin 64) (n : Fin 128) : (G.bl 0 g e).dhn p n = (G.bl 1 g e).dh (hd e) p n := by
  show (G.last g).dh (headOf (entry e p)) (posOf (entry e p)) n = _
  rw [headOf_entry, posOf_entry]; rfl
/-- The state between the chunks, from the first chunk's head. -/
theorem mid_eq (p : Fin 64) (n : Fin 128) : G.mid g (entry e p) n = (G.bl 0 g e).grown (hd e) 127 * G.h0 g (entry e p) n + ∑ j, (G.bl 0 g e).B j n * ((G.bl 0 g e).decay (hd e) j * (G.bl 0 g e).xdt (hd e) j p) := by
  unfold mid; rw [headOf_entry, posOf_entry]; rfl

/-- The six results. -/
def dx (r : Fin 256) (s : Fin 2048) : ℝ := (G.chunk (chunkOf r) (groupOf s)).dx (headOf (entryOf s)) (stepOf r) (posOf (entryOf s))
def ddt (r : Fin 256) (s : Fin 512) : ℝ := (G.chunk (chunkOf r) (laneGroup s)).ddt (stepOf r) (laneOf s)
def dB (r : Fin 256) (s : Fin 512) : ℝ := (G.chunk (chunkOf r) (laneGroup s)).dB (stepOf r) (laneOf s)
def dC (r : Fin 256) (s : Fin 512) : ℝ := (G.chunk (chunkOf r) (laneGroup s)).dC (stepOf r) (laneOf s)
def da (g : Fin 4) (r : Fin 8) (l : Fin 128) : ℝ := if r = 0 then (0 + (G.last g).da l) + (G.first g).da l else 0
def dh0 (g : Fin 4) (q : Fin 512) (n : Fin 128) : ℝ := (G.first g).dh (headOf q) (posOf q) n

end Args

/-- Arrays that hold the arguments. -/
structure Holds (X : (⟨2, ![256, 3072]⟩ : Shape).Idx → EReal) (D : (⟨2, ![256, 512]⟩ : Shape).Idx → EReal) (A : (⟨3, ![4, 8, 128]⟩ : Shape).Idx → EReal)
    (H : (⟨3, ![4, 512, 128]⟩ : Shape).Idx → EReal) (Y : (⟨2, ![256, 2048]⟩ : Shape).Idx → EReal) (Z : (⟨3, ![4, 512, 128]⟩ : Shape).Idx → EReal) (G : Args) : Prop where
  xbc : ∀ i j, X (ix2 i j) = ((G.xbc i j : ℝ) : EReal)
  dtg : ∀ i j, D (ix2 i j) = ((G.dtg i j : ℝ) : EReal)
  a : ∀ i j k, A (ix3 i j k) = ((G.a i j k : ℝ) : EReal)
  h0 : ∀ i j k, H (ix3 i j k) = ((G.h0 i j k : ℝ) : EReal)
  dy : ∀ i j, Y (ix2 i j) = ((G.dy i j : ℝ) : EReal)
  dfin : ∀ i j k, Z (ix3 i j k) = ((G.dfin i j k : ℝ) : EReal)

/-- The results as arrays. -/
def out2 {m n : Nat} (f : Fin m → Fin n → ℝ) : (⟨2, ![m, n]⟩ : Shape).Idx → EReal := fun i => ((f (i 0) (i 1) : ℝ) : EReal)
def out3 {l m n : Nat} (f : Fin l → Fin m → Fin n → ℝ) : (⟨3, ![l, m, n]⟩ : Shape).Idx → EReal := fun i => ((f (i 0) (i 1) (i 2) : ℝ) : EReal)

end Cert.Scan

end
-- ==== Proof.Cumsum.lean ====
/- A sum over a window of one axis, as a running sum from either end. -/
module

public import Idealize.ShloMosaic.Lib.Pointwise

@[expose] public section

noncomputable section

namespace Cert.Scan

open Idealize.ShloMosaic
open scoped BigOperators

/-- The positions of four axes of which the second is the window. -/
abbrev Steps : Shape := ⟨4, ![2, 128, 4, 8]⟩
abbrev Win : Shape := ⟨4, ![1, 128, 1, 1]⟩

theorem foldl_add {ι : Type} (l : List ι) (f : ι → EReal) (a : EReal) : l.foldl (fun r n => r + f n) a = a + (l.map f).sum := by
  induction l generalizing a with
  | nil => simp
  | cons x l ih => rw [List.foldl_cons, ih, List.map_cons, List.sum_cons, add_assoc]

/-- The window's positions are the second axis'. -/
def winEquiv : Win.Idx ≃ Fin 128 where
  toFun w := w 1
  invFun k := ix4 0 k 0 0
  left_inv w := by funext a; fin_cases a <;> first | rfl | exact Subsingleton.elim (α := Fin 1) _ _
  right_inv _ := rfl

/-- The element at a position of the window, zero where it lies in the padding. -/
def padded (lo : Fin 4 → Nat) (x : Steps.Idx → EReal) (j : Steps.Idx) (w : Win.Idx) : EReal :=
  if hin : ∀ a, lo a ≤ (j a).val * (![1, 1, 1, 1] : Fin 4 → Nat) a + (w a).val ∧ (j a).val * (![1, 1, 1, 1] : Fin 4 → Nat) a + (w a).val - lo a < Steps.size a
    then x (fun a => ⟨(j a).val * (![1, 1, 1, 1] : Fin 4 → Nat) a + (w a).val - lo a, (hin a).2⟩) else 0

theorem window_sum (lo hi : Fin 4 → Nat) (h : Steps.ReduceWindows ![1, 128, 1, 1] ![1, 1, 1, 1] lo hi Steps) (x : Steps.Idx → EReal) (j : Steps.Idx) :
    Ideal.hostReduceWindowAdd ![1, 128, 1, 1] ![1, 1, 1, 1] lo hi h x 0 j = ∑ k : Fin 128, padded lo x j (ix4 0 k 0 0) := by
  unfold Ideal.hostReduceWindowAdd Host.reduceWindow
  dsimp only
  rw [foldl_add, zero_add, ← List.ofFn_eq_map, List.sum_ofFn]
  exact Fintype.sum_equiv (Win.rowMajor.symm.trans winEquiv) _ _ fun n => by
    refine Eq.trans ?_ (congrArg (padded lo x j) (winEquiv.left_inv (Win.rowMajor.symm n)).symm)
    unfold padded
    split_ifs with h1 h2 h2
    · rfl
    · exact absurd h1 h2
    · exact absurd h2 h1
    · rfl

/-- The window ends at the position: the sum up to it. -/
theorem sum_below (h : Steps.ReduceWindows ![1, 128, 1, 1] ![1, 1, 1, 1] ![0, 127, 0, 0] ![0, 0, 0, 0] Steps) (x : Steps.Idx → EReal) (c : Fin 2) (i : Fin 128) (g : Fin 4) (e : Fin 8) :
    Ideal.hostReduceWindowAdd ![1, 128, 1, 1] ![1, 1, 1, 1] ![0, 127, 0, 0] ![0, 0, 0, 0] h x 0 (ix4 c i g e) = ∑ k : Fin 128, if k ≤ i then x (ix4 c k g e) else 0 := by
  rw [window_sum]
  refine Fintype.sum_equiv (Equiv.addRight (i + 1)) _ _ fun k => ?_
  have hv : ((Equiv.addRight (i + 1)) k).val = (k.val + (i.val + 1)) % 128 := by
    show (k + (i + 1)).val = _
    rw [Fin.val_add, Fin.val_add]; show (k.val + (i.val + 1) % 128) % 128 = _; omega
  unfold padded
  by_cases hk : 127 ≤ i.val + k.val
  · rw [dif_pos (fun a => by fin_cases a <;> (dsimp [ix4]; omega)), if_pos (by rw [Fin.le_def, hv]; omega)]
    refine congrArg x (funext fun a => ?_)
    fin_cases a <;> apply Fin.ext
    · show c.val * 1 + 0 - 0 = c.val; omega
    · show i.val * 1 + k.val - 127 = _; refine Eq.trans ?_ hv.symm; omega
    · show g.val * 1 + 0 - 0 = g.val; omega
    · show e.val * 1 + 0 - 0 = e.val; omega
  · rw [dif_neg (fun hin => by have h1 : 127 ≤ i.val * 1 + k.val := (hin 1).1; omega), if_neg (by rw [Fin.le_def, hv]; omega)]

/-- The window starts at the position: the sum from it. -/
theorem sum_above (h : Steps.ReduceWindows ![1, 128, 1, 1] ![1, 1, 1, 1] ![0, 0, 0, 0] ![0, 127, 0, 0] Steps) (x : Steps.Idx → EReal) (c : Fin 2) (i : Fin 128) (g : Fin 4) (e : Fin 8) :
    Ideal.hostReduceWindowAdd ![1, 128, 1, 1] ![1, 1, 1, 1] ![0, 0, 0, 0] ![0, 127, 0, 0] h x 0 (ix4 c i g e) = ∑ k : Fin 128, if i ≤ k then x (ix4 c k g e) else 0 := by
  rw [window_sum]
  refine Fintype.sum_equiv (Equiv.addRight i) _ _ fun k => ?_
  have hv : ((Equiv.addRight i) k).val = (k.val + i.val) % 128 := by
    show (k + i).val = _
    rw [Fin.val_add]
  unfold padded
  by_cases hk : i.val + k.val < 128
  · rw [dif_pos (fun a => by fin_cases a <;> (dsimp [ix4]; omega)), if_pos (by rw [Fin.le_def, hv]; omega)]
    refine congrArg x (funext fun a => ?_)
    fin_cases a <;> apply Fin.ext
    · show c.val * 1 + 0 - 0 = c.val; omega
    · show i.val * 1 + k.val - 0 = _; refine Eq.trans ?_ hv.symm; omega
    · show g.val * 1 + 0 - 0 = g.val; omega
    · show e.val * 1 + 0 - 0 = e.val; omega
  · rw [dif_neg (fun hin => by have h1 : i.val * 1 + k.val - 0 < 128 := (hin 1).2; omega), if_neg (by rw [Fin.le_def, hv]; omega)]

/-- A sum over the first two of four axes. -/
theorem sum_leading {m n p q : Nat} (h : (⟨4, ![m, n, p, q]⟩ : Shape).ReducesTo [0, 1] ⟨2, ![p, q]⟩) (x : (⟨4, ![m, n, p, q]⟩ : Shape).Idx → EReal) (v : EReal) (g : Fin p) (e : Fin q) :
    Ideal.hostReduceAdd h x v (ix2 g e) = v + ∑ a : Fin m, ∑ b : Fin n, x (ix4 a b g e) := by
  refine congrArg (v + ·) ?_
  refine (Finset.sum_filter_eq_sum_of_fiber _ (fun k : Fin m × Fin n => ix4 k.1 k.2 g e) (fun _ _ e => Prod.ext (congrFun e 0) (congrFun e 1)) (fun i => ?_) x).trans (by simp only [Fintype.sum_prod_type])
  constructor
  · intro e
    refine ⟨(i 0, i 1), ?_⟩
    funext a; apply Fin.ext
    match a with
    | ⟨0, _⟩ => rfl
    | ⟨1, _⟩ => rfl
    | ⟨2, _⟩ => exact (congrArg Fin.val (congrFun e 0)).symm
    | ⟨3, _⟩ => exact (congrArg Fin.val (congrFun e 1)).symm
  · rintro ⟨k, rfl⟩
    funext b
    match b with
    | ⟨0, _⟩ => rfl
    | ⟨1, _⟩ => rfl

end Cert.Scan

end
-- ==== Proof.RefReal.lean ====
/- The reference's lines at finite values: each of its arrays read at an index as a real number, in the terms of one head's gradient over one chunk. -/
module

public import proofs.«01_k».proof.Proof.Whole
public import proofs.«01_k».proof.Proof.Cumsum
public import proofs.«01_k».proof.Proof.Gen.ReferenceIdeal.Read

@[expose] public section

set_option maxRecDepth 16384

noncomputable section

namespace Cert.ReferenceIdeal.Scan

open Cert.ReferenceIdeal Cert.ReferenceIdeal.Gen Cert.ReferenceIdeal.Read Cert.Scan
open Cert.KernelIdeal.Scan (coe_sum coe_ite exp_coe sle_iff)
open Idealize.ShloMosaic Idealize.ShloMosaic.TcCoe Idealize.SL.Sem
open scoped BigOperators

theorem sel_sge {α : Type} (i j : Fin 128) (x y : α) : Scalar.select (IntOp.cmpi .sge (BitVec.ofNat 32 i) (BitVec.ofNat 32 j)) x y = if j ≤ i then x else y := by
  unfold Scalar.select IntOp.cmpi; simp only [sle_iff]; by_cases hd : j ≤ i <;> simp [hd]
theorem dite_true {α : Type} {p : Prop} [Decidable p] (h : p) (x y : α) : (if _h : p then x else y) = x := dif_pos h
theorem dite_false {α : Type} {p : Prop} [Decidable p] (h : ¬p) (x y : α) : (if _h : p then x else y) = y := dif_neg h
theorem coe_neg (a : ℝ) : -((a : ℝ) : EReal) = ((-a : ℝ) : EReal) := rfl

variable {x0 : (⟨S256x3072, .bf16⟩ : BufTy).Contents (Elt Ideal)} {x1 : (⟨S256x512, .f32⟩ : BufTy).Contents (Elt Ideal)} {x2 : (⟨S4x8x128, .f32⟩ : BufTy).Contents (Elt Ideal)}
  {x3 : (⟨S4x512x128, .f32⟩ : BufTy).Contents (Elt Ideal)} {x4 : (⟨S256x2048, .f32⟩ : BufTy).Contents (Elt Ideal)} {x5 : (⟨S4x512x128, .f32⟩ : BufTy).Contents (Elt Ideal)}
  {G : Args} (H : Holds x0 x1 x2 x3 x4 x5 G)
include H

theorem v14_reads (c : Fin 2) (i : Fin 128) (g : Fin 4) (e : Fin 8) (p : Fin 64) : val_main_v14 (F := Ideal) x0 (ix5 c i g e p) = (((G.bl c g e).x i p : ℝ) : EReal) := by
  pointwise [val_main_v14, val_main_v2, val_main_v1, val_main_v0]
  rw [G.bl_x]
  exact (H.xbc _ _ ).trans (congrArg Real.toEReal (congrArg₂ G.xbc (Fin.ext (show c.val * 128 + i.val = 128 * c.val + i.val by omega)) (Fin.ext (show g.val * 512 + e.val * 64 + p.val = 512 * g.val + (64 * e.val + p.val) by omega))))
theorem v15_reads (c : Fin 2) (i : Fin 128) (g : Fin 4) (e : Fin 8) : val_main_v15 (F := Ideal) x1 (ix4 c i g e) = (((G.bl c g e).dt i (hd e)  : ℝ) : EReal) := by
  pointwise [val_main_v15, val_main_v8, val_main_v7]
  rw [G.bl_dt]
  exact (H.dtg _ _ ).trans (congrArg Real.toEReal (congrArg₂ G.dtg (Fin.ext (show c.val * 128 + i.val = 128 * c.val + i.val by omega)) (Fin.ext (show g.val * 128 + e.val = 128 * g.val + e.val by omega))))
theorem v10_reads (g : Fin 4) (e : Fin 8) (c : Fin 2) : val_main_v10 (F := Ideal) x2 (ix2 g e) = (((G.bl c g e).a (hd e)  : ℝ) : EReal) := by
  pointwise [val_main_v10, val_main_v9]
  rw [G.bl_a]
  exact H.a _ _ _
theorem v16_reads (c : Fin 2) (i : Fin 128) (g : Fin 4) (n : Fin 128) (e : Fin 8) : val_main_v16 (F := Ideal) x0 (ix4 c i g n) = (((G.bl c g e).B i n : ℝ) : EReal) := by
  pointwise [val_main_v16, val_main_v4, val_main_v3, val_main_v0]
  rw [G.bl_B]
  exact (H.xbc _ _ ).trans (congrArg Real.toEReal (congrArg₂ G.xbc (Fin.ext (show c.val * 128 + i.val = 128 * c.val + i.val by omega)) (Fin.ext (show (2048 + (g.val * 128 + n.val)) = 2048 + 128 * g.val + n.val by omega))))
theorem v54_reads (c : Fin 2) (i : Fin 128) (g : Fin 4) (n : Fin 128) (e : Fin 8) : val_main_v54 (F := Ideal) x0 (ix4 c i g n) = (((G.bl c g e).C i n : ℝ) : EReal) := by
  pointwise [val_main_v54, val_main_v6, val_main_v5, val_main_v0]
  rw [G.bl_C]
  exact (H.xbc _ _ ).trans (congrArg Real.toEReal (congrArg₂ G.xbc (Fin.ext (show c.val * 128 + i.val = 128 * c.val + i.val by omega)) (Fin.ext (show (2560 + (g.val * 128 + n.val)) = 2560 + 128 * g.val + n.val by omega))))
theorem v11_reads (g : Fin 4) (e : Fin 8) (p : Fin 64) (n : Fin 128) : val_main_v11 (F := Ideal) x3 (ix4 g e p n) = ((G.h0 g (entry e p) n : ℝ) : EReal) := by
  pointwise [val_main_v11]
  exact (H.h0 _ _ _).trans (congrArg (fun q => Real.toEReal (G.h0 g q n)) (Fin.ext (show e.val * 64 + p.val = 64 * e.val + p.val by omega)))
theorem v13_reads (g : Fin 4) (e : Fin 8) (p : Fin 64) (n : Fin 128) : val_main_v13 (F := Ideal) x5 (ix4 g e p n) = ((G.dfin g (entry e p) n : ℝ) : EReal) := by
  pointwise [val_main_v13]
  exact (H.dfin _ _ _).trans (congrArg (fun q => Real.toEReal (G.dfin g q n)) (Fin.ext (show e.val * 64 + p.val = 64 * e.val + p.val by omega)))
theorem v84_reads (c : Fin 2) (i : Fin 128) (g : Fin 4) (e : Fin 8) (p : Fin 64) : val_main_v84 (F := Ideal) x4 (ix5 c i g e p) = (((G.bl c g e).dy i p : ℝ) : EReal) := by
  pointwise [val_main_v84, val_main_v12]
  rw [G.bl_dy]
  exact (H.dy _ _ ).trans (congrArg Real.toEReal (congrArg₂ G.dy (Fin.ext (show c.val * 128 + i.val = 128 * c.val + i.val by omega)) (Fin.ext (show g.val * 512 + e.val * 64 + p.val = 512 * g.val + (64 * e.val + p.val) by omega))))
theorem v19_reads (c : Fin 2) (i : Fin 128) (g : Fin 4) (e : Fin 8) (p : Fin 64) : val_main_v19 (F := Ideal) x0 x1 (ix5 c i g e p) = (((G.bl c g e).xdt (hd e) i p : ℝ) : EReal) := by
  pointwise [val_main_v19, val_main_v18, val_main_v17]
  simp only [v14_reads H, v15_reads H, ← EReal.coe_mul, coe_sum, ← EReal.coe_add, ← EReal.coe_sub, coe_neg, exp_coe]
  rfl
theorem v22_reads (c : Fin 2) (i : Fin 128) (g : Fin 4) (e : Fin 8) : val_main_v22 (F := Ideal) x1 x2 (ix4 c i g e) = (((G.bl c g e).dt i (hd e) * (G.bl c g e).a (hd e)  : ℝ) : EReal) := by
  pointwise [val_main_v22, val_main_v21, val_main_v20]
  simp only [v15_reads H, v10_reads H _ _ c, ← EReal.coe_mul, coe_sum, ← EReal.coe_add, ← EReal.coe_sub, coe_neg, exp_coe]
theorem v23_reads (c : Fin 2) (i : Fin 128) (g : Fin 4) (e : Fin 8) : val_main_v23 (F := Ideal) x1 x2 (ix4 c i g e) = (((G.bl c g e).A (hd e) i : ℝ) : EReal) := by
  have h0 : val_main_call0_call0_v0 (F := Ideal) (Shape.Idx.first h_S_) = 0 := by pointwise [val_main_call0_call0_v0, val_main_call0_call0_cst]
  unfold val_main_v23 Host.reduceWindowAdd
  rw [h0, Ideal.hostReduceWindowAdd_def, sum_below]
  simp only [v22_reads H, ← EReal.coe_zero, coe_ite, coe_sum]; rfl
theorem v27_reads (c : Fin 2) (i : Fin 128) (g : Fin 4) (e : Fin 8) : val_main_v27 (F := Ideal) x1 x2 (ix4 c i g e) = (((G.bl c g e).decay (hd e) i : ℝ) : EReal) := by
  pointwise [val_main_v27, val_main_v26, val_main_v25, val_main_v24]
  simp only [v23_reads H, ← EReal.coe_mul, coe_sum, ← EReal.coe_add, ← EReal.coe_sub, coe_neg, exp_coe]
  rfl
theorem v30_reads (c : Fin 2) (i : Fin 128) (g : Fin 4) (e : Fin 8) (p : Fin 64) : val_main_v30 (F := Ideal) x0 x1 x2 (ix5 c i g e p) = (((G.bl c g e).decay (hd e) i * (G.bl c g e).xdt (hd e) i p : ℝ) : EReal) := by
  pointwise [val_main_v30, val_main_v29, val_main_v28]
  simp only [v27_reads H, v19_reads H, ← EReal.coe_mul, coe_sum, ← EReal.coe_add, ← EReal.coe_sub, coe_neg, exp_coe]
theorem v31_reads (c : Fin 2) (g : Fin 4) (e : Fin 8) (p : Fin 64) (n : Fin 128) : val_main_v31 (F := Ideal) x0 x1 x2 (ix5 c g e p n) = ((∑ j, (G.bl c g e).decay (hd e) j * (G.bl c g e).xdt (hd e) j p * (G.bl c g e).B j n : ℝ) : EReal) := by
  pointwise [val_main_v31]
  simp only [v30_reads H, v16_reads H _ _ _ _ e, ← EReal.coe_mul, coe_sum, ← EReal.coe_add, ← EReal.coe_sub, coe_neg, exp_coe]
theorem v34_reads (c : Fin 2) (g : Fin 4) (e : Fin 8) : val_main_v34 (F := Ideal) x1 x2 (ix3 c g e) = (((G.bl c g e).grown (hd e) 127 : ℝ) : EReal) := by
  pointwise [val_main_v34, val_main_v33, val_main_v32]
  simp only [v23_reads H, ← EReal.coe_mul, coe_sum, ← EReal.coe_add, ← EReal.coe_sub, coe_neg, exp_coe]
  rfl
theorem v42_reads (g : Fin 4) (e : Fin 8) (p : Fin 64) (n : Fin 128) : val_main_v42 (F := Ideal) x0 x1 x2 x3 (ix4 g e p n) = ((G.mid g (entry e p) n : ℝ) : EReal) := by
  pointwise [val_main_v42, val_main_v41, val_main_v40, val_main_v39, val_main_v38, val_main_v37, val_main_v36, val_main_v35]
  simp only [v34_reads H, v11_reads H, v31_reads H, ← EReal.coe_mul, coe_sum, ← EReal.coe_add, ← EReal.coe_sub, coe_neg, exp_coe]
  refine congrArg Real.toEReal ?_
  rw [G.mid_eq]
  exact congrArg _ (Finset.sum_congr rfl fun j _ => mul_comm _ _)
theorem v53_reads (c : Fin 2) (g : Fin 4) (e : Fin 8) (p : Fin 64) (n : Fin 128) : val_main_v53 (F := Ideal) x0 x1 x2 x3 (ix5 c g e p n) = (((G.bl c g e).ent p n : ℝ) : EReal) := by
  rw [G.bl_ent]
  pointwise [val_main_v53, val_main_v52, val_main_v51]
  rcases (show c = 0 ∨ c = 1 by omega) with rfl | rfl
  · exact v11_reads H g e p n
  · exact v42_reads H g e p n
theorem v68_reads (c : Fin 2) (i : Fin 128) (j : Fin 128) (g : Fin 4) (e : Fin 8) : val_main_v68 (F := Ideal) x1 x2 (ix5 c i j g e) = (((G.bl c g e).L (hd e) i j : ℝ) : EReal) := by
  pointwise [val_main_v68, val_main_v67_0, val_main_v67_1, val_main_v66, val_main_v65, val_main_v64, val_main_v63, val_main_v62, val_main_v61, val_main_v60, val_main_v59, val_main_v58, val_main_v57, val_main_v56, val_main_v55]
  rw [sel_sge]
  simp only [v23_reads H, ← EReal.coe_mul, coe_sum, ← EReal.coe_add, ← EReal.coe_sub, coe_neg, exp_coe]
  unfold Blk.L; split <;> rfl
theorem v70_reads (c : Fin 2) (i : Fin 128) (j : Fin 128) (g : Fin 4) (e : Fin 8) : val_main_v70 (F := Ideal) x0 (ix4 c i j g) = (((G.bl c g e).S i j : ℝ) : EReal) := by
  pointwise [val_main_v70, val_main_v69]
  simp only [v16_reads H _ _ _ _ e, v54_reads H _ _ _ _ e, ← EReal.coe_mul, coe_sum, ← EReal.coe_add, ← EReal.coe_sub, coe_neg, exp_coe]
  exact congrArg Real.toEReal (Finset.sum_congr rfl fun n _ => mul_comm _ _)
theorem v73_reads (c : Fin 2) (i : Fin 128) (j : Fin 128) (g : Fin 4) (e : Fin 8) : val_main_v73 (F := Ideal) x0 x1 x2 (ix5 c i j g e) = (((G.bl c g e).S i j * (G.bl c g e).L (hd e) i j : ℝ) : EReal) := by
  pointwise [val_main_v73, val_main_v72, val_main_v71]
  simp only [v70_reads H _ _ _ _ e, v68_reads H, ← EReal.coe_mul, coe_sum, ← EReal.coe_add, ← EReal.coe_sub, coe_neg, exp_coe]
theorem v76_reads (c : Fin 2) (i : Fin 128) (g : Fin 4) (e : Fin 8) : val_main_v76 (F := Ideal) x1 x2 (ix4 c i g e) = (((G.bl c g e).grown (hd e) i : ℝ) : EReal) := by
  pointwise [val_main_v76]
  simp only [v23_reads H, ← EReal.coe_mul, coe_sum, ← EReal.coe_add, ← EReal.coe_sub, coe_neg, exp_coe]
  rfl
theorem v79_reads (c : Fin 2) (i : Fin 128) (g : Fin 4) (e : Fin 8) (p : Fin 64) : val_main_v79 (F := Ideal) x0 x1 x2 x3 (ix5 c i g e p) = ((∑ n, (G.bl c g e).ent p n * (G.bl c g e).C i n : ℝ) : EReal) := by
  pointwise [val_main_v79, val_main_v78]
  simp only [v53_reads H, v54_reads H _ _ _ _ e, ← EReal.coe_mul, coe_sum, ← EReal.coe_add, ← EReal.coe_sub, coe_neg, exp_coe]
theorem v86_reads (c : Fin 2) (i : Fin 128) (g : Fin 4) (e : Fin 8) (p : Fin 64) : val_main_v86 (F := Ideal) x1 x2 x4 (ix5 c i g e p) = (((G.bl c g e).grown (hd e) i * (G.bl c g e).dy i p : ℝ) : EReal) := by
  pointwise [val_main_v86, val_main_v85, val_main_v77]
  simp only [v76_reads H, v84_reads H, ← EReal.coe_mul, coe_sum, ← EReal.coe_add, ← EReal.coe_sub, coe_neg, exp_coe]
theorem v94_reads (c : Fin 2) (i : Fin 128) (g : Fin 4) (e : Fin 8) : val_main_v94 (F := Ideal) x0 x1 x2 x3 x4 (ix4 c i g e) = ((∑ p, (G.bl c g e).dy i p * ∑ n, (G.bl c g e).ent p n * (G.bl c g e).C i n : ℝ) : EReal) := by
  pointwise [val_main_v94, val_main_v89, val_main_v88, val_main_v87, val_main_cst_0, val_main_cst_1]
  simp only [v84_reads H, v79_reads H, ← EReal.coe_mul, coe_sum, ← EReal.coe_add, ← EReal.coe_sub, coe_neg, exp_coe]
  simp
theorem v92_reads (c : Fin 2) (i : Fin 128) (g : Fin 4) (n : Fin 128) : val_main_v92 (F := Ideal) x0 x1 x2 x3 x4 (ix4 c i g n) = ((∑ e, (G.bl c g e).dC (hd e) i n : ℝ) : EReal) := by
  pointwise [val_main_v92, val_main_v91, val_main_v90]
  simp only [v86_reads H, v53_reads H, ← EReal.coe_mul, coe_sum, ← EReal.coe_add, ← EReal.coe_sub, coe_neg, exp_coe]
  refine congrArg Real.toEReal (Finset.sum_congr rfl fun e _ => ?_)
  unfold Blk.dC Blk.fromOut; rw [Finset.sum_mul]; exact Finset.sum_congr rfl fun p _ => by ring
theorem v93_reads (c : Fin 2) (g : Fin 4) (e : Fin 8) (p : Fin 64) (n : Fin 128) : val_main_v93 (F := Ideal) x0 x1 x2 x4 (ix5 c g e p n) = ((∑ i, (G.bl c g e).grown (hd e) i * (G.bl c g e).dy i p * (G.bl c g e).C i n : ℝ) : EReal) := by
  pointwise [val_main_v93, val_main_v90]
  simp only [v86_reads H, v54_reads H _ _ _ _ e, ← EReal.coe_mul, coe_sum, ← EReal.coe_add, ← EReal.coe_sub, coe_neg, exp_coe]
theorem v98_reads (c : Fin 2) (i : Fin 128) (j : Fin 128) (g : Fin 4) (e : Fin 8) : val_main_v98 (F := Ideal) x0 x1 x4 (ix5 c i j g e) = (((G.bl c g e).dM (hd e) i j : ℝ) : EReal) := by
  pointwise [val_main_v98, val_main_v97, val_main_v96]
  simp only [v84_reads H, v19_reads H, ← EReal.coe_mul, coe_sum, ← EReal.coe_add, ← EReal.coe_sub, coe_neg, exp_coe]
  rfl
theorem v100_reads (c : Fin 2) (j : Fin 128) (g : Fin 4) (e : Fin 8) (p : Fin 64) : val_main_v100 (F := Ideal) x0 x1 x2 x4 (ix5 c j g e p) = ((∑ i, (G.bl c g e).dy i p * ((G.bl c g e).S i j * (G.bl c g e).L (hd e) i j) : ℝ) : EReal) := by
  pointwise [val_main_v100, val_main_v99, val_main_v96]
  simp only [v84_reads H, v73_reads H, ← EReal.coe_mul, coe_sum, ← EReal.coe_add, ← EReal.coe_sub, coe_neg, exp_coe]
theorem v103_reads (c : Fin 2) (i : Fin 128) (j : Fin 128) (g : Fin 4) (e : Fin 8) : val_main_v103 (F := Ideal) x0 x1 x2 x4 (ix5 c i j g e) = (((G.bl c g e).dS (hd e) i j : ℝ) : EReal) := by
  pointwise [val_main_v103]
  simp only [v98_reads H, v68_reads H, ← EReal.coe_mul, coe_sum, ← EReal.coe_add, ← EReal.coe_sub, coe_neg, exp_coe]
  rfl
theorem v107_reads (c : Fin 2) (g : Fin 4) (j : Fin 128) (i : Fin 128) : val_main_v107 (F := Ideal) x0 x1 x2 x4 (ix4 c g j i) = ((∑ e, (G.bl c g e).dS (hd e) i j : ℝ) : EReal) := by
  pointwise [val_main_v107, val_main_v106, val_main_v105, val_main_v104, val_main_cst_2, val_main_cst_3]
  simp only [v103_reads H, ← EReal.coe_mul, coe_sum, ← EReal.coe_add, ← EReal.coe_sub, coe_neg, exp_coe]
  try simp
theorem v109_reads (c : Fin 2) (i : Fin 128) (g : Fin 4) (n : Fin 128) : val_main_v109 (F := Ideal) x0 x1 x2 x4 (ix4 c i g n) = ((∑ j, (∑ e, (G.bl c g e).dS (hd e) i j) * G.B c j g n : ℝ) : EReal) := by
  pointwise [val_main_v109, val_main_v108]
  simp only [v107_reads H, v16_reads H _ _ _ _ 0, G.bl_B, ← EReal.coe_mul, coe_sum, ← EReal.coe_add, ← EReal.coe_sub, coe_neg, exp_coe]
theorem v112_reads (c : Fin 2) (j : Fin 128) (g : Fin 4) (n : Fin 128) : val_main_v112 (F := Ideal) x0 x1 x2 x4 (ix4 c j g n) = ((∑ i, (∑ e, (G.bl c g e).dS (hd e) i j) * G.C c i g n : ℝ) : EReal) := by
  pointwise [val_main_v112, val_main_v111]
  simp only [v107_reads H, v54_reads H _ _ _ _ 0, G.bl_C, ← EReal.coe_mul, coe_sum, ← EReal.coe_add, ← EReal.coe_sub, coe_neg, exp_coe]
theorem v114_reads (c : Fin 2) (i : Fin 128) (j : Fin 128) (g : Fin 4) (e : Fin 8) : val_main_v114 (F := Ideal) x0 x1 x2 x4 (ix5 c i j g e) = (((G.bl c g e).dSeg (hd e) i j : ℝ) : EReal) := by
  pointwise [val_main_v114, val_main_v113, val_main_v102, val_main_v101, val_main_v71, val_main_v67_1, val_main_v61, val_main_v60, val_main_v59, val_main_v58, val_main_v57, val_main_v56, val_main_v55, val_main_call2_v0, val_main_call2_cst]
  rw [sel_sge]
  simp only [v70_reads H _ _ _ _ e, v98_reads H, v68_reads H, ← EReal.coe_mul, coe_sum, ← EReal.coe_add, ← EReal.coe_sub, coe_neg, exp_coe]
  unfold Blk.dSeg; split <;> rfl
theorem v123_reads (c : Fin 2) (i : Fin 128) (g : Fin 4) (e : Fin 8) : val_main_v123 (F := Ideal) x0 x1 x2 x3 x4 (ix4 c i g e) = ((((∑ p, (G.bl c g e).dy i p * ∑ n, (G.bl c g e).ent p n * (G.bl c g e).C i n) * (G.bl c g e).grown (hd e) i + ∑ k, -(G.bl c g e).dSeg (hd e) k i) + ∑ j, (G.bl c g e).dSeg (hd e) i j : ℝ) : EReal) := by
  pointwise [val_main_v123, val_main_v122, val_main_v121, val_main_v120, val_main_v119, val_main_v118, val_main_v117, val_main_v116, val_main_v115, val_main_v95, val_main_cst_4, val_main_cst_5, val_main_cst_6, val_main_cst_7]
  simp only [v94_reads H, v76_reads H, v114_reads H, ← EReal.coe_mul, coe_sum, ← EReal.coe_add, ← EReal.coe_sub, coe_neg, exp_coe]
  try simp
theorem v133_reads (g : Fin 4) (e : Fin 8) (p : Fin 64) (n : Fin 128) : val_main_v133 (F := Ideal) x0 x1 x2 x4 x5 (ix4 g e p n) = (((G.bl 1 g e).dh (hd e) p n : ℝ) : EReal) := by
  pointwise [val_main_v133, val_main_v132, val_main_v131, val_main_v128, val_main_v127, val_main_v45, val_main_v44, val_main_v43]
  simp only [v93_reads H, v34_reads H, v13_reads H, ← EReal.coe_mul, coe_sum, ← EReal.coe_add, ← EReal.coe_sub, coe_neg, exp_coe]
  refine congrArg Real.toEReal ((add_comm _ _).trans ?_)
  unfold Blk.dh; rw [G.bl_dhn_last]
  exact congrArg _ (Finset.sum_congr rfl fun i _ => by ring)
theorem v142_reads (c : Fin 2) (g : Fin 4) (e : Fin 8) (p : Fin 64) (n : Fin 128) : val_main_v142 (F := Ideal) x0 x1 x2 x4 x5 (ix5 c g e p n) = (((G.bl c g e).dhn p n : ℝ) : EReal) := by
  pointwise [val_main_v142, val_main_v141, val_main_v140, val_main_v130, val_main_v129, val_main_cst_8, val_main_cst_12]
  rcases (show c = 0 ∨ c = 1 by omega) with rfl | rfl
  · rw [dite_false (by decide), dite_true (by decide), v133_reads H, G.bl_dhn_first]; simp
  · rw [dite_true (by decide), dite_false (by decide), v13_reads H, G.bl_dhn_last]; simp
theorem v145_reads (g : Fin 4) (e : Fin 8) (p : Fin 64) (n : Fin 128) : val_main_v145 (F := Ideal) x0 x1 x2 x4 x5 (ix4 g e p n) = (((G.bl 0 g e).dh (hd e) p n : ℝ) : EReal) := by
  pointwise [val_main_v145, val_main_v144, val_main_v143, val_main_v126, val_main_v125, val_main_v37, val_main_v36, val_main_v35]
  simp only [v93_reads H, v34_reads H, v133_reads H, ← EReal.coe_mul, coe_sum, ← EReal.coe_add, ← EReal.coe_sub, coe_neg, exp_coe]
  refine congrArg Real.toEReal ((add_comm _ _).trans ?_)
  unfold Blk.dh; rw [G.bl_dhn_first]
  exact congrArg _ (Finset.sum_congr rfl fun i _ => by ring)
theorem v153_reads (c : Fin 2) (g : Fin 4) (e : Fin 8) : val_main_v153 (F := Ideal) x0 x1 x2 x3 x4 x5 (ix3 c g e) = (((G.bl c g e).dTot (hd e)  : ℝ) : EReal) := by
  pointwise [val_main_v153, val_main_v152, val_main_v151, val_main_v150, val_main_v149, val_main_v148, val_main_v147, val_main_v146, val_main_v139, val_main_v138, val_main_v137, val_main_v136, val_main_v135, val_main_v134, val_main_cst_9, val_main_cst_10, val_main_cst_11, val_main_cst_13, val_main_cst_14, val_main_cst_15]
  unfold Blk.dTot
  rcases (show c = 0 ∨ c = 1 by omega) with rfl | rfl
  · simp only [G.bl_dhn_first, G.bl_ent]; rw [dite_false (by decide), dite_true (by decide)]; simp only [v133_reads H, v11_reads H, v34_reads H, zero_add, Finset.univ_unique, Finset.sum_singleton, ← EReal.coe_mul, coe_sum, ← EReal.coe_add, ← EReal.coe_sub, coe_neg, exp_coe]; rfl
  · simp only [G.bl_dhn_last, G.bl_ent]; rw [dite_true (by decide), dite_false (by decide)]; simp only [v13_reads H, v42_reads H, v34_reads H, add_zero, Finset.univ_unique, Finset.sum_singleton, ← EReal.coe_mul, coe_sum, ← EReal.coe_add, ← EReal.coe_sub, coe_neg, exp_coe]; rfl
theorem v158_reads (c : Fin 2) (j : Fin 128) (g : Fin 4) (n : Fin 128) : val_main_v158 (F := Ideal) x0 x1 x2 x4 x5 (ix4 c j g n) = ((∑ e, (G.bl c g e).dB (hd e) j n : ℝ) : EReal) := by
  pointwise [val_main_v158, val_main_v157]
  simp only [v142_reads H, v30_reads H, ← EReal.coe_mul, coe_sum, ← EReal.coe_add, ← EReal.coe_sub, coe_neg, exp_coe]
  refine congrArg Real.toEReal (Finset.sum_congr rfl fun e _ => ?_)
  unfold Blk.dB Blk.fromState; rw [Finset.sum_mul]; exact Finset.sum_congr rfl fun p _ => by ring
theorem v159_reads (c : Fin 2) (j : Fin 128) (g : Fin 4) (n : Fin 128) : val_main_v159 (F := Ideal) x0 x1 x2 x4 x5 (ix4 c j g n) = (((G.chunk c g).dB j n : ℝ) : EReal) := by
  pointwise [val_main_v159]
  simp only [v112_reads H, v158_reads H, ← EReal.coe_mul, coe_sum, ← EReal.coe_add, ← EReal.coe_sub, coe_neg, exp_coe]
  refine congrArg Real.toEReal ((add_comm _ _).trans (congrArg _ (Finset.sum_congr rfl fun i _ => ?_)))
  rw [← G.bl_C c g 0]; rfl
theorem v110_reads (c : Fin 2) (i : Fin 128) (g : Fin 4) (n : Fin 128) : val_main_v110 (F := Ideal) x0 x1 x2 x3 x4 (ix4 c i g n) = (((G.chunk c g).dC i n : ℝ) : EReal) := by
  pointwise [val_main_v110]
  simp only [v92_reads H, v109_reads H, ← EReal.coe_mul, coe_sum, ← EReal.coe_add, ← EReal.coe_sub, coe_neg, exp_coe]
  refine congrArg Real.toEReal (congrArg _ (Finset.sum_congr rfl fun i _ => ?_))
  rw [← G.bl_B c g 0]; rfl
theorem v161_reads (c : Fin 2) (j : Fin 128) (g : Fin 4) (e : Fin 8) (p : Fin 64) : val_main_v161 (F := Ideal) x0 x1 x2 x4 x5 (ix5 c j g e p) = ((∑ n, (G.bl c g e).dhn p n * (G.bl c g e).B j n : ℝ) : EReal) := by
  pointwise [val_main_v161, val_main_v160]
  simp only [v142_reads H, v16_reads H _ _ _ _ e, ← EReal.coe_mul, coe_sum, ← EReal.coe_add, ← EReal.coe_sub, coe_neg, exp_coe]
theorem v164_reads (c : Fin 2) (j : Fin 128) (g : Fin 4) (e : Fin 8) (p : Fin 64) : val_main_v164 (F := Ideal) x0 x1 x2 x4 x5 (ix5 c j g e p) = (((G.bl c g e).dxdt (hd e) j p : ℝ) : EReal) := by
  pointwise [val_main_v164, val_main_v163, val_main_v162, val_main_v28]
  simp only [v100_reads H, v161_reads H, v27_reads H, ← EReal.coe_mul, coe_sum, ← EReal.coe_add, ← EReal.coe_sub, coe_neg, exp_coe]
  refine congrArg Real.toEReal ((add_comm _ _).trans ?_)
  unfold Blk.dxdt; rw [Finset.mul_sum]
  exact congrArg₂ _ (Finset.sum_congr rfl fun n _ => by ring) (Finset.sum_congr rfl fun i _ => by ring)
theorem v169_reads (c : Fin 2) (j : Fin 128) (g : Fin 4) (e : Fin 8) : val_main_v169 (F := Ideal) x0 x1 x2 x4 x5 (ix4 c j g e) = (((G.bl c g e).weight (hd e) j : ℝ) : EReal) := by
  pointwise [val_main_v169, val_main_v168, val_main_v167, val_main_v166, val_main_v165, val_main_cst_17, val_main_cst_18]
  simp only [v161_reads H, v19_reads H, v27_reads H, ← EReal.coe_mul, coe_sum, ← EReal.coe_add, ← EReal.coe_sub, coe_neg, exp_coe]
  try simp
  refine congrArg Real.toEReal ?_
  unfold Blk.weight Blk.fromState
  simp only [Finset.mul_sum, Finset.sum_mul]; rw [Finset.sum_comm]
  exact Finset.sum_congr rfl fun n _ => Finset.sum_congr rfl fun p _ => by ring
theorem v175_reads (c : Fin 2) (i : Fin 128) (g : Fin 4) (e : Fin 8) : val_main_v175 (F := Ideal) x0 x1 x2 x3 x4 x5 (ix4 c i g e) = (((G.bl c g e).dAc (hd e) i + (∑ j, (G.bl c g e).dSeg (hd e) i j + ∑ k, (0 - (G.bl c g e).dSeg (hd e) k i)) : ℝ) : EReal) := by
  pointwise [val_main_v175, val_main_v174, val_main_v173, val_main_v172, val_main_v171, val_main_v170, val_main_v156, val_main_v155, val_main_v154, val_main_cst_16, val_main_cst_19, val_main_cst_20]
  simp only [v123_reads H, v153_reads H, v169_reads H, ← EReal.coe_mul, coe_sum, ← EReal.coe_add, ← EReal.coe_sub, coe_neg, exp_coe]
  have ht : (∑ n, (G.bl c g e).C i n * (G.bl c g e).fromOut i n) = ∑ p, (G.bl c g e).dy i p * ∑ n, (G.bl c g e).ent p n * (G.bl c g e).C i n := by
    unfold Blk.fromOut; simp only [Finset.mul_sum]; rw [Finset.sum_comm]
    exact Finset.sum_congr rfl fun p _ => Finset.sum_congr rfl fun n _ => by ring
  unfold Blk.dAc; simp only [zero_sub]; rw [ht]
  by_cases hi : i = 127
  · have hd : 127 ≤ i.val ∧ i.val - 127 < 1 := by subst hi; decide
    rw [dite_true hd, dite_true hd, if_pos hi, ← EReal.coe_add, ← EReal.coe_add, ← EReal.coe_add]; exact congrArg Real.toEReal (by ring)
  · have hd : ¬(127 ≤ i.val ∧ i.val - 127 < 1) := fun h => hi (Fin.ext (by show i.val = 127; omega))
    rw [dite_false hd, dite_false hd, if_neg hi, add_zero, add_zero, ← EReal.coe_add]; exact congrArg Real.toEReal (by ring)
omit H in
theorem hd_inj (e f : Fin 8) : hd e = hd f ↔ e = f := ⟨fun h => Fin.ext (show (hd e).val = (hd f).val from congrArg Fin.val h), fun h => h ▸ rfl⟩
omit H in
theorem pick (e : Fin 8) (f : Fin 8 → ℝ) : (∑ x, if hd e = hd x then f x else 0) = f e := by simp [hd_inj]
omit H in
theorem none (l : Fin 128) (hl : 8 ≤ l.val) (f : Fin 8 → ℝ) : (∑ x, if l = hd x then f x else 0) = 0 :=
  Finset.sum_eq_zero fun x _ => if_neg fun h => by have h' : l.val = x.val := congrArg Fin.val h; omega
omit H in
theorem dSum_head (c : Fin 2) (g : Fin 4) (j : Fin 128) (e : Fin 8) : (G.chunk c g).dSum j (hd e)
    = ∑ k, if j ≤ k then (G.bl c g e).dAc (hd e) k + (∑ i, (G.bl c g e).dSeg (hd e) k i + ∑ i, (0 - (G.bl c g e).dSeg (hd e) i k)) else 0 := by
  unfold Chunk.dSum back Blk.dRow Blk.dCol
  simp only [pick]
  rw [← Finset.sum_add_distrib]
  refine Finset.sum_congr rfl fun k _ => ?_
  show (if j ≤ k then ∑ i, (0 - (G.bl c g e).dSeg (hd e) i k) else 0) + (if j ≤ k then (G.bl c g e).dAc (hd e) k + ∑ i, (G.bl c g e).dSeg (hd e) k i else 0) = _
  split_ifs <;> ring
omit H in
theorem dSum_none (k : Chunk) (j l : Fin 128) (hl : 8 ≤ l.val) : k.dSum j l = 0 := by
  unfold Chunk.dSum back Blk.dRow Blk.dCol
  simp only [none l hl]; simp
omit H in
theorem ddt_head (c : Fin 2) (g : Fin 4) (j : Fin 128) (e : Fin 8) : (G.chunk c g).ddt j (hd e) = (∑ p, (G.bl c g e).x j p * (G.bl c g e).dxdt (hd e) j p) + (G.chunk c g).dSum j (hd e) * (G.bl c g e).a (hd e) := by
  unfold Chunk.ddt Blk.dDt; rw [pick]; rfl
omit H in
theorem ddt_none (k : Chunk) (j l : Fin 128) (hl : 8 ≤ l.val) : k.ddt j l = 0 := by
  unfold Chunk.ddt Blk.dDt; rw [none l hl, dSum_none k j l hl]; simp
omit H in
theorem da_none (k : Chunk) (l : Fin 128) (hl : 8 ≤ l.val) : k.da l = 0 := by
  unfold Chunk.da; exact Finset.sum_eq_zero fun j _ => by rw [dSum_none k j l hl, mul_zero]
theorem v176_reads (c : Fin 2) (j : Fin 128) (g : Fin 4) (e : Fin 8) : val_main_v176 (F := Ideal) x0 x1 x2 x3 x4 x5 (ix4 c j g e) = (((G.chunk c g).dSum j (hd e)  : ℝ) : EReal) := by
  have h0 : val_main_call3_call0_v0 (F := Ideal) (Shape.Idx.first h_S_) = 0 := by pointwise [val_main_call3_call0_v0, val_main_call3_call0_cst]
  unfold val_main_v176 Host.reduceWindowAdd
  rw [h0, Ideal.hostReduceWindowAdd_def, sum_above, dSum_head]
  simp only [v175_reads H, ← EReal.coe_zero, coe_ite, coe_sum]
theorem v178_reads (g : Fin 4) (e : Fin 8) : val_main_v178 (F := Ideal) x0 x1 x2 x3 x4 x5 (ix2 g e) = (((G.chunk 0 g).da (hd e) + (G.chunk 1 g).da (hd e)  : ℝ) : EReal) := by
  have h0 : val_main_cst_21 (F := Ideal) (Shape.Idx.first h_S_) = 0 := by pointwise [val_main_cst_21]
  unfold val_main_v178 Host.reduceAdd
  rw [h0, Ideal.hostReduceAdd_def, sum_leading, zero_add, Fin.sum_univ_two]
  pointwise [val_main_v177]
  simp only [v15_reads H, v176_reads H, ← EReal.coe_mul, coe_sum, ← EReal.coe_add, ← EReal.coe_sub, coe_neg, exp_coe]; rfl
theorem v182_reads (g : Fin 4) (e : Fin 8) : val_main_v182 (F := Ideal) x0 x1 x2 x3 x4 x5 (ix2 g e) = (((G.chunk 0 g).da (hd e) + (G.chunk 1 g).da (hd e)  : ℝ) : EReal) := by
  have h0 : val_main_cst_22 (F := Ideal) (Shape.Idx.first h_S_) = 0 := by pointwise [val_main_cst_22]
  unfold val_main_v182 Host.reduceAdd
  rw [h0, Ideal.hostReduceAdd_def, sum_leading, zero_add]
  pointwise [val_main_v179]
  simp only [v178_reads H, Finset.univ_unique, Finset.sum_singleton]
theorem v189_reads (c : Fin 2) (j : Fin 128) (g : Fin 4) (e : Fin 8) : val_main_v189 (F := Ideal) x0 x1 x2 x3 x4 x5 (ix4 c j g e) = (((G.chunk c g).ddt j (hd e)  : ℝ) : EReal) := by
  pointwise [val_main_v189, val_main_v188, val_main_v185, val_main_v184, val_main_v183, val_main_v181, val_main_v180, val_main_v20, val_main_cst_23, val_main_cst_24]
  simp only [v176_reads H, v14_reads H, v164_reads H, v10_reads H _ _ c, Finset.univ_unique, Finset.sum_singleton, ← EReal.coe_mul, coe_sum, ← EReal.coe_add, ← EReal.coe_sub, coe_neg, exp_coe]
  rw [ddt_head]; exact congrArg Real.toEReal (add_comm _ _)
omit H in
theorem zero_int : FloatOps.sitofp (F := Ideal) FTy.f32 (0#32) = (0 : EReal) := by
  show (((0#32 : BitVec 32).toInt : ℝ) : EReal) = 0
  simp
theorem v195_reads (g : Fin 4) (r : Fin 8) (l : Fin 128) : val_main_v195 (F := Ideal) x0 x1 x2 x3 x4 x5 (ix3 g r l) = ((G.da g r l : ℝ) : EReal) := by
  pointwise [val_main_v195, val_main_v194, val_main_call5_v0, val_main_c_25]
  by_cases hr : r.val < 1 ∧ l.val < 8
  · have h0 : r = 0 := Fin.ext (by show r.val = 0; omega)
    refine (dif_pos hr).trans ?_
    refine (v182_reads H g ⟨l.val, hr.2⟩).trans (congrArg Real.toEReal ?_)
    unfold Args.da; rw [if_pos h0, zero_add, add_comm]; rfl
  · refine (dif_neg hr).trans ?_
    refine zero_int.trans (congrArg Real.toEReal (?_ : (0 : ℝ) = _))
    unfold Args.da
    by_cases h0 : r = 0
    · have hl : 8 ≤ l.val := by have : r.val = 0 := congrArg Fin.val h0; omega
      rw [if_pos h0, da_none _ l hl, da_none _ l hl]; simp
    · rw [if_neg h0]
theorem v198_reads (r : Fin 256) (s : Fin 512) : val_main_v198 (F := Ideal) x0 x1 x2 x3 x4 x5 (ix2 r s) = ((G.ddt r s : ℝ) : EReal) := by
  pointwise [val_main_v198, val_main_v193, val_main_v191, val_main_call4_v0, val_main_c]
  by_cases hs : s.val / 128 < 4 ∧ s.val % 128 < 8
  · refine (dif_pos hs).trans ?_
    exact v189_reads H (chunkOf r) (stepOf r) (laneGroup s) ⟨s.val % 128, hs.2⟩
  · refine (dif_neg hs).trans ?_
    refine zero_int.trans (congrArg Real.toEReal (?_ : (0 : ℝ) = _))
    exact (ddt_none _ _ (laneOf s) (by show 8 ≤ s.val % 128; omega)).symm
theorem v197_reads (r : Fin 256) (s : Fin 2048) : val_main_v197 (F := Ideal) x0 x1 x2 x4 x5 (ix2 r s) = ((G.dx r s : ℝ) : EReal) := by
  pointwise [val_main_v197, val_main_v196, val_main_v192, val_main_v187, val_main_v186, val_main_v17]
  have he : s.val / 64 % 8 = s.val % 512 / 64 := by omega
  have hp : s.val % 64 = s.val % 512 % 64 := by omega
  simp only [he, hp]
  refine (congrArg₂ (· * ·) (v164_reads H (chunkOf r) (stepOf r) (groupOf s) (headOf (entryOf s)) (posOf (entryOf s))) (v15_reads H (chunkOf r) (stepOf r) (groupOf s) (headOf (entryOf s)))).trans ?_
  exact (EReal.coe_mul _ _).symm
theorem v199_reads (r : Fin 256) (s : Fin 512) : val_main_v199 (F := Ideal) x0 x1 x2 x4 x5 (ix2 r s) = ((G.dB r s : ℝ) : EReal) := by
  pointwise [val_main_v199, val_main_v190]
  exact v159_reads H (chunkOf r) (stepOf r) (laneGroup s) (laneOf s)
theorem v200_reads (r : Fin 256) (s : Fin 512) : val_main_v200 (F := Ideal) x0 x1 x2 x3 x4 (ix2 r s) = ((G.dC r s : ℝ) : EReal) := by
  pointwise [val_main_v200, val_main_v124]
  exact v110_reads H (chunkOf r) (stepOf r) (laneGroup s) (laneOf s)
theorem v201_reads (g : Fin 4) (q : Fin 512) (n : Fin 128) : val_main_v201 (F := Ideal) x0 x1 x2 x4 x5 (ix3 g q n) = ((G.dh0 g q n : ℝ) : EReal) := by
  pointwise [val_main_v201]
  exact v145_reads H g (headOf q) (posOf q) n

end Cert.ReferenceIdeal.Scan

end
-- ==== Proof.PointRead.lean ====
/- One point of the grid, read at its blocks' entries: with the blocks real arrays, what the body leaves is the chunk's real gradient. -/
module

public import proofs.«01_k».proof.Proof.ChunkReal
public import Idealize.ShloMosaic.Lib.Writes

@[expose] public section

set_option maxRecDepth 16384

noncomputable section

namespace Cert.KernelIdeal.Scan

open Cert.KernelIdeal Cert.KernelIdeal.Gen Cert.Scan
open Idealize.ShloMosaic Idealize.ShloMosaic.TcCoe Idealize.SL.Sem

/-- The heads' parts of a stored list, read at a head's part. -/
theorem canon_parts {S : Shape} {t : EltTy} (R : Fin 8 → Rect S) (f : ∀ e, (R e).shape.Idx → Elt Ideal t) (e : Fin 8) (x : (R e).shape.Idx)
    (hd : ∀ e', e' ≠ e → (R e).emb x ∉ (R e').set) (rest : List (View.Piece (Elt Ideal) S t)) : ∀ l : List (Fin 8), e ∈ l →
    View.canon (Val := Elt Ideal) ((l.map fun e => ⟨R e, f e⟩) ++ rest) ((R e).emb x) = f e x
  | a :: l, h => by
    by_cases ha : a = e
    · subst ha; exact View.canon_cons_emb _ _ _ x
    · refine (View.canon_cons_of_not_mem _ _ (hd a ha)).trans (canon_parts R f e x hd rest l ?_)
      exact (List.mem_cons.1 h).resolve_left fun h' => ha h'.symm
/-- Off the heads of the list, what was there before. -/
theorem canon_skip {S : Shape} {t : EltTy} (R : Fin 8 → Rect S) (f : ∀ e, (R e).shape.Idx → Elt Ideal t) (y : S.Idx) (rest : List (View.Piece (Elt Ideal) S t)) :
    ∀ l : List (Fin 8), (∀ e ∈ l, y ∉ (R e).set) → View.canon (Val := Elt Ideal) ((l.map fun e => ⟨R e, f e⟩) ++ rest) y = View.canon rest y
  | [], _ => rfl
  | a :: l, h => (View.canon_cons_of_not_mem _ _ (h a List.mem_cons_self)).trans (canon_skip R f y rest l fun e he => h e (List.mem_cons_of_mem _ he))

theorem xRect_emb (e : Fin 8) (i : Fin 128) (p : Fin 64) : (xRect e).emb (ix2 i p) = ix2 i (entry e p) := by
  funext a; fin_cases a <;> apply Fin.ext
  · show 0 + 1 * i.val = i.val; omega
  · show 64 * e.val + 1 * p.val = 64 * e.val + p.val; omega
theorem sRect_emb (e : Fin 8) (p : Fin 64) (n : Fin 128) : (sRect e).emb (ix2 p n) = ix2 (entry e p) n := by
  funext a; fin_cases a <;> apply Fin.ext
  · show 64 * e.val + 1 * p.val = 64 * e.val + p.val; omega
  · show 0 + 1 * n.val = n.val; omega
theorem eRect_emb (e : Fin 8) (p : Fin 64) (n : Fin 128) : (eRect e).emb (ix4 0 0 p n) = ix4 0 0 (entry e p) n := by
  funext a; fin_cases a <;> apply Fin.ext
  · rfl
  · rfl
  · show 64 * e.val + 1 * p.val = 64 * e.val + p.val; omega
  · show 0 + 1 * n.val = n.val; omega
theorem xRect_ne (e e' : Fin 8) (h : e' ≠ e) (i : Fin 128) (p : Fin 64) : (xRect e).emb (ix2 i p) ∉ (xRect e').set := by
  rw [xRect_emb, xRect, Rect.mem_set_unit]
  intro k
  have h1 : 64 * e'.val ≤ 64 * e.val + p.val := (k 1).1
  have h2 : 64 * e.val + p.val < 64 * e'.val + 64 := (k 1).2
  exact h (Fin.ext (by omega))
theorem sRect_ne (e e' : Fin 8) (h : e' ≠ e) (p : Fin 64) (n : Fin 128) : (sRect e).emb (ix2 p n) ∉ (sRect e').set := by
  rw [sRect_emb, sRect, Rect.mem_set_unit]
  intro k
  have h1 : 64 * e'.val ≤ 64 * e.val + p.val := (k 0).1
  have h2 : 64 * e.val + p.val < 64 * e'.val + 64 := (k 0).2
  exact h (Fin.ext (by omega))
theorem mem_heads (e : Fin 8) : e ∈ heads := by fin_cases e <;> decide

/-- The blocks a point reads are the chunk's real arrays. -/
structure BFits (x0 : Vec Ideal S128x512 .bf16) (x1 : Vec Ideal S128x128 .f32) (x2 : Vec Ideal S128x128 .bf16) (x3 : Vec Ideal S128x128 .bf16) (x4 : Vec Ideal S1x8x128 .f32)
    (x5 : Vec Ideal S1x1x512x128 .f32) (x6 : Vec Ideal S128x512 .f32) (k : Chunk) : Prop where
  x : ∀ i q, x0 (ix2 i q) = ((k.x i q : ℝ) : EReal)
  dt : ∀ i l, x1 (ix2 i l) = ((k.dt i l : ℝ) : EReal)
  B : ∀ i n, x2 (ix2 i n) = ((k.B i n : ℝ) : EReal)
  C : ∀ i n, x3 (ix2 i n) = ((k.C i n : ℝ) : EReal)
  a : ∀ l, x4 (ix3 0 0 l) = ((k.a l : ℝ) : EReal)
  ent : ∀ q n, x5 (ix4 0 0 q n) = ((k.ent q n : ℝ) : EReal)
  dy : ∀ i q, x6 (ix2 i q) = ((k.dy i q : ℝ) : EReal)

variable (c : Dev nD) (i : grid0.Coords) (arg2 : Memref sig .tc .vmem S128x512 .bf16) (harg2 : arg2.IsWhole) (arg3 : Memref sig .tc .vmem S128x128 .f32) (harg3 : arg3.IsWhole) (arg4 : Memref sig .tc .vmem S128x128 .bf16) (harg4 : arg4.IsWhole) (arg5 : Memref sig .tc .vmem S128x128 .bf16) (harg5 : arg5.IsWhole) (arg6 : Memref sig .tc .vmem S1x8x128 .f32) (harg6 : arg6.IsWhole) (arg7 : Memref sig .tc .vmem S1x1x512x128 .f32) (harg7 : arg7.IsWhole) (arg8 : Memref sig .tc .vmem S128x512 .f32) (harg8 : arg8.IsWhole) (arg9 : Memref sig .tc .vmem S1x512x128 .f32) (harg9 : arg9.IsWhole) (arg10 : Memref sig .tc .vmem S128x512 .bf16) (harg10 : arg10.IsWhole) (arg11 : Memref sig .tc .vmem S128x128 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S1x8x128 .f32) (harg14 : arg14.IsWhole) (arg15 : Memref sig .tc .vmem S1x512x128 .f32) (harg15 : arg15.IsWhole) (arg16 : Memref sig .tc .vmem S512x128 .f32) (harg16 : arg16.IsWhole)
  (x0 : Vec Ideal S128x512 .bf16) (x1 : Vec Ideal S128x128 .f32) (x2 : Vec Ideal S128x128 .bf16) (x3 : Vec Ideal S128x128 .bf16) (x4 : Vec Ideal S1x8x128 .f32) (x5 : Vec Ideal S1x1x512x128 .f32) (x6 : Vec Ideal S128x512 .f32) (x7 : Vec Ideal S1x512x128 .f32) (xs0 : Vec Ideal S512x128 .f32) (xo12 : Vec Ideal S1x8x128 .f32)
variable {x0 x1 x2 x3 x4 x5 x6} {k : Chunk} (h : BFits x0 x1 x2 x3 x4 x5 x6 k)
include h

omit h in
theorem pay3_apply (v : Vec Ideal S1x512x128 .f32) (q : Fin 512) (n : Fin 128) : k0_pay3 (F := Ideal) v (ix2 q n) = v (ix3 0 q n) := by
  pointwise [k0_pay3]

omit h in
theorem cast_ent (v : Vec Ideal S1x1x64x128 .f32) (p : Fin 64) (n : Fin 128) : shapeCast S64x128 v shapeCasts_S1x1x64x128_S64x128 (ix2 p n) = v (ix4 0 0 p n) := by
  pointwise

/-- A point's readings, given the state's gradient. -/
theorem ptOf_fits (N : Fin 8 → St) (hN : ∀ e, Reads (N e) fun p n => k.dhn (entry e p) n) : PFits (ptOf arg2 harg2 arg3 harg3 arg4 harg4 arg5 harg5 arg6 harg6 arg7 harg7 arg8 harg8 x0 x1 x2 x3 x4 x5 x6 N) k := fun e => by
  refine ⟨fun i l => ?_, fun l => ?_, fun i n => ?_, fun i n => ?_, fun i p => ?_, fun i p => ?_, fun p n => ?_, hN e⟩
  · refine Eq.trans ?_ (h.dt i l)
    show View.ld (arg3.view.read (Elt Ideal) (harg3.unread x1)) (Rect.unit (s := S128x128) ![0, 0] S128x128.size inb_S128x128_S128x128_0_0) (ix2 i l) = _
    rw [harg3.read_unread]; exact congrFun (View.ld_unit_zero (S := S128x128) hz2 _ x1) _
  · refine Eq.trans ?_ (h.a l)
    show shapeCast S1x128 (View.ld (arg6.view.read (Elt Ideal) (harg6.unread x4)) (Rect.unit (s := S1x8x128) ![0, 0, 0] S1x1x128.size inb_S1x8x128_S1x1x128_0_0_0)) shapeCasts_S1x1x128_S1x128 (ix2 0 l) = _
    rw [harg6.read_unread]; pointwise
  · refine Eq.trans ?_ (h.B i n)
    show View.ld (arg4.view.read (Elt Ideal) (harg4.unread x2)) (Rect.unit (s := S128x128) ![0, 0] S128x128.size inb_S128x128_S128x128_0_0) (ix2 i n) = _
    rw [harg4.read_unread]; exact congrFun (View.ld_unit_zero (S := S128x128) hz2 _ x2) _
  · refine Eq.trans ?_ (h.C i n)
    show View.ld (arg5.view.read (Elt Ideal) (harg5.unread x3)) (Rect.unit (s := S128x128) ![0, 0] S128x128.size inb_S128x128_S128x128_0_0) (ix2 i n) = _
    rw [harg5.read_unread]; exact congrFun (View.ld_unit_zero (S := S128x128) hz2 _ x3) _
  · refine Eq.trans ?_ (h.x i (entry e p))
    show View.ld (arg2.view.read (Elt Ideal) (harg2.unread x0)) (xRect e) (ix2 i p) = _
    rw [harg2.read_unread]; exact congrArg x0 (xRect_emb e i p)
  · refine Eq.trans ?_ (h.dy i (entry e p))
    show View.ld (arg8.view.read (Elt Ideal) (harg8.unread x6)) (xRect e) (ix2 i p) = _
    rw [harg8.read_unread]; exact congrArg x6 (xRect_emb e i p)
  · refine Eq.trans ?_ (h.ent (entry e p) n)
    show shapeCast S64x128 (View.ld (arg7.view.read (Elt Ideal) (harg7.unread x5)) (eRect e)) shapeCasts_S1x1x64x128_S64x128 (ix2 p n) = _
    rw [harg7.read_unread]
    exact (cast_ent (View.ld x5 (eRect e)) p n).trans (congrArg x5 (eRect_emb e p n))

omit h in
theorem nB_reads (hN : ∀ q n, xs0 (ix2 q n) = ((k.dhn q n : ℝ) : EReal)) (e : Fin 8) : Reads (nB arg16 harg16 xs0 e) fun p n => k.dhn (entry e p) n := fun p n => by
  refine Eq.trans ?_ (hN (entry e p) n)
  show View.ld (arg16.view.read (Elt Ideal) (harg16.unread xs0)) (sRect e) (ix2 p n) = _
  rw [harg16.read_unread]; exact congrArg xs0 (sRect_emb e p n)

omit h in
theorem first_reads (q : Fin 512) (n : Fin 128) : View.canon (Val := Elt Ideal) (kernelRun0_A.sl.HS0_1 c arg9 harg9 x7) (ix2 q n) = x7 (ix3 0 q n) := by
  have e : kernelRun0_A.sl.HS0_1 c arg9 harg9 x7 = [⟨Rect.unit (s := S512x128) ![0, 0] S512x128.size inb_S512x128_S512x128_0_0, k0_pay3 (View.readAt (Elt Ideal) arg9.view (Rect.unit (s := S1x512x128) ![0, 0, 0] S1x512x128.size inb_S1x512x128_S1x512x128_0_0_0).toLoadRect (harg9.unread x7))⟩] := by
    sl_kernel_rfl
  rw [e, View.canon_unit_zero hz2]
  rw [View.readAt_eq_ld, harg9.read_unread, View.ld_unit_zero (S := S1x512x128) hz3]
  exact pay3_apply x7 q n

omit h in
theorem nA_reads (hN : ∀ q n, x7 (ix3 0 q n) = ((k.dhn q n : ℝ) : EReal)) (e : Fin 8) : Reads (nA c arg3 harg3 arg5 harg5 arg6 harg6 arg8 harg8 arg9 harg9 arg16 x1 x3 x4 x6 x7 e) fun p n => k.dhn (entry e p) n := fun p n => by
  have e5 : kernelRun0_A.sl.HS0_5 c arg3 harg3 arg5 harg5 arg6 harg6 arg8 harg8 arg9 harg9 arg16 x1 x3 x4 x6 x7
      = (([3, 2, 1, 0] : List (Fin 8)).map fun e => ⟨sRect e, shapeCast S64x128 (dh (BitVec.ofNat 32 e) (View.readAt (Elt Ideal) arg3.view (Rect.unit ![0, 0] S128x128.size inb_S128x128_S128x128_0_0).toLoadRect (harg3.unread x1))
      (shapeCast S1x128 (View.readAt (Elt Ideal) arg6.view (Rect.unit (s := S1x8x128) ![0, 0, 0] S1x1x128.size inb_S1x8x128_S1x1x128_0_0_0).toLoadRect (harg6.unread x4)) shapeCasts_S1x1x128_S1x128)
      (extf .f32 (View.readAt (Elt Ideal) arg5.view (Rect.unit ![0, 0] S128x128.size inb_S128x128_S128x128_0_0).toLoadRect (harg5.unread x3)) bitsLt_bf16_f32)
      (View.readAt (Elt Ideal) arg8.view (xRect e).toLoadRect (harg8.unread x6)) (nA c arg3 harg3 arg5 harg5 arg6 harg6 arg8 harg8 arg9 harg9 arg16 x1 x3 x4 x6 x7 e)) shapeCasts_S64x128_S64x128⟩) ++ kernelRun0_A.sl.HS0_1 c arg9 harg9 x7 := by
    sl_kernel_rfl
  refine Eq.trans ?_ ((first_reads c arg9 harg9 x7 (entry e p) n).trans (hN (entry e p) n))
  unfold nA; rw [View.readCov_eq_canon']
  show View.canon _ ((sRect e).emb (ix2 p n)) = _
  rw [← sRect_emb]
  split
  · rfl
  · next hlt =>
    rw [e5]
    exact canon_skip sRect _ _ _ _ fun e' he' => sRect_ne e e' (by rintro rfl; fin_cases he' <;> exact hlt (by decide)) p n

theorem fits_A (hN : ∀ q n, x7 (ix3 0 q n) = ((k.dhn q n : ℝ) : EReal)) : PFits (ptA c arg2 harg2 arg3 harg3 arg4 harg4 arg5 harg5 arg6 harg6 arg7 harg7 arg8 harg8 arg9 harg9 arg16 x0 x1 x2 x3 x4 x5 x6 x7) k :=
  ptOf_fits arg2 harg2 arg3 harg3 arg4 harg4 arg5 harg5 arg6 harg6 arg7 harg7 arg8 harg8 h _ (nA_reads c arg3 harg3 arg5 harg5 arg6 harg6 arg8 harg8 arg9 harg9 arg16 x7 hN)
theorem inputs_A_reads (hc0 : cond0_0 i) (hN : ∀ q n, x7 (ix3 0 q n) = ((k.dhn q n : ℝ) : EReal)) (r : Fin 128) (e : Fin 8) (p : Fin 64) : out0_A_8 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 (ix2 r (entry e p)) = ((k.dx e r p : ℝ) : EReal) := by
  rw [inputs_A, ← xRect_emb, ← List.append_nil (List.map _ heads)]
  exact (canon_parts xRect _ e (ix2 r p) (fun e' he => xRect_ne e e' he r p) _ _ (mem_heads e)).trans ((fits_A c arg2 harg2 arg3 harg3 arg4 harg4 arg5 harg5 arg6 harg6 arg7 harg7 arg8 harg8 arg9 harg9 arg16 x7 h hN).dxs e r p)
theorem state_A_reads (hc0 : cond0_0 i) (hN : ∀ q n, x7 (ix3 0 q n) = ((k.dhn q n : ℝ) : EReal)) (e : Fin 8) (p : Fin 64) (n : Fin 128) : sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 (ix2 (entry e p) n) = ((k.dh e p n : ℝ) : EReal) := by
  rw [state_A, ← sRect_emb]
  exact (canon_parts sRect _ e (ix2 p n) (fun e' he => sRect_ne e e' he p n) _ _ (mem_heads e)).trans ((fits_A c arg2 harg2 arg3 harg3 arg4 harg4 arg5 harg5 arg6 harg6 arg7 harg7 arg8 harg8 arg9 harg9 arg16 x7 h hN).dhs e p n)
theorem ddts_A_reads (hc0 : cond0_0 i) (hN : ∀ q n, x7 (ix3 0 q n) = ((k.dhn q n : ℝ) : EReal)) (r s : Fin 128) : out0_A_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 (ix2 r s) = ((k.ddt r s : ℝ) : EReal) := by
  rw [ddts_A]; exact (fits_A c arg2 harg2 arg3 harg3 arg4 harg4 arg5 harg5 arg6 harg6 arg7 harg7 arg8 harg8 arg9 harg9 arg16 x7 h hN).ddts r s
theorem dbs_A_reads (hc0 : cond0_0 i) (hN : ∀ q n, x7 (ix3 0 q n) = ((k.dhn q n : ℝ) : EReal)) (r s : Fin 128) : out0_A_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 (ix2 r s) = ((k.dB r s : ℝ) : EReal) := by
  rw [dbs_A]; exact (fits_A c arg2 harg2 arg3 harg3 arg4 harg4 arg5 harg5 arg6 harg6 arg7 harg7 arg8 harg8 arg9 harg9 arg16 x7 h hN).dbs r s
theorem dcs_A_reads (hc0 : cond0_0 i) (hN : ∀ q n, x7 (ix3 0 q n) = ((k.dhn q n : ℝ) : EReal)) (r s : Fin 128) : out0_A_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 (ix2 r s) = ((k.dC r s : ℝ) : EReal) := by
  rw [dcs_A]; exact (fits_A c arg2 harg2 arg3 harg3 arg4 harg4 arg5 harg5 arg6 harg6 arg7 harg7 arg8 harg8 arg9 harg9 arg16 x7 h hN).dcs r s

theorem fits_B (hN : ∀ q n, xs0 (ix2 q n) = ((k.dhn q n : ℝ) : EReal)) : PFits (ptB arg2 harg2 arg3 harg3 arg4 harg4 arg5 harg5 arg6 harg6 arg7 harg7 arg8 harg8 arg16 harg16 x0 x1 x2 x3 x4 x5 x6 xs0) k :=
  ptOf_fits arg2 harg2 arg3 harg3 arg4 harg4 arg5 harg5 arg6 harg6 arg7 harg7 arg8 harg8 h _ (nB_reads arg16 harg16 xs0 hN)
theorem inputs_B_reads (hc0 : ¬cond0_0 i) (hN : ∀ q n, xs0 (ix2 q n) = ((k.dhn q n : ℝ) : EReal)) (r : Fin 128) (e : Fin 8) (p : Fin 64) : out0_B_8 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 xo12 xs0 (ix2 r (entry e p)) = ((k.dx e r p : ℝ) : EReal) := by
  rw [inputs_B, ← xRect_emb, ← List.append_nil (List.map _ heads)]
  exact (canon_parts xRect _ e (ix2 r p) (fun e' he => xRect_ne e e' he r p) _ _ (mem_heads e)).trans ((fits_B arg2 harg2 arg3 harg3 arg4 harg4 arg5 harg5 arg6 harg6 arg7 harg7 arg8 harg8 arg16 harg16 xs0 h hN).dxs e r p)
theorem state_B_reads (hc0 : ¬cond0_0 i) (hN : ∀ q n, xs0 (ix2 q n) = ((k.dhn q n : ℝ) : EReal)) (e : Fin 8) (p : Fin 64) (n : Fin 128) : sout0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 xo12 xs0 (ix2 (entry e p) n) = ((k.dh e p n : ℝ) : EReal) := by
  rw [state_B, ← sRect_emb, ← List.append_nil (List.map _ heads)]
  exact (canon_parts sRect _ e (ix2 p n) (fun e' he => sRect_ne e e' he p n) _ _ (mem_heads e)).trans ((fits_B arg2 harg2 arg3 harg3 arg4 harg4 arg5 harg5 arg6 harg6 arg7 harg7 arg8 harg8 arg16 harg16 xs0 h hN).dhs e p n)
theorem ddts_B_reads (hc0 : ¬cond0_0 i) (hN : ∀ q n, xs0 (ix2 q n) = ((k.dhn q n : ℝ) : EReal)) (r s : Fin 128) : out0_B_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 xo12 xs0 (ix2 r s) = ((k.ddt r s : ℝ) : EReal) := by
  rw [ddts_B]; exact (fits_B arg2 harg2 arg3 harg3 arg4 harg4 arg5 harg5 arg6 harg6 arg7 harg7 arg8 harg8 arg16 harg16 xs0 h hN).ddts r s
theorem dbs_B_reads (hc0 : ¬cond0_0 i) (hN : ∀ q n, xs0 (ix2 q n) = ((k.dhn q n : ℝ) : EReal)) (r s : Fin 128) : out0_B_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 xo12 xs0 (ix2 r s) = ((k.dB r s : ℝ) : EReal) := by
  rw [dbs_B]; exact (fits_B arg2 harg2 arg3 harg3 arg4 harg4 arg5 harg5 arg6 harg6 arg7 harg7 arg8 harg8 arg16 harg16 xs0 h hN).dbs r s
theorem dcs_B_reads (hc0 : ¬cond0_0 i) (hN : ∀ q n, xs0 (ix2 q n) = ((k.dhn q n : ℝ) : EReal)) (r s : Fin 128) : out0_B_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 xo12 xs0 (ix2 r s) = ((k.dC r s : ℝ) : EReal) := by
  rw [dcs_B]; exact (fits_B arg2 harg2 arg3 harg3 arg4 harg4 arg5 harg5 arg6 harg6 arg7 harg7 arg8 harg8 arg16 harg16 xs0 h hN).dcs r s

omit h in
theorem row_emb (l : Fin 128) : (Rect.unit (s := S1x8x128) ![0, 0, 0] S1x1x128.size inb_S1x8x128_S1x1x128_0_0_0).emb (ix3 0 0 l) = ix3 0 0 l := by
  funext a; fin_cases a <;> first | rfl | exact Fin.ext (show 0 + 1 * l.val = l.val by omega)
omit h in
theorem row_ne (r : Fin 8) (hr : r ≠ 0) (l : Fin 128) : (ix3 0 r l : S1x8x128.Idx) ∉ (Rect.unit (s := S1x8x128) ![0, 0, 0] S1x1x128.size inb_S1x8x128_S1x1x128_0_0_0).set := by
  rw [Rect.mem_set_unit]
  intro k
  have h2 : r.val < 0 + 1 := (k 1).2
  exact hr (Fin.ext (by show r.val = 0; omega))
omit h in
theorem canon_row_ne (w : S1x1x128.Idx → EReal) (L : List (View.Piece (Elt Ideal) S1x8x128 .f32)) (r : Fin 8) (hr : r ≠ 0) (l : Fin 128) : View.canon (Val := Elt Ideal) (⟨Rect.unit (s := S1x8x128) ![0, 0, 0] S1x1x128.size inb_S1x8x128_S1x1x128_0_0_0, w⟩ :: L) (ix3 0 r l) = View.canon L (ix3 0 r l) :=
  View.canon_cons_of_not_mem _ _ (row_ne r hr l)
omit h in
theorem pay1_apply (d : Row) (v : Vec Ideal S1x1x128 .f32) (l : Fin 128) : k0_pay1 (F := Ideal) d v (ix3 0 0 l) = v (ix3 0 0 l) + d (ix2 0 l) := by
  pointwise [k0_pay1]
omit h in
theorem pay194_apply (d : Row) (v : Vec Ideal S1x1x128 .f32) (l : Fin 128) : k0_pay194 (F := Ideal) d v (ix3 0 0 l) = v (ix3 0 0 l) + d (ix2 0 l) := by
  pointwise [k0_pay194]
omit h in
theorem pay4_apply (i : S1x8x128.Idx) : k0_pay4 (F := Ideal) i = 0 := by
  unfold k0_pay4; exact Ideal.ofBits_zero .f32
omit h in
theorem pay2_apply (v : Vec Ideal S512x128 .f32) (q : Fin 512) (n : Fin 128) : k0_pay2 (F := Ideal) v (ix3 0 q n) = v (ix2 q n) := by
  pointwise [k0_pay2]

theorem rates_A_reads (hc0 : cond0_0 i) (hN : ∀ q n, x7 (ix3 0 q n) = ((k.dhn q n : ℝ) : EReal)) (l : Fin 128) : out0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 (ix3 0 0 l) = ((0 + k.da l : ℝ) : EReal) := by
  rw [rates_A]
  refine Eq.trans ?_ ((fits_A c arg2 harg2 arg3 harg3 arg4 harg4 arg5 harg5 arg6 harg6 arg7 harg7 arg8 harg8 arg9 harg9 arg16 x7 h hN).das 0 0 rfl l)
  conv_lhs => rw [← row_emb l]
  rw [View.canon_cons_emb, pay1_apply]
  refine congrArg (· + _) ?_
  rw [View.readCov_cons_toLoadRect, pay194_apply]
  refine congrArg (· + _) ?_
  rw [View.readCov_eq_canon', View.canon_unit_zero hz3]
  exact pay4_apply _
theorem rates_A_zero (hc0 : cond0_0 i) (r : Fin 8) (hr : r ≠ 0) (l : Fin 128) : out0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 (ix3 0 r l) = 0 := by
  rw [rates_A]
  rw [canon_row_ne _ _ r hr l, canon_row_ne _ _ r hr l, View.canon_unit_zero hz3]
  exact pay4_apply _
theorem rates_B_reads (hc0 : ¬cond0_0 i) (hN : ∀ q n, xs0 (ix2 q n) = ((k.dhn q n : ℝ) : EReal)) (α : ℝ) (l : Fin 128) (hO : xo12 (ix3 0 0 l) = (α : EReal)) : out0_B_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 xo12 xs0 (ix3 0 0 l) = ((α + k.da l : ℝ) : EReal) := by
  rw [rates_B]
  refine Eq.trans ?_ ((fits_B arg2 harg2 arg3 harg3 arg4 harg4 arg5 harg5 arg6 harg6 arg7 harg7 arg8 harg8 arg16 harg16 xs0 h hN).das _ α hO l)
  conv_lhs => rw [← row_emb l]
  rw [View.read_writes_cons_emb, pay1_apply]
  refine congrArg (· + _) ?_
  rw [View.readCov_cons_toLoadRect, pay194_apply]
  refine congrArg (· + _) ?_
  rw [View.readAt_eq_ld, harg14.read_unread]
  exact congrArg xo12 (row_emb l)
theorem rates_B_same (hc0 : ¬cond0_0 i) (r : Fin 8) (hr : r ≠ 0) (l : Fin 128) : out0_B_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 xo12 xs0 (ix3 0 r l) = xo12 (ix3 0 r l) := by
  rw [rates_B, View.read_writes_apply_of_forall_not_mem, harg14.read_unread]
  intro p hp
  rcases List.mem_cons.1 hp with rfl | hp
  · exact row_ne r hr l
  · rw [List.mem_singleton.1 hp]; exact row_ne r hr l
theorem final_B_reads (hc0 : ¬cond0_0 i) (hN : ∀ q n, xs0 (ix2 q n) = ((k.dhn q n : ℝ) : EReal)) (e : Fin 8) (p : Fin 64) (n : Fin 128) : out0_B_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 xo12 xs0 (ix3 0 (entry e p) n) = ((k.dh e p n : ℝ) : EReal) := by
  rw [final_B, pay2_apply, ← state_B c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 xs0 xo12 hc0]; exact state_B_reads c i arg2 harg2 arg3 harg3 arg4 harg4 arg5 harg5 arg6 harg6 arg7 harg7 arg8 harg8 arg9 harg9 arg10 harg10 arg11 harg11 arg12 harg12 arg13 harg13 arg14 harg14 arg15 harg15 arg16 harg16 x7 xs0 xo12 h hc0 hN e p n

end Cert.KernelIdeal.Scan

end
-- ==== Proof.ScanKernel.lean ====
/- The kernel's run: point by point over the grid, the arrays it leaves are the whole scan's real gradient. -/
module

public import proofs.«01_k».proof.Proof.PointRead
public import proofs.«01_k».proof.Proof.Whole
public import proofs.«01_k».proof.Proof.Gen.KernelIdeal.Value

@[expose] public section

set_option maxRecDepth 16384

noncomputable section

namespace Cert.KernelIdeal.Scan

open Cert.KernelIdeal Cert.KernelIdeal.Gen Cert.KernelIdeal.Value Cert.Scan
open Idealize.ShloMosaic Idealize.ShloMosaic.TcCoe Idealize.SL.Sem

variable (m : (ℓ : Loc nD τ sig) → Buf (Elt Ideal) ℓ) (ρ : Dev nD → PrngReg)

/-- The chunk and the group of a point: the chunks backwards. -/
def ck (t : Fin cfg0.N) : Fin 2 := ⟨1 - t.val % 2, by omega⟩
def gk (t : Fin cfg0.N) : Fin 4 := ⟨t.val / 2, by have h := lt_of_lt_of_eq t.isLt N_0; omega⟩

theorem idx_facts : ∀ t : Fin cfg0.N, (win0_0.index t (0 : Fin 2) = 1 - t.val % 2 ∧ win0_0.index t (1 : Fin 2) = t.val / 2)
    ∧ (win0_1.index t (0 : Fin 2) = 1 - t.val % 2 ∧ win0_1.index t (1 : Fin 2) = t.val / 2)
    ∧ (win0_2.index t (0 : Fin 2) = 1 - t.val % 2 ∧ win0_2.index t (1 : Fin 2) = 16 + t.val / 2)
    ∧ (win0_3.index t (0 : Fin 2) = 1 - t.val % 2 ∧ win0_3.index t (1 : Fin 2) = 20 + t.val / 2)
    ∧ (win0_4.index t (0 : Fin 3) = t.val / 2 ∧ win0_4.index t (1 : Fin 3) = 0 ∧ win0_4.index t (2 : Fin 3) = 0)
    ∧ (win0_5.index t (0 : Fin 4) = t.val / 2 ∧ win0_5.index t (1 : Fin 4) = 1 - t.val % 2 ∧ win0_5.index t (2 : Fin 4) = 0 ∧ win0_5.index t (3 : Fin 4) = 0)
    ∧ (win0_6.index t (0 : Fin 2) = 1 - t.val % 2 ∧ win0_6.index t (1 : Fin 2) = t.val / 2)
    ∧ (win0_7.index t (0 : Fin 3) = t.val / 2 ∧ win0_7.index t (1 : Fin 3) = 0 ∧ win0_7.index t (2 : Fin 3) = 0) :=
  (by decide +kernel : ∀ t : Fin grid0.N, _)
theorem idx_facts_out : ∀ t : Fin cfg0.N, (win0_8.index t (0 : Fin 2) = 1 - t.val % 2 ∧ win0_8.index t (1 : Fin 2) = t.val / 2)
    ∧ (win0_9.index t (0 : Fin 2) = 1 - t.val % 2 ∧ win0_9.index t (1 : Fin 2) = t.val / 2)
    ∧ (win0_10.index t (0 : Fin 2) = 1 - t.val % 2 ∧ win0_10.index t (1 : Fin 2) = t.val / 2)
    ∧ (win0_11.index t (0 : Fin 2) = 1 - t.val % 2 ∧ win0_11.index t (1 : Fin 2) = t.val / 2)
    ∧ (win0_12.index t (0 : Fin 3) = t.val / 2 ∧ win0_12.index t (1 : Fin 3) = 0 ∧ win0_12.index t (2 : Fin 3) = 0)
    ∧ (win0_13.index t (0 : Fin 3) = t.val / 2 ∧ win0_13.index t (1 : Fin 3) = 0 ∧ win0_13.index t (2 : Fin 3) = 0) :=
  (by decide +kernel : ∀ t : Fin grid0.N, _)

/-! Where a point's blocks lie. -/
section Places
variable (t : Fin cfg0.N)
theorem place0 (i : Fin 128) (q : Fin 512) : ((cfg0.win 0).blk t).view.emb (ix2 i q) = (ix2 (step (ck t) i) ⟨512 * (gk t).val + q.val, by omega⟩ : S256x3072.Idx) := by
  obtain ⟨⟨h0, h1⟩, -⟩ := idx_facts t
  funext a; fin_cases a <;> apply Fin.ext
  · show win0_0.index t (0 : Fin 2) * 128 + 1 * i.val = _; rw [h0]; show _ = 128 * (1 - t.val % 2) + i.val; omega
  · show win0_0.index t (1 : Fin 2) * 512 + 1 * q.val = _; rw [h1]; show _ = 512 * (t.val / 2) + q.val; omega
theorem place1 (i : Fin 128) (l : Fin 128) : ((cfg0.win 1).blk t).view.emb (ix2 i l) = (ix2 (step (ck t) i) (lanes (gk t) l) : S256x512.Idx) := by
  obtain ⟨-, ⟨h0, h1⟩, -⟩ := idx_facts t
  funext a; fin_cases a <;> apply Fin.ext
  · show win0_1.index t (0 : Fin 2) * 128 + 1 * i.val = _; rw [h0]; show _ = 128 * (1 - t.val % 2) + i.val; omega
  · show win0_1.index t (1 : Fin 2) * 128 + 1 * l.val = _; rw [h1]; show _ = 128 * (t.val / 2) + l.val; omega
theorem place2 (i : Fin 128) (n : Fin 128) : ((cfg0.win 2).blk t).view.emb (ix2 i n) = (ix2 (step (ck t) i) ⟨2048 + 128 * (gk t).val + n.val, by omega⟩ : S256x3072.Idx) := by
  obtain ⟨-, -, ⟨h0, h1⟩, -⟩ := idx_facts t
  funext a; fin_cases a <;> apply Fin.ext
  · show win0_2.index t (0 : Fin 2) * 128 + 1 * i.val = _; rw [h0]; show _ = 128 * (1 - t.val % 2) + i.val; omega
  · show win0_2.index t (1 : Fin 2) * 128 + 1 * n.val = _; rw [h1]; show _ = 2048 + 128 * (t.val / 2) + n.val; omega
theorem place3 (i : Fin 128) (n : Fin 128) : ((cfg0.win 3).blk t).view.emb (ix2 i n) = (ix2 (step (ck t) i) ⟨2560 + 128 * (gk t).val + n.val, by omega⟩ : S256x3072.Idx) := by
  obtain ⟨-, -, -, ⟨h0, h1⟩, -⟩ := idx_facts t
  funext a; fin_cases a <;> apply Fin.ext
  · show win0_3.index t (0 : Fin 2) * 128 + 1 * i.val = _; rw [h0]; show _ = 128 * (1 - t.val % 2) + i.val; omega
  · show win0_3.index t (1 : Fin 2) * 128 + 1 * n.val = _; rw [h1]; show _ = 2560 + 128 * (t.val / 2) + n.val; omega
theorem place4 (r : Fin 8) (l : Fin 128) : ((cfg0.win 4).blk t).view.emb (ix3 0 r l) = (ix3 (gk t) r l : S4x8x128.Idx) := by
  obtain ⟨-, -, -, -, ⟨h0, h1, h2⟩, -⟩ := idx_facts t
  funext a; fin_cases a <;> apply Fin.ext
  · show win0_4.index t (0 : Fin 3) * 1 + 1 * 0 = _; rw [h0]; show _ = t.val / 2; omega
  · show win0_4.index t (1 : Fin 3) * 8 + 1 * r.val = _; rw [h1]; show _ = r.val; omega
  · show win0_4.index t (2 : Fin 3) * 128 + 1 * l.val = _; rw [h2]; show _ = l.val; omega
theorem place5 (q : Fin 512) (n : Fin 128) : ((cfg0.win 5).blk t).view.emb (ix4 0 0 q n) = (ix4 (gk t) (ck t) q n : S4x2x512x128.Idx) := by
  obtain ⟨-, -, -, -, -, ⟨h0, h1, h2, h3⟩, -⟩ := idx_facts t
  funext a; fin_cases a <;> apply Fin.ext
  · show win0_5.index t (0 : Fin 4) * 1 + 1 * 0 = _; rw [h0]; show _ = t.val / 2; omega
  · show win0_5.index t (1 : Fin 4) * 1 + 1 * 0 = _; rw [h1]; show _ = 1 - t.val % 2; omega
  · show win0_5.index t (2 : Fin 4) * 512 + 1 * q.val = _; rw [h2]; show _ = q.val; omega
  · show win0_5.index t (3 : Fin 4) * 128 + 1 * n.val = _; rw [h3]; show _ = n.val; omega
theorem place6 (i : Fin 128) (q : Fin 512) : ((cfg0.win 6).blk t).view.emb (ix2 i q) = (ix2 (step (ck t) i) (input (gk t) q) : S256x2048.Idx) := by
  obtain ⟨-, -, -, -, -, -, ⟨h0, h1⟩, -⟩ := idx_facts t
  funext a; fin_cases a <;> apply Fin.ext
  · show win0_6.index t (0 : Fin 2) * 128 + 1 * i.val = _; rw [h0]; show _ = 128 * (1 - t.val % 2) + i.val; omega
  · show win0_6.index t (1 : Fin 2) * 512 + 1 * q.val = _; rw [h1]; show _ = 512 * (t.val / 2) + q.val; omega
theorem place8 (i : Fin 128) (q : Fin 512) : ((cfg0.win 8).blk t).view.emb (ix2 i q) = (ix2 (step (ck t) i) (input (gk t) q) : S256x2048.Idx) := by
  obtain ⟨⟨h0, h1⟩, -⟩ := idx_facts_out t
  funext a; fin_cases a <;> apply Fin.ext
  · show win0_8.index t (0 : Fin 2) * 128 + 1 * i.val = _; rw [h0]; show _ = 128 * (1 - t.val % 2) + i.val; omega
  · show win0_8.index t (1 : Fin 2) * 512 + 1 * q.val = _; rw [h1]; show _ = 512 * (t.val / 2) + q.val; omega
theorem place7 (q : Fin 512) (n : Fin 128) : ((cfg0.win 7).blk t).view.emb (ix3 0 q n) = (ix3 (gk t) q n : S4x512x128.Idx) := by
  obtain ⟨-, -, -, -, -, -, -, ⟨h0, h1, h2⟩⟩ := idx_facts t
  funext a; fin_cases a <;> apply Fin.ext
  · show win0_7.index t (0 : Fin 3) * 1 + 1 * 0 = _; rw [h0]; show _ = t.val / 2; omega
  · show win0_7.index t (1 : Fin 3) * 512 + 1 * q.val = _; rw [h1]; show _ = q.val; omega
  · show win0_7.index t (2 : Fin 3) * 128 + 1 * n.val = _; rw [h2]; show _ = n.val; omega
theorem place13 (q : Fin 512) (n : Fin 128) : ((cfg0.win 13).blk t).view.emb (ix3 0 q n) = (ix3 (gk t) q n : S4x512x128.Idx) := by
  obtain ⟨-, -, -, -, -, ⟨h0, h1, h2⟩⟩ := idx_facts_out t
  funext a; fin_cases a <;> apply Fin.ext
  · show win0_13.index t (0 : Fin 3) * 1 + 1 * 0 = _; rw [h0]; show _ = t.val / 2; omega
  · show win0_13.index t (1 : Fin 3) * 512 + 1 * q.val = _; rw [h1]; show _ = q.val; omega
  · show win0_13.index t (2 : Fin 3) * 128 + 1 * n.val = _; rw [h2]; show _ = n.val; omega
theorem place9 (i : Fin 128) (l : Fin 128) : ((cfg0.win 9).blk t).view.emb (ix2 i l) = (ix2 (step (ck t) i) (lanes (gk t) l) : S256x512.Idx) := by
  obtain ⟨-, ⟨h0, h1⟩, -⟩ := idx_facts_out t
  funext a; fin_cases a <;> apply Fin.ext
  · show win0_9.index t (0 : Fin 2) * 128 + 1 * i.val = _; rw [h0]; show _ = 128 * (1 - t.val % 2) + i.val; omega
  · show win0_9.index t (1 : Fin 2) * 128 + 1 * l.val = _; rw [h1]; show _ = 128 * (t.val / 2) + l.val; omega
theorem place10 (i : Fin 128) (l : Fin 128) : ((cfg0.win 10).blk t).view.emb (ix2 i l) = (ix2 (step (ck t) i) (lanes (gk t) l) : S256x512.Idx) := by
  obtain ⟨-, -, ⟨h0, h1⟩, -⟩ := idx_facts_out t
  funext a; fin_cases a <;> apply Fin.ext
  · show win0_10.index t (0 : Fin 2) * 128 + 1 * i.val = _; rw [h0]; show _ = 128 * (1 - t.val % 2) + i.val; omega
  · show win0_10.index t (1 : Fin 2) * 128 + 1 * l.val = _; rw [h1]; show _ = 128 * (t.val / 2) + l.val; omega
theorem place11 (i : Fin 128) (l : Fin 128) : ((cfg0.win 11).blk t).view.emb (ix2 i l) = (ix2 (step (ck t) i) (lanes (gk t) l) : S256x512.Idx) := by
  obtain ⟨-, -, -, ⟨h0, h1⟩, -⟩ := idx_facts_out t
  funext a; fin_cases a <;> apply Fin.ext
  · show win0_11.index t (0 : Fin 2) * 128 + 1 * i.val = _; rw [h0]; show _ = 128 * (1 - t.val % 2) + i.val; omega
  · show win0_11.index t (1 : Fin 2) * 128 + 1 * l.val = _; rw [h1]; show _ = 128 * (t.val / 2) + l.val; omega
theorem place12 (r : Fin 8) (l : Fin 128) : ((cfg0.win 12).blk t).view.emb (ix3 0 r l) = (ix3 (gk t) r l : S4x8x128.Idx) := by
  obtain ⟨-, -, -, -, ⟨h0, h1, h2⟩, -⟩ := idx_facts_out t
  funext a; fin_cases a <;> apply Fin.ext
  · show win0_12.index t (0 : Fin 3) * 1 + 1 * 0 = _; rw [h0]; show _ = t.val / 2; omega
  · show win0_12.index t (1 : Fin 3) * 8 + 1 * r.val = _; rw [h1]; show _ = r.val; omega
  · show win0_12.index t (2 : Fin 3) * 128 + 1 * l.val = _; rw [h2]; show _ = l.val; omega

end Places

variable (c : Dev nD) {G : Args}

/-- The arguments of the launch hold `G`, and the host has computed the states before each chunk. -/
structure Ready (G : Args) : Prop where
  args : Holds (m (c.tc.loc main_arg0)) (m (c.tc.loc main_arg1)) (m (c.tc.loc main_arg2)) (m (c.tc.loc main_arg3)) (m (c.tc.loc main_arg4)) (m (c.tc.loc main_arg5)) G
  ent : ∀ g k q n, V m c main_v53 (ix4 g k q n) = ((G.ent k g q n : ℝ) : EReal)

def prev (t : Fin cfg0.N) : Fin cfg0.N := ⟨t.val - 1, Nat.lt_of_le_of_lt (Nat.sub_le _ _) t.isLt⟩
theorem prev_even (t : Fin cfg0.N) (h0 : ¬t.val % 2 = 0) : (prev t).val % 2 = 0 := by show (t.val - 1) % 2 = 0; omega
theorem prev_group (t : Fin cfg0.N) (h0 : ¬t.val % 2 = 0) : gk (prev t) = gk t := Fin.ext (by show (t.val - 1) / 2 = t.val / 2; omega)

variable {m c} (H : Ready m c G)
include H

theorem read0 (t : Fin cfg0.N) (i : Fin 128) (q : Fin 512) : iblk m c 0 t (ix2 i q) = ((G.x (ck t) i (gk t) q : ℝ) : EReal) := by
  show V m c main_arg0 (((cfg0.win 0).blk t).view.emb (ix2 i q)) = _
  rw [V_main_arg0, place0]; exact H.args.xbc _ _
theorem read1 (t : Fin cfg0.N) (i l : Fin 128) : iblk m c 1 t (ix2 i l) = ((G.dtg (step (ck t) i) (lanes (gk t) l) : ℝ) : EReal) := by
  show V m c main_arg1 (((cfg0.win 1).blk t).view.emb (ix2 i l)) = _
  rw [V_main_arg1, place1]; exact H.args.dtg _ _
theorem read2 (t : Fin cfg0.N) (i n : Fin 128) : iblk m c 2 t (ix2 i n) = ((G.B (ck t) i (gk t) n : ℝ) : EReal) := by
  show V m c main_arg0 (((cfg0.win 2).blk t).view.emb (ix2 i n)) = _
  rw [V_main_arg0, place2]; exact H.args.xbc _ _
theorem read3 (t : Fin cfg0.N) (i n : Fin 128) : iblk m c 3 t (ix2 i n) = ((G.C (ck t) i (gk t) n : ℝ) : EReal) := by
  show V m c main_arg0 (((cfg0.win 3).blk t).view.emb (ix2 i n)) = _
  rw [V_main_arg0, place3]; exact H.args.xbc _ _
theorem read4 (t : Fin cfg0.N) (l : Fin 128) : iblk m c 4 t (ix3 0 0 l) = ((G.a (gk t) 0 l : ℝ) : EReal) := by
  show V m c main_arg2 (((cfg0.win 4).blk t).view.emb (ix3 0 0 l)) = _
  rw [V_main_arg2, place4]; exact H.args.a _ _ _
theorem read5 (t : Fin cfg0.N) (q : Fin 512) (n : Fin 128) : iblk m c 5 t (ix4 0 0 q n) = ((G.ent (ck t) (gk t) q n : ℝ) : EReal) := by
  show V m c main_v53 (((cfg0.win 5).blk t).view.emb (ix4 0 0 q n)) = _
  rw [place5]; exact H.ent _ _ _ _
theorem read6 (t : Fin cfg0.N) (i : Fin 128) (q : Fin 512) : iblk m c 6 t (ix2 i q) = ((G.dy (step (ck t) i) (input (gk t) q) : ℝ) : EReal) := by
  show V m c main_arg4 (((cfg0.win 6).blk t).view.emb (ix2 i q)) = _
  rw [V_main_arg4, place6]; exact H.args.dy _ _
theorem blocks (t : Fin cfg0.N) : BFits (iblk m c 0 t) (iblk m c 1 t) (iblk m c 2 t) (iblk m c 3 t) (iblk m c 4 t) (iblk m c 5 t) (iblk m c 6 t) (G.chunk (ck t) (gk t)) := by
  obtain ⟨d, e⟩ := G.chunk_eq (ck t) (gk t)
  rw [e]
  exact ⟨read0 H t, read1 H t, read2 H t, read3 H t, read4 H t, read5 H t, read6 H t⟩

omit H in
theorem ck_even (t : Fin cfg0.N) (h0 : t.val % 2 = 0) : G.chunk (ck t) (gk t) = G.last (gk t) := by
  rw [show ck t = 1 from Fin.ext (by show 1 - t.val % 2 = 1; omega)]; rfl
omit H in
theorem ck_odd (t : Fin cfg0.N) (h0 : ¬t.val % 2 = 0) : G.chunk (ck t) (gk t) = G.first (gk t) := by
  rw [show ck t = 0 from Fin.ext (by show 1 - t.val % 2 = 0; omega)]; rfl

/-- The state's gradient at a group's first point is the argument's, at its second what the first left. -/
theorem before_A (t : Fin cfg0.N) (h0 : t.val % 2 = 0) (q : Fin 512) (n : Fin 128) : iblk m c 7 t (ix3 0 q n) = (((G.chunk (ck t) (gk t)).dhn q n : ℝ) : EReal) := by
  show V m c main_arg5 (((cfg0.win 7).blk t).view.emb (ix3 0 q n)) = _
  rw [V_main_arg5, place7, ck_even t h0]; exact H.args.dfin _ _ _
theorem left_A (t : Fin cfg0.N) (h0 : t.val % 2 = 0) (q : Fin 512) (n : Fin 128) : (outsAt0 m c t.val t.isLt).2.2.2.2.2.2 (ix2 q n) = (((G.last (gk t)).dh (headOf q) (posOf q) n : ℝ) : EReal) := by
  rw [outsAt0_A m c t h0, ← ck_even t h0]; dsimp only
  conv_lhs => rw [← entry_parts q]
  exact state_A_reads _ _ _ _ _ _ _ _ _ _ _ _ _ _ _ _ _ _ _ _ _ _ _ _ _ _ _ _ _ _ _ _ _ (blocks H t) _ (before_A H t h0) _ _ _
theorem before_B (t : Fin cfg0.N) (h0 : ¬t.val % 2 = 0) (q : Fin 512) (n : Fin 128) :
    (outsAt0 m c (t.val - 1) (Nat.lt_of_le_of_lt (Nat.sub_le _ _) t.isLt)).2.2.2.2.2.2 (ix2 q n) = (((G.chunk (ck t) (gk t)).dhn q n : ℝ) : EReal) := by
  rw [ck_odd t h0, ← prev_group t h0]; exact left_A H (prev t) (prev_even t h0) q n

theorem inputs_at (t : Fin cfg0.N) (i : Fin 128) (q : Fin 512) : (outsAt0 m c t.val t.isLt).1 (ix2 i q) = (((G.chunk (ck t) (gk t)).dx (headOf q) i (posOf q) : ℝ) : EReal) := by
  by_cases h0 : t.val % 2 = 0
  · rw [outsAt0_A m c t h0]; dsimp only
    conv_lhs => rw [← entry_parts q]
    exact inputs_A_reads _ _ _ _ _ _ _ _ _ _ _ _ _ _ _ _ _ _ _ _ _ _ _ _ _ _ _ _ _ _ _ _ _ (blocks H t) _ (before_A H t h0) _ _ _
  · rw [outsAt0_B m c t h0]; dsimp only
    conv_lhs => rw [← entry_parts q]
    exact inputs_B_reads _ _ _ _ _ _ _ _ _ _ _ _ _ _ _ _ _ _ _ _ _ _ _ _ _ _ _ _ _ _ _ _ _ _ _ (blocks H t) _ (before_B H t h0) _ _ _

theorem ddts_at (t : Fin cfg0.N) (i : Fin 128) (l : Fin 128) : (outsAt0 m c t.val t.isLt).2.1 (ix2 i l) = (((G.chunk (ck t) (gk t)).ddt i l : ℝ) : EReal) := by
  by_cases h0 : t.val % 2 = 0
  · rw [outsAt0_A m c t h0]; dsimp only
    exact ddts_A_reads _ _ _ _ _ _ _ _ _ _ _ _ _ _ _ _ _ _ _ _ _ _ _ _ _ _ _ _ _ _ _ _ _ (blocks H t) _ (before_A H t h0) _ _
  · rw [outsAt0_B m c t h0]; dsimp only
    exact ddts_B_reads _ _ _ _ _ _ _ _ _ _ _ _ _ _ _ _ _ _ _ _ _ _ _ _ _ _ _ _ _ _ _ _ _ _ _ (blocks H t) _ (before_B H t h0) _ _

theorem dbs_at (t : Fin cfg0.N) (i : Fin 128) (l : Fin 128) : (outsAt0 m c t.val t.isLt).2.2.1 (ix2 i l) = (((G.chunk (ck t) (gk t)).dB i l : ℝ) : EReal) := by
  by_cases h0 : t.val % 2 = 0
  · rw [outsAt0_A m c t h0]; dsimp only
    exact dbs_A_reads _ _ _ _ _ _ _ _ _ _ _ _ _ _ _ _ _ _ _ _ _ _ _ _ _ _ _ _ _ _ _ _ _ (blocks H t) _ (before_A H t h0) _ _
  · rw [outsAt0_B m c t h0]; dsimp only
    exact dbs_B_reads _ _ _ _ _ _ _ _ _ _ _ _ _ _ _ _ _ _ _ _ _ _ _ _ _ _ _ _ _ _ _ _ _ _ _ (blocks H t) _ (before_B H t h0) _ _

theorem dcs_at (t : Fin cfg0.N) (i : Fin 128) (l : Fin 128) : (outsAt0 m c t.val t.isLt).2.2.2.1 (ix2 i l) = (((G.chunk (ck t) (gk t)).dC i l : ℝ) : EReal) := by
  by_cases h0 : t.val % 2 = 0
  · rw [outsAt0_A m c t h0]; dsimp only
    exact dcs_A_reads _ _ _ _ _ _ _ _ _ _ _ _ _ _ _ _ _ _ _ _ _ _ _ _ _ _ _ _ _ _ _ _ _ (blocks H t) _ (before_A H t h0) _ _
  · rw [outsAt0_B m c t h0]; dsimp only
    exact dcs_B_reads _ _ _ _ _ _ _ _ _ _ _ _ _ _ _ _ _ _ _ _ _ _ _ _ _ _ _ _ _ _ _ _ _ _ _ (blocks H t) _ (before_B H t h0) _ _

theorem rates_first (t : Fin cfg0.N) (h0 : t.val % 2 = 0) (l : Fin 128) : (outsAt0 m c t.val t.isLt).2.2.2.2.1 (ix3 0 0 l) = ((0 + (G.last (gk t)).da l : ℝ) : EReal) := by
  rw [outsAt0_A m c t h0, ← ck_even t h0]; dsimp only
  exact rates_A_reads _ _ _ _ _ _ _ _ _ _ _ _ _ _ _ _ _ _ _ _ _ _ _ _ _ _ _ _ _ _ _ _ _ (blocks H t) _ (before_A H t h0) l
theorem rates_at (t : Fin cfg0.N) (h0 : ¬t.val % 2 = 0) (r : Fin 8) (l : Fin 128) : (outsAt0 m c t.val t.isLt).2.2.2.2.1 (ix3 0 r l) = ((G.da (gk t) r l : ℝ) : EReal) := by
  rw [outsAt0_B m c t h0]; dsimp only
  by_cases hr : r = 0
  · subst hr
    refine (rates_B_reads _ _ _ _ _ _ _ _ _ _ _ _ _ _ _ _ _ _ _ _ _ _ _ _ _ _ _ _ _ _ _ _ _ _ _ (blocks H t) _ (before_B H t h0) _ l (rates_first H (prev t) (prev_even t h0) l)).trans ?_
    rw [prev_group t h0, ck_odd t h0]; rfl
  · refine (rates_B_same _ _ _ _ _ _ _ _ _ _ _ _ _ _ _ _ _ _ _ _ _ _ _ _ _ _ _ _ _ _ _ _ _ _ _ (blocks H t) _ r hr l).trans ?_
    have e := outsAt0_A m c (prev t) (prev_even t h0)
    show (outsAt0 m c (prev t).val (prev t).isLt).2.2.2.2.1 (ix3 0 r l) = _
    rw [e]; dsimp only
    refine (rates_A_zero _ _ _ _ _ _ _ _ _ _ _ _ _ _ _ _ _ _ _ _ _ _ _ _ _ _ _ _ _ _ _ _ _ (blocks H (prev t)) _ r hr l).trans ?_
    unfold Args.da; rw [if_neg hr]; rfl
theorem final_at (t : Fin cfg0.N) (h0 : ¬t.val % 2 = 0) (q : Fin 512) (n : Fin 128) : (outsAt0 m c t.val t.isLt).2.2.2.2.2.1 (ix3 0 q n) = ((G.dh0 (gk t) q n : ℝ) : EReal) := by
  rw [outsAt0_B m c t h0]; dsimp only
  conv_lhs => rw [← entry_parts q]
  refine (final_B_reads _ _ _ _ _ _ _ _ _ _ _ _ _ _ _ _ _ _ _ _ _ _ _ _ _ _ _ _ _ _ _ _ _ _ _ (blocks H t) _ (before_B H t h0) _ _ _).trans ?_
  rw [ck_odd t h0]; rfl

/-! The arrays after the run. -/
theorem flushed8_eq (t : Fin cfg0.N) (_hf : (cfg0.win 8).flush t = true) : (dats m 0 c).flushed 8 t = ((cfg0.win 8).blk t).view.read (Elt Ideal) (out2 G.dx) := by
  rw [flushed8]
  funext y
  obtain ⟨r, s, rfl⟩ : ∃ (r : Fin 128) (s : Fin 512), y = ix2 r s := ⟨_, _, eq_ix2 y⟩
  refine (inputs_at H t r s).trans ?_
  show _ = out2 G.dx (((cfg0.win 8).blk t).view.emb (ix2 r s))
  rw [place8]
  show _ = ((G.dx (step (ck t) r) (input (gk t) s) : ℝ) : EReal)
  unfold Args.dx
  rw [chunkOf_step, stepOf_step, groupOf_input, entryOf_input]
theorem final8 : (dats m 0 c).arrAt 8 cfg0.N = out2 G.dx :=
  (dats m 0 c).arrAt_eq_of_cover 8 _ (flushed8_eq H) fun i => by
    have h0 : (i 0).val < 256 := (i 0).isLt
    have h1 : (i 1).val < 2048 := (i 1).isLt
    obtain ⟨t, ht⟩ : ∃ t : Fin cfg0.N, t.val = 2 * ((i 1).val / 512) + (1 - (i 0).val / 128) := ⟨⟨2 * ((i 1).val / 512) + (1 - (i 0).val / 128), lt_of_lt_of_eq (by omega) N_0.symm⟩, rfl⟩
    refine ⟨t, flush0_8 t, ?_⟩
    have e : i = ((cfg0.win 8).blk t).view.emb (ix2 ⟨(i 0).val % 128, by omega⟩ ⟨(i 1).val % 512, by omega⟩) := by
      rw [place8]; funext a; fin_cases a <;> apply Fin.ext
      · show (i 0).val = 128 * (1 - t.val % 2) + (i 0).val % 128; omega
      · show (i 1).val = 512 * (t.val / 2) + (i 1).val % 512; omega
    rw [e]; exact View.emb_mem_set _ _
theorem flushed9_eq (t : Fin cfg0.N) (_hf : (cfg0.win 9).flush t = true) : (dats m 0 c).flushed 9 t = ((cfg0.win 9).blk t).view.read (Elt Ideal) (out2 G.ddt) := by
  rw [flushed9]
  funext y
  obtain ⟨r, s, rfl⟩ : ∃ (r : Fin 128) (s : Fin 128), y = ix2 r s := ⟨_, _, eq_ix2 y⟩
  refine (ddts_at H t r s).trans ?_
  show _ = out2 G.ddt (((cfg0.win 9).blk t).view.emb (ix2 r s))
  rw [place9]
  show _ = ((G.ddt (step (ck t) r) (lanes (gk t) s) : ℝ) : EReal)
  unfold Args.ddt
  rw [chunkOf_step, stepOf_step, laneGroup_lanes, laneOf_lanes]
theorem final9 : (dats m 0 c).arrAt 9 cfg0.N = out2 G.ddt :=
  (dats m 0 c).arrAt_eq_of_cover 9 _ (flushed9_eq H) fun i => by
    have h0 : (i 0).val < 256 := (i 0).isLt
    have h1 : (i 1).val < 512 := (i 1).isLt
    obtain ⟨t, ht⟩ : ∃ t : Fin cfg0.N, t.val = 2 * ((i 1).val / 128) + (1 - (i 0).val / 128) := ⟨⟨2 * ((i 1).val / 128) + (1 - (i 0).val / 128), lt_of_lt_of_eq (by omega) N_0.symm⟩, rfl⟩
    refine ⟨t, flush0_9 t, ?_⟩
    have e : i = ((cfg0.win 9).blk t).view.emb (ix2 ⟨(i 0).val % 128, by omega⟩ ⟨(i 1).val % 128, by omega⟩) := by
      rw [place9]; funext a; fin_cases a <;> apply Fin.ext
      · show (i 0).val = 128 * (1 - t.val % 2) + (i 0).val % 128; omega
      · show (i 1).val = 128 * (t.val / 2) + (i 1).val % 128; omega
    rw [e]; exact View.emb_mem_set _ _
theorem flushed10_eq (t : Fin cfg0.N) (_hf : (cfg0.win 10).flush t = true) : (dats m 0 c).flushed 10 t = ((cfg0.win 10).blk t).view.read (Elt Ideal) (out2 G.dB) := by
  rw [flushed10]
  funext y
  obtain ⟨r, s, rfl⟩ : ∃ (r : Fin 128) (s : Fin 128), y = ix2 r s := ⟨_, _, eq_ix2 y⟩
  refine (dbs_at H t r s).trans ?_
  show _ = out2 G.dB (((cfg0.win 10).blk t).view.emb (ix2 r s))
  rw [place10]
  show _ = ((G.dB (step (ck t) r) (lanes (gk t) s) : ℝ) : EReal)
  unfold Args.dB
  rw [chunkOf_step, stepOf_step, laneGroup_lanes, laneOf_lanes]
theorem final10 : (dats m 0 c).arrAt 10 cfg0.N = out2 G.dB :=
  (dats m 0 c).arrAt_eq_of_cover 10 _ (flushed10_eq H) fun i => by
    have h0 : (i 0).val < 256 := (i 0).isLt
    have h1 : (i 1).val < 512 := (i 1).isLt
    obtain ⟨t, ht⟩ : ∃ t : Fin cfg0.N, t.val = 2 * ((i 1).val / 128) + (1 - (i 0).val / 128) := ⟨⟨2 * ((i 1).val / 128) + (1 - (i 0).val / 128), lt_of_lt_of_eq (by omega) N_0.symm⟩, rfl⟩
    refine ⟨t, flush0_10 t, ?_⟩
    have e : i = ((cfg0.win 10).blk t).view.emb (ix2 ⟨(i 0).val % 128, by omega⟩ ⟨(i 1).val % 128, by omega⟩) := by
      rw [place10]; funext a; fin_cases a <;> apply Fin.ext
      · show (i 0).val = 128 * (1 - t.val % 2) + (i 0).val % 128; omega
      · show (i 1).val = 128 * (t.val / 2) + (i 1).val % 128; omega
    rw [e]; exact View.emb_mem_set _ _
theorem flushed11_eq (t : Fin cfg0.N) (_hf : (cfg0.win 11).flush t = true) : (dats m 0 c).flushed 11 t = ((cfg0.win 11).blk t).view.read (Elt Ideal) (out2 G.dC) := by
  rw [flushed11]
  funext y
  obtain ⟨r, s, rfl⟩ : ∃ (r : Fin 128) (s : Fin 128), y = ix2 r s := ⟨_, _, eq_ix2 y⟩
  refine (dcs_at H t r s).trans ?_
  show _ = out2 G.dC (((cfg0.win 11).blk t).view.emb (ix2 r s))
  rw [place11]
  show _ = ((G.dC (step (ck t) r) (lanes (gk t) s) : ℝ) : EReal)
  unfold Args.dC
  rw [chunkOf_step, stepOf_step, laneGroup_lanes, laneOf_lanes]
theorem final11 : (dats m 0 c).arrAt 11 cfg0.N = out2 G.dC :=
  (dats m 0 c).arrAt_eq_of_cover 11 _ (flushed11_eq H) fun i => by
    have h0 : (i 0).val < 256 := (i 0).isLt
    have h1 : (i 1).val < 512 := (i 1).isLt
    obtain ⟨t, ht⟩ : ∃ t : Fin cfg0.N, t.val = 2 * ((i 1).val / 128) + (1 - (i 0).val / 128) := ⟨⟨2 * ((i 1).val / 128) + (1 - (i 0).val / 128), lt_of_lt_of_eq (by omega) N_0.symm⟩, rfl⟩
    refine ⟨t, flush0_11 t, ?_⟩
    have e : i = ((cfg0.win 11).blk t).view.emb (ix2 ⟨(i 0).val % 128, by omega⟩ ⟨(i 1).val % 128, by omega⟩) := by
      rw [place11]; funext a; fin_cases a <;> apply Fin.ext
      · show (i 0).val = 128 * (1 - t.val % 2) + (i 0).val % 128; omega
      · show (i 1).val = 128 * (t.val / 2) + (i 1).val % 128; omega
    rw [e]; exact View.emb_mem_set _ _
theorem flushed12_eq (t : Fin cfg0.N) (hf : (cfg0.win 12).flush t = true) : (dats m 0 c).flushed 12 t = ((cfg0.win 12).blk t).view.read (Elt Ideal) (out3 G.da) := by
  have h0 : ¬t.val % 2 = 0 := by have := (flush0_12 t).mp hf; omega
  rw [flushed12]
  funext y
  obtain ⟨o, r, s, rfl⟩ : ∃ (o : Fin 1) (r : Fin 8) (s : Fin 128), y = ix3 o r s := ⟨_, _, _, eq_ix3 y⟩
  obtain rfl : o = 0 := Subsingleton.elim _ _
  refine (rates_at H t h0 r s).trans ?_
  show _ = out3 G.da (((cfg0.win 12).blk t).view.emb (ix3 0 r s))
  rw [place12]; rfl
theorem final12 : (dats m 0 c).arrAt 12 cfg0.N = out3 G.da :=
  (dats m 0 c).arrAt_eq_of_cover 12 _ (flushed12_eq H) fun i => by
    have h0 : (i 0).val < 4 := (i 0).isLt
    obtain ⟨t, ht⟩ : ∃ t : Fin cfg0.N, t.val = 2 * (i 0).val + 1 := ⟨⟨2 * (i 0).val + 1, lt_of_lt_of_eq (by omega) N_0.symm⟩, rfl⟩
    refine ⟨t, (flush0_12 t).mpr (by omega), ?_⟩
    have e : i = ((cfg0.win 12).blk t).view.emb (ix3 0 (show Fin 8 from i 1) (show Fin 128 from i 2)) := by
      rw [place12]; funext a; fin_cases a
      · exact Fin.ext (show (i 0).val = t.val / 2 by omega)
      · rfl
      · rfl
    rw [e]; exact View.emb_mem_set _ _
theorem flushed13_eq (t : Fin cfg0.N) (hf : (cfg0.win 13).flush t = true) : (dats m 0 c).flushed 13 t = ((cfg0.win 13).blk t).view.read (Elt Ideal) (out3 G.dh0) := by
  have h0 : ¬t.val % 2 = 0 := by have := (flush0_13 t).mp hf; omega
  rw [flushed13]
  funext y
  obtain ⟨o, r, s, rfl⟩ : ∃ (o : Fin 1) (r : Fin 512) (s : Fin 128), y = ix3 o r s := ⟨_, _, _, eq_ix3 y⟩
  obtain rfl : o = 0 := Subsingleton.elim _ _
  refine (final_at H t h0 r s).trans ?_
  show _ = out3 G.dh0 (((cfg0.win 13).blk t).view.emb (ix3 0 r s))
  rw [place13]; rfl
theorem final13 : (dats m 0 c).arrAt 13 cfg0.N = out3 G.dh0 :=
  (dats m 0 c).arrAt_eq_of_cover 13 _ (flushed13_eq H) fun i => by
    have h0 : (i 0).val < 4 := (i 0).isLt
    obtain ⟨t, ht⟩ : ∃ t : Fin cfg0.N, t.val = 2 * (i 0).val + 1 := ⟨⟨2 * (i 0).val + 1, lt_of_lt_of_eq (by omega) N_0.symm⟩, rfl⟩
    refine ⟨t, (flush0_13 t).mpr (by omega), ?_⟩
    have e : i = ((cfg0.win 13).blk t).view.emb (ix3 0 (show Fin 512 from i 1) (show Fin 128 from i 2)) := by
      rw [place13]; funext a; fin_cases a
      · exact Fin.ext (show (i 0).val = t.val / 2 by omega)
      · rfl
      · rfl
    rw [e]; exact View.emb_mem_set _ _

end Cert.KernelIdeal.Scan

end
-- ==== Proof.HostEnt.lean ====
/- The states entering each chunk, as the kernel's program computes them on the host, are the reference's. -/
module

public import proofs.«01_k».proof.Proof.ScanKernel
public import proofs.«01_k».proof.Proof.Gen.ReferenceIdeal.Read

@[expose] public section

set_option maxRecDepth 16384

noncomputable section

namespace Cert.KernelIdeal.Scan

open Cert.KernelIdeal Cert.KernelIdeal.Gen
open Idealize.ShloMosaic Idealize.ShloMosaic.TcCoe Idealize.ShloMosaic.StableHlo Idealize.SL.Sem

set_option maxHeartbeats 4000000 in
theorem V_ent (m : (ℓ : Loc nD τ sig) → Buf (Elt Ideal) ℓ) (c : Dev nD) : V m c main_v53
    = shapeCast _ (transpose S4x2x8x64x128 [1, 0, 2, 3, 4] (Cert.ReferenceIdeal.Read.val_main_v53 (F := Ideal) (m (c.tc.loc main_arg0)) (m (c.tc.loc main_arg1)) (m (c.tc.loc main_arg2)) (m (c.tc.loc main_arg3))) transposes_S2x4x8x64x128_S4x2x8x64x128_1_0_2_3_4) shapeCasts_S4x2x8x64x128_S4x2x512x128 := by
  unfold V
  simp only [hostOps0, hostOps0_1, hostOps0_2, List.flatten_cons, List.flatten_nil, List.append_nil, List.cons_append, List.nil_append, TRef.binary, TRef.nullary, TRef.unary, TRef.toBuf, TRef.ofBuf, cast_eq]
  after_results_simp
  rfl

end Cert.KernelIdeal.Scan

end
-- ==== Proof.Finite.lean ====
/- The precondition, read: at finite arguments every array is a real one. -/
module

public import proofs.«01_k».proof.Pre_finite
public import proofs.«01_k».proof.Proof.Whole
public import Idealize.ShloMosaic.Lib.Pointwise
public import Idealize.ShloMosaic.Lib.ReduceAll

@[expose] public section

noncomputable section

namespace Cert.Pre_finite

open Idealize.ShloMosaic Cert.Scan

theorem facts : Cert.Pre_finite.Facts := by
  constructor <;> decide

/-- A number whose absolute value is below infinity is real. -/
theorem real_of_less (v : EReal) (h : BitVec.ofBool (decide (max v (-v) < ⊤)) = 1#1) : v = ((v.toReal : ℝ) : EReal) := by
  have h1 : max v (-v) < ⊤ := by
    by_contra hn
    rw [decide_eq_false hn] at h
    exact absurd h (by decide)
  refine (EReal.coe_toReal (fun e => ?_) fun e => ?_).symm
  · rw [e] at h1; exact absurd h1 (by simp)
  · rw [e] at h1; exact absurd h1 (by simp)

theorem infinity : Ideal.ofBits .f32 0x7F800000#32 = ⊤ := by
  simp [Ideal.ofBits, Ideal.ieee]

theorem real_all {s : Shape} {axes : List (Fin s.rank)} (x : FVec Ideal s .f32) (hb : S_.BroadcastsInDim s (![] : Fin 0 → Fin s.rank)) (h : s.ReducesTo axes S_) (hu : 0 < S_.numel) (j : S_.Idx)
    (e : Host.reduce IntOp.andi (cmpf .olt (Host.absf x) (broadcastInDim s ![] hb (constant S_ .f32 0x7F800000#32))) (constantI S_ 1 1#1) h hu j = 1#1) (i : s.Idx) : x i = (((x i).toReal : ℝ) : EReal) := by
  haveI : Subsingleton S_.Idx := ⟨fun a b => funext fun i => i.elim0⟩
  have h1 := Host.reduce_andi_all _ _ h hu j e i
  change BitVec.ofBool (decide (max (x i) (-(x i)) < Ideal.ofBits .f32 0x7F800000#32)) = 1#1 at h1
  rw [infinity] at h1
  exact real_of_less (x i) h1

section
attribute [local instance] facts
open Facts

theorem holds (x0 : FVec Ideal S256x3072 .bf16) (x1 : FVec Ideal S256x512 .f32) (x2 : FVec Ideal S4x8x128 .f32) (x3 : FVec Ideal S4x512x128 .f32) (x4 : FVec Ideal S256x2048 .f32) (x5 : FVec Ideal S4x512x128 .f32)
    (h : fn (F := Ideal) x0 x1 x2 x3 x4 x5 = fun _ => 1#1) : ∃ G, Holds x0 x1 x2 x3 x4 x5 G := by
  have h' := congrFun h (Shape.Idx.first h_S_)
  unfold fn fn_part1 at h'
  dsimp only at h'
  simp only [andi_apply, IntOp.andi_eq_one] at h'
  obtain ⟨⟨⟨⟨⟨e0, e1⟩, e2⟩, e3⟩, e4⟩, e5⟩ := h'
  exact ⟨⟨fun i j => (x0 (ix2 i j)).toReal, fun i j => (x1 (ix2 i j)).toReal, fun i j k => (x2 (ix3 i j k)).toReal, fun i j k => (x3 (ix3 i j k)).toReal, fun i j => (x4 (ix2 i j)).toReal, fun i j k => (x5 (ix3 i j k)).toReal⟩,
    fun _ _ => real_all _ _ _ _ _ e0 _, fun _ _ => real_all _ _ _ _ _ e1 _, fun _ _ _ => real_all _ _ _ _ _ e2 _, fun _ _ _ => real_all _ _ _ _ _ e3 _, fun _ _ => real_all _ _ _ _ _ e4 _, fun _ _ _ => real_all _ _ _ _ _ e5 _⟩

end

end Cert.Pre_finite

end
-- ==== Proof.EqualKernel.lean ====
/- The gradient of the scan: the reference's six arrays are the kernel's, and with it the claims about the pair. -/
module

public import proofs.«01_k».proof.Defs
public import proofs.«01_k».proof.Proof.RefReal
public import proofs.«01_k».proof.Proof.HostEnt
public import proofs.«01_k».proof.Proof.Finite
public import proofs.«01_k».proof.Proof.Gen.ReferenceIdeal.Run

@[expose] public section

set_option maxRecDepth 16384

noncomputable section

namespace Cert.KernelIdeal.Scan

open Cert.KernelIdeal Cert.KernelIdeal.Gen Cert.Scan
open Idealize.ShloMosaic Idealize.ShloMosaic.TcCoe Idealize.SL.Sem

variable {m : (ℓ : Loc nD τ sig) → Buf (Elt Ideal) ℓ} {c : Dev nD} {G : Args}

/-- The states entering each chunk, read off the argument arrays. -/
theorem ready (H : Holds (m (c.tc.loc main_arg0)) (m (c.tc.loc main_arg1)) (m (c.tc.loc main_arg2)) (m (c.tc.loc main_arg3)) (m (c.tc.loc main_arg4)) (m (c.tc.loc main_arg5)) G) : Ready m c G :=
  ⟨H, fun g k q n => by
    rw [V_ent m c]
    generalize hv : Cert.ReferenceIdeal.Read.val_main_v53 (F := Ideal) (m (c.tc.loc main_arg0)) (m (c.tc.loc main_arg1)) (m (c.tc.loc main_arg2)) (m (c.tc.loc main_arg3)) = v
    pointwise
    subst hv
    refine (Cert.ReferenceIdeal.Scan.v53_reads H k g (headOf q) (posOf q) n).trans ?_
    rw [G.bl_ent, entry_parts]⟩

end Cert.KernelIdeal.Scan

namespace Cert.ReferenceIdeal.Scan

open Cert.ReferenceIdeal Cert.ReferenceIdeal.Gen Cert.ReferenceIdeal.Read Cert.Scan
open Idealize.ShloMosaic Idealize.ShloMosaic.TcCoe Idealize.SL.Sem

theorem eq_out2 {a b : Nat} (x : (⟨2, ![a, b]⟩ : Shape).Idx → EReal) (f : Fin a → Fin b → ℝ) (h : ∀ r s, x (ix2 r s) = ((f r s : ℝ) : EReal)) : x = out2 f :=
  funext fun i => by rw [show i = ix2 (i 0) (i 1) from eq_ix2 i]; exact h _ _
theorem eq_out3 {a b d : Nat} (x : (⟨3, ![a, b, d]⟩ : Shape).Idx → EReal) (f : Fin a → Fin b → Fin d → ℝ) (h : ∀ r s t, x (ix3 r s t) = ((f r s t : ℝ) : EReal)) : x = out3 f :=
  funext fun i => by rw [show i = ix3 (i 0) (i 1) (i 2) from eq_ix3 i]; exact h _ _ _

/-- The reference's run keeps its arguments and ends with every counter at zero. -/
theorem frame : @Cert.quiescent_ReferenceIdeal Cert.ReferenceIdeal.Gen.facts := fun m ρ _ =>
  (θ_run _ _ _).mono (fun r h => ⟨fun c => (h c).2.2.2.2.2.2, sem_eq_zero_of_no_sems (by decide) r.2⟩) (Cert.ReferenceIdeal.Value.run m ρ)

/-- Kernel and reference end with equal arrays. -/
theorem algebraic : @Cert.algebraic_KernelIdeal_ReferenceIdeal_pre_finite Cert.KernelIdeal.Gen.facts Cert.ReferenceIdeal.Gen.facts Cert.Pre_finite.facts := fun m ρ m' ρ' hp hag => by
  have hG := fun c => Cert.Pre_finite.holds _ _ _ _ _ _ (hp c)
  choose G H using hG
  have K := fun c => Cert.KernelIdeal.Scan.ready (H c)
  refine ⟨fun c => out2 (G c).dx, fun c => out2 (G c).ddt, fun c => out2 (G c).dB, fun c => out2 (G c).dC, fun c => out3 (G c).da, fun c => out3 (G c).dh0, ?_, ?_⟩
  · exact (θ_run _ _ _).mono (fun _ h c => ⟨(h c).1.trans (Cert.KernelIdeal.Scan.final8 (K c)), (h c).2.1.trans (Cert.KernelIdeal.Scan.final9 (K c)), (h c).2.2.1.trans (Cert.KernelIdeal.Scan.final10 (K c)), (h c).2.2.2.1.trans (Cert.KernelIdeal.Scan.final11 (K c)), (h c).2.2.2.2.1.trans (Cert.KernelIdeal.Scan.final12 (K c)), (h c).2.2.2.2.2.1.trans (Cert.KernelIdeal.Scan.final13 (K c)), (h c).2.2.2.2.2.2⟩)
      (Cert.KernelIdeal.Value.run_blocks m ρ)
  · refine (θ_run _ _ _).mono (fun _ h c => ?_) (Cert.ReferenceIdeal.Value.run m' ρ')
    have H' : Holds (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4)) (m' ((c.tc : Thread nD τ).loc main_arg5)) (G c) := by
      obtain ⟨a0, a1, a2, a3, a4, a5⟩ := hag c
      rw [a0, a1, a2, a3, a4, a5]; exact H c
    obtain ⟨r0, r1, r2, r3, r4, r5, rest⟩ := h c
    exact ⟨(r0.trans (val_main_v197_eq _)).trans (eq_out2 _ _ (v197_reads H')), (r1.trans (val_main_v198_eq _)).trans (eq_out2 _ _ (v198_reads H')), (r2.trans (val_main_v199_eq _)).trans (eq_out2 _ _ (v199_reads H')), (r3.trans (val_main_v200_eq _)).trans (eq_out2 _ _ (v200_reads H')), (r4.trans (val_main_v195_eq _)).trans (eq_out3 _ _ (v195_reads H')), (r5.trans (val_main_v201_eq _)).trans (eq_out3 _ _ (v201_reads H')), rest⟩

/-- The mask is named, and its value is the ideal one. -/
theorem preserves : Cert.preserves_Kernel_KernelIdeal :=
  IdealRules.named_const.statement _ _ _ _ _ rfl

end Cert.ReferenceIdeal.Scan

end
-- ==== Proof.Contract.lean ====
/- Matrix products read at one entry, over the extended reals: the kernel's products onto an accumulator and the
   host's products, for the three layouts of a dense layer (rows by columns, transposed right factor, transposed left
   factor), and a sum over a long index cut into consecutive stretches. -/
module

public import Idealize.ShloMosaic.PureOps.Ideal.Laws
public import Idealize.ShloMosaic.Lib.ValueIdx
public import Idealize.ShloMosaic.Lib.Pipeline.Value

@[expose] public section

noncomputable section

namespace Cert.Contract

open Idealize.ShloMosaic Idealize.ShloMosaic.ValueIdx
open scoped BigOperators

variable {M K N : ℕ}

abbrev Mat (a b : ℕ) : Shape := ⟨2, ![a, b]⟩

/-- Rows of the left factor against columns of the right one. -/
abbrev nnDims (wf : DotDims.WF (Mat M K) (Mat K N) (Mat M N) [1] [0] [0] [1] [] []) : DotDims (Mat M K) (Mat K N) (Mat M N) :=
  ⟨[1], [0], [0], [1], [], [], wf⟩
/-- Rows of the left factor against rows of the right one. -/
abbrev ntDims (wf : DotDims.WF (Mat M K) (Mat N K) (Mat M N) [1] [1] [0] [0] [] []) : DotDims (Mat M K) (Mat N K) (Mat M N) :=
  ⟨[1], [1], [0], [0], [], [], wf⟩
/-- Columns of the left factor against columns of the right one. -/
abbrev tnDims (wf : DotDims.WF (Mat K M) (Mat K N) (Mat M N) [0] [0] [1] [1] [] []) : DotDims (Mat K M) (Mat K N) (Mat M N) :=
  ⟨[0], [0], [1], [1], [], [], wf⟩

theorem nn_sum (wf : DotDims.WF (Mat M K) (Mat K N) (Mat M N) [1] [0] [0] [1] [] []) (l : (Mat M K).Idx → EReal)
    (x : (Mat K N).Idx → EReal) (r : Fin M) (c : Fin N) :
    (∑ k : (nnDims wf).contr.Idx, l ((nnDims wf).lhsIdx (ix2 r c) k) * x ((nnDims wf).rhsIdx (ix2 r c) k))
      = ∑ k : Fin K, l (ix2 r k) * x (ix2 k c) := by
  rw [← Equiv.sum_comp (contrEquiv1 (nnDims wf) K rfl rfl).symm]
  refine Finset.sum_congr rfl fun k _ => ?_
  have hk := contrEquiv1_symm_val (nnDims wf) K rfl rfl k
  congr 2
  · funext a; apply Fin.ext
    match a with
    | ⟨0, _⟩ => rfl
    | ⟨1, _⟩ => exact hk
  · funext a; apply Fin.ext
    match a with
    | ⟨0, _⟩ => exact hk
    | ⟨1, _⟩ => rfl

theorem nt_sum (wf : DotDims.WF (Mat M K) (Mat N K) (Mat M N) [1] [1] [0] [0] [] []) (l : (Mat M K).Idx → EReal)
    (x : (Mat N K).Idx → EReal) (r : Fin M) (c : Fin N) :
    (∑ k : (ntDims wf).contr.Idx, l ((ntDims wf).lhsIdx (ix2 r c) k) * x ((ntDims wf).rhsIdx (ix2 r c) k))
      = ∑ k : Fin K, l (ix2 r k) * x (ix2 c k) := by
  rw [← Equiv.sum_comp (contrEquiv1 (ntDims wf) K rfl rfl).symm]
  refine Finset.sum_congr rfl fun k _ => ?_
  have hk := contrEquiv1_symm_val (ntDims wf) K rfl rfl k
  congr 2
  · funext a; apply Fin.ext
    match a with
    | ⟨0, _⟩ => rfl
    | ⟨1, _⟩ => exact hk
  · funext a; apply Fin.ext
    match a with
    | ⟨0, _⟩ => rfl
    | ⟨1, _⟩ => exact hk

theorem tn_sum (wf : DotDims.WF (Mat K M) (Mat K N) (Mat M N) [0] [0] [1] [1] [] []) (l : (Mat K M).Idx → EReal)
    (x : (Mat K N).Idx → EReal) (r : Fin M) (c : Fin N) :
    (∑ k : (tnDims wf).contr.Idx, l ((tnDims wf).lhsIdx (ix2 r c) k) * x ((tnDims wf).rhsIdx (ix2 r c) k))
      = ∑ k : Fin K, l (ix2 k r) * x (ix2 k c) := by
  rw [← Equiv.sum_comp (contrEquiv1 (tnDims wf) K rfl rfl).symm]
  refine Finset.sum_congr rfl fun k _ => ?_
  have hk := contrEquiv1_symm_val (tnDims wf) K rfl rfl k
  congr 2
  · funext a; apply Fin.ext
    match a with
    | ⟨0, _⟩ => exact hk
    | ⟨1, _⟩ => rfl
  · funext a; apply Fin.ext
    match a with
    | ⟨0, _⟩ => exact hk
    | ⟨1, _⟩ => rfl

variable {φ₁ φ₂ : FTy}

/-- The kernel's product onto a zero accumulator, rows by columns. -/
theorem matmul_nn (wf) (l : FVec Ideal (Mat M K) φ₁) (x : FVec Ideal (Mat K N) φ₂) (p) (r : Fin M) (c : Fin N) :
    (matmul (nnDims wf) p l x (constant (Mat M N) .f32 0x00000000#32) : FVec Ideal (Mat M N) .f32) (ix2 r c)
      = ∑ k : Fin K, l (ix2 r k) * x (ix2 k c) := by
  refine (Ideal.matmul_constant_zero_apply (nnDims wf) p l x (ix2 r c)).trans (nn_sum wf l x r c)

theorem matmul_nt (wf) (l : FVec Ideal (Mat M K) φ₁) (x : FVec Ideal (Mat N K) φ₂) (p) (r : Fin M) (c : Fin N) :
    (matmul (ntDims wf) p l x (constant (Mat M N) .f32 0x00000000#32) : FVec Ideal (Mat M N) .f32) (ix2 r c)
      = ∑ k : Fin K, l (ix2 r k) * x (ix2 c k) := by
  refine (Ideal.matmul_constant_zero_apply (ntDims wf) p l x (ix2 r c)).trans (nt_sum wf l x r c)

theorem matmul_tn (wf) (l : FVec Ideal (Mat K M) φ₁) (x : FVec Ideal (Mat K N) φ₂) (p) (r : Fin M) (c : Fin N) :
    (matmul (tnDims wf) p l x (constant (Mat M N) .f32 0x00000000#32) : FVec Ideal (Mat M N) .f32) (ix2 r c)
      = ∑ k : Fin K, l (ix2 k r) * x (ix2 k c) := by
  refine (Ideal.matmul_constant_zero_apply (tnDims wf) p l x (ix2 r c)).trans (tn_sum wf l x r c)

/-- The host's product, rows by columns. -/
theorem host_nn (wf) (l : FVec Ideal (Mat M K) φ₁) (x : FVec Ideal (Mat K N) φ₂) (p) (r : Fin M) (c : Fin N) :
    (Host.dotGeneral (nnDims wf) p l x : FVec Ideal (Mat M N) .f32) (ix2 r c) = ∑ k : Fin K, l (ix2 r k) * x (ix2 k c) := by
  simp only [Host.dotGeneral]
  exact (Ideal.dotGeneral_apply (nnDims wf) p HostSchedule.single l x (ix2 r c)).trans (nn_sum wf l x r c)

theorem host_nt (wf) (l : FVec Ideal (Mat M K) φ₁) (x : FVec Ideal (Mat N K) φ₂) (p) (r : Fin M) (c : Fin N) :
    (Host.dotGeneral (ntDims wf) p l x : FVec Ideal (Mat M N) .f32) (ix2 r c) = ∑ k : Fin K, l (ix2 r k) * x (ix2 c k) := by
  simp only [Host.dotGeneral]
  exact (Ideal.dotGeneral_apply (ntDims wf) p HostSchedule.single l x (ix2 r c)).trans (nt_sum wf l x r c)

theorem host_tn (wf) (l : FVec Ideal (Mat K M) φ₁) (x : FVec Ideal (Mat K N) φ₂) (p) (r : Fin M) (c : Fin N) :
    (Host.dotGeneral (tnDims wf) p l x : FVec Ideal (Mat M N) .f32) (ix2 r c) = ∑ k : Fin K, l (ix2 k r) * x (ix2 k c) := by
  simp only [Host.dotGeneral]
  exact (Ideal.dotGeneral_apply (tnDims wf) p HostSchedule.single l x (ix2 r c)).trans (tn_sum wf l x r c)

/-- A matrix read at two numbers, zero outside it. -/
def nat2 {a b : ℕ} (A : (Mat a b).Idx → EReal) (i j : ℕ) : EReal :=
  if h : i < a ∧ j < b then A (ix2 ⟨i, h.1⟩ ⟨j, h.2⟩) else 0

theorem nat2_val {a b : ℕ} (A : (Mat a b).Idx → EReal) (i : Fin a) (j : Fin b) : nat2 A i.val j.val = A (ix2 i j) :=
  dif_pos ⟨i.isLt, j.isLt⟩

/-- An entry of a matrix whose coordinates are known as numbers. -/
theorem eq_nat2 {a b : ℕ} (A : (Mat a b).Idx → EReal) (y : (Mat a b).Idx) (i j : ℕ) (hi : (y 0).val = i) (hj : (y 1).val = j) :
    A y = nat2 A i j := by
  subst hi hj
  exact (congrArg A (eq_ix2 y)).trans (nat2_val A (y 0) (y 1)).symm

/-- A sum of `n` stretches of length `t` is the sum over the whole index. -/
theorem sum_stretches {α : Type*} [AddCommMonoid α] (n t K : ℕ) (hK : t * n = K) (f : ℕ → α) :
    (∑ s ∈ Finset.range n, ∑ j : Fin t, f (t * s + j.val)) = ∑ k : Fin K, f k.val := by
  subst hK
  rw [Fin.sum_univ_eq_sum_range]
  induction n with
  | zero => simp
  | succ n ih =>
    rw [Finset.sum_range_succ, ih, Nat.mul_succ, Finset.sum_range_add, Fin.sum_univ_eq_sum_range (fun j => f (t * n + j))]

end Cert.Contract

end
-- ==== Proof.ProductKernel2Ideal.lean ====
/- The product `Kernel2Ideal`: the array the kernel leaves is the whole product, entry by entry the sum over the contracted
   index, over the extended reals. -/
module

public import proofs.«01_k».proof.Proof.Contract
public import proofs.«01_k».proof.Proof.Gen.Kernel2Ideal.Value

@[expose] public section

noncomputable section

namespace Cert.Kernel2Ideal.Product

open Cert.Kernel2Ideal Cert.Kernel2Ideal.Gen Cert.Kernel2Ideal.Value Cert.Contract
open Idealize.ShloMosaic Idealize.ShloMosaic.TcCoe Idealize.ShloMosaic.ValueIdx Idealize.SL.Sem
open scoped BigOperators

variable (m : (ℓ : Loc nD τ sig) → Buf (Elt Ideal) ℓ) (ρ : Dev nD → PrngReg)

theorem hz : (![0, 0] : Fin 2 → ℕ) = fun _ => 0 := by funext a; fin_cases a <;> rfl

/-- The whole product. -/
def prod (A : S8192x2048.Idx → EReal) (B : S5632x2048.Idx → EReal) : S8192x5632.Idx → EReal :=
  fun i => ∑ k : Fin 2048, A (ix2 (i 0) k) * B (ix2 (i 1) k)

theorem idx_facts : ∀ t : Fin cfg0.N, win0_0.index t (0 : Fin 2) = t.val / 1 / 4 ∧ win0_0.index t (1 : Fin 2) = t.val % 1
    ∧ win0_1.index t (0 : Fin 2) = t.val / 1 % 4 ∧ win0_1.index t (1 : Fin 2) = t.val % 1
    ∧ win0_2.index t (0 : Fin 2) = t.val / 1 / 4 ∧ win0_2.index t (1 : Fin 2) = t.val / 1 % 4 :=
  (by decide +kernel : ∀ t : Fin grid0.N, _)

/-- A point's block of the left factor, by numbers. -/
theorem left_apply (c : Dev nD) (t : Fin cfg0.N) (x : Fin 1024) (y : Fin 2048) : iblk m c 0 t (ix2 x y)
    = nat2 (a := 8192) (b := 2048) (m (c.tc.loc main_arg0)) ((t.val / 1 / 4) * 1024 + x.val) ((t.val % 1) * 2048 + y.val) := by
  obtain ⟨e0, e1, -, -, -, -⟩ := idx_facts t
  show V m c main_arg0 (((cfg0.win 0).blk t).view.emb (ix2 x y)) = _
  rw [V_main_arg0]
  refine eq_nat2 _ _ _ _ ?_ ?_
  · show win0_0.index t (0 : Fin 2) * 1024 + 1 * x.val = _; rw [e0, one_mul]
  · show win0_0.index t (1 : Fin 2) * 2048 + 1 * y.val = _; rw [e1, one_mul]

/-- A point's block of the right factor, by numbers. -/
theorem right_apply (c : Dev nD) (t : Fin cfg0.N) (x : Fin 1408) (y : Fin 2048) : iblk m c 1 t (ix2 x y)
    = nat2 (a := 5632) (b := 2048) (m (c.tc.loc main_arg1)) ((t.val / 1 % 4) * 1408 + x.val) ((t.val % 1) * 2048 + y.val) := by
  obtain ⟨-, -, e2, e3, -, -⟩ := idx_facts t
  show V m c main_arg1 (((cfg0.win 1).blk t).view.emb (ix2 x y)) = _
  rw [V_main_arg1]
  refine eq_nat2 _ _ _ _ ?_ ?_
  · show win0_1.index t (0 : Fin 2) * 1408 + 1 * x.val = _; rw [e2, one_mul]
  · show win0_1.index t (1 : Fin 2) * 2048 + 1 * y.val = _; rw [e3, one_mul]

/-- One term of the entry in row `r` and column `s` of the tile written at the end of run `q`, at contracted position `K`. -/
abbrev term (A : S8192x2048.Idx → EReal) (B : S5632x2048.Idx → EReal) (q r s K : ℕ) : EReal :=
  nat2 (a := 8192) (b := 2048) A (q / 4 * 1024 + r) K * nat2 (a := 5632) (b := 2048) B (q % 4 * 1408 + s) K

theorem prod_emb (A : S8192x2048.Idx → EReal) (B : S5632x2048.Idx → EReal) (t : Fin cfg0.N) (r : Fin 1024) (s : Fin 1408) :
    prod A B (((cfg0.win 2).blk t).view.emb (ix2 r s)) = ∑ k : Fin 2048, term A B (t.val / 1) r.val s.val k.val := by
  obtain ⟨-, -, -, -, e4, e5⟩ := idx_facts t
  have h0 : (((cfg0.win 2).blk t).view.emb (ix2 r s) 0).val = t.val / 1 / 4 * 1024 + r.val := by
    show win0_2.index t (0 : Fin 2) * 1024 + 1 * r.val = _; rw [e4, one_mul]
  have h1 : (((cfg0.win 2).blk t).view.emb (ix2 r s) 1).val = t.val / 1 % 4 * 1408 + s.val := by
    show win0_2.index t (1 : Fin 2) * 1408 + 1 * s.val = _; rw [e5, one_mul]
  unfold prod
  refine Finset.sum_congr rfl fun k _ => ?_
  exact congrArg₂ (· * ·) (eq_nat2 A _ _ _ h0 rfl) (eq_nat2 B _ _ _ h1 rfl)

/-- One tile: the product of the two blocks. -/
theorem out_apply (x0 : Vec Ideal S1024x2048 .bf16) (x1 : Vec Ideal S1408x2048 .bf16) (r : Fin 1024) (s : Fin 1408) :
    out0_2 x0 x1 (ix2 r s) = ∑ k : Fin 2048, x0 (ix2 r k) * x1 (ix2 s k) := by
  unfold out0_2
  rw [View.canon_unit_zero hz, View.ld_unit_zero (S := S1024x2048) hz, View.ld_unit_zero (S := S1408x2048) hz]
  unfold k0_pay1
  rw [truncf_apply]
  exact matmul_nt _ x0 x1 _ r s

/-- What a point writes back is its block of the whole product. -/
theorem flushed_eq (c : Dev nD) (t : Fin cfg0.N) (_hf : (cfg0.win 2).flush t = true) : (dats m 0 c).flushed 2 t
    = ((cfg0.win 2).blk t).view.read (Elt Ideal) (prod (m (c.tc.loc main_arg0)) (m (c.tc.loc main_arg1))) := by
  rw [flushed2]
  funext y
  obtain ⟨r, s, rfl⟩ : ∃ (r : Fin 1024) (s : Fin 1408), y = ix2 r s := ⟨_, _, eq_ix2 y⟩
  refine (out_apply (iblk m c 0 t) (iblk m c 1 t) r s).trans ?_
  refine Eq.trans ?_ (prod_emb _ _ t r s).symm
  refine Finset.sum_congr rfl fun k _ => ?_
  rw [left_apply, right_apply, show t.val % 1 * 2048 + k.val = k.val by omega]

/-- The last point of run `q`. -/
abbrev lastPt (a : Fin 8) (b : Fin 4) : Fin grid0.N := ⟨1 * (4 * a.val + b.val) + 0, lt_of_lt_of_eq (by omega) N_0.symm⟩

theorem idx_onto : ∀ (a : Fin 8) (b : Fin 4), win0_2.flush (lastPt a b) = true ∧ win0_2.index (lastPt a b) = ![a.val, b.val] := by
  decide +kernel

theorem mem_blk (t : Fin cfg0.N) (i : S8192x5632.Idx) :
    i ∈ ((cfg0.win 2).blk t).view.set ↔ ∀ a : Fin 2, win0_2.index t a * S1024x1408.size a ≤ (i a).val ∧ (i a).val < win0_2.index t a * S1024x1408.size a + S1024x1408.size a := by
  show i ∈ ((View.whole main_v0).slice (win0_2.rect t)).set ↔ _
  rw [View.set_slice_whole, Rect.mem_set_unit]
  exact Iff.rfl

/-- The array after the run is the whole product. -/
theorem final (c : Dev nD) : (dats m 0 c).arrAt 2 cfg0.N = prod (m (c.tc.loc main_arg0)) (m (c.tc.loc main_arg1)) :=
  (dats m 0 c).arrAt_eq_of_cover 2 _ (flushed_eq m c) fun i => by
    have h0 : (i 0).val < 8192 := (i 0).isLt
    have h1 : (i 1).val < 5632 := (i 1).isLt
    obtain ⟨hf, ht⟩ := idx_onto ⟨(i 0).val / 1024, by omega⟩ ⟨(i 1).val / 1408, by omega⟩
    refine ⟨_, hf, ?_⟩
    have q0 := congrFun ht (0 : Fin 2)
    have q1 := congrFun ht (1 : Fin 2)
    change _ = (i 0).val / 1024 at q0
    change _ = (i 1).val / 1408 at q1
    rw [mem_blk]
    generalize lastPt _ _ = t at q0 q1
    intro a
    match a with
    | ⟨0, _⟩ => show win0_2.index t (0 : Fin 2) * 1024 ≤ (i 0).val ∧ (i 0).val < win0_2.index t (0 : Fin 2) * 1024 + 1024; omega
    | ⟨1, _⟩ => show win0_2.index t (1 : Fin 2) * 1408 ≤ (i 1).val ∧ (i 1).val < win0_2.index t (1 : Fin 2) * 1408 + 1408; omega

theorem run : θ_run defs (onTc (τ := τ) (main (F := Ideal))) ⟨m, fun _ => 0, ρ⟩ fun r => ∀ c : Dev nD,
      r.2.mem (c.tc.loc main_v0) = prod (m (c.tc.loc main_arg0)) (m (c.tc.loc main_arg1))
      ∧ r.2.mem (c.tc.loc main_arg0) = m (c.tc.loc main_arg0)
      ∧ r.2.mem (c.tc.loc main_arg1) = m (c.tc.loc main_arg1) :=
  (θ_run defs _ _).mono (fun _ h c => ⟨(h c).1.trans (final m c), (h c).2⟩) (run_blocks m ρ)

end Cert.Kernel2Ideal.Product

end
-- ==== Proof.EqualKernel2.lean ====
/- The gradient of the hidden activations of the feed-forward network: the reference's array is the kernel's product, and with it the claims about the pair. -/
module

public import proofs.«01_k».proof.Defs
public import proofs.«01_k».proof.Proof.ProductKernel2Ideal
public import proofs.«01_k».proof.Proof.Gen.Reference2Ideal.Run

@[expose] public section

noncomputable section

namespace Cert.Reference2Ideal.Product

open Cert.Reference2Ideal Cert.Reference2Ideal.Gen Cert.Contract
open Idealize.ShloMosaic Idealize.ShloMosaic.TcCoe Idealize.ShloMosaic.ValueIdx Idealize.SL.Sem
open scoped BigOperators

/-- The array the reference computes, entry by entry, is the sum the kernel forms. -/
theorem term_eq (A : FVec Ideal S8192x2048 .bf16) (B : FVec Ideal S5632x2048 .bf16) :
    (truncf .bf16 (Host.dotGeneral dot_S8192x2048_S5632x2048_S8192x5632_1_1_0_0_n_n none (extf .f32 A bitsLt_bf16_f32 : FVec Ideal _ .f32) (extf .f32 B bitsLt_bf16_f32 : FVec Ideal _ .f32)) bitsLt_bf16_f32 : FVec Ideal S8192x5632 .bf16) = Cert.Kernel2Ideal.Product.prod A B := by
  funext y
  obtain ⟨r, s, rfl⟩ : ∃ (r : Fin 8192) (s : Fin 5632), y = ix2 r s := ⟨_, _, eq_ix2 y⟩
  rw [truncf_apply]
  exact (host_nt _ _ _ _ r s).trans (Finset.sum_congr rfl fun k _ => rfl)

/-- The reference's run keeps its arguments and ends with every counter at zero. -/
theorem frame : @Cert.quiescent_Reference2Ideal Cert.Reference2Ideal.Gen.facts := fun m ρ _ =>
  (θ_run _ _ _).mono (fun r h => ⟨fun c => (h c).2, sem_eq_zero_of_no_sems (by decide) r.2⟩) (Cert.Reference2Ideal.Value.run m ρ)

/-- Kernel and reference end with equal arrays. -/
theorem algebraic : @Cert.algebraic_Kernel2Ideal_Reference2Ideal Cert.Kernel2Ideal.Gen.facts Cert.Reference2Ideal.Gen.facts := fun m ρ m' ρ' _ hag =>
  ⟨fun c => Cert.Kernel2Ideal.Product.prod (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)),
    Cert.Kernel2Ideal.Product.run m ρ,
    (θ_run _ _ _).mono (fun _ h c => ⟨(h c).1.trans (by
      rw [(hag c).1, (hag c).2]
      exact term_eq _ _), (h c).2⟩) (Cert.Reference2Ideal.Value.run m' ρ')⟩

end Cert.Reference2Ideal.Product

end
-- ==== Proof.Stretches.lean ====
/- An accumulator that starts over at the first point of every run and adds one stretch of terms at each point. -/
module

public import proofs.«01_k».proof.Proof.Contract

@[expose] public section

noncomputable section

namespace Cert.Contract

open scoped BigOperators

/-- The points are cut into runs of `K`. After point `n` the accumulator is the sum of the stretches met so far in its run. -/
theorem stretches_so_far {N K t : ℕ} (hK : 0 < K) (T : ℕ → ℕ → EReal) (acc : ∀ n, n < N → EReal)
    (first : ∀ n h, n % K = 0 → acc n h = ∑ k : Fin t, T (n / K) (t * (n % K) + k.val))
    (next : ∀ n (h : n < N), n % K ≠ 0 → acc n h
      = acc (n - 1) (lt_of_le_of_lt (Nat.sub_le n 1) h) + ∑ k : Fin t, T (n / K) (t * (n % K) + k.val)) :
    ∀ n h, acc n h = ∑ j ∈ Finset.range (n % K + 1), ∑ k : Fin t, T (n / K) (t * j + k.val) := by
  intro n
  induction n using Nat.strong_induction_on with
  | _ n ih =>
    intro h
    by_cases g : n % K = 0
    · rw [first n h g, g, Finset.sum_range_one]
    · have hn : 0 < n := Nat.pos_of_ne_zero fun e => g (by rw [e, Nat.zero_mod])
      have e := Nat.div_add_mod n K
      have l := Nat.mod_lt n hK
      have e' : n - 1 = K * (n / K) + (n % K - 1) := by omega
      have hm : (n - 1) % K = n % K - 1 := by rw [e', Nat.mul_add_mod, Nat.mod_eq_of_lt (by omega)]
      have hd : (n - 1) / K = n / K := by
        rw [e', Nat.mul_add_div hK, Nat.div_eq_of_lt (show n % K - 1 < K by omega), Nat.add_zero]
      rw [next n h g, ih (n - 1) (by omega), hm, hd, show n % K - 1 + 1 = n % K by omega,
        Finset.sum_range_succ]

end Cert.Contract

end
-- ==== Proof.ProductKernel3Ideal.lean ====
/- The product `Kernel3Ideal`: the array the kernel leaves is the whole product, entry by entry the sum over the contracted
   index, over the extended reals. -/
module

public import proofs.«01_k».proof.Proof.Stretches
public import proofs.«01_k».proof.Proof.Gen.Kernel3Ideal.Value

@[expose] public section

noncomputable section

namespace Cert.Kernel3Ideal.Product

open Cert.Kernel3Ideal Cert.Kernel3Ideal.Gen Cert.Kernel3Ideal.Value Cert.Contract
open Idealize.ShloMosaic Idealize.ShloMosaic.TcCoe Idealize.ShloMosaic.ValueIdx Idealize.SL.Sem
open scoped BigOperators

variable (m : (ℓ : Loc nD τ sig) → Buf (Elt Ideal) ℓ) (ρ : Dev nD → PrngReg)

theorem hz : (![0, 0] : Fin 2 → ℕ) = fun _ => 0 := by funext a; fin_cases a <;> rfl

/-- The whole product. -/
def prod (A : S8192x5632.Idx → EReal) (B : S8192x2048.Idx → EReal) : S5632x2048.Idx → EReal :=
  fun i => ∑ k : Fin 8192, A (ix2 k (i 0)) * B (ix2 k (i 1))

theorem idx_facts : ∀ t : Fin cfg0.N, win0_0.index t (0 : Fin 2) = t.val % 2 ∧ win0_0.index t (1 : Fin 2) = t.val / 2 / 2
    ∧ win0_1.index t (0 : Fin 2) = t.val % 2 ∧ win0_1.index t (1 : Fin 2) = t.val / 2 % 2
    ∧ win0_2.index t (0 : Fin 2) = t.val / 2 / 2 ∧ win0_2.index t (1 : Fin 2) = t.val / 2 % 2 :=
  (by decide +kernel : ∀ t : Fin grid0.N, _)

/-- A point's block of the left factor, by numbers. -/
theorem left_apply (c : Dev nD) (t : Fin cfg0.N) (x : Fin 4096) (y : Fin 512) : iblk m c 0 t (ix2 x y)
    = nat2 (a := 8192) (b := 5632) (m (c.tc.loc main_arg0)) ((t.val % 2) * 4096 + x.val) ((t.val / 2 / 2) * 512 + y.val) := by
  obtain ⟨e0, e1, -, -, -, -⟩ := idx_facts t
  show V m c main_arg0 (((cfg0.win 0).blk t).view.emb (ix2 x y)) = _
  rw [V_main_arg0]
  refine eq_nat2 _ _ _ _ ?_ ?_
  · show win0_0.index t (0 : Fin 2) * 4096 + 1 * x.val = _; rw [e0, one_mul]
  · show win0_0.index t (1 : Fin 2) * 512 + 1 * y.val = _; rw [e1, one_mul]

/-- A point's block of the right factor, by numbers. -/
theorem right_apply (c : Dev nD) (t : Fin cfg0.N) (x : Fin 4096) (y : Fin 1024) : iblk m c 1 t (ix2 x y)
    = nat2 (a := 8192) (b := 2048) (m (c.tc.loc main_arg1)) ((t.val % 2) * 4096 + x.val) ((t.val / 2 % 2) * 1024 + y.val) := by
  obtain ⟨-, -, e2, e3, -, -⟩ := idx_facts t
  show V m c main_arg1 (((cfg0.win 1).blk t).view.emb (ix2 x y)) = _
  rw [V_main_arg1]
  refine eq_nat2 _ _ _ _ ?_ ?_
  · show win0_1.index t (0 : Fin 2) * 4096 + 1 * x.val = _; rw [e2, one_mul]
  · show win0_1.index t (1 : Fin 2) * 1024 + 1 * y.val = _; rw [e3, one_mul]

/-- One term of the entry in row `r` and column `s` of the tile written at the end of run `q`, at contracted position `K`. -/
abbrev term (A : S8192x5632.Idx → EReal) (B : S8192x2048.Idx → EReal) (q r s K : ℕ) : EReal :=
  nat2 (a := 8192) (b := 5632) A K (q / 2 * 512 + r) * nat2 (a := 8192) (b := 2048) B K (q % 2 * 1024 + s)

theorem prod_emb (A : S8192x5632.Idx → EReal) (B : S8192x2048.Idx → EReal) (t : Fin cfg0.N) (r : Fin 512) (s : Fin 1024) :
    prod A B (((cfg0.win 2).blk t).view.emb (ix2 r s)) = ∑ k : Fin 8192, term A B (t.val / 2) r.val s.val k.val := by
  obtain ⟨-, -, -, -, e4, e5⟩ := idx_facts t
  have h0 : (((cfg0.win 2).blk t).view.emb (ix2 r s) 0).val = t.val / 2 / 2 * 512 + r.val := by
    show win0_2.index t (0 : Fin 2) * 512 + 1 * r.val = _; rw [e4, one_mul]
  have h1 : (((cfg0.win 2).blk t).view.emb (ix2 r s) 1).val = t.val / 2 % 2 * 1024 + s.val := by
    show win0_2.index t (1 : Fin 2) * 1024 + 1 * s.val = _; rw [e5, one_mul]
  unfold prod
  refine Finset.sum_congr rfl fun k _ => ?_
  exact congrArg₂ (· * ·) (eq_nat2 A _ _ _ rfl h0) (eq_nat2 B _ _ _ rfl h1)

variable (c : Dev nD) (i : grid0.Coords) (arg3 : Memref sig .tc .vmem S4096x512 .bf16) (harg3 : arg3.IsWhole) (arg4 : Memref sig .tc .vmem S4096x1024 .bf16) (harg4 : arg4.IsWhole) (arg5 : Memref sig .tc .vmem S512x1024 .bf16) (harg5 : arg5.IsWhole) (arg6 : Memref sig .tc .vmem S512x1024 .f32) (harg6 : arg6.IsWhole)
  (x0 : Vec Ideal S4096x512 .bf16) (x1 : Vec Ideal S4096x1024 .bf16) (xs0 : Vec Ideal S512x1024 .f32)

theorem store_apply (r : Fin 512) (s : Fin 1024) : k0_pay4 xs0 (ix2 r s) = xs0 (ix2 r s) := by
  unfold k0_pay4
  rw [truncf_apply]

/-- The product of the two blocks at a point. -/
theorem part_apply (r : Fin 512) (s : Fin 1024) : k0_pay1 x0 x1 (ix2 r s) = ∑ k : Fin 4096, x0 (ix2 k r) * x1 (ix2 k s) := by
  unfold k0_pay1
  exact matmul_tn _ x0 x1 _ r s

theorem start_apply (r : Fin 512) (s : Fin 1024) : k0_pay2 x0 x1 (ix2 r s) = k0_pay1 x0 x1 (ix2 r s) := by
  unfold k0_pay2
  rw [shapeCast_self]

theorem next_apply (r : Fin 512) (s : Fin 1024) : k0_pay3 x0 x1 xs0 (ix2 r s) = xs0 (ix2 r s) + k0_pay1 x0 x1 (ix2 r s) := by
  unfold k0_pay3
  rw [shapeCast_self, addf_apply]

theorem scratch_A (hc0 : cond0_0 i) (hc1 : ¬cond0_1 i) (hc2 : ¬cond0_2 i) :
    sout0_A_0 c i arg3 harg3 arg4 harg4 arg5 harg5 arg6 harg6 hc0 hc1 hc2 x0 x1 = k0_pay2 x0 x1 := by
  unfold sout0_A_0
  rw [View.read_writes_eq_canon _ _ _ (scover0_A_0 c i arg3 harg3 arg4 harg4 arg5 harg5 arg6 harg6 hc0 hc1 hc2 x0 x1)]
  unfold kernelRun0_A
  dsimp only
  sl_unfold_words
  rw [View.canon_unit_zero hz]
  simp only [View.readAt_eq_ld, harg3.read_unread, harg4.read_unread, harg6.read_unread, View.ld_unit_zero (S := S4096x512) hz, View.ld_unit_zero (S := S4096x1024) hz,
    View.ld_unit_zero (S := S512x1024) hz]

theorem scratch_B (hc0 : ¬cond0_0 i) (hc1 : cond0_1 i) (hc2 : cond0_2 i) :
    sout0_B_0 c i arg3 harg3 arg4 harg4 arg5 harg5 arg6 harg6 hc0 hc1 hc2 x0 x1 xs0 = k0_pay3 x0 x1 xs0 := by
  unfold sout0_B_0
  rw [View.read_writes_eq_canon _ _ _ (scover0_B_0 c i arg3 harg3 arg4 harg4 arg5 harg5 arg6 harg6 hc0 hc1 hc2 x0 x1 xs0)]
  unfold kernelRun0_B
  dsimp only
  sl_unfold_words
  rw [View.canon_unit_zero hz]
  simp only [View.readAt_eq_ld, harg3.read_unread, harg4.read_unread, harg6.read_unread, View.ld_unit_zero (S := S4096x512) hz, View.ld_unit_zero (S := S4096x1024) hz,
    View.ld_unit_zero (S := S512x1024) hz]

theorem out_B (hc0 : ¬cond0_0 i) (hc1 : cond0_1 i) (hc2 : cond0_2 i) :
    out0_B_2 c i arg3 harg3 arg4 harg4 arg5 harg5 arg6 harg6 hc0 hc1 hc2 x0 x1 xs0 = k0_pay4 (k0_pay3 x0 x1 xs0) := by
  unfold out0_B_2
  rw [View.read_writes_eq_canon _ _ _ (cover0_B_2 c i arg3 harg3 arg4 harg4 arg5 harg5 arg6 harg6 hc0 hc1 hc2 x0 x1 xs0)]
  unfold kernelRun0_B
  dsimp only
  sl_unfold_words
  rw [View.canon_unit_zero hz, View.readCov_unit_zero (S := S512x1024) _ hz]
  simp only [View.readAt_eq_ld, harg3.read_unread, harg4.read_unread, harg6.read_unread, View.ld_unit_zero (S := S4096x512) hz, View.ld_unit_zero (S := S4096x1024) hz,
    View.ld_unit_zero (S := S512x1024) hz]

omit i arg3 harg3 arg4 harg4 arg5 harg5 arg6 harg6 x0 x1 xs0

theorem part_block (t : Fin cfg0.N) (r : Fin 512) (s : Fin 1024) : k0_pay1 (iblk m c 0 t) (iblk m c 1 t) (ix2 r s)
    = ∑ k : Fin 4096, term (m (c.tc.loc main_arg0)) (m (c.tc.loc main_arg1)) (t.val / 2) r.val s.val (4096 * (t.val % 2) + k.val) := by
  refine (part_apply (iblk m c 0 t) (iblk m c 1 t) r s).trans ?_
  refine Finset.sum_congr rfl fun k _ => ?_
  rw [left_apply, right_apply, Nat.mul_comm (t.val % 2) 4096]

/-- The accumulator after a point: the terms of the stretches met so far in its run. -/
theorem fold (r : Fin 512) (s : Fin 1024) : ∀ (n : ℕ) (h : n < cfg0.N), (outsAt0 m c n h).2 (ix2 r s)
    = ∑ j ∈ Finset.range (n % 2 + 1), ∑ k : Fin 4096, term (m (c.tc.loc main_arg0)) (m (c.tc.loc main_arg1)) (n / 2) r.val s.val (4096 * j + k.val) := by
  refine stretches_so_far (by norm_num) (fun q => term (m (c.tc.loc main_arg0)) (m (c.tc.loc main_arg1)) q r.val s.val)
    (fun n h => (outsAt0 m c n h).2 (ix2 r s)) (fun n h g => ?_) (fun n h g => ?_)
  · rw [outsAt0_A m c ⟨n, h⟩ (by dsimp only; omega) (by dsimp only; omega) (by dsimp only; omega)]
    dsimp only
    rw [scratch_A]
    exact (start_apply _ _ r s).trans (part_block m c ⟨n, h⟩ r s)
  · rw [outsAt0_B m c ⟨n, h⟩ (by dsimp only; omega) (by dsimp only; omega) (by dsimp only; omega)]
    dsimp only
    rw [scratch_B]
    exact (next_apply _ _ _ r s).trans (congrArg _ (part_block m c ⟨n, h⟩ r s))

/-- What a flushing point writes back is its block of the whole product. -/
theorem flushed_eq (t : Fin cfg0.N) (hf : (cfg0.win 2).flush t = true) : (dats m 0 c).flushed 2 t
    = ((cfg0.win 2).blk t).view.read (Elt Ideal) (prod (m (c.tc.loc main_arg0)) (m (c.tc.loc main_arg1))) := by
  have hm : t.val % 2 = 1 := (flush0_2 t).mp hf
  generalize hX : ((cfg0.win 2).blk t).view.read (Elt Ideal) (prod (m (c.tc.loc main_arg0)) (m (c.tc.loc main_arg1))) = X
  rw [flushed2]
  have hfold := fun r s => fold m c r s t.val t.isLt
  rw [outsAt0_B m c t (by omega) (by omega) (by omega)] at hfold ⊢
  dsimp only at hfold ⊢
  rw [scratch_B] at hfold
  rw [out_B]
  subst hX
  funext y
  obtain ⟨r, s, rfl⟩ : ∃ (r : Fin 512) (s : Fin 1024), y = ix2 r s := ⟨_, _, eq_ix2 y⟩
  have e := (prod_emb (m (c.tc.loc main_arg0)) (m (c.tc.loc main_arg1)) t r s).trans
    (sum_stretches (α := EReal) ((1) + 1) 4096 8192 (by norm_num) (fun K => term (m (c.tc.loc main_arg0)) (m (c.tc.loc main_arg1)) (t.val / 2) r.val s.val K)).symm
  have h1 := hfold r s
  rw [hm] at h1
  refine (store_apply _ r s).trans (h1.trans ?_)
  have hr : ∀ f : S5632x2048.Idx → EReal, ((cfg0.win 2).blk t).view.read (Elt Ideal) f (ix2 r s) = f (((cfg0.win 2).blk t).view.emb (ix2 r s)) := fun _ => rfl
  exact ((hr _).trans e).symm

/-- The last point of run `q`. -/
abbrev lastPt (a : Fin 11) (b : Fin 2) : Fin grid0.N := ⟨2 * (2 * a.val + b.val) + 1, lt_of_lt_of_eq (by omega) N_0.symm⟩

theorem idx_onto : ∀ (a : Fin 11) (b : Fin 2), win0_2.flush (lastPt a b) = true ∧ win0_2.index (lastPt a b) = ![a.val, b.val] := by
  decide +kernel

theorem mem_blk (t : Fin cfg0.N) (i : S5632x2048.Idx) :
    i ∈ ((cfg0.win 2).blk t).view.set ↔ ∀ a : Fin 2, win0_2.index t a * S512x1024.size a ≤ (i a).val ∧ (i a).val < win0_2.index t a * S512x1024.size a + S512x1024.size a := by
  show i ∈ ((View.whole main_v0).slice (win0_2.rect t)).set ↔ _
  rw [View.set_slice_whole, Rect.mem_set_unit]
  exact Iff.rfl

/-- The array after the run is the whole product. -/
theorem final (c : Dev nD) : (dats m 0 c).arrAt 2 cfg0.N = prod (m (c.tc.loc main_arg0)) (m (c.tc.loc main_arg1)) :=
  (dats m 0 c).arrAt_eq_of_cover 2 _ (flushed_eq m c) fun i => by
    have h0 : (i 0).val < 5632 := (i 0).isLt
    have h1 : (i 1).val < 2048 := (i 1).isLt
    obtain ⟨hf, ht⟩ := idx_onto ⟨(i 0).val / 512, by omega⟩ ⟨(i 1).val / 1024, by omega⟩
    refine ⟨_, hf, ?_⟩
    have q0 := congrFun ht (0 : Fin 2)
    have q1 := congrFun ht (1 : Fin 2)
    change _ = (i 0).val / 512 at q0
    change _ = (i 1).val / 1024 at q1
    rw [mem_blk]
    generalize lastPt _ _ = t at q0 q1
    intro a
    match a with
    | ⟨0, _⟩ => show win0_2.index t (0 : Fin 2) * 512 ≤ (i 0).val ∧ (i 0).val < win0_2.index t (0 : Fin 2) * 512 + 512; omega
    | ⟨1, _⟩ => show win0_2.index t (1 : Fin 2) * 1024 ≤ (i 1).val ∧ (i 1).val < win0_2.index t (1 : Fin 2) * 1024 + 1024; omega

theorem run : θ_run defs (onTc (τ := τ) (main (F := Ideal))) ⟨m, fun _ => 0, ρ⟩ fun r => ∀ c : Dev nD,
      r.2.mem (c.tc.loc main_v0) = prod (m (c.tc.loc main_arg0)) (m (c.tc.loc main_arg1))
      ∧ r.2.mem (c.tc.loc main_arg0) = m (c.tc.loc main_arg0)
      ∧ r.2.mem (c.tc.loc main_arg1) = m (c.tc.loc main_arg1) :=
  (θ_run defs _ _).mono (fun _ h c => ⟨(h c).1.trans (final m c), (h c).2⟩) (run_blocks m ρ)

end Cert.Kernel3Ideal.Product

end
-- ==== Proof.EqualKernel3.lean ====
/- The gradient of the second weight of the feed-forward network: the reference's array is the kernel's product, and with it the claims about the pair. -/
module

public import proofs.«01_k».proof.Defs
public import proofs.«01_k».proof.Proof.ProductKernel3Ideal
public import proofs.«01_k».proof.Proof.Gen.Reference3Ideal.Run

@[expose] public section

noncomputable section

namespace Cert.Reference3Ideal.Product

open Cert.Reference3Ideal Cert.Reference3Ideal.Gen Cert.Contract
open Idealize.ShloMosaic Idealize.ShloMosaic.TcCoe Idealize.ShloMosaic.ValueIdx Idealize.SL.Sem
open scoped BigOperators

/-- The array the reference computes, entry by entry, is the sum the kernel forms. -/
theorem term_eq (A : FVec Ideal S8192x5632 .bf16) (B : FVec Ideal S8192x2048 .bf16) :
    (truncf .bf16 (transpose S5632x2048 [1, 0] (Host.dotGeneral dot_S8192x2048_S8192x5632_S2048x5632_0_0_1_1_n_n none (extf .f32 B bitsLt_bf16_f32 : FVec Ideal _ .f32) (extf .f32 A bitsLt_bf16_f32 : FVec Ideal _ .f32)) transposes_S2048x5632_S5632x2048_1_0) bitsLt_bf16_f32 : FVec Ideal S5632x2048 .bf16) = Cert.Kernel3Ideal.Product.prod A B := by
  funext y
  obtain ⟨r, s, rfl⟩ : ∃ (r : Fin 5632) (s : Fin 2048), y = ix2 r s := ⟨_, _, eq_ix2 y⟩
  rw [truncf_apply]
  rw [transpose_apply [1, 0] _ _ (ix2 r s) (ix2 s r) (by intro b; fin_cases b <;> rfl)]
  exact (host_tn _ _ _ _ s r).trans (Finset.sum_congr rfl fun k _ => mul_comm _ _)

/-- The reference's run keeps its arguments and ends with every counter at zero. -/
theorem frame : @Cert.quiescent_Reference3Ideal Cert.Reference3Ideal.Gen.facts := fun m ρ _ =>
  (θ_run _ _ _).mono (fun r h => ⟨fun c => (h c).2, sem_eq_zero_of_no_sems (by decide) r.2⟩) (Cert.Reference3Ideal.Value.run m ρ)

/-- Kernel and reference end with equal arrays. -/
theorem algebraic : @Cert.algebraic_Kernel3Ideal_Reference3Ideal Cert.Kernel3Ideal.Gen.facts Cert.Reference3Ideal.Gen.facts := fun m ρ m' ρ' _ hag =>
  ⟨fun c => Cert.Kernel3Ideal.Product.prod (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)),
    Cert.Kernel3Ideal.Product.run m ρ,
    (θ_run _ _ _).mono (fun _ h c => ⟨(h c).1.trans (by
      rw [(hag c).1, (hag c).2]
      exact term_eq _ _), (h c).2⟩) (Cert.Reference3Ideal.Value.run m' ρ')⟩

end Cert.Reference3Ideal.Product

end
-- ==== Proof.ProductKernel4Ideal.lean ====
/- The product `Kernel4Ideal`: the array the kernel leaves is the whole product, entry by entry the sum over the contracted
   index, over the extended reals. -/
module

public import proofs.«01_k».proof.Proof.Stretches
public import proofs.«01_k».proof.Proof.Gen.Kernel4Ideal.Value

@[expose] public section

noncomputable section

namespace Cert.Kernel4Ideal.Product

open Cert.Kernel4Ideal Cert.Kernel4Ideal.Gen Cert.Kernel4Ideal.Value Cert.Contract
open Idealize.ShloMosaic Idealize.ShloMosaic.TcCoe Idealize.ShloMosaic.ValueIdx Idealize.SL.Sem
open scoped BigOperators

variable (m : (ℓ : Loc nD τ sig) → Buf (Elt Ideal) ℓ) (ρ : Dev nD → PrngReg)

theorem hz : (![0, 0] : Fin 2 → ℕ) = fun _ => 0 := by funext a; fin_cases a <;> rfl

/-- The whole product. -/
def prod (A : S8192x11264.Idx → EReal) (B : S2048x11264.Idx → EReal) : S8192x2048.Idx → EReal :=
  fun i => ∑ k : Fin 11264, A (ix2 (i 0) k) * B (ix2 (i 1) k)

theorem idx_facts : ∀ t : Fin cfg0.N, win0_0.index t (0 : Fin 2) = t.val / 4 / 2 ∧ win0_0.index t (1 : Fin 2) = t.val % 4
    ∧ win0_1.index t (0 : Fin 2) = t.val / 4 % 2 ∧ win0_1.index t (1 : Fin 2) = t.val % 4
    ∧ win0_2.index t (0 : Fin 2) = t.val / 4 / 2 ∧ win0_2.index t (1 : Fin 2) = t.val / 4 % 2 :=
  (by decide +kernel : ∀ t : Fin grid0.N, _)

/-- A point's block of the left factor, by numbers. -/
theorem left_apply (c : Dev nD) (t : Fin cfg0.N) (x : Fin 1024) (y : Fin 2816) : iblk m c 0 t (ix2 x y)
    = nat2 (a := 8192) (b := 11264) (m (c.tc.loc main_arg0)) ((t.val / 4 / 2) * 1024 + x.val) ((t.val % 4) * 2816 + y.val) := by
  obtain ⟨e0, e1, -, -, -, -⟩ := idx_facts t
  show V m c main_arg0 (((cfg0.win 0).blk t).view.emb (ix2 x y)) = _
  rw [V_main_arg0]
  refine eq_nat2 _ _ _ _ ?_ ?_
  · show win0_0.index t (0 : Fin 2) * 1024 + 1 * x.val = _; rw [e0, one_mul]
  · show win0_0.index t (1 : Fin 2) * 2816 + 1 * y.val = _; rw [e1, one_mul]

/-- A point's block of the right factor, by numbers. -/
theorem right_apply (c : Dev nD) (t : Fin cfg0.N) (x : Fin 1024) (y : Fin 2816) : iblk m c 1 t (ix2 x y)
    = nat2 (a := 2048) (b := 11264) (m (c.tc.loc main_arg1)) ((t.val / 4 % 2) * 1024 + x.val) ((t.val % 4) * 2816 + y.val) := by
  obtain ⟨-, -, e2, e3, -, -⟩ := idx_facts t
  show V m c main_arg1 (((cfg0.win 1).blk t).view.emb (ix2 x y)) = _
  rw [V_main_arg1]
  refine eq_nat2 _ _ _ _ ?_ ?_
  · show win0_1.index t (0 : Fin 2) * 1024 + 1 * x.val = _; rw [e2, one_mul]
  · show win0_1.index t (1 : Fin 2) * 2816 + 1 * y.val = _; rw [e3, one_mul]

/-- One term of the entry in row `r` and column `s` of the tile written at the end of run `q`, at contracted position `K`. -/
abbrev term (A : S8192x11264.Idx → EReal) (B : S2048x11264.Idx → EReal) (q r s K : ℕ) : EReal :=
  nat2 (a := 8192) (b := 11264) A (q / 2 * 1024 + r) K * nat2 (a := 2048) (b := 11264) B (q % 2 * 1024 + s) K

theorem prod_emb (A : S8192x11264.Idx → EReal) (B : S2048x11264.Idx → EReal) (t : Fin cfg0.N) (r : Fin 1024) (s : Fin 1024) :
    prod A B (((cfg0.win 2).blk t).view.emb (ix2 r s)) = ∑ k : Fin 11264, term A B (t.val / 4) r.val s.val k.val := by
  obtain ⟨-, -, -, -, e4, e5⟩ := idx_facts t
  have h0 : (((cfg0.win 2).blk t).view.emb (ix2 r s) 0).val = t.val / 4 / 2 * 1024 + r.val := by
    show win0_2.index t (0 : Fin 2) * 1024 + 1 * r.val = _; rw [e4, one_mul]
  have h1 : (((cfg0.win 2).blk t).view.emb (ix2 r s) 1).val = t.val / 4 % 2 * 1024 + s.val := by
    show win0_2.index t (1 : Fin 2) * 1024 + 1 * s.val = _; rw [e5, one_mul]
  unfold prod
  refine Finset.sum_congr rfl fun k _ => ?_
  exact congrArg₂ (· * ·) (eq_nat2 A _ _ _ h0 rfl) (eq_nat2 B _ _ _ h1 rfl)

variable (c : Dev nD) (i : grid0.Coords) (arg3 : Memref sig .tc .vmem S1024x2816 .bf16) (harg3 : arg3.IsWhole) (arg4 : Memref sig .tc .vmem S1024x2816 .bf16) (harg4 : arg4.IsWhole) (arg5 : Memref sig .tc .vmem S1024x1024 .bf16) (harg5 : arg5.IsWhole) (arg6 : Memref sig .tc .vmem S1024x1024 .f32) (harg6 : arg6.IsWhole)
  (x0 : Vec Ideal S1024x2816 .bf16) (x1 : Vec Ideal S1024x2816 .bf16) (xs0 : Vec Ideal S1024x1024 .f32)

theorem store_apply (r : Fin 1024) (s : Fin 1024) : k0_pay4 xs0 (ix2 r s) = xs0 (ix2 r s) := by
  unfold k0_pay4
  rw [truncf_apply]

/-- The product of the two blocks at a point. -/
theorem part_apply (r : Fin 1024) (s : Fin 1024) : k0_pay1 x0 x1 (ix2 r s) = ∑ k : Fin 2816, x0 (ix2 r k) * x1 (ix2 s k) := by
  unfold k0_pay1
  exact matmul_nt _ x0 x1 _ r s

theorem start_apply (r : Fin 1024) (s : Fin 1024) : k0_pay2 x0 x1 (ix2 r s) = k0_pay1 x0 x1 (ix2 r s) := by
  unfold k0_pay2
  rw [shapeCast_self]

theorem next_apply (r : Fin 1024) (s : Fin 1024) : k0_pay3 x0 x1 xs0 (ix2 r s) = xs0 (ix2 r s) + k0_pay1 x0 x1 (ix2 r s) := by
  unfold k0_pay3
  rw [shapeCast_self, addf_apply]

theorem scratch_A (hc0 : cond0_0 i) (hc1 : ¬cond0_1 i) (hc2 : ¬cond0_2 i) :
    sout0_A_0 c i arg3 harg3 arg4 harg4 arg5 harg5 arg6 harg6 hc0 hc1 hc2 x0 x1 = k0_pay2 x0 x1 := by
  unfold sout0_A_0
  rw [View.read_writes_eq_canon _ _ _ (scover0_A_0 c i arg3 harg3 arg4 harg4 arg5 harg5 arg6 harg6 hc0 hc1 hc2 x0 x1)]
  unfold kernelRun0_A
  dsimp only
  sl_unfold_words
  rw [View.canon_unit_zero hz]
  simp only [View.readAt_eq_ld, harg3.read_unread, harg4.read_unread, harg6.read_unread, View.ld_unit_zero (S := S1024x2816) hz, View.ld_unit_zero (S := S1024x2816) hz,
    View.ld_unit_zero (S := S1024x1024) hz]

theorem scratch_B (hc0 : ¬cond0_0 i) (hc1 : cond0_1 i) (hc2 : ¬cond0_2 i) :
    sout0_B_0 c i arg3 harg3 arg4 harg4 arg5 harg5 arg6 harg6 hc0 hc1 hc2 x0 x1 xs0 = k0_pay3 x0 x1 xs0 := by
  unfold sout0_B_0
  rw [View.read_writes_eq_canon _ _ _ (scover0_B_0 c i arg3 harg3 arg4 harg4 arg5 harg5 arg6 harg6 hc0 hc1 hc2 x0 x1 xs0)]
  unfold kernelRun0_B
  dsimp only
  sl_unfold_words
  rw [View.canon_unit_zero hz]
  simp only [View.readAt_eq_ld, harg3.read_unread, harg4.read_unread, harg6.read_unread, View.ld_unit_zero (S := S1024x2816) hz, View.ld_unit_zero (S := S1024x2816) hz,
    View.ld_unit_zero (S := S1024x1024) hz]

theorem scratch_C (hc0 : ¬cond0_0 i) (hc1 : cond0_1 i) (hc2 : cond0_2 i) :
    sout0_C_0 c i arg3 harg3 arg4 harg4 arg5 harg5 arg6 harg6 hc0 hc1 hc2 x0 x1 xs0 = k0_pay3 x0 x1 xs0 := by
  unfold sout0_C_0
  rw [View.read_writes_eq_canon _ _ _ (scover0_C_0 c i arg3 harg3 arg4 harg4 arg5 harg5 arg6 harg6 hc0 hc1 hc2 x0 x1 xs0)]
  unfold kernelRun0_C
  dsimp only
  sl_unfold_words
  rw [View.canon_unit_zero hz]
  simp only [View.readAt_eq_ld, harg3.read_unread, harg4.read_unread, harg6.read_unread, View.ld_unit_zero (S := S1024x2816) hz, View.ld_unit_zero (S := S1024x2816) hz,
    View.ld_unit_zero (S := S1024x1024) hz]

theorem out_C (hc0 : ¬cond0_0 i) (hc1 : cond0_1 i) (hc2 : cond0_2 i) :
    out0_C_2 c i arg3 harg3 arg4 harg4 arg5 harg5 arg6 harg6 hc0 hc1 hc2 x0 x1 xs0 = k0_pay4 (k0_pay3 x0 x1 xs0) := by
  unfold out0_C_2
  rw [View.read_writes_eq_canon _ _ _ (cover0_C_2 c i arg3 harg3 arg4 harg4 arg5 harg5 arg6 harg6 hc0 hc1 hc2 x0 x1 xs0)]
  unfold kernelRun0_C
  dsimp only
  sl_unfold_words
  rw [View.canon_unit_zero hz, View.readCov_unit_zero (S := S1024x1024) _ hz]
  simp only [View.readAt_eq_ld, harg3.read_unread, harg4.read_unread, harg6.read_unread, View.ld_unit_zero (S := S1024x2816) hz, View.ld_unit_zero (S := S1024x2816) hz,
    View.ld_unit_zero (S := S1024x1024) hz]

omit i arg3 harg3 arg4 harg4 arg5 harg5 arg6 harg6 x0 x1 xs0

theorem part_block (t : Fin cfg0.N) (r : Fin 1024) (s : Fin 1024) : k0_pay1 (iblk m c 0 t) (iblk m c 1 t) (ix2 r s)
    = ∑ k : Fin 2816, term (m (c.tc.loc main_arg0)) (m (c.tc.loc main_arg1)) (t.val / 4) r.val s.val (2816 * (t.val % 4) + k.val) := by
  refine (part_apply (iblk m c 0 t) (iblk m c 1 t) r s).trans ?_
  refine Finset.sum_congr rfl fun k _ => ?_
  rw [left_apply, right_apply, Nat.mul_comm (t.val % 4) 2816]

/-- The accumulator after a point: the terms of the stretches met so far in its run. -/
theorem fold (r : Fin 1024) (s : Fin 1024) : ∀ (n : ℕ) (h : n < cfg0.N), (outsAt0 m c n h).2 (ix2 r s)
    = ∑ j ∈ Finset.range (n % 4 + 1), ∑ k : Fin 2816, term (m (c.tc.loc main_arg0)) (m (c.tc.loc main_arg1)) (n / 4) r.val s.val (2816 * j + k.val) := by
  refine stretches_so_far (by norm_num) (fun q => term (m (c.tc.loc main_arg0)) (m (c.tc.loc main_arg1)) q r.val s.val)
    (fun n h => (outsAt0 m c n h).2 (ix2 r s)) (fun n h g => ?_) (fun n h g => ?_)
  · rw [outsAt0_A m c ⟨n, h⟩ (by dsimp only; omega) (by dsimp only; omega) (by dsimp only; omega)]
    dsimp only
    rw [scratch_A]
    exact (start_apply _ _ r s).trans (part_block m c ⟨n, h⟩ r s)
  · by_cases g1 : n % 4 = 3
    · rw [outsAt0_C m c ⟨n, h⟩ (by dsimp only; omega) (by dsimp only; omega) (by dsimp only; omega)]
      dsimp only
      rw [scratch_C]
      exact (next_apply _ _ _ r s).trans (congrArg _ (part_block m c ⟨n, h⟩ r s))
    · rw [outsAt0_B m c ⟨n, h⟩ (by dsimp only; omega) (by dsimp only; omega) (by dsimp only; omega)]
      dsimp only
      rw [scratch_B]
      exact (next_apply _ _ _ r s).trans (congrArg _ (part_block m c ⟨n, h⟩ r s))

/-- What a flushing point writes back is its block of the whole product. -/
theorem flushed_eq (t : Fin cfg0.N) (hf : (cfg0.win 2).flush t = true) : (dats m 0 c).flushed 2 t
    = ((cfg0.win 2).blk t).view.read (Elt Ideal) (prod (m (c.tc.loc main_arg0)) (m (c.tc.loc main_arg1))) := by
  have hm : t.val % 4 = 3 := (flush0_2 t).mp hf
  generalize hX : ((cfg0.win 2).blk t).view.read (Elt Ideal) (prod (m (c.tc.loc main_arg0)) (m (c.tc.loc main_arg1))) = X
  rw [flushed2]
  have hfold := fun r s => fold m c r s t.val t.isLt
  rw [outsAt0_C m c t (by omega) (by omega) (by omega)] at hfold ⊢
  dsimp only at hfold ⊢
  rw [scratch_C] at hfold
  rw [out_C]
  subst hX
  funext y
  obtain ⟨r, s, rfl⟩ : ∃ (r : Fin 1024) (s : Fin 1024), y = ix2 r s := ⟨_, _, eq_ix2 y⟩
  have e := (prod_emb (m (c.tc.loc main_arg0)) (m (c.tc.loc main_arg1)) t r s).trans
    (sum_stretches (α := EReal) ((3) + 1) 2816 11264 (by norm_num) (fun K => term (m (c.tc.loc main_arg0)) (m (c.tc.loc main_arg1)) (t.val / 4) r.val s.val K)).symm
  have h1 := hfold r s
  rw [hm] at h1
  refine (store_apply _ r s).trans (h1.trans ?_)
  have hr : ∀ f : S8192x2048.Idx → EReal, ((cfg0.win 2).blk t).view.read (Elt Ideal) f (ix2 r s) = f (((cfg0.win 2).blk t).view.emb (ix2 r s)) := fun _ => rfl
  exact ((hr _).trans e).symm

/-- The last point of run `q`. -/
abbrev lastPt (a : Fin 8) (b : Fin 2) : Fin grid0.N := ⟨4 * (2 * a.val + b.val) + 3, lt_of_lt_of_eq (by omega) N_0.symm⟩

theorem idx_onto : ∀ (a : Fin 8) (b : Fin 2), win0_2.flush (lastPt a b) = true ∧ win0_2.index (lastPt a b) = ![a.val, b.val] := by
  decide +kernel

theorem mem_blk (t : Fin cfg0.N) (i : S8192x2048.Idx) :
    i ∈ ((cfg0.win 2).blk t).view.set ↔ ∀ a : Fin 2, win0_2.index t a * S1024x1024.size a ≤ (i a).val ∧ (i a).val < win0_2.index t a * S1024x1024.size a + S1024x1024.size a := by
  show i ∈ ((View.whole main_v0).slice (win0_2.rect t)).set ↔ _
  rw [View.set_slice_whole, Rect.mem_set_unit]
  exact Iff.rfl

/-- The array after the run is the whole product. -/
theorem final (c : Dev nD) : (dats m 0 c).arrAt 2 cfg0.N = prod (m (c.tc.loc main_arg0)) (m (c.tc.loc main_arg1)) :=
  (dats m 0 c).arrAt_eq_of_cover 2 _ (flushed_eq m c) fun i => by
    have h0 : (i 0).val < 8192 := (i 0).isLt
    have h1 : (i 1).val < 2048 := (i 1).isLt
    obtain ⟨hf, ht⟩ := idx_onto ⟨(i 0).val / 1024, by omega⟩ ⟨(i 1).val / 1024, by omega⟩
    refine ⟨_, hf, ?_⟩
    have q0 := congrFun ht (0 : Fin 2)
    have q1 := congrFun ht (1 : Fin 2)
    change _ = (i 0).val / 1024 at q0
    change _ = (i 1).val / 1024 at q1
    rw [mem_blk]
    generalize lastPt _ _ = t at q0 q1
    intro a
    match a with
    | ⟨0, _⟩ => show win0_2.index t (0 : Fin 2) * 1024 ≤ (i 0).val ∧ (i 0).val < win0_2.index t (0 : Fin 2) * 1024 + 1024; omega
    | ⟨1, _⟩ => show win0_2.index t (1 : Fin 2) * 1024 ≤ (i 1).val ∧ (i 1).val < win0_2.index t (1 : Fin 2) * 1024 + 1024; omega

theorem run : θ_run defs (onTc (τ := τ) (main (F := Ideal))) ⟨m, fun _ => 0, ρ⟩ fun r => ∀ c : Dev nD,
      r.2.mem (c.tc.loc main_v0) = prod (m (c.tc.loc main_arg0)) (m (c.tc.loc main_arg1))
      ∧ r.2.mem (c.tc.loc main_arg0) = m (c.tc.loc main_arg0)
      ∧ r.2.mem (c.tc.loc main_arg1) = m (c.tc.loc main_arg1) :=
  (θ_run defs _ _).mono (fun _ h c => ⟨(h c).1.trans (final m c), (h c).2⟩) (run_blocks m ρ)

end Cert.Kernel4Ideal.Product

end
-- ==== Proof.EqualKernel4.lean ====
/- The gradient of the input of the feed-forward network: the reference's array is the kernel's product, and with it the claims about the pair. -/
module

public import proofs.«01_k».proof.Defs
public import proofs.«01_k».proof.Proof.ProductKernel4Ideal
public import proofs.«01_k».proof.Proof.Gen.Reference4Ideal.Run

@[expose] public section

noncomputable section

namespace Cert.Reference4Ideal.Product

open Cert.Reference4Ideal Cert.Reference4Ideal.Gen Cert.Contract
open Idealize.ShloMosaic Idealize.ShloMosaic.TcCoe Idealize.ShloMosaic.ValueIdx Idealize.SL.Sem
open scoped BigOperators

/-- The array the reference computes, entry by entry, is the sum the kernel forms. -/
theorem term_eq (A : FVec Ideal S8192x11264 .bf16) (B : FVec Ideal S2048x11264 .bf16) :
    (truncf .bf16 (Host.dotGeneral dot_S8192x11264_S2048x11264_S8192x2048_1_1_0_0_n_n none (extf .f32 A bitsLt_bf16_f32 : FVec Ideal _ .f32) (extf .f32 B bitsLt_bf16_f32 : FVec Ideal _ .f32)) bitsLt_bf16_f32 : FVec Ideal S8192x2048 .bf16) = Cert.Kernel4Ideal.Product.prod A B := by
  funext y
  obtain ⟨r, s, rfl⟩ : ∃ (r : Fin 8192) (s : Fin 2048), y = ix2 r s := ⟨_, _, eq_ix2 y⟩
  rw [truncf_apply]
  exact (host_nt _ _ _ _ r s).trans (Finset.sum_congr rfl fun k _ => rfl)

/-- The reference's run keeps its arguments and ends with every counter at zero. -/
theorem frame : @Cert.quiescent_Reference4Ideal Cert.Reference4Ideal.Gen.facts := fun m ρ _ =>
  (θ_run _ _ _).mono (fun r h => ⟨fun c => (h c).2, sem_eq_zero_of_no_sems (by decide) r.2⟩) (Cert.Reference4Ideal.Value.run m ρ)

/-- Kernel and reference end with equal arrays. -/
theorem algebraic : @Cert.algebraic_Kernel4Ideal_Reference4Ideal Cert.Kernel4Ideal.Gen.facts Cert.Reference4Ideal.Gen.facts := fun m ρ m' ρ' _ hag =>
  ⟨fun c => Cert.Kernel4Ideal.Product.prod (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)),
    Cert.Kernel4Ideal.Product.run m ρ,
    (θ_run _ _ _).mono (fun _ h c => ⟨(h c).1.trans (by
      rw [(hag c).1, (hag c).2]
      exact term_eq _ _), (h c).2⟩) (Cert.Reference4Ideal.Value.run m' ρ')⟩

end Cert.Reference4Ideal.Product

end
-- ==== Proof.ProductKernel5Ideal.lean ====
/- The product `Kernel5Ideal`: the array the kernel leaves is the whole product, entry by entry the sum over the contracted
   index, over the extended reals. -/
module

public import proofs.«01_k».proof.Proof.Stretches
public import proofs.«01_k».proof.Proof.Gen.Kernel5Ideal.Value

@[expose] public section

noncomputable section

namespace Cert.Kernel5Ideal.Product

open Cert.Kernel5Ideal Cert.Kernel5Ideal.Gen Cert.Kernel5Ideal.Value Cert.Contract
open Idealize.ShloMosaic Idealize.ShloMosaic.TcCoe Idealize.ShloMosaic.ValueIdx Idealize.SL.Sem
open scoped BigOperators

variable (m : (ℓ : Loc nD τ sig) → Buf (Elt Ideal) ℓ) (ρ : Dev nD → PrngReg)

theorem hz : (![0, 0] : Fin 2 → ℕ) = fun _ => 0 := by funext a; fin_cases a <;> rfl

/-- The whole product. -/
def prod (A : S8192x2048.Idx → EReal) (B : S8192x11264.Idx → EReal) : S2048x11264.Idx → EReal :=
  fun i => ∑ k : Fin 8192, A (ix2 k (i 0)) * B (ix2 k (i 1))

theorem idx_facts : ∀ t : Fin cfg0.N, win0_0.index t (0 : Fin 2) = t.val % 4 ∧ win0_0.index t (1 : Fin 2) = t.val / 4 / 8
    ∧ win0_1.index t (0 : Fin 2) = t.val % 4 ∧ win0_1.index t (1 : Fin 2) = t.val / 4 % 8
    ∧ win0_2.index t (0 : Fin 2) = t.val / 4 / 8 ∧ win0_2.index t (1 : Fin 2) = t.val / 4 % 8 :=
  (by decide +kernel : ∀ t : Fin grid0.N, _)

/-- A point's block of the left factor, by numbers. -/
theorem left_apply (c : Dev nD) (t : Fin cfg0.N) (x : Fin 2048) (y : Fin 1024) : iblk m c 0 t (ix2 x y)
    = nat2 (a := 8192) (b := 2048) (m (c.tc.loc main_arg0)) ((t.val % 4) * 2048 + x.val) ((t.val / 4 / 8) * 1024 + y.val) := by
  obtain ⟨e0, e1, -, -, -, -⟩ := idx_facts t
  show V m c main_arg0 (((cfg0.win 0).blk t).view.emb (ix2 x y)) = _
  rw [V_main_arg0]
  refine eq_nat2 _ _ _ _ ?_ ?_
  · show win0_0.index t (0 : Fin 2) * 2048 + 1 * x.val = _; rw [e0, one_mul]
  · show win0_0.index t (1 : Fin 2) * 1024 + 1 * y.val = _; rw [e1, one_mul]

/-- A point's block of the right factor, by numbers. -/
theorem right_apply (c : Dev nD) (t : Fin cfg0.N) (x : Fin 2048) (y : Fin 1408) : iblk m c 1 t (ix2 x y)
    = nat2 (a := 8192) (b := 11264) (m (c.tc.loc main_arg1)) ((t.val % 4) * 2048 + x.val) ((t.val / 4 % 8) * 1408 + y.val) := by
  obtain ⟨-, -, e2, e3, -, -⟩ := idx_facts t
  show V m c main_arg1 (((cfg0.win 1).blk t).view.emb (ix2 x y)) = _
  rw [V_main_arg1]
  refine eq_nat2 _ _ _ _ ?_ ?_
  · show win0_1.index t (0 : Fin 2) * 2048 + 1 * x.val = _; rw [e2, one_mul]
  · show win0_1.index t (1 : Fin 2) * 1408 + 1 * y.val = _; rw [e3, one_mul]

/-- One term of the entry in row `r` and column `s` of the tile written at the end of run `q`, at contracted position `K`. -/
abbrev term (A : S8192x2048.Idx → EReal) (B : S8192x11264.Idx → EReal) (q r s K : ℕ) : EReal :=
  nat2 (a := 8192) (b := 2048) A K (q / 8 * 1024 + r) * nat2 (a := 8192) (b := 11264) B K (q % 8 * 1408 + s)

theorem prod_emb (A : S8192x2048.Idx → EReal) (B : S8192x11264.Idx → EReal) (t : Fin cfg0.N) (r : Fin 1024) (s : Fin 1408) :
    prod A B (((cfg0.win 2).blk t).view.emb (ix2 r s)) = ∑ k : Fin 8192, term A B (t.val / 4) r.val s.val k.val := by
  obtain ⟨-, -, -, -, e4, e5⟩ := idx_facts t
  have h0 : (((cfg0.win 2).blk t).view.emb (ix2 r s) 0).val = t.val / 4 / 8 * 1024 + r.val := by
    show win0_2.index t (0 : Fin 2) * 1024 + 1 * r.val = _; rw [e4, one_mul]
  have h1 : (((cfg0.win 2).blk t).view.emb (ix2 r s) 1).val = t.val / 4 % 8 * 1408 + s.val := by
    show win0_2.index t (1 : Fin 2) * 1408 + 1 * s.val = _; rw [e5, one_mul]
  unfold prod
  refine Finset.sum_congr rfl fun k _ => ?_
  exact congrArg₂ (· * ·) (eq_nat2 A _ _ _ rfl h0) (eq_nat2 B _ _ _ rfl h1)

variable (c : Dev nD) (i : grid0.Coords) (arg3 : Memref sig .tc .vmem S2048x1024 .bf16) (harg3 : arg3.IsWhole) (arg4 : Memref sig .tc .vmem S2048x1408 .bf16) (harg4 : arg4.IsWhole) (arg5 : Memref sig .tc .vmem S1024x1408 .bf16) (harg5 : arg5.IsWhole) (arg6 : Memref sig .tc .vmem S1024x1408 .f32) (harg6 : arg6.IsWhole)
  (x0 : Vec Ideal S2048x1024 .bf16) (x1 : Vec Ideal S2048x1408 .bf16) (xs0 : Vec Ideal S1024x1408 .f32)

theorem store_apply (r : Fin 1024) (s : Fin 1408) : k0_pay4 xs0 (ix2 r s) = xs0 (ix2 r s) := by
  unfold k0_pay4
  rw [truncf_apply]

/-- The product of the two blocks at a point. -/
theorem part_apply (r : Fin 1024) (s : Fin 1408) : k0_pay1 x0 x1 (ix2 r s) = ∑ k : Fin 2048, x0 (ix2 k r) * x1 (ix2 k s) := by
  unfold k0_pay1
  exact matmul_tn _ x0 x1 _ r s

theorem start_apply (r : Fin 1024) (s : Fin 1408) : k0_pay2 x0 x1 (ix2 r s) = k0_pay1 x0 x1 (ix2 r s) := by
  unfold k0_pay2
  rw [shapeCast_self]

theorem next_apply (r : Fin 1024) (s : Fin 1408) : k0_pay3 x0 x1 xs0 (ix2 r s) = xs0 (ix2 r s) + k0_pay1 x0 x1 (ix2 r s) := by
  unfold k0_pay3
  rw [shapeCast_self, addf_apply]

theorem scratch_A (hc0 : cond0_0 i) (hc1 : ¬cond0_1 i) (hc2 : ¬cond0_2 i) :
    sout0_A_0 c i arg3 harg3 arg4 harg4 arg5 harg5 arg6 harg6 hc0 hc1 hc2 x0 x1 = k0_pay2 x0 x1 := by
  unfold sout0_A_0
  rw [View.read_writes_eq_canon _ _ _ (scover0_A_0 c i arg3 harg3 arg4 harg4 arg5 harg5 arg6 harg6 hc0 hc1 hc2 x0 x1)]
  unfold kernelRun0_A
  dsimp only
  sl_unfold_words
  rw [View.canon_unit_zero hz]
  simp only [View.readAt_eq_ld, harg3.read_unread, harg4.read_unread, harg6.read_unread, View.ld_unit_zero (S := S2048x1024) hz, View.ld_unit_zero (S := S2048x1408) hz,
    View.ld_unit_zero (S := S1024x1408) hz]

theorem scratch_B (hc0 : ¬cond0_0 i) (hc1 : cond0_1 i) (hc2 : ¬cond0_2 i) :
    sout0_B_0 c i arg3 harg3 arg4 harg4 arg5 harg5 arg6 harg6 hc0 hc1 hc2 x0 x1 xs0 = k0_pay3 x0 x1 xs0 := by
  unfold sout0_B_0
  rw [View.read_writes_eq_canon _ _ _ (scover0_B_0 c i arg3 harg3 arg4 harg4 arg5 harg5 arg6 harg6 hc0 hc1 hc2 x0 x1 xs0)]
  unfold kernelRun0_B
  dsimp only
  sl_unfold_words
  rw [View.canon_unit_zero hz]
  simp only [View.readAt_eq_ld, harg3.read_unread, harg4.read_unread, harg6.read_unread, View.ld_unit_zero (S := S2048x1024) hz, View.ld_unit_zero (S := S2048x1408) hz,
    View.ld_unit_zero (S := S1024x1408) hz]

theorem scratch_C (hc0 : ¬cond0_0 i) (hc1 : cond0_1 i) (hc2 : cond0_2 i) :
    sout0_C_0 c i arg3 harg3 arg4 harg4 arg5 harg5 arg6 harg6 hc0 hc1 hc2 x0 x1 xs0 = k0_pay3 x0 x1 xs0 := by
  unfold sout0_C_0
  rw [View.read_writes_eq_canon _ _ _ (scover0_C_0 c i arg3 harg3 arg4 harg4 arg5 harg5 arg6 harg6 hc0 hc1 hc2 x0 x1 xs0)]
  unfold kernelRun0_C
  dsimp only
  sl_unfold_words
  rw [View.canon_unit_zero hz]
  simp only [View.readAt_eq_ld, harg3.read_unread, harg4.read_unread, harg6.read_unread, View.ld_unit_zero (S := S2048x1024) hz, View.ld_unit_zero (S := S2048x1408) hz,
    View.ld_unit_zero (S := S1024x1408) hz]

theorem out_C (hc0 : ¬cond0_0 i) (hc1 : cond0_1 i) (hc2 : cond0_2 i) :
    out0_C_2 c i arg3 harg3 arg4 harg4 arg5 harg5 arg6 harg6 hc0 hc1 hc2 x0 x1 xs0 = k0_pay4 (k0_pay3 x0 x1 xs0) := by
  unfold out0_C_2
  rw [View.read_writes_eq_canon _ _ _ (cover0_C_2 c i arg3 harg3 arg4 harg4 arg5 harg5 arg6 harg6 hc0 hc1 hc2 x0 x1 xs0)]
  unfold kernelRun0_C
  dsimp only
  sl_unfold_words
  rw [View.canon_unit_zero hz, View.readCov_unit_zero (S := S1024x1408) _ hz]
  simp only [View.readAt_eq_ld, harg3.read_unread, harg4.read_unread, harg6.read_unread, View.ld_unit_zero (S := S2048x1024) hz, View.ld_unit_zero (S := S2048x1408) hz,
    View.ld_unit_zero (S := S1024x1408) hz]

omit i arg3 harg3 arg4 harg4 arg5 harg5 arg6 harg6 x0 x1 xs0

theorem part_block (t : Fin cfg0.N) (r : Fin 1024) (s : Fin 1408) : k0_pay1 (iblk m c 0 t) (iblk m c 1 t) (ix2 r s)
    = ∑ k : Fin 2048, term (m (c.tc.loc main_arg0)) (m (c.tc.loc main_arg1)) (t.val / 4) r.val s.val (2048 * (t.val % 4) + k.val) := by
  refine (part_apply (iblk m c 0 t) (iblk m c 1 t) r s).trans ?_
  refine Finset.sum_congr rfl fun k _ => ?_
  rw [left_apply, right_apply, Nat.mul_comm (t.val % 4) 2048]

/-- The accumulator after a point: the terms of the stretches met so far in its run. -/
theorem fold (r : Fin 1024) (s : Fin 1408) : ∀ (n : ℕ) (h : n < cfg0.N), (outsAt0 m c n h).2 (ix2 r s)
    = ∑ j ∈ Finset.range (n % 4 + 1), ∑ k : Fin 2048, term (m (c.tc.loc main_arg0)) (m (c.tc.loc main_arg1)) (n / 4) r.val s.val (2048 * j + k.val) := by
  refine stretches_so_far (by norm_num) (fun q => term (m (c.tc.loc main_arg0)) (m (c.tc.loc main_arg1)) q r.val s.val)
    (fun n h => (outsAt0 m c n h).2 (ix2 r s)) (fun n h g => ?_) (fun n h g => ?_)
  · rw [outsAt0_A m c ⟨n, h⟩ (by dsimp only; omega) (by dsimp only; omega) (by dsimp only; omega)]
    dsimp only
    rw [scratch_A]
    exact (start_apply _ _ r s).trans (part_block m c ⟨n, h⟩ r s)
  · by_cases g1 : n % 4 = 3
    · rw [outsAt0_C m c ⟨n, h⟩ (by dsimp only; omega) (by dsimp only; omega) (by dsimp only; omega)]
      dsimp only
      rw [scratch_C]
      exact (next_apply _ _ _ r s).trans (congrArg _ (part_block m c ⟨n, h⟩ r s))
    · rw [outsAt0_B m c ⟨n, h⟩ (by dsimp only; omega) (by dsimp only; omega) (by dsimp only; omega)]
      dsimp only
      rw [scratch_B]
      exact (next_apply _ _ _ r s).trans (congrArg _ (part_block m c ⟨n, h⟩ r s))

/-- What a flushing point writes back is its block of the whole product. -/
theorem flushed_eq (t : Fin cfg0.N) (hf : (cfg0.win 2).flush t = true) : (dats m 0 c).flushed 2 t
    = ((cfg0.win 2).blk t).view.read (Elt Ideal) (prod (m (c.tc.loc main_arg0)) (m (c.tc.loc main_arg1))) := by
  have hm : t.val % 4 = 3 := (flush0_2 t).mp hf
  generalize hX : ((cfg0.win 2).blk t).view.read (Elt Ideal) (prod (m (c.tc.loc main_arg0)) (m (c.tc.loc main_arg1))) = X
  rw [flushed2]
  have hfold := fun r s => fold m c r s t.val t.isLt
  rw [outsAt0_C m c t (by omega) (by omega) (by omega)] at hfold ⊢
  dsimp only at hfold ⊢
  rw [scratch_C] at hfold
  rw [out_C]
  subst hX
  funext y
  obtain ⟨r, s, rfl⟩ : ∃ (r : Fin 1024) (s : Fin 1408), y = ix2 r s := ⟨_, _, eq_ix2 y⟩
  have e := (prod_emb (m (c.tc.loc main_arg0)) (m (c.tc.loc main_arg1)) t r s).trans
    (sum_stretches (α := EReal) ((3) + 1) 2048 8192 (by norm_num) (fun K => term (m (c.tc.loc main_arg0)) (m (c.tc.loc main_arg1)) (t.val / 4) r.val s.val K)).symm
  have h1 := hfold r s
  rw [hm] at h1
  refine (store_apply _ r s).trans (h1.trans ?_)
  have hr : ∀ f : S2048x11264.Idx → EReal, ((cfg0.win 2).blk t).view.read (Elt Ideal) f (ix2 r s) = f (((cfg0.win 2).blk t).view.emb (ix2 r s)) := fun _ => rfl
  exact ((hr _).trans e).symm

/-- The last point of run `q`. -/
abbrev lastPt (a : Fin 2) (b : Fin 8) : Fin grid0.N := ⟨4 * (8 * a.val + b.val) + 3, lt_of_lt_of_eq (by omega) N_0.symm⟩

theorem idx_onto : ∀ (a : Fin 2) (b : Fin 8), win0_2.flush (lastPt a b) = true ∧ win0_2.index (lastPt a b) = ![a.val, b.val] := by
  decide +kernel

theorem mem_blk (t : Fin cfg0.N) (i : S2048x11264.Idx) :
    i ∈ ((cfg0.win 2).blk t).view.set ↔ ∀ a : Fin 2, win0_2.index t a * S1024x1408.size a ≤ (i a).val ∧ (i a).val < win0_2.index t a * S1024x1408.size a + S1024x1408.size a := by
  show i ∈ ((View.whole main_v0).slice (win0_2.rect t)).set ↔ _
  rw [View.set_slice_whole, Rect.mem_set_unit]
  exact Iff.rfl

/-- The array after the run is the whole product. -/
theorem final (c : Dev nD) : (dats m 0 c).arrAt 2 cfg0.N = prod (m (c.tc.loc main_arg0)) (m (c.tc.loc main_arg1)) :=
  (dats m 0 c).arrAt_eq_of_cover 2 _ (flushed_eq m c) fun i => by
    have h0 : (i 0).val < 2048 := (i 0).isLt
    have h1 : (i 1).val < 11264 := (i 1).isLt
    obtain ⟨hf, ht⟩ := idx_onto ⟨(i 0).val / 1024, by omega⟩ ⟨(i 1).val / 1408, by omega⟩
    refine ⟨_, hf, ?_⟩
    have q0 := congrFun ht (0 : Fin 2)
    have q1 := congrFun ht (1 : Fin 2)
    change _ = (i 0).val / 1024 at q0
    change _ = (i 1).val / 1408 at q1
    rw [mem_blk]
    generalize lastPt _ _ = t at q0 q1
    intro a
    match a with
    | ⟨0, _⟩ => show win0_2.index t (0 : Fin 2) * 1024 ≤ (i 0).val ∧ (i 0).val < win0_2.index t (0 : Fin 2) * 1024 + 1024; omega
    | ⟨1, _⟩ => show win0_2.index t (1 : Fin 2) * 1408 ≤ (i 1).val ∧ (i 1).val < win0_2.index t (1 : Fin 2) * 1408 + 1408; omega

theorem run : θ_run defs (onTc (τ := τ) (main (F := Ideal))) ⟨m, fun _ => 0, ρ⟩ fun r => ∀ c : Dev nD,
      r.2.mem (c.tc.loc main_v0) = prod (m (c.tc.loc main_arg0)) (m (c.tc.loc main_arg1))
      ∧ r.2.mem (c.tc.loc main_arg0) = m (c.tc.loc main_arg0)
      ∧ r.2.mem (c.tc.loc main_arg1) = m (c.tc.loc main_arg1) :=
  (θ_run defs _ _).mono (fun _ h c => ⟨(h c).1.trans (final m c), (h c).2⟩) (run_blocks m ρ)

end Cert.Kernel5Ideal.Product

end
-- ==== Proof.EqualKernel5.lean ====
/- The gradient of the first weight of the feed-forward network: the reference's array is the kernel's product, and with it the claims about the pair. -/
module

public import proofs.«01_k».proof.Defs
public import proofs.«01_k».proof.Proof.ProductKernel5Ideal
public import proofs.«01_k».proof.Proof.Gen.Reference5Ideal.Run

@[expose] public section

noncomputable section

namespace Cert.Reference5Ideal.Product

open Cert.Reference5Ideal Cert.Reference5Ideal.Gen Cert.Contract
open Idealize.ShloMosaic Idealize.ShloMosaic.TcCoe Idealize.ShloMosaic.ValueIdx Idealize.SL.Sem
open scoped BigOperators

/-- The array the reference computes, entry by entry, is the sum the kernel forms. -/
theorem term_eq (A : FVec Ideal S8192x2048 .bf16) (B : FVec Ideal S8192x11264 .bf16) :
    (truncf .bf16 (transpose S2048x11264 [1, 0] (Host.dotGeneral dot_S8192x11264_S8192x2048_S11264x2048_0_0_1_1_n_n none (extf .f32 B bitsLt_bf16_f32 : FVec Ideal _ .f32) (extf .f32 A bitsLt_bf16_f32 : FVec Ideal _ .f32)) transposes_S11264x2048_S2048x11264_1_0) bitsLt_bf16_f32 : FVec Ideal S2048x11264 .bf16) = Cert.Kernel5Ideal.Product.prod A B := by
  funext y
  obtain ⟨r, s, rfl⟩ : ∃ (r : Fin 2048) (s : Fin 11264), y = ix2 r s := ⟨_, _, eq_ix2 y⟩
  rw [truncf_apply]
  rw [transpose_apply [1, 0] _ _ (ix2 r s) (ix2 s r) (by intro b; fin_cases b <;> rfl)]
  exact (host_tn _ _ _ _ s r).trans (Finset.sum_congr rfl fun k _ => mul_comm _ _)

/-- The reference's run keeps its arguments and ends with every counter at zero. -/
theorem frame : @Cert.quiescent_Reference5Ideal Cert.Reference5Ideal.Gen.facts := fun m ρ _ =>
  (θ_run _ _ _).mono (fun r h => ⟨fun c => (h c).2, sem_eq_zero_of_no_sems (by decide) r.2⟩) (Cert.Reference5Ideal.Value.run m ρ)

/-- Kernel and reference end with equal arrays. -/
theorem algebraic : @Cert.algebraic_Kernel5Ideal_Reference5Ideal Cert.Kernel5Ideal.Gen.facts Cert.Reference5Ideal.Gen.facts := fun m ρ m' ρ' _ hag =>
  ⟨fun c => Cert.Kernel5Ideal.Product.prod (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)),
    Cert.Kernel5Ideal.Product.run m ρ,
    (θ_run _ _ _).mono (fun _ h c => ⟨(h c).1.trans (by
      rw [(hag c).1, (hag c).2]
      exact term_eq _ _), (h c).2⟩) (Cert.Reference5Ideal.Value.run m' ρ')⟩

end Cert.Reference5Ideal.Product

end
-- ==== Proof.ProductKernel6Ideal.lean ====
/- The product `Kernel6Ideal`: the array the kernel leaves is the whole product, entry by entry the sum over the contracted
   index, over the extended reals. -/
module

public import proofs.«01_k».proof.Proof.Contract
public import proofs.«01_k».proof.Proof.Gen.Kernel6Ideal.Value

@[expose] public section

noncomputable section

namespace Cert.Kernel6Ideal.Product

open Cert.Kernel6Ideal Cert.Kernel6Ideal.Gen Cert.Kernel6Ideal.Value Cert.Contract
open Idealize.ShloMosaic Idealize.ShloMosaic.TcCoe Idealize.ShloMosaic.ValueIdx Idealize.SL.Sem
open scoped BigOperators

variable (m : (ℓ : Loc nD τ sig) → Buf (Elt Ideal) ℓ) (ρ : Dev nD → PrngReg)

theorem hz : (![0, 0] : Fin 2 → ℕ) = fun _ => 0 := by funext a; fin_cases a <;> rfl

/-- The whole product. -/
def prod (A : S8192x2048.Idx → EReal) (B : S2048x2048.Idx → EReal) : S8192x2048.Idx → EReal :=
  fun i => ∑ k : Fin 2048, A (ix2 (i 0) k) * B (ix2 (i 1) k)

theorem idx_facts : ∀ t : Fin cfg0.N, win0_0.index t (0 : Fin 2) = t.val / 1 / 2 ∧ win0_0.index t (1 : Fin 2) = t.val % 1
    ∧ win0_1.index t (0 : Fin 2) = t.val / 1 % 2 ∧ win0_1.index t (1 : Fin 2) = t.val % 1
    ∧ win0_2.index t (0 : Fin 2) = t.val / 1 / 2 ∧ win0_2.index t (1 : Fin 2) = t.val / 1 % 2 :=
  (by decide +kernel : ∀ t : Fin grid0.N, _)

/-- A point's block of the left factor, by numbers. -/
theorem left_apply (c : Dev nD) (t : Fin cfg0.N) (x : Fin 1024) (y : Fin 2048) : iblk m c 0 t (ix2 x y)
    = nat2 (a := 8192) (b := 2048) (m (c.tc.loc main_arg0)) ((t.val / 1 / 2) * 1024 + x.val) ((t.val % 1) * 2048 + y.val) := by
  obtain ⟨e0, e1, -, -, -, -⟩ := idx_facts t
  show V m c main_arg0 (((cfg0.win 0).blk t).view.emb (ix2 x y)) = _
  rw [V_main_arg0]
  refine eq_nat2 _ _ _ _ ?_ ?_
  · show win0_0.index t (0 : Fin 2) * 1024 + 1 * x.val = _; rw [e0, one_mul]
  · show win0_0.index t (1 : Fin 2) * 2048 + 1 * y.val = _; rw [e1, one_mul]

/-- A point's block of the right factor, by numbers. -/
theorem right_apply (c : Dev nD) (t : Fin cfg0.N) (x : Fin 1024) (y : Fin 2048) : iblk m c 1 t (ix2 x y)
    = nat2 (a := 2048) (b := 2048) (m (c.tc.loc main_arg1)) ((t.val / 1 % 2) * 1024 + x.val) ((t.val % 1) * 2048 + y.val) := by
  obtain ⟨-, -, e2, e3, -, -⟩ := idx_facts t
  show V m c main_arg1 (((cfg0.win 1).blk t).view.emb (ix2 x y)) = _
  rw [V_main_arg1]
  refine eq_nat2 _ _ _ _ ?_ ?_
  · show win0_1.index t (0 : Fin 2) * 1024 + 1 * x.val = _; rw [e2, one_mul]
  · show win0_1.index t (1 : Fin 2) * 2048 + 1 * y.val = _; rw [e3, one_mul]

/-- One term of the entry in row `r` and column `s` of the tile written at the end of run `q`, at contracted position `K`. -/
abbrev term (A : S8192x2048.Idx → EReal) (B : S2048x2048.Idx → EReal) (q r s K : ℕ) : EReal :=
  nat2 (a := 8192) (b := 2048) A (q / 2 * 1024 + r) K * nat2 (a := 2048) (b := 2048) B (q % 2 * 1024 + s) K

theorem prod_emb (A : S8192x2048.Idx → EReal) (B : S2048x2048.Idx → EReal) (t : Fin cfg0.N) (r : Fin 1024) (s : Fin 1024) :
    prod A B (((cfg0.win 2).blk t).view.emb (ix2 r s)) = ∑ k : Fin 2048, term A B (t.val / 1) r.val s.val k.val := by
  obtain ⟨-, -, -, -, e4, e5⟩ := idx_facts t
  have h0 : (((cfg0.win 2).blk t).view.emb (ix2 r s) 0).val = t.val / 1 / 2 * 1024 + r.val := by
    show win0_2.index t (0 : Fin 2) * 1024 + 1 * r.val = _; rw [e4, one_mul]
  have h1 : (((cfg0.win 2).blk t).view.emb (ix2 r s) 1).val = t.val / 1 % 2 * 1024 + s.val := by
    show win0_2.index t (1 : Fin 2) * 1024 + 1 * s.val = _; rw [e5, one_mul]
  unfold prod
  refine Finset.sum_congr rfl fun k _ => ?_
  exact congrArg₂ (· * ·) (eq_nat2 A _ _ _ h0 rfl) (eq_nat2 B _ _ _ h1 rfl)

/-- One tile: the product of the two blocks. -/
theorem out_apply (x0 : Vec Ideal S1024x2048 .bf16) (x1 : Vec Ideal S1024x2048 .bf16) (r : Fin 1024) (s : Fin 1024) :
    out0_2 x0 x1 (ix2 r s) = ∑ k : Fin 2048, x0 (ix2 r k) * x1 (ix2 s k) := by
  unfold out0_2
  rw [View.canon_unit_zero hz, View.ld_unit_zero (S := S1024x2048) hz, View.ld_unit_zero (S := S1024x2048) hz]
  unfold k0_pay1
  rw [truncf_apply]
  exact matmul_nt _ x0 x1 _ r s

/-- What a point writes back is its block of the whole product. -/
theorem flushed_eq (c : Dev nD) (t : Fin cfg0.N) (_hf : (cfg0.win 2).flush t = true) : (dats m 0 c).flushed 2 t
    = ((cfg0.win 2).blk t).view.read (Elt Ideal) (prod (m (c.tc.loc main_arg0)) (m (c.tc.loc main_arg1))) := by
  rw [flushed2]
  funext y
  obtain ⟨r, s, rfl⟩ : ∃ (r : Fin 1024) (s : Fin 1024), y = ix2 r s := ⟨_, _, eq_ix2 y⟩
  refine (out_apply (iblk m c 0 t) (iblk m c 1 t) r s).trans ?_
  refine Eq.trans ?_ (prod_emb _ _ t r s).symm
  refine Finset.sum_congr rfl fun k _ => ?_
  rw [left_apply, right_apply, show t.val % 1 * 2048 + k.val = k.val by omega]

/-- The last point of run `q`. -/
abbrev lastPt (a : Fin 8) (b : Fin 2) : Fin grid0.N := ⟨1 * (2 * a.val + b.val) + 0, lt_of_lt_of_eq (by omega) N_0.symm⟩

theorem idx_onto : ∀ (a : Fin 8) (b : Fin 2), win0_2.flush (lastPt a b) = true ∧ win0_2.index (lastPt a b) = ![a.val, b.val] := by
  decide +kernel

theorem mem_blk (t : Fin cfg0.N) (i : S8192x2048.Idx) :
    i ∈ ((cfg0.win 2).blk t).view.set ↔ ∀ a : Fin 2, win0_2.index t a * S1024x1024.size a ≤ (i a).val ∧ (i a).val < win0_2.index t a * S1024x1024.size a + S1024x1024.size a := by
  show i ∈ ((View.whole main_v0).slice (win0_2.rect t)).set ↔ _
  rw [View.set_slice_whole, Rect.mem_set_unit]
  exact Iff.rfl

/-- The array after the run is the whole product. -/
theorem final (c : Dev nD) : (dats m 0 c).arrAt 2 cfg0.N = prod (m (c.tc.loc main_arg0)) (m (c.tc.loc main_arg1)) :=
  (dats m 0 c).arrAt_eq_of_cover 2 _ (flushed_eq m c) fun i => by
    have h0 : (i 0).val < 8192 := (i 0).isLt
    have h1 : (i 1).val < 2048 := (i 1).isLt
    obtain ⟨hf, ht⟩ := idx_onto ⟨(i 0).val / 1024, by omega⟩ ⟨(i 1).val / 1024, by omega⟩
    refine ⟨_, hf, ?_⟩
    have q0 := congrFun ht (0 : Fin 2)
    have q1 := congrFun ht (1 : Fin 2)
    change _ = (i 0).val / 1024 at q0
    change _ = (i 1).val / 1024 at q1
    rw [mem_blk]
    generalize lastPt _ _ = t at q0 q1
    intro a
    match a with
    | ⟨0, _⟩ => show win0_2.index t (0 : Fin 2) * 1024 ≤ (i 0).val ∧ (i 0).val < win0_2.index t (0 : Fin 2) * 1024 + 1024; omega
    | ⟨1, _⟩ => show win0_2.index t (1 : Fin 2) * 1024 ≤ (i 1).val ∧ (i 1).val < win0_2.index t (1 : Fin 2) * 1024 + 1024; omega

theorem run : θ_run defs (onTc (τ := τ) (main (F := Ideal))) ⟨m, fun _ => 0, ρ⟩ fun r => ∀ c : Dev nD,
      r.2.mem (c.tc.loc main_v0) = prod (m (c.tc.loc main_arg0)) (m (c.tc.loc main_arg1))
      ∧ r.2.mem (c.tc.loc main_arg0) = m (c.tc.loc main_arg0)
      ∧ r.2.mem (c.tc.loc main_arg1) = m (c.tc.loc main_arg1) :=
  (θ_run defs _ _).mono (fun _ h c => ⟨(h c).1.trans (final m c), (h c).2⟩) (run_blocks m ρ)

end Cert.Kernel6Ideal.Product

end
-- ==== Proof.EqualKernel6.lean ====
/- The gradient of the input of an output projection: the reference's array is the kernel's product, and with it the claims about the pair. -/
module

public import proofs.«01_k».proof.Defs
public import proofs.«01_k».proof.Proof.ProductKernel6Ideal
public import proofs.«01_k».proof.Proof.Gen.Reference6Ideal.Run

@[expose] public section

noncomputable section

namespace Cert.Reference6Ideal.Product

open Cert.Reference6Ideal Cert.Reference6Ideal.Gen Cert.Contract
open Idealize.ShloMosaic Idealize.ShloMosaic.TcCoe Idealize.ShloMosaic.ValueIdx Idealize.SL.Sem
open scoped BigOperators

/-- The array the reference computes, entry by entry, is the sum the kernel forms. -/
theorem term_eq (A : FVec Ideal S8192x2048 .bf16) (B : FVec Ideal S2048x2048 .bf16) :
    (truncf .bf16 (Host.dotGeneral dot_S8192x2048_S2048x2048_S8192x2048_1_1_0_0_n_n none (extf .f32 A bitsLt_bf16_f32 : FVec Ideal _ .f32) (extf .f32 B bitsLt_bf16_f32 : FVec Ideal _ .f32)) bitsLt_bf16_f32 : FVec Ideal S8192x2048 .bf16) = Cert.Kernel6Ideal.Product.prod A B := by
  funext y
  obtain ⟨r, s, rfl⟩ : ∃ (r : Fin 8192) (s : Fin 2048), y = ix2 r s := ⟨_, _, eq_ix2 y⟩
  rw [truncf_apply]
  exact (host_nt _ _ _ _ r s).trans (Finset.sum_congr rfl fun k _ => rfl)

/-- The reference's run keeps its arguments and ends with every counter at zero. -/
theorem frame : @Cert.quiescent_Reference6Ideal Cert.Reference6Ideal.Gen.facts := fun m ρ _ =>
  (θ_run _ _ _).mono (fun r h => ⟨fun c => (h c).2, sem_eq_zero_of_no_sems (by decide) r.2⟩) (Cert.Reference6Ideal.Value.run m ρ)

/-- Kernel and reference end with equal arrays. -/
theorem algebraic : @Cert.algebraic_Kernel6Ideal_Reference6Ideal Cert.Kernel6Ideal.Gen.facts Cert.Reference6Ideal.Gen.facts := fun m ρ m' ρ' _ hag =>
  ⟨fun c => Cert.Kernel6Ideal.Product.prod (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)),
    Cert.Kernel6Ideal.Product.run m ρ,
    (θ_run _ _ _).mono (fun _ h c => ⟨(h c).1.trans (by
      rw [(hag c).1, (hag c).2]
      exact term_eq _ _), (h c).2⟩) (Cert.Reference6Ideal.Value.run m' ρ')⟩

end Cert.Reference6Ideal.Product

end
-- ==== Proof.ProductKernel7Ideal.lean ====
/- The product `Kernel7Ideal`: the array the kernel leaves is the whole product, entry by entry the sum over the contracted
   index, over the extended reals. -/
module

public import proofs.«01_k».proof.Proof.Stretches
public import proofs.«01_k».proof.Proof.Gen.Kernel7Ideal.Value

@[expose] public section

noncomputable section

namespace Cert.Kernel7Ideal.Product

open Cert.Kernel7Ideal Cert.Kernel7Ideal.Gen Cert.Kernel7Ideal.Value Cert.Contract
open Idealize.ShloMosaic Idealize.ShloMosaic.TcCoe Idealize.ShloMosaic.ValueIdx Idealize.SL.Sem
open scoped BigOperators

variable (m : (ℓ : Loc nD τ sig) → Buf (Elt Ideal) ℓ) (ρ : Dev nD → PrngReg)

theorem hz : (![0, 0] : Fin 2 → ℕ) = fun _ => 0 := by funext a; fin_cases a <;> rfl

/-- The whole product. -/
def prod (A : S8192x2048.Idx → EReal) (B : S8192x2048.Idx → EReal) : S2048x2048.Idx → EReal :=
  fun i => ∑ k : Fin 8192, A (ix2 k (i 0)) * B (ix2 k (i 1))

theorem idx_facts : ∀ t : Fin cfg0.N, win0_0.index t (0 : Fin 2) = t.val % 2 ∧ win0_0.index t (1 : Fin 2) = t.val / 2 / 2
    ∧ win0_1.index t (0 : Fin 2) = t.val % 2 ∧ win0_1.index t (1 : Fin 2) = t.val / 2 % 2
    ∧ win0_2.index t (0 : Fin 2) = t.val / 2 / 2 ∧ win0_2.index t (1 : Fin 2) = t.val / 2 % 2 :=
  (by decide +kernel : ∀ t : Fin grid0.N, _)

/-- A point's block of the left factor, by numbers. -/
theorem left_apply (c : Dev nD) (t : Fin cfg0.N) (x : Fin 4096) (y : Fin 1024) : iblk m c 0 t (ix2 x y)
    = nat2 (a := 8192) (b := 2048) (m (c.tc.loc main_arg0)) ((t.val % 2) * 4096 + x.val) ((t.val / 2 / 2) * 1024 + y.val) := by
  obtain ⟨e0, e1, -, -, -, -⟩ := idx_facts t
  show V m c main_arg0 (((cfg0.win 0).blk t).view.emb (ix2 x y)) = _
  rw [V_main_arg0]
  refine eq_nat2 _ _ _ _ ?_ ?_
  · show win0_0.index t (0 : Fin 2) * 4096 + 1 * x.val = _; rw [e0, one_mul]
  · show win0_0.index t (1 : Fin 2) * 1024 + 1 * y.val = _; rw [e1, one_mul]

/-- A point's block of the right factor, by numbers. -/
theorem right_apply (c : Dev nD) (t : Fin cfg0.N) (x : Fin 4096) (y : Fin 1024) : iblk m c 1 t (ix2 x y)
    = nat2 (a := 8192) (b := 2048) (m (c.tc.loc main_arg1)) ((t.val % 2) * 4096 + x.val) ((t.val / 2 % 2) * 1024 + y.val) := by
  obtain ⟨-, -, e2, e3, -, -⟩ := idx_facts t
  show V m c main_arg1 (((cfg0.win 1).blk t).view.emb (ix2 x y)) = _
  rw [V_main_arg1]
  refine eq_nat2 _ _ _ _ ?_ ?_
  · show win0_1.index t (0 : Fin 2) * 4096 + 1 * x.val = _; rw [e2, one_mul]
  · show win0_1.index t (1 : Fin 2) * 1024 + 1 * y.val = _; rw [e3, one_mul]

/-- One term of the entry in row `r` and column `s` of the tile written at the end of run `q`, at contracted position `K`. -/
abbrev term (A : S8192x2048.Idx → EReal) (B : S8192x2048.Idx → EReal) (q r s K : ℕ) : EReal :=
  nat2 (a := 8192) (b := 2048) A K (q / 2 * 1024 + r) * nat2 (a := 8192) (b := 2048) B K (q % 2 * 1024 + s)

theorem prod_emb (A : S8192x2048.Idx → EReal) (B : S8192x2048.Idx → EReal) (t : Fin cfg0.N) (r : Fin 1024) (s : Fin 1024) :
    prod A B (((cfg0.win 2).blk t).view.emb (ix2 r s)) = ∑ k : Fin 8192, term A B (t.val / 2) r.val s.val k.val := by
  obtain ⟨-, -, -, -, e4, e5⟩ := idx_facts t
  have h0 : (((cfg0.win 2).blk t).view.emb (ix2 r s) 0).val = t.val / 2 / 2 * 1024 + r.val := by
    show win0_2.index t (0 : Fin 2) * 1024 + 1 * r.val = _; rw [e4, one_mul]
  have h1 : (((cfg0.win 2).blk t).view.emb (ix2 r s) 1).val = t.val / 2 % 2 * 1024 + s.val := by
    show win0_2.index t (1 : Fin 2) * 1024 + 1 * s.val = _; rw [e5, one_mul]
  unfold prod
  refine Finset.sum_congr rfl fun k _ => ?_
  exact congrArg₂ (· * ·) (eq_nat2 A _ _ _ rfl h0) (eq_nat2 B _ _ _ rfl h1)

variable (c : Dev nD) (i : grid0.Coords) (arg3 : Memref sig .tc .vmem S4096x1024 .bf16) (harg3 : arg3.IsWhole) (arg4 : Memref sig .tc .vmem S4096x1024 .bf16) (harg4 : arg4.IsWhole) (arg5 : Memref sig .tc .vmem S1024x1024 .bf16) (harg5 : arg5.IsWhole) (arg6 : Memref sig .tc .vmem S1024x1024 .f32) (harg6 : arg6.IsWhole)
  (x0 : Vec Ideal S4096x1024 .bf16) (x1 : Vec Ideal S4096x1024 .bf16) (xs0 : Vec Ideal S1024x1024 .f32)

theorem store_apply (r : Fin 1024) (s : Fin 1024) : k0_pay4 xs0 (ix2 r s) = xs0 (ix2 r s) := by
  unfold k0_pay4
  rw [truncf_apply]

/-- The product of the two blocks at a point. -/
theorem part_apply (r : Fin 1024) (s : Fin 1024) : k0_pay1 x0 x1 (ix2 r s) = ∑ k : Fin 4096, x0 (ix2 k r) * x1 (ix2 k s) := by
  unfold k0_pay1
  exact matmul_tn _ x0 x1 _ r s

theorem start_apply (r : Fin 1024) (s : Fin 1024) : k0_pay2 x0 x1 (ix2 r s) = k0_pay1 x0 x1 (ix2 r s) := by
  unfold k0_pay2
  rw [shapeCast_self]

theorem next_apply (r : Fin 1024) (s : Fin 1024) : k0_pay3 x0 x1 xs0 (ix2 r s) = xs0 (ix2 r s) + k0_pay1 x0 x1 (ix2 r s) := by
  unfold k0_pay3
  rw [shapeCast_self, addf_apply]

theorem scratch_A (hc0 : cond0_0 i) (hc1 : ¬cond0_1 i) (hc2 : ¬cond0_2 i) :
    sout0_A_0 c i arg3 harg3 arg4 harg4 arg5 harg5 arg6 harg6 hc0 hc1 hc2 x0 x1 = k0_pay2 x0 x1 := by
  unfold sout0_A_0
  rw [View.read_writes_eq_canon _ _ _ (scover0_A_0 c i arg3 harg3 arg4 harg4 arg5 harg5 arg6 harg6 hc0 hc1 hc2 x0 x1)]
  unfold kernelRun0_A
  dsimp only
  sl_unfold_words
  rw [View.canon_unit_zero hz]
  simp only [View.readAt_eq_ld, harg3.read_unread, harg4.read_unread, harg6.read_unread, View.ld_unit_zero (S := S4096x1024) hz, View.ld_unit_zero (S := S4096x1024) hz,
    View.ld_unit_zero (S := S1024x1024) hz]

theorem scratch_B (hc0 : ¬cond0_0 i) (hc1 : cond0_1 i) (hc2 : cond0_2 i) :
    sout0_B_0 c i arg3 harg3 arg4 harg4 arg5 harg5 arg6 harg6 hc0 hc1 hc2 x0 x1 xs0 = k0_pay3 x0 x1 xs0 := by
  unfold sout0_B_0
  rw [View.read_writes_eq_canon _ _ _ (scover0_B_0 c i arg3 harg3 arg4 harg4 arg5 harg5 arg6 harg6 hc0 hc1 hc2 x0 x1 xs0)]
  unfold kernelRun0_B
  dsimp only
  sl_unfold_words
  rw [View.canon_unit_zero hz]
  simp only [View.readAt_eq_ld, harg3.read_unread, harg4.read_unread, harg6.read_unread, View.ld_unit_zero (S := S4096x1024) hz, View.ld_unit_zero (S := S4096x1024) hz,
    View.ld_unit_zero (S := S1024x1024) hz]

theorem out_B (hc0 : ¬cond0_0 i) (hc1 : cond0_1 i) (hc2 : cond0_2 i) :
    out0_B_2 c i arg3 harg3 arg4 harg4 arg5 harg5 arg6 harg6 hc0 hc1 hc2 x0 x1 xs0 = k0_pay4 (k0_pay3 x0 x1 xs0) := by
  unfold out0_B_2
  rw [View.read_writes_eq_canon _ _ _ (cover0_B_2 c i arg3 harg3 arg4 harg4 arg5 harg5 arg6 harg6 hc0 hc1 hc2 x0 x1 xs0)]
  unfold kernelRun0_B
  dsimp only
  sl_unfold_words
  rw [View.canon_unit_zero hz, View.readCov_unit_zero (S := S1024x1024) _ hz]
  simp only [View.readAt_eq_ld, harg3.read_unread, harg4.read_unread, harg6.read_unread, View.ld_unit_zero (S := S4096x1024) hz, View.ld_unit_zero (S := S4096x1024) hz,
    View.ld_unit_zero (S := S1024x1024) hz]

omit i arg3 harg3 arg4 harg4 arg5 harg5 arg6 harg6 x0 x1 xs0

theorem part_block (t : Fin cfg0.N) (r : Fin 1024) (s : Fin 1024) : k0_pay1 (iblk m c 0 t) (iblk m c 1 t) (ix2 r s)
    = ∑ k : Fin 4096, term (m (c.tc.loc main_arg0)) (m (c.tc.loc main_arg1)) (t.val / 2) r.val s.val (4096 * (t.val % 2) + k.val) := by
  refine (part_apply (iblk m c 0 t) (iblk m c 1 t) r s).trans ?_
  refine Finset.sum_congr rfl fun k _ => ?_
  rw [left_apply, right_apply, Nat.mul_comm (t.val % 2) 4096]

/-- The accumulator after a point: the terms of the stretches met so far in its run. -/
theorem fold (r : Fin 1024) (s : Fin 1024) : ∀ (n : ℕ) (h : n < cfg0.N), (outsAt0 m c n h).2 (ix2 r s)
    = ∑ j ∈ Finset.range (n % 2 + 1), ∑ k : Fin 4096, term (m (c.tc.loc main_arg0)) (m (c.tc.loc main_arg1)) (n / 2) r.val s.val (4096 * j + k.val) := by
  refine stretches_so_far (by norm_num) (fun q => term (m (c.tc.loc main_arg0)) (m (c.tc.loc main_arg1)) q r.val s.val)
    (fun n h => (outsAt0 m c n h).2 (ix2 r s)) (fun n h g => ?_) (fun n h g => ?_)
  · rw [outsAt0_A m c ⟨n, h⟩ (by dsimp only; omega) (by dsimp only; omega) (by dsimp only; omega)]
    dsimp only
    rw [scratch_A]
    exact (start_apply _ _ r s).trans (part_block m c ⟨n, h⟩ r s)
  · rw [outsAt0_B m c ⟨n, h⟩ (by dsimp only; omega) (by dsimp only; omega) (by dsimp only; omega)]
    dsimp only
    rw [scratch_B]
    exact (next_apply _ _ _ r s).trans (congrArg _ (part_block m c ⟨n, h⟩ r s))

/-- What a flushing point writes back is its block of the whole product. -/
theorem flushed_eq (t : Fin cfg0.N) (hf : (cfg0.win 2).flush t = true) : (dats m 0 c).flushed 2 t
    = ((cfg0.win 2).blk t).view.read (Elt Ideal) (prod (m (c.tc.loc main_arg0)) (m (c.tc.loc main_arg1))) := by
  have hm : t.val % 2 = 1 := (flush0_2 t).mp hf
  generalize hX : ((cfg0.win 2).blk t).view.read (Elt Ideal) (prod (m (c.tc.loc main_arg0)) (m (c.tc.loc main_arg1))) = X
  rw [flushed2]
  have hfold := fun r s => fold m c r s t.val t.isLt
  rw [outsAt0_B m c t (by omega) (by omega) (by omega)] at hfold ⊢
  dsimp only at hfold ⊢
  rw [scratch_B] at hfold
  rw [out_B]
  subst hX
  funext y
  obtain ⟨r, s, rfl⟩ : ∃ (r : Fin 1024) (s : Fin 1024), y = ix2 r s := ⟨_, _, eq_ix2 y⟩
  have e := (prod_emb (m (c.tc.loc main_arg0)) (m (c.tc.loc main_arg1)) t r s).trans
    (sum_stretches (α := EReal) ((1) + 1) 4096 8192 (by norm_num) (fun K => term (m (c.tc.loc main_arg0)) (m (c.tc.loc main_arg1)) (t.val / 2) r.val s.val K)).symm
  have h1 := hfold r s
  rw [hm] at h1
  refine (store_apply _ r s).trans (h1.trans ?_)
  have hr : ∀ f : S2048x2048.Idx → EReal, ((cfg0.win 2).blk t).view.read (Elt Ideal) f (ix2 r s) = f (((cfg0.win 2).blk t).view.emb (ix2 r s)) := fun _ => rfl
  exact ((hr _).trans e).symm

/-- The last point of run `q`. -/
abbrev lastPt (a : Fin 2) (b : Fin 2) : Fin grid0.N := ⟨2 * (2 * a.val + b.val) + 1, lt_of_lt_of_eq (by omega) N_0.symm⟩

theorem idx_onto : ∀ (a : Fin 2) (b : Fin 2), win0_2.flush (lastPt a b) = true ∧ win0_2.index (lastPt a b) = ![a.val, b.val] := by
  decide +kernel

theorem mem_blk (t : Fin cfg0.N) (i : S2048x2048.Idx) :
    i ∈ ((cfg0.win 2).blk t).view.set ↔ ∀ a : Fin 2, win0_2.index t a * S1024x1024.size a ≤ (i a).val ∧ (i a).val < win0_2.index t a * S1024x1024.size a + S1024x1024.size a := by
  show i ∈ ((View.whole main_v0).slice (win0_2.rect t)).set ↔ _
  rw [View.set_slice_whole, Rect.mem_set_unit]
  exact Iff.rfl

/-- The array after the run is the whole product. -/
theorem final (c : Dev nD) : (dats m 0 c).arrAt 2 cfg0.N = prod (m (c.tc.loc main_arg0)) (m (c.tc.loc main_arg1)) :=
  (dats m 0 c).arrAt_eq_of_cover 2 _ (flushed_eq m c) fun i => by
    have h0 : (i 0).val < 2048 := (i 0).isLt
    have h1 : (i 1).val < 2048 := (i 1).isLt
    obtain ⟨hf, ht⟩ := idx_onto ⟨(i 0).val / 1024, by omega⟩ ⟨(i 1).val / 1024, by omega⟩
    refine ⟨_, hf, ?_⟩
    have q0 := congrFun ht (0 : Fin 2)
    have q1 := congrFun ht (1 : Fin 2)
    change _ = (i 0).val / 1024 at q0
    change _ = (i 1).val / 1024 at q1
    rw [mem_blk]
    generalize lastPt _ _ = t at q0 q1
    intro a
    match a with
    | ⟨0, _⟩ => show win0_2.index t (0 : Fin 2) * 1024 ≤ (i 0).val ∧ (i 0).val < win0_2.index t (0 : Fin 2) * 1024 + 1024; omega
    | ⟨1, _⟩ => show win0_2.index t (1 : Fin 2) * 1024 ≤ (i 1).val ∧ (i 1).val < win0_2.index t (1 : Fin 2) * 1024 + 1024; omega

theorem run : θ_run defs (onTc (τ := τ) (main (F := Ideal))) ⟨m, fun _ => 0, ρ⟩ fun r => ∀ c : Dev nD,
      r.2.mem (c.tc.loc main_v0) = prod (m (c.tc.loc main_arg0)) (m (c.tc.loc main_arg1))
      ∧ r.2.mem (c.tc.loc main_arg0) = m (c.tc.loc main_arg0)
      ∧ r.2.mem (c.tc.loc main_arg1) = m (c.tc.loc main_arg1) :=
  (θ_run defs _ _).mono (fun _ h c => ⟨(h c).1.trans (final m c), (h c).2⟩) (run_blocks m ρ)

end Cert.Kernel7Ideal.Product

end
-- ==== Proof.EqualKernel7.lean ====
/- The gradient of the weight of an output projection: the reference's array is the kernel's product, and with it the claims about the pair. -/
module

public import proofs.«01_k».proof.Defs
public import proofs.«01_k».proof.Proof.ProductKernel7Ideal
public import proofs.«01_k».proof.Proof.Gen.Reference7Ideal.Run

@[expose] public section

noncomputable section

namespace Cert.Reference7Ideal.Product

open Cert.Reference7Ideal Cert.Reference7Ideal.Gen Cert.Contract
open Idealize.ShloMosaic Idealize.ShloMosaic.TcCoe Idealize.ShloMosaic.ValueIdx Idealize.SL.Sem
open scoped BigOperators

/-- The array the reference computes, entry by entry, is the sum the kernel forms. -/
theorem term_eq (A : FVec Ideal S8192x2048 .bf16) (B : FVec Ideal S8192x2048 .bf16) :
    (truncf .bf16 (transpose S2048x2048 [1, 0] (Host.dotGeneral dot_S8192x2048_S8192x2048_S2048x2048_0_0_1_1_n_n none (extf .f32 B bitsLt_bf16_f32 : FVec Ideal _ .f32) (extf .f32 A bitsLt_bf16_f32 : FVec Ideal _ .f32)) transposes_S2048x2048_S2048x2048_1_0) bitsLt_bf16_f32 : FVec Ideal S2048x2048 .bf16) = Cert.Kernel7Ideal.Product.prod A B := by
  funext y
  obtain ⟨r, s, rfl⟩ : ∃ (r : Fin 2048) (s : Fin 2048), y = ix2 r s := ⟨_, _, eq_ix2 y⟩
  rw [truncf_apply]
  rw [transpose_apply [1, 0] _ _ (ix2 r s) (ix2 s r) (by intro b; fin_cases b <;> rfl)]
  exact (host_tn _ _ _ _ s r).trans (Finset.sum_congr rfl fun k _ => mul_comm _ _)

/-- The reference's run keeps its arguments and ends with every counter at zero. -/
theorem frame : @Cert.quiescent_Reference7Ideal Cert.Reference7Ideal.Gen.facts := fun m ρ _ =>
  (θ_run _ _ _).mono (fun r h => ⟨fun c => (h c).2, sem_eq_zero_of_no_sems (by decide) r.2⟩) (Cert.Reference7Ideal.Value.run m ρ)

/-- Kernel and reference end with equal arrays. -/
theorem algebraic : @Cert.algebraic_Kernel7Ideal_Reference7Ideal Cert.Kernel7Ideal.Gen.facts Cert.Reference7Ideal.Gen.facts := fun m ρ m' ρ' _ hag =>
  ⟨fun c => Cert.Kernel7Ideal.Product.prod (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)),
    Cert.Kernel7Ideal.Product.run m ρ,
    (θ_run _ _ _).mono (fun _ h c => ⟨(h c).1.trans (by
      rw [(hag c).1, (hag c).2]
      exact term_eq _ _), (h c).2⟩) (Cert.Reference7Ideal.Value.run m' ρ')⟩

end Cert.Reference7Ideal.Product

end
-- ==== Proof.ProductKernel8Ideal.lean ====
/- The product `Kernel8Ideal`: the array the kernel leaves is the whole product, entry by entry the sum over the contracted
   index, over the extended reals. -/
module

public import proofs.«01_k».proof.Proof.Contract
public import proofs.«01_k».proof.Proof.Gen.Kernel8Ideal.Value

@[expose] public section

noncomputable section

namespace Cert.Kernel8Ideal.Product

open Cert.Kernel8Ideal Cert.Kernel8Ideal.Gen Cert.Kernel8Ideal.Value Cert.Contract
open Idealize.ShloMosaic Idealize.ShloMosaic.TcCoe Idealize.ShloMosaic.ValueIdx Idealize.SL.Sem
open scoped BigOperators

variable (m : (ℓ : Loc nD τ sig) → Buf (Elt Ideal) ℓ) (ρ : Dev nD → PrngReg)

theorem hz : (![0, 0] : Fin 2 → ℕ) = fun _ => 0 := by funext a; fin_cases a <;> rfl

/-- The whole product. -/
def prod (A : S8192x2048.Idx → EReal) (B : S2048x11264.Idx → EReal) : S8192x11264.Idx → EReal :=
  fun i => ∑ k : Fin 2048, A (ix2 (i 0) k) * B (ix2 k (i 1))

theorem idx_facts : ∀ t : Fin cfg0.N, win0_0.index t (0 : Fin 2) = t.val / 1 / 8 ∧ win0_0.index t (1 : Fin 2) = t.val % 1
    ∧ win0_1.index t (0 : Fin 2) = t.val % 1 ∧ win0_1.index t (1 : Fin 2) = t.val / 1 % 8
    ∧ win0_2.index t (0 : Fin 2) = t.val / 1 / 8 ∧ win0_2.index t (1 : Fin 2) = t.val / 1 % 8 :=
  (by decide +kernel : ∀ t : Fin grid0.N, _)

/-- A point's block of the left factor, by numbers. -/
theorem left_apply (c : Dev nD) (t : Fin cfg0.N) (x : Fin 1024) (y : Fin 2048) : iblk m c 0 t (ix2 x y)
    = nat2 (a := 8192) (b := 2048) (m (c.tc.loc main_arg0)) ((t.val / 1 / 8) * 1024 + x.val) ((t.val % 1) * 2048 + y.val) := by
  obtain ⟨e0, e1, -, -, -, -⟩ := idx_facts t
  show V m c main_arg0 (((cfg0.win 0).blk t).view.emb (ix2 x y)) = _
  rw [V_main_arg0]
  refine eq_nat2 _ _ _ _ ?_ ?_
  · show win0_0.index t (0 : Fin 2) * 1024 + 1 * x.val = _; rw [e0, one_mul]
  · show win0_0.index t (1 : Fin 2) * 2048 + 1 * y.val = _; rw [e1, one_mul]

/-- A point's block of the right factor, by numbers. -/
theorem right_apply (c : Dev nD) (t : Fin cfg0.N) (x : Fin 2048) (y : Fin 1408) : iblk m c 1 t (ix2 x y)
    = nat2 (a := 2048) (b := 11264) (m (c.tc.loc main_arg1)) ((t.val % 1) * 2048 + x.val) ((t.val / 1 % 8) * 1408 + y.val) := by
  obtain ⟨-, -, e2, e3, -, -⟩ := idx_facts t
  show V m c main_arg1 (((cfg0.win 1).blk t).view.emb (ix2 x y)) = _
  rw [V_main_arg1]
  refine eq_nat2 _ _ _ _ ?_ ?_
  · show win0_1.index t (0 : Fin 2) * 2048 + 1 * x.val = _; rw [e2, one_mul]
  · show win0_1.index t (1 : Fin 2) * 1408 + 1 * y.val = _; rw [e3, one_mul]

/-- One term of the entry in row `r` and column `s` of the tile written at the end of run `q`, at contracted position `K`. -/
abbrev term (A : S8192x2048.Idx → EReal) (B : S2048x11264.Idx → EReal) (q r s K : ℕ) : EReal :=
  nat2 (a := 8192) (b := 2048) A (q / 8 * 1024 + r) K * nat2 (a := 2048) (b := 11264) B K (q % 8 * 1408 + s)

theorem prod_emb (A : S8192x2048.Idx → EReal) (B : S2048x11264.Idx → EReal) (t : Fin cfg0.N) (r : Fin 1024) (s : Fin 1408) :
    prod A B (((cfg0.win 2).blk t).view.emb (ix2 r s)) = ∑ k : Fin 2048, term A B (t.val / 1) r.val s.val k.val := by
  obtain ⟨-, -, -, -, e4, e5⟩ := idx_facts t
  have h0 : (((cfg0.win 2).blk t).view.emb (ix2 r s) 0).val = t.val / 1 / 8 * 1024 + r.val := by
    show win0_2.index t (0 : Fin 2) * 1024 + 1 * r.val = _; rw [e4, one_mul]
  have h1 : (((cfg0.win 2).blk t).view.emb (ix2 r s) 1).val = t.val / 1 % 8 * 1408 + s.val := by
    show win0_2.index t (1 : Fin 2) * 1408 + 1 * s.val = _; rw [e5, one_mul]
  unfold prod
  refine Finset.sum_congr rfl fun k _ => ?_
  exact congrArg₂ (· * ·) (eq_nat2 A _ _ _ h0 rfl) (eq_nat2 B _ _ _ rfl h1)

/-- One tile: the product of the two blocks. -/
theorem out_apply (x0 : Vec Ideal S1024x2048 .bf16) (x1 : Vec Ideal S2048x1408 .bf16) (r : Fin 1024) (s : Fin 1408) :
    out0_2 x0 x1 (ix2 r s) = ∑ k : Fin 2048, x0 (ix2 r k) * x1 (ix2 k s) := by
  unfold out0_2
  rw [View.canon_unit_zero hz, View.ld_unit_zero (S := S1024x2048) hz, View.ld_unit_zero (S := S2048x1408) hz]
  unfold k0_pay1
  rw [truncf_apply]
  exact matmul_nn _ x0 x1 _ r s

/-- What a point writes back is its block of the whole product. -/
theorem flushed_eq (c : Dev nD) (t : Fin cfg0.N) (_hf : (cfg0.win 2).flush t = true) : (dats m 0 c).flushed 2 t
    = ((cfg0.win 2).blk t).view.read (Elt Ideal) (prod (m (c.tc.loc main_arg0)) (m (c.tc.loc main_arg1))) := by
  rw [flushed2]
  funext y
  obtain ⟨r, s, rfl⟩ : ∃ (r : Fin 1024) (s : Fin 1408), y = ix2 r s := ⟨_, _, eq_ix2 y⟩
  refine (out_apply (iblk m c 0 t) (iblk m c 1 t) r s).trans ?_
  refine Eq.trans ?_ (prod_emb _ _ t r s).symm
  refine Finset.sum_congr rfl fun k _ => ?_
  rw [left_apply, right_apply, show t.val % 1 * 2048 + k.val = k.val by omega]

/-- The last point of run `q`. -/
abbrev lastPt (a : Fin 8) (b : Fin 8) : Fin grid0.N := ⟨1 * (8 * a.val + b.val) + 0, lt_of_lt_of_eq (by omega) N_0.symm⟩

theorem idx_onto : ∀ (a : Fin 8) (b : Fin 8), win0_2.flush (lastPt a b) = true ∧ win0_2.index (lastPt a b) = ![a.val, b.val] := by
  decide +kernel

theorem mem_blk (t : Fin cfg0.N) (i : S8192x11264.Idx) :
    i ∈ ((cfg0.win 2).blk t).view.set ↔ ∀ a : Fin 2, win0_2.index t a * S1024x1408.size a ≤ (i a).val ∧ (i a).val < win0_2.index t a * S1024x1408.size a + S1024x1408.size a := by
  show i ∈ ((View.whole main_v0).slice (win0_2.rect t)).set ↔ _
  rw [View.set_slice_whole, Rect.mem_set_unit]
  exact Iff.rfl

/-- The array after the run is the whole product. -/
theorem final (c : Dev nD) : (dats m 0 c).arrAt 2 cfg0.N = prod (m (c.tc.loc main_arg0)) (m (c.tc.loc main_arg1)) :=
  (dats m 0 c).arrAt_eq_of_cover 2 _ (flushed_eq m c) fun i => by
    have h0 : (i 0).val < 8192 := (i 0).isLt
    have h1 : (i 1).val < 11264 := (i 1).isLt
    obtain ⟨hf, ht⟩ := idx_onto ⟨(i 0).val / 1024, by omega⟩ ⟨(i 1).val / 1408, by omega⟩
    refine ⟨_, hf, ?_⟩
    have q0 := congrFun ht (0 : Fin 2)
    have q1 := congrFun ht (1 : Fin 2)
    change _ = (i 0).val / 1024 at q0
    change _ = (i 1).val / 1408 at q1
    rw [mem_blk]
    generalize lastPt _ _ = t at q0 q1
    intro a
    match a with
    | ⟨0, _⟩ => show win0_2.index t (0 : Fin 2) * 1024 ≤ (i 0).val ∧ (i 0).val < win0_2.index t (0 : Fin 2) * 1024 + 1024; omega
    | ⟨1, _⟩ => show win0_2.index t (1 : Fin 2) * 1408 ≤ (i 1).val ∧ (i 1).val < win0_2.index t (1 : Fin 2) * 1408 + 1408; omega

theorem run : θ_run defs (onTc (τ := τ) (main (F := Ideal))) ⟨m, fun _ => 0, ρ⟩ fun r => ∀ c : Dev nD,
      r.2.mem (c.tc.loc main_v0) = prod (m (c.tc.loc main_arg0)) (m (c.tc.loc main_arg1))
      ∧ r.2.mem (c.tc.loc main_arg0) = m (c.tc.loc main_arg0)
      ∧ r.2.mem (c.tc.loc main_arg1) = m (c.tc.loc main_arg1) :=
  (θ_run defs _ _).mono (fun _ h c => ⟨(h c).1.trans (final m c), (h c).2⟩) (run_blocks m ρ)

end Cert.Kernel8Ideal.Product

end
-- ==== Proof.EqualKernel8.lean ====
/- The first product of the feed-forward network: the reference's array is the kernel's product, and with it the claims about the pair. -/
module

public import proofs.«01_k».proof.Defs
public import proofs.«01_k».proof.Proof.ProductKernel8Ideal
public import proofs.«01_k».proof.Proof.Gen.Reference8Ideal.Run

@[expose] public section

noncomputable section

namespace Cert.Reference8Ideal.Product

open Cert.Reference8Ideal Cert.Reference8Ideal.Gen Cert.Contract
open Idealize.ShloMosaic Idealize.ShloMosaic.TcCoe Idealize.ShloMosaic.ValueIdx Idealize.SL.Sem
open scoped BigOperators

/-- The array the reference computes, entry by entry, is the sum the kernel forms. -/
theorem term_eq (A : FVec Ideal S8192x2048 .bf16) (B : FVec Ideal S2048x11264 .bf16) :
    (truncf .bf16 (Host.dotGeneral dot_S8192x2048_S2048x11264_S8192x11264_1_0_0_1_n_n none (extf .f32 A bitsLt_bf16_f32 : FVec Ideal _ .f32) (extf .f32 B bitsLt_bf16_f32 : FVec Ideal _ .f32)) bitsLt_bf16_f32 : FVec Ideal S8192x11264 .bf16) = Cert.Kernel8Ideal.Product.prod A B := by
  funext y
  obtain ⟨r, s, rfl⟩ : ∃ (r : Fin 8192) (s : Fin 11264), y = ix2 r s := ⟨_, _, eq_ix2 y⟩
  rw [truncf_apply]
  exact (host_nn _ _ _ _ r s).trans (Finset.sum_congr rfl fun k _ => rfl)

/-- The reference's run keeps its arguments and ends with every counter at zero. -/
theorem frame : @Cert.quiescent_Reference8Ideal Cert.Reference8Ideal.Gen.facts := fun m ρ _ =>
  (θ_run _ _ _).mono (fun r h => ⟨fun c => (h c).2, sem_eq_zero_of_no_sems (by decide) r.2⟩) (Cert.Reference8Ideal.Value.run m ρ)

/-- Kernel and reference end with equal arrays. -/
theorem algebraic : @Cert.algebraic_Kernel8Ideal_Reference8Ideal Cert.Kernel8Ideal.Gen.facts Cert.Reference8Ideal.Gen.facts := fun m ρ m' ρ' _ hag =>
  ⟨fun c => Cert.Kernel8Ideal.Product.prod (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)),
    Cert.Kernel8Ideal.Product.run m ρ,
    (θ_run _ _ _).mono (fun _ h c => ⟨(h c).1.trans (by
      rw [(hag c).1, (hag c).2]
      exact term_eq _ _), (h c).2⟩) (Cert.Reference8Ideal.Value.run m' ρ')⟩

end Cert.Reference8Ideal.Product

end
-- ==== Proof.ProductKernel9Ideal.lean ====
/- The product `Kernel9Ideal`: the array the kernel leaves is the whole product, entry by entry the sum over the contracted
   index, over the extended reals. -/
module

public import proofs.«01_k».proof.Proof.Stretches
public import proofs.«01_k».proof.Proof.Gen.Kernel9Ideal.Value

@[expose] public section

noncomputable section

namespace Cert.Kernel9Ideal.Product

open Cert.Kernel9Ideal Cert.Kernel9Ideal.Gen Cert.Kernel9Ideal.Value Cert.Contract
open Idealize.ShloMosaic Idealize.ShloMosaic.TcCoe Idealize.ShloMosaic.ValueIdx Idealize.SL.Sem
open scoped BigOperators

variable (m : (ℓ : Loc nD τ sig) → Buf (Elt Ideal) ℓ) (ρ : Dev nD → PrngReg)

theorem hz : (![0, 0] : Fin 2 → ℕ) = fun _ => 0 := by funext a; fin_cases a <;> rfl

/-- The whole product. -/
def prod (A : S8192x5632.Idx → EReal) (B : S5632x2048.Idx → EReal) : S8192x2048.Idx → EReal :=
  fun i => ∑ k : Fin 5632, A (ix2 (i 0) k) * B (ix2 k (i 1))

theorem idx_facts : ∀ t : Fin cfg0.N, win0_0.index t (0 : Fin 2) = t.val / 2 / 2 ∧ win0_0.index t (1 : Fin 2) = t.val % 2
    ∧ win0_1.index t (0 : Fin 2) = t.val % 2 ∧ win0_1.index t (1 : Fin 2) = t.val / 2 % 2
    ∧ win0_2.index t (0 : Fin 2) = t.val / 2 / 2 ∧ win0_2.index t (1 : Fin 2) = t.val / 2 % 2 :=
  (by decide +kernel : ∀ t : Fin grid0.N, _)

/-- A point's block of the left factor, by numbers. -/
theorem left_apply (c : Dev nD) (t : Fin cfg0.N) (x : Fin 1024) (y : Fin 2816) : iblk m c 0 t (ix2 x y)
    = nat2 (a := 8192) (b := 5632) (m (c.tc.loc main_arg0)) ((t.val / 2 / 2) * 1024 + x.val) ((t.val % 2) * 2816 + y.val) := by
  obtain ⟨e0, e1, -, -, -, -⟩ := idx_facts t
  show V m c main_arg0 (((cfg0.win 0).blk t).view.emb (ix2 x y)) = _
  rw [V_main_arg0]
  refine eq_nat2 _ _ _ _ ?_ ?_
  · show win0_0.index t (0 : Fin 2) * 1024 + 1 * x.val = _; rw [e0, one_mul]
  · show win0_0.index t (1 : Fin 2) * 2816 + 1 * y.val = _; rw [e1, one_mul]

/-- A point's block of the right factor, by numbers. -/
theorem right_apply (c : Dev nD) (t : Fin cfg0.N) (x : Fin 2816) (y : Fin 1024) : iblk m c 1 t (ix2 x y)
    = nat2 (a := 5632) (b := 2048) (m (c.tc.loc main_arg1)) ((t.val % 2) * 2816 + x.val) ((t.val / 2 % 2) * 1024 + y.val) := by
  obtain ⟨-, -, e2, e3, -, -⟩ := idx_facts t
  show V m c main_arg1 (((cfg0.win 1).blk t).view.emb (ix2 x y)) = _
  rw [V_main_arg1]
  refine eq_nat2 _ _ _ _ ?_ ?_
  · show win0_1.index t (0 : Fin 2) * 2816 + 1 * x.val = _; rw [e2, one_mul]
  · show win0_1.index t (1 : Fin 2) * 1024 + 1 * y.val = _; rw [e3, one_mul]

/-- One term of the entry in row `r` and column `s` of the tile written at the end of run `q`, at contracted position `K`. -/
abbrev term (A : S8192x5632.Idx → EReal) (B : S5632x2048.Idx → EReal) (q r s K : ℕ) : EReal :=
  nat2 (a := 8192) (b := 5632) A (q / 2 * 1024 + r) K * nat2 (a := 5632) (b := 2048) B K (q % 2 * 1024 + s)

theorem prod_emb (A : S8192x5632.Idx → EReal) (B : S5632x2048.Idx → EReal) (t : Fin cfg0.N) (r : Fin 1024) (s : Fin 1024) :
    prod A B (((cfg0.win 2).blk t).view.emb (ix2 r s)) = ∑ k : Fin 5632, term A B (t.val / 2) r.val s.val k.val := by
  obtain ⟨-, -, -, -, e4, e5⟩ := idx_facts t
  have h0 : (((cfg0.win 2).blk t).view.emb (ix2 r s) 0).val = t.val / 2 / 2 * 1024 + r.val := by
    show win0_2.index t (0 : Fin 2) * 1024 + 1 * r.val = _; rw [e4, one_mul]
  have h1 : (((cfg0.win 2).blk t).view.emb (ix2 r s) 1).val = t.val / 2 % 2 * 1024 + s.val := by
    show win0_2.index t (1 : Fin 2) * 1024 + 1 * s.val = _; rw [e5, one_mul]
  unfold prod
  refine Finset.sum_congr rfl fun k _ => ?_
  exact congrArg₂ (· * ·) (eq_nat2 A _ _ _ h0 rfl) (eq_nat2 B _ _ _ rfl h1)

variable (c : Dev nD) (i : grid0.Coords) (arg3 : Memref sig .tc .vmem S1024x2816 .bf16) (harg3 : arg3.IsWhole) (arg4 : Memref sig .tc .vmem S2816x1024 .bf16) (harg4 : arg4.IsWhole) (arg5 : Memref sig .tc .vmem S1024x1024 .bf16) (harg5 : arg5.IsWhole) (arg6 : Memref sig .tc .vmem S1024x1024 .f32) (harg6 : arg6.IsWhole)
  (x0 : Vec Ideal S1024x2816 .bf16) (x1 : Vec Ideal S2816x1024 .bf16) (xs0 : Vec Ideal S1024x1024 .f32)

theorem store_apply (r : Fin 1024) (s : Fin 1024) : k0_pay4 xs0 (ix2 r s) = xs0 (ix2 r s) := by
  unfold k0_pay4
  rw [truncf_apply]

/-- The product of the two blocks at a point. -/
theorem part_apply (r : Fin 1024) (s : Fin 1024) : k0_pay1 x0 x1 (ix2 r s) = ∑ k : Fin 2816, x0 (ix2 r k) * x1 (ix2 k s) := by
  unfold k0_pay1
  exact matmul_nn _ x0 x1 _ r s

theorem start_apply (r : Fin 1024) (s : Fin 1024) : k0_pay2 x0 x1 (ix2 r s) = k0_pay1 x0 x1 (ix2 r s) := by
  unfold k0_pay2
  rw [shapeCast_self]

theorem next_apply (r : Fin 1024) (s : Fin 1024) : k0_pay3 x0 x1 xs0 (ix2 r s) = xs0 (ix2 r s) + k0_pay1 x0 x1 (ix2 r s) := by
  unfold k0_pay3
  rw [shapeCast_self, addf_apply]

theorem scratch_A (hc0 : cond0_0 i) (hc1 : ¬cond0_1 i) (hc2 : ¬cond0_2 i) :
    sout0_A_0 c i arg3 harg3 arg4 harg4 arg5 harg5 arg6 harg6 hc0 hc1 hc2 x0 x1 = k0_pay2 x0 x1 := by
  unfold sout0_A_0
  rw [View.read_writes_eq_canon _ _ _ (scover0_A_0 c i arg3 harg3 arg4 harg4 arg5 harg5 arg6 harg6 hc0 hc1 hc2 x0 x1)]
  unfold kernelRun0_A
  dsimp only
  sl_unfold_words
  rw [View.canon_unit_zero hz]
  simp only [View.readAt_eq_ld, harg3.read_unread, harg4.read_unread, harg6.read_unread, View.ld_unit_zero (S := S1024x2816) hz, View.ld_unit_zero (S := S2816x1024) hz,
    View.ld_unit_zero (S := S1024x1024) hz]

theorem scratch_B (hc0 : ¬cond0_0 i) (hc1 : cond0_1 i) (hc2 : cond0_2 i) :
    sout0_B_0 c i arg3 harg3 arg4 harg4 arg5 harg5 arg6 harg6 hc0 hc1 hc2 x0 x1 xs0 = k0_pay3 x0 x1 xs0 := by
  unfold sout0_B_0
  rw [View.read_writes_eq_canon _ _ _ (scover0_B_0 c i arg3 harg3 arg4 harg4 arg5 harg5 arg6 harg6 hc0 hc1 hc2 x0 x1 xs0)]
  unfold kernelRun0_B
  dsimp only
  sl_unfold_words
  rw [View.canon_unit_zero hz]
  simp only [View.readAt_eq_ld, harg3.read_unread, harg4.read_unread, harg6.read_unread, View.ld_unit_zero (S := S1024x2816) hz, View.ld_unit_zero (S := S2816x1024) hz,
    View.ld_unit_zero (S := S1024x1024) hz]

theorem out_B (hc0 : ¬cond0_0 i) (hc1 : cond0_1 i) (hc2 : cond0_2 i) :
    out0_B_2 c i arg3 harg3 arg4 harg4 arg5 harg5 arg6 harg6 hc0 hc1 hc2 x0 x1 xs0 = k0_pay4 (k0_pay3 x0 x1 xs0) := by
  unfold out0_B_2
  rw [View.read_writes_eq_canon _ _ _ (cover0_B_2 c i arg3 harg3 arg4 harg4 arg5 harg5 arg6 harg6 hc0 hc1 hc2 x0 x1 xs0)]
  unfold kernelRun0_B
  dsimp only
  sl_unfold_words
  rw [View.canon_unit_zero hz, View.readCov_unit_zero (S := S1024x1024) _ hz]
  simp only [View.readAt_eq_ld, harg3.read_unread, harg4.read_unread, harg6.read_unread, View.ld_unit_zero (S := S1024x2816) hz, View.ld_unit_zero (S := S2816x1024) hz,
    View.ld_unit_zero (S := S1024x1024) hz]

omit i arg3 harg3 arg4 harg4 arg5 harg5 arg6 harg6 x0 x1 xs0

theorem part_block (t : Fin cfg0.N) (r : Fin 1024) (s : Fin 1024) : k0_pay1 (iblk m c 0 t) (iblk m c 1 t) (ix2 r s)
    = ∑ k : Fin 2816, term (m (c.tc.loc main_arg0)) (m (c.tc.loc main_arg1)) (t.val / 2) r.val s.val (2816 * (t.val % 2) + k.val) := by
  refine (part_apply (iblk m c 0 t) (iblk m c 1 t) r s).trans ?_
  refine Finset.sum_congr rfl fun k _ => ?_
  rw [left_apply, right_apply, Nat.mul_comm (t.val % 2) 2816]

/-- The accumulator after a point: the terms of the stretches met so far in its run. -/
theorem fold (r : Fin 1024) (s : Fin 1024) : ∀ (n : ℕ) (h : n < cfg0.N), (outsAt0 m c n h).2 (ix2 r s)
    = ∑ j ∈ Finset.range (n % 2 + 1), ∑ k : Fin 2816, term (m (c.tc.loc main_arg0)) (m (c.tc.loc main_arg1)) (n / 2) r.val s.val (2816 * j + k.val) := by
  refine stretches_so_far (by norm_num) (fun q => term (m (c.tc.loc main_arg0)) (m (c.tc.loc main_arg1)) q r.val s.val)
    (fun n h => (outsAt0 m c n h).2 (ix2 r s)) (fun n h g => ?_) (fun n h g => ?_)
  · rw [outsAt0_A m c ⟨n, h⟩ (by dsimp only; omega) (by dsimp only; omega) (by dsimp only; omega)]
    dsimp only
    rw [scratch_A]
    exact (start_apply _ _ r s).trans (part_block m c ⟨n, h⟩ r s)
  · rw [outsAt0_B m c ⟨n, h⟩ (by dsimp only; omega) (by dsimp only; omega) (by dsimp only; omega)]
    dsimp only
    rw [scratch_B]
    exact (next_apply _ _ _ r s).trans (congrArg _ (part_block m c ⟨n, h⟩ r s))

/-- What a flushing point writes back is its block of the whole product. -/
theorem flushed_eq (t : Fin cfg0.N) (hf : (cfg0.win 2).flush t = true) : (dats m 0 c).flushed 2 t
    = ((cfg0.win 2).blk t).view.read (Elt Ideal) (prod (m (c.tc.loc main_arg0)) (m (c.tc.loc main_arg1))) := by
  have hm : t.val % 2 = 1 := (flush0_2 t).mp hf
  generalize hX : ((cfg0.win 2).blk t).view.read (Elt Ideal) (prod (m (c.tc.loc main_arg0)) (m (c.tc.loc main_arg1))) = X
  rw [flushed2]
  have hfold := fun r s => fold m c r s t.val t.isLt
  rw [outsAt0_B m c t (by omega) (by omega) (by omega)] at hfold ⊢
  dsimp only at hfold ⊢
  rw [scratch_B] at hfold
  rw [out_B]
  subst hX
  funext y
  obtain ⟨r, s, rfl⟩ : ∃ (r : Fin 1024) (s : Fin 1024), y = ix2 r s := ⟨_, _, eq_ix2 y⟩
  have e := (prod_emb (m (c.tc.loc main_arg0)) (m (c.tc.loc main_arg1)) t r s).trans
    (sum_stretches (α := EReal) ((1) + 1) 2816 5632 (by norm_num) (fun K => term (m (c.tc.loc main_arg0)) (m (c.tc.loc main_arg1)) (t.val / 2) r.val s.val K)).symm
  have h1 := hfold r s
  rw [hm] at h1
  refine (store_apply _ r s).trans (h1.trans ?_)
  have hr : ∀ f : S8192x2048.Idx → EReal, ((cfg0.win 2).blk t).view.read (Elt Ideal) f (ix2 r s) = f (((cfg0.win 2).blk t).view.emb (ix2 r s)) := fun _ => rfl
  exact ((hr _).trans e).symm

/-- The last point of run `q`. -/
abbrev lastPt (a : Fin 8) (b : Fin 2) : Fin grid0.N := ⟨2 * (2 * a.val + b.val) + 1, lt_of_lt_of_eq (by omega) N_0.symm⟩

theorem idx_onto : ∀ (a : Fin 8) (b : Fin 2), win0_2.flush (lastPt a b) = true ∧ win0_2.index (lastPt a b) = ![a.val, b.val] := by
  decide +kernel

theorem mem_blk (t : Fin cfg0.N) (i : S8192x2048.Idx) :
    i ∈ ((cfg0.win 2).blk t).view.set ↔ ∀ a : Fin 2, win0_2.index t a * S1024x1024.size a ≤ (i a).val ∧ (i a).val < win0_2.index t a * S1024x1024.size a + S1024x1024.size a := by
  show i ∈ ((View.whole main_v0).slice (win0_2.rect t)).set ↔ _
  rw [View.set_slice_whole, Rect.mem_set_unit]
  exact Iff.rfl

/-- The array after the run is the whole product. -/
theorem final (c : Dev nD) : (dats m 0 c).arrAt 2 cfg0.N = prod (m (c.tc.loc main_arg0)) (m (c.tc.loc main_arg1)) :=
  (dats m 0 c).arrAt_eq_of_cover 2 _ (flushed_eq m c) fun i => by
    have h0 : (i 0).val < 8192 := (i 0).isLt
    have h1 : (i 1).val < 2048 := (i 1).isLt
    obtain ⟨hf, ht⟩ := idx_onto ⟨(i 0).val / 1024, by omega⟩ ⟨(i 1).val / 1024, by omega⟩
    refine ⟨_, hf, ?_⟩
    have q0 := congrFun ht (0 : Fin 2)
    have q1 := congrFun ht (1 : Fin 2)
    change _ = (i 0).val / 1024 at q0
    change _ = (i 1).val / 1024 at q1
    rw [mem_blk]
    generalize lastPt _ _ = t at q0 q1
    intro a
    match a with
    | ⟨0, _⟩ => show win0_2.index t (0 : Fin 2) * 1024 ≤ (i 0).val ∧ (i 0).val < win0_2.index t (0 : Fin 2) * 1024 + 1024; omega
    | ⟨1, _⟩ => show win0_2.index t (1 : Fin 2) * 1024 ≤ (i 1).val ∧ (i 1).val < win0_2.index t (1 : Fin 2) * 1024 + 1024; omega

theorem run : θ_run defs (onTc (τ := τ) (main (F := Ideal))) ⟨m, fun _ => 0, ρ⟩ fun r => ∀ c : Dev nD,
      r.2.mem (c.tc.loc main_v0) = prod (m (c.tc.loc main_arg0)) (m (c.tc.loc main_arg1))
      ∧ r.2.mem (c.tc.loc main_arg0) = m (c.tc.loc main_arg0)
      ∧ r.2.mem (c.tc.loc main_arg1) = m (c.tc.loc main_arg1) :=
  (θ_run defs _ _).mono (fun _ h c => ⟨(h c).1.trans (final m c), (h c).2⟩) (run_blocks m ρ)

end Cert.Kernel9Ideal.Product

end
-- ==== Proof.EqualKernel9.lean ====
/- The second product of the feed-forward network: the reference's array is the kernel's product, and with it the claims about the pair. -/
module

public import proofs.«01_k».proof.Defs
public import proofs.«01_k».proof.Proof.ProductKernel9Ideal
public import proofs.«01_k».proof.Proof.Gen.Reference9Ideal.Run

@[expose] public section

noncomputable section

namespace Cert.Reference9Ideal.Product

open Cert.Reference9Ideal Cert.Reference9Ideal.Gen Cert.Contract
open Idealize.ShloMosaic Idealize.ShloMosaic.TcCoe Idealize.ShloMosaic.ValueIdx Idealize.SL.Sem
open scoped BigOperators

/-- The array the reference computes, entry by entry, is the sum the kernel forms. -/
theorem term_eq (A : FVec Ideal S8192x5632 .bf16) (B : FVec Ideal S5632x2048 .bf16) :
    (truncf .bf16 (Host.dotGeneral dot_S8192x5632_S5632x2048_S8192x2048_1_0_0_1_n_n none (extf .f32 A bitsLt_bf16_f32 : FVec Ideal _ .f32) (extf .f32 B bitsLt_bf16_f32 : FVec Ideal _ .f32)) bitsLt_bf16_f32 : FVec Ideal S8192x2048 .bf16) = Cert.Kernel9Ideal.Product.prod A B := by
  funext y
  obtain ⟨r, s, rfl⟩ : ∃ (r : Fin 8192) (s : Fin 2048), y = ix2 r s := ⟨_, _, eq_ix2 y⟩
  rw [truncf_apply]
  exact (host_nn _ _ _ _ r s).trans (Finset.sum_congr rfl fun k _ => rfl)

/-- The reference's run keeps its arguments and ends with every counter at zero. -/
theorem frame : @Cert.quiescent_Reference9Ideal Cert.Reference9Ideal.Gen.facts := fun m ρ _ =>
  (θ_run _ _ _).mono (fun r h => ⟨fun c => (h c).2, sem_eq_zero_of_no_sems (by decide) r.2⟩) (Cert.Reference9Ideal.Value.run m ρ)

/-- Kernel and reference end with equal arrays. -/
theorem algebraic : @Cert.algebraic_Kernel9Ideal_Reference9Ideal Cert.Kernel9Ideal.Gen.facts Cert.Reference9Ideal.Gen.facts := fun m ρ m' ρ' _ hag =>
  ⟨fun c => Cert.Kernel9Ideal.Product.prod (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)),
    Cert.Kernel9Ideal.Product.run m ρ,
    (θ_run _ _ _).mono (fun _ h c => ⟨(h c).1.trans (by
      rw [(hag c).1, (hag c).2]
      exact term_eq _ _), (h c).2⟩) (Cert.Reference9Ideal.Value.run m' ρ')⟩

end Cert.Reference9Ideal.Product

end
-- ==== Proof.ProductKernel10Ideal.lean ====
/- The product `Kernel10Ideal`: the array the kernel leaves is the whole product, entry by entry the sum over the contracted
   index, over the extended reals. -/
module

public import proofs.«01_k».proof.Proof.Contract
public import proofs.«01_k».proof.Proof.Gen.Kernel10Ideal.Value

@[expose] public section

noncomputable section

namespace Cert.Kernel10Ideal.Product

open Cert.Kernel10Ideal Cert.Kernel10Ideal.Gen Cert.Kernel10Ideal.Value Cert.Contract
open Idealize.ShloMosaic Idealize.ShloMosaic.TcCoe Idealize.ShloMosaic.ValueIdx Idealize.SL.Sem
open scoped BigOperators

variable (m : (ℓ : Loc nD τ sig) → Buf (Elt Ideal) ℓ) (ρ : Dev nD → PrngReg)

theorem hz : (![0, 0] : Fin 2 → ℕ) = fun _ => 0 := by funext a; fin_cases a <;> rfl

/-- The whole product. -/
def prod (A : S8192x2048.Idx → EReal) (B : S2048x2048.Idx → EReal) : S8192x2048.Idx → EReal :=
  fun i => ∑ k : Fin 2048, A (ix2 (i 0) k) * B (ix2 k (i 1))

theorem idx_facts : ∀ t : Fin cfg0.N, win0_0.index t (0 : Fin 2) = t.val / 1 / 2 ∧ win0_0.index t (1 : Fin 2) = t.val % 1
    ∧ win0_1.index t (0 : Fin 2) = t.val % 1 ∧ win0_1.index t (1 : Fin 2) = t.val / 1 % 2
    ∧ win0_2.index t (0 : Fin 2) = t.val / 1 / 2 ∧ win0_2.index t (1 : Fin 2) = t.val / 1 % 2 :=
  (by decide +kernel : ∀ t : Fin grid0.N, _)

/-- A point's block of the left factor, by numbers. -/
theorem left_apply (c : Dev nD) (t : Fin cfg0.N) (x : Fin 1024) (y : Fin 2048) : iblk m c 0 t (ix2 x y)
    = nat2 (a := 8192) (b := 2048) (m (c.tc.loc main_arg0)) ((t.val / 1 / 2) * 1024 + x.val) ((t.val % 1) * 2048 + y.val) := by
  obtain ⟨e0, e1, -, -, -, -⟩ := idx_facts t
  show V m c main_arg0 (((cfg0.win 0).blk t).view.emb (ix2 x y)) = _
  rw [V_main_arg0]
  refine eq_nat2 _ _ _ _ ?_ ?_
  · show win0_0.index t (0 : Fin 2) * 1024 + 1 * x.val = _; rw [e0, one_mul]
  · show win0_0.index t (1 : Fin 2) * 2048 + 1 * y.val = _; rw [e1, one_mul]

/-- A point's block of the right factor, by numbers. -/
theorem right_apply (c : Dev nD) (t : Fin cfg0.N) (x : Fin 2048) (y : Fin 1024) : iblk m c 1 t (ix2 x y)
    = nat2 (a := 2048) (b := 2048) (m (c.tc.loc main_arg1)) ((t.val % 1) * 2048 + x.val) ((t.val / 1 % 2) * 1024 + y.val) := by
  obtain ⟨-, -, e2, e3, -, -⟩ := idx_facts t
  show V m c main_arg1 (((cfg0.win 1).blk t).view.emb (ix2 x y)) = _
  rw [V_main_arg1]
  refine eq_nat2 _ _ _ _ ?_ ?_
  · show win0_1.index t (0 : Fin 2) * 2048 + 1 * x.val = _; rw [e2, one_mul]
  · show win0_1.index t (1 : Fin 2) * 1024 + 1 * y.val = _; rw [e3, one_mul]

/-- One term of the entry in row `r` and column `s` of the tile written at the end of run `q`, at contracted position `K`. -/
abbrev term (A : S8192x2048.Idx → EReal) (B : S2048x2048.Idx → EReal) (q r s K : ℕ) : EReal :=
  nat2 (a := 8192) (b := 2048) A (q / 2 * 1024 + r) K * nat2 (a := 2048) (b := 2048) B K (q % 2 * 1024 + s)

theorem prod_emb (A : S8192x2048.Idx → EReal) (B : S2048x2048.Idx → EReal) (t : Fin cfg0.N) (r : Fin 1024) (s : Fin 1024) :
    prod A B (((cfg0.win 2).blk t).view.emb (ix2 r s)) = ∑ k : Fin 2048, term A B (t.val / 1) r.val s.val k.val := by
  obtain ⟨-, -, -, -, e4, e5⟩ := idx_facts t
  have h0 : (((cfg0.win 2).blk t).view.emb (ix2 r s) 0).val = t.val / 1 / 2 * 1024 + r.val := by
    show win0_2.index t (0 : Fin 2) * 1024 + 1 * r.val = _; rw [e4, one_mul]
  have h1 : (((cfg0.win 2).blk t).view.emb (ix2 r s) 1).val = t.val / 1 % 2 * 1024 + s.val := by
    show win0_2.index t (1 : Fin 2) * 1024 + 1 * s.val = _; rw [e5, one_mul]
  unfold prod
  refine Finset.sum_congr rfl fun k _ => ?_
  exact congrArg₂ (· * ·) (eq_nat2 A _ _ _ h0 rfl) (eq_nat2 B _ _ _ rfl h1)

/-- One tile: the product of the two blocks. -/
theorem out_apply (x0 : Vec Ideal S1024x2048 .bf16) (x1 : Vec Ideal S2048x1024 .bf16) (r : Fin 1024) (s : Fin 1024) :
    out0_2 x0 x1 (ix2 r s) = ∑ k : Fin 2048, x0 (ix2 r k) * x1 (ix2 k s) := by
  unfold out0_2
  rw [View.canon_unit_zero hz, View.ld_unit_zero (S := S1024x2048) hz, View.ld_unit_zero (S := S2048x1024) hz]
  unfold k0_pay1
  rw [truncf_apply]
  exact matmul_nn _ x0 x1 _ r s

/-- What a point writes back is its block of the whole product. -/
theorem flushed_eq (c : Dev nD) (t : Fin cfg0.N) (_hf : (cfg0.win 2).flush t = true) : (dats m 0 c).flushed 2 t
    = ((cfg0.win 2).blk t).view.read (Elt Ideal) (prod (m (c.tc.loc main_arg0)) (m (c.tc.loc main_arg1))) := by
  rw [flushed2]
  funext y
  obtain ⟨r, s, rfl⟩ : ∃ (r : Fin 1024) (s : Fin 1024), y = ix2 r s := ⟨_, _, eq_ix2 y⟩
  refine (out_apply (iblk m c 0 t) (iblk m c 1 t) r s).trans ?_
  refine Eq.trans ?_ (prod_emb _ _ t r s).symm
  refine Finset.sum_congr rfl fun k _ => ?_
  rw [left_apply, right_apply, show t.val % 1 * 2048 + k.val = k.val by omega]

/-- The last point of run `q`. -/
abbrev lastPt (a : Fin 8) (b : Fin 2) : Fin grid0.N := ⟨1 * (2 * a.val + b.val) + 0, lt_of_lt_of_eq (by omega) N_0.symm⟩

theorem idx_onto : ∀ (a : Fin 8) (b : Fin 2), win0_2.flush (lastPt a b) = true ∧ win0_2.index (lastPt a b) = ![a.val, b.val] := by
  decide +kernel

theorem mem_blk (t : Fin cfg0.N) (i : S8192x2048.Idx) :
    i ∈ ((cfg0.win 2).blk t).view.set ↔ ∀ a : Fin 2, win0_2.index t a * S1024x1024.size a ≤ (i a).val ∧ (i a).val < win0_2.index t a * S1024x1024.size a + S1024x1024.size a := by
  show i ∈ ((View.whole main_v0).slice (win0_2.rect t)).set ↔ _
  rw [View.set_slice_whole, Rect.mem_set_unit]
  exact Iff.rfl

/-- The array after the run is the whole product. -/
theorem final (c : Dev nD) : (dats m 0 c).arrAt 2 cfg0.N = prod (m (c.tc.loc main_arg0)) (m (c.tc.loc main_arg1)) :=
  (dats m 0 c).arrAt_eq_of_cover 2 _ (flushed_eq m c) fun i => by
    have h0 : (i 0).val < 8192 := (i 0).isLt
    have h1 : (i 1).val < 2048 := (i 1).isLt
    obtain ⟨hf, ht⟩ := idx_onto ⟨(i 0).val / 1024, by omega⟩ ⟨(i 1).val / 1024, by omega⟩
    refine ⟨_, hf, ?_⟩
    have q0 := congrFun ht (0 : Fin 2)
    have q1 := congrFun ht (1 : Fin 2)
    change _ = (i 0).val / 1024 at q0
    change _ = (i 1).val / 1024 at q1
    rw [mem_blk]
    generalize lastPt _ _ = t at q0 q1
    intro a
    match a with
    | ⟨0, _⟩ => show win0_2.index t (0 : Fin 2) * 1024 ≤ (i 0).val ∧ (i 0).val < win0_2.index t (0 : Fin 2) * 1024 + 1024; omega
    | ⟨1, _⟩ => show win0_2.index t (1 : Fin 2) * 1024 ≤ (i 1).val ∧ (i 1).val < win0_2.index t (1 : Fin 2) * 1024 + 1024; omega

theorem run : θ_run defs (onTc (τ := τ) (main (F := Ideal))) ⟨m, fun _ => 0, ρ⟩ fun r => ∀ c : Dev nD,
      r.2.mem (c.tc.loc main_v0) = prod (m (c.tc.loc main_arg0)) (m (c.tc.loc main_arg1))
      ∧ r.2.mem (c.tc.loc main_arg0) = m (c.tc.loc main_arg0)
      ∧ r.2.mem (c.tc.loc main_arg1) = m (c.tc.loc main_arg1) :=
  (θ_run defs _ _).mono (fun _ h c => ⟨(h c).1.trans (final m c), (h c).2⟩) (run_blocks m ρ)

end Cert.Kernel10Ideal.Product

end
-- ==== Proof.EqualKernel10.lean ====
/- An output projection: the reference's array is the kernel's product, and with it the claims about the pair. -/
module

public import proofs.«01_k».proof.Defs
public import proofs.«01_k».proof.Proof.ProductKernel10Ideal
public import proofs.«01_k».proof.Proof.Gen.Reference10Ideal.Run

@[expose] public section

noncomputable section

namespace Cert.Reference10Ideal.Product

open Cert.Reference10Ideal Cert.Reference10Ideal.Gen Cert.Contract
open Idealize.ShloMosaic Idealize.ShloMosaic.TcCoe Idealize.ShloMosaic.ValueIdx Idealize.SL.Sem
open scoped BigOperators

/-- The array the reference computes, entry by entry, is the sum the kernel forms. -/
theorem term_eq (A : FVec Ideal S8192x2048 .bf16) (B : FVec Ideal S2048x2048 .bf16) :
    (truncf .bf16 (Host.dotGeneral dot_S8192x2048_S2048x2048_S8192x2048_1_0_0_1_n_n none (extf .f32 A bitsLt_bf16_f32 : FVec Ideal _ .f32) (extf .f32 B bitsLt_bf16_f32 : FVec Ideal _ .f32)) bitsLt_bf16_f32 : FVec Ideal S8192x2048 .bf16) = Cert.Kernel10Ideal.Product.prod A B := by
  funext y
  obtain ⟨r, s, rfl⟩ : ∃ (r : Fin 8192) (s : Fin 2048), y = ix2 r s := ⟨_, _, eq_ix2 y⟩
  rw [truncf_apply]
  exact (host_nn _ _ _ _ r s).trans (Finset.sum_congr rfl fun k _ => rfl)

/-- The reference's run keeps its arguments and ends with every counter at zero. -/
theorem frame : @Cert.quiescent_Reference10Ideal Cert.Reference10Ideal.Gen.facts := fun m ρ _ =>
  (θ_run _ _ _).mono (fun r h => ⟨fun c => (h c).2, sem_eq_zero_of_no_sems (by decide) r.2⟩) (Cert.Reference10Ideal.Value.run m ρ)

/-- Kernel and reference end with equal arrays. -/
theorem algebraic : @Cert.algebraic_Kernel10Ideal_Reference10Ideal Cert.Kernel10Ideal.Gen.facts Cert.Reference10Ideal.Gen.facts := fun m ρ m' ρ' _ hag =>
  ⟨fun c => Cert.Kernel10Ideal.Product.prod (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)),
    Cert.Kernel10Ideal.Product.run m ρ,
    (θ_run _ _ _).mono (fun _ h c => ⟨(h c).1.trans (by
      rw [(hag c).1, (hag c).2]
      exact term_eq _ _), (h c).2⟩) (Cert.Reference10Ideal.Value.run m' ρ')⟩

end Cert.Reference10Ideal.Product

end
-- ==== Proof.ProductKernel12Ideal.lean ====
/- The product `Kernel12Ideal`: the array the kernel leaves is the whole product, entry by entry the sum over the contracted
   index, over the extended reals. -/
module

public import proofs.«01_k».proof.Proof.Stretches
public import proofs.«01_k».proof.Proof.Gen.Kernel12Ideal.Value

@[expose] public section

noncomputable section

namespace Cert.Kernel12Ideal.Product

open Cert.Kernel12Ideal Cert.Kernel12Ideal.Gen Cert.Kernel12Ideal.Value Cert.Contract
open Idealize.ShloMosaic Idealize.ShloMosaic.TcCoe Idealize.ShloMosaic.ValueIdx Idealize.SL.Sem
open scoped BigOperators

variable (m : (ℓ : Loc nD τ sig) → Buf (Elt Ideal) ℓ) (ρ : Dev nD → PrngReg)

theorem hz : (![0, 0] : Fin 2 → ℕ) = fun _ => 0 := by funext a; fin_cases a <;> rfl

/-- The whole product, of the first 8192 rows of the left factor. -/
def prod (A : S8448x13824.Idx → EReal) (B : S2048x13824.Idx → EReal) : S8192x2048.Idx → EReal :=
  fun i => ∑ k : Fin 13824, A (ix2 (Fin.castLE (by norm_num) (i 0)) k) * B (ix2 (i 1) k)

theorem idx_facts : ∀ t : Fin cfg0.N, win0_0.index t (0 : Fin 2) = t.val / 3 / 2 ∧ win0_0.index t (1 : Fin 2) = t.val % 3
    ∧ win0_1.index t (0 : Fin 2) = t.val / 3 % 2 ∧ win0_1.index t (1 : Fin 2) = t.val % 3
    ∧ win0_2.index t (0 : Fin 2) = t.val / 3 / 2 ∧ win0_2.index t (1 : Fin 2) = t.val / 3 % 2 :=
  (by decide +kernel : ∀ t : Fin grid0.N, _)

/-- A point's block of the left factor, by numbers. The left factor has rows that the call does not read, but every block
    that it reads lies inside. -/
theorem left_apply (c : Dev nD) (t : Fin cfg0.N) (x : Fin 1024) (y : Fin 4608) : (X0_0 m c t : S1024x4608.Idx → EReal) (ix2 x y)
    = nat2 (a := 8448) (b := 13824) (m (c.tc.loc main_arg0)) ((t.val / 3 / 2) * 1024 + x.val) ((t.val % 3) * 4608 + y.val) := by
  obtain ⟨e0, e1, -, -, -, -⟩ := idx_facts t
  unfold X0_0 Pipeline.Window.fill
  rw [dif_pos (moved0_0 t (ix2 x y))]
  show V m c main_arg0 (((cfg0.win 0).blk t).view.emb _) = _
  rw [V_main_arg0]
  refine eq_nat2 _ _ _ _ ?_ ?_
  · show win0_0.index t (0 : Fin 2) * 1024 + 1 * x.val = _; rw [e0, one_mul]
  · show win0_0.index t (1 : Fin 2) * 4608 + 1 * y.val = _; rw [e1, one_mul]

/-- A point's block of the right factor, by numbers. -/
theorem right_apply (c : Dev nD) (t : Fin cfg0.N) (x : Fin 1024) (y : Fin 4608) : iblk m c 1 t (ix2 x y)
    = nat2 (a := 2048) (b := 13824) (m (c.tc.loc main_arg1)) ((t.val / 3 % 2) * 1024 + x.val) ((t.val % 3) * 4608 + y.val) := by
  obtain ⟨-, -, e2, e3, -, -⟩ := idx_facts t
  show V m c main_arg1 (((cfg0.win 1).blk t).view.emb (ix2 x y)) = _
  rw [V_main_arg1]
  refine eq_nat2 _ _ _ _ ?_ ?_
  · show win0_1.index t (0 : Fin 2) * 1024 + 1 * x.val = _; rw [e2, one_mul]
  · show win0_1.index t (1 : Fin 2) * 4608 + 1 * y.val = _; rw [e3, one_mul]

/-- One term of the entry in row `r` and column `s` of the tile written at the end of run `q`, at contracted position `K`. -/
abbrev term (A : S8448x13824.Idx → EReal) (B : S2048x13824.Idx → EReal) (q r s K : ℕ) : EReal :=
  nat2 (a := 8448) (b := 13824) A (q / 2 * 1024 + r) K * nat2 (a := 2048) (b := 13824) B (q % 2 * 1024 + s) K

theorem prod_emb (A : S8448x13824.Idx → EReal) (B : S2048x13824.Idx → EReal) (t : Fin cfg0.N) (r : Fin 1024) (s : Fin 1024) :
    prod A B (((cfg0.win 2).blk t).view.emb (ix2 r s)) = ∑ k : Fin 13824, term A B (t.val / 3) r.val s.val k.val := by
  obtain ⟨-, -, -, -, e4, e5⟩ := idx_facts t
  have h0 : (((cfg0.win 2).blk t).view.emb (ix2 r s) 0).val = t.val / 3 / 2 * 1024 + r.val := by
    show win0_2.index t (0 : Fin 2) * 1024 + 1 * r.val = _; rw [e4, one_mul]
  have h1 : (((cfg0.win 2).blk t).view.emb (ix2 r s) 1).val = t.val / 3 % 2 * 1024 + s.val := by
    show win0_2.index t (1 : Fin 2) * 1024 + 1 * s.val = _; rw [e5, one_mul]
  unfold prod
  refine Finset.sum_congr rfl fun k _ => ?_
  exact congrArg₂ (· * ·) (eq_nat2 A _ _ _ h0 rfl) (eq_nat2 B _ _ _ h1 rfl)

variable (c : Dev nD) (i : grid0.Coords) (arg3 : Memref sig .tc .vmem S1024x4608 .bf16) (harg3 : arg3.IsWhole) (arg4 : Memref sig .tc .vmem S1024x4608 .bf16) (harg4 : arg4.IsWhole) (arg5 : Memref sig .tc .vmem S1024x1024 .bf16) (harg5 : arg5.IsWhole) (arg6 : Memref sig .tc .vmem S1024x1024 .f32) (harg6 : arg6.IsWhole)
  (x0 : Vec Ideal S1024x4608 .bf16) (x1 : Vec Ideal S1024x4608 .bf16) (xs0 : Vec Ideal S1024x1024 .f32)

theorem store_apply (r : Fin 1024) (s : Fin 1024) : k0_pay4 xs0 (ix2 r s) = xs0 (ix2 r s) := by
  unfold k0_pay4
  rw [truncf_apply]

/-- The product of the two blocks at a point. -/
theorem part_apply (r : Fin 1024) (s : Fin 1024) : k0_pay1 x0 x1 (ix2 r s) = ∑ k : Fin 4608, x0 (ix2 r k) * x1 (ix2 s k) := by
  unfold k0_pay1
  exact matmul_nt _ x0 x1 _ r s

theorem start_apply (r : Fin 1024) (s : Fin 1024) : k0_pay2 x0 x1 (ix2 r s) = k0_pay1 x0 x1 (ix2 r s) := by
  unfold k0_pay2
  rw [shapeCast_self]

theorem next_apply (r : Fin 1024) (s : Fin 1024) : k0_pay3 x0 x1 xs0 (ix2 r s) = xs0 (ix2 r s) + k0_pay1 x0 x1 (ix2 r s) := by
  unfold k0_pay3
  rw [shapeCast_self, addf_apply]

theorem scratch_A (hc0 : cond0_0 i) (hc1 : ¬cond0_1 i) (hc2 : ¬cond0_2 i) :
    sout0_A_0 c i arg3 harg3 arg4 harg4 arg5 harg5 arg6 harg6 hc0 hc1 hc2 x0 x1 = k0_pay2 x0 x1 := by
  unfold sout0_A_0
  rw [View.read_writes_eq_canon _ _ _ (scover0_A_0 c i arg3 harg3 arg4 harg4 arg5 harg5 arg6 harg6 hc0 hc1 hc2 x0 x1)]
  unfold kernelRun0_A
  dsimp only
  sl_unfold_words
  rw [View.canon_unit_zero hz]
  simp only [View.readAt_eq_ld, harg3.read_unread, harg4.read_unread, harg6.read_unread, View.ld_unit_zero (S := S1024x4608) hz, View.ld_unit_zero (S := S1024x4608) hz,
    View.ld_unit_zero (S := S1024x1024) hz]

theorem scratch_B (hc0 : ¬cond0_0 i) (hc1 : cond0_1 i) (hc2 : ¬cond0_2 i) :
    sout0_B_0 c i arg3 harg3 arg4 harg4 arg5 harg5 arg6 harg6 hc0 hc1 hc2 x0 x1 xs0 = k0_pay3 x0 x1 xs0 := by
  unfold sout0_B_0
  rw [View.read_writes_eq_canon _ _ _ (scover0_B_0 c i arg3 harg3 arg4 harg4 arg5 harg5 arg6 harg6 hc0 hc1 hc2 x0 x1 xs0)]
  unfold kernelRun0_B
  dsimp only
  sl_unfold_words
  rw [View.canon_unit_zero hz]
  simp only [View.readAt_eq_ld, harg3.read_unread, harg4.read_unread, harg6.read_unread, View.ld_unit_zero (S := S1024x4608) hz, View.ld_unit_zero (S := S1024x4608) hz,
    View.ld_unit_zero (S := S1024x1024) hz]

theorem scratch_C (hc0 : ¬cond0_0 i) (hc1 : cond0_1 i) (hc2 : cond0_2 i) :
    sout0_C_0 c i arg3 harg3 arg4 harg4 arg5 harg5 arg6 harg6 hc0 hc1 hc2 x0 x1 xs0 = k0_pay3 x0 x1 xs0 := by
  unfold sout0_C_0
  rw [View.read_writes_eq_canon _ _ _ (scover0_C_0 c i arg3 harg3 arg4 harg4 arg5 harg5 arg6 harg6 hc0 hc1 hc2 x0 x1 xs0)]
  unfold kernelRun0_C
  dsimp only
  sl_unfold_words
  rw [View.canon_unit_zero hz]
  simp only [View.readAt_eq_ld, harg3.read_unread, harg4.read_unread, harg6.read_unread, View.ld_unit_zero (S := S1024x4608) hz, View.ld_unit_zero (S := S1024x4608) hz,
    View.ld_unit_zero (S := S1024x1024) hz]

theorem out_C (hc0 : ¬cond0_0 i) (hc1 : cond0_1 i) (hc2 : cond0_2 i) :
    out0_C_2 c i arg3 harg3 arg4 harg4 arg5 harg5 arg6 harg6 hc0 hc1 hc2 x0 x1 xs0 = k0_pay4 (k0_pay3 x0 x1 xs0) := by
  unfold out0_C_2
  rw [View.read_writes_eq_canon _ _ _ (cover0_C_2 c i arg3 harg3 arg4 harg4 arg5 harg5 arg6 harg6 hc0 hc1 hc2 x0 x1 xs0)]
  unfold kernelRun0_C
  dsimp only
  sl_unfold_words
  rw [View.canon_unit_zero hz, View.readCov_unit_zero (S := S1024x1024) _ hz]
  simp only [View.readAt_eq_ld, harg3.read_unread, harg4.read_unread, harg6.read_unread, View.ld_unit_zero (S := S1024x4608) hz, View.ld_unit_zero (S := S1024x4608) hz,
    View.ld_unit_zero (S := S1024x1024) hz]

omit i arg3 harg3 arg4 harg4 arg5 harg5 arg6 harg6 x0 x1 xs0

theorem part_block (t : Fin cfg0.N) (r : Fin 1024) (s : Fin 1024) : k0_pay1 (X0_0 m c t) (iblk m c 1 t) (ix2 r s)
    = ∑ k : Fin 4608, term (m (c.tc.loc main_arg0)) (m (c.tc.loc main_arg1)) (t.val / 3) r.val s.val (4608 * (t.val % 3) + k.val) := by
  refine (part_apply (X0_0 m c t) (iblk m c 1 t) r s).trans ?_
  refine Finset.sum_congr rfl fun k _ => ?_
  rw [left_apply, right_apply, Nat.mul_comm (t.val % 3) 4608]

/-- The accumulator after a point: the terms of the stretches met so far in its run. -/
theorem fold (r : Fin 1024) (s : Fin 1024) : ∀ (n : ℕ) (h : n < cfg0.N), (outsAt0 m c n h).2 (ix2 r s)
    = ∑ j ∈ Finset.range (n % 3 + 1), ∑ k : Fin 4608, term (m (c.tc.loc main_arg0)) (m (c.tc.loc main_arg1)) (n / 3) r.val s.val (4608 * j + k.val) := by
  refine stretches_so_far (by norm_num) (fun q => term (m (c.tc.loc main_arg0)) (m (c.tc.loc main_arg1)) q r.val s.val)
    (fun n h => (outsAt0 m c n h).2 (ix2 r s)) (fun n h g => ?_) (fun n h g => ?_)
  · rw [outsAt0_A m c ⟨n, h⟩ (by dsimp only; omega) (by dsimp only; omega) (by dsimp only; omega)]
    dsimp only
    rw [scratch_A]
    exact (start_apply _ _ r s).trans (part_block m c ⟨n, h⟩ r s)
  · by_cases g1 : n % 3 = 2
    · rw [outsAt0_C m c ⟨n, h⟩ (by dsimp only; omega) (by dsimp only; omega) (by dsimp only; omega)]
      dsimp only
      rw [scratch_C]
      exact (next_apply _ _ _ r s).trans (congrArg _ (part_block m c ⟨n, h⟩ r s))
    · rw [outsAt0_B m c ⟨n, h⟩ (by dsimp only; omega) (by dsimp only; omega) (by dsimp only; omega)]
      dsimp only
      rw [scratch_B]
      exact (next_apply _ _ _ r s).trans (congrArg _ (part_block m c ⟨n, h⟩ r s))

/-- What a flushing point writes back is its block of the whole product. -/
theorem flushed_eq (t : Fin cfg0.N) (hf : (cfg0.win 2).flush t = true) : (dats m 0 c).flushed 2 t
    = ((cfg0.win 2).blk t).view.read (Elt Ideal) (prod (m (c.tc.loc main_arg0)) (m (c.tc.loc main_arg1))) := by
  have hm : t.val % 3 = 2 := (flush0_2 t).mp hf
  generalize hX : ((cfg0.win 2).blk t).view.read (Elt Ideal) (prod (m (c.tc.loc main_arg0)) (m (c.tc.loc main_arg1))) = X
  rw [flushed2]
  have hfold := fun r s => fold m c r s t.val t.isLt
  rw [outsAt0_C m c t (by omega) (by omega) (by omega)] at hfold ⊢
  dsimp only at hfold ⊢
  rw [scratch_C] at hfold
  rw [out_C]
  subst hX
  funext y
  obtain ⟨r, s, rfl⟩ : ∃ (r : Fin 1024) (s : Fin 1024), y = ix2 r s := ⟨_, _, eq_ix2 y⟩
  have e := (prod_emb (m (c.tc.loc main_arg0)) (m (c.tc.loc main_arg1)) t r s).trans
    (sum_stretches (α := EReal) 3 4608 13824 (by norm_num) (fun K => term (m (c.tc.loc main_arg0)) (m (c.tc.loc main_arg1)) (t.val / 3) r.val s.val K)).symm
  have h1 := hfold r s
  rw [hm] at h1
  refine (store_apply _ r s).trans (h1.trans ?_)
  have hr : ∀ f : S8192x2048.Idx → EReal, ((cfg0.win 2).blk t).view.read (Elt Ideal) f (ix2 r s) = f (((cfg0.win 2).blk t).view.emb (ix2 r s)) := fun _ => rfl
  exact ((hr _).trans e).symm

/-- The last point of run `q`. -/
abbrev lastPt (a : Fin 8) (b : Fin 2) : Fin grid0.N := ⟨3 * (2 * a.val + b.val) + 2, lt_of_lt_of_eq (by omega) N_0.symm⟩

theorem idx_onto : ∀ (a : Fin 8) (b : Fin 2), win0_2.flush (lastPt a b) = true ∧ win0_2.index (lastPt a b) = ![a.val, b.val] := by
  decide +kernel

theorem mem_blk (t : Fin cfg0.N) (i : S8192x2048.Idx) :
    i ∈ ((cfg0.win 2).blk t).view.set ↔ ∀ a : Fin 2, win0_2.index t a * S1024x1024.size a ≤ (i a).val ∧ (i a).val < win0_2.index t a * S1024x1024.size a + S1024x1024.size a := by
  show i ∈ ((View.whole main_v0).slice (win0_2.rect t)).set ↔ _
  rw [View.set_slice_whole, Rect.mem_set_unit]
  exact Iff.rfl

/-- The array after the run is the whole product. -/
theorem final (c : Dev nD) : (dats m 0 c).arrAt 2 cfg0.N = prod (m (c.tc.loc main_arg0)) (m (c.tc.loc main_arg1)) :=
  (dats m 0 c).arrAt_eq_of_cover 2 _ (flushed_eq m c) fun i => by
    have h0 : (i 0).val < 8192 := (i 0).isLt
    have h1 : (i 1).val < 2048 := (i 1).isLt
    obtain ⟨hf, ht⟩ := idx_onto ⟨(i 0).val / 1024, by omega⟩ ⟨(i 1).val / 1024, by omega⟩
    refine ⟨_, hf, ?_⟩
    have q0 := congrFun ht (0 : Fin 2)
    have q1 := congrFun ht (1 : Fin 2)
    change _ = (i 0).val / 1024 at q0
    change _ = (i 1).val / 1024 at q1
    rw [mem_blk]
    generalize lastPt _ _ = t at q0 q1
    intro a
    match a with
    | ⟨0, _⟩ => show win0_2.index t (0 : Fin 2) * 1024 ≤ (i 0).val ∧ (i 0).val < win0_2.index t (0 : Fin 2) * 1024 + 1024; omega
    | ⟨1, _⟩ => show win0_2.index t (1 : Fin 2) * 1024 ≤ (i 1).val ∧ (i 1).val < win0_2.index t (1 : Fin 2) * 1024 + 1024; omega

theorem run : θ_run defs (onTc (τ := τ) (main (F := Ideal))) ⟨m, fun _ => 0, ρ⟩ fun r => ∀ c : Dev nD,
      r.2.mem (c.tc.loc main_v0) = prod (m (c.tc.loc main_arg0)) (m (c.tc.loc main_arg1))
      ∧ r.2.mem (c.tc.loc main_arg0) = m (c.tc.loc main_arg0)
      ∧ r.2.mem (c.tc.loc main_arg1) = m (c.tc.loc main_arg1) :=
  (θ_run defs _ _).mono (fun _ h c => ⟨(h c).1.trans (final m c), (h c).2⟩) (run_blocks m ρ)

end Cert.Kernel12Ideal.Product

end
-- ==== Proof.EqualKernel12.lean ====
/- The gradient of the input of the input projections: the reference's array is the kernel's product, and with it the claims about the pair. -/
module

public import proofs.«01_k».proof.Defs
public import proofs.«01_k».proof.Proof.ProductKernel12Ideal
public import proofs.«01_k».proof.Proof.Gen.Reference12Ideal.Run

@[expose] public section

noncomputable section

namespace Cert.Reference12Ideal.Product

open Cert.Reference12Ideal Cert.Reference12Ideal.Gen Cert.Contract
open Idealize.ShloMosaic Idealize.ShloMosaic.TcCoe Idealize.ShloMosaic.ValueIdx Idealize.SL.Sem
open scoped BigOperators

/-- The array the reference computes, entry by entry, is the sum the kernel forms. -/
theorem term_eq (A : FVec Ideal S8448x13824 .bf16) (B : FVec Ideal S2048x13824 .bf16) :
    (truncf .bf16 (Host.dotGeneral dot_S8192x13824_S2048x13824_S8192x2048_1_1_0_0_n_n none (extf .f32 (extractStridedSlice S8192x13824 ![0, 0] A slices_S8448x13824_S8192x13824_0_0) bitsLt_bf16_f32 : FVec Ideal _ .f32) (extf .f32 B bitsLt_bf16_f32 : FVec Ideal _ .f32)) bitsLt_bf16_f32 : FVec Ideal S8192x2048 .bf16) = Cert.Kernel12Ideal.Product.prod A B := by
  funext y
  obtain ⟨r, s, rfl⟩ : ∃ (r : Fin 8192) (s : Fin 2048), y = ix2 r s := ⟨_, _, eq_ix2 y⟩
  rw [truncf_apply]
  refine (host_nt _ _ _ _ r s).trans (Finset.sum_congr rfl fun k _ => congrArg (· * B (ix2 s k)) ?_)
  refine extractStridedSlice_apply _ A slices_S8448x13824_S8192x13824_0_0 (ix2 r k) _ fun a => ?_
  match a with
  | ⟨0, _⟩ => exact (Nat.zero_add r.val).symm
  | ⟨1, _⟩ => exact (Nat.zero_add k.val).symm

/-- The reference's run keeps its arguments and ends with every counter at zero. -/
theorem frame : @Cert.quiescent_Reference12Ideal Cert.Reference12Ideal.Gen.facts := fun m ρ _ =>
  (θ_run _ _ _).mono (fun r h => ⟨fun c => (h c).2, sem_eq_zero_of_no_sems (by decide) r.2⟩) (Cert.Reference12Ideal.Value.run m ρ)

/-- Kernel and reference end with equal arrays. -/
theorem algebraic : @Cert.algebraic_Kernel12Ideal_Reference12Ideal Cert.Kernel12Ideal.Gen.facts Cert.Reference12Ideal.Gen.facts := fun m ρ m' ρ' _ hag =>
  ⟨fun c => Cert.Kernel12Ideal.Product.prod (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)),
    Cert.Kernel12Ideal.Product.run m ρ,
    (θ_run _ _ _).mono (fun _ h c => ⟨(h c).1.trans (by
      rw [(hag c).1, (hag c).2]
      exact term_eq _ _), (h c).2⟩) (Cert.Reference12Ideal.Value.run m' ρ')⟩

end Cert.Reference12Ideal.Product

end
-- ==== Proof.ProductKernel13Ideal.lean ====
/- The product `Kernel13Ideal`: the array the kernel leaves is the whole product, entry by entry the sum over the contracted
   index, over the extended reals. -/
module

public import proofs.«01_k».proof.Proof.Stretches
public import proofs.«01_k».proof.Proof.Gen.Kernel13Ideal.Value

@[expose] public section

noncomputable section

namespace Cert.Kernel13Ideal.Product

open Cert.Kernel13Ideal Cert.Kernel13Ideal.Gen Cert.Kernel13Ideal.Value Cert.Contract
open Idealize.ShloMosaic Idealize.ShloMosaic.TcCoe Idealize.ShloMosaic.ValueIdx Idealize.SL.Sem
open scoped BigOperators

variable (m : (ℓ : Loc nD τ sig) → Buf (Elt Ideal) ℓ) (ρ : Dev nD → PrngReg)

theorem hz : (![0, 0] : Fin 2 → ℕ) = fun _ => 0 := by funext a; fin_cases a <;> rfl

/-- The whole product. -/
def prod (A : S8448x2048.Idx → EReal) (B : S8448x13824.Idx → EReal) : S2048x13824.Idx → EReal :=
  fun i => ∑ k : Fin 8448, A (ix2 k (i 0)) * B (ix2 k (i 1))

theorem idx_facts : ∀ t : Fin cfg0.N, win0_0.index t (0 : Fin 2) = t.val % 3 ∧ win0_0.index t (1 : Fin 2) = t.val / 3 / 9
    ∧ win0_1.index t (0 : Fin 2) = t.val % 3 ∧ win0_1.index t (1 : Fin 2) = t.val / 3 % 9
    ∧ win0_2.index t (0 : Fin 2) = t.val / 3 / 9 ∧ win0_2.index t (1 : Fin 2) = t.val / 3 % 9 :=
  (by decide +kernel : ∀ t : Fin grid0.N, _)

/-- A point's block of the left factor, by numbers. -/
theorem left_apply (c : Dev nD) (t : Fin cfg0.N) (x : Fin 2816) (y : Fin 1024) : iblk m c 0 t (ix2 x y)
    = nat2 (a := 8448) (b := 2048) (m (c.tc.loc main_arg0)) ((t.val % 3) * 2816 + x.val) ((t.val / 3 / 9) * 1024 + y.val) := by
  obtain ⟨e0, e1, -, -, -, -⟩ := idx_facts t
  show V m c main_arg0 (((cfg0.win 0).blk t).view.emb (ix2 x y)) = _
  rw [V_main_arg0]
  refine eq_nat2 _ _ _ _ ?_ ?_
  · show win0_0.index t (0 : Fin 2) * 2816 + 1 * x.val = _; rw [e0, one_mul]
  · show win0_0.index t (1 : Fin 2) * 1024 + 1 * y.val = _; rw [e1, one_mul]

/-- A point's block of the right factor, by numbers. -/
theorem right_apply (c : Dev nD) (t : Fin cfg0.N) (x : Fin 2816) (y : Fin 1536) : iblk m c 1 t (ix2 x y)
    = nat2 (a := 8448) (b := 13824) (m (c.tc.loc main_arg1)) ((t.val % 3) * 2816 + x.val) ((t.val / 3 % 9) * 1536 + y.val) := by
  obtain ⟨-, -, e2, e3, -, -⟩ := idx_facts t
  show V m c main_arg1 (((cfg0.win 1).blk t).view.emb (ix2 x y)) = _
  rw [V_main_arg1]
  refine eq_nat2 _ _ _ _ ?_ ?_
  · show win0_1.index t (0 : Fin 2) * 2816 + 1 * x.val = _; rw [e2, one_mul]
  · show win0_1.index t (1 : Fin 2) * 1536 + 1 * y.val = _; rw [e3, one_mul]

/-- One term of the entry in row `r` and column `s` of the tile written at the end of run `q`, at contracted position `K`. -/
abbrev term (A : S8448x2048.Idx → EReal) (B : S8448x13824.Idx → EReal) (q r s K : ℕ) : EReal :=
  nat2 (a := 8448) (b := 2048) A K (q / 9 * 1024 + r) * nat2 (a := 8448) (b := 13824) B K (q % 9 * 1536 + s)

theorem prod_emb (A : S8448x2048.Idx → EReal) (B : S8448x13824.Idx → EReal) (t : Fin cfg0.N) (r : Fin 1024) (s : Fin 1536) :
    prod A B (((cfg0.win 2).blk t).view.emb (ix2 r s)) = ∑ k : Fin 8448, term A B (t.val / 3) r.val s.val k.val := by
  obtain ⟨-, -, -, -, e4, e5⟩ := idx_facts t
  have h0 : (((cfg0.win 2).blk t).view.emb (ix2 r s) 0).val = t.val / 3 / 9 * 1024 + r.val := by
    show win0_2.index t (0 : Fin 2) * 1024 + 1 * r.val = _; rw [e4, one_mul]
  have h1 : (((cfg0.win 2).blk t).view.emb (ix2 r s) 1).val = t.val / 3 % 9 * 1536 + s.val := by
    show win0_2.index t (1 : Fin 2) * 1536 + 1 * s.val = _; rw [e5, one_mul]
  unfold prod
  refine Finset.sum_congr rfl fun k _ => ?_
  exact congrArg₂ (· * ·) (eq_nat2 A _ _ _ rfl h0) (eq_nat2 B _ _ _ rfl h1)

variable (c : Dev nD) (i : grid0.Coords) (arg3 : Memref sig .tc .vmem S2816x1024 .bf16) (harg3 : arg3.IsWhole) (arg4 : Memref sig .tc .vmem S2816x1536 .bf16) (harg4 : arg4.IsWhole) (arg5 : Memref sig .tc .vmem S1024x1536 .bf16) (harg5 : arg5.IsWhole) (arg6 : Memref sig .tc .vmem S1024x1536 .f32) (harg6 : arg6.IsWhole)
  (x0 : Vec Ideal S2816x1024 .bf16) (x1 : Vec Ideal S2816x1536 .bf16) (xs0 : Vec Ideal S1024x1536 .f32)

theorem store_apply (r : Fin 1024) (s : Fin 1536) : k0_pay4 xs0 (ix2 r s) = xs0 (ix2 r s) := by
  unfold k0_pay4
  rw [truncf_apply]

/-- The product of the two blocks at a point. -/
theorem part_apply (r : Fin 1024) (s : Fin 1536) : k0_pay1 x0 x1 (ix2 r s) = ∑ k : Fin 2816, x0 (ix2 k r) * x1 (ix2 k s) := by
  unfold k0_pay1
  exact matmul_tn _ x0 x1 _ r s

theorem start_apply (r : Fin 1024) (s : Fin 1536) : k0_pay2 x0 x1 (ix2 r s) = k0_pay1 x0 x1 (ix2 r s) := by
  unfold k0_pay2
  rw [shapeCast_self]

theorem next_apply (r : Fin 1024) (s : Fin 1536) : k0_pay3 x0 x1 xs0 (ix2 r s) = xs0 (ix2 r s) + k0_pay1 x0 x1 (ix2 r s) := by
  unfold k0_pay3
  rw [shapeCast_self, addf_apply]

theorem scratch_A (hc0 : cond0_0 i) (hc1 : ¬cond0_1 i) (hc2 : ¬cond0_2 i) :
    sout0_A_0 c i arg3 harg3 arg4 harg4 arg5 harg5 arg6 harg6 hc0 hc1 hc2 x0 x1 = k0_pay2 x0 x1 := by
  unfold sout0_A_0
  rw [View.read_writes_eq_canon _ _ _ (scover0_A_0 c i arg3 harg3 arg4 harg4 arg5 harg5 arg6 harg6 hc0 hc1 hc2 x0 x1)]
  unfold kernelRun0_A
  dsimp only
  sl_unfold_words
  rw [View.canon_unit_zero hz]
  simp only [View.readAt_eq_ld, harg3.read_unread, harg4.read_unread, harg6.read_unread, View.ld_unit_zero (S := S2816x1024) hz, View.ld_unit_zero (S := S2816x1536) hz,
    View.ld_unit_zero (S := S1024x1536) hz]

theorem scratch_B (hc0 : ¬cond0_0 i) (hc1 : cond0_1 i) (hc2 : ¬cond0_2 i) :
    sout0_B_0 c i arg3 harg3 arg4 harg4 arg5 harg5 arg6 harg6 hc0 hc1 hc2 x0 x1 xs0 = k0_pay3 x0 x1 xs0 := by
  unfold sout0_B_0
  rw [View.read_writes_eq_canon _ _ _ (scover0_B_0 c i arg3 harg3 arg4 harg4 arg5 harg5 arg6 harg6 hc0 hc1 hc2 x0 x1 xs0)]
  unfold kernelRun0_B
  dsimp only
  sl_unfold_words
  rw [View.canon_unit_zero hz]
  simp only [View.readAt_eq_ld, harg3.read_unread, harg4.read_unread, harg6.read_unread, View.ld_unit_zero (S := S2816x1024) hz, View.ld_unit_zero (S := S2816x1536) hz,
    View.ld_unit_zero (S := S1024x1536) hz]

theorem scratch_C (hc0 : ¬cond0_0 i) (hc1 : cond0_1 i) (hc2 : cond0_2 i) :
    sout0_C_0 c i arg3 harg3 arg4 harg4 arg5 harg5 arg6 harg6 hc0 hc1 hc2 x0 x1 xs0 = k0_pay3 x0 x1 xs0 := by
  unfold sout0_C_0
  rw [View.read_writes_eq_canon _ _ _ (scover0_C_0 c i arg3 harg3 arg4 harg4 arg5 harg5 arg6 harg6 hc0 hc1 hc2 x0 x1 xs0)]
  unfold kernelRun0_C
  dsimp only
  sl_unfold_words
  rw [View.canon_unit_zero hz]
  simp only [View.readAt_eq_ld, harg3.read_unread, harg4.read_unread, harg6.read_unread, View.ld_unit_zero (S := S2816x1024) hz, View.ld_unit_zero (S := S2816x1536) hz,
    View.ld_unit_zero (S := S1024x1536) hz]

theorem out_C (hc0 : ¬cond0_0 i) (hc1 : cond0_1 i) (hc2 : cond0_2 i) :
    out0_C_2 c i arg3 harg3 arg4 harg4 arg5 harg5 arg6 harg6 hc0 hc1 hc2 x0 x1 xs0 = k0_pay4 (k0_pay3 x0 x1 xs0) := by
  unfold out0_C_2
  rw [View.read_writes_eq_canon _ _ _ (cover0_C_2 c i arg3 harg3 arg4 harg4 arg5 harg5 arg6 harg6 hc0 hc1 hc2 x0 x1 xs0)]
  unfold kernelRun0_C
  dsimp only
  sl_unfold_words
  rw [View.canon_unit_zero hz, View.readCov_unit_zero (S := S1024x1536) _ hz]
  simp only [View.readAt_eq_ld, harg3.read_unread, harg4.read_unread, harg6.read_unread, View.ld_unit_zero (S := S2816x1024) hz, View.ld_unit_zero (S := S2816x1536) hz,
    View.ld_unit_zero (S := S1024x1536) hz]

omit i arg3 harg3 arg4 harg4 arg5 harg5 arg6 harg6 x0 x1 xs0

theorem part_block (t : Fin cfg0.N) (r : Fin 1024) (s : Fin 1536) : k0_pay1 (iblk m c 0 t) (iblk m c 1 t) (ix2 r s)
    = ∑ k : Fin 2816, term (m (c.tc.loc main_arg0)) (m (c.tc.loc main_arg1)) (t.val / 3) r.val s.val (2816 * (t.val % 3) + k.val) := by
  refine (part_apply (iblk m c 0 t) (iblk m c 1 t) r s).trans ?_
  refine Finset.sum_congr rfl fun k _ => ?_
  rw [left_apply, right_apply, Nat.mul_comm (t.val % 3) 2816]

/-- The accumulator after a point: the terms of the stretches met so far in its run. -/
theorem fold (r : Fin 1024) (s : Fin 1536) : ∀ (n : ℕ) (h : n < cfg0.N), (outsAt0 m c n h).2 (ix2 r s)
    = ∑ j ∈ Finset.range (n % 3 + 1), ∑ k : Fin 2816, term (m (c.tc.loc main_arg0)) (m (c.tc.loc main_arg1)) (n / 3) r.val s.val (2816 * j + k.val) := by
  refine stretches_so_far (by norm_num) (fun q => term (m (c.tc.loc main_arg0)) (m (c.tc.loc main_arg1)) q r.val s.val)
    (fun n h => (outsAt0 m c n h).2 (ix2 r s)) (fun n h g => ?_) (fun n h g => ?_)
  · rw [outsAt0_A m c ⟨n, h⟩ (by dsimp only; omega) (by dsimp only; omega) (by dsimp only; omega)]
    dsimp only
    rw [scratch_A]
    exact (start_apply _ _ r s).trans (part_block m c ⟨n, h⟩ r s)
  · by_cases g1 : n % 3 = 2
    · rw [outsAt0_C m c ⟨n, h⟩ (by dsimp only; omega) (by dsimp only; omega) (by dsimp only; omega)]
      dsimp only
      rw [scratch_C]
      exact (next_apply _ _ _ r s).trans (congrArg _ (part_block m c ⟨n, h⟩ r s))
    · rw [outsAt0_B m c ⟨n, h⟩ (by dsimp only; omega) (by dsimp only; omega) (by dsimp only; omega)]
      dsimp only
      rw [scratch_B]
      exact (next_apply _ _ _ r s).trans (congrArg _ (part_block m c ⟨n, h⟩ r s))

/-- What a flushing point writes back is its block of the whole product. -/
theorem flushed_eq (t : Fin cfg0.N) (hf : (cfg0.win 2).flush t = true) : (dats m 0 c).flushed 2 t
    = ((cfg0.win 2).blk t).view.read (Elt Ideal) (prod (m (c.tc.loc main_arg0)) (m (c.tc.loc main_arg1))) := by
  have hm : t.val % 3 = 2 := (flush0_2 t).mp hf
  generalize hX : ((cfg0.win 2).blk t).view.read (Elt Ideal) (prod (m (c.tc.loc main_arg0)) (m (c.tc.loc main_arg1))) = X
  rw [flushed2]
  have hfold := fun r s => fold m c r s t.val t.isLt
  rw [outsAt0_C m c t (by omega) (by omega) (by omega)] at hfold ⊢
  dsimp only at hfold ⊢
  rw [scratch_C] at hfold
  rw [out_C]
  subst hX
  funext y
  obtain ⟨r, s, rfl⟩ : ∃ (r : Fin 1024) (s : Fin 1536), y = ix2 r s := ⟨_, _, eq_ix2 y⟩
  have e := (prod_emb (m (c.tc.loc main_arg0)) (m (c.tc.loc main_arg1)) t r s).trans
    (sum_stretches (α := EReal) 3 2816 8448 (by norm_num) (fun K => term (m (c.tc.loc main_arg0)) (m (c.tc.loc main_arg1)) (t.val / 3) r.val s.val K)).symm
  have h1 := hfold r s
  rw [hm] at h1
  refine (store_apply _ r s).trans (h1.trans ?_)
  have hr : ∀ f : S2048x13824.Idx → EReal, ((cfg0.win 2).blk t).view.read (Elt Ideal) f (ix2 r s) = f (((cfg0.win 2).blk t).view.emb (ix2 r s)) := fun _ => rfl
  exact ((hr _).trans e).symm

/-- The last point of run `q`. -/
abbrev lastPt (a : Fin 2) (b : Fin 9) : Fin grid0.N := ⟨3 * (9 * a.val + b.val) + 2, lt_of_lt_of_eq (by omega) N_0.symm⟩

theorem idx_onto : ∀ (a : Fin 2) (b : Fin 9), win0_2.flush (lastPt a b) = true ∧ win0_2.index (lastPt a b) = ![a.val, b.val] := by
  decide +kernel

theorem mem_blk (t : Fin cfg0.N) (i : S2048x13824.Idx) :
    i ∈ ((cfg0.win 2).blk t).view.set ↔ ∀ a : Fin 2, win0_2.index t a * S1024x1536.size a ≤ (i a).val ∧ (i a).val < win0_2.index t a * S1024x1536.size a + S1024x1536.size a := by
  show i ∈ ((View.whole main_v0).slice (win0_2.rect t)).set ↔ _
  rw [View.set_slice_whole, Rect.mem_set_unit]
  exact Iff.rfl

/-- The array after the run is the whole product. -/
theorem final (c : Dev nD) : (dats m 0 c).arrAt 2 cfg0.N = prod (m (c.tc.loc main_arg0)) (m (c.tc.loc main_arg1)) :=
  (dats m 0 c).arrAt_eq_of_cover 2 _ (flushed_eq m c) fun i => by
    have h0 : (i 0).val < 2048 := (i 0).isLt
    have h1 : (i 1).val < 13824 := (i 1).isLt
    obtain ⟨hf, ht⟩ := idx_onto ⟨(i 0).val / 1024, by omega⟩ ⟨(i 1).val / 1536, by omega⟩
    refine ⟨_, hf, ?_⟩
    have q0 := congrFun ht (0 : Fin 2)
    have q1 := congrFun ht (1 : Fin 2)
    change _ = (i 0).val / 1024 at q0
    change _ = (i 1).val / 1536 at q1
    rw [mem_blk]
    generalize lastPt _ _ = t at q0 q1
    intro a
    match a with
    | ⟨0, _⟩ => show win0_2.index t (0 : Fin 2) * 1024 ≤ (i 0).val ∧ (i 0).val < win0_2.index t (0 : Fin 2) * 1024 + 1024; omega
    | ⟨1, _⟩ => show win0_2.index t (1 : Fin 2) * 1536 ≤ (i 1).val ∧ (i 1).val < win0_2.index t (1 : Fin 2) * 1536 + 1536; omega

theorem run : θ_run defs (onTc (τ := τ) (main (F := Ideal))) ⟨m, fun _ => 0, ρ⟩ fun r => ∀ c : Dev nD,
      r.2.mem (c.tc.loc main_v0) = prod (m (c.tc.loc main_arg0)) (m (c.tc.loc main_arg1))
      ∧ r.2.mem (c.tc.loc main_arg0) = m (c.tc.loc main_arg0)
      ∧ r.2.mem (c.tc.loc main_arg1) = m (c.tc.loc main_arg1) :=
  (θ_run defs _ _).mono (fun _ h c => ⟨(h c).1.trans (final m c), (h c).2⟩) (run_blocks m ρ)

end Cert.Kernel13Ideal.Product

end
-- ==== Proof.EqualKernel13.lean ====
/- The gradient of the weight of the input projections: the reference's array is the kernel's product, and with it the claims about the pair. -/
module

public import proofs.«01_k».proof.Defs
public import proofs.«01_k».proof.Proof.ProductKernel13Ideal
public import proofs.«01_k».proof.Proof.Gen.Reference13Ideal.Run

@[expose] public section

noncomputable section

namespace Cert.Reference13Ideal.Product

open Cert.Reference13Ideal Cert.Reference13Ideal.Gen Cert.Contract
open Idealize.ShloMosaic Idealize.ShloMosaic.TcCoe Idealize.ShloMosaic.ValueIdx Idealize.SL.Sem
open scoped BigOperators

/-- The array the reference computes, entry by entry, is the sum the kernel forms. -/
theorem term_eq (A : FVec Ideal S8448x2048 .bf16) (B : FVec Ideal S8448x13824 .bf16) :
    (truncf .bf16 (transpose S2048x13824 [1, 0] (Host.dotGeneral dot_S8448x13824_S8448x2048_S13824x2048_0_0_1_1_n_n none (extf .f32 B bitsLt_bf16_f32 : FVec Ideal _ .f32) (extf .f32 A bitsLt_bf16_f32 : FVec Ideal _ .f32)) transposes_S13824x2048_S2048x13824_1_0) bitsLt_bf16_f32 : FVec Ideal S2048x13824 .bf16) = Cert.Kernel13Ideal.Product.prod A B := by
  funext y
  obtain ⟨r, s, rfl⟩ : ∃ (r : Fin 2048) (s : Fin 13824), y = ix2 r s := ⟨_, _, eq_ix2 y⟩
  rw [truncf_apply]
  rw [transpose_apply [1, 0] _ _ (ix2 r s) (ix2 s r) (by intro b; fin_cases b <;> rfl)]
  exact (host_tn _ _ _ _ s r).trans (Finset.sum_congr rfl fun k _ => mul_comm _ _)

/-- The reference's run keeps its arguments and ends with every counter at zero. -/
theorem frame : @Cert.quiescent_Reference13Ideal Cert.Reference13Ideal.Gen.facts := fun m ρ _ =>
  (θ_run _ _ _).mono (fun r h => ⟨fun c => (h c).2, sem_eq_zero_of_no_sems (by decide) r.2⟩) (Cert.Reference13Ideal.Value.run m ρ)

/-- Kernel and reference end with equal arrays. -/
theorem algebraic : @Cert.algebraic_Kernel13Ideal_Reference13Ideal Cert.Kernel13Ideal.Gen.facts Cert.Reference13Ideal.Gen.facts := fun m ρ m' ρ' _ hag =>
  ⟨fun c => Cert.Kernel13Ideal.Product.prod (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)),
    Cert.Kernel13Ideal.Product.run m ρ,
    (θ_run _ _ _).mono (fun _ h c => ⟨(h c).1.trans (by
      rw [(hag c).1, (hag c).2]
      exact term_eq _ _), (h c).2⟩) (Cert.Reference13Ideal.Value.run m' ρ')⟩

end Cert.Reference13Ideal.Product

end
-- ==== Proof.ProductKernel14Ideal.lean ====
/- The product `Kernel14Ideal`: the array the kernel leaves is the whole product, entry by entry the sum over the contracted
   index, over the extended reals. -/
module

public import proofs.«01_k».proof.Proof.Contract
public import proofs.«01_k».proof.Proof.Gen.Kernel14Ideal.Value

@[expose] public section

noncomputable section

namespace Cert.Kernel14Ideal.Product

open Cert.Kernel14Ideal Cert.Kernel14Ideal.Gen Cert.Kernel14Ideal.Value Cert.Contract
open Idealize.ShloMosaic Idealize.ShloMosaic.TcCoe Idealize.ShloMosaic.ValueIdx Idealize.SL.Sem
open scoped BigOperators

variable (m : (ℓ : Loc nD τ sig) → Buf (Elt Ideal) ℓ) (ρ : Dev nD → PrngReg)

theorem hz : (![0, 0] : Fin 2 → ℕ) = fun _ => 0 := by funext a; fin_cases a <;> rfl

/-- The whole product. -/
def prod (A : S8192x2048.Idx → EReal) (B : S2048x13824.Idx → EReal) : S8192x13824.Idx → EReal :=
  fun i => ∑ k : Fin 2048, A (ix2 (i 0) k) * B (ix2 k (i 1))

theorem idx_facts : ∀ t : Fin cfg0.N, win0_0.index t (0 : Fin 2) = t.val / 1 / 9 ∧ win0_0.index t (1 : Fin 2) = t.val % 1
    ∧ win0_1.index t (0 : Fin 2) = t.val % 1 ∧ win0_1.index t (1 : Fin 2) = t.val / 1 % 9
    ∧ win0_2.index t (0 : Fin 2) = t.val / 1 / 9 ∧ win0_2.index t (1 : Fin 2) = t.val / 1 % 9 :=
  (by decide +kernel : ∀ t : Fin grid0.N, _)

/-- A point's block of the left factor, by numbers. -/
theorem left_apply (c : Dev nD) (t : Fin cfg0.N) (x : Fin 1024) (y : Fin 2048) : iblk m c 0 t (ix2 x y)
    = nat2 (a := 8192) (b := 2048) (m (c.tc.loc main_arg0)) ((t.val / 1 / 9) * 1024 + x.val) ((t.val % 1) * 2048 + y.val) := by
  obtain ⟨e0, e1, -, -, -, -⟩ := idx_facts t
  show V m c main_arg0 (((cfg0.win 0).blk t).view.emb (ix2 x y)) = _
  rw [V_main_arg0]
  refine eq_nat2 _ _ _ _ ?_ ?_
  · show win0_0.index t (0 : Fin 2) * 1024 + 1 * x.val = _; rw [e0, one_mul]
  · show win0_0.index t (1 : Fin 2) * 2048 + 1 * y.val = _; rw [e1, one_mul]

/-- A point's block of the right factor, by numbers. -/
theorem right_apply (c : Dev nD) (t : Fin cfg0.N) (x : Fin 2048) (y : Fin 1536) : iblk m c 1 t (ix2 x y)
    = nat2 (a := 2048) (b := 13824) (m (c.tc.loc main_arg1)) ((t.val % 1) * 2048 + x.val) ((t.val / 1 % 9) * 1536 + y.val) := by
  obtain ⟨-, -, e2, e3, -, -⟩ := idx_facts t
  show V m c main_arg1 (((cfg0.win 1).blk t).view.emb (ix2 x y)) = _
  rw [V_main_arg1]
  refine eq_nat2 _ _ _ _ ?_ ?_
  · show win0_1.index t (0 : Fin 2) * 2048 + 1 * x.val = _; rw [e2, one_mul]
  · show win0_1.index t (1 : Fin 2) * 1536 + 1 * y.val = _; rw [e3, one_mul]

/-- One term of the entry in row `r` and column `s` of the tile written at the end of run `q`, at contracted position `K`. -/
abbrev term (A : S8192x2048.Idx → EReal) (B : S2048x13824.Idx → EReal) (q r s K : ℕ) : EReal :=
  nat2 (a := 8192) (b := 2048) A (q / 9 * 1024 + r) K * nat2 (a := 2048) (b := 13824) B K (q % 9 * 1536 + s)

theorem prod_emb (A : S8192x2048.Idx → EReal) (B : S2048x13824.Idx → EReal) (t : Fin cfg0.N) (r : Fin 1024) (s : Fin 1536) :
    prod A B (((cfg0.win 2).blk t).view.emb (ix2 r s)) = ∑ k : Fin 2048, term A B (t.val / 1) r.val s.val k.val := by
  obtain ⟨-, -, -, -, e4, e5⟩ := idx_facts t
  have h0 : (((cfg0.win 2).blk t).view.emb (ix2 r s) 0).val = t.val / 1 / 9 * 1024 + r.val := by
    show win0_2.index t (0 : Fin 2) * 1024 + 1 * r.val = _; rw [e4, one_mul]
  have h1 : (((cfg0.win 2).blk t).view.emb (ix2 r s) 1).val = t.val / 1 % 9 * 1536 + s.val := by
    show win0_2.index t (1 : Fin 2) * 1536 + 1 * s.val = _; rw [e5, one_mul]
  unfold prod
  refine Finset.sum_congr rfl fun k _ => ?_
  exact congrArg₂ (· * ·) (eq_nat2 A _ _ _ h0 rfl) (eq_nat2 B _ _ _ rfl h1)

/-- One tile: the product of the two blocks. -/
theorem out_apply (x0 : Vec Ideal S1024x2048 .bf16) (x1 : Vec Ideal S2048x1536 .bf16) (r : Fin 1024) (s : Fin 1536) :
    out0_2 x0 x1 (ix2 r s) = ∑ k : Fin 2048, x0 (ix2 r k) * x1 (ix2 k s) := by
  unfold out0_2
  rw [View.canon_unit_zero hz, View.ld_unit_zero (S := S1024x2048) hz, View.ld_unit_zero (S := S2048x1536) hz]
  unfold k0_pay1
  rw [truncf_apply]
  exact matmul_nn _ x0 x1 _ r s

/-- What a point writes back is its block of the whole product. -/
theorem flushed_eq (c : Dev nD) (t : Fin cfg0.N) (_hf : (cfg0.win 2).flush t = true) : (dats m 0 c).flushed 2 t
    = ((cfg0.win 2).blk t).view.read (Elt Ideal) (prod (m (c.tc.loc main_arg0)) (m (c.tc.loc main_arg1))) := by
  rw [flushed2]
  funext y
  obtain ⟨r, s, rfl⟩ : ∃ (r : Fin 1024) (s : Fin 1536), y = ix2 r s := ⟨_, _, eq_ix2 y⟩
  refine (out_apply (iblk m c 0 t) (iblk m c 1 t) r s).trans ?_
  refine Eq.trans ?_ (prod_emb _ _ t r s).symm
  refine Finset.sum_congr rfl fun k _ => ?_
  rw [left_apply, right_apply, show t.val % 1 * 2048 + k.val = k.val by omega]

/-- The last point of run `q`. -/
abbrev lastPt (a : Fin 8) (b : Fin 9) : Fin grid0.N := ⟨1 * (9 * a.val + b.val) + 0, lt_of_lt_of_eq (by omega) N_0.symm⟩

theorem idx_onto : ∀ (a : Fin 8) (b : Fin 9), win0_2.flush (lastPt a b) = true ∧ win0_2.index (lastPt a b) = ![a.val, b.val] := by
  decide +kernel

theorem mem_blk (t : Fin cfg0.N) (i : S8192x13824.Idx) :
    i ∈ ((cfg0.win 2).blk t).view.set ↔ ∀ a : Fin 2, win0_2.index t a * S1024x1536.size a ≤ (i a).val ∧ (i a).val < win0_2.index t a * S1024x1536.size a + S1024x1536.size a := by
  show i ∈ ((View.whole main_v0).slice (win0_2.rect t)).set ↔ _
  rw [View.set_slice_whole, Rect.mem_set_unit]
  exact Iff.rfl

/-- The array after the run is the whole product. -/
theorem final (c : Dev nD) : (dats m 0 c).arrAt 2 cfg0.N = prod (m (c.tc.loc main_arg0)) (m (c.tc.loc main_arg1)) :=
  (dats m 0 c).arrAt_eq_of_cover 2 _ (flushed_eq m c) fun i => by
    have h0 : (i 0).val < 8192 := (i 0).isLt
    have h1 : (i 1).val < 13824 := (i 1).isLt
    obtain ⟨hf, ht⟩ := idx_onto ⟨(i 0).val / 1024, by omega⟩ ⟨(i 1).val / 1536, by omega⟩
    refine ⟨_, hf, ?_⟩
    have q0 := congrFun ht (0 : Fin 2)
    have q1 := congrFun ht (1 : Fin 2)
    change _ = (i 0).val / 1024 at q0
    change _ = (i 1).val / 1536 at q1
    rw [mem_blk]
    generalize lastPt _ _ = t at q0 q1
    intro a
    match a with
    | ⟨0, _⟩ => show win0_2.index t (0 : Fin 2) * 1024 ≤ (i 0).val ∧ (i 0).val < win0_2.index t (0 : Fin 2) * 1024 + 1024; omega
    | ⟨1, _⟩ => show win0_2.index t (1 : Fin 2) * 1536 ≤ (i 1).val ∧ (i 1).val < win0_2.index t (1 : Fin 2) * 1536 + 1536; omega

theorem run : θ_run defs (onTc (τ := τ) (main (F := Ideal))) ⟨m, fun _ => 0, ρ⟩ fun r => ∀ c : Dev nD,
      r.2.mem (c.tc.loc main_v0) = prod (m (c.tc.loc main_arg0)) (m (c.tc.loc main_arg1))
      ∧ r.2.mem (c.tc.loc main_arg0) = m (c.tc.loc main_arg0)
      ∧ r.2.mem (c.tc.loc main_arg1) = m (c.tc.loc main_arg1) :=
  (θ_run defs _ _).mono (fun _ h c => ⟨(h c).1.trans (final m c), (h c).2⟩) (run_blocks m ρ)

end Cert.Kernel14Ideal.Product

end
-- ==== Proof.EqualKernel14.lean ====
/- The input projections: the reference's array is the kernel's product, and with it the claims about the pair. -/
module

public import proofs.«01_k».proof.Defs
public import proofs.«01_k».proof.Proof.ProductKernel14Ideal
public import proofs.«01_k».proof.Proof.Gen.Reference14Ideal.Run

@[expose] public section

noncomputable section

namespace Cert.Reference14Ideal.Product

open Cert.Reference14Ideal Cert.Reference14Ideal.Gen Cert.Contract
open Idealize.ShloMosaic Idealize.ShloMosaic.TcCoe Idealize.ShloMosaic.ValueIdx Idealize.SL.Sem
open scoped BigOperators

/-- The array the reference computes, entry by entry, is the sum the kernel forms. -/
theorem term_eq (A : FVec Ideal S8192x2048 .bf16) (B : FVec Ideal S2048x13824 .bf16) :
    (truncf .bf16 (Host.dotGeneral dot_S8192x2048_S2048x13824_S8192x13824_1_0_0_1_n_n none (extf .f32 A bitsLt_bf16_f32 : FVec Ideal _ .f32) (extf .f32 B bitsLt_bf16_f32 : FVec Ideal _ .f32)) bitsLt_bf16_f32 : FVec Ideal S8192x13824 .bf16) = Cert.Kernel14Ideal.Product.prod A B := by
  funext y
  obtain ⟨r, s, rfl⟩ : ∃ (r : Fin 8192) (s : Fin 13824), y = ix2 r s := ⟨_, _, eq_ix2 y⟩
  rw [truncf_apply]
  exact (host_nn _ _ _ _ r s).trans (Finset.sum_congr rfl fun k _ => rfl)

/-- The reference's run keeps its arguments and ends with every counter at zero. -/
theorem frame : @Cert.quiescent_Reference14Ideal Cert.Reference14Ideal.Gen.facts := fun m ρ _ =>
  (θ_run _ _ _).mono (fun r h => ⟨fun c => (h c).2, sem_eq_zero_of_no_sems (by decide) r.2⟩) (Cert.Reference14Ideal.Value.run m ρ)

/-- Kernel and reference end with equal arrays. -/
theorem algebraic : @Cert.algebraic_Kernel14Ideal_Reference14Ideal Cert.Kernel14Ideal.Gen.facts Cert.Reference14Ideal.Gen.facts := fun m ρ m' ρ' _ hag =>
  ⟨fun c => Cert.Kernel14Ideal.Product.prod (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg1)),
    Cert.Kernel14Ideal.Product.run m ρ,
    (θ_run _ _ _).mono (fun _ h c => ⟨(h c).1.trans (by
      rw [(hag c).1, (hag c).2]
      exact term_eq _ _), (h c).2⟩) (Cert.Reference14Ideal.Value.run m' ρ')⟩

end Cert.Reference14Ideal.Product

end
-- ==== Proof.ProductKernel15Ideal.lean ====
/- The product `Kernel15Ideal`: the array the kernel leaves is the whole product, entry by entry the sum over the contracted
   index, over the extended reals. -/
module

public import proofs.«01_k».proof.Proof.Stretches
public import proofs.«01_k».proof.Proof.Gen.Kernel15Ideal.Value

@[expose] public section

noncomputable section

namespace Cert.Kernel15Ideal.Product

open Cert.Kernel15Ideal Cert.Kernel15Ideal.Gen Cert.Kernel15Ideal.Value Cert.Contract
open Idealize.ShloMosaic Idealize.ShloMosaic.TcCoe Idealize.ShloMosaic.ValueIdx Idealize.SL.Sem
open scoped BigOperators

variable (m : (ℓ : Loc nD τ sig) → Buf (Elt Ideal) ℓ) (ρ : Dev nD → PrngReg)

theorem hz : (![0, 0] : Fin 2 → ℕ) = fun _ => 0 := by funext a; fin_cases a <;> rfl

/-- The whole product. -/
def prod (A : S16x2048.Idx → EReal) (B : S16x3072.Idx → EReal) : S2048x3072.Idx → EReal :=
  fun i => ∑ k : Fin 16, A (ix2 k (i 0)) * B (ix2 k (i 1))

theorem idx_facts : ∀ t : Fin cfg0.N, win0_0.index t (0 : Fin 2) = t.val % 1 ∧ win0_0.index t (1 : Fin 2) = t.val / 1 / 2
    ∧ win0_1.index t (0 : Fin 2) = t.val % 1 ∧ win0_1.index t (1 : Fin 2) = t.val / 1 % 2
    ∧ win0_2.index t (0 : Fin 2) = t.val / 1 / 2 ∧ win0_2.index t (1 : Fin 2) = t.val / 1 % 2 :=
  (by decide +kernel : ∀ t : Fin grid0.N, _)

/-- A point's block of the left factor, by numbers. -/
theorem left_apply (c : Dev nD) (t : Fin cfg0.N) (x : Fin 16) (y : Fin 1024) : iblk m c 0 t (ix2 x y)
    = nat2 (a := 16) (b := 2048) (m (c.tc.loc main_arg0)) ((t.val % 1) * 16 + x.val) ((t.val / 1 / 2) * 1024 + y.val) := by
  obtain ⟨e0, e1, -, -, -, -⟩ := idx_facts t
  show V m c main_arg0 (((cfg0.win 0).blk t).view.emb (ix2 x y)) = _
  rw [V_main_arg0]
  refine eq_nat2 _ _ _ _ ?_ ?_
  · show win0_0.index t (0 : Fin 2) * 16 + 1 * x.val = _; rw [e0, one_mul]
  · show win0_0.index t (1 : Fin 2) * 1024 + 1 * y.val = _; rw [e1, one_mul]

/-- A point's block of the right factor, by numbers. -/
theorem right_apply (c : Dev nD) (t : Fin cfg0.N) (x : Fin 16) (y : Fin 1536) : iblk m c 1 t (ix2 x y)
    = nat2 (a := 16) (b := 3072) (m (c.tc.loc main_arg1)) ((t.val % 1) * 16 + x.val) ((t.val / 1 % 2) * 1536 + y.val) := by
  obtain ⟨-, -, e2, e3, -, -⟩ := idx_facts t
  show V m c main_arg1 (((cfg0.win 1).blk t).view.emb (ix2 x y)) = _
  rw [V_main_arg1]
  refine eq_nat2 _ _ _ _ ?_ ?_
  · show win0_1.index t (0 : Fin 2) * 16 + 1 * x.val = _; rw [e2, one_mul]
  · show win0_1.index t (1 : Fin 2) * 1536 + 1 * y.val = _; rw [e3, one_mul]

/-- One term of the entry in row `r` and column `s` of the tile written at the end of run `q`, at contracted position `K`. -/
abbrev term (A : S16x2048.Idx → EReal) (B : S16x3072.Idx → EReal) (q r s K : ℕ) : EReal :=
  nat2 (a := 16) (b := 2048) A K (q / 2 * 1024 + r) * nat2 (a := 16) (b := 3072) B K (q % 2 * 1536 + s)

theorem prod_emb (A : S16x2048.Idx → EReal) (B : S16x3072.Idx → EReal) (t : Fin cfg0.N) (r : Fin 1024) (s : Fin 1536) :
    prod A B (((cfg0.win 2).blk t).view.emb (ix2 r s)) = ∑ k : Fin 16, term A B (t.val / 1) r.val s.val k.val := by
  obtain ⟨-, -, -, -, e4, e5⟩ := idx_facts t
  have h0 : (((cfg0.win 2).blk t).view.emb (ix2 r s) 0).val = t.val / 1 / 2 * 1024 + r.val := by
    show win0_2.index t (0 : Fin 2) * 1024 + 1 * r.val = _; rw [e4, one_mul]
  have h1 : (((cfg0.win 2).blk t).view.emb (ix2 r s) 1).val = t.val / 1 % 2 * 1536 + s.val := by
    show win0_2.index t (1 : Fin 2) * 1536 + 1 * s.val = _; rw [e5, one_mul]
  unfold prod
  refine Finset.sum_congr rfl fun k _ => ?_
  exact congrArg₂ (· * ·) (eq_nat2 A _ _ _ rfl h0) (eq_nat2 B _ _ _ rfl h1)

/-- One tile: the product of the two blocks. -/
theorem out_apply (x0 : Vec Ideal S16x1024 .bf16) (x1 : Vec Ideal S16x1536 .bf16) (r : Fin 1024) (s : Fin 1536) :
    out0_2 x0 x1 (ix2 r s) = ∑ k : Fin 16, x0 (ix2 k r) * x1 (ix2 k s) := by
  unfold out0_2
  rw [View.canon_unit_zero hz, View.ld_unit_zero (S := S16x1024) hz, View.ld_unit_zero (S := S16x1536) hz]
  unfold k0_pay1
  exact matmul_tn _ x0 x1 _ r s

/-- What a point writes back is its block of the whole product. -/
theorem flushed_eq (c : Dev nD) (t : Fin cfg0.N) (_hf : (cfg0.win 2).flush t = true) : (dats m 0 c).flushed 2 t
    = ((cfg0.win 2).blk t).view.read (Elt Ideal) (prod (m (c.tc.loc main_arg0)) (m (c.tc.loc main_arg1))) := by
  rw [flushed2]
  funext y
  obtain ⟨r, s, rfl⟩ : ∃ (r : Fin 1024) (s : Fin 1536), y = ix2 r s := ⟨_, _, eq_ix2 y⟩
  refine (out_apply (iblk m c 0 t) (iblk m c 1 t) r s).trans ?_
  refine Eq.trans ?_ (prod_emb _ _ t r s).symm
  refine Finset.sum_congr rfl fun k _ => ?_
  rw [left_apply, right_apply, show t.val % 1 * 16 + k.val = k.val by omega]

/-- The last point of run `q`. -/
abbrev lastPt (a : Fin 2) (b : Fin 2) : Fin grid0.N := ⟨1 * (2 * a.val + b.val) + 0, lt_of_lt_of_eq (by omega) N_0.symm⟩

theorem idx_onto : ∀ (a : Fin 2) (b : Fin 2), win0_2.flush (lastPt a b) = true ∧ win0_2.index (lastPt a b) = ![a.val, b.val] := by
  decide +kernel

theorem mem_blk (t : Fin cfg0.N) (i : S2048x3072.Idx) :
    i ∈ ((cfg0.win 2).blk t).view.set ↔ ∀ a : Fin 2, win0_2.index t a * S1024x1536.size a ≤ (i a).val ∧ (i a).val < win0_2.index t a * S1024x1536.size a + S1024x1536.size a := by
  show i ∈ ((View.whole main_v0).slice (win0_2.rect t)).set ↔ _
  rw [View.set_slice_whole, Rect.mem_set_unit]
  exact Iff.rfl

/-- The array after the run is the whole product. -/
theorem final (c : Dev nD) : (dats m 0 c).arrAt 2 cfg0.N = prod (m (c.tc.loc main_arg0)) (m (c.tc.loc main_arg1)) :=
  (dats m 0 c).arrAt_eq_of_cover 2 _ (flushed_eq m c) fun i => by
    have h0 : (i 0).val < 2048 := (i 0).isLt
    have h1 : (i 1).val < 3072 := (i 1).isLt
    obtain ⟨hf, ht⟩ := idx_onto ⟨(i 0).val / 1024, by omega⟩ ⟨(i 1).val / 1536, by omega⟩
    refine ⟨_, hf, ?_⟩
    have q0 := congrFun ht (0 : Fin 2)
    have q1 := congrFun ht (1 : Fin 2)
    change _ = (i 0).val / 1024 at q0
    change _ = (i 1).val / 1536 at q1
    rw [mem_blk]
    generalize lastPt _ _ = t at q0 q1
    intro a
    match a with
    | ⟨0, _⟩ => show win0_2.index t (0 : Fin 2) * 1024 ≤ (i 0).val ∧ (i 0).val < win0_2.index t (0 : Fin 2) * 1024 + 1024; omega
    | ⟨1, _⟩ => show win0_2.index t (1 : Fin 2) * 1536 ≤ (i 1).val ∧ (i 1).val < win0_2.index t (1 : Fin 2) * 1536 + 1536; omega

theorem run : θ_run defs (onTc (τ := τ) (main (F := Ideal))) ⟨m, fun _ => 0, ρ⟩ fun r => ∀ c : Dev nD,
      r.2.mem (c.tc.loc main_v0) = prod (m (c.tc.loc main_arg0)) (m (c.tc.loc main_arg1))
      ∧ r.2.mem (c.tc.loc main_arg0) = m (c.tc.loc main_arg0)
      ∧ r.2.mem (c.tc.loc main_arg1) = m (c.tc.loc main_arg1) :=
  (θ_run defs _ _).mono (fun _ h c => ⟨(h c).1.trans (final m c), (h c).2⟩) (run_blocks m ρ)

end Cert.Kernel15Ideal.Product

end
-- ==== Proof.EqualKernel15.lean ====
/- The gradient of the modulation's weight: the reference's array is the kernel's product, and with it the claims about the pair. -/
module

public import proofs.«01_k».proof.Defs
public import proofs.«01_k».proof.Proof.ProductKernel15Ideal
public import proofs.«01_k».proof.Proof.Gen.Reference15Ideal.Run

@[expose] public section

noncomputable section

namespace Cert.Reference15Ideal.Product

open Cert.Reference15Ideal Cert.Reference15Ideal.Gen Cert.Contract
open Idealize.ShloMosaic Idealize.ShloMosaic.TcCoe Idealize.ShloMosaic.ValueIdx Idealize.SL.Sem
open scoped BigOperators

/-- The array the reference computes, entry by entry, is the sum the kernel forms. -/
theorem term_eq (A : FVec Ideal S16x2048 .bf16) (B : FVec Ideal S16x3072 .bf16) :
    (transpose S2048x3072 [1, 0] (Host.dotGeneral dot_S16x3072_S16x2048_S3072x2048_0_0_1_1_n_n none (extf .f32 B bitsLt_bf16_f32 : FVec Ideal _ .f32) (extf .f32 A bitsLt_bf16_f32 : FVec Ideal _ .f32)) transposes_S3072x2048_S2048x3072_1_0 : FVec Ideal S2048x3072 .f32) = Cert.Kernel15Ideal.Product.prod A B := by
  funext y
  obtain ⟨r, s, rfl⟩ : ∃ (r : Fin 2048) (s : Fin 3072), y = ix2 r s := ⟨_, _, eq_ix2 y⟩
  rw [transpose_apply [1, 0] _ _ (ix2 r s) (ix2 s r) (by intro b; fin_cases b <;> rfl)]
  exact (host_tn _ _ _ _ s r).trans (Finset.sum_congr rfl fun k _ => mul_comm _ _)

/-- The reference's run keeps its arguments and ends with every counter at zero. -/
theorem frame : @Cert.quiescent_Reference15Ideal Cert.Reference15Ideal.Gen.facts := fun m ρ _ =>
  (θ_run _ _ _).mono (fun r h => ⟨fun c => (h c).2, sem_eq_zero_of_no_sems (by decide) r.2⟩) (Cert.Reference15Ideal.Value.run m ρ)

/-- Kernel and reference end with equal arrays. -/
theorem algebraic : @Cert.algebraic_Kernel15Ideal_Reference15Ideal Cert.Kernel15Ideal.Gen.facts Cert.Reference15Ideal.Gen.facts := fun m ρ m' ρ' _ hag =>
  ⟨fun c => Cert.Kernel15Ideal.Product.prod (m ((c.tc : Thread Cert.Kernel15Ideal.nD Cert.Kernel15Ideal.τ).loc Cert.Kernel15Ideal.main_arg0)) (m ((c.tc : Thread Cert.Kernel15Ideal.nD Cert.Kernel15Ideal.τ).loc Cert.Kernel15Ideal.main_arg1)),
    Cert.Kernel15Ideal.Product.run m ρ,
    (θ_run _ _ _).mono (fun _ h c => ⟨(h c).1.trans (by
      rw [(hag c).1, (hag c).2]
      exact term_eq _ _), (h c).2⟩) (Cert.Reference15Ideal.Value.run m' ρ')⟩

end Cert.Reference15Ideal.Product

end
-- ==== Proof.ProductKernel16Ideal.lean ====
/- The product `Kernel16Ideal`: the array the kernel leaves is the whole product, entry by entry the sum over the contracted
   index, over the extended reals. -/
module

public import proofs.«01_k».proof.Proof.Contract
public import proofs.«01_k».proof.Proof.Gen.Kernel16Ideal.Value

@[expose] public section

noncomputable section

namespace Cert.Kernel16Ideal.Product

open Cert.Kernel16Ideal Cert.Kernel16Ideal.Gen Cert.Kernel16Ideal.Value Cert.Contract
open Idealize.ShloMosaic Idealize.ShloMosaic.TcCoe Idealize.ShloMosaic.ValueIdx Idealize.SL.Sem
open scoped BigOperators

variable (m : (ℓ : Loc nD τ sig) → Buf (Elt Ideal) ℓ) (ρ : Dev nD → PrngReg)

theorem hz : (![0, 0] : Fin 2 → ℕ) = fun _ => 0 := by funext a; fin_cases a <;> rfl

/-- The whole product. -/
def prod (A : S16x3072.Idx → EReal) (B : S2048x3072.Idx → EReal) : S16x2048.Idx → EReal :=
  fun i => ∑ k : Fin 3072, A (ix2 (i 0) k) * B (ix2 (i 1) k)

theorem idx_facts : ∀ t : Fin cfg0.N, win0_0.index t (0 : Fin 2) = t.val / 1 / 2 ∧ win0_0.index t (1 : Fin 2) = t.val % 1
    ∧ win0_1.index t (0 : Fin 2) = t.val / 1 % 2 ∧ win0_1.index t (1 : Fin 2) = t.val % 1
    ∧ win0_2.index t (0 : Fin 2) = t.val / 1 / 2 ∧ win0_2.index t (1 : Fin 2) = t.val / 1 % 2 :=
  (by decide +kernel : ∀ t : Fin grid0.N, _)

/-- A point's block of the left factor, by numbers. -/
theorem left_apply (c : Dev nD) (t : Fin cfg0.N) (x : Fin 16) (y : Fin 3072) : iblk m c 0 t (ix2 x y)
    = nat2 (a := 16) (b := 3072) (m (c.tc.loc main_arg0)) ((t.val / 1 / 2) * 16 + x.val) ((t.val % 1) * 3072 + y.val) := by
  obtain ⟨e0, e1, -, -, -, -⟩ := idx_facts t
  show V m c main_arg0 (((cfg0.win 0).blk t).view.emb (ix2 x y)) = _
  rw [V_main_arg0]
  refine eq_nat2 _ _ _ _ ?_ ?_
  · show win0_0.index t (0 : Fin 2) * 16 + 1 * x.val = _; rw [e0, one_mul]
  · show win0_0.index t (1 : Fin 2) * 3072 + 1 * y.val = _; rw [e1, one_mul]

/-- A point's block of the right factor, by numbers. -/
theorem right_apply (c : Dev nD) (t : Fin cfg0.N) (x : Fin 1024) (y : Fin 3072) : iblk m c 1 t (ix2 x y)
    = nat2 (a := 2048) (b := 3072) (m (c.tc.loc main_arg1)) ((t.val / 1 % 2) * 1024 + x.val) ((t.val % 1) * 3072 + y.val) := by
  obtain ⟨-, -, e2, e3, -, -⟩ := idx_facts t
  show V m c main_arg1 (((cfg0.win 1).blk t).view.emb (ix2 x y)) = _
  rw [V_main_arg1]
  refine eq_nat2 _ _ _ _ ?_ ?_
  · show win0_1.index t (0 : Fin 2) * 1024 + 1 * x.val = _; rw [e2, one_mul]
  · show win0_1.index t (1 : Fin 2) * 3072 + 1 * y.val = _; rw [e3, one_mul]

/-- One term of the entry in row `r` and column `s` of the tile written at the end of run `q`, at contracted position `K`. -/
abbrev term (A : S16x3072.Idx → EReal) (B : S2048x3072.Idx → EReal) (q r s K : ℕ) : EReal :=
  nat2 (a := 16) (b := 3072) A (q / 2 * 16 + r) K * nat2 (a := 2048) (b := 3072) B (q % 2 * 1024 + s) K

theorem prod_emb (A : S16x3072.Idx → EReal) (B : S2048x3072.Idx → EReal) (t : Fin cfg0.N) (r : Fin 16) (s : Fin 1024) :
    prod A B (((cfg0.win 2).blk t).view.emb (ix2 r s)) = ∑ k : Fin 3072, term A B (t.val / 1) r.val s.val k.val := by
  obtain ⟨-, -, -, -, e4, e5⟩ := idx_facts t
  have h0 : (((cfg0.win 2).blk t).view.emb (ix2 r s) 0).val = t.val / 1 / 2 * 16 + r.val := by
    show win0_2.index t (0 : Fin 2) * 16 + 1 * r.val = _; rw [e4, one_mul]
  have h1 : (((cfg0.win 2).blk t).view.emb (ix2 r s) 1).val = t.val / 1 % 2 * 1024 + s.val := by
    show win0_2.index t (1 : Fin 2) * 1024 + 1 * s.val = _; rw [e5, one_mul]
  unfold prod
  refine Finset.sum_congr rfl fun k _ => ?_
  exact congrArg₂ (· * ·) (eq_nat2 A _ _ _ h0 rfl) (eq_nat2 B _ _ _ h1 rfl)

/-- One tile: the product of the two blocks. -/
theorem out_apply (x0 : Vec Ideal S16x3072 .bf16) (x1 : Vec Ideal S1024x3072 .bf16) (r : Fin 16) (s : Fin 1024) :
    out0_2 x0 x1 (ix2 r s) = ∑ k : Fin 3072, x0 (ix2 r k) * x1 (ix2 s k) := by
  unfold out0_2
  rw [View.canon_unit_zero hz, View.ld_unit_zero (S := S16x3072) hz, View.ld_unit_zero (S := S1024x3072) hz]
  unfold k0_pay1
  exact matmul_nt _ x0 x1 _ r s

/-- What a point writes back is its block of the whole product. -/
theorem flushed_eq (c : Dev nD) (t : Fin cfg0.N) (_hf : (cfg0.win 2).flush t = true) : (dats m 0 c).flushed 2 t
    = ((cfg0.win 2).blk t).view.read (Elt Ideal) (prod (m (c.tc.loc main_arg0)) (m (c.tc.loc main_arg1))) := by
  rw [flushed2]
  funext y
  obtain ⟨r, s, rfl⟩ : ∃ (r : Fin 16) (s : Fin 1024), y = ix2 r s := ⟨_, _, eq_ix2 y⟩
  refine (out_apply (iblk m c 0 t) (iblk m c 1 t) r s).trans ?_
  refine Eq.trans ?_ (prod_emb _ _ t r s).symm
  refine Finset.sum_congr rfl fun k _ => ?_
  rw [left_apply, right_apply, show t.val % 1 * 3072 + k.val = k.val by omega]

/-- The last point of run `q`. -/
abbrev lastPt (a : Fin 1) (b : Fin 2) : Fin grid0.N := ⟨1 * (2 * a.val + b.val) + 0, lt_of_lt_of_eq (by omega) N_0.symm⟩

theorem idx_onto : ∀ (a : Fin 1) (b : Fin 2), win0_2.flush (lastPt a b) = true ∧ win0_2.index (lastPt a b) = ![a.val, b.val] := by
  decide +kernel

theorem mem_blk (t : Fin cfg0.N) (i : S16x2048.Idx) :
    i ∈ ((cfg0.win 2).blk t).view.set ↔ ∀ a : Fin 2, win0_2.index t a * S16x1024.size a ≤ (i a).val ∧ (i a).val < win0_2.index t a * S16x1024.size a + S16x1024.size a := by
  show i ∈ ((View.whole main_v0).slice (win0_2.rect t)).set ↔ _
  rw [View.set_slice_whole, Rect.mem_set_unit]
  exact Iff.rfl

/-- The array after the run is the whole product. -/
theorem final (c : Dev nD) : (dats m 0 c).arrAt 2 cfg0.N = prod (m (c.tc.loc main_arg0)) (m (c.tc.loc main_arg1)) :=
  (dats m 0 c).arrAt_eq_of_cover 2 _ (flushed_eq m c) fun i => by
    have h0 : (i 0).val < 16 := (i 0).isLt
    have h1 : (i 1).val < 2048 := (i 1).isLt
    obtain ⟨hf, ht⟩ := idx_onto ⟨(i 0).val / 16, by omega⟩ ⟨(i 1).val / 1024, by omega⟩
    refine ⟨_, hf, ?_⟩
    have q0 := congrFun ht (0 : Fin 2)
    have q1 := congrFun ht (1 : Fin 2)
    change _ = (i 0).val / 16 at q0
    change _ = (i 1).val / 1024 at q1
    rw [mem_blk]
    generalize lastPt _ _ = t at q0 q1
    intro a
    match a with
    | ⟨0, _⟩ => show win0_2.index t (0 : Fin 2) * 16 ≤ (i 0).val ∧ (i 0).val < win0_2.index t (0 : Fin 2) * 16 + 16; omega
    | ⟨1, _⟩ => show win0_2.index t (1 : Fin 2) * 1024 ≤ (i 1).val ∧ (i 1).val < win0_2.index t (1 : Fin 2) * 1024 + 1024; omega

theorem run : θ_run defs (onTc (τ := τ) (main (F := Ideal))) ⟨m, fun _ => 0, ρ⟩ fun r => ∀ c : Dev nD,
      r.2.mem (c.tc.loc main_v0) = prod (m (c.tc.loc main_arg0)) (m (c.tc.loc main_arg1))
      ∧ r.2.mem (c.tc.loc main_arg0) = m (c.tc.loc main_arg0)
      ∧ r.2.mem (c.tc.loc main_arg1) = m (c.tc.loc main_arg1) :=
  (θ_run defs _ _).mono (fun _ h c => ⟨(h c).1.trans (final m c), (h c).2⟩) (run_blocks m ρ)

end Cert.Kernel16Ideal.Product

end
-- ==== Proof.EqualKernel16.lean ====
/- The modulation's gradient in the conditioning: the reference's array is the kernel's product, and with it the claims about the pair. -/
module

public import proofs.«01_k».proof.Defs
public import proofs.«01_k».proof.Proof.ProductKernel16Ideal
public import proofs.«01_k».proof.Proof.Gen.Reference16Ideal.Run

@[expose] public section

noncomputable section

namespace Cert.Reference16Ideal.Product

open Cert.Reference16Ideal Cert.Reference16Ideal.Gen Cert.Contract
open Idealize.ShloMosaic Idealize.ShloMosaic.TcCoe Idealize.ShloMosaic.ValueIdx Idealize.SL.Sem
open scoped BigOperators

/-- The array the reference computes, entry by entry, is the sum the kernel forms. -/
theorem term_eq (A : FVec Ideal S16x3072 .bf16) (B : FVec Ideal S2048x3072 .bf16) :
    (Host.dotGeneral dot_S16x3072_S2048x3072_S16x2048_1_1_0_0_n_n none (extf .f32 A bitsLt_bf16_f32 : FVec Ideal _ .f32) (extf .f32 B bitsLt_bf16_f32 : FVec Ideal _ .f32) : FVec Ideal S16x2048 .f32) = Cert.Kernel16Ideal.Product.prod A B := by
  funext y
  obtain ⟨r, s, rfl⟩ : ∃ (r : Fin 16) (s : Fin 2048), y = ix2 r s := ⟨_, _, eq_ix2 y⟩
  exact (host_nt _ _ _ _ r s).trans (Finset.sum_congr rfl fun k _ => rfl)

/-- The reference's run keeps its arguments and ends with every counter at zero. -/
theorem frame : @Cert.quiescent_Reference16Ideal Cert.Reference16Ideal.Gen.facts := fun m ρ _ =>
  (θ_run _ _ _).mono (fun r h => ⟨fun c => (h c).2, sem_eq_zero_of_no_sems (by decide) r.2⟩) (Cert.Reference16Ideal.Value.run m ρ)

/-- Kernel and reference end with equal arrays. -/
theorem algebraic : @Cert.algebraic_Kernel16Ideal_Reference16Ideal Cert.Kernel16Ideal.Gen.facts Cert.Reference16Ideal.Gen.facts := fun m ρ m' ρ' _ hag =>
  ⟨fun c => Cert.Kernel16Ideal.Product.prod (m ((c.tc : Thread Cert.Kernel16Ideal.nD Cert.Kernel16Ideal.τ).loc Cert.Kernel16Ideal.main_arg0)) (m ((c.tc : Thread Cert.Kernel16Ideal.nD Cert.Kernel16Ideal.τ).loc Cert.Kernel16Ideal.main_arg1)),
    Cert.Kernel16Ideal.Product.run m ρ,
    (θ_run _ _ _).mono (fun _ h c => ⟨(h c).1.trans (by
      rw [(hag c).1, (hag c).2]
      exact term_eq _ _), (h c).2⟩) (Cert.Reference16Ideal.Value.run m' ρ')⟩

end Cert.Reference16Ideal.Product

end
-- ==== Proof.NormKernel.lean ====
/- The gradient of the modulated norm: what the kernel's four arrays hold, entry by entry. -/
module

public import proofs.«01_k».proof.Proof.Stretches
public import proofs.«01_k».proof.Proof.Gen.Kernel17Ideal.Value
public import Idealize.ShloMosaic.Lib.WholeRead
public import Idealize.ShloMosaic.Lib.Pointwise

@[expose] public section

noncomputable section

namespace Cert.Norm

open Idealize.ShloMosaic
open scoped BigOperators

/-- A row of the array: 2048 entries. -/
abbrev Line := Fin 2048 → EReal

/-- The mean square of a row, with the small constant. -/
def meanSq (x : Line) : EReal := Ideal.div (∑ k, x k * x k) (Ideal.ofBits .f32 0x45000000#32) + Ideal.ofBits .f32 0x358637BD#32

/-- Its inverse root. -/
def invRoot (x : Line) : EReal := Ideal.rsqrt (meanSq x)

/-- A row's terms of the gradients in the scale and in the gain, of the row `x`, the gain `g`, the scale `s` and the cotangent `d`. -/
def dScale (x g d : Line) (j : Fin 2048) : EReal := x j * invRoot x * g j * d j
def dGain (x s d : Line) (j : Fin 2048) : EReal := x j * invRoot x * (d j * (Ideal.ofBits .f32 0x3F800000#32 + s j))

/-- The cotangent of the row divided by its root mean square. -/
def dUnit (g s d : Line) (j : Fin 2048) : EReal := d j * (Ideal.ofBits .f32 0x3F800000#32 + s j) * g j

/-- The cotangent of each square in the mean. -/
def dMean (x g s d : Line) : EReal :=
  Ideal.div ((∑ k, x k * dUnit g s d k) * (Ideal.ofBits .f32 0xBF000000#32 * Ideal.div (invRoot x) (meanSq x))) (Ideal.ofBits .f32 0x45000000#32)

/-- The gradient in the row, added to `e`. -/
def dRow (x g s d e : Line) (j : Fin 2048) : EReal :=
  e j + dUnit g s d j * invRoot x + x j * dMean x g s d + dMean x g s d * x j

end Cert.Norm

namespace Cert.Kernel17Ideal.Norm

open Cert.Kernel17Ideal Cert.Kernel17Ideal.Gen Cert.Kernel17Ideal.Value Cert.Contract Cert.Norm
open Idealize.ShloMosaic Idealize.ShloMosaic.TcCoe Idealize.SL.Sem
open scoped BigOperators

/-- Row `r` of a matrix. -/
abbrev line {n : ℕ} (v : (Mat n 2048).Idx → EReal) (r : Fin n) : Line := fun k => v (ix2 r k)

section Band
variable (v0 v1 : Vec Ideal S1x2048 .f32) (x : Vec Ideal S16x2048 .f32) (d : Vec Ideal S16x2048 .bf16) (e : Vec Ideal S16x2048 .f32) (r : Fin 16) (j : Fin 2048)

theorem pay14_apply : k0_pay14 x (ix2 r 0) = meanSq (line x r) := by
  pointwise [k0_pay14]; rfl
theorem pay15_apply : k0_pay15 x (ix2 r 0) = invRoot (line x r) := by
  unfold invRoot; rw [← pay14_apply]; rfl
theorem pay16_apply : k0_pay16 x (ix2 r 0) = Ideal.ofBits .f32 0xBF000000#32 * Ideal.div (invRoot (line x r)) (meanSq (line x r)) := by
  rw [← pay15_apply, ← pay14_apply]; rfl
theorem pay17_apply : k0_pay17 x (ix2 r j) = x (ix2 r j) * invRoot (line x r) := by
  pointwise [k0_pay17]; rw [pay15_apply]
theorem pay18_apply : k0_pay18 d (ix2 r j) = d (ix2 r j) := by
  pointwise [k0_pay18]
theorem pay19_apply : k0_pay19 e (ix2 r j) = e (ix2 r j) := by
  pointwise [k0_pay19]
theorem pay22_apply : k0_pay22 v1 d (ix2 r j) = d (ix2 r j) * (Ideal.ofBits .f32 0x3F800000#32 + v1 (ix2 0 j)) := by
  pointwise [k0_pay22]; rw [pay18_apply]
theorem pay24_apply : k0_pay24 v0 v1 d (ix2 r j) = dUnit (line v0 0) (line v1 0) (line d r) j := by
  pointwise [k0_pay24]; rw [pay22_apply]; rfl
theorem pay20_apply : k0_pay20 d (ix2 0 j) = ∑ i : Fin 16, d (ix2 i j) := by
  pointwise [k0_pay20]; simp only [pay18_apply]
theorem pay21_apply : k0_pay21 v0 x d (ix2 0 j) = ∑ i : Fin 16, dScale (line x i) (line v0 0) (line d i) j := by
  pointwise [k0_pay21]; simp only [pay17_apply, pay18_apply]; rfl
theorem pay23_apply : k0_pay23 v1 x d (ix2 0 j) = ∑ i : Fin 16, dGain (line x i) (line v1 0) (line d i) j := by
  pointwise [k0_pay23]; simp only [pay17_apply, pay22_apply]; rfl
theorem pay25_apply : k0_pay25 v0 v1 x d (ix1 r) = ∑ j, x (ix2 r j) * dUnit (line v0 0) (line v1 0) (line d r) j := by
  pointwise [k0_pay25]; simp only [pay24_apply]
theorem pay4_apply : k0_pay4 x (k0_pay15 x) (k0_pay16 x) (k0_pay19 e) (k0_pay24 v0 v1 d) (k0_pay25 v0 v1 x d) (ix2 r j)
    = dRow (line x r) (line v0 0) (line v1 0) (line d r) (line e r) j := by
  unfold dRow dMean
  pointwise [k0_pay4]
  simp only [pay15_apply, pay16_apply, pay19_apply, pay24_apply, pay25_apply]
  simp only [Fin.sum_univ_one, pay16_apply]

end Band

theorem hz : (![0, 0] : Fin 2 → ℕ) = fun _ => 0 := by funext a; fin_cases a <;> rfl

/-- Row `i` of a matrix, by its number. -/
def row {n : ℕ} (v : (Mat n 2048).Idx → EReal) (i : ℕ) : Line := fun k => nat2 v i k.val

theorem row_val {n : ℕ} (v : (Mat n 2048).Idx → EReal) (i : Fin n) : row v i.val = line v i := funext fun k => nat2_val v i k

/-- The 16 rows of a block that a trip reads. -/
def band (v : (Mat 256 2048).Idx → EReal) (k : ℕ) : S16x2048.Idx → EReal := fun y => nat2 v (16 * k + (y 0).val) (y 1).val

theorem band_line (v : (Mat 256 2048).Idx → EReal) (k : ℕ) (r : Fin 16) : line (n := 16) (band v k) r = row v (16 * k + r.val) := rfl

section Block
variable (c : Dev nD) (i : grid0.Coords) (arg2 : Memref sig .tc .vmem S256x2048 .f32) (harg2 : arg2.IsWhole) (arg3 : Memref sig .tc .vmem S1x2048 .f32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S256x2048 .bf16) (harg6 : arg6.IsWhole) (arg7 : Memref sig .tc .vmem S256x2048 .f32) (harg7 : arg7.IsWhole) (arg8 : Memref sig .tc .vmem S256x2048 .f32) (harg8 : arg8.IsWhole) (arg9 : Memref sig .tc .vmem S1x2048 .f32) (harg9 : arg9.IsWhole) (arg10 : Memref sig .tc .vmem S1x2048 .f32) (harg10 : arg10.IsWhole) (arg11 : Memref sig .tc .vmem S1x2048 .f32) (harg11 : arg11.IsWhole)
variable (x0 : Vec Ideal S256x2048 .f32) (x1 x2 x3 : Vec Ideal S1x2048 .f32) (x4 : Vec Ideal S256x2048 .bf16) (x5 : Vec Ideal S256x2048 .f32)

/-- The gradient in one block of rows, and the terms of the other gradients in one of its rows. -/
def blockRow (y : S256x2048.Idx) : EReal := dRow (row (n := 256) x0 (y 0).val) (line x1 0) (line x3 0) (row (n := 256) x4 (y 0).val) (row (n := 256) x5 (y 0).val) (y 1)
def termGain (j : Fin 2048) (k : ℕ) : EReal := dGain (row (n := 256) x0 k) (line x3 0) (row (n := 256) x4 k) j
def termShift (j : Fin 2048) (k : ℕ) : EReal := row (n := 256) x4 k j
def termScale (j : Fin 2048) (k : ℕ) : EReal := dScale (row (n := 256) x0 k) (line x1 0) (row (n := 256) x4 k) j

/-- What a trip reads. -/
theorem reads {e : EltTy} (arg : Memref sig .tc .vmem S256x2048 e) (harg : arg.IsWhole) (v : S256x2048.Idx → Elt Ideal e) (k : Fin k0_t1_loop.trips) (y : S16x2048.Idx) :
    ∃ z : S256x2048.Idx, View.readAt (Elt Ideal) arg.view (Rect.unit (s := S256x2048) (k0_off1 k) S16x2048.size (k0_off1_inb k)).toLoadRect (harg.unread v) y = v z
      ∧ (z 0).val = 16 * k.val + (y 0).val ∧ (z 1).val = (y 1).val := by
  have e1 := k0_off1_eq k
  have f0 : k0_off1 k 0 = 16 * k.val := congrFun e1 0
  have f1 : k0_off1 k 1 = 0 := congrFun e1 1
  refine ⟨_, Memref.IsWhole.readAt_unread _ _ _ _, ?_, ?_⟩
  · show k0_off1 k 0 + 1 * (y 0).val = _; rw [f0, one_mul]
  · show k0_off1 k 1 + 1 * (y 1).val = _; rw [f1, one_mul]; exact Nat.zero_add _

theorem reads_f32 (arg : Memref sig .tc .vmem S256x2048 .f32) (harg : arg.IsWhole) (v : Vec Ideal S256x2048 .f32) (k : Fin k0_t1_loop.trips) :
    View.readAt (Elt Ideal) arg.view (Rect.unit (s := S256x2048) (k0_off1 k) S16x2048.size (k0_off1_inb k)).toLoadRect (harg.unread v) = band v k.val := funext fun y => by
  obtain ⟨z, hz, h0, h1⟩ := reads arg harg v k y
  exact hz.trans (eq_nat2 v z _ _ h0 h1)
theorem reads_bf16 (arg : Memref sig .tc .vmem S256x2048 .bf16) (harg : arg.IsWhole) (v : Vec Ideal S256x2048 .bf16) (k : Fin k0_t1_loop.trips) :
    View.readAt (Elt Ideal) arg.view (Rect.unit (s := S256x2048) (k0_off1 k) S16x2048.size (k0_off1_inb k)).toLoadRect (harg.unread v) = band v k.val := funext fun y => by
  obtain ⟨z, hz, h0, h1⟩ := reads arg harg v k y
  exact hz.trans (eq_nat2 v z _ _ h0 h1)

theorem trip_yields (k : Fin k0_t1_loop.trips) (acc) :
    tripR_k0_t1 (F := Ideal) Variants.none c none i arg2 harg2 arg3 harg3 arg4 harg4 arg5 harg5 arg6 harg6 arg7 harg7 arg8 harg8 arg9 harg9 arg10 harg10 arg11 harg11 x1 x3 (harg2.unread x0) (harg6.unread x4) (harg7.unread x5) k acc
      = (k0_pay5 acc.1 (k0_pay23 x3 (band x0 k.val) (band x4 k.val)), k0_pay6 acc.2.1 (k0_pay20 (band x4 k.val)), k0_pay7 acc.2.2 (k0_pay21 x1 (band x0 k.val) (band x4 k.val))) := by
  rw [← reads_f32 arg2 harg2 x0, ← reads_bf16 arg6 harg6 x4]
  unfold tripR_k0_t1 trip_k0_t1
  rfl

theorem emb_band (k : Fin k0_t1_loop.trips) (r : Fin 16) (j : Fin 2048) :
    ((Rect.unit (s := S256x2048) (k0_off1 k) S16x2048.size (k0_off1_inb k)).emb (ix2 r j) 0).val = 16 * k.val + r.val
    ∧ (Rect.unit (s := S256x2048) (k0_off1 k) S16x2048.size (k0_off1_inb k)).emb (ix2 r j) 1 = j := by
  have e1 := k0_off1_eq k
  have f0 : k0_off1 k 0 = 16 * k.val := congrFun e1 0
  have f1 : k0_off1 k 1 = 0 := congrFun e1 1
  constructor
  · show k0_off1 k 0 + 1 * r.val = _; rw [f0, one_mul]
  · refine Fin.ext ?_
    show k0_off1 k 1 + 1 * j.val = _; rw [f1, one_mul]; exact Nat.zero_add _

theorem band_writes (k : Fin k0_t1_loop.trips) (y : S16x2048.Idx) :
    k0_pay4 (band x0 k.val) (k0_pay15 (band x0 k.val)) (k0_pay16 (band x0 k.val)) (k0_pay19 (band x5 k.val)) (k0_pay24 x1 x3 (band x4 k.val)) (k0_pay25 x1 x3 (band x0 k.val) (band x4 k.val)) y
      = blockRow x0 x1 x3 x4 x5 ((Rect.unit (s := S256x2048) (k0_off1 k) S16x2048.size (k0_off1_inb k)).emb y) := by
  obtain ⟨r, j, rfl⟩ : ∃ r j, y = ix2 (n0 := 16) (n1 := 2048) r j := ⟨y 0, y 1, ValueIdx.eq_ix2 y⟩
  obtain ⟨h0, h1⟩ := emb_band k r j
  refine (pay4_apply _ _ _ _ _ r j).trans ?_
  unfold blockRow
  rw [h0, h1]
  rfl

theorem trip_writes (k : Fin k0_t1_loop.trips) (acc) :
    ∀ p ∈ tripL_k0_t1 (F := Ideal) Variants.none c none i arg2 harg2 arg3 harg3 arg4 harg4 arg5 harg5 arg6 harg6 arg7 harg7 arg8 harg8 arg9 harg9 arg10 harg10 arg11 harg11 x1 x3 (harg2.unread x0) (harg6.unread x4) (harg7.unread x5) k acc,
      ∀ y : p.1.shape.Idx, p.2 y = blockRow x0 x1 x3 x4 x5 (p.1.emb y) := by
  unfold tripL_k0_t1 trip_k0_t1
  intro p hp
  obtain rfl := List.mem_singleton.mp hp
  intro y
  refine Eq.trans ?_ (band_writes x0 x1 x3 x4 x5 k y)
  rw [← reads_f32 arg2 harg2 x0, ← reads_bf16 arg6 harg6 x4, ← reads_f32 arg7 harg7 x5]
  rfl

/-- The state before a trip. -/
abbrev state (acc) (n : ℕ) := st_k0_t1 (F := Ideal) Variants.none c none i arg2 harg2 arg3 harg3 arg4 harg4 arg5 harg5 arg6 harg6 arg7 harg7 arg8 harg8 arg9 harg9 arg10 harg10 arg11 harg11 x1 x3 (harg2.unread x0) (harg6.unread x4) (harg7.unread x5) acc n

theorem state_reads (n : ℕ) (hn : n ≤ k0_t1_loop.trips) (acc : FVec Ideal S1x2048 .f32 × FVec Ideal S1x2048 .f32 × FVec Ideal S1x2048 .f32) :
    (∀ j, (state c i arg2 harg2 arg3 harg3 arg4 harg4 arg5 harg5 arg6 harg6 arg7 harg7 arg8 harg8 arg9 harg9 arg10 harg10 arg11 harg11 x0 x1 x3 x4 x5 acc n).1.1 (ix2 0 j) = acc.1 (ix2 0 j) + ∑ s ∈ Finset.range n, ∑ r : Fin 16, termGain x0 x3 x4 j (16 * s + r.val))
    ∧ (∀ j, (state c i arg2 harg2 arg3 harg3 arg4 harg4 arg5 harg5 arg6 harg6 arg7 harg7 arg8 harg8 arg9 harg9 arg10 harg10 arg11 harg11 x0 x1 x3 x4 x5 acc n).1.2.1 (ix2 0 j) = acc.2.1 (ix2 0 j) + ∑ s ∈ Finset.range n, ∑ r : Fin 16, termShift x4 j (16 * s + r.val))
    ∧ (∀ j, (state c i arg2 harg2 arg3 harg3 arg4 harg4 arg5 harg5 arg6 harg6 arg7 harg7 arg8 harg8 arg9 harg9 arg10 harg10 arg11 harg11 x0 x1 x3 x4 x5 acc n).1.2.2 (ix2 0 j) = acc.2.2 (ix2 0 j) + ∑ s ∈ Finset.range n, ∑ r : Fin 16, termScale x0 x1 x4 j (16 * s + r.val))
    ∧ ∀ p ∈ (state c i arg2 harg2 arg3 harg3 arg4 harg4 arg5 harg5 arg6 harg6 arg7 harg7 arg8 harg8 arg9 harg9 arg10 harg10 arg11 harg11 x0 x1 x3 x4 x5 acc n).2, ∀ y : p.1.shape.Idx, p.2 y = blockRow x0 x1 x3 x4 x5 (p.1.emb y) := by
  induction n with
  | zero => exact ⟨fun j => by simp; rfl, fun j => by simp; rfl, fun j => by simp; rfl, fun p hp => absurd hp List.not_mem_nil⟩
  | succ n ih =>
    obtain ⟨h1, h2, h3, h4⟩ := ih (Nat.le_of_succ_le hn)
    unfold state
    rw [st_k0_t1_succ (k := ⟨n, hn⟩)]
    rw [trip_yields]
    refine ⟨fun j => ?_, fun j => ?_, fun j => ?_, fun p hp => ?_⟩
    · rw [Finset.sum_range_succ, ← add_assoc, ← h1]
      exact congrArg (_ + ·) (pay23_apply _ _ _ _)
    · rw [Finset.sum_range_succ, ← add_assoc, ← h2]
      exact congrArg (_ + ·) (pay20_apply _ _)
    · rw [Finset.sum_range_succ, ← add_assoc, ← h3]
      exact congrArg (_ + ·) (pay21_apply _ _ _ _)
    · rcases List.mem_append.mp hp with hp | hp
      · exact trip_writes c i arg2 harg2 arg3 harg3 arg4 harg4 arg5 harg5 arg6 harg6 arg7 harg7 arg8 harg8 arg9 harg9 arg10 harg10 arg11 harg11 x0 x1 x3 x4 x5 ⟨n, hn⟩ _ p hp
      · exact h4 p hp

/-- What the loop carries out, and what it writes. -/
abbrev last := state c i arg2 harg2 arg3 harg3 arg4 harg4 arg5 harg5 arg6 harg6 arg7 harg7 arg8 harg8 arg9 harg9 arg10 harg10 arg11 harg11 x0 x1 x3 x4 x5 (k0_pay1 (F := Ideal), k0_pay2 (F := Ideal), k0_pay3 (F := Ideal)) k0_t1_loop.trips

theorem last_reads :
    (∀ j, (last c i arg2 harg2 arg3 harg3 arg4 harg4 arg5 harg5 arg6 harg6 arg7 harg7 arg8 harg8 arg9 harg9 arg10 harg10 arg11 harg11 x0 x1 x3 x4 x5).1.1 (ix2 0 j) = ∑ k : Fin 256, termGain x0 x3 x4 j k.val)
    ∧ (∀ j, (last c i arg2 harg2 arg3 harg3 arg4 harg4 arg5 harg5 arg6 harg6 arg7 harg7 arg8 harg8 arg9 harg9 arg10 harg10 arg11 harg11 x0 x1 x3 x4 x5).1.2.1 (ix2 0 j) = ∑ k : Fin 256, termShift x4 j k.val)
    ∧ (∀ j, (last c i arg2 harg2 arg3 harg3 arg4 harg4 arg5 harg5 arg6 harg6 arg7 harg7 arg8 harg8 arg9 harg9 arg10 harg10 arg11 harg11 x0 x1 x3 x4 x5).1.2.2 (ix2 0 j) = ∑ k : Fin 256, termScale x0 x1 x4 j k.val)
    ∧ ∀ p ∈ (last c i arg2 harg2 arg3 harg3 arg4 harg4 arg5 harg5 arg6 harg6 arg7 harg7 arg8 harg8 arg9 harg9 arg10 harg10 arg11 harg11 x0 x1 x3 x4 x5).2, ∀ y : p.1.shape.Idx, p.2 y = blockRow x0 x1 x3 x4 x5 (p.1.emb y) := by
  obtain ⟨h1, h2, h3, h4⟩ := state_reads c i arg2 harg2 arg3 harg3 arg4 harg4 arg5 harg5 arg6 harg6 arg7 harg7 arg8 harg8 arg9 harg9 arg10 harg10 arg11 harg11 x0 x1 x3 x4 x5 k0_t1_loop.trips le_rfl (k0_pay1 (F := Ideal), k0_pay2 (F := Ideal), k0_pay3 (F := Ideal))
  have ht : k0_t1_loop.trips = 16 := by decide
  have z : ∀ (j : Fin 2048) (f : ℕ → EReal), Ideal.ofBits .f32 0x00000000#32 + ∑ s ∈ Finset.range k0_t1_loop.trips, ∑ r : Fin 16, f (16 * s + r.val) = ∑ k : Fin 256, f k.val := fun j f => by
    rw [ht, sum_stretches 16 16 256 rfl]; simp
  exact ⟨fun j => (h1 j).trans (z j _), fun j => (h2 j).trans (z j _), fun j => (h3 j).trans (z j _), h4⟩

theorem out_A_6 (hc0 : cond0_0 i) : out0_A_6 (F := Ideal) c i arg2 harg2 arg3 harg3 arg4 harg4 arg5 harg5 arg6 harg6 arg7 harg7 arg8 harg8 arg9 harg9 arg10 harg10 arg11 harg11 hc0 x0 x1 x2 x3 x4 x5 = blockRow x0 x1 x3 x4 x5 := by
  funext y
  unfold out0_A_6
  rw [View.read_writes_junk_eq_canon]
  refine View.canon_apply_of_pieces (Val := Elt Ideal) (e := .f32) (blockRow x0 x1 x3 x4 x5) _ ?_ y (cover0_A_6 c i arg2 harg2 arg3 harg3 arg4 harg4 arg5 harg5 arg6 harg6 arg7 harg7 arg8 harg8 arg9 harg9 arg10 harg10 arg11 harg11 hc0 x0 x1 x2 x3 x4 x5 y)
  unfold kernelRun0_A
  dsimp only
  sl_unfold_words
  simp only [View.readAt_eq_ld, harg3.read_unread, harg5.read_unread, View.ld_unit_zero (S := S1x2048) hz]
  exact (last_reads c i arg2 harg2 arg3 harg3 arg4 harg4 arg5 harg5 arg6 harg6 arg7 harg7 arg8 harg8 arg9 harg9 arg10 harg10 arg11 harg11 x0 x1 x3 x4 x5).2.2.2

theorem out_B_6 (hc0 : ¬cond0_0 i) (xo7 xo8 xo9 : Vec Ideal S1x2048 .f32) : out0_B_6 (F := Ideal) c i arg2 harg2 arg3 harg3 arg4 harg4 arg5 harg5 arg6 harg6 arg7 harg7 arg8 harg8 arg9 harg9 arg10 harg10 arg11 harg11 hc0 x0 x1 x2 x3 x4 x5 xo7 xo8 xo9 = blockRow x0 x1 x3 x4 x5 := by
  funext y
  unfold out0_B_6
  rw [View.read_writes_junk_eq_canon]
  refine View.canon_apply_of_pieces (Val := Elt Ideal) (e := .f32) (blockRow x0 x1 x3 x4 x5) _ ?_ y (cover0_B_6 c i arg2 harg2 arg3 harg3 arg4 harg4 arg5 harg5 arg6 harg6 arg7 harg7 arg8 harg8 arg9 harg9 arg10 harg10 arg11 harg11 hc0 x0 x1 x2 x3 x4 x5 xo7 xo8 xo9 y)
  unfold kernelRun0_B
  dsimp only
  sl_unfold_words
  simp only [View.readAt_eq_ld, harg3.read_unread, harg5.read_unread, View.ld_unit_zero (S := S1x2048) hz]
  exact (last_reads c i arg2 harg2 arg3 harg3 arg4 harg4 arg5 harg5 arg6 harg6 arg7 harg7 arg8 harg8 arg9 harg9 arg10 harg10 arg11 harg11 x0 x1 x3 x4 x5).2.2.2

theorem pay11_apply (u v : FVec Ideal S1x2048 .f32) (j : Fin 2048) : k0_pay11 u v (ix2 0 j) = v (ix2 0 j) + u (ix2 0 j) := by
  pointwise [k0_pay11]
theorem pay12_apply (u v : FVec Ideal S1x2048 .f32) (j : Fin 2048) : k0_pay12 u v (ix2 0 j) = v (ix2 0 j) + u (ix2 0 j) := by
  pointwise [k0_pay12]
theorem pay13_apply (u v : FVec Ideal S1x2048 .f32) (j : Fin 2048) : k0_pay13 u v (ix2 0 j) = v (ix2 0 j) + u (ix2 0 j) := by
  pointwise [k0_pay13]

/-- What the first point leaves of the accumulated gradients, and what a later one leaves. -/
theorem out_A_789 (hc0 : cond0_0 i) (j : Fin 2048) :
    out0_A_7 (F := Ideal) c i arg2 harg2 arg3 harg3 arg4 harg4 arg5 harg5 arg6 harg6 arg7 harg7 arg8 harg8 arg9 harg9 arg10 harg10 arg11 harg11 hc0 x0 x1 x2 x3 x4 x5 (ix2 0 j) = ∑ k : Fin 256, termGain x0 x3 x4 j k.val
    ∧ out0_A_8 (F := Ideal) c i arg2 harg2 arg3 harg3 arg4 harg4 arg5 harg5 arg6 harg6 arg7 harg7 arg8 harg8 arg9 harg9 arg10 harg10 arg11 harg11 hc0 x0 x1 x2 x3 x4 x5 (ix2 0 j) = ∑ k : Fin 256, termShift x4 j k.val
    ∧ out0_A_9 (F := Ideal) c i arg2 harg2 arg3 harg3 arg4 harg4 arg5 harg5 arg6 harg6 arg7 harg7 arg8 harg8 arg9 harg9 arg10 harg10 arg11 harg11 hc0 x0 x1 x2 x3 x4 x5 (ix2 0 j) = ∑ k : Fin 256, termScale x0 x1 x4 j k.val := by
  obtain ⟨h1, h2, h3, -⟩ := last_reads c i arg2 harg2 arg3 harg3 arg4 harg4 arg5 harg5 arg6 harg6 arg7 harg7 arg8 harg8 arg9 harg9 arg10 harg10 arg11 harg11 x0 x1 x3 x4 x5
  have z : ∀ b : EReal, Ideal.ofBits .f32 0x00000000#32 + b = b := fun b => by simp
  unfold out0_A_7 out0_A_8 out0_A_9
  rw [View.read_writes_junk_eq_canon, View.read_writes_junk_eq_canon, View.read_writes_junk_eq_canon]
  unfold kernelRun0_A
  dsimp only
  sl_unfold_words
  simp only [View.canon_cons_unit_zero (S := S1x2048) hz, View.readCov_unit_zero (S := S1x2048) _ hz, View.readAt_eq_ld, harg3.read_unread, harg5.read_unread, View.ld_unit_zero (S := S1x2048) hz]
  exact ⟨(pay11_apply _ _ j).trans ((z _).trans (h1 j)), (pay12_apply _ _ j).trans ((z _).trans (h2 j)), (pay13_apply _ _ j).trans ((z _).trans (h3 j))⟩

theorem out_B_789 (hc0 : ¬cond0_0 i) (xo7 xo8 xo9 : Vec Ideal S1x2048 .f32) (j : Fin 2048) :
    out0_B_7 (F := Ideal) c i arg2 harg2 arg3 harg3 arg4 harg4 arg5 harg5 arg6 harg6 arg7 harg7 arg8 harg8 arg9 harg9 arg10 harg10 arg11 harg11 hc0 x0 x1 x2 x3 x4 x5 xo7 xo8 xo9 (ix2 0 j) = xo7 (ix2 0 j) + ∑ k : Fin 256, termGain x0 x3 x4 j k.val
    ∧ out0_B_8 (F := Ideal) c i arg2 harg2 arg3 harg3 arg4 harg4 arg5 harg5 arg6 harg6 arg7 harg7 arg8 harg8 arg9 harg9 arg10 harg10 arg11 harg11 hc0 x0 x1 x2 x3 x4 x5 xo7 xo8 xo9 (ix2 0 j) = xo8 (ix2 0 j) + ∑ k : Fin 256, termShift x4 j k.val
    ∧ out0_B_9 (F := Ideal) c i arg2 harg2 arg3 harg3 arg4 harg4 arg5 harg5 arg6 harg6 arg7 harg7 arg8 harg8 arg9 harg9 arg10 harg10 arg11 harg11 hc0 x0 x1 x2 x3 x4 x5 xo7 xo8 xo9 (ix2 0 j) = xo9 (ix2 0 j) + ∑ k : Fin 256, termScale x0 x1 x4 j k.val := by
  obtain ⟨h1, h2, h3, -⟩ := last_reads c i arg2 harg2 arg3 harg3 arg4 harg4 arg5 harg5 arg6 harg6 arg7 harg7 arg8 harg8 arg9 harg9 arg10 harg10 arg11 harg11 x0 x1 x3 x4 x5
  unfold out0_B_7 out0_B_8 out0_B_9
  rw [View.read_writes_junk_eq_canon, View.read_writes_junk_eq_canon, View.read_writes_junk_eq_canon]
  unfold kernelRun0_B
  dsimp only
  sl_unfold_words
  simp only [View.canon_cons_unit_zero (S := S1x2048) hz, View.readAt_eq_ld, harg3.read_unread, harg5.read_unread, harg9.read_unread, harg10.read_unread, harg11.read_unread, View.ld_unit_zero (S := S1x2048) hz]
  exact ⟨(pay11_apply _ _ j).trans (congrArg (_ + ·) (h1 j)), (pay12_apply _ _ j).trans (congrArg (_ + ·) (h2 j)), (pay13_apply _ _ j).trans (congrArg (_ + ·) (h3 j))⟩

end Block

variable (m : (ℓ : Loc nD τ sig) → Buf (Elt Ideal) ℓ) (ρ : Dev nD → PrngReg)

/-- The four gradients of whole arrays: in the rows, in the gain, in the shift and in the scale. -/
def gradRows (x : S8192x2048.Idx → EReal) (g s : S1x2048.Idx → EReal) (d e : S8192x2048.Idx → EReal) : S8192x2048.Idx → EReal :=
  fun i => dRow (row (n := 8192) x (i 0).val) (line g 0) (line s 0) (row (n := 8192) d (i 0).val) (row (n := 8192) e (i 0).val) (i 1)
def gradGain (x : S8192x2048.Idx → EReal) (s : S1x2048.Idx → EReal) (d : S8192x2048.Idx → EReal) : S1x2048.Idx → EReal :=
  fun i => ∑ k : Fin 8192, dGain (row (n := 8192) x k.val) (line s 0) (row (n := 8192) d k.val) (i 1)
def gradShift (d : S8192x2048.Idx → EReal) : S1x2048.Idx → EReal := fun i => ∑ k : Fin 8192, row (n := 8192) d k.val (i 1)
def gradScale (x : S8192x2048.Idx → EReal) (g : S1x2048.Idx → EReal) (d : S8192x2048.Idx → EReal) : S1x2048.Idx → EReal :=
  fun i => ∑ k : Fin 8192, dScale (row (n := 8192) x k.val) (line g 0) (row (n := 8192) d k.val) (i 1)

theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

theorem x_row (c : Dev nD) (t : Fin cfg0.N) (r : Fin 256) : row (n := 256) (iblk m c 0 t) r.val = row (n := 8192) (m (c.tc.loc main_arg0)) (256 * t.val + r.val) := funext fun k => by
  obtain ⟨e0, e1, -⟩ := idx_facts t
  refine (nat2_val (a := 256) (b := 2048) (iblk m c 0 t) r k).trans ?_
  show V m c main_arg0 (((cfg0.win 0).blk t).view.emb (ix2 r k)) = _
  rw [V_main_arg0]
  refine eq_nat2 _ _ _ _ ?_ ?_
  · show win0_0.index t (0 : Fin 2) * 256 + 1 * r.val = _; rw [e0, one_mul, Nat.mul_comm]
  · show win0_0.index t (1 : Fin 2) * 2048 + 1 * k.val = _; rw [e1, one_mul, Nat.zero_mul, Nat.zero_add]
theorem dh_row (c : Dev nD) (t : Fin cfg0.N) (r : Fin 256) : row (n := 256) (iblk m c 4 t) r.val = row (n := 8192) (m (c.tc.loc main_arg4)) (256 * t.val + r.val) := funext fun k => by
  obtain ⟨-, -, -, -, -, -, e0, e1, -⟩ := idx_facts t
  refine (nat2_val (a := 256) (b := 2048) (iblk m c 4 t) r k).trans ?_
  show V m c main_arg4 (((cfg0.win 4).blk t).view.emb (ix2 r k)) = _
  rw [V_main_arg4]
  refine eq_nat2 _ _ _ _ ?_ ?_
  · show win0_4.index t (0 : Fin 2) * 256 + 1 * r.val = _; rw [e0, one_mul, Nat.mul_comm]
  · show win0_4.index t (1 : Fin 2) * 2048 + 1 * k.val = _; rw [e1, one_mul, Nat.zero_mul, Nat.zero_add]
theorem dx_row (c : Dev nD) (t : Fin cfg0.N) (r : Fin 256) : row (n := 256) (iblk m c 5 t) r.val = row (n := 8192) (m (c.tc.loc main_arg5)) (256 * t.val + r.val) := funext fun k => by
  obtain ⟨-, -, -, -, -, -, -, -, e0, e1, -⟩ := idx_facts t
  refine (nat2_val (a := 256) (b := 2048) (iblk m c 5 t) r k).trans ?_
  show V m c main_arg5 (((cfg0.win 5).blk t).view.emb (ix2 r k)) = _
  rw [V_main_arg5]
  refine eq_nat2 _ _ _ _ ?_ ?_
  · show win0_5.index t (0 : Fin 2) * 256 + 1 * r.val = _; rw [e0, one_mul, Nat.mul_comm]
  · show win0_5.index t (1 : Fin 2) * 2048 + 1 * k.val = _; rw [e1, one_mul, Nat.zero_mul, Nat.zero_add]
theorem gain_line (c : Dev nD) (t : Fin cfg0.N) : line (n := 1) (iblk m c 1 t) 0 = line (n := 1) (m (c.tc.loc main_arg1)) 0 := funext fun k => by
  obtain ⟨-, -, e0, e1, -⟩ := idx_facts t
  show V m c main_arg1 (((cfg0.win 1).blk t).view.emb (ix2 0 k)) = _
  rw [V_main_arg1]
  refine congrArg (m (c.tc.loc main_arg1)) (funext fun a => Fin.ext ?_)
  match a with
  | ⟨0, _⟩ => show win0_1.index t (0 : Fin 2) * 1 + 1 * 0 = 0; rw [e0]
  | ⟨1, _⟩ => show win0_1.index t (1 : Fin 2) * 2048 + 1 * k.val = k.val; rw [e1, one_mul, Nat.zero_mul, Nat.zero_add]
theorem scale_line (c : Dev nD) (t : Fin cfg0.N) : line (n := 1) (iblk m c 3 t) 0 = line (n := 1) (m (c.tc.loc main_arg3)) 0 := funext fun k => by
  obtain ⟨-, -, -, -, e0, e1, -⟩ := idx_facts t
  show V m c main_arg3 (((cfg0.win 3).blk t).view.emb (ix2 0 k)) = _
  rw [V_main_arg3]
  refine congrArg (m (c.tc.loc main_arg3)) (funext fun a => Fin.ext ?_)
  match a with
  | ⟨0, _⟩ => show win0_3.index t (0 : Fin 2) * 1 + 1 * 0 = 0; rw [e0]
  | ⟨1, _⟩ => show win0_3.index t (1 : Fin 2) * 2048 + 1 * k.val = k.val; rw [e1, one_mul, Nat.zero_mul, Nat.zero_add]

/-- A point's terms, from the whole arrays. -/
theorem gain_block (c : Dev nD) (t : Fin cfg0.N) (j : Fin 2048) : ∑ k : Fin 256, termGain (iblk m c 0 t) (iblk m c 3 t) (iblk m c 4 t) j k.val
    = ∑ k : Fin 256, (fun r => dGain (row (n := 8192) (m (c.tc.loc main_arg0)) r) (line (n := 1) (m (c.tc.loc main_arg3)) 0) (row (n := 8192) (m (c.tc.loc main_arg4)) r) j) (256 * t.val + k.val) :=
  Finset.sum_congr rfl fun k _ => by
    unfold termGain; rw [x_row, dh_row, scale_line]
theorem shift_block (c : Dev nD) (t : Fin cfg0.N) (j : Fin 2048) : ∑ k : Fin 256, termShift (iblk m c 4 t) j k.val
    = ∑ k : Fin 256, (fun r => row (n := 8192) (m (c.tc.loc main_arg4)) r j) (256 * t.val + k.val) :=
  Finset.sum_congr rfl fun k _ => by
    unfold termShift; rw [dh_row]
theorem scale_block (c : Dev nD) (t : Fin cfg0.N) (j : Fin 2048) : ∑ k : Fin 256, termScale (iblk m c 0 t) (iblk m c 1 t) (iblk m c 4 t) j k.val
    = ∑ k : Fin 256, (fun r => dScale (row (n := 8192) (m (c.tc.loc main_arg0)) r) (line (n := 1) (m (c.tc.loc main_arg1)) 0) (row (n := 8192) (m (c.tc.loc main_arg4)) r) j) (256 * t.val + k.val) :=
  Finset.sum_congr rfl fun k _ => by
    unfold termScale; rw [x_row, dh_row, gain_line]

/-- The accumulated gradients after a point: the terms of the rows met so far. -/
theorem fold (c : Dev nD) (j : Fin 2048) (n : ℕ) (h : n < cfg0.N) :
    (outsAt0 m c n h).2.1 (ix2 0 j) = ∑ s ∈ Finset.range (n % 32 + 1), ∑ k : Fin 256, (fun r => dGain (row (n := 8192) (m (c.tc.loc main_arg0)) r) (line (n := 1) (m (c.tc.loc main_arg3)) 0) (row (n := 8192) (m (c.tc.loc main_arg4)) r) j) (256 * s + k.val)
    ∧ (outsAt0 m c n h).2.2.1 (ix2 0 j) = ∑ s ∈ Finset.range (n % 32 + 1), ∑ k : Fin 256, (fun r => row (n := 8192) (m (c.tc.loc main_arg4)) r j) (256 * s + k.val)
    ∧ (outsAt0 m c n h).2.2.2 (ix2 0 j) = ∑ s ∈ Finset.range (n % 32 + 1), ∑ k : Fin 256, (fun r => dScale (row (n := 8192) (m (c.tc.loc main_arg0)) r) (line (n := 1) (m (c.tc.loc main_arg1)) 0) (row (n := 8192) (m (c.tc.loc main_arg4)) r) j) (256 * s + k.val) := by
  have hm : ∀ n, n < cfg0.N → n % 32 = n := fun n h => Nat.mod_eq_of_lt (lt_of_lt_of_eq h N_0)
  have first := fun (n : ℕ) (h : n < cfg0.N) (g : n % 32 = 0) => by
    have H := out_A_789 c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) (ms0_5 ⟨n, h⟩) (hs0_5 ⟨n, h⟩) (ms0_6 ⟨n, h⟩) (hs0_6 ⟨n, h⟩) (ms0_7 ⟨n, h⟩) (hs0_7 ⟨n, h⟩) (ms0_8 ⟨n, h⟩) (hs0_8 ⟨n, h⟩) (ms0_9 ⟨n, h⟩) (hs0_9 ⟨n, h⟩) (iblk m c 0 ⟨n, h⟩) (iblk m c 1 ⟨n, h⟩) (iblk m c 2 ⟨n, h⟩) (iblk m c 3 ⟨n, h⟩) (iblk m c 4 ⟨n, h⟩) (iblk m c 5 ⟨n, h⟩) ((hcond0_0 ⟨n, h⟩).mpr g) j
    rw [gain_block, shift_block, scale_block] at H
    exact H
  have next := fun (n : ℕ) (h : n < cfg0.N) (g : ¬n % 32 = 0) => by
    have H := out_B_789 c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) (ms0_5 ⟨n, h⟩) (hs0_5 ⟨n, h⟩) (ms0_6 ⟨n, h⟩) (hs0_6 ⟨n, h⟩) (ms0_7 ⟨n, h⟩) (hs0_7 ⟨n, h⟩) (ms0_8 ⟨n, h⟩) (hs0_8 ⟨n, h⟩) (ms0_9 ⟨n, h⟩) (hs0_9 ⟨n, h⟩) (iblk m c 0 ⟨n, h⟩) (iblk m c 1 ⟨n, h⟩) (iblk m c 2 ⟨n, h⟩) (iblk m c 3 ⟨n, h⟩) (iblk m c 4 ⟨n, h⟩) (iblk m c 5 ⟨n, h⟩) (fun e => g ((hcond0_0 ⟨n, h⟩).mp e)) (outsAt0 m c (n - 1) (Nat.lt_of_le_of_lt (Nat.sub_le _ _) h)).2.1 (outsAt0 m c (n - 1) (Nat.lt_of_le_of_lt (Nat.sub_le _ _) h)).2.2.1 (outsAt0 m c (n - 1) (Nat.lt_of_le_of_lt (Nat.sub_le _ _) h)).2.2.2 j
    rw [gain_block, shift_block, scale_block] at H
    exact H
  refine ⟨stretches_so_far (K := 32) (by norm_num) (fun _ r => dGain (row (n := 8192) (m (c.tc.loc main_arg0)) r) (line (n := 1) (m (c.tc.loc main_arg3)) 0) (row (n := 8192) (m (c.tc.loc main_arg4)) r) j) (fun n h => (outsAt0 m c n h).2.1 (ix2 0 j)) (fun n h g => ?_) (fun n h g => ?_) n h,
    stretches_so_far (K := 32) (by norm_num) (fun _ r => row (n := 8192) (m (c.tc.loc main_arg4)) r j) (fun n h => (outsAt0 m c n h).2.2.1 (ix2 0 j)) (fun n h g => ?_) (fun n h g => ?_) n h,
    stretches_so_far (K := 32) (by norm_num) (fun _ r => dScale (row (n := 8192) (m (c.tc.loc main_arg0)) r) (line (n := 1) (m (c.tc.loc main_arg1)) 0) (row (n := 8192) (m (c.tc.loc main_arg4)) r) j) (fun n h => (outsAt0 m c n h).2.2.2 (ix2 0 j)) (fun n h g => ?_) (fun n h g => ?_) n h⟩
  · rw [outsAt0_A m c ⟨n, h⟩ g]; simp only [hm n h]; exact (first n h g).1
  · rw [outsAt0_B m c ⟨n, h⟩ g]; simp only [hm n h]; exact (next n h g).1
  · rw [outsAt0_A m c ⟨n, h⟩ g]; simp only [hm n h]; exact (first n h g).2.1
  · rw [outsAt0_B m c ⟨n, h⟩ g]; simp only [hm n h]; exact (next n h g).2.1
  · rw [outsAt0_A m c ⟨n, h⟩ g]; simp only [hm n h]; exact (first n h g).2.2
  · rw [outsAt0_B m c ⟨n, h⟩ g]; simp only [hm n h]; exact (next n h g).2.2

theorem whole_sum (t : Fin cfg0.N) (ht : t.val % 32 = 31) (f : ℕ → EReal) : ∑ s ∈ Finset.range (t.val % 32 + 1), ∑ k : Fin 256, f (256 * s + k.val) = ∑ k : Fin 8192, f k.val := by
  rw [ht]; exact sum_stretches 32 256 8192 (by norm_num) f

/-- After the last point they are the sums over all rows. -/
theorem total (c : Dev nD) (j : Fin 2048) (t : Fin cfg0.N) (ht : t.val % 32 = 31) :
    (outsAt0 m c t.val t.isLt).2.1 (ix2 0 j) = gradGain (m (c.tc.loc main_arg0)) (m (c.tc.loc main_arg3)) (m (c.tc.loc main_arg4)) (ix2 0 j)
    ∧ (outsAt0 m c t.val t.isLt).2.2.1 (ix2 0 j) = gradShift (m (c.tc.loc main_arg4)) (ix2 0 j)
    ∧ (outsAt0 m c t.val t.isLt).2.2.2 (ix2 0 j) = gradScale (m (c.tc.loc main_arg0)) (m (c.tc.loc main_arg1)) (m (c.tc.loc main_arg4)) (ix2 0 j) := by
  obtain ⟨h1, h2, h3⟩ := fold m c j t.val t.isLt
  unfold gradGain gradShift gradScale
  exact ⟨h1.trans (whole_sum t ht fun r => dGain (row (n := 8192) (m (c.tc.loc main_arg0)) r) (line (n := 1) (m (c.tc.loc main_arg3)) 0) (row (n := 8192) (m (c.tc.loc main_arg4)) r) j),
    h2.trans (whole_sum t ht fun r => row (n := 8192) (m (c.tc.loc main_arg4)) r j),
    h3.trans (whole_sum t ht fun r => dScale (row (n := 8192) (m (c.tc.loc main_arg0)) r) (line (n := 1) (m (c.tc.loc main_arg1)) 0) (row (n := 8192) (m (c.tc.loc main_arg4)) r) j)⟩

theorem acc_idx : ∀ t : Fin cfg0.N, win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0 :=
  (by decide +kernel : ∀ t : Fin grid0.N, _)

theorem flushed_rows (c : Dev nD) (t : Fin cfg0.N) (_hf : (cfg0.win 6).flush t = true) : (dats m 0 c).flushed 6 t
    = ((cfg0.win 6).blk t).view.read (Elt Ideal) (gradRows (m (c.tc.loc main_arg0)) (m (c.tc.loc main_arg1)) (m (c.tc.loc main_arg3)) (m (c.tc.loc main_arg4)) (m (c.tc.loc main_arg5))) := by
  have e : (dats m 0 c).flushed 6 t = (cfg0.win 6).cut (grid0.coords t) (blockRow (iblk m c 0 t) (iblk m c 1 t) (iblk m c 3 t) (iblk m c 4 t) (iblk m c 5 t)) := by
    by_cases g : t.val % 32 = 0
    · rw [flushed6_A m c t g, out_A_6]
    · rw [flushed6_B m c t g, out_B_6]
  rw [e]
  obtain ⟨-, -, -, -, -, -, -, -, -, -, e4, e5⟩ := idx_facts t
  funext y
  obtain ⟨r, s, rfl⟩ : ∃ (r : Fin 256) (s : Fin 2048), y = ix2 r s := ⟨_, _, ValueIdx.eq_ix2 y⟩
  have h0 : (((cfg0.win 6).blk t).view.emb (ix2 r s) 0).val = 256 * t.val + r.val := by
    show win0_6.index t (0 : Fin 2) * 256 + 1 * r.val = _; rw [e4, one_mul, Nat.mul_comm]
  have h1 : ((cfg0.win 6).blk t).view.emb (ix2 r s) 1 = s := Fin.ext (by
    show win0_6.index t (1 : Fin 2) * 2048 + 1 * s.val = _; rw [e5, one_mul, Nat.zero_mul, Nat.zero_add])
  show blockRow (iblk m c 0 t) (iblk m c 1 t) (iblk m c 3 t) (iblk m c 4 t) (iblk m c 5 t) (ix2 r s) = gradRows _ _ _ _ _ (((cfg0.win 6).blk t).view.emb (ix2 r s))
  unfold blockRow gradRows
  rw [h0, h1]
  show dRow (row (n := 256) (iblk m c 0 t) r.val) _ _ (row (n := 256) (iblk m c 4 t) r.val) (row (n := 256) (iblk m c 5 t) r.val) s = _
  rw [x_row, dh_row, dx_row, gain_line, scale_line]

theorem mem_rows (t : Fin cfg0.N) (i : S8192x2048.Idx) :
    i ∈ ((cfg0.win 6).blk t).view.set ↔ ∀ a : Fin 2, win0_6.index t a * S256x2048.size a ≤ (i a).val ∧ (i a).val < win0_6.index t a * S256x2048.size a + S256x2048.size a := by
  show i ∈ ((View.whole main_v0_0).slice (win0_6.rect t)).set ↔ _
  rw [View.set_slice_whole, Rect.mem_set_unit]
  exact Iff.rfl

theorem final_rows (c : Dev nD) : (dats m 0 c).arrAt 6 cfg0.N = (gradRows (m (c.tc.loc main_arg0)) (m (c.tc.loc main_arg1)) (m (c.tc.loc main_arg3)) (m (c.tc.loc main_arg4)) (m (c.tc.loc main_arg5))) :=
  (dats m 0 c).arrAt_eq_of_cover 6 _ (flushed_rows m c) fun i => by
    have h0 : (i 0).val < 8192 := (i 0).isLt
    have h1 : (i 1).val < 2048 := (i 1).isLt
    have hN : (i 0).val / 256 < grid0.N := lt_of_lt_of_eq (by omega) N_0.symm
    refine ⟨⟨(i 0).val / 256, hN⟩, flush0_6 _, ?_⟩
    obtain ⟨-, -, -, -, -, -, -, -, -, -, e4, e5⟩ := idx_facts ⟨(i 0).val / 256, hN⟩
    change _ = (i 0).val / 256 at e4
    rw [mem_rows]
    intro a
    match a with
    | ⟨0, _⟩ => show win0_6.index _ (0 : Fin 2) * 256 ≤ (i 0).val ∧ (i 0).val < win0_6.index _ (0 : Fin 2) * 256 + 256; omega
    | ⟨1, _⟩ => show win0_6.index _ (1 : Fin 2) * 2048 ≤ (i 1).val ∧ (i 1).val < win0_6.index _ (1 : Fin 2) * 2048 + 2048; omega

/-- The last point. -/
abbrev lastPt : Fin grid0.N := ⟨31, lt_of_lt_of_eq (by norm_num) N_0.symm⟩

theorem one_row (y : S1x2048.Idx) : y = ix2 0 (y 1) := funext fun a => Fin.ext (by
  match a with
  | ⟨0, _⟩ => have : (y 0).val < 1 := (y 0).isLt; show (y 0).val = 0; omega
  | ⟨1, _⟩ => rfl)

theorem in_row (b : Fin 2 → ℕ) (e0 : b 0 = 0) (e1 : b 1 = 0) (i : S1x2048.Idx) :
    ∀ a : Fin 2, b a * S1x2048.size a ≤ (i a).val ∧ (i a).val < b a * S1x2048.size a + S1x2048.size a := fun a => by
  have h0 : (i 0).val < 1 := (i 0).isLt
  have h1 : (i 1).val < 2048 := (i 1).isLt
  match a with
  | ⟨0, _⟩ => show b 0 * 1 ≤ (i 0).val ∧ (i 0).val < b 0 * 1 + 1; omega
  | ⟨1, _⟩ => show b 1 * 2048 ≤ (i 1).val ∧ (i 1).val < b 1 * 2048 + 2048; omega

theorem final_gain (c : Dev nD) : (dats m 0 c).arrAt 7 cfg0.N = (gradGain (m (c.tc.loc main_arg0)) (m (c.tc.loc main_arg3)) (m (c.tc.loc main_arg4))) := by
  refine (dats m 0 c).arrAt_eq_of_cover 7 _ (fun t hf => ?_) fun i => ⟨lastPt, (flush0_7 lastPt).mpr rfl, ?_⟩
  · obtain ⟨e0, e1, -⟩ := acc_idx t
    rw [flushed7]
    funext y
    obtain ⟨j, rfl⟩ : ∃ j, y = ix2 0 j := ⟨_, one_row y⟩
    have hy : ((cfg0.win 7).blk t).view.emb (ix2 0 j) = ix2 0 j := funext fun a => Fin.ext (by
      match a with
      | ⟨0, _⟩ => show win0_7.index t (0 : Fin 2) * 1 + 1 * 0 = 0; rw [e0]
      | ⟨1, _⟩ => show win0_7.index t (1 : Fin 2) * 2048 + 1 * j.val = j.val; rw [e1, one_mul, Nat.zero_mul, Nat.zero_add])
    generalize hX : (gradGain (m (c.tc.loc main_arg0)) (m (c.tc.loc main_arg3)) (m (c.tc.loc main_arg4))) = X
    show (outsAt0 m c t.val t.isLt).2.1 (ix2 0 j) = X (((cfg0.win 7).blk t).view.emb (ix2 0 j))
    rw [hy, ← hX]
    exact (total m c j t ((flush0_7 t).mp hf)).1
  · obtain ⟨e0, e1, -⟩ := acc_idx lastPt
    show i ∈ ((View.whole main_v0_1).slice (win0_7.rect lastPt)).set
    rw [View.set_slice_whole, Rect.mem_set_unit]
    exact in_row _ e0 e1 i

theorem final_shift (c : Dev nD) : (dats m 0 c).arrAt 8 cfg0.N = (gradShift (m (c.tc.loc main_arg4))) := by
  refine (dats m 0 c).arrAt_eq_of_cover 8 _ (fun t hf => ?_) fun i => ⟨lastPt, (flush0_8 lastPt).mpr rfl, ?_⟩
  · obtain ⟨-, -, e0, e1, -⟩ := acc_idx t
    rw [flushed8]
    funext y
    obtain ⟨j, rfl⟩ : ∃ j, y = ix2 0 j := ⟨_, one_row y⟩
    have hy : ((cfg0.win 8).blk t).view.emb (ix2 0 j) = ix2 0 j := funext fun a => Fin.ext (by
      match a with
      | ⟨0, _⟩ => show win0_8.index t (0 : Fin 2) * 1 + 1 * 0 = 0; rw [e0]
      | ⟨1, _⟩ => show win0_8.index t (1 : Fin 2) * 2048 + 1 * j.val = j.val; rw [e1, one_mul, Nat.zero_mul, Nat.zero_add])
    generalize hX : (gradShift (m (c.tc.loc main_arg4))) = X
    show (outsAt0 m c t.val t.isLt).2.2.1 (ix2 0 j) = X (((cfg0.win 8).blk t).view.emb (ix2 0 j))
    rw [hy, ← hX]
    exact (total m c j t ((flush0_8 t).mp hf)).2.1
  · obtain ⟨-, -, e0, e1, -⟩ := acc_idx lastPt
    show i ∈ ((View.whole main_v0_2).slice (win0_8.rect lastPt)).set
    rw [View.set_slice_whole, Rect.mem_set_unit]
    exact in_row _ e0 e1 i

theorem final_scale (c : Dev nD) : (dats m 0 c).arrAt 9 cfg0.N = (gradScale (m (c.tc.loc main_arg0)) (m (c.tc.loc main_arg1)) (m (c.tc.loc main_arg4))) := by
  refine (dats m 0 c).arrAt_eq_of_cover 9 _ (fun t hf => ?_) fun i => ⟨lastPt, (flush0_9 lastPt).mpr rfl, ?_⟩
  · obtain ⟨-, -, -, -, e0, e1⟩ := acc_idx t
    rw [flushed9]
    funext y
    obtain ⟨j, rfl⟩ : ∃ j, y = ix2 0 j := ⟨_, one_row y⟩
    have hy : ((cfg0.win 9).blk t).view.emb (ix2 0 j) = ix2 0 j := funext fun a => Fin.ext (by
      match a with
      | ⟨0, _⟩ => show win0_9.index t (0 : Fin 2) * 1 + 1 * 0 = 0; rw [e0]
      | ⟨1, _⟩ => show win0_9.index t (1 : Fin 2) * 2048 + 1 * j.val = j.val; rw [e1, one_mul, Nat.zero_mul, Nat.zero_add])
    generalize hX : (gradScale (m (c.tc.loc main_arg0)) (m (c.tc.loc main_arg1)) (m (c.tc.loc main_arg4))) = X
    show (outsAt0 m c t.val t.isLt).2.2.2 (ix2 0 j) = X (((cfg0.win 9).blk t).view.emb (ix2 0 j))
    rw [hy, ← hX]
    exact (total m c j t ((flush0_9 t).mp hf)).2.2
  · obtain ⟨-, -, -, -, e0, e1⟩ := acc_idx lastPt
    show i ∈ ((View.whole main_v0_3).slice (win0_9.rect lastPt)).set
    rw [View.set_slice_whole, Rect.mem_set_unit]
    exact in_row _ e0 e1 i

end Cert.Kernel17Ideal.Norm

end
-- ==== Proof.EqualNorm.lean ====
/- The gradient of the modulated norm: the reference's arrays are the kernel's, and with it the claims about the pair. -/
module

public import proofs.«01_k».proof.Defs
public import proofs.«01_k».proof.Proof.NormKernel
public import proofs.«01_k».proof.Proof.Gen.Reference17Ideal.Run
public import proofs.«01_k».proof.Proof.Gen.Reference17Ideal.Read

@[expose] public section

noncomputable section

namespace Cert.Reference17Ideal.Norm

open Cert.Reference17Ideal Cert.Reference17Ideal.Gen Cert.Reference17Ideal.Read Cert.Contract Cert.Norm
open Cert.Kernel17Ideal.Norm (row line row_val gradRows gradGain gradShift gradScale)
open Idealize.ShloMosaic Idealize.ShloMosaic.TcCoe Idealize.SL.Sem
open scoped BigOperators

variable (x : FVec Ideal S8192x2048 .f32) (g s : FVec Ideal S1x2048 .f32) (d : FVec Ideal S8192x2048 .bf16) (e : FVec Ideal S8192x2048 .f32)

theorem zero : Ideal.ofBits .f32 0x00000000#32 = 0 := by simp

/-- An entry, by its row. -/
theorem entry (v : S8192x2048.Idx → EReal) (i : S8192x2048.Idx) : v i = row (n := 8192) v (i 0).val (i 1) := eq_nat2 (a := 8192) (b := 2048) v i _ _ rfl rfl

/-- What holds at an index's row and column holds at equal numbers. -/
theorem place (f : ℕ → Fin 2048 → EReal) (i : S8192x2048.Idx) {r : ℕ} {j : Fin 2048} {v : EReal} (h : v = f (i 0).val (i 1)) (h0 : (i 0).val = r) (h1 : (i 1).val = j.val) : v = f r j := by
  rw [h, h0, show i 1 = j from Fin.ext h1]

/-- An entry of a parameter. -/
theorem param (v : S1x2048.Idx → EReal) (i : S1x2048.Idx) (j : Fin 2048) (h : (i 1).val = j.val) : v i = line (n := 1) v 0 j := by
  rw [← row_val (n := 1) v 0]
  refine eq_nat2 (a := 1) (b := 2048) v i _ _ ?_ h
  have : (i 0).val < 1 := (i 0).isLt
  show (i 0).val = 0
  omega

theorem meanSq_eq (i : S8192x1.Idx) : val_main_v6 (F := Ideal) x i = meanSq (row (n := 8192) x (i 0).val) := by
  rw [val_main_v6_apply, val_main_v4_apply, val_main_v2_apply, val_main_v1_apply, val_main_v3_apply, val_main_v5_apply]
  unfold meanSq
  refine congrArg (· + Ideal.ofBits .f32 0x358637BD#32) (congrArg (Ideal.div · (Ideal.ofBits .f32 0x45000000#32)) ?_)
  refine (congrArg (· + _) zero).trans ((zero_add _).trans (Finset.sum_congr rfl fun k _ => ?_))
  exact congrArg₂ (· * ·) (entry x _) (entry x _)

theorem invRoot_eq (i : S8192x1.Idx) : val_main_v7 (F := Ideal) x i = invRoot (row (n := 8192) x (i 0).val) := by
  rw [val_main_v7_apply, meanSq_eq]
  rfl

theorem unit_eq (i : S8192x2048.Idx) : val_main_v12 (F := Ideal) x i = row (n := 8192) x (i 0).val (i 1) * invRoot (row (n := 8192) x (i 0).val) := by
  rw [val_main_v12_apply, val_main_v11_apply, invRoot_eq, entry x i]
  rfl

theorem scaled_eq (i : S8192x2048.Idx) : val_main_v28 (F := Ideal) s d i = row (n := 8192) d (i 0).val (i 1) * (Ideal.ofBits .f32 0x3F800000#32 + line (n := 1) s 0 (i 1)) := by
  rw [val_main_v28_apply, val_main_v21_apply, val_main_v27_apply, val_main_v16_apply, val_main_v15_apply, param s _ (i 1) rfl, ← entry d i]
  rfl

theorem dUnit_eq (i : S8192x2048.Idx) : val_main_v33 (F := Ideal) g s d i = dUnit (line (n := 1) g 0) (line (n := 1) s 0) (row (n := 8192) d (i 0).val) (i 1) := by
  rw [val_main_v33_apply, val_main_v32_apply, scaled_eq, param g _ (i 1) rfl]
  rfl

theorem dScale_eq (i : S8192x2048.Idx) : val_main_v24 (F := Ideal) x g d i = dScale (row (n := 8192) x (i 0).val) (line (n := 1) g 0) (row (n := 8192) d (i 0).val) (i 1) := by
  rw [val_main_v24_apply, val_main_v14_apply, val_main_v13_apply, unit_eq, param g _ (i 1) rfl, val_main_v21_apply]
  unfold dScale
  rw [← entry d i]
  rfl

theorem dGain_eq (i : S8192x2048.Idx) : val_main_v29 (F := Ideal) x s d i = dGain (row (n := 8192) x (i 0).val) (line (n := 1) s 0) (row (n := 8192) d (i 0).val) (i 1) := by
  rw [val_main_v29_apply, unit_eq, scaled_eq]
  rfl

theorem dMean_eq (i : S8192x1.Idx) : val_main_v41 (F := Ideal) x g s d i = dMean (row (n := 8192) x (i 0).val) (line (n := 1) g 0) (line (n := 1) s 0) (row (n := 8192) d (i 0).val) := by
  rw [val_main_v41_apply, val_main_v39_apply, val_main_v36_apply, val_main_v35_apply, val_main_v10_apply, val_main_v9_apply, val_main_v8_apply, val_main_v40_apply, invRoot_eq, meanSq_eq]
  unfold dMean
  refine congrArg (Ideal.div · (Ideal.ofBits .f32 0x45000000#32)) (congrArg (· * (Ideal.ofBits .f32 0xBF000000#32 * Ideal.div _ _)) ?_)
  refine (congrArg (· + _) zero).trans ((zero_add _).trans (Finset.sum_congr rfl fun k _ => ?_))
  have h0 : (idx_main_v35 (idx_main_v36 i) k 0).val = (i 0).val := by
    have : (i 1).val < 1 := (i 1).isLt
    show (i 0).val * 1 + (i 1).val = (i 0).val
    omega
  exact congrArg₂ (· * ·) (place (fun r j => row (n := 8192) x r j) _ (entry x _) h0 rfl)
    (place (fun r j => dUnit (line (n := 1) g 0) (line (n := 1) s 0) (row (n := 8192) d r) j) _ (dUnit_eq g s d _) h0 rfl)

theorem mean_eq (i : S8192x2048.Idx) : val_main_v43 (F := Ideal) x g s d i = dMean (row (n := 8192) x (i 0).val) (line (n := 1) g 0) (line (n := 1) s 0) (row (n := 8192) d (i 0).val) := by
  rw [val_main_v43_apply, val_main_v42_apply, Fin.sum_univ_one, dMean_eq]
  exact (congrArg (· + _) zero).trans (zero_add _)

theorem regroup (a b c k : EReal) : b + c + k + a = a + b + c + k := by
  rw [add_comm _ a, ← add_assoc, ← add_assoc]

theorem rows_eq : val_main_v48 (F := Ideal) x g s d e = gradRows x g s d e := funext fun i => by
  rw [val_main_v48_apply, val_main_v47_apply, val_main_v45_apply, val_main_v46_apply, val_main_v44_apply, val_main_v38_apply, val_main_v37_apply, mean_eq, dUnit_eq, invRoot_eq, entry x i, entry e i]
  unfold gradRows dRow
  exact regroup _ _ _ _

theorem column (i : S1x2048.Idx) : (i 0).val * 2048 + (i 1).val = (i 1).val := by
  have : (i 0).val < 1 := (i 0).isLt
  omega

theorem gain_eq : val_main_v31 (F := Ideal) x s d = gradGain x s d := funext fun i => by
  rw [val_main_v31_apply, val_main_v30_apply]
  unfold gradGain
  exact (congrArg (· + _) zero).trans ((zero_add _).trans (Finset.sum_congr rfl fun k _ => place (fun r j => dGain (row (n := 8192) x r) (line (n := 1) s 0) (row (n := 8192) d r) j) (idx_main_v30 (idx_main_v31 i) k) (dGain_eq x s d _) rfl (column i)))

theorem shift_eq : val_main_v23 (F := Ideal) d = gradShift d := funext fun i => by
  rw [val_main_v23_apply, val_main_v22_apply]
  unfold gradShift
  exact (congrArg (· + _) zero).trans ((zero_add _).trans (Finset.sum_congr rfl fun k _ => place (fun r j => row (n := 8192) d r j) (idx_main_v22 (idx_main_v23 i) k) (entry d _) rfl (column i)))

theorem scale_eq : val_main_v26 (F := Ideal) x g d = gradScale x g d := funext fun i => by
  rw [val_main_v26_apply, val_main_v25_apply]
  unfold gradScale
  exact (congrArg (· + _) zero).trans ((zero_add _).trans (Finset.sum_congr rfl fun k _ => place (fun r j => dScale (row (n := 8192) x r) (line (n := 1) g 0) (row (n := 8192) d r) j) (idx_main_v25 (idx_main_v26 i) k) (dScale_eq x g d _) rfl (column i)))

theorem frame : @Cert.quiescent_Reference17Ideal Cert.Reference17Ideal.Gen.facts := fun m ρ _ =>
  (θ_run _ _ _).mono (fun r h => ⟨fun c => (h c).2.2.2.2, sem_eq_zero_of_no_sems (by decide) r.2⟩) (Cert.Reference17Ideal.Value.run m ρ)

open Cert.Kernel17Ideal in
/-- Kernel and reference end with equal arrays. -/
theorem algebraic : @Cert.algebraic_Kernel17Ideal_Reference17Ideal Cert.Kernel17Ideal.Gen.facts Cert.Reference17Ideal.Gen.facts := fun m ρ m' ρ' _ hag => by
  refine ⟨fun c => gradRows (m (c.tc.loc Kernel17Ideal.main_arg0)) (m (c.tc.loc Kernel17Ideal.main_arg1)) (m (c.tc.loc Kernel17Ideal.main_arg3)) (m (c.tc.loc Kernel17Ideal.main_arg4)) (m (c.tc.loc Kernel17Ideal.main_arg5)),
    fun c => gradGain (m (c.tc.loc Kernel17Ideal.main_arg0)) (m (c.tc.loc Kernel17Ideal.main_arg3)) (m (c.tc.loc Kernel17Ideal.main_arg4)),
    fun c => gradShift (m (c.tc.loc Kernel17Ideal.main_arg4)),
    fun c => gradScale (m (c.tc.loc Kernel17Ideal.main_arg0)) (m (c.tc.loc Kernel17Ideal.main_arg1)) (m (c.tc.loc Kernel17Ideal.main_arg4)), ?_, ?_⟩
  · exact (θ_run _ _ _).mono (fun _ h c => ⟨(h c).1.trans (Cert.Kernel17Ideal.Norm.final_rows m c), (h c).2.1.trans (Cert.Kernel17Ideal.Norm.final_gain m c),
      (h c).2.2.1.trans (Cert.Kernel17Ideal.Norm.final_shift m c), (h c).2.2.2.1.trans (Cert.Kernel17Ideal.Norm.final_scale m c), (h c).2.2.2.2⟩) (Cert.Kernel17Ideal.Value.run_blocks m ρ)
  · refine (θ_run _ _ _).mono (fun _ h c => ⟨((h c).1.trans (val_main_v48_eq _ _)).trans ?_, ((h c).2.1.trans (val_main_v31_eq _ _ _)).trans ?_,
      ((h c).2.2.1.trans (val_main_v23_eq _)).trans ?_, ((h c).2.2.2.1.trans (val_main_v26_eq _ _ _)).trans ?_, (h c).2.2.2.2⟩) (Cert.Reference17Ideal.Value.run m' ρ')
    · rw [(hag c).1, (hag c).2.1, (hag c).2.2.2.1, (hag c).2.2.2.2.1, (hag c).2.2.2.2.2]
      exact rows_eq _ _ _ _ _
    · rw [(hag c).1, (hag c).2.2.2.1, (hag c).2.2.2.2.1]
      exact gain_eq _ _ _
    · rw [(hag c).2.2.2.2.1]
      exact shift_eq _
    · rw [(hag c).1, (hag c).2.1, (hag c).2.2.2.2.1]
      exact scale_eq _ _ _

end Cert.Reference17Ideal.Norm

end
-- ==== Proof.Adam.lean ====
/- One step of AdamW at one weight, over the extended reals, and what is common to the calls that take it in bands of
   rows: pieces that agree with an array, and rows cut into blocks. -/
module

public import Idealize.ShloMosaic.PureOps.Ideal.Laws
public import Idealize.ShloMosaic.Lib.ValueIdx
public import Idealize.ShloMosaic.Lib.Pipeline.Value

@[expose] public section

noncomputable section

namespace Cert.Adam

open Idealize.ShloMosaic

/-- The new first moment, of a gradient `g` and the first moment `m`. -/
def first (g m : EReal) : EReal := Ideal.ofBits .f32 0x3F666666#32 * m + Ideal.ofBits .f32 0x3DCCCCCD#32 * g
/-- The new second moment, of a gradient `g` and the second moment `v`. -/
def second (g v : EReal) : EReal := Ideal.ofBits .f32 0x3F7FBE77#32 * v + Ideal.ofBits .f32 0x3A83126F#32 * (g * g)
/-- The change of a weight `w`. -/
def change (w g m v : EReal) : EReal :=
  Ideal.ofBits .f32 0xBA83126F#32 * (Ideal.div (Ideal.div (first g m) (Ideal.ofBits .f32 0x3F26BD02#32))
    (Ideal.sqrt (Ideal.div (second g v) (Ideal.ofBits .f32 0x3C231ACC#32)) + Ideal.ofBits .f32 0x322BCC77#32) + Ideal.ofBits .f32 0x3C23D70A#32 * w)

section Arrays
variable {s : Shape} (w g m v : s.Idx → EReal)

/-- The three results of the step on whole arrays. -/
def changes : s.Idx → EReal := fun i => change (w i) (g i) (m i) (v i)
def firsts : s.Idx → EReal := fun i => first (g i) (m i)
def seconds : s.Idx → EReal := fun i => second (g i) (v i)

end Arrays

section Pieces
variable {s : Shape}

/-- Pieces of an array that agree with `f` where they lie. -/
def Agrees (f : s.Idx → EReal) (L : List (View.Piece (Elt Ideal) s .f32)) : Prop :=
  ∀ p ∈ L, ∀ x : p.1.shape.Idx, p.2 x = f (p.1.emb x)

theorem Agrees.append {f : s.Idx → EReal} {L M : List (View.Piece (Elt Ideal) s .f32)} (hL : Agrees f L) (hM : Agrees f M) : Agrees f (L ++ M) :=
  fun p hp => (List.mem_append.mp hp).elim (hL p) (hM p)

/-- A buffer all of which is covered by such pieces reads back as `f`. -/
theorem Agrees.read {sig : RefSig} {κ : Kind} {sp : Space} {f : s.Idx → EReal} {L : List (View.Piece (Elt Ideal) s .f32)} (hL : Agrees f L) (b : View sig κ sp s .f32)
    (hc : ∀ y, ∃ p ∈ L, y ∈ p.1.set) : b.read (Elt Ideal) (b.writes (Elt Ideal) b.junk L) = f := by
  funext y
  rw [View.read_writes_junk_eq_canon]
  exact View.canon_apply_of_pieces (Val := Elt Ideal) (e := .f32) f L hL y (hc y)

abbrev Triple (s : Shape) := List (View.Piece (Elt Ideal) s .f32) × List (View.Piece (Elt Ideal) s .f32) × List (View.Piece (Elt Ideal) s .f32)

/-- Three buffers' pieces, each with its array. -/
def Agrees3 (f g h : s.Idx → EReal) (T : Triple s) : Prop := Agrees f T.1 ∧ Agrees g T.2.1 ∧ Agrees h T.2.2

/-- A loop that puts each trip's pieces in front: they agree where every trip's do. -/
theorem agrees_loop {f g h : s.Idx → EReal} {n : ℕ} (P : ℕ → Triple s) (T : Fin n → Triple s) (h0 : P 0 = ([], [], []))
    (hs : ∀ k : Fin n, P (k.val + 1) = ((T k).1 ++ (P k.val).1, (T k).2.1 ++ (P k.val).2.1, (T k).2.2 ++ (P k.val).2.2))
    (hT : ∀ k, Agrees3 f g h (T k)) : ∀ k, k ≤ n → Agrees3 f g h (P k)
  | 0, _ => by rw [h0]; exact ⟨fun _ hp => (nomatch hp), fun _ hp => (nomatch hp), fun _ hp => (nomatch hp)⟩
  | k + 1, hk => by
    have e := hs ⟨k, hk⟩
    have r := agrees_loop P T h0 hs hT k (Nat.le_of_succ_le hk)
    have t := hT ⟨k, hk⟩
    rw [show P (k + 1) = _ from e]
    exact ⟨t.1.append r.1, t.2.1.append r.2.1, t.2.2.append r.2.2⟩

/-- The three pieces a trip writes on one rectangle, of what it reads there of the four arrays. -/
theorem agrees_band (w g m v : s.Idx → EReal) {B : Rect s} {w' g' m' v' : B.shape.Idx → EReal} (hw : ∀ y, w' y = w (B.emb y)) (hg : ∀ y, g' y = g (B.emb y))
    (hm : ∀ y, m' y = m (B.emb y)) (hv : ∀ y, v' y = v (B.emb y)) : Agrees3 (changes w g m v) (firsts g m) (seconds g v)
      ([⟨B, fun y => change (w' y) (g' y) (m' y) (v' y)⟩], [⟨B, fun y => first (g' y) (m' y)⟩], [⟨B, fun y => second (g' y) (v' y)⟩]) := by
  refine ⟨fun p hp y => ?_, fun p hp y => ?_, fun p hp y => ?_⟩ <;> obtain rfl := List.mem_singleton.mp hp
  · exact congr (congr (congr (congrArg change (hw y)) (hg y)) (hm y)) (hv y)
  · exact congrArg₂ first (hg y) (hm y)
  · exact congrArg₂ second (hg y) (hv y)

end Pieces

/-- An entry lies in the band of rows its row falls in. -/
theorem in_band (X sz I : Fin 2 → ℕ) (hp : 0 < sz 0) (h0 : X 0 = I 0 / sz 0) (h1 : X 1 = 0) (hI : I 1 < sz 1) (a : Fin 2) : X a * sz a ≤ I a ∧ I a < X a * sz a + sz a := by
  match a with
  | ⟨0, _⟩ =>
    show X 0 * sz 0 ≤ I 0 ∧ I 0 < X 0 * sz 0 + sz 0
    rw [h0]
    exact ⟨Nat.div_mul_le_self _ _, by rw [← Nat.succ_mul]; exact (Nat.div_lt_iff_lt_mul hp).mp (Nat.lt_succ_self _)⟩
  | ⟨1, _⟩ => show X 1 * sz 1 ≤ I 1 ∧ I 1 < X 1 * sz 1 + sz 1; rw [h1, Nat.zero_mul, Nat.zero_add]; exact ⟨Nat.zero_le _, hI⟩

end Cert.Adam

end
-- ==== Proof.EqualAdam18.lean ====
/- The AdamW step on a block of 512 rows of 2048 columns: kernel and reference end with the same three arrays. -/
module

public import proofs.«01_k».proof.Defs
public import proofs.«01_k».proof.Proof.Adam
public import proofs.«01_k».proof.Proof.Gen.Kernel18Ideal.Value
public import proofs.«01_k».proof.Proof.Gen.Reference18Ideal.Run
public import proofs.«01_k».proof.Proof.Gen.Reference18Ideal.Read
public import Idealize.ShloMosaic.Lib.WholeRead

@[expose] public section

noncomputable section

namespace Cert.Kernel18Ideal.Adam

open Cert.Kernel18Ideal Cert.Kernel18Ideal.Gen Cert.Kernel18Ideal.Value Cert.Adam
open Idealize.ShloMosaic Idealize.ShloMosaic.TcCoe Idealize.SL.Sem

section Block
variable (c : Dev nD) (i : grid0.Coords) (a2 : Memref sig .tc .vmem S64x2048 .f32) (h2 : a2.IsWhole) (a3 : Memref sig .tc .vmem S64x2048 .f32) (h3 : a3.IsWhole) (a4 : Memref sig .tc .vmem S64x2048 .f32) (h4 : a4.IsWhole) (a5 : Memref sig .tc .vmem S64x2048 .f32) (h5 : a5.IsWhole)
  (a6 : Memref sig .tc .vmem S64x2048 .f32) (h6 : a6.IsWhole) (a7 : Memref sig .tc .vmem S64x2048 .f32) (h7 : a7.IsWhole) (a8 : Memref sig .tc .vmem S64x2048 .f32) (h8 : a8.IsWhole) (w g m v : Vec Ideal S64x2048 .f32)

/-- A trip's pieces are the step on its rows. -/
theorem trip_agrees (k : Fin k0_t1_loop.trips) : Agrees3 (changes w g m v) (firsts g m) (seconds g v)
    (tripL_k0_t1 (F := Ideal) Variants.none c none i a2 h2 a3 h3 a4 h4 a5 h5 a6 h6 a7 h7 a8 h8 (h2.unread w) (h3.unread g) (h4.unread m) (h5.unread v) k) := by
  unfold tripL_k0_t1 trip_k0_t1
  exact agrees_band w g m v (h2.readAt_unread w _) (h3.readAt_unread g _) (h4.readAt_unread m _) (h5.readAt_unread v _)

theorem loop_agrees (n : ℕ) (h : n ≤ k0_t1_loop.trips) : Agrees3 (changes w g m v) (firsts g m) (seconds g v)
    (pb_k0_t1 (F := Ideal) Variants.none c none i a2 h2 a3 h3 a4 h4 a5 h5 a6 h6 a7 h7 a8 h8 (h2.unread w) (h3.unread g) (h4.unread m) (h5.unread v) n) :=
  agrees_loop (pb_k0_t1 (F := Ideal) Variants.none c none i a2 h2 a3 h3 a4 h4 a5 h5 a6 h6 a7 h7 a8 h8 (h2.unread w) (h3.unread g) (h4.unread m) (h5.unread v))
    (tripL_k0_t1 (F := Ideal) Variants.none c none i a2 h2 a3 h3 a4 h4 a5 h5 a6 h6 a7 h7 a8 h8 (h2.unread w) (h3.unread g) (h4.unread m) (h5.unread v))
    (pb_k0_t1.eq_1 ..) (fun _ => pb_k0_t1_succ ..) (trip_agrees c i a2 h2 a3 h3 a4 h4 a5 h5 a6 h6 a7 h7 a8 h8 w g m v) n h

/-- What the body leaves in its three buffers. -/
theorem out4 : out0_A_4 (F := Ideal) c i a2 h2 a3 h3 a4 h4 a5 h5 a6 h6 a7 h7 a8 h8 w g m v = changes w g m v :=
  Agrees.read (by unfold kernelRun0_A; exact (loop_agrees c i a2 h2 a3 h3 a4 h4 a5 h5 a6 h6 a7 h7 a8 h8 w g m v _ (by decide)).1) _ (cover0_A_4 c i a2 h2 a3 h3 a4 h4 a5 h5 a6 h6 a7 h7 a8 h8 w g m v)
theorem out5 : out0_A_5 (F := Ideal) c i a2 h2 a3 h3 a4 h4 a5 h5 a6 h6 a7 h7 a8 h8 w g m v = firsts g m :=
  Agrees.read (by unfold kernelRun0_A; exact (loop_agrees c i a2 h2 a3 h3 a4 h4 a5 h5 a6 h6 a7 h7 a8 h8 w g m v _ (by decide)).2.1) _ (cover0_A_5 c i a2 h2 a3 h3 a4 h4 a5 h5 a6 h6 a7 h7 a8 h8 w g m v)
theorem out6 : out0_A_6 (F := Ideal) c i a2 h2 a3 h3 a4 h4 a5 h5 a6 h6 a7 h7 a8 h8 w g m v = seconds g v :=
  Agrees.read (by unfold kernelRun0_A; exact (loop_agrees c i a2 h2 a3 h3 a4 h4 a5 h5 a6 h6 a7 h7 a8 h8 w g m v _ (by decide)).2.2) _ (cover0_A_6 c i a2 h2 a3 h3 a4 h4 a5 h5 a6 h6 a7 h7 a8 h8 w g m v)

end Block

variable (m : (ℓ : Loc nD τ sig) → Buf (Elt Ideal) ℓ)

theorem idx_facts : ∀ t : Fin cfg0.N, win0_4.index t (0 : Fin 2) = t.val ∧ win0_4.index t (1 : Fin 2) = 0 :=
  (by decide +kernel : ∀ t : Fin grid0.N, _)

/-- Every entry lies in some block. -/
theorem covered (i : S512x2048.Idx) : ∃ t : Fin cfg0.N, i ∈ ((cfg0.win 4).blk t).view.set := by
  have h0 : (i 0).val < 512 := (i 0).isLt
  obtain ⟨t, ht⟩ : ∃ t : Fin cfg0.N, t.val = (i 0).val / 64 := ⟨⟨(i 0).val / 64, lt_of_lt_of_eq (by omega) N_0.symm⟩, rfl⟩
  refine ⟨t, ?_⟩
  show i ∈ ((View.whole main_v0_0).slice (win0_4.rect t)).set
  rw [View.set_slice_whole, Rect.mem_set_unit]
  exact in_band (win0_4.index t) S64x2048.size (fun a => (i a).val) (by decide) ((idx_facts t).1.trans ht) (idx_facts t).2 (i 1).isLt

theorem final4 (c : Dev nD) : (dats m 0 c).arrAt 4 cfg0.N = changes (m (c.tc.loc main_arg0)) (m (c.tc.loc main_arg1)) (m (c.tc.loc main_arg2)) (m (c.tc.loc main_arg3)) :=
  (dats m 0 c).arrAt_eq_of_cover 4 _ (fun t _ => by rw [flushed4_A, out4]; rfl) fun i => (covered i).imp fun t h => ⟨flush0_4 t, h⟩
theorem final5 (c : Dev nD) : (dats m 0 c).arrAt 5 cfg0.N = firsts (m (c.tc.loc main_arg1)) (m (c.tc.loc main_arg2)) :=
  (dats m 0 c).arrAt_eq_of_cover 5 _ (fun t _ => by rw [flushed5_A, out5]; rfl) fun i => (covered i).imp fun t h => ⟨flush0_5 t, h⟩
theorem final6 (c : Dev nD) : (dats m 0 c).arrAt 6 cfg0.N = seconds (m (c.tc.loc main_arg1)) (m (c.tc.loc main_arg3)) :=
  (dats m 0 c).arrAt_eq_of_cover 6 _ (fun t _ => by rw [flushed6_A, out6]; rfl) fun i => (covered i).imp fun t h => ⟨flush0_6 t, h⟩

end Cert.Kernel18Ideal.Adam

namespace Cert.Reference18Ideal.Adam

open Cert.Adam Cert.Reference18Ideal.Read
open Idealize.ShloMosaic Idealize.ShloMosaic.TcCoe Idealize.SL.Sem

theorem frame : @Cert.quiescent_Reference18Ideal Cert.Reference18Ideal.Gen.facts := fun m ρ _ =>
  (θ_run _ _ _).mono (fun r h => ⟨fun c => (h c).2.2.2, sem_eq_zero_of_no_sems (by decide) r.2⟩) (Cert.Reference18Ideal.Value.run m ρ)

/-- Kernel and reference end with equal arrays. -/
theorem algebraic : @Cert.algebraic_Kernel18Ideal_Reference18Ideal Cert.Kernel18Ideal.Gen.facts Cert.Reference18Ideal.Gen.facts := fun m ρ m' ρ' _ hag => by
  refine ⟨_, _, _, (θ_run _ _ _).mono (fun _ h c => ⟨(h c).1.trans (Cert.Kernel18Ideal.Adam.final4 m c), (h c).2.1.trans (Cert.Kernel18Ideal.Adam.final5 m c),
    (h c).2.2.1.trans (Cert.Kernel18Ideal.Adam.final6 m c), (h c).2.2.2⟩) (Cert.Kernel18Ideal.Value.run_blocks m ρ), ?_⟩
  refine (θ_run _ _ _).mono (fun _ h c => ⟨(h c).1.trans ?_, (h c).2.1.trans ?_, (h c).2.2.1.trans ?_, (h c).2.2.2⟩) (Cert.Reference18Ideal.Value.run m' ρ')
  · rw [(hag c).1, (hag c).2.1, (hag c).2.2.1, (hag c).2.2.2]; rfl
  · rw [(hag c).2.1, (hag c).2.2.1]; rfl
  · rw [(hag c).2.1, (hag c).2.2.2]; rfl

end Cert.Reference18Ideal.Adam

end
-- ==== Proof.EqualAdam19.lean ====
/- The AdamW step on a block of 1088 rows of 1024 columns: kernel and reference end with the same three arrays. -/
module

public import proofs.«01_k».proof.Defs
public import proofs.«01_k».proof.Proof.Adam
public import proofs.«01_k».proof.Proof.Gen.Kernel19Ideal.Value
public import proofs.«01_k».proof.Proof.Gen.Reference19Ideal.Run
public import proofs.«01_k».proof.Proof.Gen.Reference19Ideal.Read
public import Idealize.ShloMosaic.Lib.WholeRead

@[expose] public section

noncomputable section

namespace Cert.Kernel19Ideal.Adam

open Cert.Kernel19Ideal Cert.Kernel19Ideal.Gen Cert.Kernel19Ideal.Value Cert.Adam
open Idealize.ShloMosaic Idealize.ShloMosaic.TcCoe Idealize.SL.Sem

section Block
variable (c : Dev nD) (i : grid0.Coords) (a2 : Memref sig .tc .vmem S64x1024 .f32) (h2 : a2.IsWhole) (a3 : Memref sig .tc .vmem S64x1024 .f32) (h3 : a3.IsWhole) (a4 : Memref sig .tc .vmem S64x1024 .f32) (h4 : a4.IsWhole) (a5 : Memref sig .tc .vmem S64x1024 .f32) (h5 : a5.IsWhole)
  (a6 : Memref sig .tc .vmem S64x1024 .f32) (h6 : a6.IsWhole) (a7 : Memref sig .tc .vmem S64x1024 .f32) (h7 : a7.IsWhole) (a8 : Memref sig .tc .vmem S64x1024 .f32) (h8 : a8.IsWhole) (w g m v : Vec Ideal S64x1024 .f32)

/-- A trip's pieces are the step on its rows. -/
theorem trip_agrees (k : Fin k0_t1_loop.trips) : Agrees3 (changes w g m v) (firsts g m) (seconds g v)
    (tripL_k0_t1 (F := Ideal) Variants.none c none i a2 h2 a3 h3 a4 h4 a5 h5 a6 h6 a7 h7 a8 h8 (h2.unread w) (h3.unread g) (h4.unread m) (h5.unread v) k) := by
  unfold tripL_k0_t1 trip_k0_t1
  exact agrees_band w g m v (h2.readAt_unread w _) (h3.readAt_unread g _) (h4.readAt_unread m _) (h5.readAt_unread v _)

theorem loop_agrees (n : ℕ) (h : n ≤ k0_t1_loop.trips) : Agrees3 (changes w g m v) (firsts g m) (seconds g v)
    (pb_k0_t1 (F := Ideal) Variants.none c none i a2 h2 a3 h3 a4 h4 a5 h5 a6 h6 a7 h7 a8 h8 (h2.unread w) (h3.unread g) (h4.unread m) (h5.unread v) n) :=
  agrees_loop (pb_k0_t1 (F := Ideal) Variants.none c none i a2 h2 a3 h3 a4 h4 a5 h5 a6 h6 a7 h7 a8 h8 (h2.unread w) (h3.unread g) (h4.unread m) (h5.unread v))
    (tripL_k0_t1 (F := Ideal) Variants.none c none i a2 h2 a3 h3 a4 h4 a5 h5 a6 h6 a7 h7 a8 h8 (h2.unread w) (h3.unread g) (h4.unread m) (h5.unread v))
    (pb_k0_t1.eq_1 ..) (fun _ => pb_k0_t1_succ ..) (trip_agrees c i a2 h2 a3 h3 a4 h4 a5 h5 a6 h6 a7 h7 a8 h8 w g m v) n h

/-- What the body leaves in its three buffers. -/
theorem out4 : out0_A_4 (F := Ideal) c i a2 h2 a3 h3 a4 h4 a5 h5 a6 h6 a7 h7 a8 h8 w g m v = changes w g m v :=
  Agrees.read (by unfold kernelRun0_A; exact (loop_agrees c i a2 h2 a3 h3 a4 h4 a5 h5 a6 h6 a7 h7 a8 h8 w g m v _ (by decide)).1) _ (cover0_A_4 c i a2 h2 a3 h3 a4 h4 a5 h5 a6 h6 a7 h7 a8 h8 w g m v)
theorem out5 : out0_A_5 (F := Ideal) c i a2 h2 a3 h3 a4 h4 a5 h5 a6 h6 a7 h7 a8 h8 w g m v = firsts g m :=
  Agrees.read (by unfold kernelRun0_A; exact (loop_agrees c i a2 h2 a3 h3 a4 h4 a5 h5 a6 h6 a7 h7 a8 h8 w g m v _ (by decide)).2.1) _ (cover0_A_5 c i a2 h2 a3 h3 a4 h4 a5 h5 a6 h6 a7 h7 a8 h8 w g m v)
theorem out6 : out0_A_6 (F := Ideal) c i a2 h2 a3 h3 a4 h4 a5 h5 a6 h6 a7 h7 a8 h8 w g m v = seconds g v :=
  Agrees.read (by unfold kernelRun0_A; exact (loop_agrees c i a2 h2 a3 h3 a4 h4 a5 h5 a6 h6 a7 h7 a8 h8 w g m v _ (by decide)).2.2) _ (cover0_A_6 c i a2 h2 a3 h3 a4 h4 a5 h5 a6 h6 a7 h7 a8 h8 w g m v)

end Block

variable (m : (ℓ : Loc nD τ sig) → Buf (Elt Ideal) ℓ)

theorem idx_facts : ∀ t : Fin cfg0.N, win0_4.index t (0 : Fin 2) = t.val ∧ win0_4.index t (1 : Fin 2) = 0 :=
  (by decide +kernel : ∀ t : Fin grid0.N, _)

/-- Every entry lies in some block. -/
theorem covered (i : S1088x1024.Idx) : ∃ t : Fin cfg0.N, i ∈ ((cfg0.win 4).blk t).view.set := by
  have h0 : (i 0).val < 1088 := (i 0).isLt
  obtain ⟨t, ht⟩ : ∃ t : Fin cfg0.N, t.val = (i 0).val / 64 := ⟨⟨(i 0).val / 64, lt_of_lt_of_eq (by omega) N_0.symm⟩, rfl⟩
  refine ⟨t, ?_⟩
  show i ∈ ((View.whole main_v0_0).slice (win0_4.rect t)).set
  rw [View.set_slice_whole, Rect.mem_set_unit]
  exact in_band (win0_4.index t) S64x1024.size (fun a => (i a).val) (by decide) ((idx_facts t).1.trans ht) (idx_facts t).2 (i 1).isLt

theorem final4 (c : Dev nD) : (dats m 0 c).arrAt 4 cfg0.N = changes (m (c.tc.loc main_arg0)) (m (c.tc.loc main_arg1)) (m (c.tc.loc main_arg2)) (m (c.tc.loc main_arg3)) :=
  (dats m 0 c).arrAt_eq_of_cover 4 _ (fun t _ => by rw [flushed4_A, out4]; rfl) fun i => (covered i).imp fun t h => ⟨flush0_4 t, h⟩
theorem final5 (c : Dev nD) : (dats m 0 c).arrAt 5 cfg0.N = firsts (m (c.tc.loc main_arg1)) (m (c.tc.loc main_arg2)) :=
  (dats m 0 c).arrAt_eq_of_cover 5 _ (fun t _ => by rw [flushed5_A, out5]; rfl) fun i => (covered i).imp fun t h => ⟨flush0_5 t, h⟩
theorem final6 (c : Dev nD) : (dats m 0 c).arrAt 6 cfg0.N = seconds (m (c.tc.loc main_arg1)) (m (c.tc.loc main_arg3)) :=
  (dats m 0 c).arrAt_eq_of_cover 6 _ (fun t _ => by rw [flushed6_A, out6]; rfl) fun i => (covered i).imp fun t h => ⟨flush0_6 t, h⟩

end Cert.Kernel19Ideal.Adam

namespace Cert.Reference19Ideal.Adam

open Cert.Adam Cert.Reference19Ideal.Read
open Idealize.ShloMosaic Idealize.ShloMosaic.TcCoe Idealize.SL.Sem

theorem frame : @Cert.quiescent_Reference19Ideal Cert.Reference19Ideal.Gen.facts := fun m ρ _ =>
  (θ_run _ _ _).mono (fun r h => ⟨fun c => (h c).2.2.2, sem_eq_zero_of_no_sems (by decide) r.2⟩) (Cert.Reference19Ideal.Value.run m ρ)

/-- Kernel and reference end with equal arrays. -/
theorem algebraic : @Cert.algebraic_Kernel19Ideal_Reference19Ideal Cert.Kernel19Ideal.Gen.facts Cert.Reference19Ideal.Gen.facts := fun m ρ m' ρ' _ hag => by
  refine ⟨_, _, _, (θ_run _ _ _).mono (fun _ h c => ⟨(h c).1.trans (Cert.Kernel19Ideal.Adam.final4 m c), (h c).2.1.trans (Cert.Kernel19Ideal.Adam.final5 m c),
    (h c).2.2.1.trans (Cert.Kernel19Ideal.Adam.final6 m c), (h c).2.2.2⟩) (Cert.Kernel19Ideal.Value.run_blocks m ρ), ?_⟩
  refine (θ_run _ _ _).mono (fun _ h c => ⟨(h c).1.trans ?_, (h c).2.1.trans ?_, (h c).2.2.1.trans ?_, (h c).2.2.2⟩) (Cert.Reference19Ideal.Value.run m' ρ')
  · rw [(hag c).1, (hag c).2.1, (hag c).2.2.1, (hag c).2.2.2]; rfl
  · rw [(hag c).2.1, (hag c).2.2.1]; rfl
  · rw [(hag c).2.1, (hag c).2.2.2]; rfl

end Cert.Reference19Ideal.Adam

end
-- ==== Proof.EqualAdam20.lean ====
/- The AdamW step on a block of 2048 rows of 3072 columns: kernel and reference end with the same three arrays. -/
module

public import proofs.«01_k».proof.Defs
public import proofs.«01_k».proof.Proof.Adam
public import proofs.«01_k».proof.Proof.Gen.Kernel20Ideal.Value
public import proofs.«01_k».proof.Proof.Gen.Reference20Ideal.Run
public import proofs.«01_k».proof.Proof.Gen.Reference20Ideal.Read
public import Idealize.ShloMosaic.Lib.WholeRead

@[expose] public section

noncomputable section

namespace Cert.Kernel20Ideal.Adam

open Cert.Kernel20Ideal Cert.Kernel20Ideal.Gen Cert.Kernel20Ideal.Value Cert.Adam
open Idealize.ShloMosaic Idealize.ShloMosaic.TcCoe Idealize.SL.Sem

section Block
variable (c : Dev nD) (i : grid0.Coords) (a2 : Memref sig .tc .vmem S64x3072 .f32) (h2 : a2.IsWhole) (a3 : Memref sig .tc .vmem S64x3072 .f32) (h3 : a3.IsWhole) (a4 : Memref sig .tc .vmem S64x3072 .f32) (h4 : a4.IsWhole) (a5 : Memref sig .tc .vmem S64x3072 .f32) (h5 : a5.IsWhole)
  (a6 : Memref sig .tc .vmem S64x3072 .f32) (h6 : a6.IsWhole) (a7 : Memref sig .tc .vmem S64x3072 .f32) (h7 : a7.IsWhole) (a8 : Memref sig .tc .vmem S64x3072 .f32) (h8 : a8.IsWhole) (w g m v : Vec Ideal S64x3072 .f32)

/-- A trip's pieces are the step on its rows. -/
theorem trip_agrees (k : Fin k0_t1_loop.trips) : Agrees3 (changes w g m v) (firsts g m) (seconds g v)
    (tripL_k0_t1 (F := Ideal) Variants.none c none i a2 h2 a3 h3 a4 h4 a5 h5 a6 h6 a7 h7 a8 h8 (h2.unread w) (h3.unread g) (h4.unread m) (h5.unread v) k) := by
  unfold tripL_k0_t1 trip_k0_t1
  exact agrees_band w g m v (h2.readAt_unread w _) (h3.readAt_unread g _) (h4.readAt_unread m _) (h5.readAt_unread v _)

theorem loop_agrees (n : ℕ) (h : n ≤ k0_t1_loop.trips) : Agrees3 (changes w g m v) (firsts g m) (seconds g v)
    (pb_k0_t1 (F := Ideal) Variants.none c none i a2 h2 a3 h3 a4 h4 a5 h5 a6 h6 a7 h7 a8 h8 (h2.unread w) (h3.unread g) (h4.unread m) (h5.unread v) n) :=
  agrees_loop (pb_k0_t1 (F := Ideal) Variants.none c none i a2 h2 a3 h3 a4 h4 a5 h5 a6 h6 a7 h7 a8 h8 (h2.unread w) (h3.unread g) (h4.unread m) (h5.unread v))
    (tripL_k0_t1 (F := Ideal) Variants.none c none i a2 h2 a3 h3 a4 h4 a5 h5 a6 h6 a7 h7 a8 h8 (h2.unread w) (h3.unread g) (h4.unread m) (h5.unread v))
    (pb_k0_t1.eq_1 ..) (fun _ => pb_k0_t1_succ ..) (trip_agrees c i a2 h2 a3 h3 a4 h4 a5 h5 a6 h6 a7 h7 a8 h8 w g m v) n h

/-- What the body leaves in its three buffers. -/
theorem out4 : out0_A_4 (F := Ideal) c i a2 h2 a3 h3 a4 h4 a5 h5 a6 h6 a7 h7 a8 h8 w g m v = changes w g m v :=
  Agrees.read (by unfold kernelRun0_A; exact (loop_agrees c i a2 h2 a3 h3 a4 h4 a5 h5 a6 h6 a7 h7 a8 h8 w g m v _ (by decide)).1) _ (cover0_A_4 c i a2 h2 a3 h3 a4 h4 a5 h5 a6 h6 a7 h7 a8 h8 w g m v)
theorem out5 : out0_A_5 (F := Ideal) c i a2 h2 a3 h3 a4 h4 a5 h5 a6 h6 a7 h7 a8 h8 w g m v = firsts g m :=
  Agrees.read (by unfold kernelRun0_A; exact (loop_agrees c i a2 h2 a3 h3 a4 h4 a5 h5 a6 h6 a7 h7 a8 h8 w g m v _ (by decide)).2.1) _ (cover0_A_5 c i a2 h2 a3 h3 a4 h4 a5 h5 a6 h6 a7 h7 a8 h8 w g m v)
theorem out6 : out0_A_6 (F := Ideal) c i a2 h2 a3 h3 a4 h4 a5 h5 a6 h6 a7 h7 a8 h8 w g m v = seconds g v :=
  Agrees.read (by unfold kernelRun0_A; exact (loop_agrees c i a2 h2 a3 h3 a4 h4 a5 h5 a6 h6 a7 h7 a8 h8 w g m v _ (by decide)).2.2) _ (cover0_A_6 c i a2 h2 a3 h3 a4 h4 a5 h5 a6 h6 a7 h7 a8 h8 w g m v)

end Block

variable (m : (ℓ : Loc nD τ sig) → Buf (Elt Ideal) ℓ)

theorem idx_facts : ∀ t : Fin cfg0.N, win0_4.index t (0 : Fin 2) = t.val ∧ win0_4.index t (1 : Fin 2) = 0 :=
  (by decide +kernel : ∀ t : Fin grid0.N, _)

/-- Every entry lies in some block. -/
theorem covered (i : S2048x3072.Idx) : ∃ t : Fin cfg0.N, i ∈ ((cfg0.win 4).blk t).view.set := by
  have h0 : (i 0).val < 2048 := (i 0).isLt
  obtain ⟨t, ht⟩ : ∃ t : Fin cfg0.N, t.val = (i 0).val / 64 := ⟨⟨(i 0).val / 64, lt_of_lt_of_eq (by omega) N_0.symm⟩, rfl⟩
  refine ⟨t, ?_⟩
  show i ∈ ((View.whole main_v0_0).slice (win0_4.rect t)).set
  rw [View.set_slice_whole, Rect.mem_set_unit]
  exact in_band (win0_4.index t) S64x3072.size (fun a => (i a).val) (by decide) ((idx_facts t).1.trans ht) (idx_facts t).2 (i 1).isLt

theorem final4 (c : Dev nD) : (dats m 0 c).arrAt 4 cfg0.N = changes (m (c.tc.loc main_arg0)) (m (c.tc.loc main_arg1)) (m (c.tc.loc main_arg2)) (m (c.tc.loc main_arg3)) :=
  (dats m 0 c).arrAt_eq_of_cover 4 _ (fun t _ => by rw [flushed4_A, out4]; rfl) fun i => (covered i).imp fun t h => ⟨flush0_4 t, h⟩
theorem final5 (c : Dev nD) : (dats m 0 c).arrAt 5 cfg0.N = firsts (m (c.tc.loc main_arg1)) (m (c.tc.loc main_arg2)) :=
  (dats m 0 c).arrAt_eq_of_cover 5 _ (fun t _ => by rw [flushed5_A, out5]; rfl) fun i => (covered i).imp fun t h => ⟨flush0_5 t, h⟩
theorem final6 (c : Dev nD) : (dats m 0 c).arrAt 6 cfg0.N = seconds (m (c.tc.loc main_arg1)) (m (c.tc.loc main_arg3)) :=
  (dats m 0 c).arrAt_eq_of_cover 6 _ (fun t _ => by rw [flushed6_A, out6]; rfl) fun i => (covered i).imp fun t h => ⟨flush0_6 t, h⟩

end Cert.Kernel20Ideal.Adam

namespace Cert.Reference20Ideal.Adam

open Cert.Adam Cert.Reference20Ideal.Read
open Idealize.ShloMosaic Idealize.ShloMosaic.TcCoe Idealize.SL.Sem

theorem frame : @Cert.quiescent_Reference20Ideal Cert.Reference20Ideal.Gen.facts := fun m ρ _ =>
  (θ_run _ _ _).mono (fun r h => ⟨fun c => (h c).2.2.2, sem_eq_zero_of_no_sems (by decide) r.2⟩) (Cert.Reference20Ideal.Value.run m ρ)

/-- Kernel and reference end with equal arrays. -/
theorem algebraic : @Cert.algebraic_Kernel20Ideal_Reference20Ideal Cert.Kernel20Ideal.Gen.facts Cert.Reference20Ideal.Gen.facts := fun m ρ m' ρ' _ hag => by
  refine ⟨_, _, _, (θ_run _ _ _).mono (fun _ h c => ⟨(h c).1.trans (Cert.Kernel20Ideal.Adam.final4 m c), (h c).2.1.trans (Cert.Kernel20Ideal.Adam.final5 m c),
    (h c).2.2.1.trans (Cert.Kernel20Ideal.Adam.final6 m c), (h c).2.2.2⟩) (Cert.Kernel20Ideal.Value.run_blocks m ρ), ?_⟩
  refine (θ_run _ _ _).mono (fun _ h c => ⟨(h c).1.trans ?_, (h c).2.1.trans ?_, (h c).2.2.1.trans ?_, (h c).2.2.2⟩) (Cert.Reference20Ideal.Value.run m' ρ')
  · rw [(hag c).1, (hag c).2.1, (hag c).2.2.1, (hag c).2.2.2]; rfl
  · rw [(hag c).2.1, (hag c).2.2.1]; rfl
  · rw [(hag c).2.1, (hag c).2.2.2]; rfl

end Cert.Reference20Ideal.Adam

end
-- ==== Proof.EqualAdam21.lean ====
/- The AdamW step on a block of 2048 rows of 1024 columns: kernel and reference end with the same three arrays. -/
module

public import proofs.«01_k».proof.Defs
public import proofs.«01_k».proof.Proof.Adam
public import proofs.«01_k».proof.Proof.Gen.Kernel21Ideal.Value
public import proofs.«01_k».proof.Proof.Gen.Reference21Ideal.Run
public import proofs.«01_k».proof.Proof.Gen.Reference21Ideal.Read
public import Idealize.ShloMosaic.Lib.WholeRead

@[expose] public section

noncomputable section

namespace Cert.Kernel21Ideal.Adam

open Cert.Kernel21Ideal Cert.Kernel21Ideal.Gen Cert.Kernel21Ideal.Value Cert.Adam
open Idealize.ShloMosaic Idealize.ShloMosaic.TcCoe Idealize.SL.Sem

section Block
variable (c : Dev nD) (i : grid0.Coords) (a2 : Memref sig .tc .vmem S64x1024 .f32) (h2 : a2.IsWhole) (a3 : Memref sig .tc .vmem S64x1024 .f32) (h3 : a3.IsWhole) (a4 : Memref sig .tc .vmem S64x1024 .f32) (h4 : a4.IsWhole) (a5 : Memref sig .tc .vmem S64x1024 .f32) (h5 : a5.IsWhole)
  (a6 : Memref sig .tc .vmem S64x1024 .f32) (h6 : a6.IsWhole) (a7 : Memref sig .tc .vmem S64x1024 .f32) (h7 : a7.IsWhole) (a8 : Memref sig .tc .vmem S64x1024 .f32) (h8 : a8.IsWhole) (w g m v : Vec Ideal S64x1024 .f32)

/-- A trip's pieces are the step on its rows. -/
theorem trip_agrees (k : Fin k0_t1_loop.trips) : Agrees3 (changes w g m v) (firsts g m) (seconds g v)
    (tripL_k0_t1 (F := Ideal) Variants.none c none i a2 h2 a3 h3 a4 h4 a5 h5 a6 h6 a7 h7 a8 h8 (h2.unread w) (h3.unread g) (h4.unread m) (h5.unread v) k) := by
  unfold tripL_k0_t1 trip_k0_t1
  exact agrees_band w g m v (h2.readAt_unread w _) (h3.readAt_unread g _) (h4.readAt_unread m _) (h5.readAt_unread v _)

theorem loop_agrees (n : ℕ) (h : n ≤ k0_t1_loop.trips) : Agrees3 (changes w g m v) (firsts g m) (seconds g v)
    (pb_k0_t1 (F := Ideal) Variants.none c none i a2 h2 a3 h3 a4 h4 a5 h5 a6 h6 a7 h7 a8 h8 (h2.unread w) (h3.unread g) (h4.unread m) (h5.unread v) n) :=
  agrees_loop (pb_k0_t1 (F := Ideal) Variants.none c none i a2 h2 a3 h3 a4 h4 a5 h5 a6 h6 a7 h7 a8 h8 (h2.unread w) (h3.unread g) (h4.unread m) (h5.unread v))
    (tripL_k0_t1 (F := Ideal) Variants.none c none i a2 h2 a3 h3 a4 h4 a5 h5 a6 h6 a7 h7 a8 h8 (h2.unread w) (h3.unread g) (h4.unread m) (h5.unread v))
    (pb_k0_t1.eq_1 ..) (fun _ => pb_k0_t1_succ ..) (trip_agrees c i a2 h2 a3 h3 a4 h4 a5 h5 a6 h6 a7 h7 a8 h8 w g m v) n h

/-- What the body leaves in its three buffers. -/
theorem out4 : out0_A_4 (F := Ideal) c i a2 h2 a3 h3 a4 h4 a5 h5 a6 h6 a7 h7 a8 h8 w g m v = changes w g m v :=
  Agrees.read (by unfold kernelRun0_A; exact (loop_agrees c i a2 h2 a3 h3 a4 h4 a5 h5 a6 h6 a7 h7 a8 h8 w g m v _ (by decide)).1) _ (cover0_A_4 c i a2 h2 a3 h3 a4 h4 a5 h5 a6 h6 a7 h7 a8 h8 w g m v)
theorem out5 : out0_A_5 (F := Ideal) c i a2 h2 a3 h3 a4 h4 a5 h5 a6 h6 a7 h7 a8 h8 w g m v = firsts g m :=
  Agrees.read (by unfold kernelRun0_A; exact (loop_agrees c i a2 h2 a3 h3 a4 h4 a5 h5 a6 h6 a7 h7 a8 h8 w g m v _ (by decide)).2.1) _ (cover0_A_5 c i a2 h2 a3 h3 a4 h4 a5 h5 a6 h6 a7 h7 a8 h8 w g m v)
theorem out6 : out0_A_6 (F := Ideal) c i a2 h2 a3 h3 a4 h4 a5 h5 a6 h6 a7 h7 a8 h8 w g m v = seconds g v :=
  Agrees.read (by unfold kernelRun0_A; exact (loop_agrees c i a2 h2 a3 h3 a4 h4 a5 h5 a6 h6 a7 h7 a8 h8 w g m v _ (by decide)).2.2) _ (cover0_A_6 c i a2 h2 a3 h3 a4 h4 a5 h5 a6 h6 a7 h7 a8 h8 w g m v)

end Block

variable (m : (ℓ : Loc nD τ sig) → Buf (Elt Ideal) ℓ)

theorem idx_facts : ∀ t : Fin cfg0.N, win0_4.index t (0 : Fin 2) = t.val ∧ win0_4.index t (1 : Fin 2) = 0 :=
  (by decide +kernel : ∀ t : Fin grid0.N, _)

/-- Every entry lies in some block. -/
theorem covered (i : S2048x1024.Idx) : ∃ t : Fin cfg0.N, i ∈ ((cfg0.win 4).blk t).view.set := by
  have h0 : (i 0).val < 2048 := (i 0).isLt
  obtain ⟨t, ht⟩ : ∃ t : Fin cfg0.N, t.val = (i 0).val / 64 := ⟨⟨(i 0).val / 64, lt_of_lt_of_eq (by omega) N_0.symm⟩, rfl⟩
  refine ⟨t, ?_⟩
  show i ∈ ((View.whole main_v0_0).slice (win0_4.rect t)).set
  rw [View.set_slice_whole, Rect.mem_set_unit]
  exact in_band (win0_4.index t) S64x1024.size (fun a => (i a).val) (by decide) ((idx_facts t).1.trans ht) (idx_facts t).2 (i 1).isLt

theorem final4 (c : Dev nD) : (dats m 0 c).arrAt 4 cfg0.N = changes (m (c.tc.loc main_arg0)) (m (c.tc.loc main_arg1)) (m (c.tc.loc main_arg2)) (m (c.tc.loc main_arg3)) :=
  (dats m 0 c).arrAt_eq_of_cover 4 _ (fun t _ => by rw [flushed4_A, out4]; rfl) fun i => (covered i).imp fun t h => ⟨flush0_4 t, h⟩
theorem final5 (c : Dev nD) : (dats m 0 c).arrAt 5 cfg0.N = firsts (m (c.tc.loc main_arg1)) (m (c.tc.loc main_arg2)) :=
  (dats m 0 c).arrAt_eq_of_cover 5 _ (fun t _ => by rw [flushed5_A, out5]; rfl) fun i => (covered i).imp fun t h => ⟨flush0_5 t, h⟩
theorem final6 (c : Dev nD) : (dats m 0 c).arrAt 6 cfg0.N = seconds (m (c.tc.loc main_arg1)) (m (c.tc.loc main_arg3)) :=
  (dats m 0 c).arrAt_eq_of_cover 6 _ (fun t _ => by rw [flushed6_A, out6]; rfl) fun i => (covered i).imp fun t h => ⟨flush0_6 t, h⟩

end Cert.Kernel21Ideal.Adam

namespace Cert.Reference21Ideal.Adam

open Cert.Adam Cert.Reference21Ideal.Read
open Idealize.ShloMosaic Idealize.ShloMosaic.TcCoe Idealize.SL.Sem

theorem frame : @Cert.quiescent_Reference21Ideal Cert.Reference21Ideal.Gen.facts := fun m ρ _ =>
  (θ_run _ _ _).mono (fun r h => ⟨fun c => (h c).2.2.2, sem_eq_zero_of_no_sems (by decide) r.2⟩) (Cert.Reference21Ideal.Value.run m ρ)

/-- Kernel and reference end with equal arrays. -/
theorem algebraic : @Cert.algebraic_Kernel21Ideal_Reference21Ideal Cert.Kernel21Ideal.Gen.facts Cert.Reference21Ideal.Gen.facts := fun m ρ m' ρ' _ hag => by
  refine ⟨_, _, _, (θ_run _ _ _).mono (fun _ h c => ⟨(h c).1.trans (Cert.Kernel21Ideal.Adam.final4 m c), (h c).2.1.trans (Cert.Kernel21Ideal.Adam.final5 m c),
    (h c).2.2.1.trans (Cert.Kernel21Ideal.Adam.final6 m c), (h c).2.2.2⟩) (Cert.Kernel21Ideal.Value.run_blocks m ρ), ?_⟩
  refine (θ_run _ _ _).mono (fun _ h c => ⟨(h c).1.trans ?_, (h c).2.1.trans ?_, (h c).2.2.1.trans ?_, (h c).2.2.2⟩) (Cert.Reference21Ideal.Value.run m' ρ')
  · rw [(hag c).1, (hag c).2.1, (hag c).2.2.1, (hag c).2.2.2]; rfl
  · rw [(hag c).2.1, (hag c).2.2.1]; rfl
  · rw [(hag c).2.1, (hag c).2.2.2]; rfl

end Cert.Reference21Ideal.Adam

end
-- ==== Proof.EqualAdam22.lean ====
/- The AdamW step on a block of 2048 rows of 2320 columns: kernel and reference end with the same three arrays. -/
module

public import proofs.«01_k».proof.Defs
public import proofs.«01_k».proof.Proof.Adam
public import proofs.«01_k».proof.Proof.Gen.Kernel22Ideal.Value
public import proofs.«01_k».proof.Proof.Gen.Reference22Ideal.Run
public import proofs.«01_k».proof.Proof.Gen.Reference22Ideal.Read
public import Idealize.ShloMosaic.Lib.WholeRead

@[expose] public section

noncomputable section

namespace Cert.Kernel22Ideal.Adam

open Cert.Kernel22Ideal Cert.Kernel22Ideal.Gen Cert.Kernel22Ideal.Value Cert.Adam
open Idealize.ShloMosaic Idealize.ShloMosaic.TcCoe Idealize.SL.Sem

section Block
variable (c : Dev nD) (i : grid0.Coords) (a2 : Memref sig .tc .vmem S64x2320 .f32) (h2 : a2.IsWhole) (a3 : Memref sig .tc .vmem S64x2320 .f32) (h3 : a3.IsWhole) (a4 : Memref sig .tc .vmem S64x2320 .f32) (h4 : a4.IsWhole) (a5 : Memref sig .tc .vmem S64x2320 .f32) (h5 : a5.IsWhole)
  (a6 : Memref sig .tc .vmem S64x2320 .f32) (h6 : a6.IsWhole) (a7 : Memref sig .tc .vmem S64x2320 .f32) (h7 : a7.IsWhole) (a8 : Memref sig .tc .vmem S64x2320 .f32) (h8 : a8.IsWhole) (w g m v : Vec Ideal S64x2320 .f32)

/-- A trip's pieces are the step on its rows. -/
theorem trip_agrees (k : Fin k0_t1_loop.trips) : Agrees3 (changes w g m v) (firsts g m) (seconds g v)
    (tripL_k0_t1 (F := Ideal) Variants.none c none i a2 h2 a3 h3 a4 h4 a5 h5 a6 h6 a7 h7 a8 h8 (h2.unread w) (h3.unread g) (h4.unread m) (h5.unread v) k) := by
  unfold tripL_k0_t1 trip_k0_t1
  exact agrees_band w g m v (h2.readAt_unread w _) (h3.readAt_unread g _) (h4.readAt_unread m _) (h5.readAt_unread v _)

theorem loop_agrees (n : ℕ) (h : n ≤ k0_t1_loop.trips) : Agrees3 (changes w g m v) (firsts g m) (seconds g v)
    (pb_k0_t1 (F := Ideal) Variants.none c none i a2 h2 a3 h3 a4 h4 a5 h5 a6 h6 a7 h7 a8 h8 (h2.unread w) (h3.unread g) (h4.unread m) (h5.unread v) n) :=
  agrees_loop (pb_k0_t1 (F := Ideal) Variants.none c none i a2 h2 a3 h3 a4 h4 a5 h5 a6 h6 a7 h7 a8 h8 (h2.unread w) (h3.unread g) (h4.unread m) (h5.unread v))
    (tripL_k0_t1 (F := Ideal) Variants.none c none i a2 h2 a3 h3 a4 h4 a5 h5 a6 h6 a7 h7 a8 h8 (h2.unread w) (h3.unread g) (h4.unread m) (h5.unread v))
    (pb_k0_t1.eq_1 ..) (fun _ => pb_k0_t1_succ ..) (trip_agrees c i a2 h2 a3 h3 a4 h4 a5 h5 a6 h6 a7 h7 a8 h8 w g m v) n h

/-- What the body leaves in its three buffers. -/
theorem out4 : out0_A_4 (F := Ideal) c i a2 h2 a3 h3 a4 h4 a5 h5 a6 h6 a7 h7 a8 h8 w g m v = changes w g m v :=
  Agrees.read (by unfold kernelRun0_A; exact (loop_agrees c i a2 h2 a3 h3 a4 h4 a5 h5 a6 h6 a7 h7 a8 h8 w g m v _ (by decide)).1) _ (cover0_A_4 c i a2 h2 a3 h3 a4 h4 a5 h5 a6 h6 a7 h7 a8 h8 w g m v)
theorem out5 : out0_A_5 (F := Ideal) c i a2 h2 a3 h3 a4 h4 a5 h5 a6 h6 a7 h7 a8 h8 w g m v = firsts g m :=
  Agrees.read (by unfold kernelRun0_A; exact (loop_agrees c i a2 h2 a3 h3 a4 h4 a5 h5 a6 h6 a7 h7 a8 h8 w g m v _ (by decide)).2.1) _ (cover0_A_5 c i a2 h2 a3 h3 a4 h4 a5 h5 a6 h6 a7 h7 a8 h8 w g m v)
theorem out6 : out0_A_6 (F := Ideal) c i a2 h2 a3 h3 a4 h4 a5 h5 a6 h6 a7 h7 a8 h8 w g m v = seconds g v :=
  Agrees.read (by unfold kernelRun0_A; exact (loop_agrees c i a2 h2 a3 h3 a4 h4 a5 h5 a6 h6 a7 h7 a8 h8 w g m v _ (by decide)).2.2) _ (cover0_A_6 c i a2 h2 a3 h3 a4 h4 a5 h5 a6 h6 a7 h7 a8 h8 w g m v)

end Block

variable (m : (ℓ : Loc nD τ sig) → Buf (Elt Ideal) ℓ)

theorem idx_facts : ∀ t : Fin cfg0.N, win0_4.index t (0 : Fin 2) = t.val ∧ win0_4.index t (1 : Fin 2) = 0 :=
  (by decide +kernel : ∀ t : Fin grid0.N, _)

/-- Every entry lies in some block. -/
theorem covered (i : S2048x2320.Idx) : ∃ t : Fin cfg0.N, i ∈ ((cfg0.win 4).blk t).view.set := by
  have h0 : (i 0).val < 2048 := (i 0).isLt
  obtain ⟨t, ht⟩ : ∃ t : Fin cfg0.N, t.val = (i 0).val / 64 := ⟨⟨(i 0).val / 64, lt_of_lt_of_eq (by omega) N_0.symm⟩, rfl⟩
  refine ⟨t, ?_⟩
  show i ∈ ((View.whole main_v0_0).slice (win0_4.rect t)).set
  rw [View.set_slice_whole, Rect.mem_set_unit]
  exact in_band (win0_4.index t) S64x2320.size (fun a => (i a).val) (by decide) ((idx_facts t).1.trans ht) (idx_facts t).2 (i 1).isLt

theorem final4 (c : Dev nD) : (dats m 0 c).arrAt 4 cfg0.N = changes (m (c.tc.loc main_arg0)) (m (c.tc.loc main_arg1)) (m (c.tc.loc main_arg2)) (m (c.tc.loc main_arg3)) :=
  (dats m 0 c).arrAt_eq_of_cover 4 _ (fun t _ => by rw [flushed4_A, out4]; rfl) fun i => (covered i).imp fun t h => ⟨flush0_4 t, h⟩
theorem final5 (c : Dev nD) : (dats m 0 c).arrAt 5 cfg0.N = firsts (m (c.tc.loc main_arg1)) (m (c.tc.loc main_arg2)) :=
  (dats m 0 c).arrAt_eq_of_cover 5 _ (fun t _ => by rw [flushed5_A, out5]; rfl) fun i => (covered i).imp fun t h => ⟨flush0_5 t, h⟩
theorem final6 (c : Dev nD) : (dats m 0 c).arrAt 6 cfg0.N = seconds (m (c.tc.loc main_arg1)) (m (c.tc.loc main_arg3)) :=
  (dats m 0 c).arrAt_eq_of_cover 6 _ (fun t _ => by rw [flushed6_A, out6]; rfl) fun i => (covered i).imp fun t h => ⟨flush0_6 t, h⟩

end Cert.Kernel22Ideal.Adam

namespace Cert.Reference22Ideal.Adam

open Cert.Adam Cert.Reference22Ideal.Read
open Idealize.ShloMosaic Idealize.ShloMosaic.TcCoe Idealize.SL.Sem

theorem frame : @Cert.quiescent_Reference22Ideal Cert.Reference22Ideal.Gen.facts := fun m ρ _ =>
  (θ_run _ _ _).mono (fun r h => ⟨fun c => (h c).2.2.2, sem_eq_zero_of_no_sems (by decide) r.2⟩) (Cert.Reference22Ideal.Value.run m ρ)

/-- Kernel and reference end with equal arrays. -/
theorem algebraic : @Cert.algebraic_Kernel22Ideal_Reference22Ideal Cert.Kernel22Ideal.Gen.facts Cert.Reference22Ideal.Gen.facts := fun m ρ m' ρ' _ hag => by
  refine ⟨_, _, _, (θ_run _ _ _).mono (fun _ h c => ⟨(h c).1.trans (Cert.Kernel22Ideal.Adam.final4 m c), (h c).2.1.trans (Cert.Kernel22Ideal.Adam.final5 m c),
    (h c).2.2.1.trans (Cert.Kernel22Ideal.Adam.final6 m c), (h c).2.2.2⟩) (Cert.Kernel22Ideal.Value.run_blocks m ρ), ?_⟩
  refine (θ_run _ _ _).mono (fun _ h c => ⟨(h c).1.trans ?_, (h c).2.1.trans ?_, (h c).2.2.1.trans ?_, (h c).2.2.2⟩) (Cert.Reference22Ideal.Value.run m' ρ')
  · rw [(hag c).1, (hag c).2.1, (hag c).2.2.1, (hag c).2.2.2]; rfl
  · rw [(hag c).2.1, (hag c).2.2.1]; rfl
  · rw [(hag c).2.1, (hag c).2.2.2]; rfl

end Cert.Reference22Ideal.Adam

end
-- ==== Proof.EqualAdam23.lean ====
/- The AdamW step on a block of 2048 rows of 2816 columns: kernel and reference end with the same three arrays. -/
module

public import proofs.«01_k».proof.Defs
public import proofs.«01_k».proof.Proof.Adam
public import proofs.«01_k».proof.Proof.Gen.Kernel23Ideal.Value
public import proofs.«01_k».proof.Proof.Gen.Reference23Ideal.Run
public import proofs.«01_k».proof.Proof.Gen.Reference23Ideal.Read
public import Idealize.ShloMosaic.Lib.WholeRead

@[expose] public section

noncomputable section

namespace Cert.Kernel23Ideal.Adam

open Cert.Kernel23Ideal Cert.Kernel23Ideal.Gen Cert.Kernel23Ideal.Value Cert.Adam
open Idealize.ShloMosaic Idealize.ShloMosaic.TcCoe Idealize.SL.Sem

section Block
variable (c : Dev nD) (i : grid0.Coords) (a2 : Memref sig .tc .vmem S64x2816 .f32) (h2 : a2.IsWhole) (a3 : Memref sig .tc .vmem S64x2816 .f32) (h3 : a3.IsWhole) (a4 : Memref sig .tc .vmem S64x2816 .f32) (h4 : a4.IsWhole) (a5 : Memref sig .tc .vmem S64x2816 .f32) (h5 : a5.IsWhole)
  (a6 : Memref sig .tc .vmem S64x2816 .f32) (h6 : a6.IsWhole) (a7 : Memref sig .tc .vmem S64x2816 .f32) (h7 : a7.IsWhole) (a8 : Memref sig .tc .vmem S64x2816 .f32) (h8 : a8.IsWhole) (w g m v : Vec Ideal S64x2816 .f32)

/-- A trip's pieces are the step on its rows. -/
theorem trip_agrees (k : Fin k0_t1_loop.trips) : Agrees3 (changes w g m v) (firsts g m) (seconds g v)
    (tripL_k0_t1 (F := Ideal) Variants.none c none i a2 h2 a3 h3 a4 h4 a5 h5 a6 h6 a7 h7 a8 h8 (h2.unread w) (h3.unread g) (h4.unread m) (h5.unread v) k) := by
  unfold tripL_k0_t1 trip_k0_t1
  exact agrees_band w g m v (h2.readAt_unread w _) (h3.readAt_unread g _) (h4.readAt_unread m _) (h5.readAt_unread v _)

theorem loop_agrees (n : ℕ) (h : n ≤ k0_t1_loop.trips) : Agrees3 (changes w g m v) (firsts g m) (seconds g v)
    (pb_k0_t1 (F := Ideal) Variants.none c none i a2 h2 a3 h3 a4 h4 a5 h5 a6 h6 a7 h7 a8 h8 (h2.unread w) (h3.unread g) (h4.unread m) (h5.unread v) n) :=
  agrees_loop (pb_k0_t1 (F := Ideal) Variants.none c none i a2 h2 a3 h3 a4 h4 a5 h5 a6 h6 a7 h7 a8 h8 (h2.unread w) (h3.unread g) (h4.unread m) (h5.unread v))
    (tripL_k0_t1 (F := Ideal) Variants.none c none i a2 h2 a3 h3 a4 h4 a5 h5 a6 h6 a7 h7 a8 h8 (h2.unread w) (h3.unread g) (h4.unread m) (h5.unread v))
    (pb_k0_t1.eq_1 ..) (fun _ => pb_k0_t1_succ ..) (trip_agrees c i a2 h2 a3 h3 a4 h4 a5 h5 a6 h6 a7 h7 a8 h8 w g m v) n h

/-- What the body leaves in its three buffers. -/
theorem out4 : out0_A_4 (F := Ideal) c i a2 h2 a3 h3 a4 h4 a5 h5 a6 h6 a7 h7 a8 h8 w g m v = changes w g m v :=
  Agrees.read (by unfold kernelRun0_A; exact (loop_agrees c i a2 h2 a3 h3 a4 h4 a5 h5 a6 h6 a7 h7 a8 h8 w g m v _ (by decide)).1) _ (cover0_A_4 c i a2 h2 a3 h3 a4 h4 a5 h5 a6 h6 a7 h7 a8 h8 w g m v)
theorem out5 : out0_A_5 (F := Ideal) c i a2 h2 a3 h3 a4 h4 a5 h5 a6 h6 a7 h7 a8 h8 w g m v = firsts g m :=
  Agrees.read (by unfold kernelRun0_A; exact (loop_agrees c i a2 h2 a3 h3 a4 h4 a5 h5 a6 h6 a7 h7 a8 h8 w g m v _ (by decide)).2.1) _ (cover0_A_5 c i a2 h2 a3 h3 a4 h4 a5 h5 a6 h6 a7 h7 a8 h8 w g m v)
theorem out6 : out0_A_6 (F := Ideal) c i a2 h2 a3 h3 a4 h4 a5 h5 a6 h6 a7 h7 a8 h8 w g m v = seconds g v :=
  Agrees.read (by unfold kernelRun0_A; exact (loop_agrees c i a2 h2 a3 h3 a4 h4 a5 h5 a6 h6 a7 h7 a8 h8 w g m v _ (by decide)).2.2) _ (cover0_A_6 c i a2 h2 a3 h3 a4 h4 a5 h5 a6 h6 a7 h7 a8 h8 w g m v)

end Block

variable (m : (ℓ : Loc nD τ sig) → Buf (Elt Ideal) ℓ)

theorem idx_facts : ∀ t : Fin cfg0.N, win0_4.index t (0 : Fin 2) = t.val ∧ win0_4.index t (1 : Fin 2) = 0 :=
  (by decide +kernel : ∀ t : Fin grid0.N, _)

/-- Every entry lies in some block. -/
theorem covered (i : S2048x2816.Idx) : ∃ t : Fin cfg0.N, i ∈ ((cfg0.win 4).blk t).view.set := by
  have h0 : (i 0).val < 2048 := (i 0).isLt
  obtain ⟨t, ht⟩ : ∃ t : Fin cfg0.N, t.val = (i 0).val / 64 := ⟨⟨(i 0).val / 64, lt_of_lt_of_eq (by omega) N_0.symm⟩, rfl⟩
  refine ⟨t, ?_⟩
  show i ∈ ((View.whole main_v0_0).slice (win0_4.rect t)).set
  rw [View.set_slice_whole, Rect.mem_set_unit]
  exact in_band (win0_4.index t) S64x2816.size (fun a => (i a).val) (by decide) ((idx_facts t).1.trans ht) (idx_facts t).2 (i 1).isLt

theorem final4 (c : Dev nD) : (dats m 0 c).arrAt 4 cfg0.N = changes (m (c.tc.loc main_arg0)) (m (c.tc.loc main_arg1)) (m (c.tc.loc main_arg2)) (m (c.tc.loc main_arg3)) :=
  (dats m 0 c).arrAt_eq_of_cover 4 _ (fun t _ => by rw [flushed4_A, out4]; rfl) fun i => (covered i).imp fun t h => ⟨flush0_4 t, h⟩
theorem final5 (c : Dev nD) : (dats m 0 c).arrAt 5 cfg0.N = firsts (m (c.tc.loc main_arg1)) (m (c.tc.loc main_arg2)) :=
  (dats m 0 c).arrAt_eq_of_cover 5 _ (fun t _ => by rw [flushed5_A, out5]; rfl) fun i => (covered i).imp fun t h => ⟨flush0_5 t, h⟩
theorem final6 (c : Dev nD) : (dats m 0 c).arrAt 6 cfg0.N = seconds (m (c.tc.loc main_arg1)) (m (c.tc.loc main_arg3)) :=
  (dats m 0 c).arrAt_eq_of_cover 6 _ (fun t _ => by rw [flushed6_A, out6]; rfl) fun i => (covered i).imp fun t h => ⟨flush0_6 t, h⟩

end Cert.Kernel23Ideal.Adam

namespace Cert.Reference23Ideal.Adam

open Cert.Adam Cert.Reference23Ideal.Read
open Idealize.ShloMosaic Idealize.ShloMosaic.TcCoe Idealize.SL.Sem

theorem frame : @Cert.quiescent_Reference23Ideal Cert.Reference23Ideal.Gen.facts := fun m ρ _ =>
  (θ_run _ _ _).mono (fun r h => ⟨fun c => (h c).2.2.2, sem_eq_zero_of_no_sems (by decide) r.2⟩) (Cert.Reference23Ideal.Value.run m ρ)

/-- Kernel and reference end with equal arrays. -/
theorem algebraic : @Cert.algebraic_Kernel23Ideal_Reference23Ideal Cert.Kernel23Ideal.Gen.facts Cert.Reference23Ideal.Gen.facts := fun m ρ m' ρ' _ hag => by
  refine ⟨_, _, _, (θ_run _ _ _).mono (fun _ h c => ⟨(h c).1.trans (Cert.Kernel23Ideal.Adam.final4 m c), (h c).2.1.trans (Cert.Kernel23Ideal.Adam.final5 m c),
    (h c).2.2.1.trans (Cert.Kernel23Ideal.Adam.final6 m c), (h c).2.2.2⟩) (Cert.Kernel23Ideal.Value.run_blocks m ρ), ?_⟩
  refine (θ_run _ _ _).mono (fun _ h c => ⟨(h c).1.trans ?_, (h c).2.1.trans ?_, (h c).2.2.1.trans ?_, (h c).2.2.2⟩) (Cert.Reference23Ideal.Value.run m' ρ')
  · rw [(hag c).1, (hag c).2.1, (hag c).2.2.1, (hag c).2.2.2]; rfl
  · rw [(hag c).2.1, (hag c).2.2.1]; rfl
  · rw [(hag c).2.1, (hag c).2.2.2]; rfl

end Cert.Reference23Ideal.Adam

end
-- ==== Proof.EqualAdam24.lean ====
/- The AdamW step on a block of 1408 rows of 2048 columns: kernel and reference end with the same three arrays. -/
module

public import proofs.«01_k».proof.Defs
public import proofs.«01_k».proof.Proof.Adam
public import proofs.«01_k».proof.Proof.Gen.Kernel24Ideal.Value
public import proofs.«01_k».proof.Proof.Gen.Reference24Ideal.Run
public import proofs.«01_k».proof.Proof.Gen.Reference24Ideal.Read
public import Idealize.ShloMosaic.Lib.WholeRead

@[expose] public section

noncomputable section

namespace Cert.Kernel24Ideal.Adam

open Cert.Kernel24Ideal Cert.Kernel24Ideal.Gen Cert.Kernel24Ideal.Value Cert.Adam
open Idealize.ShloMosaic Idealize.ShloMosaic.TcCoe Idealize.SL.Sem

section Block
variable (c : Dev nD) (i : grid0.Coords) (a2 : Memref sig .tc .vmem S64x2048 .f32) (h2 : a2.IsWhole) (a3 : Memref sig .tc .vmem S64x2048 .f32) (h3 : a3.IsWhole) (a4 : Memref sig .tc .vmem S64x2048 .f32) (h4 : a4.IsWhole) (a5 : Memref sig .tc .vmem S64x2048 .f32) (h5 : a5.IsWhole)
  (a6 : Memref sig .tc .vmem S64x2048 .f32) (h6 : a6.IsWhole) (a7 : Memref sig .tc .vmem S64x2048 .f32) (h7 : a7.IsWhole) (a8 : Memref sig .tc .vmem S64x2048 .f32) (h8 : a8.IsWhole) (w g m v : Vec Ideal S64x2048 .f32)

/-- A trip's pieces are the step on its rows. -/
theorem trip_agrees (k : Fin k0_t1_loop.trips) : Agrees3 (changes w g m v) (firsts g m) (seconds g v)
    (tripL_k0_t1 (F := Ideal) Variants.none c none i a2 h2 a3 h3 a4 h4 a5 h5 a6 h6 a7 h7 a8 h8 (h2.unread w) (h3.unread g) (h4.unread m) (h5.unread v) k) := by
  unfold tripL_k0_t1 trip_k0_t1
  exact agrees_band w g m v (h2.readAt_unread w _) (h3.readAt_unread g _) (h4.readAt_unread m _) (h5.readAt_unread v _)

theorem loop_agrees (n : ℕ) (h : n ≤ k0_t1_loop.trips) : Agrees3 (changes w g m v) (firsts g m) (seconds g v)
    (pb_k0_t1 (F := Ideal) Variants.none c none i a2 h2 a3 h3 a4 h4 a5 h5 a6 h6 a7 h7 a8 h8 (h2.unread w) (h3.unread g) (h4.unread m) (h5.unread v) n) :=
  agrees_loop (pb_k0_t1 (F := Ideal) Variants.none c none i a2 h2 a3 h3 a4 h4 a5 h5 a6 h6 a7 h7 a8 h8 (h2.unread w) (h3.unread g) (h4.unread m) (h5.unread v))
    (tripL_k0_t1 (F := Ideal) Variants.none c none i a2 h2 a3 h3 a4 h4 a5 h5 a6 h6 a7 h7 a8 h8 (h2.unread w) (h3.unread g) (h4.unread m) (h5.unread v))
    (pb_k0_t1.eq_1 ..) (fun _ => pb_k0_t1_succ ..) (trip_agrees c i a2 h2 a3 h3 a4 h4 a5 h5 a6 h6 a7 h7 a8 h8 w g m v) n h

/-- What the body leaves in its three buffers. -/
theorem out4 : out0_A_4 (F := Ideal) c i a2 h2 a3 h3 a4 h4 a5 h5 a6 h6 a7 h7 a8 h8 w g m v = changes w g m v :=
  Agrees.read (by unfold kernelRun0_A; exact (loop_agrees c i a2 h2 a3 h3 a4 h4 a5 h5 a6 h6 a7 h7 a8 h8 w g m v _ (by decide)).1) _ (cover0_A_4 c i a2 h2 a3 h3 a4 h4 a5 h5 a6 h6 a7 h7 a8 h8 w g m v)
theorem out5 : out0_A_5 (F := Ideal) c i a2 h2 a3 h3 a4 h4 a5 h5 a6 h6 a7 h7 a8 h8 w g m v = firsts g m :=
  Agrees.read (by unfold kernelRun0_A; exact (loop_agrees c i a2 h2 a3 h3 a4 h4 a5 h5 a6 h6 a7 h7 a8 h8 w g m v _ (by decide)).2.1) _ (cover0_A_5 c i a2 h2 a3 h3 a4 h4 a5 h5 a6 h6 a7 h7 a8 h8 w g m v)
theorem out6 : out0_A_6 (F := Ideal) c i a2 h2 a3 h3 a4 h4 a5 h5 a6 h6 a7 h7 a8 h8 w g m v = seconds g v :=
  Agrees.read (by unfold kernelRun0_A; exact (loop_agrees c i a2 h2 a3 h3 a4 h4 a5 h5 a6 h6 a7 h7 a8 h8 w g m v _ (by decide)).2.2) _ (cover0_A_6 c i a2 h2 a3 h3 a4 h4 a5 h5 a6 h6 a7 h7 a8 h8 w g m v)

end Block

variable (m : (ℓ : Loc nD τ sig) → Buf (Elt Ideal) ℓ)

theorem idx_facts : ∀ t : Fin cfg0.N, win0_4.index t (0 : Fin 2) = t.val ∧ win0_4.index t (1 : Fin 2) = 0 :=
  (by decide +kernel : ∀ t : Fin grid0.N, _)

/-- Every entry lies in some block. -/
theorem covered (i : S1408x2048.Idx) : ∃ t : Fin cfg0.N, i ∈ ((cfg0.win 4).blk t).view.set := by
  have h0 : (i 0).val < 1408 := (i 0).isLt
  obtain ⟨t, ht⟩ : ∃ t : Fin cfg0.N, t.val = (i 0).val / 64 := ⟨⟨(i 0).val / 64, lt_of_lt_of_eq (by omega) N_0.symm⟩, rfl⟩
  refine ⟨t, ?_⟩
  show i ∈ ((View.whole main_v0_0).slice (win0_4.rect t)).set
  rw [View.set_slice_whole, Rect.mem_set_unit]
  exact in_band (win0_4.index t) S64x2048.size (fun a => (i a).val) (by decide) ((idx_facts t).1.trans ht) (idx_facts t).2 (i 1).isLt

theorem final4 (c : Dev nD) : (dats m 0 c).arrAt 4 cfg0.N = changes (m (c.tc.loc main_arg0)) (m (c.tc.loc main_arg1)) (m (c.tc.loc main_arg2)) (m (c.tc.loc main_arg3)) :=
  (dats m 0 c).arrAt_eq_of_cover 4 _ (fun t _ => by rw [flushed4_A, out4]; rfl) fun i => (covered i).imp fun t h => ⟨flush0_4 t, h⟩
theorem final5 (c : Dev nD) : (dats m 0 c).arrAt 5 cfg0.N = firsts (m (c.tc.loc main_arg1)) (m (c.tc.loc main_arg2)) :=
  (dats m 0 c).arrAt_eq_of_cover 5 _ (fun t _ => by rw [flushed5_A, out5]; rfl) fun i => (covered i).imp fun t h => ⟨flush0_5 t, h⟩
theorem final6 (c : Dev nD) : (dats m 0 c).arrAt 6 cfg0.N = seconds (m (c.tc.loc main_arg1)) (m (c.tc.loc main_arg3)) :=
  (dats m 0 c).arrAt_eq_of_cover 6 _ (fun t _ => by rw [flushed6_A, out6]; rfl) fun i => (covered i).imp fun t h => ⟨flush0_6 t, h⟩

end Cert.Kernel24Ideal.Adam

namespace Cert.Reference24Ideal.Adam

open Cert.Adam Cert.Reference24Ideal.Read
open Idealize.ShloMosaic Idealize.ShloMosaic.TcCoe Idealize.SL.Sem

theorem frame : @Cert.quiescent_Reference24Ideal Cert.Reference24Ideal.Gen.facts := fun m ρ _ =>
  (θ_run _ _ _).mono (fun r h => ⟨fun c => (h c).2.2.2, sem_eq_zero_of_no_sems (by decide) r.2⟩) (Cert.Reference24Ideal.Value.run m ρ)

/-- Kernel and reference end with equal arrays. -/
theorem algebraic : @Cert.algebraic_Kernel24Ideal_Reference24Ideal Cert.Kernel24Ideal.Gen.facts Cert.Reference24Ideal.Gen.facts := fun m ρ m' ρ' _ hag => by
  refine ⟨_, _, _, (θ_run _ _ _).mono (fun _ h c => ⟨(h c).1.trans (Cert.Kernel24Ideal.Adam.final4 m c), (h c).2.1.trans (Cert.Kernel24Ideal.Adam.final5 m c),
    (h c).2.2.1.trans (Cert.Kernel24Ideal.Adam.final6 m c), (h c).2.2.2⟩) (Cert.Kernel24Ideal.Value.run_blocks m ρ), ?_⟩
  refine (θ_run _ _ _).mono (fun _ h c => ⟨(h c).1.trans ?_, (h c).2.1.trans ?_, (h c).2.2.1.trans ?_, (h c).2.2.2⟩) (Cert.Reference24Ideal.Value.run m' ρ')
  · rw [(hag c).1, (hag c).2.1, (hag c).2.2.1, (hag c).2.2.2]; rfl
  · rw [(hag c).2.1, (hag c).2.2.1]; rfl
  · rw [(hag c).2.1, (hag c).2.2.2]; rfl

end Cert.Reference24Ideal.Adam

end
-- ==== Proof.Sum.lean ====
/- The sum of the slots of a stack of arrays, over the extended reals: how the body reads a slot, and how it adds them up. -/
module

public import Idealize.ShloMosaic.Lib.Pipeline.ValueKit.Geometry
public import Idealize.ShloMosaic.Lib.Pipeline.Value
public import Idealize.ShloMosaic.PureOps.Ideal.Laws
public import Idealize.ShloMosaic.Lib.Pipeline.ValueKit.Tiles

@[expose] public section

noncomputable section

namespace Cert.Sum

open Idealize.ShloMosaic

/-- A stack of `n` arrays of `R` rows and `C` columns, and one of them. -/
abbrev Stack (n R C : ℕ) : Shape := ⟨3, ![n, R, C]⟩
abbrev Slot (R C : ℕ) : Shape := ⟨2, ![R, C]⟩

/-- The entry of slot `k`. -/
def slot {n R C : ℕ} (k : Fin n) (j : (Slot R C).Idx) : (Stack n R C).Idx := Fin.cons k j

/-- The sum of the slots. -/
def total {n R C : ℕ} (X : (Stack n R C).Idx → EReal) : (Slot R C).Idx → EReal := fun j => ∑ k : Fin n, X (slot k j)
/-- … and one array more. -/
def totalWith {n R C : ℕ} (X : (Stack n R C).Idx → EReal) (O : (Slot R C).Idx → EReal) : (Slot R C).Idx → EReal := fun j => O j + total X j

theorem with_eq (o : EReal) {a b : EReal} (h : a = b) : o + a = o + b := congrArg (o + ·) h

/-- A load of one slot, its unit axis dropped. -/
theorem ld_slot {e : EltTy} {n R C : ℕ} (X : (Stack n R C).Idx → Elt Ideal e) (k : Fin n) (off : Fin 3 → ℕ) (inb) (h : (Stack 1 R C).ShapeCasts (Slot R C)) (j : (Slot R C).Idx)
    (h0 : off 0 = k.val) (h1 : off 1 = 0) (h2 : off 2 = 0) :
    shapeCast (Slot R C) (View.ld (Val := Elt Ideal) (e' := e) X (Rect.unit (s := Stack n R C) off (Stack 1 R C).size inb)) h j = X (slot k j) := by
  refine (shapeCast_dropUnit_apply ![R, C] _ h j).trans (View.ld_unit_apply_of X off _ inb _ (slot k j) fun a => ?_)
  match a with
  | ⟨0, _⟩ => exact h0.symm
  | ⟨1, _⟩ => exact (Nat.zero_add _).symm.trans (congrArg (· + _) h1.symm)
  | ⟨2, _⟩ => exact (Nat.zero_add _).symm.trans (congrArg (· + _) h2.symm)

/-- The body's sum of seven slots on top of one array, and its sum of eight slots, at an entry. -/
theorem ld_total7 {e : EltTy} {R C : ℕ} (X : (Stack 7 R C).Idx → Elt Ideal e) (toR : Elt Ideal e → EReal) (o : EReal) (h : (Stack 1 R C).ShapeCasts (Slot R C)) (j : (Slot R C).Idx) (i0 i1 i2 i3 i4 i5 i6) :
    let s := fun (k : Fin 7) inb => toR (shapeCast (Slot R C) (View.ld (Val := Elt Ideal) (e' := e) X (Rect.unit (s := Stack 7 R C) ![k.val, 0, 0] (Stack 1 R C).size inb)) h j)
    o + s 0 i0 + s 1 i1 + s 2 i2 + s 3 i3 + s 4 i4 + s 5 i5 + s 6 i6 = o + total (fun p => toR (X p)) j := by
  intro s
  have hs : ∀ k inb, s k inb = toR (X (slot k j)) := fun k inb => congrArg toR (ld_slot X k _ inb h j rfl rfl rfl)
  simp only [hs, total, Fin.sum_univ_seven, add_assoc]
theorem ld_total8 {e : EltTy} {R C : ℕ} (X : (Stack 8 R C).Idx → Elt Ideal e) (toR : Elt Ideal e → EReal) (h : (Stack 1 R C).ShapeCasts (Slot R C)) (j : (Slot R C).Idx) (i0 i1 i2 i3 i4 i5 i6 i7) :
    let s := fun (k : Fin 8) inb => toR (shapeCast (Slot R C) (View.ld (Val := Elt Ideal) (e' := e) X (Rect.unit (s := Stack 8 R C) ![k.val, 0, 0] (Stack 1 R C).size inb)) h j)
    s 0 i0 + s 1 i1 + s 2 i2 + s 3 i3 + s 4 i4 + s 5 i5 + s 6 i6 + s 7 i7 = total (fun p => toR (X p)) j := by
  intro s
  have hs : ∀ k inb, s k inb = toR (X (slot k j)) := fun k inb => congrArg toR (ld_slot X k _ inb h j rfl rfl rfl)
  simp only [hs, total, Fin.sum_univ_eight]

/-- A block of the sum is the sum of the blocks: `f` and `g` place a block's entries in the stack and in one of its arrays. -/
theorem total_block {n r R C : ℕ} (X : (Stack n R C).Idx → EReal) (f : (Stack n r C).Idx → (Stack n R C).Idx) (g : (Slot r C).Idx → (Slot R C).Idx)
    (h0 : ∀ k y, (f (slot k y) 0).val = k.val) (h1 : ∀ k y, (f (slot k y) 1).val = (g y 0).val) (h2 : ∀ k y, (f (slot k y) 2).val = (g y 1).val) (y : (Slot r C).Idx) :
    total (fun p => X (f p)) y = total X (g y) :=
  Finset.sum_congr rfl fun k _ => congrArg X (funext fun a => match a with
    | ⟨0, _⟩ => Fin.ext (h0 k y)
    | ⟨1, _⟩ => Fin.ext (h1 k y)
    | ⟨2, _⟩ => Fin.ext (h2 k y))

theorem zero : Ideal.ofBits .f32 0x00000000#32 = 0 := by
  simp [Ideal.ofBits, Ideal.ieee]

/-- The host's sum over the slots, from its zero. -/
theorem host_total {n R C : ℕ} (X : (Stack n R C).Idx → EReal) (i : (Slot R C).Idx) (f : Fin n → (Stack n R C).Idx) (h : ∀ k, f k = slot k i) :
    Ideal.ofBits .f32 0x00000000#32 + ∑ k : Fin n, X (f k) = total X i := by
  rw [zero, zero_add]
  exact Finset.sum_congr rfl fun k _ => congrArg X (h k)

end Cert.Sum

end
-- ==== Proof.EqualSum25.lean ====
/- The sum of a weight's gradients over the devices, 256 rows of 2048 columns: kernel and reference end with the same array. -/
module

public import proofs.«01_k».proof.Defs
public import proofs.«01_k».proof.Proof.Sum
public import proofs.«01_k».proof.Proof.Gen.Kernel25Ideal.Value
public import proofs.«01_k».proof.Proof.Gen.Reference25Ideal.Run
public import proofs.«01_k».proof.Proof.Gen.Reference25Ideal.Read

@[expose] public section

noncomputable section

namespace Cert.Kernel25Ideal.Sum

open Cert.Kernel25Ideal Cert.Kernel25Ideal.Gen Cert.Kernel25Ideal.Value Cert.Sum
open Idealize.ShloMosaic Idealize.ShloMosaic.TcCoe Idealize.SL.Sem

/-- What the body leaves of one block. -/
theorem out_eq (x : Vec Ideal S7x128x2048 .bf16) (o : Vec Ideal S128x2048 .bf16) : out0_2 x o = totalWith (n := 7) (R := 128) (C := 2048) x o := by
  funext j
  unfold out0_2
  rw [View.canon_unit_zero (by funext a; fin_cases a <;> rfl), View.ld_unit_zero (S := S128x2048) (by funext a; fin_cases a <;> rfl)]
  exact ld_total7 (R := 128) (C := 2048) x id (o j) _ j _ _ _ _ _ _ _

variable (m : (ℓ : Loc nD τ sig) → Buf (Elt Ideal) ℓ)

theorem final (c : Dev nD) : (dats m 0 c).arrAt 2 cfg0.N = totalWith (n := 7) (R := 256) (C := 2048) (m (c.tc.loc main_arg0)) (m (c.tc.loc main_arg1)) :=
  (dats m 0 c).arrAt_eq_of_covers 2 _ (by decide +kernel) fun t _ y => by
    rw [after0_2, out_eq]
    exact with_eq (m (c.tc.loc main_arg1) (((cfg0.win 2).blk t).view.emb y)) (total_block (n := 7) (r := 128) (R := 256) (C := 2048) (m (c.tc.loc main_arg0))
      ((cfg0.win 0).blk t).view.emb ((cfg0.win 2).blk t).view.emb (fun k _ => show 0 * 7 + 1 * k.val = k.val by omega) (fun _ _ => rfl) (fun _ _ => rfl) y)

end Cert.Kernel25Ideal.Sum

namespace Cert.Reference25Ideal.Sum

open Cert.Sum Cert.Reference25Ideal.Read
open Idealize.ShloMosaic Idealize.ShloMosaic.TcCoe Idealize.SL.Sem

theorem frame : @Cert.quiescent_Reference25Ideal Cert.Reference25Ideal.Gen.facts := fun m ρ _ =>
  (θ_run _ _ _).mono (fun r h => ⟨fun c => (h c).2, sem_eq_zero_of_no_sems (by decide) r.2⟩) (Cert.Reference25Ideal.Value.run m ρ)

/-- Kernel and reference end with equal arrays. -/
theorem algebraic : @Cert.algebraic_Kernel25Ideal_Reference25Ideal Cert.Kernel25Ideal.Gen.facts Cert.Reference25Ideal.Gen.facts := fun m ρ m' ρ' _ hag => by
  refine ⟨_, (θ_run _ _ _).mono (fun _ h c => ⟨(h c).1.trans (Cert.Kernel25Ideal.Sum.final m c), (h c).2⟩) (Cert.Kernel25Ideal.Value.run_blocks m ρ), ?_⟩
  refine (θ_run _ _ _).mono (fun _ h c => ⟨((h c).1.trans (val_main_v3_eq _ _)).trans ?_, (h c).2⟩) (Cert.Reference25Ideal.Value.run m' ρ')
  rw [(hag c).1, (hag c).2]
  funext i
  exact with_eq (m (c.tc.loc Kernel25Ideal.main_arg1) i) ((val_main_v2_apply _ i).trans
    (host_total (n := 7) (R := 256) (C := 2048) (m (c.tc.loc Kernel25Ideal.main_arg0)) i _ fun _ => funext fun a => match a with | ⟨0, _⟩ => rfl | ⟨1, _⟩ => rfl | ⟨2, _⟩ => rfl))

end Cert.Reference25Ideal.Sum

end
-- ==== Proof.EqualSum26.lean ====
/- The sum of the packed small weights' gradients over the devices: kernel and reference end with the same array. -/
module

public import proofs.«01_k».proof.Defs
public import proofs.«01_k».proof.Proof.Sum
public import proofs.«01_k».proof.Proof.Gen.Kernel26Ideal.Value
public import proofs.«01_k».proof.Proof.Gen.Reference26Ideal.Run
public import proofs.«01_k».proof.Proof.Gen.Reference26Ideal.Read

@[expose] public section

noncomputable section

namespace Cert.Kernel26Ideal.Sum

open Cert.Kernel26Ideal Cert.Kernel26Ideal.Gen Cert.Kernel26Ideal.Value Cert.Sum
open Idealize.ShloMosaic Idealize.ShloMosaic.TcCoe Idealize.SL.Sem

/-- What the body leaves of one block. -/
theorem out_eq (x : Vec Ideal S8x64x1024 .f32) : out0_1 x = total (n := 8) (R := 64) (C := 1024) x := by
  funext j
  unfold out0_1
  rw [View.canon_unit_zero (by funext a; fin_cases a <;> rfl)]
  exact ld_total8 (R := 64) (C := 1024) x id _ j _ _ _ _ _ _ _ _

variable (m : (ℓ : Loc nD τ sig) → Buf (Elt Ideal) ℓ)

theorem final (c : Dev nD) : (dats m 0 c).arrAt 1 cfg0.N = total (n := 8) (R := 64) (C := 1024) (m (c.tc.loc main_arg0)) :=
  (dats m 0 c).arrAt_eq_of_covers 1 _ (by decide +kernel) fun t _ y => by
    rw [after0_1, out_eq]
    exact total_block (n := 8) (r := 64) (R := 64) (C := 1024) (m (c.tc.loc main_arg0)) ((cfg0.win 0).blk t).view.emb ((cfg0.win 1).blk t).view.emb
      (fun k _ => show 0 * 8 + 1 * k.val = k.val by omega) (fun _ _ => rfl) (fun _ _ => rfl) y

end Cert.Kernel26Ideal.Sum

namespace Cert.Reference26Ideal.Sum

open Cert.Sum Cert.Reference26Ideal.Read
open Idealize.ShloMosaic Idealize.ShloMosaic.TcCoe Idealize.SL.Sem

theorem frame : @Cert.quiescent_Reference26Ideal Cert.Reference26Ideal.Gen.facts := fun m ρ _ =>
  (θ_run _ _ _).mono (fun r h => ⟨fun c => (h c).2, sem_eq_zero_of_no_sems (by decide) r.2⟩) (Cert.Reference26Ideal.Value.run m ρ)

/-- Kernel and reference end with equal arrays. -/
theorem algebraic : @Cert.algebraic_Kernel26Ideal_Reference26Ideal Cert.Kernel26Ideal.Gen.facts Cert.Reference26Ideal.Gen.facts := fun m ρ m' ρ' _ hag => by
  refine ⟨_, (θ_run _ _ _).mono (fun _ h c => ⟨(h c).1.trans (Cert.Kernel26Ideal.Sum.final m c), (h c).2⟩) (Cert.Kernel26Ideal.Value.run_blocks m ρ), ?_⟩
  refine (θ_run _ _ _).mono (fun _ h c => ⟨((h c).1.trans (val_main_v0_eq _)).trans ?_, (h c).2⟩) (Cert.Reference26Ideal.Value.run m' ρ')
  rw [hag c]
  exact funext fun i => (val_main_v0_apply _ i).trans
    (host_total (n := 8) (R := 64) (C := 1024) (m (c.tc.loc Kernel26Ideal.main_arg0)) i _ fun _ => funext fun a => match a with | ⟨0, _⟩ => rfl | ⟨1, _⟩ => rfl | ⟨2, _⟩ => rfl)

end Cert.Reference26Ideal.Sum

end
-- ==== Proof.EqualSum27.lean ====
/- The sum of the recurrence's square weights' gradients over the devices, 1024 rows of 1024 columns: kernel and reference end with the same array. -/
module

public import proofs.«01_k».proof.Defs
public import proofs.«01_k».proof.Proof.Sum
public import proofs.«01_k».proof.Proof.Gen.Kernel27Ideal.Value
public import proofs.«01_k».proof.Proof.Gen.Reference27Ideal.Run
public import proofs.«01_k».proof.Proof.Gen.Reference27Ideal.Read

@[expose] public section

noncomputable section

namespace Cert.Kernel27Ideal.Sum

open Cert.Kernel27Ideal Cert.Kernel27Ideal.Gen Cert.Kernel27Ideal.Value Cert.Sum
open Idealize.ShloMosaic Idealize.ShloMosaic.TcCoe Idealize.SL.Sem

/-- What the body leaves of one block. -/
theorem out_eq (x : Vec Ideal S8x256x1024 .f32) : out0_1 x = total (n := 8) (R := 256) (C := 1024) x := by
  funext j
  unfold out0_1
  rw [View.canon_unit_zero (by funext a; fin_cases a <;> rfl)]
  exact ld_total8 (R := 256) (C := 1024) x id _ j _ _ _ _ _ _ _ _

variable (m : (ℓ : Loc nD τ sig) → Buf (Elt Ideal) ℓ)

theorem final (c : Dev nD) : (dats m 0 c).arrAt 1 cfg0.N = total (n := 8) (R := 1024) (C := 1024) (m (c.tc.loc main_arg0)) :=
  (dats m 0 c).arrAt_eq_of_covers 1 _ (by decide +kernel) fun t _ y => by
    rw [after0_1, out_eq]
    exact total_block (n := 8) (r := 256) (R := 1024) (C := 1024) (m (c.tc.loc main_arg0)) ((cfg0.win 0).blk t).view.emb ((cfg0.win 1).blk t).view.emb
      (fun k _ => show 0 * 8 + 1 * k.val = k.val by omega) (fun _ _ => rfl) (fun _ _ => rfl) y

end Cert.Kernel27Ideal.Sum

namespace Cert.Reference27Ideal.Sum

open Cert.Sum Cert.Reference27Ideal.Read
open Idealize.ShloMosaic Idealize.ShloMosaic.TcCoe Idealize.SL.Sem

theorem frame : @Cert.quiescent_Reference27Ideal Cert.Reference27Ideal.Gen.facts := fun m ρ _ =>
  (θ_run _ _ _).mono (fun r h => ⟨fun c => (h c).2, sem_eq_zero_of_no_sems (by decide) r.2⟩) (Cert.Reference27Ideal.Value.run m ρ)

/-- Kernel and reference end with equal arrays. -/
theorem algebraic : @Cert.algebraic_Kernel27Ideal_Reference27Ideal Cert.Kernel27Ideal.Gen.facts Cert.Reference27Ideal.Gen.facts := fun m ρ m' ρ' _ hag => by
  refine ⟨_, (θ_run _ _ _).mono (fun _ h c => ⟨(h c).1.trans (Cert.Kernel27Ideal.Sum.final m c), (h c).2⟩) (Cert.Kernel27Ideal.Value.run_blocks m ρ), ?_⟩
  refine (θ_run _ _ _).mono (fun _ h c => ⟨((h c).1.trans (val_main_v0_eq _)).trans ?_, (h c).2⟩) (Cert.Reference27Ideal.Value.run m' ρ')
  rw [hag c]
  exact funext fun i => (val_main_v0_apply _ i).trans
    (host_total (n := 8) (R := 1024) (C := 1024) (m (c.tc.loc Kernel27Ideal.main_arg0)) i _ fun _ => funext fun a => match a with | ⟨0, _⟩ => rfl | ⟨1, _⟩ => rfl | ⟨2, _⟩ => rfl)

end Cert.Reference27Ideal.Sum

end
-- ==== Proof.EqualSum28.lean ====
/- The sum of the input projection's gradient over the devices, 1024 rows of 2320 columns: kernel and reference end with the same array. -/
module

public import proofs.«01_k».proof.Defs
public import proofs.«01_k».proof.Proof.Sum
public import proofs.«01_k».proof.Proof.Gen.Kernel28Ideal.Value
public import proofs.«01_k».proof.Proof.Gen.Reference28Ideal.Run
public import proofs.«01_k».proof.Proof.Gen.Reference28Ideal.Read

@[expose] public section

noncomputable section

namespace Cert.Kernel28Ideal.Sum

open Cert.Kernel28Ideal Cert.Kernel28Ideal.Gen Cert.Kernel28Ideal.Value Cert.Sum
open Idealize.ShloMosaic Idealize.ShloMosaic.TcCoe Idealize.SL.Sem

/-- What the body leaves of one block. -/
theorem out_eq (x : Vec Ideal S7x64x2320 .bf16) (o : Vec Ideal S64x2320 .bf16) : out0_2 x o = totalWith (n := 7) (R := 64) (C := 2320) x o := by
  funext j
  unfold out0_2
  rw [View.canon_unit_zero (by funext a; fin_cases a <;> rfl), View.ld_unit_zero (S := S64x2320) (by funext a; fin_cases a <;> rfl)]
  exact ld_total7 (R := 64) (C := 2320) x id (o j) _ j _ _ _ _ _ _ _

variable (m : (ℓ : Loc nD τ sig) → Buf (Elt Ideal) ℓ)

theorem final (c : Dev nD) : (dats m 0 c).arrAt 2 cfg0.N = totalWith (n := 7) (R := 1024) (C := 2320) (m (c.tc.loc main_arg0)) (m (c.tc.loc main_arg1)) :=
  (dats m 0 c).arrAt_eq_of_covers 2 _ (by decide +kernel) fun t _ y => by
    rw [after0_2, out_eq]
    exact with_eq (m (c.tc.loc main_arg1) (((cfg0.win 2).blk t).view.emb y)) (total_block (n := 7) (r := 64) (R := 1024) (C := 2320) (m (c.tc.loc main_arg0))
      ((cfg0.win 0).blk t).view.emb ((cfg0.win 2).blk t).view.emb (fun k _ => show 0 * 7 + 1 * k.val = k.val by omega) (fun _ _ => rfl) (fun _ _ => rfl) y)

end Cert.Kernel28Ideal.Sum

namespace Cert.Reference28Ideal.Sum

open Cert.Sum Cert.Reference28Ideal.Read
open Idealize.ShloMosaic Idealize.ShloMosaic.TcCoe Idealize.SL.Sem

theorem frame : @Cert.quiescent_Reference28Ideal Cert.Reference28Ideal.Gen.facts := fun m ρ _ =>
  (θ_run _ _ _).mono (fun r h => ⟨fun c => (h c).2, sem_eq_zero_of_no_sems (by decide) r.2⟩) (Cert.Reference28Ideal.Value.run m ρ)

/-- Kernel and reference end with equal arrays. -/
theorem algebraic : @Cert.algebraic_Kernel28Ideal_Reference28Ideal Cert.Kernel28Ideal.Gen.facts Cert.Reference28Ideal.Gen.facts := fun m ρ m' ρ' _ hag => by
  refine ⟨_, (θ_run _ _ _).mono (fun _ h c => ⟨(h c).1.trans (Cert.Kernel28Ideal.Sum.final m c), (h c).2⟩) (Cert.Kernel28Ideal.Value.run_blocks m ρ), ?_⟩
  refine (θ_run _ _ _).mono (fun _ h c => ⟨((h c).1.trans (val_main_v3_eq _ _)).trans ?_, (h c).2⟩) (Cert.Reference28Ideal.Value.run m' ρ')
  rw [(hag c).1, (hag c).2]
  funext i
  exact with_eq (m (c.tc.loc Kernel28Ideal.main_arg1) i) ((val_main_v2_apply _ i).trans
    (host_total (n := 7) (R := 1024) (C := 2320) (m (c.tc.loc Kernel28Ideal.main_arg0)) i _ fun _ => funext fun a => match a with | ⟨0, _⟩ => rfl | ⟨1, _⟩ => rfl | ⟨2, _⟩ => rfl))

end Cert.Reference28Ideal.Sum

end
-- ==== Proof.EqualSum29.lean ====
/- The sum of the gate projection's gradient over the devices, 1024 rows of 1024 columns: kernel and reference end with the same array. -/
module

public import proofs.«01_k».proof.Defs
public import proofs.«01_k».proof.Proof.Sum
public import proofs.«01_k».proof.Proof.Gen.Kernel29Ideal.Value
public import proofs.«01_k».proof.Proof.Gen.Reference29Ideal.Run
public import proofs.«01_k».proof.Proof.Gen.Reference29Ideal.Read

@[expose] public section

noncomputable section

namespace Cert.Kernel29Ideal.Sum

open Cert.Kernel29Ideal Cert.Kernel29Ideal.Gen Cert.Kernel29Ideal.Value Cert.Sum
open Idealize.ShloMosaic Idealize.ShloMosaic.TcCoe Idealize.SL.Sem

/-- What the body leaves of one block. -/
theorem out_eq (x : Vec Ideal S7x256x1024 .bf16) (o : Vec Ideal S256x1024 .bf16) : out0_2 x o = totalWith (n := 7) (R := 256) (C := 1024) x o := by
  funext j
  unfold out0_2
  rw [View.canon_unit_zero (by funext a; fin_cases a <;> rfl), View.ld_unit_zero (S := S256x1024) (by funext a; fin_cases a <;> rfl)]
  exact ld_total7 (R := 256) (C := 1024) x id (o j) _ j _ _ _ _ _ _ _

variable (m : (ℓ : Loc nD τ sig) → Buf (Elt Ideal) ℓ)

theorem final (c : Dev nD) : (dats m 0 c).arrAt 2 cfg0.N = totalWith (n := 7) (R := 1024) (C := 1024) (m (c.tc.loc main_arg0)) (m (c.tc.loc main_arg1)) :=
  (dats m 0 c).arrAt_eq_of_covers 2 _ (by decide +kernel) fun t _ y => by
    rw [after0_2, out_eq]
    exact with_eq (m (c.tc.loc main_arg1) (((cfg0.win 2).blk t).view.emb y)) (total_block (n := 7) (r := 256) (R := 1024) (C := 1024) (m (c.tc.loc main_arg0))
      ((cfg0.win 0).blk t).view.emb ((cfg0.win 2).blk t).view.emb (fun k _ => show 0 * 7 + 1 * k.val = k.val by omega) (fun _ _ => rfl) (fun _ _ => rfl) y)

end Cert.Kernel29Ideal.Sum

namespace Cert.Reference29Ideal.Sum

open Cert.Sum Cert.Reference29Ideal.Read
open Idealize.ShloMosaic Idealize.ShloMosaic.TcCoe Idealize.SL.Sem

theorem frame : @Cert.quiescent_Reference29Ideal Cert.Reference29Ideal.Gen.facts := fun m ρ _ =>
  (θ_run _ _ _).mono (fun r h => ⟨fun c => (h c).2, sem_eq_zero_of_no_sems (by decide) r.2⟩) (Cert.Reference29Ideal.Value.run m ρ)

/-- Kernel and reference end with equal arrays. -/
theorem algebraic : @Cert.algebraic_Kernel29Ideal_Reference29Ideal Cert.Kernel29Ideal.Gen.facts Cert.Reference29Ideal.Gen.facts := fun m ρ m' ρ' _ hag => by
  refine ⟨_, (θ_run _ _ _).mono (fun _ h c => ⟨(h c).1.trans (Cert.Kernel29Ideal.Sum.final m c), (h c).2⟩) (Cert.Kernel29Ideal.Value.run_blocks m ρ), ?_⟩
  refine (θ_run _ _ _).mono (fun _ h c => ⟨((h c).1.trans (val_main_v3_eq _ _)).trans ?_, (h c).2⟩) (Cert.Reference29Ideal.Value.run m' ρ')
  rw [(hag c).1, (hag c).2]
  funext i
  exact with_eq (m (c.tc.loc Kernel29Ideal.main_arg1) i) ((val_main_v2_apply _ i).trans
    (host_total (n := 7) (R := 1024) (C := 1024) (m (c.tc.loc Kernel29Ideal.main_arg0)) i _ fun _ => funext fun a => match a with | ⟨0, _⟩ => rfl | ⟨1, _⟩ => rfl | ⟨2, _⟩ => rfl))

end Cert.Reference29Ideal.Sum

end
-- ==== Proof.EqualSum30.lean ====
/- The sum of the feed-forward's first weight's gradient over the devices, 1024 rows of 2816 columns: kernel and reference end with the same array. -/
module

public import proofs.«01_k».proof.Defs
public import proofs.«01_k».proof.Proof.Sum
public import proofs.«01_k».proof.Proof.Gen.Kernel30Ideal.Value
public import proofs.«01_k».proof.Proof.Gen.Reference30Ideal.Run
public import proofs.«01_k».proof.Proof.Gen.Reference30Ideal.Read

@[expose] public section

noncomputable section

namespace Cert.Kernel30Ideal.Sum

open Cert.Kernel30Ideal Cert.Kernel30Ideal.Gen Cert.Kernel30Ideal.Value Cert.Sum
open Idealize.ShloMosaic Idealize.ShloMosaic.TcCoe Idealize.SL.Sem

/-- What the body leaves of one block. -/
theorem out_eq (x : Vec Ideal S7x64x2816 .bf16) (o : Vec Ideal S64x2816 .bf16) : out0_2 x o = totalWith (n := 7) (R := 64) (C := 2816) x o := by
  funext j
  unfold out0_2
  rw [View.canon_unit_zero (by funext a; fin_cases a <;> rfl), View.ld_unit_zero (S := S64x2816) (by funext a; fin_cases a <;> rfl)]
  exact ld_total7 (R := 64) (C := 2816) x id (o j) _ j _ _ _ _ _ _ _

variable (m : (ℓ : Loc nD τ sig) → Buf (Elt Ideal) ℓ)

theorem final (c : Dev nD) : (dats m 0 c).arrAt 2 cfg0.N = totalWith (n := 7) (R := 1024) (C := 2816) (m (c.tc.loc main_arg0)) (m (c.tc.loc main_arg1)) :=
  (dats m 0 c).arrAt_eq_of_covers 2 _ (by decide +kernel) fun t _ y => by
    rw [after0_2, out_eq]
    exact with_eq (m (c.tc.loc main_arg1) (((cfg0.win 2).blk t).view.emb y)) (total_block (n := 7) (r := 64) (R := 1024) (C := 2816) (m (c.tc.loc main_arg0))
      ((cfg0.win 0).blk t).view.emb ((cfg0.win 2).blk t).view.emb (fun k _ => show 0 * 7 + 1 * k.val = k.val by omega) (fun _ _ => rfl) (fun _ _ => rfl) y)

end Cert.Kernel30Ideal.Sum

namespace Cert.Reference30Ideal.Sum

open Cert.Sum Cert.Reference30Ideal.Read
open Idealize.ShloMosaic Idealize.ShloMosaic.TcCoe Idealize.SL.Sem

theorem frame : @Cert.quiescent_Reference30Ideal Cert.Reference30Ideal.Gen.facts := fun m ρ _ =>
  (θ_run _ _ _).mono (fun r h => ⟨fun c => (h c).2, sem_eq_zero_of_no_sems (by decide) r.2⟩) (Cert.Reference30Ideal.Value.run m ρ)

/-- Kernel and reference end with equal arrays. -/
theorem algebraic : @Cert.algebraic_Kernel30Ideal_Reference30Ideal Cert.Kernel30Ideal.Gen.facts Cert.Reference30Ideal.Gen.facts := fun m ρ m' ρ' _ hag => by
  refine ⟨_, (θ_run _ _ _).mono (fun _ h c => ⟨(h c).1.trans (Cert.Kernel30Ideal.Sum.final m c), (h c).2⟩) (Cert.Kernel30Ideal.Value.run_blocks m ρ), ?_⟩
  refine (θ_run _ _ _).mono (fun _ h c => ⟨((h c).1.trans (val_main_v3_eq _ _)).trans ?_, (h c).2⟩) (Cert.Reference30Ideal.Value.run m' ρ')
  rw [(hag c).1, (hag c).2]
  funext i
  exact with_eq (m (c.tc.loc Kernel30Ideal.main_arg1) i) ((val_main_v2_apply _ i).trans
    (host_total (n := 7) (R := 1024) (C := 2816) (m (c.tc.loc Kernel30Ideal.main_arg0)) i _ fun _ => funext fun a => match a with | ⟨0, _⟩ => rfl | ⟨1, _⟩ => rfl | ⟨2, _⟩ => rfl))

end Cert.Reference30Ideal.Sum

end
-- ==== Proof.EqualSum31.lean ====
/- The sum of the feed-forward's second weight's gradient over the devices, 704 rows of 2048 columns: kernel and reference end with the same array. -/
module

public import proofs.«01_k».proof.Defs
public import proofs.«01_k».proof.Proof.Sum
public import proofs.«01_k».proof.Proof.Gen.Kernel31Ideal.Value
public import proofs.«01_k».proof.Proof.Gen.Reference31Ideal.Run
public import proofs.«01_k».proof.Proof.Gen.Reference31Ideal.Read

@[expose] public section

noncomputable section

namespace Cert.Kernel31Ideal.Sum

open Cert.Kernel31Ideal Cert.Kernel31Ideal.Gen Cert.Kernel31Ideal.Value Cert.Sum
open Idealize.ShloMosaic Idealize.ShloMosaic.TcCoe Idealize.SL.Sem

/-- What the body leaves of one block. -/
theorem out_eq (x : Vec Ideal S7x64x2048 .bf16) (o : Vec Ideal S64x2048 .bf16) : out0_2 x o = totalWith (n := 7) (R := 64) (C := 2048) x o := by
  funext j
  unfold out0_2
  rw [View.canon_unit_zero (by funext a; fin_cases a <;> rfl), View.ld_unit_zero (S := S64x2048) (by funext a; fin_cases a <;> rfl)]
  exact ld_total7 (R := 64) (C := 2048) x id (o j) _ j _ _ _ _ _ _ _

variable (m : (ℓ : Loc nD τ sig) → Buf (Elt Ideal) ℓ)

theorem final (c : Dev nD) : (dats m 0 c).arrAt 2 cfg0.N = totalWith (n := 7) (R := 704) (C := 2048) (m (c.tc.loc main_arg0)) (m (c.tc.loc main_arg1)) :=
  (dats m 0 c).arrAt_eq_of_covers 2 _ (by decide +kernel) fun t _ y => by
    rw [after0_2, out_eq]
    exact with_eq (m (c.tc.loc main_arg1) (((cfg0.win 2).blk t).view.emb y)) (total_block (n := 7) (r := 64) (R := 704) (C := 2048) (m (c.tc.loc main_arg0))
      ((cfg0.win 0).blk t).view.emb ((cfg0.win 2).blk t).view.emb (fun k _ => show 0 * 7 + 1 * k.val = k.val by omega) (fun _ _ => rfl) (fun _ _ => rfl) y)

end Cert.Kernel31Ideal.Sum

namespace Cert.Reference31Ideal.Sum

open Cert.Sum Cert.Reference31Ideal.Read
open Idealize.ShloMosaic Idealize.ShloMosaic.TcCoe Idealize.SL.Sem

theorem frame : @Cert.quiescent_Reference31Ideal Cert.Reference31Ideal.Gen.facts := fun m ρ _ =>
  (θ_run _ _ _).mono (fun r h => ⟨fun c => (h c).2, sem_eq_zero_of_no_sems (by decide) r.2⟩) (Cert.Reference31Ideal.Value.run m ρ)

/-- Kernel and reference end with equal arrays. -/
theorem algebraic : @Cert.algebraic_Kernel31Ideal_Reference31Ideal Cert.Kernel31Ideal.Gen.facts Cert.Reference31Ideal.Gen.facts := fun m ρ m' ρ' _ hag => by
  refine ⟨_, (θ_run _ _ _).mono (fun _ h c => ⟨(h c).1.trans (Cert.Kernel31Ideal.Sum.final m c), (h c).2⟩) (Cert.Kernel31Ideal.Value.run_blocks m ρ), ?_⟩
  refine (θ_run _ _ _).mono (fun _ h c => ⟨((h c).1.trans (val_main_v3_eq _ _)).trans ?_, (h c).2⟩) (Cert.Reference31Ideal.Value.run m' ρ')
  rw [(hag c).1, (hag c).2]
  funext i
  exact with_eq (m (c.tc.loc Kernel31Ideal.main_arg1) i) ((val_main_v2_apply _ i).trans
    (host_total (n := 7) (R := 704) (C := 2048) (m (c.tc.loc Kernel31Ideal.main_arg0)) i _ fun _ => funext fun a => match a with | ⟨0, _⟩ => rfl | ⟨1, _⟩ => rfl | ⟨2, _⟩ => rfl))

end Cert.Reference31Ideal.Sum

end
-- ==== Proof.EqualMod32.lean ====
/- The gradient in the modulation's bias: kernel and reference end with the same array. -/
module

public import proofs.«01_k».proof.Defs
public import proofs.«01_k».proof.Proof.Contract
public import proofs.«01_k».proof.Proof.Gen.Kernel32Ideal.Value
public import proofs.«01_k».proof.Proof.Gen.Reference32Ideal.Run
public import proofs.«01_k».proof.Proof.Gen.Reference32Ideal.Read
public import Idealize.ShloMosaic.Lib.Pipeline.ValueKit.Geometry
public import Idealize.ShloMosaic.Lib.Pipeline.ValueKit.Tiles
public import Idealize.ShloMosaic.Lib.WholeRead
public import Idealize.ShloMosaic.Lib.Pointwise

@[expose] public section

noncomputable section

namespace Cert.Kernel32Ideal.Mod

open Cert.Kernel32Ideal Cert.Kernel32Ideal.Gen Cert.Kernel32Ideal.Value Cert.Contract
open Idealize.ShloMosaic Idealize.ShloMosaic.TcCoe Idealize.SL.Sem
open scoped BigOperators

/-- The sum over the rows. -/
def overRows (v : S16x12288.Idx → EReal) (i : S1x12288.Idx) : EReal := ∑ k : Fin 16, v (ix2 k (i 1))

theorem pay2_apply (v4 : Vec Ideal S16x12288 .f32) (v13 : Vec Ideal S1x12288 .f32) (j : Fin 12288) :
    k0_pay2 v4 v13 (ix2 0 j) = v13 (ix2 0 j) + ∑ k : Fin 16, v4 (ix2 k j) := by
  pointwise [k0_pay2]

theorem hz : (![0, 0] : Fin 2 → ℕ) = fun _ => 0 := by funext a; fin_cases a <;> rfl
theorem off1 : k0_off1 = fun _ => 0 := by funext a; fin_cases a <;> rfl

section Block
variable (c : Dev nD) (i : grid0.Coords) (arg2 : Memref sig .tc .vmem S16x12288 .f32) (harg2 : arg2.IsWhole) (arg3 : Memref sig .tc .vmem S1x12288 .f32) (harg3 : arg3.IsWhole)
  (arg4 : Memref sig .tc .vmem S16x12288 .f32) (harg4 : arg4.IsWhole) (arg5 : Memref sig .tc .vmem S1x12288 .f32) (harg5 : arg5.IsWhole)
  (x0 : Vec Ideal S16x12288 .f32) (x1 : Vec Ideal S1x12288 .f32) (x2 : Vec Ideal S16x12288 .f32)

/-- What the body leaves of the output's block. -/
theorem out_eq (hc0 : cond0_0 i) : out0_A_3 (F := Ideal) c i arg2 harg2 arg3 harg3 arg4 harg4 arg5 harg5 hc0 x0 x1 x2 = overRows x2 := by
  funext y
  obtain ⟨a, j, rfl⟩ : ∃ (a : Fin 1) (j : Fin 12288), y = ix2 a j := ⟨y 0, y 1, eq_ix2 y⟩
  obtain rfl : a = 0 := Subsingleton.elim _ _
  unfold out0_A_3
  rw [View.read_writes_junk_eq_canon]
  unfold kernelRun0_A
  dsimp only
  sl_unfold_words
  simp only [View.canon_cons_unit_zero (S := S1x12288) hz, View.readCov_unit_zero (S := S1x12288) _ hz, View.readAt_eq_ld, harg4.read_unread, View.ld_unit_zero (S := S16x12288) off1]
  refine (pay2_apply _ _ j).trans ?_
  refine (congrArg (· + _) (Ideal.ofBits_zero_f32 : k0_pay1 (F := Ideal) (ix2 0 j) = 0)).trans ((zero_add _).trans ?_)
  exact Finset.sum_congr rfl fun k _ => congrFun (View.ld_unit_zero (S := S16x12288) off1 k0_off1_inb x2) (ix2 k j)

end Block

variable (m : (ℓ : Loc nD τ sig) → Buf (Elt Ideal) ℓ)

theorem index_zero : ∀ (t : Fin grid0.N) (a : Fin 2), win0_2.index t a = 0 ∧ win0_3.index t a = 0 := by decide +kernel

/-- The one block of the input is the array, and so is the one block of the output. -/
theorem emb2 (t : Fin cfg0.N) (x : S16x12288.Idx) : ((cfg0.win 2).blk t).view.emb x = x := funext fun a => Fin.ext <| by
  match a with
  | ⟨0, _⟩ => show win0_2.index t (0 : Fin 2) * 16 + 1 * (x 0).val = (x 0).val; rw [(index_zero t 0).1]; omega
  | ⟨1, _⟩ => show win0_2.index t (1 : Fin 2) * 12288 + 1 * (x 1).val = (x 1).val; rw [(index_zero t 1).1]; omega
theorem emb3 (t : Fin cfg0.N) (x : S1x12288.Idx) : ((cfg0.win 3).blk t).view.emb x = x := funext fun a => Fin.ext <| by
  match a with
  | ⟨0, _⟩ => show win0_3.index t (0 : Fin 2) * 1 + 1 * (x 0).val = (x 0).val; rw [(index_zero t 0).2]; omega
  | ⟨1, _⟩ => show win0_3.index t (1 : Fin 2) * 12288 + 1 * (x 1).val = (x 1).val; rw [(index_zero t 1).2]; omega

theorem block_eq (c : Dev nD) (t : Fin cfg0.N) : (iblk m c 2 t : S16x12288.Idx → EReal) = m (c.tc.loc main_arg0) :=
  funext fun x => congrArg (m (c.tc.loc main_arg0)) (emb2 t x)

theorem final (c : Dev nD) : (dats m 0 c).arrAt 3 cfg0.N = overRows (m (c.tc.loc main_arg0)) :=
  (dats m 0 c).arrAt_eq_of_covers 3 _ (by decide +kernel) fun t _ y => by
    rw [after0_3]
    unfold outsAt0
    rw [out_eq, block_eq]
    exact congrArg (overRows (m (c.tc.loc main_arg0))) (emb3 t y).symm

end Cert.Kernel32Ideal.Mod

namespace Cert.Reference32Ideal.Mod

open Cert.Reference32Ideal.Read Cert.Kernel32Ideal.Mod
open Idealize.ShloMosaic Idealize.ShloMosaic.TcCoe Idealize.SL.Sem

theorem frame : @Cert.quiescent_Reference32Ideal Cert.Reference32Ideal.Gen.facts := fun m ρ _ =>
  (θ_run _ _ _).mono (fun r h => ⟨fun c => (h c).2, sem_eq_zero_of_no_sems (by decide) r.2⟩) (Cert.Reference32Ideal.Value.run m ρ)

/-- Kernel and reference end with equal arrays. -/
theorem algebraic : @Cert.algebraic_Kernel32Ideal_Reference32Ideal Cert.Kernel32Ideal.Gen.facts Cert.Reference32Ideal.Gen.facts := fun m ρ m' ρ' _ hag => by
  refine ⟨_, (θ_run _ _ _).mono (fun _ h c => ⟨(h c).1.trans (Cert.Kernel32Ideal.Mod.final m c), (h c).2⟩) (Cert.Kernel32Ideal.Value.run_blocks m ρ), ?_⟩
  refine (θ_run _ _ _).mono (fun _ h c => ⟨((h c).1.trans (val_main_v3_eq _)).trans ?_, (h c).2⟩) (Cert.Reference32Ideal.Value.run m' ρ')
  rw [(hag c).1]
  funext i
  rw [val_main_v3_apply, val_main_v2_apply]
  refine (congrArg (· + _) (Ideal.ofBits_zero_f32 : val_main_cst (F := Ideal) _ = 0)).trans ((zero_add _).trans ?_)
  refine Finset.sum_congr rfl fun k _ => congrArg (m (c.tc.loc Kernel32Ideal.main_arg0)) (funext fun a => Fin.ext ?_)
  have h0 : (i 0).val < 1 := (i 0).isLt
  match a with
  | ⟨0, _⟩ => rfl
  | ⟨1, _⟩ => show (i 0).val * 12288 + (i 1).val = (i 1).val; omega

end Cert.Reference32Ideal.Mod

end
-- ==== Proof.GateKernel.lean ====
/- The gradient of the SwiGLU activation: what the kernel's array holds, entry by entry, at finite arguments. -/
module

public import proofs.«01_k».proof.Proof.Contract
public import proofs.«01_k».proof.Proof.Gen.Kernel11Ideal.Value
public import Idealize.ShloMosaic.Lib.WholeRead

@[expose] public section

noncomputable section

namespace Cert.Gate

open Idealize.ShloMosaic Cert.Contract

/-- The logistic function. -/
def logistic (g : ℝ) : ℝ := 1 / (1 + Real.exp (-g))

/-- The gradient in the gate, of a gate `g`, a value `u` and a cotangent `d`. -/
def dGate (g u d : ℝ) : ℝ := d * u * (logistic g * (1 + g * (1 - logistic g)))

/-- The gradient in the value, of a gate `g` and a cotangent `d`. -/
def dUp (g d : ℝ) : ℝ := d * (g * logistic g)

/-- The gradient at row `i` and column `j`: the gates' columns first, then the values'. -/
def entry (a d : ℕ → ℕ → EReal) (i j : ℕ) : EReal :=
  if j < 5632 then ((dGate (a i j).toReal (a i (j + 5632)).toReal (d i j).toReal : ℝ) : EReal)
  else ((dUp (a i (j - 5632)).toReal (d i (j - 5632)).toReal : ℝ) : EReal)

theorem entry_low (a d : ℕ → ℕ → EReal) (i j : ℕ) (h : j < 5632) :
    entry a d i j = ((dGate (a i j).toReal (a i (j + 5632)).toReal (d i j).toReal : ℝ) : EReal) := if_pos h
theorem entry_high (a d : ℕ → ℕ → EReal) (i j : ℕ) :
    entry a d i (j + 5632) = ((dUp (a i j).toReal (d i j).toReal : ℝ) : EReal) := by
  unfold entry; rw [if_neg (by omega), Nat.add_sub_cancel]

theorem entry_congr {a a' d d' : ℕ → ℕ → EReal} {i i' j : ℕ} (ha : ∀ k, k < 11264 → a i k = a' i' k) (hd : ∀ k, k < 5632 → d i k = d' i' k)
    (hj : j < 11264) : entry a d i j = entry a' d' i' j := by
  unfold entry
  by_cases h : j < 5632
  · rw [if_pos h, if_pos h, ha _ hj, ha _ (by omega), hd _ h]
  · rw [if_neg h, if_neg h, ha _ (by omega), hd _ (by omega)]

/-- An array all of whose entries are real. -/
def AllReal {s : Shape} (x : s.Idx → EReal) : Prop := ∀ i, x i = (((x i).toReal : ℝ) : EReal)

/-- The kernel writes the logistic function by a hyperbolic tangent. -/
theorem logistic_tanh (g : ℝ) : 1 / 2 * Real.tanh (1 / 2 * g) + 1 / 2 = logistic g := by
  unfold logistic
  rw [Real.tanh_eq_sinh_div_cosh, Real.sinh_eq, Real.cosh_eq]
  have h1 : Real.exp (-(1 / 2 * g)) * Real.exp (1 / 2 * g) = 1 := by rw [← Real.exp_add]; simp
  have h2 : Real.exp (-g) = Real.exp (-(1 / 2 * g)) * Real.exp (-(1 / 2 * g)) := by rw [← Real.exp_add]; congr 1; ring
  rw [h2]
  have p1 := Real.exp_pos (1 / 2 * g)
  have p2 := Real.exp_pos (-(1 / 2 * g))
  generalize Real.exp (1 / 2 * g) = p at h1 p1
  generalize Real.exp (-(1 / 2 * g)) = q at h1 p2
  have : p + q ≠ 0 := by positivity
  have : 1 + q * q ≠ 0 := by positivity
  field_simp
  nlinarith [h1]

end Cert.Gate

namespace Cert.Kernel11Ideal.Gate

open Cert.Kernel11Ideal Cert.Kernel11Ideal.Gen Cert.Kernel11Ideal.Value Cert.Contract Cert.Gate
open Idealize.ShloMosaic Idealize.ShloMosaic.TcCoe Idealize.ShloMosaic.ValueIdx Idealize.SL.Sem

theorem half : Ideal.ofBits .f32 0x3F000000#32 = ((1 / 2 : ℝ) : EReal) := by
  simp [Ideal.ofBits, Ideal.ieee]
  norm_num
  exact_mod_cast (by norm_num : (8388608 : ℝ) * (1 / 16777216) = 1 / 2)
theorem one : Ideal.ofBits .f32 0x3F800000#32 = ((1 : ℝ) : EReal) := by
  simp [Ideal.ofBits, Ideal.ieee]
  exact_mod_cast (by norm_num : (8388608 : ℝ) * (2 ^ 23)⁻¹ = 1)

/-- The logistic function of the body, at one entry. -/
theorem body_logistic (g : ℝ) : Ideal.ofBits .f32 0x3F000000#32 * Ideal.tanh (Ideal.ofBits .f32 0x3F000000#32 * (g : EReal)) + Ideal.ofBits .f32 0x3F000000#32 = ((logistic g : ℝ) : EReal) := by
  rw [half, ← EReal.coe_mul, Ideal.tanh_coe, ← EReal.coe_mul, ← EReal.coe_add, logistic_tanh]

theorem pay3_apply (v4 v7 v10 : Vec Ideal S16x5632 .bf16) (x : S16x5632.Idx) (h4 : v4 x = (((v4 x).toReal : ℝ) : EReal)) (h7 : v7 x = (((v7 x).toReal : ℝ) : EReal)) (h10 : v10 x = (((v10 x).toReal : ℝ) : EReal)) :
    k0_pay3 v4 v7 v10 x = ((dGate (v4 x).toReal (v7 x).toReal (v10 x).toReal : ℝ) : EReal) := by
  show v10 x * v7 x * ((Ideal.ofBits .f32 0x3F000000#32 * Ideal.tanh (Ideal.ofBits .f32 0x3F000000#32 * v4 x) + Ideal.ofBits .f32 0x3F000000#32)
    * (Ideal.ofBits .f32 0x3F800000#32 + v4 x * (Ideal.ofBits .f32 0x3F800000#32 - (Ideal.ofBits .f32 0x3F000000#32 * Ideal.tanh (Ideal.ofBits .f32 0x3F000000#32 * v4 x) + Ideal.ofBits .f32 0x3F000000#32)))) = _
  generalize (v4 x).toReal = g at h4 ⊢
  generalize (v7 x).toReal = u at h7 ⊢
  generalize (v10 x).toReal = d at h10 ⊢
  rw [h4, h7, h10, body_logistic, one]
  unfold dGate
  push_cast
  rfl

theorem pay4_apply (v4 v10 : Vec Ideal S16x5632 .bf16) (x : S16x5632.Idx) (h4 : v4 x = (((v4 x).toReal : ℝ) : EReal)) (h10 : v10 x = (((v10 x).toReal : ℝ) : EReal)) :
    k0_pay4 v4 v10 x = ((dUp (v4 x).toReal (v10 x).toReal : ℝ) : EReal) := by
  show v10 x * (v4 x * (Ideal.ofBits .f32 0x3F000000#32 * Ideal.tanh (Ideal.ofBits .f32 0x3F000000#32 * v4 x) + Ideal.ofBits .f32 0x3F000000#32)) = _
  generalize (v4 x).toReal = g at h4 ⊢
  generalize (v10 x).toReal = d at h10 ⊢
  rw [h4, h10, body_logistic]
  unfold dUp
  push_cast
  rfl

section Block
variable (c : Dev nD) (i : grid0.Coords) (arg1 : Memref sig .tc .vmem S128x11264 .bf16) (harg1 : arg1.IsWhole) (arg2 : Memref sig .tc .vmem S128x5632 .bf16) (harg2 : arg2.IsWhole) (arg3 : Memref sig .tc .vmem S128x11264 .bf16) (harg3 : arg3.IsWhole)
variable (x0 : Vec Ideal S128x11264 .bf16) (x1 : Vec Ideal S128x5632 .bf16)

/-- The gradient of one block of rows. -/
def blockGrad (y : S128x11264.Idx) : EReal := entry (nat2 (a := 128) (b := 11264) x0) (nat2 (a := 128) (b := 5632) x1) (y 0).val (y 1).val

/-- A trip's two pieces are the block's gradient on their rows. -/
theorem trip_agrees (h0 : AllReal x0) (h1 : AllReal x1) (k : Fin k0_t1_loop.trips) :
    ∀ p ∈ tripL_k0_t1 (F := Ideal) Variants.none c none i arg1 harg1 arg2 harg2 arg3 harg3 (harg1.unread x0) (harg2.unread x1) k,
      ∀ x : p.1.shape.Idx, p.2 x = blockGrad x0 x1 (p.1.emb x) := by
  have e1 := k0_off1_eq k
  have e2 := k0_off2_eq k
  have e3 := k0_off3_eq k
  have f10 : k0_off1 k 0 = 16 * k.val := congrFun e1 0
  have f11 : k0_off1 k 1 = 0 := congrFun e1 1
  have f20 : k0_off2 k 0 = 16 * k.val := congrFun e2 0
  have f21 : k0_off2 k 1 = 5632 := congrFun e2 1
  have f30 : k0_off3 k 0 = 16 * k.val := congrFun e3 0
  have f31 : k0_off3 k 1 = 0 := congrFun e3 1
  have r1 : ∀ x : S16x5632.Idx, View.readAt (Elt Ideal) arg1.view (Rect.unit (s := S128x11264) (k0_off1 k) S16x5632.size (k0_off1_inb k)).toLoadRect (harg1.unread x0) x
      = nat2 (a := 128) (b := 11264) x0 (16 * k.val + (x 0).val) (x 1).val := fun x => by
    rw [Memref.IsWhole.readAt_unread]
    refine eq_nat2 _ _ _ _ ?_ ?_
    · show k0_off1 k 0 + 1 * (x 0).val = _; rw [f10, one_mul]
    · show k0_off1 k 1 + 1 * (x 1).val = _; rw [f11, one_mul]; exact Nat.zero_add _
  have r2 : ∀ x : S16x5632.Idx, View.readAt (Elt Ideal) arg1.view (Rect.unit (s := S128x11264) (k0_off2 k) S16x5632.size (k0_off2_inb k)).toLoadRect (harg1.unread x0) x
      = nat2 (a := 128) (b := 11264) x0 (16 * k.val + (x 0).val) ((x 1).val + 5632) := fun x => by
    rw [Memref.IsWhole.readAt_unread]
    refine eq_nat2 _ _ _ _ ?_ ?_
    · show k0_off2 k 0 + 1 * (x 0).val = _; rw [f20, one_mul]
    · show k0_off2 k 1 + 1 * (x 1).val = _; rw [f21, one_mul]; exact Nat.add_comm _ _
  have r3 : ∀ x : S16x5632.Idx, View.readAt (Elt Ideal) arg2.view (Rect.unit (s := S128x5632) (k0_off3 k) S16x5632.size (k0_off3_inb k)).toLoadRect (harg2.unread x1) x
      = nat2 (a := 128) (b := 5632) x1 (16 * k.val + (x 0).val) (x 1).val := fun x => by
    rw [Memref.IsWhole.readAt_unread]
    refine eq_nat2 _ _ _ _ ?_ ?_
    · show k0_off3 k 0 + 1 * (x 0).val = _; rw [f30, one_mul]
    · show k0_off3 k 1 + 1 * (x 1).val = _; rw [f31, one_mul]; exact Nat.zero_add _
  have q1 : ∀ x, View.readAt (Elt Ideal) arg1.view (Rect.unit (s := S128x11264) (k0_off1 k) S16x5632.size (k0_off1_inb k)).toLoadRect (harg1.unread x0) x = ((EReal.toReal (View.readAt (Elt Ideal) arg1.view (Rect.unit (s := S128x11264) (k0_off1 k) S16x5632.size (k0_off1_inb k)).toLoadRect (harg1.unread x0) x) : ℝ) : EReal) := fun x => by
    rw [Memref.IsWhole.readAt_unread]; exact h0 _
  have q2 : ∀ x, View.readAt (Elt Ideal) arg1.view (Rect.unit (s := S128x11264) (k0_off2 k) S16x5632.size (k0_off2_inb k)).toLoadRect (harg1.unread x0) x = ((EReal.toReal (View.readAt (Elt Ideal) arg1.view (Rect.unit (s := S128x11264) (k0_off2 k) S16x5632.size (k0_off2_inb k)).toLoadRect (harg1.unread x0) x) : ℝ) : EReal) := fun x => by
    rw [Memref.IsWhole.readAt_unread]; exact h0 _
  have q3 : ∀ x, View.readAt (Elt Ideal) arg2.view (Rect.unit (s := S128x5632) (k0_off3 k) S16x5632.size (k0_off3_inb k)).toLoadRect (harg2.unread x1) x = ((EReal.toReal (View.readAt (Elt Ideal) arg2.view (Rect.unit (s := S128x5632) (k0_off3 k) S16x5632.size (k0_off3_inb k)).toLoadRect (harg2.unread x1) x) : ℝ) : EReal) := fun x => by
    rw [Memref.IsWhole.readAt_unread]; exact h1 _
  unfold tripL_k0_t1 trip_k0_t1
  intro p hp
  rcases List.mem_cons.mp hp with rfl | hp
  · intro x
    refine (pay4_apply _ _ x (q1 x) (q3 x)).trans ?_
    rw [r1, r3]
    refine (entry_high _ _ _ _).symm.trans ?_
    refine congrArg₂ (entry _ _) ?_ ?_
    · show _ = k0_off2 k 0 + 1 * (x 0).val; rw [f20, one_mul]
    · show _ = k0_off2 k 1 + 1 * (x 1).val; rw [f21, one_mul]; exact Nat.add_comm _ _
  · obtain rfl := List.mem_singleton.mp hp
    intro x
    refine (pay3_apply _ _ _ x (q1 x) (q2 x) (q3 x)).trans ?_
    rw [r1, r2, r3]
    refine (entry_low _ _ _ _ (x 1).isLt).symm.trans ?_
    refine congrArg₂ (entry _ _) ?_ ?_
    · show _ = k0_off1 k 0 + 1 * (x 0).val; rw [f10, one_mul]
    · show _ = k0_off1 k 1 + 1 * (x 1).val; rw [f11, one_mul]; exact (Nat.zero_add _).symm

/-- So are the pieces of all trips before any one. -/
theorem loop_agrees (h0 : AllReal x0) (h1 : AllReal x1) : ∀ n : ℕ, n ≤ k0_t1_loop.trips →
    ∀ p ∈ pb_k0_t1 (F := Ideal) Variants.none c none i arg1 harg1 arg2 harg2 arg3 harg3 (harg1.unread x0) (harg2.unread x1) n,
      ∀ x : p.1.shape.Idx, p.2 x = blockGrad x0 x1 (p.1.emb x)
  | 0, _ => fun p hp => absurd hp (by rw [pb_k0_t1.eq_1]; exact List.not_mem_nil)
  | n + 1, h => fun p hp => by
    rw [pb_k0_t1_succ (k := ⟨n, h⟩)] at hp
    rcases List.mem_append.mp hp with hp | hp
    · exact trip_agrees c i arg1 harg1 arg2 harg2 arg3 harg3 x0 x1 h0 h1 ⟨n, h⟩ p hp
    · exact loop_agrees h0 h1 n (Nat.le_of_succ_le h) p hp

/-- What the body leaves of one block. -/
theorem out_eq (h0 : AllReal x0) (h1 : AllReal x1) : out0_A_2 (F := Ideal) c i arg1 harg1 arg2 harg2 arg3 harg3 x0 x1 = blockGrad x0 x1 := by
  funext y
  unfold out0_A_2
  rw [View.read_writes_junk_eq_canon]
  refine View.canon_apply_of_pieces (Val := Elt Ideal) (e := .bf16) (blockGrad x0 x1) _ ?_ y (cover0_A_2 c i arg1 harg1 arg2 harg2 arg3 harg3 x0 x1 y)
  unfold kernelRun0_A
  exact loop_agrees c i arg1 harg1 arg2 harg2 arg3 harg3 x0 x1 h0 h1 _ (by decide)

end Block

variable (m : (ℓ : Loc nD τ sig) → Buf (Elt Ideal) ℓ) (ρ : Dev nD → PrngReg)

/-- The gradient of the whole array. -/
def grad (A : S8192x11264.Idx → EReal) (D : S8192x5632.Idx → EReal) : S8192x11264.Idx → EReal :=
  fun i => entry (nat2 (a := 8192) (b := 11264) A) (nat2 (a := 8192) (b := 5632) D) (i 0).val (i 1).val

theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

theorem left_apply (c : Dev nD) (t : Fin cfg0.N) (x : Fin 128) (y : Fin 11264) : iblk m c 0 t (ix2 x y)
    = nat2 (a := 8192) (b := 11264) (m (c.tc.loc main_arg0)) (t.val * 128 + x.val) y.val := by
  obtain ⟨e0, e1, -, -, -, -⟩ := idx_facts t
  show V m c main_arg0 (((cfg0.win 0).blk t).view.emb (ix2 x y)) = _
  rw [V_main_arg0]
  refine eq_nat2 _ _ _ _ ?_ ?_
  · show win0_0.index t (0 : Fin 2) * 128 + 1 * x.val = _; rw [e0, one_mul]
  · show win0_0.index t (1 : Fin 2) * 11264 + 1 * y.val = _; rw [e1, one_mul, Nat.zero_mul, Nat.zero_add]

theorem right_apply (c : Dev nD) (t : Fin cfg0.N) (x : Fin 128) (y : Fin 5632) : iblk m c 1 t (ix2 x y)
    = nat2 (a := 8192) (b := 5632) (m (c.tc.loc main_arg1)) (t.val * 128 + x.val) y.val := by
  obtain ⟨-, -, e2, e3, -, -⟩ := idx_facts t
  show V m c main_arg1 (((cfg0.win 1).blk t).view.emb (ix2 x y)) = _
  rw [V_main_arg1]
  refine eq_nat2 _ _ _ _ ?_ ?_
  · show win0_1.index t (0 : Fin 2) * 128 + 1 * x.val = _; rw [e2, one_mul]
  · show win0_1.index t (1 : Fin 2) * 5632 + 1 * y.val = _; rw [e3, one_mul, Nat.zero_mul, Nat.zero_add]

theorem left_real {c : Dev nD} (h : AllReal (s := S8192x11264) (m (c.tc.loc main_arg0))) (t : Fin cfg0.N) : AllReal (s := S128x11264) (iblk m c 0 t) := fun x => by
  show V m c main_arg0 (((cfg0.win 0).blk t).view.emb x) = (((V m c main_arg0 (((cfg0.win 0).blk t).view.emb x)).toReal : ℝ) : EReal)
  rw [V_main_arg0]; exact h _

theorem right_real {c : Dev nD} (h : AllReal (s := S8192x5632) (m (c.tc.loc main_arg1))) (t : Fin cfg0.N) : AllReal (s := S128x5632) (iblk m c 1 t) := fun x => by
  show V m c main_arg1 (((cfg0.win 1).blk t).view.emb x) = (((V m c main_arg1 (((cfg0.win 1).blk t).view.emb x)).toReal : ℝ) : EReal)
  rw [V_main_arg1]; exact h _

/-- What a point writes back is its block of the whole gradient. -/
theorem flushed_eq {c : Dev nD} (hA : AllReal (s := S8192x11264) (m (c.tc.loc main_arg0))) (hD : AllReal (s := S8192x5632) (m (c.tc.loc main_arg1))) (t : Fin cfg0.N) (_hf : (cfg0.win 2).flush t = true) : (dats m 0 c).flushed 2 t
    = ((cfg0.win 2).blk t).view.read (Elt Ideal) (grad (m (c.tc.loc main_arg0)) (m (c.tc.loc main_arg1))) := by
  rw [flushed2_A, out_eq _ _ _ _ _ _ _ _ _ _ (left_real m hA t) (right_real m hD t)]
  obtain ⟨-, -, -, -, e4, e5⟩ := idx_facts t
  funext y
  obtain ⟨r, s, rfl⟩ : ∃ (r : Fin 128) (s : Fin 11264), y = ix2 r s := ⟨_, _, eq_ix2 y⟩
  have h0 : (((cfg0.win 2).blk t).view.emb (ix2 r s) 0).val = t.val * 128 + r.val := by
    show win0_2.index t (0 : Fin 2) * 128 + 1 * r.val = _; rw [e4, one_mul]
  have h1 : (((cfg0.win 2).blk t).view.emb (ix2 r s) 1).val = s.val := by
    show win0_2.index t (1 : Fin 2) * 11264 + 1 * s.val = _; rw [e5, one_mul, Nat.zero_mul, Nat.zero_add]
  show blockGrad (iblk m c 0 t) (iblk m c 1 t) (ix2 r s) = grad _ _ (((cfg0.win 2).blk t).view.emb (ix2 r s))
  unfold blockGrad grad
  rw [h0, h1]
  refine entry_congr (fun k hk => ?_) (fun k hk => ?_) s.isLt
  · exact (nat2_val (a := 128) (b := 11264) (iblk m c 0 t) r ⟨k, hk⟩).trans (left_apply m c t r ⟨k, hk⟩)
  · exact (nat2_val (a := 128) (b := 5632) (iblk m c 1 t) r ⟨k, hk⟩).trans (right_apply m c t r ⟨k, hk⟩)

theorem idx_onto : ∀ a : Fin grid0.N, win0_2.flush a = true := by decide +kernel

theorem mem_blk (t : Fin cfg0.N) (i : S8192x11264.Idx) :
    i ∈ ((cfg0.win 2).blk t).view.set ↔ ∀ a : Fin 2, win0_2.index t a * S128x11264.size a ≤ (i a).val ∧ (i a).val < win0_2.index t a * S128x11264.size a + S128x11264.size a := by
  show i ∈ ((View.whole main_v0).slice (win0_2.rect t)).set ↔ _
  rw [View.set_slice_whole, Rect.mem_set_unit]
  exact Iff.rfl

/-- The array after the run is the whole gradient. -/
theorem final {c : Dev nD} (hA : AllReal (s := S8192x11264) (m (c.tc.loc main_arg0))) (hD : AllReal (s := S8192x5632) (m (c.tc.loc main_arg1))) :
    (dats m 0 c).arrAt 2 cfg0.N = grad (m (c.tc.loc main_arg0)) (m (c.tc.loc main_arg1)) :=
  (dats m 0 c).arrAt_eq_of_cover 2 _ (flushed_eq m hA hD) fun i => by
    have h0 : (i 0).val < 8192 := (i 0).isLt
    have h1 : (i 1).val < 11264 := (i 1).isLt
    have hN : (i 0).val / 128 < grid0.N := lt_of_lt_of_eq (by omega) N_0.symm
    refine ⟨⟨(i 0).val / 128, hN⟩, idx_onto _, ?_⟩
    obtain ⟨-, -, -, -, e4, e5⟩ := idx_facts ⟨(i 0).val / 128, hN⟩
    change _ = (i 0).val / 128 at e4
    rw [mem_blk]
    intro a
    match a with
    | ⟨0, _⟩ => show win0_2.index _ (0 : Fin 2) * 128 ≤ (i 0).val ∧ (i 0).val < win0_2.index _ (0 : Fin 2) * 128 + 128; omega
    | ⟨1, _⟩ => show win0_2.index _ (1 : Fin 2) * 11264 ≤ (i 1).val ∧ (i 1).val < win0_2.index _ (1 : Fin 2) * 11264 + 11264; omega

end Cert.Kernel11Ideal.Gate

end
-- ==== Proof.EqualMod33.lean ====
/- The gradient in the conditioning vector before its activation: kernel and reference end with the same array. -/
module

public import proofs.«01_k».proof.Defs
public import proofs.«01_k».proof.Proof.GateKernel
public import proofs.«01_k».proof.Proof.Gen.Kernel33Ideal.Frame
public import proofs.«01_k».proof.Proof.Gen.Reference33Ideal.Run
public import proofs.«01_k».proof.Proof.Gen.Reference33Ideal.Read
public import Idealize.ShloMosaic.Lib.Pipeline.ValueKit.Geometry
public import Idealize.ShloMosaic.Lib.Pipeline.ValueKit.Tiles

@[expose] public section

noncomputable section

namespace Cert.Kernel33Ideal.Mod

open Cert.Kernel33Ideal Cert.Kernel33Ideal.Gen Cert.Gate Cert.Kernel11Ideal.Gate
open Idealize.ShloMosaic Idealize.ShloMosaic.TcCoe Idealize.SL.Sem

/-- At every extended real the kernel's hyperbolic tangent is `2 s - 1` and the host's quotient is `s`, of one real `s`. -/
theorem both_logistic (x : EReal) : ∃ s : ℝ, Ideal.tanh (((1 / 2 : ℝ) : EReal) * x) = ((2 * s - 1 : ℝ) : EReal)
    ∧ Ideal.div ((1 : ℝ) : EReal) (((1 : ℝ) : EReal) + Ideal.exp (-x)) = (s : EReal) := by
  induction x using EReal.rec with
  | bot =>
    refine ⟨0, ?_, ?_⟩
    · rw [EReal.coe_mul_bot_of_pos (by norm_num), Ideal.tanh_bot]; norm_num
    · rw [EReal.neg_bot, Ideal.exp_top, EReal.coe_add_top]; simp [Ideal.div]
  | coe g =>
    refine ⟨logistic g, ?_, ?_⟩
    · rw [← EReal.coe_mul, Ideal.tanh_coe, ← logistic_tanh]
      exact congrArg Real.toEReal (by ring)
    · have h : (1 + Real.exp (-g) : ℝ) ≠ 0 := by positivity
      rw [← EReal.coe_neg, Ideal.exp_coe, ← EReal.coe_add, Ideal.div_coe h, ← EReal.coe_mul, one_mul]
      rfl
  | top =>
    refine ⟨1, ?_, ?_⟩
    · rw [EReal.coe_mul_top_of_pos (by norm_num), Ideal.tanh_top]; norm_num
    · rw [EReal.neg_top, Ideal.exp_bot, add_zero, Ideal.div_coe one_ne_zero]; norm_num

/-- The gradient in an entry `x` of a cotangent `d`, of the logistic function's host form. -/
def gradSilu (x d : EReal) : EReal :=
  d * Ideal.div ((1 : ℝ) : EReal) (((1 : ℝ) : EReal) + Ideal.exp (-x))
    + (x * d) * (Ideal.div ((1 : ℝ) : EReal) (((1 : ℝ) : EReal) + Ideal.exp (-x)) * (((1 : ℝ) : EReal) - Ideal.div ((1 : ℝ) : EReal) (((1 : ℝ) : EReal) + Ideal.exp (-x))))

/-- The kernel's form of it. -/
theorem gradSilu_eq (x d : EReal) :
    d * (((1 / 2 : ℝ) : EReal) * Ideal.tanh (((1 / 2 : ℝ) : EReal) * x) + ((1 / 2 : ℝ) : EReal))
      + ((1 / 2 : ℝ) : EReal) * ((((1 / 2 : ℝ) : EReal) * (x * d)) * ((((1 : ℝ) : EReal) + Ideal.tanh (((1 / 2 : ℝ) : EReal) * x)) * (((1 : ℝ) : EReal) - Ideal.tanh (((1 / 2 : ℝ) : EReal) * x)))) = gradSilu x d := by
  obtain ⟨s, ht, hs⟩ := both_logistic x
  unfold gradSilu
  rw [ht, hs]
  generalize x * d = z
  have e : ((1 / 2 : ℝ) : EReal) * ((2 * s - 1 : ℝ) : EReal) + ((1 / 2 : ℝ) : EReal) = (s : EReal) := by
    rw [← EReal.coe_mul, ← EReal.coe_add]; exact congrArg Real.toEReal (by ring)
  rw [e, mul_assoc ((1 / 2 : ℝ) : EReal) z, mul_left_comm _ z, mul_left_comm _ z]
  refine congrArg (fun w => d * (s : EReal) + z * w) ?_
  simp only [← EReal.coe_mul, ← EReal.coe_add, ← EReal.coe_sub]
  exact congrArg Real.toEReal (by ring)

theorem pay1_apply (x d : Vec Ideal S8x2048 .f32) (i : S8x2048.Idx) : k0_pay1 x d i = gradSilu (x i) (d i) := by
  have z : Ideal.ofBits .f32 0x00000000#32 + d i = d i := by simp
  have k : k0_pay1 x d i
      = (Ideal.ofBits .f32 0x00000000#32 + d i) * (Ideal.ofBits .f32 0x3F000000#32 * Ideal.tanh (Ideal.ofBits .f32 0x3F000000#32 * x i) + Ideal.ofBits .f32 0x3F000000#32)
        + Ideal.ofBits .f32 0x3F000000#32 * ((Ideal.ofBits .f32 0x3F000000#32 * (x i * (Ideal.ofBits .f32 0x00000000#32 + d i)))
          * ((Ideal.ofBits .f32 0x3F800000#32 + Ideal.tanh (Ideal.ofBits .f32 0x3F000000#32 * x i)) * (Ideal.ofBits .f32 0x3F800000#32 - Ideal.tanh (Ideal.ofBits .f32 0x3F000000#32 * x i)))) := rfl
  rw [k, z, half, one, gradSilu_eq]

theorem off1 : k0_off1 = fun _ => 0 := by funext a; fin_cases a <;> rfl

/-- What the body leaves of one block. -/
theorem out_eq (x d : Vec Ideal S8x2048 .f32) : out0_2 x d = fun i => gradSilu (x i) (d i) := by
  funext i
  unfold out0_2
  rw [View.canon_unit_zero off1, View.ld_unit_zero (S := S8x2048) off1, View.ld_unit_zero (S := S8x2048) off1]
  exact pay1_apply x d i

variable (m : (ℓ : Loc nD τ sig) → Buf (Elt Ideal) ℓ) (ρ : Dev nD → PrngReg)

theorem final (c : Dev nD) : (dats m 0 c).arrAt 2 cfg0.N = fun i => gradSilu (m (c.tc.loc main_arg0) i) (m (c.tc.loc main_arg1) i) :=
  (dats m 0 c).arrAt_eq_of_covers 2 _ (by decide +kernel) fun t _ y => by
    rw [after0_2, out_eq]
    rfl

/-- The run: the result is the gradient, and the arguments are kept. -/
theorem run : θ_run defs (onTc (τ := τ) (main (F := Ideal))) ⟨m, fun _ => 0, ρ⟩ fun r => ∀ c : Dev nD,
      r.2.mem ((c : Thread nD τ).loc main_v0) = (fun i => gradSilu (m (c.tc.loc main_arg0) i) (m (c.tc.loc main_arg1) i))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨((h c).1 2).trans (final m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.Kernel33Ideal.Mod

namespace Cert.Reference33Ideal.Mod

open Cert.Kernel33Ideal.Mod Cert.Kernel11Ideal.Gate Cert.Reference33Ideal Cert.Reference33Ideal.Gen Cert.Reference33Ideal.Read
open Idealize.ShloMosaic Idealize.ShloMosaic.TcCoe Idealize.SL.Sem

theorem frame : @Cert.quiescent_Reference33Ideal Cert.Reference33Ideal.Gen.facts := fun m ρ _ =>
  (θ_run _ _ _).mono (fun r h => ⟨fun c => (h c).2, sem_eq_zero_of_no_sems (by decide) r.2⟩) (Cert.Reference33Ideal.Value.run m ρ)

theorem value (x d : S8x2048.Idx → EReal) : val_main_v1 (F := Ideal) x d = fun i => gradSilu (x i) (d i) := by
  funext i
  unfold gradSilu
  rw [← one, val_main_v1_apply, val_main_call1_v1_apply, val_main_call1_v2_apply, val_main_call1_v0_apply, val_main_v0_1_apply, val_main_call0_v7_apply, val_main_v0_2_apply,
    val_main_call0_v6_apply, val_main_call0_v4_apply, val_main_call0_v3_apply, val_main_call0_v2_apply, val_main_call0_v1_apply, val_main_call0_v0_apply]
  rfl

/-- Kernel and reference end with equal arrays. -/
theorem algebraic : @Cert.algebraic_Kernel33Ideal_Reference33Ideal Cert.Kernel33Ideal.Gen.facts Cert.Reference33Ideal.Gen.facts := fun m ρ m' ρ' _ hag => by
  refine ⟨_, Cert.Kernel33Ideal.Mod.run m ρ, ?_⟩
  refine (θ_run _ _ _).mono (fun _ h c => ⟨((h c).1.trans (val_main_v1_eq _ _)).trans ?_, (h c).2⟩) (Cert.Reference33Ideal.Value.run m' ρ')
  rw [(hag c).1, (hag c).2]
  exact value _ _

end Cert.Reference33Ideal.Mod

end
-- ==== Proof.EqualGate.lean ====
/- The gradient of the SwiGLU activation: the reference's array is the kernel's, and with it the claims about the pair. -/
module

public import proofs.«01_k».proof.Defs
public import proofs.«01_k».proof.Pre_finite_gate
public import proofs.«01_k».proof.Proof.GateKernel
public import proofs.«01_k».proof.Proof.Gen.Reference11Ideal.Run
public import proofs.«01_k».proof.Proof.Gen.Reference11Ideal.Read
public import Idealize.ShloMosaic.Lib.ReduceAll

@[expose] public section

noncomputable section

namespace Cert.Pre_finite_gate

open Idealize.ShloMosaic Cert.Gate

theorem facts : Cert.Pre_finite_gate.Facts := by
  constructor <;> decide

theorem top : Ideal.ofBits .f32 0x7F800000#32 = ⊤ := by
  simp [Ideal.ofBits, Ideal.ieee]

/-- An array whose entries all compare below infinity in absolute value is real. -/
theorem real_array {s : Shape} {axes : List (Fin s.rank)} (x : FVec Ideal s .bf16) (hl : FTy.bits .bf16 < FTy.bits .f32) (hb : S_.BroadcastsInDim s (![] : Fin 0 → Fin s.rank)) (h : s.ReducesTo axes S_) (hu : 0 < S_.numel) (j : S_.Idx)
    (e : Host.reduce IntOp.andi (cmpf .olt (Host.absf (extf .f32 x hl)) (broadcastInDim s ![] hb (constant S_ .f32 0x7F800000#32))) (constantI S_ 1 1#1) h hu j = 1#1) : AllReal x := fun i => by
  haveI : Subsingleton S_.Idx := ⟨fun a b => funext fun i => i.elim0⟩
  have h1 := Host.reduce_andi_all _ _ h hu j e i
  change BitVec.ofBool (decide (max (x i) (-(x i)) < Ideal.ofBits .f32 0x7F800000#32)) = 1#1 at h1
  rw [top] at h1
  have h2 : max (x i) (-(x i)) < ⊤ := by
    by_contra hn
    rw [decide_eq_false hn] at h1
    exact absurd h1 (by decide)
  refine (EReal.coe_toReal (fun e => ?_) fun e => ?_).symm
  · rw [e] at h2; exact absurd h2 (by simp)
  · rw [e] at h2; exact absurd h2 (by simp)

section
attribute [local instance] facts
open Facts

theorem holds (x0 : FVec Ideal S8192x11264 .bf16) (x1 : FVec Ideal S8192x5632 .bf16) (h : fn (F := Ideal) x0 x1 = fun _ => 1#1) : AllReal x0 ∧ AllReal x1 := by
  have h' := congrFun h (Shape.Idx.first h_S_)
  unfold fn at h'
  dsimp only at h'
  change IntOp.andi _ _ = 1#1 at h'
  rw [IntOp.andi_eq_one] at h'
  exact ⟨real_array _ _ _ _ _ _ h'.1, real_array _ _ _ _ _ _ h'.2⟩

end

end Cert.Pre_finite_gate

namespace Cert.Reference11Ideal.Gate

open Cert.Reference11Ideal Cert.Reference11Ideal.Gen Cert.Reference11Ideal.Read Cert.Contract Cert.Gate
open Idealize.ShloMosaic Idealize.ShloMosaic.TcCoe Idealize.ShloMosaic.ValueIdx Idealize.SL.Sem

variable (A : FVec Ideal S8192x11264 .bf16) (D : FVec Ideal S8192x5632 .bf16)

theorem one : Ideal.ofBits .bf16 0x3F80#16 = ((1 : ℝ) : EReal) := by
  simp [Ideal.ofBits, Ideal.ieee]
  exact_mod_cast (by norm_num : (128 : ℝ) * (2 ^ 7)⁻¹ = 1)

/-- The host's logistic function. -/
theorem host_logistic (g : ℝ) : Ideal.div (Ideal.ofBits .bf16 0x3F80#16) (Ideal.ofBits .bf16 0x3F80#16 + Ideal.exp (-(g : EReal))) = ((logistic g : ℝ) : EReal) := by
  have : (1 + Real.exp (-g) : ℝ) ≠ 0 := by positivity
  rw [one, ← EReal.coe_neg, Ideal.exp_coe, ← EReal.coe_add, Ideal.div_coe this, ← EReal.coe_mul, one_mul]
  rfl

variable {A D}

/-- The gate of an entry of the left half. -/
theorem gate_apply (r : Fin 8192) (s : Fin 5632) : val_main_v0 (F := Ideal) A (ix2 r s) = nat2 (a := 8192) (b := 11264) A r.val s.val := by
  rw [val_main_v0_apply]
  exact eq_nat2 _ _ _ _ rfl rfl

theorem up_apply (r : Fin 8192) (s : Fin 5632) : val_main_v1 (F := Ideal) A (ix2 r s) = nat2 (a := 8192) (b := 11264) A r.val (s.val + 5632) := by
  rw [val_main_v1_apply]
  refine eq_nat2 _ _ _ _ rfl ?_
  exact Nat.add_comm _ _

theorem logistic_apply (i : S8192x5632.Idx) (g : ℝ) (h : val_main_v0 (F := Ideal) A i = (g : EReal)) : val_main_v2_2 (F := Ideal) A i = ((logistic g : ℝ) : EReal) := by
  rw [← host_logistic, ← h]
  rw [val_main_v2_2_apply, val_main_call0_v3_apply, val_main_call0_v4_apply, val_main_call0_v2_apply, val_main_call0_v1_apply, val_main_call0_v0_apply]
  rfl

theorem left_apply (i : S8192x5632.Idx) (g u d : ℝ) (hg : val_main_v0 (F := Ideal) A i = (g : EReal)) (hu : val_main_v1 (F := Ideal) A i = (u : EReal)) (hd : D i = (d : EReal)) :
    val_main_v6 (F := Ideal) A D i = ((dGate g u d : ℝ) : EReal) := by
  have e6 : val_main_call0_v6 (F := Ideal) i = ((1 : ℝ) : EReal) := by
    rw [val_main_call0_v6_apply]; exact one
  have e : val_main_v6 (F := Ideal) A D i = (D i * val_main_v1 (F := Ideal) A i) * val_main_v2_2 (F := Ideal) A i
      + (val_main_v0 (F := Ideal) A i * (D i * val_main_v1 (F := Ideal) A i)) * (val_main_v2_2 (F := Ideal) A i * (val_main_call0_v6 (F := Ideal) i - val_main_v2_2 (F := Ideal) A i)) := rfl
  rw [e, e6, logistic_apply i g hg, hg, hu, hd]
  simp only [← EReal.coe_mul, ← EReal.coe_add, ← EReal.coe_sub]
  refine congrArg Real.toEReal ?_
  unfold dGate
  ring

theorem right_apply (i : S8192x5632.Idx) (g d : ℝ) (hg : val_main_v0 (F := Ideal) A i = (g : EReal)) (hd : D i = (d : EReal)) :
    val_main_v4 (F := Ideal) A D i = ((dUp g d : ℝ) : EReal) := by
  have e : val_main_v4 (F := Ideal) A D i = (val_main_v0 (F := Ideal) A i * val_main_v2_2 (F := Ideal) A i) * D i := rfl
  rw [e, logistic_apply i g hg, hg, hd]
  simp only [← EReal.coe_mul]
  refine congrArg Real.toEReal ?_
  unfold dUp
  ring

/-- The reference's array is the gradient, entry by entry. -/
theorem eq_grad (hA : AllReal A) (hD : AllReal D) : val_main_v7 (F := Ideal) A D = Cert.Kernel11Ideal.Gate.grad A D := by
  have rA : ∀ i j, nat2 (a := 8192) (b := 11264) A i j = (((nat2 (a := 8192) (b := 11264) A i j).toReal : ℝ) : EReal) := fun i j => by
    unfold nat2; split
    · exact hA _
    · simp
  funext i
  obtain ⟨r, s, rfl⟩ : ∃ (r : Fin 8192) (s : Fin 11264), i = ix2 r s := ⟨_, _, eq_ix2 i⟩
  show val_main_v7 (F := Ideal) A D (ix2 r s) = entry (nat2 (a := 8192) (b := 11264) A) (nat2 (a := 8192) (b := 5632) D) r.val s.val
  unfold val_main_v7
  by_cases h : s.val < 5632
  · refine (concatenate_pair_apply_left (t := S8192x11264) (s₁ := S8192x5632) (s₂ := S8192x5632) 1 _ _ _ (ix2 r s) rfl (ix2 r ⟨s.val, h⟩) fun b => by fin_cases b <;> rfl).trans ?_
    · rw [entry_low _ _ _ _ h]
      refine left_apply (ix2 r ⟨s.val, h⟩) _ _ _ ((gate_apply r ⟨s.val, h⟩).trans (rA _ _)) ((up_apply r ⟨s.val, h⟩).trans (rA _ _)) ?_
      rw [show nat2 (a := 8192) (b := 5632) D r.val s.val = D (ix2 r ⟨s.val, h⟩) from nat2_val (a := 8192) (b := 5632) D r ⟨s.val, h⟩]
      exact hD _
  · obtain ⟨q, hq⟩ : ∃ q : Fin 5632, s.val = q.val + 5632 := ⟨⟨s.val - 5632, by have := s.isLt; omega⟩, by show _ = s.val - 5632 + 5632; omega⟩
    refine (concatenate_pair_apply_right (t := S8192x11264) (s₁ := S8192x5632) (s₂ := S8192x5632) 1 _ _ _ (ix2 r s) rfl rfl (ix2 r q) (fun b hb => ?_) hq.symm).trans ?_
    · fin_cases b
      · rfl
      · exact absurd rfl hb
    · rw [hq, entry_high]
      refine right_apply (ix2 r q) _ _ ((gate_apply r q).trans (rA _ _)) ?_
      rw [show nat2 (a := 8192) (b := 5632) D r.val q.val = D (ix2 r q) from nat2_val (a := 8192) (b := 5632) D r q]
      exact hD _

theorem frame : @Cert.quiescent_Reference11Ideal Cert.Reference11Ideal.Gen.facts := fun m ρ _ =>
  (θ_run _ _ _).mono (fun r h => ⟨fun c => (h c).2, sem_eq_zero_of_no_sems (by decide) r.2⟩) (Cert.Reference11Ideal.Value.run m ρ)

/-- Kernel and reference end with equal arrays. -/
theorem algebraic : @Cert.algebraic_Kernel11Ideal_Reference11Ideal_pre_finite_gate Cert.Kernel11Ideal.Gen.facts Cert.Reference11Ideal.Gen.facts Cert.Pre_finite_gate.facts := fun m ρ m' ρ' hp hag => by
  have H := fun c => Cert.Pre_finite_gate.holds _ _ (hp c)
  refine ⟨fun c => Cert.Kernel11Ideal.Gate.grad (m (c.tc.loc Cert.Kernel11Ideal.main_arg0)) (m (c.tc.loc Cert.Kernel11Ideal.main_arg1)), ?_, ?_⟩
  · exact (θ_run _ _ _).mono (fun _ h c => ⟨(h c).1.trans (Cert.Kernel11Ideal.Gate.final m (H c).1 (H c).2), (h c).2⟩) (Cert.Kernel11Ideal.Value.run_blocks m ρ)
  · refine (θ_run _ _ _).mono (fun _ h c => ⟨((h c).1.trans (val_main_v7_eq _ _)).trans ?_, (h c).2⟩) (Cert.Reference11Ideal.Value.run m' ρ')
    rw [(hag c).1, (hag c).2]
    exact eq_grad (H c).1 (H c).2

end Cert.Reference11Ideal.Gate

end
-- ==== Proof.lean ====
/- The certificate: each claim is the theorem of the module that proves it. -/
module

public import proofs.«01_k».proof.Defs
public import proofs.«01_k».proof.Proof.EqualKernel
public import proofs.«01_k».proof.Proof.EqualKernel2
public import proofs.«01_k».proof.Proof.Gen.Kernel2.Frame
public import proofs.«01_k».proof.Proof.Gen.Kernel2Ideal.Frame
public import proofs.«01_k».proof.Proof.EqualKernel3
public import proofs.«01_k».proof.Proof.Gen.Kernel3.Frame
public import proofs.«01_k».proof.Proof.Gen.Kernel3Ideal.Frame
public import proofs.«01_k».proof.Proof.EqualKernel4
public import proofs.«01_k».proof.Proof.Gen.Kernel4.Frame
public import proofs.«01_k».proof.Proof.Gen.Kernel4Ideal.Frame
public import proofs.«01_k».proof.Proof.EqualKernel5
public import proofs.«01_k».proof.Proof.Gen.Kernel5.Frame
public import proofs.«01_k».proof.Proof.Gen.Kernel5Ideal.Frame
public import proofs.«01_k».proof.Proof.EqualKernel6
public import proofs.«01_k».proof.Proof.Gen.Kernel6.Frame
public import proofs.«01_k».proof.Proof.Gen.Kernel6Ideal.Frame
public import proofs.«01_k».proof.Proof.EqualKernel7
public import proofs.«01_k».proof.Proof.Gen.Kernel7.Frame
public import proofs.«01_k».proof.Proof.Gen.Kernel7Ideal.Frame
public import proofs.«01_k».proof.Proof.EqualKernel8
public import proofs.«01_k».proof.Proof.Gen.Kernel8.Frame
public import proofs.«01_k».proof.Proof.Gen.Kernel8Ideal.Frame
public import proofs.«01_k».proof.Proof.EqualKernel9
public import proofs.«01_k».proof.Proof.Gen.Kernel9.Frame
public import proofs.«01_k».proof.Proof.Gen.Kernel9Ideal.Frame
public import proofs.«01_k».proof.Proof.EqualKernel10
public import proofs.«01_k».proof.Proof.Gen.Kernel10.Frame
public import proofs.«01_k».proof.Proof.Gen.Kernel10Ideal.Frame
public import proofs.«01_k».proof.Proof.EqualKernel12
public import proofs.«01_k».proof.Proof.EqualKernel13
public import proofs.«01_k».proof.Proof.EqualKernel14
public import proofs.«01_k».proof.Proof.EqualKernel15
public import proofs.«01_k».proof.Proof.EqualKernel16
public import proofs.«01_k».proof.Proof.EqualNorm
public import proofs.«01_k».proof.Proof.EqualAdam18
public import proofs.«01_k».proof.Proof.EqualAdam19
public import proofs.«01_k».proof.Proof.EqualAdam20
public import proofs.«01_k».proof.Proof.EqualAdam21
public import proofs.«01_k».proof.Proof.EqualAdam22
public import proofs.«01_k».proof.Proof.EqualAdam23
public import proofs.«01_k».proof.Proof.EqualAdam24
public import proofs.«01_k».proof.Proof.EqualSum25
public import proofs.«01_k».proof.Proof.EqualSum26
public import proofs.«01_k».proof.Proof.EqualSum27
public import proofs.«01_k».proof.Proof.EqualSum28
public import proofs.«01_k».proof.Proof.EqualSum29
public import proofs.«01_k».proof.Proof.EqualSum30
public import proofs.«01_k».proof.Proof.EqualSum31
public import proofs.«01_k».proof.Proof.EqualMod32
public import proofs.«01_k».proof.Proof.EqualMod33
public import proofs.«01_k».proof.Proof.EqualGate
public import proofs.«01_k».proof.Proof.Gen.Kernel12.Frame
public import proofs.«01_k».proof.Proof.Gen.Kernel12Ideal.Frame
public import proofs.«01_k».proof.Proof.Gen.Kernel13.Frame
public import proofs.«01_k».proof.Proof.Gen.Kernel13Ideal.Frame
public import proofs.«01_k».proof.Proof.Gen.Kernel14.Frame
public import proofs.«01_k».proof.Proof.Gen.Kernel14Ideal.Frame
public import proofs.«01_k».proof.Proof.Gen.Kernel15.Frame
public import proofs.«01_k».proof.Proof.Gen.Kernel15Ideal.Frame
public import proofs.«01_k».proof.Proof.Gen.Kernel16.Frame
public import proofs.«01_k».proof.Proof.Gen.Kernel16Ideal.Frame
public import proofs.«01_k».proof.Proof.Gen.Kernel17.Frame
public import proofs.«01_k».proof.Proof.Gen.Kernel17Ideal.Frame
public import proofs.«01_k».proof.Proof.Gen.Kernel18.Frame
public import proofs.«01_k».proof.Proof.Gen.Kernel18Ideal.Frame
public import proofs.«01_k».proof.Proof.Gen.Kernel19.Frame
public import proofs.«01_k».proof.Proof.Gen.Kernel19Ideal.Frame
public import proofs.«01_k».proof.Proof.Gen.Kernel20.Frame
public import proofs.«01_k».proof.Proof.Gen.Kernel20Ideal.Frame
public import proofs.«01_k».proof.Proof.Gen.Kernel21.Frame
public import proofs.«01_k».proof.Proof.Gen.Kernel21Ideal.Frame
public import proofs.«01_k».proof.Proof.Gen.Kernel22.Frame
public import proofs.«01_k».proof.Proof.Gen.Kernel22Ideal.Frame
public import proofs.«01_k».proof.Proof.Gen.Kernel23.Frame
public import proofs.«01_k».proof.Proof.Gen.Kernel23Ideal.Frame
public import proofs.«01_k».proof.Proof.Gen.Kernel24.Frame
public import proofs.«01_k».proof.Proof.Gen.Kernel24Ideal.Frame
public import proofs.«01_k».proof.Proof.Gen.Kernel25.Frame
public import proofs.«01_k».proof.Proof.Gen.Kernel25Ideal.Frame
public import proofs.«01_k».proof.Proof.Gen.Kernel26.Frame
public import proofs.«01_k».proof.Proof.Gen.Kernel26Ideal.Frame
public import proofs.«01_k».proof.Proof.Gen.Kernel27.Frame
public import proofs.«01_k».proof.Proof.Gen.Kernel27Ideal.Frame
public import proofs.«01_k».proof.Proof.Gen.Kernel28.Frame
public import proofs.«01_k».proof.Proof.Gen.Kernel28Ideal.Frame
public import proofs.«01_k».proof.Proof.Gen.Kernel29.Frame
public import proofs.«01_k».proof.Proof.Gen.Kernel29Ideal.Frame
public import proofs.«01_k».proof.Proof.Gen.Kernel30.Frame
public import proofs.«01_k».proof.Proof.Gen.Kernel30Ideal.Frame
public import proofs.«01_k».proof.Proof.Gen.Kernel31.Frame
public import proofs.«01_k».proof.Proof.Gen.Kernel31Ideal.Frame
public import proofs.«01_k».proof.Proof.Gen.Kernel32.Frame
public import proofs.«01_k».proof.Proof.Gen.Kernel32Ideal.Frame
public import proofs.«01_k».proof.Proof.Gen.Kernel33.Frame
public import proofs.«01_k».proof.Proof.Gen.Kernel33Ideal.Frame
public import proofs.«01_k».proof.Proof.Gen.Kernel11.Frame
public import proofs.«01_k».proof.Proof.Gen.Kernel11Ideal.Frame
public import proofs.«01_k».proof.Proof.Gen.Kernel.Frame
public import proofs.«01_k».proof.Proof.Gen.KernelIdeal.Frame
public import Idealize.ShloMosaic.Adequacy
public import Idealize.ShloMosaic.Init

@[expose] public section

noncomputable section

namespace Cert.Proof

open Idealize.ShloMosaic Idealize.SL.Sem

theorem claim : Cert.Claim :=
  ⟨Cert.Kernel.Gen.facts,
    Cert.KernelIdeal.Gen.facts,
    Cert.ReferenceIdeal.Gen.facts,
    Cert.Kernel2.Gen.facts,
    Cert.Kernel2Ideal.Gen.facts,
    Cert.Reference2Ideal.Gen.facts,
    Cert.Kernel3.Gen.facts,
    Cert.Kernel3Ideal.Gen.facts,
    Cert.Reference3Ideal.Gen.facts,
    Cert.Kernel4.Gen.facts,
    Cert.Kernel4Ideal.Gen.facts,
    Cert.Reference4Ideal.Gen.facts,
    Cert.Kernel5.Gen.facts,
    Cert.Kernel5Ideal.Gen.facts,
    Cert.Reference5Ideal.Gen.facts,
    Cert.Kernel6.Gen.facts,
    Cert.Kernel6Ideal.Gen.facts,
    Cert.Reference6Ideal.Gen.facts,
    Cert.Kernel7.Gen.facts,
    Cert.Kernel7Ideal.Gen.facts,
    Cert.Reference7Ideal.Gen.facts,
    Cert.Kernel8.Gen.facts,
    Cert.Kernel8Ideal.Gen.facts,
    Cert.Reference8Ideal.Gen.facts,
    Cert.Kernel9.Gen.facts,
    Cert.Kernel9Ideal.Gen.facts,
    Cert.Reference9Ideal.Gen.facts,
    Cert.Kernel10.Gen.facts,
    Cert.Kernel10Ideal.Gen.facts,
    Cert.Reference10Ideal.Gen.facts,
    Cert.Kernel11.Gen.facts,
    Cert.Kernel11Ideal.Gen.facts,
    Cert.Reference11Ideal.Gen.facts,
    Cert.Kernel12.Gen.facts,
    Cert.Kernel12Ideal.Gen.facts,
    Cert.Reference12Ideal.Gen.facts,
    Cert.Kernel13.Gen.facts,
    Cert.Kernel13Ideal.Gen.facts,
    Cert.Reference13Ideal.Gen.facts,
    Cert.Kernel14.Gen.facts,
    Cert.Kernel14Ideal.Gen.facts,
    Cert.Reference14Ideal.Gen.facts,
    Cert.Kernel15.Gen.facts,
    Cert.Kernel15Ideal.Gen.facts,
    Cert.Reference15Ideal.Gen.facts,
    Cert.Kernel16.Gen.facts,
    Cert.Kernel16Ideal.Gen.facts,
    Cert.Reference16Ideal.Gen.facts,
    Cert.Kernel17.Gen.facts,
    Cert.Kernel17Ideal.Gen.facts,
    Cert.Reference17Ideal.Gen.facts,
    Cert.Kernel18.Gen.facts,
    Cert.Kernel18Ideal.Gen.facts,
    Cert.Reference18Ideal.Gen.facts,
    Cert.Kernel19.Gen.facts,
    Cert.Kernel19Ideal.Gen.facts,
    Cert.Reference19Ideal.Gen.facts,
    Cert.Kernel20.Gen.facts,
    Cert.Kernel20Ideal.Gen.facts,
    Cert.Reference20Ideal.Gen.facts,
    Cert.Kernel21.Gen.facts,
    Cert.Kernel21Ideal.Gen.facts,
    Cert.Reference21Ideal.Gen.facts,
    Cert.Kernel22.Gen.facts,
    Cert.Kernel22Ideal.Gen.facts,
    Cert.Reference22Ideal.Gen.facts,
    Cert.Kernel23.Gen.facts,
    Cert.Kernel23Ideal.Gen.facts,
    Cert.Reference23Ideal.Gen.facts,
    Cert.Kernel24.Gen.facts,
    Cert.Kernel24Ideal.Gen.facts,
    Cert.Reference24Ideal.Gen.facts,
    Cert.Kernel25.Gen.facts,
    Cert.Kernel25Ideal.Gen.facts,
    Cert.Reference25Ideal.Gen.facts,
    Cert.Kernel26.Gen.facts,
    Cert.Kernel26Ideal.Gen.facts,
    Cert.Reference26Ideal.Gen.facts,
    Cert.Kernel27.Gen.facts,
    Cert.Kernel27Ideal.Gen.facts,
    Cert.Reference27Ideal.Gen.facts,
    Cert.Kernel28.Gen.facts,
    Cert.Kernel28Ideal.Gen.facts,
    Cert.Reference28Ideal.Gen.facts,
    Cert.Kernel29.Gen.facts,
    Cert.Kernel29Ideal.Gen.facts,
    Cert.Reference29Ideal.Gen.facts,
    Cert.Kernel30.Gen.facts,
    Cert.Kernel30Ideal.Gen.facts,
    Cert.Reference30Ideal.Gen.facts,
    Cert.Kernel31.Gen.facts,
    Cert.Kernel31Ideal.Gen.facts,
    Cert.Reference31Ideal.Gen.facts,
    Cert.Kernel32.Gen.facts,
    Cert.Kernel32Ideal.Gen.facts,
    Cert.Reference32Ideal.Gen.facts,
    Cert.Kernel33.Gen.facts,
    Cert.Kernel33Ideal.Gen.facts,
    Cert.Reference33Ideal.Gen.facts,
    Cert.Pre_finite.facts,
    Cert.Pre_finite_gate.facts,
    fun m ρ _ => Cert.Kernel.Gen.frame m ρ,
    fun m ρ _ => Cert.KernelIdeal.Gen.frame m ρ,
    fun m ρ _ => Cert.KernelIdeal.Gen.frame m ρ,
    Cert.ReferenceIdeal.Scan.frame,
    fun m ρ _ => Cert.ReferenceIdeal.Scan.frame m ρ trivial,
    fun m ρ _ => Cert.Kernel2.Gen.frame m ρ,
    fun m ρ _ => Cert.Kernel2Ideal.Gen.frame m ρ,
    Cert.Reference2Ideal.Product.frame,
    fun m ρ _ => Cert.Kernel3.Gen.frame m ρ,
    fun m ρ _ => Cert.Kernel3Ideal.Gen.frame m ρ,
    Cert.Reference3Ideal.Product.frame,
    fun m ρ _ => Cert.Kernel4.Gen.frame m ρ,
    fun m ρ _ => Cert.Kernel4Ideal.Gen.frame m ρ,
    Cert.Reference4Ideal.Product.frame,
    fun m ρ _ => Cert.Kernel5.Gen.frame m ρ,
    fun m ρ _ => Cert.Kernel5Ideal.Gen.frame m ρ,
    Cert.Reference5Ideal.Product.frame,
    fun m ρ _ => Cert.Kernel6.Gen.frame m ρ,
    fun m ρ _ => Cert.Kernel6Ideal.Gen.frame m ρ,
    Cert.Reference6Ideal.Product.frame,
    fun m ρ _ => Cert.Kernel7.Gen.frame m ρ,
    fun m ρ _ => Cert.Kernel7Ideal.Gen.frame m ρ,
    Cert.Reference7Ideal.Product.frame,
    fun m ρ _ => Cert.Kernel8.Gen.frame m ρ,
    fun m ρ _ => Cert.Kernel8Ideal.Gen.frame m ρ,
    Cert.Reference8Ideal.Product.frame,
    fun m ρ _ => Cert.Kernel9.Gen.frame m ρ,
    fun m ρ _ => Cert.Kernel9Ideal.Gen.frame m ρ,
    Cert.Reference9Ideal.Product.frame,
    fun m ρ _ => Cert.Kernel10.Gen.frame m ρ,
    fun m ρ _ => Cert.Kernel10Ideal.Gen.frame m ρ,
    Cert.Reference10Ideal.Product.frame,
    fun m ρ _ => Cert.Kernel11.Gen.frame m ρ,
    fun m ρ _ => Cert.Kernel11Ideal.Gen.frame m ρ,
    fun m ρ _ => Cert.Kernel11Ideal.Gen.frame m ρ,
    Cert.Reference11Ideal.Gate.frame,
    fun m ρ _ => Cert.Reference11Ideal.Gate.frame m ρ trivial,
    fun m ρ _ => Cert.Kernel12.Gen.frame m ρ,
    fun m ρ _ => Cert.Kernel12Ideal.Gen.frame m ρ,
    Cert.Reference12Ideal.Product.frame,
    fun m ρ _ => Cert.Kernel13.Gen.frame m ρ,
    fun m ρ _ => Cert.Kernel13Ideal.Gen.frame m ρ,
    Cert.Reference13Ideal.Product.frame,
    fun m ρ _ => Cert.Kernel14.Gen.frame m ρ,
    fun m ρ _ => Cert.Kernel14Ideal.Gen.frame m ρ,
    Cert.Reference14Ideal.Product.frame,
    fun m ρ _ => Cert.Kernel15.Gen.frame m ρ,
    fun m ρ _ => Cert.Kernel15Ideal.Gen.frame m ρ,
    Cert.Reference15Ideal.Product.frame,
    fun m ρ _ => Cert.Kernel16.Gen.frame m ρ,
    fun m ρ _ => Cert.Kernel16Ideal.Gen.frame m ρ,
    Cert.Reference16Ideal.Product.frame,
    fun m ρ _ => Cert.Kernel17.Gen.frame m ρ,
    fun m ρ _ => Cert.Kernel17Ideal.Gen.frame m ρ,
    Cert.Reference17Ideal.Norm.frame,
    fun m ρ _ => Cert.Kernel18.Gen.frame m ρ,
    fun m ρ _ => Cert.Kernel18Ideal.Gen.frame m ρ,
    Cert.Reference18Ideal.Adam.frame,
    fun m ρ _ => Cert.Kernel19.Gen.frame m ρ,
    fun m ρ _ => Cert.Kernel19Ideal.Gen.frame m ρ,
    Cert.Reference19Ideal.Adam.frame,
    fun m ρ _ => Cert.Kernel20.Gen.frame m ρ,
    fun m ρ _ => Cert.Kernel20Ideal.Gen.frame m ρ,
    Cert.Reference20Ideal.Adam.frame,
    fun m ρ _ => Cert.Kernel21.Gen.frame m ρ,
    fun m ρ _ => Cert.Kernel21Ideal.Gen.frame m ρ,
    Cert.Reference21Ideal.Adam.frame,
    fun m ρ _ => Cert.Kernel22.Gen.frame m ρ,
    fun m ρ _ => Cert.Kernel22Ideal.Gen.frame m ρ,
    Cert.Reference22Ideal.Adam.frame,
    fun m ρ _ => Cert.Kernel23.Gen.frame m ρ,
    fun m ρ _ => Cert.Kernel23Ideal.Gen.frame m ρ,
    Cert.Reference23Ideal.Adam.frame,
    fun m ρ _ => Cert.Kernel24.Gen.frame m ρ,
    fun m ρ _ => Cert.Kernel24Ideal.Gen.frame m ρ,
    Cert.Reference24Ideal.Adam.frame,
    fun m ρ _ => Cert.Kernel25.Gen.frame m ρ,
    fun m ρ _ => Cert.Kernel25Ideal.Gen.frame m ρ,
    Cert.Reference25Ideal.Sum.frame,
    fun m ρ _ => Cert.Kernel26.Gen.frame m ρ,
    fun m ρ _ => Cert.Kernel26Ideal.Gen.frame m ρ,
    Cert.Reference26Ideal.Sum.frame,
    fun m ρ _ => Cert.Kernel27.Gen.frame m ρ,
    fun m ρ _ => Cert.Kernel27Ideal.Gen.frame m ρ,
    Cert.Reference27Ideal.Sum.frame,
    fun m ρ _ => Cert.Kernel28.Gen.frame m ρ,
    fun m ρ _ => Cert.Kernel28Ideal.Gen.frame m ρ,
    Cert.Reference28Ideal.Sum.frame,
    fun m ρ _ => Cert.Kernel29.Gen.frame m ρ,
    fun m ρ _ => Cert.Kernel29Ideal.Gen.frame m ρ,
    Cert.Reference29Ideal.Sum.frame,
    fun m ρ _ => Cert.Kernel30.Gen.frame m ρ,
    fun m ρ _ => Cert.Kernel30Ideal.Gen.frame m ρ,
    Cert.Reference30Ideal.Sum.frame,
    fun m ρ _ => Cert.Kernel31.Gen.frame m ρ,
    fun m ρ _ => Cert.Kernel31Ideal.Gen.frame m ρ,
    Cert.Reference31Ideal.Sum.frame,
    fun m ρ _ => Cert.Kernel32.Gen.frame m ρ,
    fun m ρ _ => Cert.Kernel32Ideal.Gen.frame m ρ,
    Cert.Reference32Ideal.Mod.frame,
    fun m ρ _ => Cert.Kernel33.Gen.frame m ρ,
    fun m ρ _ => Cert.Kernel33Ideal.Gen.frame m ρ,
    Cert.Reference33Ideal.Mod.frame,
    Cert.ReferenceIdeal.Scan.preserves,
    Cert.ReferenceIdeal.Scan.algebraic,
    trivial,
    Cert.Reference2Ideal.Product.algebraic,
    trivial,
    Cert.Reference3Ideal.Product.algebraic,
    trivial,
    Cert.Reference4Ideal.Product.algebraic,
    trivial,
    Cert.Reference5Ideal.Product.algebraic,
    trivial,
    Cert.Reference6Ideal.Product.algebraic,
    trivial,
    Cert.Reference7Ideal.Product.algebraic,
    trivial,
    Cert.Reference8Ideal.Product.algebraic,
    trivial,
    Cert.Reference9Ideal.Product.algebraic,
    trivial,
    Cert.Reference10Ideal.Product.algebraic,
    trivial,
    Cert.Reference11Ideal.Gate.algebraic,
    trivial,
    Cert.Reference12Ideal.Product.algebraic,
    trivial,
    Cert.Reference13Ideal.Product.algebraic,
    trivial,
    Cert.Reference14Ideal.Product.algebraic,
    trivial,
    Cert.Reference15Ideal.Product.algebraic,
    trivial,
    Cert.Reference16Ideal.Product.algebraic,
    trivial,
    Cert.Reference17Ideal.Norm.algebraic,
    trivial,
    Cert.Reference18Ideal.Adam.algebraic,
    trivial,
    Cert.Reference19Ideal.Adam.algebraic,
    trivial,
    Cert.Reference20Ideal.Adam.algebraic,
    trivial,
    Cert.Reference21Ideal.Adam.algebraic,
    trivial,
    Cert.Reference22Ideal.Adam.algebraic,
    trivial,
    Cert.Reference23Ideal.Adam.algebraic,
    trivial,
    Cert.Reference24Ideal.Adam.algebraic,
    trivial,
    Cert.Reference25Ideal.Sum.algebraic,
    trivial,
    Cert.Reference26Ideal.Sum.algebraic,
    trivial,
    Cert.Reference27Ideal.Sum.algebraic,
    trivial,
    Cert.Reference28Ideal.Sum.algebraic,
    trivial,
    Cert.Reference29Ideal.Sum.algebraic,
    trivial,
    Cert.Reference30Ideal.Sum.algebraic,
    trivial,
    Cert.Reference31Ideal.Sum.algebraic,
    trivial,
    Cert.Reference32Ideal.Mod.algebraic,
    trivial,
    Cert.Reference33Ideal.Mod.algebraic⟩

end Cert.Proof

end
